-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_inproj [hPre_finite_inproj : Cert.Pre_finite_inproj.Facts] (m : (ℓ : Loc Cert.InProjIdeal.nD Cert.InProjIdeal.τ Cert.InProjIdeal.sig) → Buf (Elt Ideal) ℓ) : Prop :=
  ∀ c : Dev Cert.InProjIdeal.nD,
    (Cert.Pre_finite_inproj.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_finite_inproj [hPre_finite_inproj : Cert.Pre_finite_inproj.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_finite_inproj.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_attnf [hPre_finite_attnf : Cert.Pre_finite_attnf.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_attnf.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_attnf [hPre_finite_attnf : Cert.Pre_finite_attnf.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_attnf.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))) = (fun _ => 1#1)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjIdeal_pre_finite_inproj [hInProjIdeal : Cert.InProjIdeal.Facts] [hPre_finite_inproj : Cert.Pre_finite_inproj.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_inproj m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_InProjRefIdeal_pre_finite_inproj [hInProjRefIdeal : Cert.InProjRefIdeal.Facts] [hPre_finite_inproj : Cert.Pre_finite_inproj.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_finite_inproj m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite_attnf [hAttnFwdIdeal : Cert.AttnFwdIdeal.Facts] [hPre_finite_attnf : Cert.Pre_finite_attnf.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_attnf m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_finite_attnf [hAttnFwdRefIdeal : Cert.AttnFwdRefIdeal.Facts] [hPre_finite_attnf : Cert.Pre_finite_attnf.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_attnf m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def preserves_InProj_InProjIdeal : Prop :=
  True

def algebraic_InProjIdeal_InProjRefIdeal_pre_finite_inproj [hInProjIdeal : Cert.InProjIdeal.Facts] [hInProjRefIdeal : Cert.InProjRefIdeal.Facts] [hPre_finite_inproj : Cert.Pre_finite_inproj.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_finite_inproj m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v9_0)) (v1 : (c : Dev Cert.InProjIdeal.nD) → Buf (Elt Ideal) ((c.tc : Thread Cert.InProjIdeal.nD Cert.InProjIdeal.τ).loc Cert.InProjIdeal.main_v9_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v9_0) = v0 c
          ∧ r.2.mem ((c.tc : Thread Cert.InProjIdeal.nD Cert.InProjIdeal.τ).loc Cert.InProjIdeal.main_v9_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v40) = v0 c
          ∧ r.2.mem ((c.tc : Thread Cert.InProjRefIdeal.nD Cert.InProjRefIdeal.τ).loc Cert.InProjRefIdeal.main_v41) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_Attn_AttnIdeal : Prop :=
  IdealRules.named_const.Statement Cert.AttnIdeal.κ "mask" .f32 0xF149F2CA#32 ⊥

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v94)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v94) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v50) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6_0)) (v1 : (c : Dev Cert.FfnIdeal.nD) → Buf (Elt Ideal) ((c.tc : Thread Cert.FfnIdeal.nD Cert.FfnIdeal.τ).loc Cert.FfnIdeal.main_v6_1)) (v2 : (c : Dev Cert.FfnIdeal.nD) → Buf (Elt Ideal) ((c.tc : Thread Cert.FfnIdeal.nD Cert.FfnIdeal.τ).loc Cert.FfnIdeal.main_v6_2)) (v3 : (c : Dev Cert.FfnIdeal.nD) → Buf (Elt Ideal) ((c.tc : Thread Cert.FfnIdeal.nD Cert.FfnIdeal.τ).loc Cert.FfnIdeal.main_v6_3)) (v4 : (c : Dev Cert.FfnIdeal.nD) → Buf (Elt Ideal) ((c.tc : Thread Cert.FfnIdeal.nD Cert.FfnIdeal.τ).loc Cert.FfnIdeal.main_v6_4)) (v5 : (c : Dev Cert.FfnIdeal.nD) → Buf (Elt Ideal) ((c.tc : Thread Cert.FfnIdeal.nD Cert.FfnIdeal.τ).loc Cert.FfnIdeal.main_v6_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6_0) = v0 c
          ∧ r.2.mem ((c.tc : Thread Cert.FfnIdeal.nD Cert.FfnIdeal.τ).loc Cert.FfnIdeal.main_v6_1) = v1 c
          ∧ r.2.mem ((c.tc : Thread Cert.FfnIdeal.nD Cert.FfnIdeal.τ).loc Cert.FfnIdeal.main_v6_2) = v2 c
          ∧ r.2.mem ((c.tc : Thread Cert.FfnIdeal.nD Cert.FfnIdeal.τ).loc Cert.FfnIdeal.main_v6_3) = v3 c
          ∧ r.2.mem ((c.tc : Thread Cert.FfnIdeal.nD Cert.FfnIdeal.τ).loc Cert.FfnIdeal.main_v6_4) = v4 c
          ∧ r.2.mem ((c.tc : Thread Cert.FfnIdeal.nD Cert.FfnIdeal.τ).loc Cert.FfnIdeal.main_v6_5) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v70) = v0 c
          ∧ r.2.mem ((c.tc : Thread Cert.FfnRefIdeal.nD Cert.FfnRefIdeal.τ).loc Cert.FfnRefIdeal.main_v71) = v1 c
          ∧ r.2.mem ((c.tc : Thread Cert.FfnRefIdeal.nD Cert.FfnRefIdeal.τ).loc Cert.FfnRefIdeal.main_v40) = v2 c
          ∧ r.2.mem ((c.tc : Thread Cert.FfnRefIdeal.nD Cert.FfnRefIdeal.τ).loc Cert.FfnRefIdeal.main_v69) = v3 c
          ∧ r.2.mem ((c.tc : Thread Cert.FfnRefIdeal.nD Cert.FfnRefIdeal.τ).loc Cert.FfnRefIdeal.main_v72) = v4 c
          ∧ r.2.mem ((c.tc : Thread Cert.FfnRefIdeal.nD Cert.FfnRefIdeal.τ).loc Cert.FfnRefIdeal.main_v73) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Merge_MergeIdeal : Prop :=
  True

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)) →
    ∃ (v0 : (c : Dev Cert.MixIdeal.nD) → Buf (Elt Ideal) ((c.tc : Thread Cert.MixIdeal.nD Cert.MixIdeal.τ).loc Cert.MixIdeal.main_v13_0)) (v1 : (c : Dev Cert.MixIdeal.nD) → Buf (Elt Ideal) ((c.tc : Thread Cert.MixIdeal.nD Cert.MixIdeal.τ).loc Cert.MixIdeal.main_v13_1)) (v2 : (c : Dev Cert.MixIdeal.nD) → Buf (Elt Ideal) ((c.tc : Thread Cert.MixIdeal.nD Cert.MixIdeal.τ).loc Cert.MixIdeal.main_v13_2)) (v3 : (c : Dev Cert.MixIdeal.nD) → Buf (Elt Ideal) ((c.tc : Thread Cert.MixIdeal.nD Cert.MixIdeal.τ).loc Cert.MixIdeal.main_v13_3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v13_0) = v0 c
          ∧ r.2.mem ((c.tc : Thread Cert.MixIdeal.nD Cert.MixIdeal.τ).loc Cert.MixIdeal.main_v13_1) = v1 c
          ∧ r.2.mem ((c.tc : Thread Cert.MixIdeal.nD Cert.MixIdeal.τ).loc Cert.MixIdeal.main_v13_2) = v2 c
          ∧ r.2.mem ((c.tc : Thread Cert.MixIdeal.nD Cert.MixIdeal.τ).loc Cert.MixIdeal.main_v13_3) = v3 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v35) = v0 c
          ∧ r.2.mem ((c.tc : Thread Cert.MixRefIdeal.nD Cert.MixRefIdeal.τ).loc Cert.MixRefIdeal.main_v20) = v1 c
          ∧ r.2.mem ((c.tc : Thread Cert.MixRefIdeal.nD Cert.MixRefIdeal.τ).loc Cert.MixRefIdeal.main_v34) = v2 c
          ∧ r.2.mem ((c.tc : Thread Cert.MixRefIdeal.nD Cert.MixRefIdeal.τ).loc Cert.MixRefIdeal.main_v49) = v3 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v5_0)) (v1 : (c : Dev Cert.InFwdIdeal.nD) → Buf (Elt Ideal) ((c.tc : Thread Cert.InFwdIdeal.nD Cert.InFwdIdeal.τ).loc Cert.InFwdIdeal.main_v5_1)) (v2 : (c : Dev Cert.InFwdIdeal.nD) → Buf (Elt Ideal) ((c.tc : Thread Cert.InFwdIdeal.nD Cert.InFwdIdeal.τ).loc Cert.InFwdIdeal.main_v5_2)) (v3 : (c : Dev Cert.InFwdIdeal.nD) → Buf (Elt Ideal) ((c.tc : Thread Cert.InFwdIdeal.nD Cert.InFwdIdeal.τ).loc Cert.InFwdIdeal.main_v5_3)) (v4 : (c : Dev Cert.InFwdIdeal.nD) → Buf (Elt Ideal) ((c.tc : Thread Cert.InFwdIdeal.nD Cert.InFwdIdeal.τ).loc Cert.InFwdIdeal.main_v5_4)) (v5 : (c : Dev Cert.InFwdIdeal.nD) → Buf (Elt Ideal) ((c.tc : Thread Cert.InFwdIdeal.nD Cert.InFwdIdeal.τ).loc Cert.InFwdIdeal.main_v5_5)) (v6 : (c : Dev Cert.InFwdIdeal.nD) → Buf (Elt Ideal) ((c.tc : Thread Cert.InFwdIdeal.nD Cert.InFwdIdeal.τ).loc Cert.InFwdIdeal.main_v5_6)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v5_0) = v0 c
          ∧ r.2.mem ((c.tc : Thread Cert.InFwdIdeal.nD Cert.InFwdIdeal.τ).loc Cert.InFwdIdeal.main_v5_1) = v1 c
          ∧ r.2.mem ((c.tc : Thread Cert.InFwdIdeal.nD Cert.InFwdIdeal.τ).loc Cert.InFwdIdeal.main_v5_2) = v2 c
          ∧ r.2.mem ((c.tc : Thread Cert.InFwdIdeal.nD Cert.InFwdIdeal.τ).loc Cert.InFwdIdeal.main_v5_3) = v3 c
          ∧ r.2.mem ((c.tc : Thread Cert.InFwdIdeal.nD Cert.InFwdIdeal.τ).loc Cert.InFwdIdeal.main_v5_4) = v4 c
          ∧ r.2.mem ((c.tc : Thread Cert.InFwdIdeal.nD Cert.InFwdIdeal.τ).loc Cert.InFwdIdeal.main_v5_5) = v5 c
          ∧ r.2.mem ((c.tc : Thread Cert.InFwdIdeal.nD Cert.InFwdIdeal.τ).loc Cert.InFwdIdeal.main_v5_6) = v6 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v22) = v0 c
          ∧ r.2.mem ((c.tc : Thread Cert.InFwdRefIdeal.nD Cert.InFwdRefIdeal.τ).loc Cert.InFwdRefIdeal.main_v14) = v1 c
          ∧ r.2.mem ((c.tc : Thread Cert.InFwdRefIdeal.nD Cert.InFwdRefIdeal.τ).loc Cert.InFwdRefIdeal.main_v23) = v2 c
          ∧ r.2.mem ((c.tc : Thread Cert.InFwdRefIdeal.nD Cert.InFwdRefIdeal.τ).loc Cert.InFwdRefIdeal.main_v24) = v3 c
          ∧ r.2.mem ((c.tc : Thread Cert.InFwdRefIdeal.nD Cert.InFwdRefIdeal.τ).loc Cert.InFwdRefIdeal.main_v25) = v4 c
          ∧ r.2.mem ((c.tc : Thread Cert.InFwdRefIdeal.nD Cert.InFwdRefIdeal.τ).loc Cert.InFwdRefIdeal.main_v18) = v5 c
          ∧ r.2.mem ((c.tc : Thread Cert.InFwdRefIdeal.nD Cert.InFwdRefIdeal.τ).loc Cert.InFwdRefIdeal.main_v19) = v6 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_AttnFwd_AttnFwdIdeal : Prop :=
  IdealRules.named_const.Statement Cert.AttnFwdIdeal.κ "mask" .f32 0xF149F2CA#32 ⊥

def algebraic_AttnFwdIdeal_AttnFwdRefIdeal_pre_finite_attnf [hAttnFwdIdeal : Cert.AttnFwdIdeal.Facts] [hAttnFwdRefIdeal : Cert.AttnFwdRefIdeal.Facts] [hPre_finite_attnf : Cert.Pre_finite_attnf.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_attnf m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v5_0)) (v1 : (c : Dev Cert.AttnFwdIdeal.nD) → Buf (Elt Ideal) ((c.tc : Thread Cert.AttnFwdIdeal.nD Cert.AttnFwdIdeal.τ).loc Cert.AttnFwdIdeal.main_v5_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v5_0) = v0 c
          ∧ r.2.mem ((c.tc : Thread Cert.AttnFwdIdeal.nD Cert.AttnFwdIdeal.τ).loc Cert.AttnFwdIdeal.main_v5_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v29) = v0 c
          ∧ r.2.mem ((c.tc : Thread Cert.AttnFwdRefIdeal.nD Cert.AttnFwdRefIdeal.τ).loc Cert.AttnFwdRefIdeal.main_v31) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def Claim : Prop :=
  ∃ (hInProj : Cert.InProj.Facts) (hInProjIdeal : Cert.InProjIdeal.Facts) (hInProjRefIdeal : Cert.InProjRefIdeal.Facts) (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hMix : Cert.Mix.Facts) (hMixIdeal : Cert.MixIdeal.Facts) (hMixRefIdeal : Cert.MixRefIdeal.Facts) (hInFwd : Cert.InFwd.Facts) (hInFwdIdeal : Cert.InFwdIdeal.Facts) (hInFwdRefIdeal : Cert.InFwdRefIdeal.Facts) (hAttnFwd : Cert.AttnFwd.Facts) (hAttnFwdIdeal : Cert.AttnFwdIdeal.Facts) (hAttnFwdRefIdeal : Cert.AttnFwdRefIdeal.Facts) (hPre_finite_inproj : Cert.Pre_finite_inproj.Facts) (hPre_finite_attn : Cert.Pre_finite_attn.Facts) (hPre_finite_ffn : Cert.Pre_finite_ffn.Facts) (hPre_finite_attnf : Cert.Pre_finite_attnf.Facts),
    quiescent_InProj (hInProj := hInProj)
    ∧ quiescent_InProjIdeal (hInProjIdeal := hInProjIdeal)
    ∧ quiescent_InProjIdeal_pre_finite_inproj (hInProjIdeal := hInProjIdeal) (hPre_finite_inproj := hPre_finite_inproj)
    ∧ quiescent_InProjRefIdeal (hInProjRefIdeal := hInProjRefIdeal)
    ∧ quiescent_InProjRefIdeal_pre_finite_inproj (hInProjRefIdeal := hInProjRefIdeal) (hPre_finite_inproj := hPre_finite_inproj)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Merge (hMerge := hMerge)
    ∧ quiescent_MergeIdeal (hMergeIdeal := hMergeIdeal)
    ∧ quiescent_MergeRefIdeal (hMergeRefIdeal := hMergeRefIdeal)
    ∧ quiescent_Mix (hMix := hMix)
    ∧ quiescent_MixIdeal (hMixIdeal := hMixIdeal)
    ∧ quiescent_MixRefIdeal (hMixRefIdeal := hMixRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_AttnFwd (hAttnFwd := hAttnFwd)
    ∧ quiescent_AttnFwdIdeal (hAttnFwdIdeal := hAttnFwdIdeal)
    ∧ quiescent_AttnFwdIdeal_pre_finite_attnf (hAttnFwdIdeal := hAttnFwdIdeal) (hPre_finite_attnf := hPre_finite_attnf)
    ∧ quiescent_AttnFwdRefIdeal (hAttnFwdRefIdeal := hAttnFwdRefIdeal)
    ∧ quiescent_AttnFwdRefIdeal_pre_finite_attnf (hAttnFwdRefIdeal := hAttnFwdRefIdeal) (hPre_finite_attnf := hPre_finite_attnf)
    ∧ preserves_InProj_InProjIdeal
    ∧ algebraic_InProjIdeal_InProjRefIdeal_pre_finite_inproj (hInProjIdeal := hInProjIdeal) (hInProjRefIdeal := hInProjRefIdeal) (hPre_finite_inproj := hPre_finite_inproj)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Merge_MergeIdeal
    ∧ preserves_Mix_MixIdeal
    ∧ algebraic_MixIdeal_MixRefIdeal (hMixIdeal := hMixIdeal) (hMixRefIdeal := hMixRefIdeal)
    ∧ preserves_InFwd_InFwdIdeal
    ∧ algebraic_InFwdIdeal_InFwdRefIdeal (hInFwdIdeal := hInFwdIdeal) (hInFwdRefIdeal := hInFwdRefIdeal)
    ∧ preserves_AttnFwd_AttnFwdIdeal
    ∧ algebraic_AttnFwdIdeal_AttnFwdRefIdeal_pre_finite_attnf (hAttnFwdIdeal := hAttnFwdIdeal) (hAttnFwdRefIdeal := hAttnFwdRefIdeal) (hPre_finite_attnf := hPre_finite_attnf)
-- ==== Pre_finite_attn.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn_part1 {F : FTy → Type} [FloatOps F] (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  main_v18

def fn {F : FTy → Type} [FloatOps F] (main_arg0 : FVec F S2048x512 .f32) (main_arg1 : FVec F S2048x512 .f32) (main_arg2 : FVec F S2048x512 .f32) (main_arg3 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_v13 main_v16
-- ==== Pre_finite_attnf.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) (main_arg1 : FVec F S2048x512 .f32) (main_arg2 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  main_v13
-- ==== Pre_finite_ffn.lean ====
abbrev S2048x1024 : Shape := ⟨2, ![2048, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2048x1024 .f32) (main_arg5 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S2048x1024 .f32) (main_arg1 : FVec F S1024x5632 .f32) (main_arg2 : FVec F S2816x1024 .f32) (main_arg3 : FVec F S2048x1024 .f32) (main_arg4 : FVec F S2048x1024 .f32) (main_arg5 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_v13 main_v16
-- ==== Pre_finite_inproj.lean ====
abbrev S2048x1024 : Shape := ⟨2, ![2048, 1024]⟩
abbrev S1024 : Shape := ⟨1, ![1024]⟩
abbrev S1024x4608 : Shape := ⟨2, ![1024, 4608]⟩
abbrev S2048x4608 : Shape := ⟨2, ![2048, 4608]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4608 : S_.BroadcastsInDim S1024x4608 (![] : Fin 0 → Fin S1024x4608.rank)
  reducesTo_S1024x4608_S_d0_1 : S1024x4608.ReducesTo [0, 1] S_
  bcast_S_S2048x4608 : S_.BroadcastsInDim S2048x4608 (![] : Fin 0 → Fin S2048x4608.rank)
  reducesTo_S2048x4608_S_d0_1 : S2048x4608.ReducesTo [0, 1] S_

variable [Facts]

def fn_part1 {F : FTy → Type} [FloatOps F] (main_v13 : IVec S_ 1) (main_v16 : IVec S2048x4608 1) : IVec S_ 1 :=
  let main_c_5 : IVec S_ 1 := constantI S_ 1 1#1
  let main_v17 : IVec S_ 1 := (fun x v => Host.reduce IntOp.andi x v reducesTo_S2048x4608_S_d0_1 h_S_) main_v16 main_c_5
  let main_v18 : IVec S_ 1 := andi main_v13 main_v17
  main_v18

def fn {F : FTy → Type} [FloatOps F] (main_arg0 : FVec F S2048x1024 .f32) (main_arg1 : FVec F S1024 .f32) (main_arg2 : FVec F S1024x4608 .f32) (main_arg3 : FVec F S2048x1024 .f32) (main_arg4 : FVec F S2048x4608 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4608 .f32 := Host.absf main_arg2
  let main_cst_2 : FVec F S_ .f32 := constant S_ .f32 0x7F800000#32
  let main_v10 : FVec F S1024x4608 .f32 := broadcastInDim S1024x4608 ![] bcast_S_S1024x4608 main_cst_2
  let main_v11 : IVec S1024x4608 1 := cmpf .olt main_v9 main_v10
  let main_c_3 : IVec S_ 1 := constantI S_ 1 1#1
  let main_v12 : IVec S_ 1 := (fun x v => Host.reduce IntOp.andi x v reducesTo_S1024x4608_S_d0_1 h_S_) main_v11 main_c_3
  let main_v13 : IVec S_ 1 := andi main_v8 main_v12
  let main_v14 : FVec F S2048x4608 .f32 := Host.absf main_arg4
  let main_cst_4 : FVec F S_ .f32 := constant S_ .f32 0x7F800000#32
  let main_v15 : FVec F S2048x4608 .f32 := broadcastInDim S2048x4608 ![] bcast_S_S2048x4608 main_cst_4
  let main_v16 : IVec S2048x4608 1 := cmpf .olt main_v14 main_v15
  fn_part1 (F := F) main_v13 main_v16
-- ==== InProj.lean ====
abbrev S2048x1024 : Shape := ⟨2, ![2048, 1024]⟩
abbrev S1024 : Shape := ⟨1, ![1024]⟩
abbrev S1024x4608 : Shape := ⟨2, ![1024, 4608]⟩
abbrev S2048x4608 : Shape := ⟨2, ![2048, 4608]⟩
abbrev S2048x1536 : Shape := ⟨2, ![2048, 1536]⟩
abbrev S2048x2048 : Shape := ⟨2, ![2048, 2048]⟩
abbrev S1024x4x1152 : Shape := ⟨3, ![1024, 4, 1152]⟩
abbrev S4x1024x1152 : Shape := ⟨3, ![4, 1024, 1152]⟩
abbrev S1x1024 : Shape := ⟨2, ![1, 1024]⟩
abbrev S_ : Shape := ⟨0, ![]⟩
abbrev S8x128 : Shape := ⟨2, ![8, 128]⟩
abbrev S256x1024 : Shape := ⟨2, ![256, 1024]⟩
abbrev S256x1536 : Shape := ⟨2, ![256, 1536]⟩
abbrev S256x2048 : Shape := ⟨2, ![256, 2048]⟩
abbrev S1x1024x1024 : Shape := ⟨3, ![1, 1024, 1024]⟩
abbrev S1024x1024 : Shape := ⟨2, ![1024, 1024]⟩
abbrev S256x128 : Shape := ⟨2, ![256, 128]⟩
abbrev S1x1024x128 : Shape := ⟨3, ![1, 1024, 128]⟩
abbrev S1024x128 : Shape := ⟨2, ![1024, 128]⟩
abbrev S256x1152 : Shape := ⟨2, ![256, 1152]⟩
abbrev S1x1024x1152 : Shape := ⟨3, ![1, 1024, 1152]⟩
abbrev S1024x1152 : Shape := ⟨2, ![1024, 1152]⟩
abbrev S256x256 : Shape := ⟨2, ![256, 256]⟩
abbrev S1x1024x256 : Shape := ⟨3, ![1, 1024, 256]⟩
abbrev S1024x256 : Shape := ⟨2, ![1024, 256]⟩
abbrev S256x896 : Shape := ⟨2, ![256, 896]⟩
abbrev S1x1024x896 : Shape := ⟨3, ![1, 1024, 896]⟩
abbrev S1024x896 : Shape := ⟨2, ![1024, 896]⟩
abbrev S256 : Shape := ⟨1, ![256]⟩
abbrev S256x1 : Shape := ⟨2, ![256, 1]⟩

abbrev nBuf : Space → Nat
  | .hbm => 17
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4608, .f32⟩
  | .hbm, ⟨3, _⟩ => ⟨S2048x1024, .f32⟩
  | .hbm, ⟨4, _⟩ => ⟨S2048x4608, .f32⟩
  | .hbm, ⟨5, _⟩ => ⟨S2048x4608, .bf16⟩
  | .hbm, ⟨6, _⟩ => ⟨S2048x1024, .bf16⟩
  | .hbm, ⟨7, _⟩ => ⟨S2048x1536, .bf16⟩
  | .hbm, ⟨8, _⟩ => ⟨S2048x2048, .bf16⟩
  | .hbm, ⟨9, _⟩ => ⟨S1024x4608, .bf16⟩
  | .hbm, ⟨10, _⟩ => ⟨S1024x4x1152, .bf16⟩
  | .hbm, ⟨11, _⟩ => ⟨S4x1024x1152, .bf16⟩
  | .hbm, ⟨12, _⟩ => ⟨S1x1024, .f32⟩
  | .hbm, ⟨13, _⟩ => ⟨S_, .f32⟩
  | .hbm, ⟨14, _⟩ => ⟨S8x128, .f32⟩
  | .hbm, ⟨15, _⟩ => ⟨S2048x1024, .f32⟩
  | .hbm, ⟨16, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1536, .bf16⟩
  | .local _ .vmem, ⟨3, _⟩ => ⟨S256x1536, .bf16⟩
  | .local _ .vmem, ⟨4, _⟩ => ⟨S256x2048, .bf16⟩
  | .local _ .vmem, ⟨5, _⟩ => ⟨S256x2048, .bf16⟩
  | .local _ .vmem, ⟨6, _⟩ => ⟨S4x1024x1152, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S8x128, .f32⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v66 : BitVec 1 := Scalar.cmpi .eq arg0 c0_i32
  let v67 : BitVec 32 := Scalar.extui v66
  let c0_i32_40 : BitVec 32 := 0#32
  let v68 : BitVec 1 := Scalar.cmpi .ne v67 c0_i32_40
  v68

def k0_cond2 (i : grid0.Coords) : BitVec 1 :=
  let arg0 : BitVec 32 := BitVec.ofNat 32 (i 0).val
  let c0_i32 : BitVec 32 := 0#32
  let v66 : BitVec 1 := Scalar.cmpi .eq arg0 c0_i32
  let v_true : BitVec 1 := 1#1
  let v69 : BitVec 1 := Scalar.xori v66 v_true
  let v70 : BitVec 32 := Scalar.extui v69
  let c0_i32_41 : BitVec 32 := 0#32
  let v71 : BitVec 1 := Scalar.cmpi .ne v70 c0_i32_41
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InProjRefIdeal.lean ====
abbrev S2048x1024 : Shape := ⟨2, ![2048, 1024]⟩
abbrev S1024 : Shape := ⟨1, ![1024]⟩
abbrev S1024x4608 : Shape := ⟨2, ![1024, 4608]⟩
abbrev S2048x4608 : Shape := ⟨2, ![2048, 4608]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S4608x1024 : Shape := ⟨2, ![4608, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4608, .f32⟩
  | .hbm, ⟨3, _⟩ => ⟨S2048x1024, .f32⟩
  | .hbm, ⟨4, _⟩ => ⟨S2048x4608, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x4608, .f32⟩
  | .hbm, ⟨26, _⟩ => ⟨S4608x1024, .f32⟩
  | .hbm, ⟨27, _⟩ => ⟨S1024x4608, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Attn.lean ====
abbrev S2048x512 : Shape := ⟨2, ![2048, 512]⟩
abbrev S_ : Shape := ⟨0, ![]⟩
abbrev S2048x8x64 : Shape := ⟨3, ![2048, 8, 64]⟩
abbrev S8x2048x2048 : Shape := ⟨3, ![8, 2048, 2048]⟩
abbrev S2048x2048 : Shape := ⟨2, ![2048, 2048]⟩
abbrev S1x2048x2048 : Shape := ⟨3, ![1, 2048, 2048]⟩
abbrev S8x2048x16x128 : Shape := ⟨4, ![8, 2048, 16, 128]⟩
abbrev S8x2048x16 : Shape := ⟨3, ![8, 2048, 16]⟩
abbrev S8x2048 : Shape := ⟨2, ![8, 2048]⟩
abbrev S8x2048x1 : Shape := ⟨3, ![8, 2048, 1]⟩
abbrev S2048x8x16 : Shape := ⟨3, ![2048, 8, 16]⟩
abbrev S2048x128 : Shape := ⟨2, ![2048, 128]⟩
abbrev S8x128 : Shape := ⟨2, ![8, 128]⟩
abbrev S2048x1536 : Shape := ⟨2, ![2048, 1536]⟩
abbrev S8x128x128 : Shape := ⟨3, ![8, 128, 128]⟩
abbrev S4x256x128 : Shape := ⟨3, ![4, 256, 128]⟩
abbrev S4x128x256 : Shape := ⟨3, ![4, 128, 256]⟩
abbrev S4x4096x128 : Shape := ⟨3, ![4, 4096, 128]⟩
abbrev S5 : Shape := ⟨1, ![5]⟩
abbrev S1 : Shape := ⟨1, ![1]⟩
abbrev S128x128 : Shape := ⟨2, ![128, 128]⟩
abbrev S1x128x128 : Shape := ⟨3, ![1, 128, 128]⟩
abbrev S128x256 : Shape := ⟨2, ![128, 256]⟩
abbrev S1x128x256 : Shape := ⟨3, ![1, 128, 256]⟩
abbrev S1x256x128 : Shape := ⟨3, ![1, 256, 128]⟩
abbrev S256x128 : Shape := ⟨2, ![256, 128]⟩
abbrev S128 : Shape := ⟨1, ![128]⟩
abbrev S128x1 : Shape := ⟨2, ![128, 1]⟩

abbrev nBuf : Space → Nat
  | .hbm => 109
  | .vmem => 23
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S2048x8x64, .f32⟩
  | .hbm, ⟨8, _⟩ => ⟨S2048x8x64, .f32⟩
  | .hbm, ⟨9, _⟩ => ⟨S8x2048x2048, .f32⟩
  | .hbm, ⟨10, _⟩ => ⟨S2048x2048, .i32⟩
  | .hbm, ⟨11, _⟩ => ⟨S2048x2048, .i32⟩
  | .hbm, ⟨12, _⟩ => ⟨S2048x2048, .i1⟩
  | .hbm, ⟨13, _⟩ => ⟨S1x2048x2048, .i1⟩
  | .hbm, ⟨14, _⟩ => ⟨S_, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S_, .f32⟩
  | .hbm, ⟨27, _⟩ => ⟨S8x2048x2048, .i1⟩
  | .hbm, ⟨28, _⟩ => ⟨S8x2048x2048, .f32⟩
  | .hbm, ⟨29, _⟩ => ⟨S8x2048x2048, .f32⟩
  | .hbm, ⟨30, _⟩ => ⟨S8x2048x16x128, .f32⟩
  | .hbm, ⟨31, _⟩ => ⟨S_, .f32⟩
  | .hbm, ⟨32, _⟩ => ⟨S8x2048x16, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S8x2048, .f32⟩
  | .hbm, ⟨37, _⟩ => ⟨S8x2048, .f32⟩
  | .hbm, ⟨38, _⟩ => ⟨S8x2048x1, .f32⟩
  | .hbm, ⟨39, _⟩ => ⟨S8x2048, .f32⟩
  | .hbm, ⟨40, _⟩ => ⟨S8x2048, .f32⟩
  | .hbm, ⟨41, _⟩ => ⟨S8x2048x1, .f32⟩
  | .hbm, ⟨42, _⟩ => ⟨S8x2048, .f32⟩
  | .hbm, ⟨43, _⟩ => ⟨S8x2048, .f32⟩
  | .hbm, ⟨44, _⟩ => ⟨S8x2048x1, .f32⟩
  | .hbm, ⟨45, _⟩ => ⟨S8x2048, .f32⟩
  | .hbm, ⟨46, _⟩ => ⟨S8x2048, .f32⟩
  | .hbm, ⟨47, _⟩ => ⟨S8x2048x1, .f32⟩
  | .hbm, ⟨48, _⟩ => ⟨S8x2048, .f32⟩
  | .hbm, ⟨49, _⟩ => ⟨S8x2048, .f32⟩
  | .hbm, ⟨50, _⟩ => ⟨S8x2048x1, .f32⟩
  | .hbm, ⟨51, _⟩ => ⟨S8x2048, .f32⟩
  | .hbm, ⟨52, _⟩ => ⟨S8x2048, .f32⟩
  | .hbm, ⟨53, _⟩ => ⟨S8x2048x1, .f32⟩
  | .hbm, ⟨54, _⟩ => ⟨S8x2048, .f32⟩
  | .hbm, ⟨55, _⟩ => ⟨S8x2048, .f32⟩
  | .hbm, ⟨56, _⟩ => ⟨S8x2048x1, .f32⟩
  | .hbm, ⟨57, _⟩ => ⟨S8x2048, .f32⟩
  | .hbm, ⟨58, _⟩ => ⟨S8x2048, .f32⟩
  | .hbm, ⟨59, _⟩ => ⟨S8x2048x1, .f32⟩
  | .hbm, ⟨60, _⟩ => ⟨S8x2048, .f32⟩
  | .hbm, ⟨61, _⟩ => ⟨S8x2048, .f32⟩
  | .hbm, ⟨62, _⟩ => ⟨S8x2048x1, .f32⟩
  | .hbm, ⟨63, _⟩ => ⟨S8x2048, .f32⟩
  | .hbm, ⟨64, _⟩ => ⟨S8x2048, .f32⟩
  | .hbm, ⟨65, _⟩ => ⟨S8x2048x1, .f32⟩
  | .hbm, ⟨66, _⟩ => ⟨S8x2048, .f32⟩
  | .hbm, ⟨67, _⟩ => ⟨S8x2048, .f32⟩
  | .hbm, ⟨68, _⟩ => ⟨S8x2048x1, .f32⟩
  | .hbm, ⟨69, _⟩ => ⟨S8x2048, .f32⟩
  | .hbm, ⟨70, _⟩ => ⟨S8x2048, .f32⟩
  | .hbm, ⟨71, _⟩ => ⟨S8x2048x1, .f32⟩
  | .hbm, ⟨72, _⟩ => ⟨S8x2048, .f32⟩
  | .hbm, ⟨73, _⟩ => ⟨S8x2048, .f32⟩
  | .hbm, ⟨74, _⟩ => ⟨S8x2048x1, .f32⟩
  | .hbm, ⟨75, _⟩ => ⟨S8x2048, .f32⟩
  | .hbm, ⟨76, _⟩ => ⟨S8x2048, .f32⟩
  | .hbm, ⟨77, _⟩ => ⟨S8x2048x1, .f32⟩
  | .hbm, ⟨78, _⟩ => ⟨S8x2048, .f32⟩
  | .hbm, ⟨79, _⟩ => ⟨S8x2048, .f32⟩
  | .hbm, ⟨80, _⟩ => ⟨S8x2048x1, .f32⟩
  | .hbm, ⟨81, _⟩ => ⟨S8x2048, .f32⟩
  | .hbm, ⟨82, _⟩ => ⟨S8x2048, .f32⟩
  | .hbm, ⟨83, _⟩ => ⟨S8x2048x1, .f32⟩
  | .hbm, ⟨84, _⟩ => ⟨S8x2048x1, .f32⟩
  | .hbm, ⟨85, _⟩ => ⟨S8x2048x1, .f32⟩
  | .hbm, ⟨86, _⟩ => ⟨S8x2048x1, .f32⟩
  | .hbm, ⟨87, _⟩ => ⟨S8x2048x1, .f32⟩
  | .hbm, ⟨88, _⟩ => ⟨S8x2048x1, .f32⟩
  | .hbm, ⟨89, _⟩ => ⟨S8x2048x1, .f32⟩
  | .hbm, ⟨90, _⟩ => ⟨S8x2048x1, .f32⟩
  | .hbm, ⟨91, _⟩ => ⟨S8x2048x1, .f32⟩
  | .hbm, ⟨92, _⟩ => ⟨S8x2048x1, .f32⟩
  | .hbm, ⟨93, _⟩ => ⟨S8x2048x1, .f32⟩
  | .hbm, ⟨94, _⟩ => ⟨S8x2048x1, .f32⟩
  | .hbm, ⟨95, _⟩ => ⟨S8x2048x1, .f32⟩
  | .hbm, ⟨96, _⟩ => ⟨S8x2048x1, .f32⟩
  | .hbm, ⟨97, _⟩ => ⟨S8x2048x1, .f32⟩
  | .hbm, ⟨98, _⟩ => ⟨S8x2048x1, .f32⟩
  | .hbm, ⟨99, _⟩ => ⟨S8x2048x16, .f32⟩
  | .hbm, ⟨100, _⟩ => ⟨S2048x8x16, .f32⟩
  | .hbm, ⟨101, _⟩ => ⟨S2048x128, .f32⟩
  | .hbm, ⟨102, _⟩ => ⟨S2048x512, .bf16⟩
  | .hbm, ⟨103, _⟩ => ⟨S2048x512, .bf16⟩
  | .hbm, ⟨104, _⟩ => ⟨S2048x512, .bf16⟩
  | .hbm, ⟨105, _⟩ => ⟨S2048x512, .bf16⟩
  | .hbm, ⟨106, _⟩ => ⟨S_, .f32⟩
  | .hbm, ⟨107, _⟩ => ⟨S8x128, .f32⟩
  | .hbm, ⟨108, _⟩ => ⟨S2048x1536, .bf16⟩
  | .local _ .vmem, ⟨0, _⟩ => ⟨S8x128, .f32⟩
  | .local _ .vmem, ⟨1, _⟩ => ⟨S2048x1536, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S8x128x128, .f32⟩
  | .local _ .vmem, ⟨6, _⟩ => ⟨S8x128x128, .f32⟩
  | .local _ .vmem, ⟨7, _⟩ => ⟨S8x128x128, .f32⟩
  | .local _ .vmem, ⟨8, _⟩ => ⟨S8x128x128, .f32⟩
  | .local _ .vmem, ⟨9, _⟩ => ⟨S8x128x128, .f32⟩
  | .local _ .vmem, ⟨10, _⟩ => ⟨S8x128x128, .bf16⟩
  | .local _ .vmem, ⟨11, _⟩ => ⟨S8x128x128, .bf16⟩
  | .local _ .vmem, ⟨12, _⟩ => ⟨S4x256x128, .bf16⟩
  | .local _ .vmem, ⟨13, _⟩ => ⟨S4x256x128, .bf16⟩
  | .local _ .vmem, ⟨14, _⟩ => ⟨S4x128x256, .bf16⟩
  | .local _ .vmem, ⟨15, _⟩ => ⟨S4x4096x128, .bf16⟩
  | .local _ .vmem, ⟨16, _⟩ => ⟨S4x4096x128, .bf16⟩
  | .local _ .vmem, ⟨17, _⟩ => ⟨S4x4096x128, .bf16⟩
  | .local _ .vmem, ⟨18, _⟩ => ⟨S2048x512, .bf16⟩
  | .local _ .vmem, ⟨19, _⟩ => ⟨S2048x512, .bf16⟩
  | .local _ .vmem, ⟨20, _⟩ => ⟨S2048x512, .bf16⟩
  | .local _ .vmem, ⟨21, _⟩ => ⟨S2048x512, .bf16⟩
  | .local _ .vmem, ⟨22, _⟩ => ⟨S2048x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_cst_5 : Ref sig .tc := ⟨.hbm, 106, rfl⟩
abbrev main_v93 : Ref sig .tc := ⟨.hbm, 107, rfl⟩
abbrev main_v94 : Ref sig .tc := ⟨.hbm, 108, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_scratch12 : Ref sig .tc := ⟨.vmem, 14, rfl⟩
abbrev cc0_scratch13 : Ref sig .tc := ⟨.vmem, 15, rfl⟩
abbrev cc0_scratch14 : Ref sig .tc := ⟨.vmem, 16, rfl⟩
abbrev cc0_scratch15 : Ref sig .tc := ⟨.vmem, 17, rfl⟩
abbrev cc0_scratch16 : Ref sig .tc := ⟨.vmem, 18, rfl⟩
abbrev cc0_scratch17 : Ref sig .tc := ⟨.vmem, 19, rfl⟩
abbrev cc0_scratch18 : Ref sig .tc := ⟨.vmem, 20, rfl⟩
abbrev cc0_scratch19 : Ref sig .tc := ⟨.vmem, 21, rfl⟩
abbrev cc0_scratch20 : Ref sig .tc := ⟨.vmem, 22, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_48 : BitVec 32 := 0#32
  let c16_i32 : BitVec 32 := 16#32
  let v69 : BitVec 32 := Scalar.addi c0_i32_48 c16_i32
  let c1_i32_49 : BitVec 32 := 1#32
  ⟨c0_i32_48, v69, c1_i32_49⟩
def k0_mult1 (k0_t1 : Fin k0_t1_loop.trips) : BitVec 32 :=
  let c0_i32_48 : BitVec 32 := 0#32
  let c1_i32_49 : BitVec 32 := 1#32
  let arg29 : BitVec 32 := Scf.iv c0_i32_48 c1_i32_49 k0_t1
  let c128_i32_90 : BitVec 32 := 128#32
  let v119 : BitVec 32 := Scalar.muli arg29 c128_i32_90
  v119
def k0_mult2 (k0_t1 : Fin k0_t1_loop.trips) : BitVec 32 :=
  let c0_i32_48 : BitVec 32 := 0#32
  let c1_i32_49 : BitVec 32 := 1#32
  let arg29 : BitVec 32 := Scf.iv c0_i32_48 c1_i32_49 k0_t1
  let c2_i32_91 : BitVec 32 := 2#32
  let v121 : BitVec 32 := Scalar.muli arg29 c2_i32_91
  let c128_i32_92 : BitVec 32 := 128#32
  let v122 : BitVec 32 := Scalar.muli v121 c128_i32_92
  v122
def k0_off1 (k0_t1 : Fin k0_t1_loop.trips) : Fin 2 → Nat :=
  let c0_i32_48 : BitVec 32 := 0#32
  let c1_i32_49 : BitVec 32 := 1#32
  let arg29 : BitVec 32 := Scf.iv c0_i32_48 c1_i32_49 k0_t1
  let c128_i32_90 : BitVec 32 := 128#32
  let v119 : BitVec 32 := Scalar.muli arg29 c128_i32_90
  let v120 : BitVec 32 := v119
  let v124 : Index := Scalar.indexCast v120
  let c0_93 : Index := 0#32
  ![v124.toNat, 0]
def k0_off2 (k0_t1 : Fin k0_t1_loop.trips) (c0_i32_95 : BitVec 32) : Fin 3 → Nat :=
  let c0_96 : Index := 0#32
  let c0_i32_48 : BitVec 32 := 0#32
  let c1_i32_49 : BitVec 32 := 1#32
  let arg29 : BitVec 32 := Scf.iv c0_i32_48 c1_i32_49 k0_t1
  let c2_i32_91 : BitVec 32 := 2#32
  let v121 : BitVec 32 := Scalar.muli arg29 c2_i32_91
  let c128_i32_92 : BitVec 32 := 128#32
  let v122 : BitVec 32 := Scalar.muli v121 c128_i32_92
  let v123 : BitVec 32 := v122
  let v128 : BitVec 32 := Scalar.addi v123 c0_i32_95
  let v129 : Index := Scalar.indexCast v128
  let c0_97 : Index := 0#32
  ![0, v129.toNat, 0]
def k0_off3 (k0_t1 : Fin k0_t1_loop.trips) : Fin 2 → Nat :=
  let c0_i32_48 : BitVec 32 := 0#32
  let c1_i32_49 : BitVec 32 := 1#32
  let arg29 : BitVec 32 := Scf.iv c0_i32_48 c1_i32_49 k0_t1
  let c128_i32_90 : BitVec 32 := 128#32
  let v119 : BitVec 32 := Scalar.muli arg29 c128_i32_90
  let v120 : BitVec 32 := v119
  let v140 : Index := Scalar.indexCast v120
  let c128 : Index := 128#32
  ![v140.toNat, 128]
def k0_off4 (k0_t1 : Fin k0_t1_loop.trips) (c0_i32_103 : BitVec 32) : Fin 3 → Nat :=
  let c1 : Index := 1#32
  let c0_i32_48 : BitVec 32 := 0#32
  let c1_i32_49 : BitVec 32 := 1#32
  let arg29 : BitVec 32 := Scf.iv c0_i32_48 c1_i32_49 k0_t1
  let c2_i32_91 : BitVec 32 := 2#32
  let v121 : BitVec 32 := Scalar.muli arg29 c2_i32_91
  let c128_i32_92 : BitVec 32 := 128#32
  let v122 : BitVec 32 := Scalar.muli v121 c128_i32_92
  let v123 : BitVec 32 := v122
  let v144 : BitVec 32 := Scalar.addi v123 c0_i32_103
  let v145 : Index := Scalar.indexCast v144
  let c0_104 : Index := 0#32
  ![1, v145.toNat, 0]
def k0_off5 (k0_t1 : Fin k0_t1_loop.trips) : Fin 2 → Nat :=
  let c0_i32_48 : BitVec 32 := 0#32
  let c1_i32_49 : BitVec 32 := 1#32
  let arg29 : BitVec 32 := Scf.iv c0_i32_48 c1_i32_49 k0_t1
  let c128_i32_90 : BitVec 32 := 128#32
  let v119 : BitVec 32 := Scalar.muli arg29 c128_i32_90
  let v120 : BitVec 32 := v119
  let v156 : Index := Scalar.indexCast v120
  let c256 : Index := 256#32
  ![v156.toNat, 256]
def k0_off6 (k0_t1 : Fin k0_t1_loop.trips) (c0_i32_110 : BitVec 32) : Fin 3 → Nat :=
  let c2 : Index := 2#32
  let c0_i32_48 : BitVec 32 := 0#32
  let c1_i32_49 : BitVec 32 := 1#32
  let arg29 : BitVec 32 := Scf.iv c0_i32_48 c1_i32_49 k0_t1
  let c2_i32_91 : BitVec 32 := 2#32
  let v121 : BitVec 32 := Scalar.muli arg29 c2_i32_91
  let c128_i32_92 : BitVec 32 := 128#32
  let v122 : BitVec 32 := Scalar.muli v121 c128_i32_92
  let v123 : BitVec 32 := v122
  let v160 : BitVec 32 := Scalar.addi v123 c0_i32_110
  let v161 : Index := Scalar.indexCast v160
  let c0_111 : Index := 0#32
  ![2, v161.toNat, 0]
def k0_off7 (k0_t1 : Fin k0_t1_loop.trips) : Fin 2 → Nat :=
  let c0_i32_48 : BitVec 32 := 0#32
  let c1_i32_49 : BitVec 32 := 1#32
  let arg29 : BitVec 32 := Scf.iv c0_i32_48 c1_i32_49 k0_t1
  let c128_i32_90 : BitVec 32 := 128#32
  let v119 : BitVec 32 := Scalar.muli arg29 c128_i32_90
  let v120 : BitVec 32 := v119
  let v172 : Index := Scalar.indexCast v120
  let c384 : Index := 384#32
  ![v172.toNat, 384]
def k0_off8 (k0_t1 : Fin k0_t1_loop.trips) (c0_i32_117 : BitVec 32) : Fin 3 → Nat :=
  let c3 : Index := 3#32
  let c0_i32_48 : BitVec 32 := 0#32
  let c1_i32_49 : BitVec 32 := 1#32
  let arg29 : BitVec 32 := Scf.iv c0_i32_48 c1_i32_49 k0_t1
  let c2_i32_91 : BitVec 32 := 2#32
  let v121 : BitVec 32 := Scalar.muli arg29 c2_i32_91
  let c128_i32_92 : BitVec 32 := 128#32
  let v122 : BitVec 32 := Scalar.muli v121 c128_i32_92
  let v123 : BitVec 32 := v122
  let v176 : BitVec 32 := Scalar.addi v123 c0_i32_117
  let v177 : Index := Scalar.indexCast v176
  let c0_118 : Index := 0#32
  ![3, v177.toNat, 0]
@[reducible] def k0_t2_loop : Scf.Loop 32 :=
  let c0_i32_53 : BitVec 32 := 0#32
  let c16_i32_54 : BitVec 32 := 16#32
  let v75 : BitVec 32 := Scalar.addi c0_i32_53 c16_i32_54
  let c1_i32_55 : BitVec 32 := 1#32
  ⟨c0_i32_53, v75, c1_i32_55⟩
def k0_mult3 (k0_t2 : Fin k0_t2_loop.trips) : BitVec 32 :=
  let c0_i32_53 : BitVec 32 := 0#32
  let c1_i32_55 : BitVec 32 := 1#32
  let arg29 : BitVec 32 := Scf.iv c0_i32_53 c1_i32_55 k0_t2
  let c128_i32_90 : BitVec 32 := 128#32
  let v119 : BitVec 32 := Scalar.muli arg29 c128_i32_90
  v119
def k0_mult4 (k0_t2 : Fin k0_t2_loop.trips) : BitVec 32 :=
  let c0_i32_53 : BitVec 32 := 0#32
  let c1_i32_55 : BitVec 32 := 1#32
  let arg29 : BitVec 32 := Scf.iv c0_i32_53 c1_i32_55 k0_t2
  let c2_i32_91 : BitVec 32 := 2#32
  let v121 : BitVec 32 := Scalar.muli arg29 c2_i32_91
  let c128_i32_92 : BitVec 32 := 128#32
  let v122 : BitVec 32 := Scalar.muli v121 c128_i32_92
  v122
def k0_off9 (k0_t2 : Fin k0_t2_loop.trips) : Fin 2 → Nat :=
  let c0_i32_53 : BitVec 32 := 0#32
  let c1_i32_55 : BitVec 32 := 1#32
  let arg29 : BitVec 32 := Scf.iv c0_i32_53 c1_i32_55 k0_t2
  let c128_i32_90 : BitVec 32 := 128#32
  let v119 : BitVec 32 := Scalar.muli arg29 c128_i32_90
  let v120 : BitVec 32 := v119
  let v124 : Index := Scalar.indexCast v120
  let c0_93 : Index := 0#32
  ![v124.toNat, 0]
def k0_off10 (k0_t2 : Fin k0_t2_loop.trips) (c0_i32_95 : BitVec 32) : Fin 3 → Nat :=
  let c0_96 : Index := 0#32
  let c0_i32_53 : BitVec 32 := 0#32
  let c1_i32_55 : BitVec 32 := 1#32
  let arg29 : BitVec 32 := Scf.iv c0_i32_53 c1_i32_55 k0_t2
  let c2_i32_91 : BitVec 32 := 2#32
  let v121 : BitVec 32 := Scalar.muli arg29 c2_i32_91
  let c128_i32_92 : BitVec 32 := 128#32
  let v122 : BitVec 32 := Scalar.muli v121 c128_i32_92
  let v123 : BitVec 32 := v122
  let v128 : BitVec 32 := Scalar.addi v123 c0_i32_95
  let v129 : Index := Scalar.indexCast v128
  let c0_97 : Index := 0#32
  ![0, v129.toNat, 0]
def k0_off11 (k0_t2 : Fin k0_t2_loop.trips) : Fin 2 → Nat :=
  let c0_i32_53 : BitVec 32 := 0#32
  let c1_i32_55 : BitVec 32 := 1#32
  let arg29 : BitVec 32 := Scf.iv c0_i32_53 c1_i32_55 k0_t2
  let c128_i32_90 : BitVec 32 := 128#32
  let v119 : BitVec 32 := Scalar.muli arg29 c128_i32_90
  let v120 : BitVec 32 := v119
  let v140 : Index := Scalar.indexCast v120
  let c128 : Index := 128#32
  ![v140.toNat, 128]
def k0_off12 (k0_t2 : Fin k0_t2_loop.trips) (c0_i32_103 : BitVec 32) : Fin 3 → Nat :=
  let c1 : Index := 1#32
  let c0_i32_53 : BitVec 32 := 0#32
  let c1_i32_55 : BitVec 32 := 1#32
  let arg29 : BitVec 32 := Scf.iv c0_i32_53 c1_i32_55 k0_t2
  let c2_i32_91 : BitVec 32 := 2#32
  let v121 : BitVec 32 := Scalar.muli arg29 c2_i32_91
  let c128_i32_92 : BitVec 32 := 128#32
  let v122 : BitVec 32 := Scalar.muli v121 c128_i32_92
  let v123 : BitVec 32 := v122
  let v144 : BitVec 32 := Scalar.addi v123 c0_i32_103
  let v145 : Index := Scalar.indexCast v144
  let c0_104 : Index := 0#32
  ![1, v145.toNat, 0]
def k0_off13 (k0_t2 : Fin k0_t2_loop.trips) : Fin 2 → Nat :=
  let c0_i32_53 : BitVec 32 := 0#32
  let c1_i32_55 : BitVec 32 := 1#32
  let arg29 : BitVec 32 := Scf.iv c0_i32_53 c1_i32_55 k0_t2
  let c128_i32_90 : BitVec 32 := 128#32
  let v119 : BitVec 32 := Scalar.muli arg29 c128_i32_90
  let v120 : BitVec 32 := v119
  let v156 : Index := Scalar.indexCast v120
  let c256 : Index := 256#32
  ![v156.toNat, 256]
def k0_off14 (k0_t2 : Fin k0_t2_loop.trips) (c0_i32_110 : BitVec 32) : Fin 3 → Nat :=
  let c2 : Index := 2#32
  let c0_i32_53 : BitVec 32 := 0#32
  let c1_i32_55 : BitVec 32 := 1#32
  let arg29 : BitVec 32 := Scf.iv c0_i32_53 c1_i32_55 k0_t2
  let c2_i32_91 : BitVec 32 := 2#32
  let v121 : BitVec 32 := Scalar.muli arg29 c2_i32_91
  let c128_i32_92 : BitVec 32 := 128#32
  let v122 : BitVec 32 := Scalar.muli v121 c128_i32_92
  let v123 : BitVec 32 := v122
  let v160 : BitVec 32 := Scalar.addi v123 c0_i32_110
  let v161 : Index := Scalar.indexCast v160
  let c0_111 : Index := 0#32
  ![2, v161.toNat, 0]
def k0_off15 (k0_t2 : Fin k0_t2_loop.trips) : Fin 2 → Nat :=
  let c0_i32_53 : BitVec 32 := 0#32
  let c1_i32_55 : BitVec 32 := 1#32
  let arg29 : BitVec 32 := Scf.iv c0_i32_53 c1_i32_55 k0_t2
  let c128_i32_90 : BitVec 32 := 128#32
  let v119 : BitVec 32 := Scalar.muli arg29 c128_i32_90
  let v120 : BitVec 32 := v119
  let v172 : Index := Scalar.indexCast v120
  let c384 : Index := 384#32
  ![v172.toNat, 384]
def k0_off16 (k0_t2 : Fin k0_t2_loop.trips) (c0_i32_117 : BitVec 32) : Fin 3 → Nat :=
  let c3 : Index := 3#32
  let c0_i32_53 : BitVec 32 := 0#32
  let c1_i32_55 : BitVec 32 := 1#32
  let arg29 : BitVec 32 := Scf.iv c0_i32_53 c1_i32_55 k0_t2
  let c2_i32_91 : BitVec 32 := 2#32
  let v121 : BitVec 32 := Scalar.muli arg29 c2_i32_91
  let c128_i32_92 : BitVec 32 := 128#32
  let v122 : BitVec 32 := Scalar.muli v121 c128_i32_92
  let v123 : BitVec 32 := v122
  let v176 : BitVec 32 := Scalar.addi v123 c0_i32_117
  let v177 : Index := Scalar.indexCast v176
  let c0_118 : Index := 0#32
  ![3, v177.toNat, 0]
@[reducible] def k0_t3_loop : Scf.Loop 32 :=
  let c0_i32_59 : BitVec 32 := 0#32
  let c16_i32_60 : BitVec 32 := 16#32
  let v81 : BitVec 32 := Scalar.addi c0_i32_59 c16_i32_60
  let c1_i32_61 : BitVec 32 := 1#32
  ⟨c0_i32_59, v81, c1_i32_61⟩
def k0_mult5 (k0_t3 : Fin k0_t3_loop.trips) : BitVec 32 :=
  let c0_i32_59 : BitVec 32 := 0#32
  let c1_i32_61 : BitVec 32 := 1#32
  let arg29 : BitVec 32 := Scf.iv c0_i32_59 c1_i32_61 k0_t3
  let c128_i32_90 : BitVec 32 := 128#32
  let v119 : BitVec 32 := Scalar.muli arg29 c128_i32_90
  v119
def k0_mult6 (k0_t3 : Fin k0_t3_loop.trips) : BitVec 32 :=
  let c0_i32_59 : BitVec 32 := 0#32
  let c1_i32_61 : BitVec 32 := 1#32
  let arg29 : BitVec 32 := Scf.iv c0_i32_59 c1_i32_61 k0_t3
  let c2_i32_91 : BitVec 32 := 2#32
  let v121 : BitVec 32 := Scalar.muli arg29 c2_i32_91
  let c128_i32_92 : BitVec 32 := 128#32
  let v122 : BitVec 32 := Scalar.muli v121 c128_i32_92
  v122
def k0_off17 (k0_t3 : Fin k0_t3_loop.trips) : Fin 2 → Nat :=
  let c0_i32_59 : BitVec 32 := 0#32
  let c1_i32_61 : BitVec 32 := 1#32
  let arg29 : BitVec 32 := Scf.iv c0_i32_59 c1_i32_61 k0_t3
  let c128_i32_90 : BitVec 32 := 128#32
  let v119 : BitVec 32 := Scalar.muli arg29 c128_i32_90
  let v120 : BitVec 32 := v119
  let v124 : Index := Scalar.indexCast v120
  let c0_93 : Index := 0#32
  ![v124.toNat, 0]
def k0_off18 (k0_t3 : Fin k0_t3_loop.trips) (c0_i32_95 : BitVec 32) : Fin 3 → Nat :=
  let c0_96 : Index := 0#32
  let c0_i32_59 : BitVec 32 := 0#32
  let c1_i32_61 : BitVec 32 := 1#32
  let arg29 : BitVec 32 := Scf.iv c0_i32_59 c1_i32_61 k0_t3
  let c2_i32_91 : BitVec 32 := 2#32
  let v121 : BitVec 32 := Scalar.muli arg29 c2_i32_91
  let c128_i32_92 : BitVec 32 := 128#32
  let v122 : BitVec 32 := Scalar.muli v121 c128_i32_92
  let v123 : BitVec 32 := v122
  let v128 : BitVec 32 := Scalar.addi v123 c0_i32_95
  let v129 : Index := Scalar.indexCast v128
  let c0_97 : Index := 0#32
  ![0, v129.toNat, 0]
def k0_off19 (k0_t3 : Fin k0_t3_loop.trips) : Fin 2 → Nat :=
  let c0_i32_59 : BitVec 32 := 0#32
  let c1_i32_61 : BitVec 32 := 1#32
  let arg29 : BitVec 32 := Scf.iv c0_i32_59 c1_i32_61 k0_t3
  let c128_i32_90 : BitVec 32 := 128#32
  let v119 : BitVec 32 := Scalar.muli arg29 c128_i32_90
  let v120 : BitVec 32 := v119
  let v140 : Index := Scalar.indexCast v120
  let c128 : Index := 128#32
  ![v140.toNat, 128]
def k0_off20 (k0_t3 : Fin k0_t3_loop.trips) (c0_i32_103 : BitVec 32) : Fin 3 → Nat :=
  let c1 : Index := 1#32
  let c0_i32_59 : BitVec 32 := 0#32
  let c1_i32_61 : BitVec 32 := 1#32
  let arg29 : BitVec 32 := Scf.iv c0_i32_59 c1_i32_61 k0_t3
  let c2_i32_91 : BitVec 32 := 2#32
  let v121 : BitVec 32 := Scalar.muli arg29 c2_i32_91
  let c128_i32_92 : BitVec 32 := 128#32
  let v122 : BitVec 32 := Scalar.muli v121 c128_i32_92
  let v123 : BitVec 32 := v122
  let v144 : BitVec 32 := Scalar.addi v123 c0_i32_103
  let v145 : Index := Scalar.indexCast v144
  let c0_104 : Index := 0#32
  ![1, v145.toNat, 0]
def k0_off21 (k0_t3 : Fin k0_t3_loop.trips) : Fin 2 → Nat :=
  let c0_i32_59 : BitVec 32 := 0#32
  let c1_i32_61 : BitVec 32 := 1#32
  let arg29 : BitVec 32 := Scf.iv c0_i32_59 c1_i32_61 k0_t3
  let c128_i32_90 : BitVec 32 := 128#32
  let v119 : BitVec 32 := Scalar.muli arg29 c128_i32_90
  let v120 : BitVec 32 := v119
  let v156 : Index := Scalar.indexCast v120
  let c256 : Index := 256#32
  ![v156.toNat, 256]
def k0_off22 (k0_t3 : Fin k0_t3_loop.trips) (c0_i32_110 : BitVec 32) : Fin 3 → Nat :=
  let c2 : Index := 2#32
  let c0_i32_59 : BitVec 32 := 0#32
  let c1_i32_61 : BitVec 32 := 1#32
  let arg29 : BitVec 32 := Scf.iv c0_i32_59 c1_i32_61 k0_t3
  let c2_i32_91 : BitVec 32 := 2#32
  let v121 : BitVec 32 := Scalar.muli arg29 c2_i32_91
  let c128_i32_92 : BitVec 32 := 128#32
  let v122 : BitVec 32 := Scalar.muli v121 c128_i32_92
  let v123 : BitVec 32 := v122
  let v160 : BitVec 32 := Scalar.addi v123 c0_i32_110
  let v161 : Index := Scalar.indexCast v160
  let c0_111 : Index := 0#32
  ![2, v161.toNat, 0]
def k0_off23 (k0_t3 : Fin k0_t3_loop.trips) : Fin 2 → Nat :=
  let c0_i32_59 : BitVec 32 := 0#32
  let c1_i32_61 : BitVec 32 := 1#32
  let arg29 : BitVec 32 := Scf.iv c0_i32_59 c1_i32_61 k0_t3
  let c128_i32_90 : BitVec 32 := 128#32
  let v119 : BitVec 32 := Scalar.muli arg29 c128_i32_90
  let v120 : BitVec 32 := v119
  let v172 : Index := Scalar.indexCast v120
  let c384 : Index := 384#32
  ![v172.toNat, 384]
def k0_off24 (k0_t3 : Fin k0_t3_loop.trips) (c0_i32_117 : BitVec 32) : Fin 3 → Nat :=
  let c3 : Index := 3#32
  let c0_i32_59 : BitVec 32 := 0#32
  let c1_i32_61 : BitVec 32 := 1#32
  let arg29 : BitVec 32 := Scf.iv c0_i32_59 c1_i32_61 k0_t3
  let c2_i32_91 : BitVec 32 := 2#32
  let v121 : BitVec 32 := Scalar.muli arg29 c2_i32_91
  let c128_i32_92 : BitVec 32 := 128#32
  let v122 : BitVec 32 := Scalar.muli v121 c128_i32_92
  let v123 : BitVec 32 := v122
  let v176 : BitVec 32 := Scalar.addi v123 c0_i32_117
  let v177 : Index := Scalar.indexCast v176
  let c0_118 : Index := 0#32
  ![3, v177.toNat, 0]
@[reducible] def k0_t4_loop : Scf.Loop 32 :=
  let c0_i32_71 : BitVec 32 := 0#32
  let c16_i32_72 : BitVec 32 := 16#32
  let v104 : BitVec 32 := Scalar.addi c0_i32_71 c16_i32_72
  let c1_i32_73 : BitVec 32 := 1#32
  ⟨c0_i32_71, v104, c1_i32_73⟩
@[reducible] def k0_t5_loop (k0_t4 : Fin k0_t4_loop.trips) : Scf.Loop 32 :=
  let c0_i32_91 : BitVec 32 := 0#32
  let c0_i32_71 : BitVec 32 := 0#32
  let c1_i32_73 : BitVec 32 := 1#32
  let arg29 : BitVec 32 := Scf.iv c0_i32_71 c1_i32_73 k0_t4
  let c1_i32_90 : BitVec 32 := 1#32
  let v119 : BitVec 32 := Scalar.addi arg29 c1_i32_90
  let v120 : BitVec 32 := Scalar.subi v119 c0_i32_91
  let c1_i32_92 : BitVec 32 := 1#32
  let v122 : BitVec 32 := Scalar.divsi v120 c1_i32_92
  let v123 : BitVec 32 := Scalar.muli v122 c1_i32_92
  let v124 : BitVec 32 := Scalar.addi c0_i32_91 v123
  let c1_i32_93 : BitVec 32 := 1#32
  ⟨c0_i32_91, v124, c1_i32_93⟩
def k0_mult7 (k0_t4 : Fin k0_t4_loop.trips) (k0_t5 : Fin (k0_t5_loop k0_t4).trips) : BitVec 32 :=
  let c0_i32_91 : BitVec 32 := 0#32
  let c1_i32_93 : BitVec 32 := 1#32
  let arg36 : BitVec 32 := Scf.iv c0_i32_91 c1_i32_93 k0_t5
  let c0_i32_95 : BitVec 32 := 0#32
  let v127 : BitVec 32 := Scalar.maxsi arg36 c0_i32_95
  let c128_i32_96 : BitVec 32 := 128#32
  let v128 : BitVec 32 := Scalar.muli v127 c128_i32_96
  v128
def k0_mult8 (arg37 : BitVec 32) : BitVec 32 :=
  let c0_i32_97 : BitVec 32 := 0#32
  let v130 : BitVec 32 := Scalar.maxsi arg37 c0_i32_97
  let c128_i32_98 : BitVec 32 := 128#32
  let v131 : BitVec 32 := Scalar.muli v130 c128_i32_98
  v131

def k0_mult9 (arg38 : BitVec 32) : BitVec 32 :=
  let c0_i32_99 : BitVec 32 := 0#32
  let v133 : BitVec 32 := Scalar.maxsi arg38 c0_i32_99
  let c128_i32_100 : BitVec 32 := 128#32
  let v134 : BitVec 32 := Scalar.muli v133 c128_i32_100
  v134

def k0_mult10 (arg40 : BitVec 32) : BitVec 32 :=
  let c0_i32_101 : BitVec 32 := 0#32
  let v136 : BitVec 32 := Scalar.maxsi arg40 c0_i32_101
  let c128_i32_102 : BitVec 32 := 128#32
  let v137 : BitVec 32 := Scalar.muli v136 c128_i32_102
  v137

def k0_mult11 (arg41 : BitVec 32) : BitVec 32 :=
  let c0_i32_103 : BitVec 32 := 0#32
  let v139 : BitVec 32 := Scalar.maxsi arg41 c0_i32_103
  let c128_i32_104 : BitVec 32 := 128#32
  let v140 : BitVec 32 := Scalar.muli v139 c128_i32_104
  v140

def k0_mult12 (arg42 : BitVec 32) : BitVec 32 :=
  let c0_i32_105 : BitVec 32 := 0#32
  let v142 : BitVec 32 := Scalar.maxsi arg42 c0_i32_105
  let c128_i32_106 : BitVec 32 := 128#32
  let v143 : BitVec 32 := Scalar.muli v142 c128_i32_106
  v143

def k0_mult13 (k0_t4 : Fin k0_t4_loop.trips) : BitVec 32 :=
  let c0_i32_71 : BitVec 32 := 0#32
  let c1_i32_73 : BitVec 32 := 1#32
  let arg29 : BitVec 32 := Scf.iv c0_i32_71 c1_i32_73 k0_t4
  let c0_i32_107 : BitVec 32 := 0#32
  let v145 : BitVec 32 := Scalar.maxsi arg29 c0_i32_107
  let c2_i32_108 : BitVec 32 := 2#32
  let v146 : BitVec 32 := Scalar.muli v145 c2_i32_108
  let c128_i32_109 : BitVec 32 := 128#32
  let v147 : BitVec 32 := Scalar.muli v146 c128_i32_109
  v147
def k0_mult14 (arg37 : BitVec 32) : BitVec 32 :=
  let c0_i32_110 : BitVec 32 := 0#32
  let v149 : BitVec 32 := Scalar.maxsi arg37 c0_i32_110
  let c2_i32_111 : BitVec 32 := 2#32
  let v150 : BitVec 32 := Scalar.muli v149 c2_i32_111
  let c128_i32_112 : BitVec 32 := 128#32
  let v151 : BitVec 32 := Scalar.muli v150 c128_i32_112
  v151
def k0_mult15 (arg39 : BitVec 32) : BitVec 32 :=
  let c0_i32_113 : BitVec 32 := 0#32
  let v153 : BitVec 32 := Scalar.maxsi arg39 c0_i32_113
  let c2_i32_114 : BitVec 32 := 2#32
  let v154 : BitVec 32 := Scalar.muli v153 c2_i32_114
  let c128_i32_115 : BitVec 32 := 128#32
  let v155 : BitVec 32 := Scalar.muli v154 c128_i32_115
  v155

def k0_mult16 (arg41 : BitVec 32) : BitVec 32 :=
  let c0_i32_116 : BitVec 32 := 0#32
  let v157 : BitVec 32 := Scalar.maxsi arg41 c0_i32_116
  let c2_i32_117 : BitVec 32 := 2#32
  let v158 : BitVec 32 := Scalar.muli v157 c2_i32_117
  let c128_i32_118 : BitVec 32 := 128#32
  let v159 : BitVec 32 := Scalar.muli v158 c128_i32_118
  v159
def k0_mult17 (arg42 : BitVec 32) : BitVec 32 :=
  let c0_i32_119 : BitVec 32 := 0#32
  let v161 : BitVec 32 := Scalar.maxsi arg42 c0_i32_119
  let c2_i32_120 : BitVec 32 := 2#32
  let v162 : BitVec 32 := Scalar.muli v161 c2_i32_120
  let c128_i32_121 : BitVec 32 := 128#32
  let v163 : BitVec 32 := Scalar.muli v162 c128_i32_121
  v163
def k0_off25 (arg37 : BitVec 32) : Fin 2 → Nat :=
  let c0_i32_97 : BitVec 32 := 0#32
  let v130 : BitVec 32 := Scalar.maxsi arg37 c0_i32_97
  let c128_i32_98 : BitVec 32 := 128#32
  let v131 : BitVec 32 := Scalar.muli v130 c128_i32_98
  let v132 : BitVec 32 := v131
  let v175 : Index := Scalar.indexCast v132
  let c0_125 : Index := 0#32
  ![v175.toNat, 0]
def k0_off26 (k0_t4 : Fin k0_t4_loop.trips) (k0_t5 : Fin (k0_t5_loop k0_t4).trips) : Fin 2 → Nat :=
  let c0_i32_91 : BitVec 32 := 0#32
  let c1_i32_93 : BitVec 32 := 1#32
  let arg36 : BitVec 32 := Scf.iv c0_i32_91 c1_i32_93 k0_t5
  let c0_i32_95 : BitVec 32 := 0#32
  let v127 : BitVec 32 := Scalar.maxsi arg36 c0_i32_95
  let c128_i32_96 : BitVec 32 := 128#32
  let v128 : BitVec 32 := Scalar.muli v127 c128_i32_96
  let v129 : BitVec 32 := v128
  let v178 : Index := Scalar.indexCast v129
  let c0_127 : Index := 0#32
  ![v178.toNat, 0]
def k0_off27 (arg38 : BitVec 32) : Fin 2 → Nat :=
  let c0_i32_99 : BitVec 32 := 0#32
  let v133 : BitVec 32 := Scalar.maxsi arg38 c0_i32_99
  let c128_i32_100 : BitVec 32 := 128#32
  let v134 : BitVec 32 := Scalar.muli v133 c128_i32_100
  let v135 : BitVec 32 := v134
  let v180 : Index := Scalar.indexCast v135
  let c0_128 : Index := 0#32
  ![v180.toNat, 0]
def k0_off28 (arg41 : BitVec 32) : Fin 2 → Nat :=
  let c0_i32_103 : BitVec 32 := 0#32
  let v139 : BitVec 32 := Scalar.maxsi arg41 c0_i32_103
  let c128_i32_104 : BitVec 32 := 128#32
  let v140 : BitVec 32 := Scalar.muli v139 c128_i32_104
  let v141 : BitVec 32 := v140
  let v182 : Index := Scalar.indexCast v141
  let c0_129 : Index := 0#32
  ![v182.toNat, 0]
def k0_off29 (arg42 : BitVec 32) : Fin 3 → Nat :=
  let c0_133 : Index := 0#32
  let c0_i32_119 : BitVec 32 := 0#32
  let v161 : BitVec 32 := Scalar.maxsi arg42 c0_i32_119
  let c2_i32_120 : BitVec 32 := 2#32
  let v162 : BitVec 32 := Scalar.muli v161 c2_i32_120
  let c128_i32_121 : BitVec 32 := 128#32
  let v163 : BitVec 32 := Scalar.muli v162 c128_i32_121
  let v164 : BitVec 32 := v163
  let v186 : Index := Scalar.indexCast v164
  let c0_134 : Index := 0#32
  ![0, v186.toNat, 0]
def k0_off30 (arg42 : BitVec 32) : Fin 2 → Nat :=
  let c0_i32_105 : BitVec 32 := 0#32
  let v142 : BitVec 32 := Scalar.maxsi arg42 c0_i32_105
  let c128_i32_106 : BitVec 32 := 128#32
  let v143 : BitVec 32 := Scalar.muli v142 c128_i32_106
  let v144 : BitVec 32 := v143
  let v195 : Index := Scalar.indexCast v144
  let c0_137 : Index := 0#32
  ![v195.toNat, 0]
def k0_off31 (arg41 : BitVec 32) : Fin 3 → Nat :=
  let c0_141 : Index := 0#32
  let c0_i32_116 : BitVec 32 := 0#32
  let v157 : BitVec 32 := Scalar.maxsi arg41 c0_i32_116
  let c2_i32_117 : BitVec 32 := 2#32
  let v158 : BitVec 32 := Scalar.muli v157 c2_i32_117
  let c128_i32_118 : BitVec 32 := 128#32
  let v159 : BitVec 32 := Scalar.muli v158 c128_i32_118
  let v160 : BitVec 32 := v159
  let v199 : Index := Scalar.indexCast v160
  let c0_142 : Index := 0#32
  ![0, v199.toNat, 0]
def k0_off32 (arg40 : BitVec 32) : Fin 2 → Nat :=
  let c0_i32_101 : BitVec 32 := 0#32
  let v136 : BitVec 32 := Scalar.maxsi arg40 c0_i32_101
  let c128_i32_102 : BitVec 32 := 128#32
  let v137 : BitVec 32 := Scalar.muli v136 c128_i32_102
  let v138 : BitVec 32 := v137
  let v208 : Index := Scalar.indexCast v138
  let c0_145 : Index := 0#32
  ![v208.toNat, 0]
def k0_off33 (arg39 : BitVec 32) : Fin 3 → Nat :=
  let c0_149 : Index := 0#32
  let c0_i32_113 : BitVec 32 := 0#32
  let v153 : BitVec 32 := Scalar.maxsi arg39 c0_i32_113
  let c2_i32_114 : BitVec 32 := 2#32
  let v154 : BitVec 32 := Scalar.muli v153 c2_i32_114
  let c128_i32_115 : BitVec 32 := 128#32
  let v155 : BitVec 32 := Scalar.muli v154 c128_i32_115
  let v156 : BitVec 32 := v155
  let v212 : Index := Scalar.indexCast v156
  let c0_150 : Index := 0#32
  ![0, v212.toNat, 0]
def k0_off34 (arg37 : BitVec 32) (c0_i32_186 : BitVec 32) : Fin 3 → Nat :=
  let c0_187 : Index := 0#32
  let c0_i32_110 : BitVec 32 := 0#32
  let v149 : BitVec 32 := Scalar.maxsi arg37 c0_i32_110
  let c2_i32_111 : BitVec 32 := 2#32
  let v150 : BitVec 32 := Scalar.muli v149 c2_i32_111
  let c128_i32_112 : BitVec 32 := 128#32
  let v151 : BitVec 32 := Scalar.muli v150 c128_i32_112
  let v152 : BitVec 32 := v151
  let v264 : BitVec 32 := Scalar.addi v152 c0_i32_186
  let v265 : Index := Scalar.indexCast v264
  let c0_188 : Index := 0#32
  ![0, v265.toNat, 0]
def k0_off35 (k0_t4 : Fin k0_t4_loop.trips) (c0_i32_205 : BitVec 32) : Fin 3 → Nat :=
  let c0_206 : Index := 0#32
  let c0_i32_71 : BitVec 32 := 0#32
  let c1_i32_73 : BitVec 32 := 1#32
  let arg29 : BitVec 32 := Scf.iv c0_i32_71 c1_i32_73 k0_t4
  let c0_i32_107 : BitVec 32 := 0#32
  let v145 : BitVec 32 := Scalar.maxsi arg29 c0_i32_107
  let c2_i32_108 : BitVec 32 := 2#32
  let v146 : BitVec 32 := Scalar.muli v145 c2_i32_108
  let c128_i32_109 : BitVec 32 := 128#32
  let v147 : BitVec 32 := Scalar.muli v146 c128_i32_109
  let v148 : BitVec 32 := v147
  let v286 : BitVec 32 := Scalar.addi v148 c0_i32_205
  let v287 : Index := Scalar.indexCast v286
  let c0_207 : Index := 0#32
  ![0, v287.toNat, 0]
def k0_off36 (k0_t4 : Fin k0_t4_loop.trips) (k0_t5 : Fin (k0_t5_loop k0_t4).trips) : Fin 2 → Nat :=
  let c0_i32_91 : BitVec 32 := 0#32
  let c1_i32_93 : BitVec 32 := 1#32
  let arg36 : BitVec 32 := Scf.iv c0_i32_91 c1_i32_93 k0_t5
  let c0_i32_95 : BitVec 32 := 0#32
  let v127 : BitVec 32 := Scalar.maxsi arg36 c0_i32_95
  let c128_i32_96 : BitVec 32 := 128#32
  let v128 : BitVec 32 := Scalar.muli v127 c128_i32_96
  let v129 : BitVec 32 := v128
  let v407 : Index := Scalar.indexCast v129
  let c128_287 : Index := 128#32
  ![v407.toNat, 128]
def k0_off37 (arg38 : BitVec 32) : Fin 2 → Nat :=
  let c0_i32_99 : BitVec 32 := 0#32
  let v133 : BitVec 32 := Scalar.maxsi arg38 c0_i32_99
  let c128_i32_100 : BitVec 32 := 128#32
  let v134 : BitVec 32 := Scalar.muli v133 c128_i32_100
  let v135 : BitVec 32 := v134
  let v409 : Index := Scalar.indexCast v135
  let c128_288 : Index := 128#32
  ![v409.toNat, 128]
def k0_off38 (arg41 : BitVec 32) : Fin 2 → Nat :=
  let c0_i32_103 : BitVec 32 := 0#32
  let v139 : BitVec 32 := Scalar.maxsi arg41 c0_i32_103
  let c128_i32_104 : BitVec 32 := 128#32
  let v140 : BitVec 32 := Scalar.muli v139 c128_i32_104
  let v141 : BitVec 32 := v140
  let v411 : Index := Scalar.indexCast v141
  let c128_289 : Index := 128#32
  ![v411.toNat, 128]
def k0_off39 (arg42 : BitVec 32) : Fin 3 → Nat :=
  let c1_293 : Index := 1#32
  let c0_i32_119 : BitVec 32 := 0#32
  let v161 : BitVec 32 := Scalar.maxsi arg42 c0_i32_119
  let c2_i32_120 : BitVec 32 := 2#32
  let v162 : BitVec 32 := Scalar.muli v161 c2_i32_120
  let c128_i32_121 : BitVec 32 := 128#32
  let v163 : BitVec 32 := Scalar.muli v162 c128_i32_121
  let v164 : BitVec 32 := v163
  let v415 : Index := Scalar.indexCast v164
  let c0_294 : Index := 0#32
  ![1, v415.toNat, 0]
def k0_off40 (arg42 : BitVec 32) : Fin 2 → Nat :=
  let c0_i32_105 : BitVec 32 := 0#32
  let v142 : BitVec 32 := Scalar.maxsi arg42 c0_i32_105
  let c128_i32_106 : BitVec 32 := 128#32
  let v143 : BitVec 32 := Scalar.muli v142 c128_i32_106
  let v144 : BitVec 32 := v143
  let v424 : Index := Scalar.indexCast v144
  let c128_297 : Index := 128#32
  ![v424.toNat, 128]
def k0_off41 (arg41 : BitVec 32) : Fin 3 → Nat :=
  let c1_301 : Index := 1#32
  let c0_i32_116 : BitVec 32 := 0#32
  let v157 : BitVec 32 := Scalar.maxsi arg41 c0_i32_116
  let c2_i32_117 : BitVec 32 := 2#32
  let v158 : BitVec 32 := Scalar.muli v157 c2_i32_117
  let c128_i32_118 : BitVec 32 := 128#32
  let v159 : BitVec 32 := Scalar.muli v158 c128_i32_118
  let v160 : BitVec 32 := v159
  let v428 : Index := Scalar.indexCast v160
  let c0_302 : Index := 0#32
  ![1, v428.toNat, 0]
def k0_off42 (arg40 : BitVec 32) : Fin 2 → Nat :=
  let c0_i32_101 : BitVec 32 := 0#32
  let v136 : BitVec 32 := Scalar.maxsi arg40 c0_i32_101
  let c128_i32_102 : BitVec 32 := 128#32
  let v137 : BitVec 32 := Scalar.muli v136 c128_i32_102
  let v138 : BitVec 32 := v137
  let v437 : Index := Scalar.indexCast v138
  let c128_305 : Index := 128#32
  ![v437.toNat, 128]
def k0_off43 (arg39 : BitVec 32) : Fin 3 → Nat :=
  let c1_309 : Index := 1#32
  let c0_i32_113 : BitVec 32 := 0#32
  let v153 : BitVec 32 := Scalar.maxsi arg39 c0_i32_113
  let c2_i32_114 : BitVec 32 := 2#32
  let v154 : BitVec 32 := Scalar.muli v153 c2_i32_114
  let c128_i32_115 : BitVec 32 := 128#32
  let v155 : BitVec 32 := Scalar.muli v154 c128_i32_115
  let v156 : BitVec 32 := v155
  let v441 : Index := Scalar.indexCast v156
  let c0_310 : Index := 0#32
  ![1, v441.toNat, 0]
def k0_off44 (arg37 : BitVec 32) (c0_i32_344 : BitVec 32) : Fin 3 → Nat :=
  let c1_345 : Index := 1#32
  let c0_i32_110 : BitVec 32 := 0#32
  let v149 : BitVec 32 := Scalar.maxsi arg37 c0_i32_110
  let c2_i32_111 : BitVec 32 := 2#32
  let v150 : BitVec 32 := Scalar.muli v149 c2_i32_111
  let c128_i32_112 : BitVec 32 := 128#32
  let v151 : BitVec 32 := Scalar.muli v150 c128_i32_112
  let v152 : BitVec 32 := v151
  let v493 : BitVec 32 := Scalar.addi v152 c0_i32_344
  let v494 : Index := Scalar.indexCast v493
  let c0_346 : Index := 0#32
  ![1, v494.toNat, 0]
def k0_off45 (k0_t4 : Fin k0_t4_loop.trips) (c0_i32_363 : BitVec 32) : Fin 3 → Nat :=
  let c1_364 : Index := 1#32
  let c0_i32_71 : BitVec 32 := 0#32
  let c1_i32_73 : BitVec 32 := 1#32
  let arg29 : BitVec 32 := Scf.iv c0_i32_71 c1_i32_73 k0_t4
  let c0_i32_107 : BitVec 32 := 0#32
  let v145 : BitVec 32 := Scalar.maxsi arg29 c0_i32_107
  let c2_i32_108 : BitVec 32 := 2#32
  let v146 : BitVec 32 := Scalar.muli v145 c2_i32_108
  let c128_i32_109 : BitVec 32 := 128#32
  let v147 : BitVec 32 := Scalar.muli v146 c128_i32_109
  let v148 : BitVec 32 := v147
  let v515 : BitVec 32 := Scalar.addi v148 c0_i32_363
  let v516 : Index := Scalar.indexCast v515
  let c0_365 : Index := 0#32
  ![1, v516.toNat, 0]
def k0_off46 (k0_t4 : Fin k0_t4_loop.trips) (k0_t5 : Fin (k0_t5_loop k0_t4).trips) : Fin 2 → Nat :=
  let c0_i32_91 : BitVec 32 := 0#32
  let c1_i32_93 : BitVec 32 := 1#32
  let arg36 : BitVec 32 := Scf.iv c0_i32_91 c1_i32_93 k0_t5
  let c0_i32_95 : BitVec 32 := 0#32
  let v127 : BitVec 32 := Scalar.maxsi arg36 c0_i32_95
  let c128_i32_96 : BitVec 32 := 128#32
  let v128 : BitVec 32 := Scalar.muli v127 c128_i32_96
  let v129 : BitVec 32 := v128
  let v636 : Index := Scalar.indexCast v129
  let c256 : Index := 256#32
  ![v636.toNat, 256]
def k0_off47 (arg38 : BitVec 32) : Fin 2 → Nat :=
  let c0_i32_99 : BitVec 32 := 0#32
  let v133 : BitVec 32 := Scalar.maxsi arg38 c0_i32_99
  let c128_i32_100 : BitVec 32 := 128#32
  let v134 : BitVec 32 := Scalar.muli v133 c128_i32_100
  let v135 : BitVec 32 := v134
  let v638 : Index := Scalar.indexCast v135
  let c256_445 : Index := 256#32
  ![v638.toNat, 256]
def k0_off48 (arg41 : BitVec 32) : Fin 2 → Nat :=
  let c0_i32_103 : BitVec 32 := 0#32
  let v139 : BitVec 32 := Scalar.maxsi arg41 c0_i32_103
  let c128_i32_104 : BitVec 32 := 128#32
  let v140 : BitVec 32 := Scalar.muli v139 c128_i32_104
  let v141 : BitVec 32 := v140
  let v640 : Index := Scalar.indexCast v141
  let c256_446 : Index := 256#32
  ![v640.toNat, 256]
def k0_off49 (arg42 : BitVec 32) : Fin 3 → Nat :=
  let c2_450 : Index := 2#32
  let c0_i32_119 : BitVec 32 := 0#32
  let v161 : BitVec 32 := Scalar.maxsi arg42 c0_i32_119
  let c2_i32_120 : BitVec 32 := 2#32
  let v162 : BitVec 32 := Scalar.muli v161 c2_i32_120
  let c128_i32_121 : BitVec 32 := 128#32
  let v163 : BitVec 32 := Scalar.muli v162 c128_i32_121
  let v164 : BitVec 32 := v163
  let v644 : Index := Scalar.indexCast v164
  let c0_451 : Index := 0#32
  ![2, v644.toNat, 0]
def k0_off50 (arg42 : BitVec 32) : Fin 2 → Nat :=
  let c0_i32_105 : BitVec 32 := 0#32
  let v142 : BitVec 32 := Scalar.maxsi arg42 c0_i32_105
  let c128_i32_106 : BitVec 32 := 128#32
  let v143 : BitVec 32 := Scalar.muli v142 c128_i32_106
  let v144 : BitVec 32 := v143
  let v653 : Index := Scalar.indexCast v144
  let c256_454 : Index := 256#32
  ![v653.toNat, 256]
def k0_off51 (arg41 : BitVec 32) : Fin 3 → Nat :=
  let c2_458 : Index := 2#32
  let c0_i32_116 : BitVec 32 := 0#32
  let v157 : BitVec 32 := Scalar.maxsi arg41 c0_i32_116
  let c2_i32_117 : BitVec 32 := 2#32
  let v158 : BitVec 32 := Scalar.muli v157 c2_i32_117
  let c128_i32_118 : BitVec 32 := 128#32
  let v159 : BitVec 32 := Scalar.muli v158 c128_i32_118
  let v160 : BitVec 32 := v159
  let v657 : Index := Scalar.indexCast v160
  let c0_459 : Index := 0#32
  ![2, v657.toNat, 0]
def k0_off52 (arg40 : BitVec 32) : Fin 2 → Nat :=
  let c0_i32_101 : BitVec 32 := 0#32
  let v136 : BitVec 32 := Scalar.maxsi arg40 c0_i32_101
  let c128_i32_102 : BitVec 32 := 128#32
  let v137 : BitVec 32 := Scalar.muli v136 c128_i32_102
  let v138 : BitVec 32 := v137
  let v666 : Index := Scalar.indexCast v138
  let c256_462 : Index := 256#32
  ![v666.toNat, 256]
def k0_off53 (arg39 : BitVec 32) : Fin 3 → Nat :=
  let c2_466 : Index := 2#32
  let c0_i32_113 : BitVec 32 := 0#32
  let v153 : BitVec 32 := Scalar.maxsi arg39 c0_i32_113
  let c2_i32_114 : BitVec 32 := 2#32
  let v154 : BitVec 32 := Scalar.muli v153 c2_i32_114
  let c128_i32_115 : BitVec 32 := 128#32
  let v155 : BitVec 32 := Scalar.muli v154 c128_i32_115
  let v156 : BitVec 32 := v155
  let v670 : Index := Scalar.indexCast v156
  let c0_467 : Index := 0#32
  ![2, v670.toNat, 0]
def k0_off54 (arg37 : BitVec 32) (c0_i32_502 : BitVec 32) : Fin 3 → Nat :=
  let c2_503 : Index := 2#32
  let c0_i32_110 : BitVec 32 := 0#32
  let v149 : BitVec 32 := Scalar.maxsi arg37 c0_i32_110
  let c2_i32_111 : BitVec 32 := 2#32
  let v150 : BitVec 32 := Scalar.muli v149 c2_i32_111
  let c128_i32_112 : BitVec 32 := 128#32
  let v151 : BitVec 32 := Scalar.muli v150 c128_i32_112
  let v152 : BitVec 32 := v151
  let v722 : BitVec 32 := Scalar.addi v152 c0_i32_502
  let v723 : Index := Scalar.indexCast v722
  let c0_504 : Index := 0#32
  ![2, v723.toNat, 0]
def k0_off55 (k0_t4 : Fin k0_t4_loop.trips) (c0_i32_521 : BitVec 32) : Fin 3 → Nat :=
  let c2_522 : Index := 2#32
  let c0_i32_71 : BitVec 32 := 0#32
  let c1_i32_73 : BitVec 32 := 1#32
  let arg29 : BitVec 32 := Scf.iv c0_i32_71 c1_i32_73 k0_t4
  let c0_i32_107 : BitVec 32 := 0#32
  let v145 : BitVec 32 := Scalar.maxsi arg29 c0_i32_107
  let c2_i32_108 : BitVec 32 := 2#32
  let v146 : BitVec 32 := Scalar.muli v145 c2_i32_108
  let c128_i32_109 : BitVec 32 := 128#32
  let v147 : BitVec 32 := Scalar.muli v146 c128_i32_109
  let v148 : BitVec 32 := v147
  let v744 : BitVec 32 := Scalar.addi v148 c0_i32_521
  let v745 : Index := Scalar.indexCast v744
  let c0_523 : Index := 0#32
  ![2, v745.toNat, 0]
def k0_off56 (k0_t4 : Fin k0_t4_loop.trips) (k0_t5 : Fin (k0_t5_loop k0_t4).trips) : Fin 2 → Nat :=
  let c0_i32_91 : BitVec 32 := 0#32
  let c1_i32_93 : BitVec 32 := 1#32
  let arg36 : BitVec 32 := Scf.iv c0_i32_91 c1_i32_93 k0_t5
  let c0_i32_95 : BitVec 32 := 0#32
  let v127 : BitVec 32 := Scalar.maxsi arg36 c0_i32_95
  let c128_i32_96 : BitVec 32 := 128#32
  let v128 : BitVec 32 := Scalar.muli v127 c128_i32_96
  let v129 : BitVec 32 := v128
  let v865 : Index := Scalar.indexCast v129
  let c384 : Index := 384#32
  ![v865.toNat, 384]
def k0_off57 (arg38 : BitVec 32) : Fin 2 → Nat :=
  let c0_i32_99 : BitVec 32 := 0#32
  let v133 : BitVec 32 := Scalar.maxsi arg38 c0_i32_99
  let c128_i32_100 : BitVec 32 := 128#32
  let v134 : BitVec 32 := Scalar.muli v133 c128_i32_100
  let v135 : BitVec 32 := v134
  let v867 : Index := Scalar.indexCast v135
  let c384_603 : Index := 384#32
  ![v867.toNat, 384]

def k0_chk2 (arg38 : BitVec 32) : Prop :=
  (128 ∣ (k0_mult9 arg38).toNat) ∧
  (∀ a, (k0_off27 arg38) a + S128x128.size a ≤ S2048x512.size a) ∧
  (∀ a, (k0_off37 arg38) a + S128x128.size a ≤ S2048x512.size a) ∧
  (∀ a, (k0_off47 arg38) a + S128x128.size a ≤ S2048x512.size a) ∧
  (∀ a, (k0_off57 arg38) a + S128x128.size a ≤ S2048x512.size a)
theorem k0_mult9_dvd : ∀ (arg38 : BitVec 32) (k0_hw2 : k0_chk2 arg38), 128 ∣ (k0_mult9 arg38).toNat := fun arg38 k0_hw2 => k0_hw2.1
theorem k0_off27_inb : ∀ (arg38 : BitVec 32) (k0_hw2 : k0_chk2 arg38), ∀ a, (k0_off27 arg38) a + S128x128.size a ≤ S2048x512.size a := fun arg38 k0_hw2 => k0_hw2.2.1
theorem k0_off37_inb : ∀ (arg38 : BitVec 32) (k0_hw2 : k0_chk2 arg38), ∀ a, (k0_off37 arg38) a + S128x128.size a ≤ S2048x512.size a := fun arg38 k0_hw2 => k0_hw2.2.2.1
theorem k0_off47_inb : ∀ (arg38 : BitVec 32) (k0_hw2 : k0_chk2 arg38), ∀ a, (k0_off47 arg38) a + S128x128.size a ≤ S2048x512.size a := fun arg38 k0_hw2 => k0_hw2.2.2.2.1
theorem k0_off57_inb : ∀ (arg38 : BitVec 32) (k0_hw2 : k0_chk2 arg38), ∀ a, (k0_off57 arg38) a + S128x128.size a ≤ S2048x512.size a := fun arg38 k0_hw2 => k0_hw2.2.2.2.2

def k0_off58 (arg41 : BitVec 32) : Fin 2 → Nat :=
  let c0_i32_103 : BitVec 32 := 0#32
  let v139 : BitVec 32 := Scalar.maxsi arg41 c0_i32_103
  let c128_i32_104 : BitVec 32 := 128#32
  let v140 : BitVec 32 := Scalar.muli v139 c128_i32_104
  let v141 : BitVec 32 := v140
  let v869 : Index := Scalar.indexCast v141
  let c384_604 : Index := 384#32
  ![v869.toNat, 384]
def k0_off59 (arg42 : BitVec 32) : Fin 3 → Nat :=
  let c3_608 : Index := 3#32
  let c0_i32_119 : BitVec 32 := 0#32
  let v161 : BitVec 32 := Scalar.maxsi arg42 c0_i32_119
  let c2_i32_120 : BitVec 32 := 2#32
  let v162 : BitVec 32 := Scalar.muli v161 c2_i32_120
  let c128_i32_121 : BitVec 32 := 128#32
  let v163 : BitVec 32 := Scalar.muli v162 c128_i32_121
  let v164 : BitVec 32 := v163
  let v873 : Index := Scalar.indexCast v164
  let c0_609 : Index := 0#32
  ![3, v873.toNat, 0]
def k0_off60 (arg42 : BitVec 32) : Fin 2 → Nat :=
  let c0_i32_105 : BitVec 32 := 0#32
  let v142 : BitVec 32 := Scalar.maxsi arg42 c0_i32_105
  let c128_i32_106 : BitVec 32 := 128#32
  let v143 : BitVec 32 := Scalar.muli v142 c128_i32_106
  let v144 : BitVec 32 := v143
  let v882 : Index := Scalar.indexCast v144
  let c384_612 : Index := 384#32
  ![v882.toNat, 384]

def k0_chk5 (arg42 : BitVec 32) : Prop :=
  (128 ∣ (k0_mult12 arg42).toNat) ∧
  (256 ∣ (k0_mult17 arg42).toNat) ∧
  (∀ a, (k0_off29 arg42) a + S1x256x128.size a ≤ S4x4096x128.size a) ∧
  (∀ a, (k0_off30 arg42) a + S128x128.size a ≤ S2048x512.size a) ∧
  (∀ a, (k0_off39 arg42) a + S1x256x128.size a ≤ S4x4096x128.size a) ∧
  (∀ a, (k0_off40 arg42) a + S128x128.size a ≤ S2048x512.size a) ∧
  (∀ a, (k0_off49 arg42) a + S1x256x128.size a ≤ S4x4096x128.size a) ∧
  (∀ a, (k0_off50 arg42) a + S128x128.size a ≤ S2048x512.size a) ∧
  (∀ a, (k0_off59 arg42) a + S1x256x128.size a ≤ S4x4096x128.size a) ∧
  (∀ a, (k0_off60 arg42) a + S128x128.size a ≤ S2048x512.size a)
theorem k0_mult12_dvd : ∀ (arg42 : BitVec 32) (k0_hw5 : k0_chk5 arg42), 128 ∣ (k0_mult12 arg42).toNat := fun arg42 k0_hw5 => k0_hw5.1
theorem k0_mult17_dvd : ∀ (arg42 : BitVec 32) (k0_hw5 : k0_chk5 arg42), 256 ∣ (k0_mult17 arg42).toNat := fun arg42 k0_hw5 => k0_hw5.2.1
theorem k0_off29_inb : ∀ (arg42 : BitVec 32) (k0_hw5 : k0_chk5 arg42), ∀ a, (k0_off29 arg42) a + S1x256x128.size a ≤ S4x4096x128.size a := fun arg42 k0_hw5 => k0_hw5.2.2.1
theorem k0_off30_inb : ∀ (arg42 : BitVec 32) (k0_hw5 : k0_chk5 arg42), ∀ a, (k0_off30 arg42) a + S128x128.size a ≤ S2048x512.size a := fun arg42 k0_hw5 => k0_hw5.2.2.2.1
theorem k0_off39_inb : ∀ (arg42 : BitVec 32) (k0_hw5 : k0_chk5 arg42), ∀ a, (k0_off39 arg42) a + S1x256x128.size a ≤ S4x4096x128.size a := fun arg42 k0_hw5 => k0_hw5.2.2.2.2.1
theorem k0_off40_inb : ∀ (arg42 : BitVec 32) (k0_hw5 : k0_chk5 arg42), ∀ a, (k0_off40 arg42) a + S128x128.size a ≤ S2048x512.size a := fun arg42 k0_hw5 => k0_hw5.2.2.2.2.2.1
theorem k0_off49_inb : ∀ (arg42 : BitVec 32) (k0_hw5 : k0_chk5 arg42), ∀ a, (k0_off49 arg42) a + S1x256x128.size a ≤ S4x4096x128.size a := fun arg42 k0_hw5 => k0_hw5.2.2.2.2.2.2.1
theorem k0_off50_inb : ∀ (arg42 : BitVec 32) (k0_hw5 : k0_chk5 arg42), ∀ a, (k0_off50 arg42) a + S128x128.size a ≤ S2048x512.size a := fun arg42 k0_hw5 => k0_hw5.2.2.2.2.2.2.2.1
theorem k0_off59_inb : ∀ (arg42 : BitVec 32) (k0_hw5 : k0_chk5 arg42), ∀ a, (k0_off59 arg42) a + S1x256x128.size a ≤ S4x4096x128.size a := fun arg42 k0_hw5 => k0_hw5.2.2.2.2.2.2.2.2.1
theorem k0_off60_inb : ∀ (arg42 : BitVec 32) (k0_hw5 : k0_chk5 arg42), ∀ a, (k0_off60 arg42) a + S128x128.size a ≤ S2048x512.size a := fun arg42 k0_hw5 => k0_hw5.2.2.2.2.2.2.2.2.2

def k0_off61 (arg41 : BitVec 32) : Fin 3 → Nat :=
  let c3_616 : Index := 3#32
  let c0_i32_116 : BitVec 32 := 0#32
  let v157 : BitVec 32 := Scalar.maxsi arg41 c0_i32_116
  let c2_i32_117 : BitVec 32 := 2#32
  let v158 : BitVec 32 := Scalar.muli v157 c2_i32_117
  let c128_i32_118 : BitVec 32 := 128#32
  let v159 : BitVec 32 := Scalar.muli v158 c128_i32_118
  let v160 : BitVec 32 := v159
  let v886 : Index := Scalar.indexCast v160
  let c0_617 : Index := 0#32
  ![3, v886.toNat, 0]

def k0_chk4 (arg41 : BitVec 32) : Prop :=
  (128 ∣ (k0_mult11 arg41).toNat) ∧
  (256 ∣ (k0_mult16 arg41).toNat) ∧
  (∀ a, (k0_off28 arg41) a + S128x128.size a ≤ S2048x512.size a) ∧
  (∀ a, (k0_off31 arg41) a + S1x256x128.size a ≤ S4x4096x128.size a) ∧
  (∀ a, (k0_off38 arg41) a + S128x128.size a ≤ S2048x512.size a) ∧
  (∀ a, (k0_off41 arg41) a + S1x256x128.size a ≤ S4x4096x128.size a) ∧
  (∀ a, (k0_off48 arg41) a + S128x128.size a ≤ S2048x512.size a) ∧
  (∀ a, (k0_off51 arg41) a + S1x256x128.size a ≤ S4x4096x128.size a) ∧
  (∀ a, (k0_off58 arg41) a + S128x128.size a ≤ S2048x512.size a) ∧
  (∀ a, (k0_off61 arg41) a + S1x256x128.size a ≤ S4x4096x128.size a)
theorem k0_mult11_dvd : ∀ (arg41 : BitVec 32) (k0_hw4 : k0_chk4 arg41), 128 ∣ (k0_mult11 arg41).toNat := fun arg41 k0_hw4 => k0_hw4.1
theorem k0_mult16_dvd : ∀ (arg41 : BitVec 32) (k0_hw4 : k0_chk4 arg41), 256 ∣ (k0_mult16 arg41).toNat := fun arg41 k0_hw4 => k0_hw4.2.1
theorem k0_off28_inb : ∀ (arg41 : BitVec 32) (k0_hw4 : k0_chk4 arg41), ∀ a, (k0_off28 arg41) a + S128x128.size a ≤ S2048x512.size a := fun arg41 k0_hw4 => k0_hw4.2.2.1
theorem k0_off31_inb : ∀ (arg41 : BitVec 32) (k0_hw4 : k0_chk4 arg41), ∀ a, (k0_off31 arg41) a + S1x256x128.size a ≤ S4x4096x128.size a := fun arg41 k0_hw4 => k0_hw4.2.2.2.1
theorem k0_off38_inb : ∀ (arg41 : BitVec 32) (k0_hw4 : k0_chk4 arg41), ∀ a, (k0_off38 arg41) a + S128x128.size a ≤ S2048x512.size a := fun arg41 k0_hw4 => k0_hw4.2.2.2.2.1
theorem k0_off41_inb : ∀ (arg41 : BitVec 32) (k0_hw4 : k0_chk4 arg41), ∀ a, (k0_off41 arg41) a + S1x256x128.size a ≤ S4x4096x128.size a := fun arg41 k0_hw4 => k0_hw4.2.2.2.2.2.1
theorem k0_off48_inb : ∀ (arg41 : BitVec 32) (k0_hw4 : k0_chk4 arg41), ∀ a, (k0_off48 arg41) a + S128x128.size a ≤ S2048x512.size a := fun arg41 k0_hw4 => k0_hw4.2.2.2.2.2.2.1
theorem k0_off51_inb : ∀ (arg41 : BitVec 32) (k0_hw4 : k0_chk4 arg41), ∀ a, (k0_off51 arg41) a + S1x256x128.size a ≤ S4x4096x128.size a := fun arg41 k0_hw4 => k0_hw4.2.2.2.2.2.2.2.1
theorem k0_off58_inb : ∀ (arg41 : BitVec 32) (k0_hw4 : k0_chk4 arg41), ∀ a, (k0_off58 arg41) a + S128x128.size a ≤ S2048x512.size a := fun arg41 k0_hw4 => k0_hw4.2.2.2.2.2.2.2.2.1
theorem k0_off61_inb : ∀ (arg41 : BitVec 32) (k0_hw4 : k0_chk4 arg41), ∀ a, (k0_off61 arg41) a + S1x256x128.size a ≤ S4x4096x128.size a := fun arg41 k0_hw4 => k0_hw4.2.2.2.2.2.2.2.2.2

def k0_off62 (arg40 : BitVec 32) : Fin 2 → Nat :=
  let c0_i32_101 : BitVec 32 := 0#32
  let v136 : BitVec 32 := Scalar.maxsi arg40 c0_i32_101
  let c128_i32_102 : BitVec 32 := 128#32
  let v137 : BitVec 32 := Scalar.muli v136 c128_i32_102
  let v138 : BitVec 32 := v137
  let v895 : Index := Scalar.indexCast v138
  let c384_620 : Index := 384#32
  ![v895.toNat, 384]

def k0_chk3 (arg40 : BitVec 32) : Prop :=
  (128 ∣ (k0_mult10 arg40).toNat) ∧
  (∀ a, (k0_off32 arg40) a + S128x128.size a ≤ S2048x512.size a) ∧
  (∀ a, (k0_off42 arg40) a + S128x128.size a ≤ S2048x512.size a) ∧
  (∀ a, (k0_off52 arg40) a + S128x128.size a ≤ S2048x512.size a) ∧
  (∀ a, (k0_off62 arg40) a + S128x128.size a ≤ S2048x512.size a)
theorem k0_mult10_dvd : ∀ (arg40 : BitVec 32) (k0_hw3 : k0_chk3 arg40), 128 ∣ (k0_mult10 arg40).toNat := fun arg40 k0_hw3 => k0_hw3.1
theorem k0_off32_inb : ∀ (arg40 : BitVec 32) (k0_hw3 : k0_chk3 arg40), ∀ a, (k0_off32 arg40) a + S128x128.size a ≤ S2048x512.size a := fun arg40 k0_hw3 => k0_hw3.2.1
theorem k0_off42_inb : ∀ (arg40 : BitVec 32) (k0_hw3 : k0_chk3 arg40), ∀ a, (k0_off42 arg40) a + S128x128.size a ≤ S2048x512.size a := fun arg40 k0_hw3 => k0_hw3.2.2.1
theorem k0_off52_inb : ∀ (arg40 : BitVec 32) (k0_hw3 : k0_chk3 arg40), ∀ a, (k0_off52 arg40) a + S128x128.size a ≤ S2048x512.size a := fun arg40 k0_hw3 => k0_hw3.2.2.2.1
theorem k0_off62_inb : ∀ (arg40 : BitVec 32) (k0_hw3 : k0_chk3 arg40), ∀ a, (k0_off62 arg40) a + S128x128.size a ≤ S2048x512.size a := fun arg40 k0_hw3 => k0_hw3.2.2.2.2

def k0_off63 (arg39 : BitVec 32) : Fin 3 → Nat :=
  let c3_624 : Index := 3#32
  let c0_i32_113 : BitVec 32 := 0#32
  let v153 : BitVec 32 := Scalar.maxsi arg39 c0_i32_113
  let c2_i32_114 : BitVec 32 := 2#32
  let v154 : BitVec 32 := Scalar.muli v153 c2_i32_114
  let c128_i32_115 : BitVec 32 := 128#32
  let v155 : BitVec 32 := Scalar.muli v154 c128_i32_115
  let v156 : BitVec 32 := v155
  let v899 : Index := Scalar.indexCast v156
  let c0_625 : Index := 0#32
  ![3, v899.toNat, 0]

def k0_chk6 (arg39 : BitVec 32) : Prop :=
  (256 ∣ (k0_mult15 arg39).toNat) ∧
  (∀ a, (k0_off33 arg39) a + S1x256x128.size a ≤ S4x4096x128.size a) ∧
  (∀ a, (k0_off43 arg39) a + S1x256x128.size a ≤ S4x4096x128.size a) ∧
  (∀ a, (k0_off53 arg39) a + S1x256x128.size a ≤ S4x4096x128.size a) ∧
  (∀ a, (k0_off63 arg39) a + S1x256x128.size a ≤ S4x4096x128.size a)
theorem k0_mult15_dvd : ∀ (arg39 : BitVec 32) (k0_hw6 : k0_chk6 arg39), 256 ∣ (k0_mult15 arg39).toNat := fun arg39 k0_hw6 => k0_hw6.1
theorem k0_off33_inb : ∀ (arg39 : BitVec 32) (k0_hw6 : k0_chk6 arg39), ∀ a, (k0_off33 arg39) a + S1x256x128.size a ≤ S4x4096x128.size a := fun arg39 k0_hw6 => k0_hw6.2.1
theorem k0_off43_inb : ∀ (arg39 : BitVec 32) (k0_hw6 : k0_chk6 arg39), ∀ a, (k0_off43 arg39) a + S1x256x128.size a ≤ S4x4096x128.size a := fun arg39 k0_hw6 => k0_hw6.2.2.1
theorem k0_off53_inb : ∀ (arg39 : BitVec 32) (k0_hw6 : k0_chk6 arg39), ∀ a, (k0_off53 arg39) a + S1x256x128.size a ≤ S4x4096x128.size a := fun arg39 k0_hw6 => k0_hw6.2.2.2.1
theorem k0_off63_inb : ∀ (arg39 : BitVec 32) (k0_hw6 : k0_chk6 arg39), ∀ a, (k0_off63 arg39) a + S1x256x128.size a ≤ S4x4096x128.size a := fun arg39 k0_hw6 => k0_hw6.2.2.2.2

def k0_off64 (arg37 : BitVec 32) (c0_i32_659 : BitVec 32) : Fin 3 → Nat :=
  let c3_660 : Index := 3#32
  let c0_i32_110 : BitVec 32 := 0#32
  let v149 : BitVec 32 := Scalar.maxsi arg37 c0_i32_110
  let c2_i32_111 : BitVec 32 := 2#32
  let v150 : BitVec 32 := Scalar.muli v149 c2_i32_111
  let c128_i32_112 : BitVec 32 := 128#32
  let v151 : BitVec 32 := Scalar.muli v150 c128_i32_112
  let v152 : BitVec 32 := v151
  let v951 : BitVec 32 := Scalar.addi v152 c0_i32_659
  let v952 : Index := Scalar.indexCast v951
  let c0_661 : Index := 0#32
  ![3, v952.toNat, 0]

def k0_chk1 (arg37 : BitVec 32) : Prop :=
  (128 ∣ (k0_mult8 arg37).toNat) ∧
  (256 ∣ (k0_mult14 arg37).toNat) ∧
  (∀ a, (k0_off25 arg37) a + S128x128.size a ≤ S2048x128.size a) ∧
  (∀ (r : Fin 2), ∀ a, (k0_off34 arg37 (BitVec.ofNat 32 (128 * r.val))) a + S1x128x128.size a ≤ S4x4096x128.size a) ∧
  (∀ (r : Fin 2), ∀ a, (k0_off44 arg37 (BitVec.ofNat 32 (128 * r.val))) a + S1x128x128.size a ≤ S4x4096x128.size a) ∧
  (∀ (r : Fin 2), ∀ a, (k0_off54 arg37 (BitVec.ofNat 32 (128 * r.val))) a + S1x128x128.size a ≤ S4x4096x128.size a) ∧
  (∀ (r : Fin 2), ∀ a, (k0_off64 arg37 (BitVec.ofNat 32 (128 * r.val))) a + S1x128x128.size a ≤ S4x4096x128.size a)
theorem k0_mult8_dvd : ∀ (arg37 : BitVec 32) (k0_hw1 : k0_chk1 arg37), 128 ∣ (k0_mult8 arg37).toNat := fun arg37 k0_hw1 => k0_hw1.1
theorem k0_mult14_dvd : ∀ (arg37 : BitVec 32) (k0_hw1 : k0_chk1 arg37), 256 ∣ (k0_mult14 arg37).toNat := fun arg37 k0_hw1 => k0_hw1.2.1
theorem k0_off25_inb : ∀ (arg37 : BitVec 32) (k0_hw1 : k0_chk1 arg37), ∀ a, (k0_off25 arg37) a + S128x128.size a ≤ S2048x128.size a := fun arg37 k0_hw1 => k0_hw1.2.2.1
theorem k0_off34_inb : ∀ (arg37 : BitVec 32) (k0_hw1 : k0_chk1 arg37), ∀ (r : Fin 2), ∀ a, (k0_off34 arg37 (BitVec.ofNat 32 (128 * r.val))) a + S1x128x128.size a ≤ S4x4096x128.size a := fun arg37 k0_hw1 r => k0_hw1.2.2.2.1 r
theorem k0_off44_inb : ∀ (arg37 : BitVec 32) (k0_hw1 : k0_chk1 arg37), ∀ (r : Fin 2), ∀ a, (k0_off44 arg37 (BitVec.ofNat 32 (128 * r.val))) a + S1x128x128.size a ≤ S4x4096x128.size a := fun arg37 k0_hw1 r => k0_hw1.2.2.2.2.1 r
theorem k0_off54_inb : ∀ (arg37 : BitVec 32) (k0_hw1 : k0_chk1 arg37), ∀ (r : Fin 2), ∀ a, (k0_off54 arg37 (BitVec.ofNat 32 (128 * r.val))) a + S1x128x128.size a ≤ S4x4096x128.size a := fun arg37 k0_hw1 r => k0_hw1.2.2.2.2.2.1 r
theorem k0_off64_inb : ∀ (arg37 : BitVec 32) (k0_hw1 : k0_chk1 arg37), ∀ (r : Fin 2), ∀ a, (k0_off64 arg37 (BitVec.ofNat 32 (128 * r.val))) a + S1x128x128.size a ≤ S4x4096x128.size a := fun arg37 k0_hw1 r => k0_hw1.2.2.2.2.2.2 r

def k0_off65 (k0_t4 : Fin k0_t4_loop.trips) (c0_i32_678 : BitVec 32) : Fin 3 → Nat :=
  let c3_679 : Index := 3#32
  let c0_i32_71 : BitVec 32 := 0#32
  let c1_i32_73 : BitVec 32 := 1#32
  let arg29 : BitVec 32 := Scf.iv c0_i32_71 c1_i32_73 k0_t4
  let c0_i32_107 : BitVec 32 := 0#32
  let v145 : BitVec 32 := Scalar.maxsi arg29 c0_i32_107
  let c2_i32_108 : BitVec 32 := 2#32
  let v146 : BitVec 32 := Scalar.muli v145 c2_i32_108
  let c128_i32_109 : BitVec 32 := 128#32
  let v147 : BitVec 32 := Scalar.muli v146 c128_i32_109
  let v148 : BitVec 32 := v147
  let v973 : BitVec 32 := Scalar.addi v148 c0_i32_678
  let v974 : Index := Scalar.indexCast v973
  let c0_680 : Index := 0#32
  ![3, v974.toNat, 0]
@[reducible] def k0_t6_loop (k0_t4 : Fin k0_t4_loop.trips) : Scf.Loop 32 :=
  let c0_i32_91 : BitVec 32 := 0#32
  let c0_i32_71 : BitVec 32 := 0#32
  let c1_i32_73 : BitVec 32 := 1#32
  let arg29 : BitVec 32 := Scf.iv c0_i32_71 c1_i32_73 k0_t4
  let c1_i32_90 : BitVec 32 := 1#32
  let v119 : BitVec 32 := Scalar.addi arg29 c1_i32_90
  let v120 : BitVec 32 := Scalar.subi v119 c0_i32_91
  let c1_i32_92 : BitVec 32 := 1#32
  let v122 : BitVec 32 := Scalar.divsi v120 c1_i32_92
  let v123 : BitVec 32 := Scalar.muli v122 c1_i32_92
  let v124 : BitVec 32 := Scalar.addi c0_i32_91 v123
  let v121 : BitVec 32 := Scalar.addi c0_i32_91 v120
  let c1_i32_94 : BitVec 32 := 1#32
  ⟨v124, v121, c1_i32_94⟩
def k0_mult18 (k0_t4 : Fin k0_t4_loop.trips) (k0_t6 : Fin (k0_t6_loop k0_t4).trips) : BitVec 32 :=
  let c0_i32_91 : BitVec 32 := 0#32
  let c0_i32_71 : BitVec 32 := 0#32
  let c1_i32_73 : BitVec 32 := 1#32
  let arg29 : BitVec 32 := Scf.iv c0_i32_71 c1_i32_73 k0_t4
  let c1_i32_90 : BitVec 32 := 1#32
  let v119 : BitVec 32 := Scalar.addi arg29 c1_i32_90
  let v120 : BitVec 32 := Scalar.subi v119 c0_i32_91
  let c1_i32_92 : BitVec 32 := 1#32
  let v122 : BitVec 32 := Scalar.divsi v120 c1_i32_92
  let v123 : BitVec 32 := Scalar.muli v122 c1_i32_92
  let v124 : BitVec 32 := Scalar.addi c0_i32_91 v123
  let c1_i32_94 : BitVec 32 := 1#32
  let arg36 : BitVec 32 := Scf.iv v124 c1_i32_94 k0_t6
  let c0_i32_95 : BitVec 32 := 0#32
  let v127 : BitVec 32 := Scalar.maxsi arg36 c0_i32_95
  let c128_i32_96 : BitVec 32 := 128#32
  let v128 : BitVec 32 := Scalar.muli v127 c128_i32_96
  v128
def k0_mult19 (arg37 : BitVec 32) : BitVec 32 :=
  let c0_i32_97 : BitVec 32 := 0#32
  let v130 : BitVec 32 := Scalar.maxsi arg37 c0_i32_97
  let c128_i32_98 : BitVec 32 := 128#32
  let v131 : BitVec 32 := Scalar.muli v130 c128_i32_98
  v131

def k0_mult20 (arg38 : BitVec 32) : BitVec 32 :=
  let c0_i32_99 : BitVec 32 := 0#32
  let v133 : BitVec 32 := Scalar.maxsi arg38 c0_i32_99
  let c128_i32_100 : BitVec 32 := 128#32
  let v134 : BitVec 32 := Scalar.muli v133 c128_i32_100
  v134

def k0_mult21 (arg40 : BitVec 32) : BitVec 32 :=
  let c0_i32_101 : BitVec 32 := 0#32
  let v136 : BitVec 32 := Scalar.maxsi arg40 c0_i32_101
  let c128_i32_102 : BitVec 32 := 128#32
  let v137 : BitVec 32 := Scalar.muli v136 c128_i32_102
  v137

def k0_mult22 (arg41 : BitVec 32) : BitVec 32 :=
  let c0_i32_103 : BitVec 32 := 0#32
  let v139 : BitVec 32 := Scalar.maxsi arg41 c0_i32_103
  let c128_i32_104 : BitVec 32 := 128#32
  let v140 : BitVec 32 := Scalar.muli v139 c128_i32_104
  v140

def k0_mult23 (arg42 : BitVec 32) : BitVec 32 :=
  let c0_i32_105 : BitVec 32 := 0#32
  let v142 : BitVec 32 := Scalar.maxsi arg42 c0_i32_105
  let c128_i32_106 : BitVec 32 := 128#32
  let v143 : BitVec 32 := Scalar.muli v142 c128_i32_106
  v143

def k0_mult24 (k0_t4 : Fin k0_t4_loop.trips) : BitVec 32 :=
  let c0_i32_71 : BitVec 32 := 0#32
  let c1_i32_73 : BitVec 32 := 1#32
  let arg29 : BitVec 32 := Scf.iv c0_i32_71 c1_i32_73 k0_t4
  let c0_i32_107 : BitVec 32 := 0#32
  let v145 : BitVec 32 := Scalar.maxsi arg29 c0_i32_107
  let c2_i32_108 : BitVec 32 := 2#32
  let v146 : BitVec 32 := Scalar.muli v145 c2_i32_108
  let c128_i32_109 : BitVec 32 := 128#32
  let v147 : BitVec 32 := Scalar.muli v146 c128_i32_109
  v147
def k0_mult25 (arg37 : BitVec 32) : BitVec 32 :=
  let c0_i32_110 : BitVec 32 := 0#32
  let v149 : BitVec 32 := Scalar.maxsi arg37 c0_i32_110
  let c2_i32_111 : BitVec 32 := 2#32
  let v150 : BitVec 32 := Scalar.muli v149 c2_i32_111
  let c128_i32_112 : BitVec 32 := 128#32
  let v151 : BitVec 32 := Scalar.muli v150 c128_i32_112
  v151
def k0_mult26 (arg39 : BitVec 32) : BitVec 32 :=
  let c0_i32_113 : BitVec 32 := 0#32
  let v153 : BitVec 32 := Scalar.maxsi arg39 c0_i32_113
  let c2_i32_114 : BitVec 32 := 2#32
  let v154 : BitVec 32 := Scalar.muli v153 c2_i32_114
  let c128_i32_115 : BitVec 32 := 128#32
  let v155 : BitVec 32 := Scalar.muli v154 c128_i32_115
  v155

def k0_mult27 (arg41 : BitVec 32) : BitVec 32 :=
  let c0_i32_116 : BitVec 32 := 0#32
  let v157 : BitVec 32 := Scalar.maxsi arg41 c0_i32_116
  let c2_i32_117 : BitVec 32 := 2#32
  let v158 : BitVec 32 := Scalar.muli v157 c2_i32_117
  let c128_i32_118 : BitVec 32 := 128#32
  let v159 : BitVec 32 := Scalar.muli v158 c128_i32_118
  v159
def k0_mult28 (arg42 : BitVec 32) : BitVec 32 :=
  let c0_i32_119 : BitVec 32 := 0#32
  let v161 : BitVec 32 := Scalar.maxsi arg42 c0_i32_119
  let c2_i32_120 : BitVec 32 := 2#32
  let v162 : BitVec 32 := Scalar.muli v161 c2_i32_120
  let c128_i32_121 : BitVec 32 := 128#32
  let v163 : BitVec 32 := Scalar.muli v162 c128_i32_121
  v163
def k0_off66 (arg37 : BitVec 32) : Fin 2 → Nat :=
  let c0_i32_97 : BitVec 32 := 0#32
  let v130 : BitVec 32 := Scalar.maxsi arg37 c0_i32_97
  let c128_i32_98 : BitVec 32 := 128#32
  let v131 : BitVec 32 := Scalar.muli v130 c128_i32_98
  let v132 : BitVec 32 := v131
  let v175 : Index := Scalar.indexCast v132
  let c0_125 : Index := 0#32
  ![v175.toNat, 0]
def k0_off67 (k0_t4 : Fin k0_t4_loop.trips) (k0_t6 : Fin (k0_t6_loop k0_t4).trips) : Fin 2 → Nat :=
  let c0_i32_91 : BitVec 32 := 0#32
  let c0_i32_71 : BitVec 32 := 0#32
  let c1_i32_73 : BitVec 32 := 1#32
  let arg29 : BitVec 32 := Scf.iv c0_i32_71 c1_i32_73 k0_t4
  let c1_i32_90 : BitVec 32 := 1#32
  let v119 : BitVec 32 := Scalar.addi arg29 c1_i32_90
  let v120 : BitVec 32 := Scalar.subi v119 c0_i32_91
  let c1_i32_92 : BitVec 32 := 1#32
  let v122 : BitVec 32 := Scalar.divsi v120 c1_i32_92
  let v123 : BitVec 32 := Scalar.muli v122 c1_i32_92
  let v124 : BitVec 32 := Scalar.addi c0_i32_91 v123
  let c1_i32_94 : BitVec 32 := 1#32
  let arg36 : BitVec 32 := Scf.iv v124 c1_i32_94 k0_t6
  let c0_i32_95 : BitVec 32 := 0#32
  let v127 : BitVec 32 := Scalar.maxsi arg36 c0_i32_95
  let c128_i32_96 : BitVec 32 := 128#32
  let v128 : BitVec 32 := Scalar.muli v127 c128_i32_96
  let v129 : BitVec 32 := v128
  let v178 : Index := Scalar.indexCast v129
  let c0_127 : Index := 0#32
  ![v178.toNat, 0]
def k0_off68 (arg38 : BitVec 32) : Fin 2 → Nat :=
  let c0_i32_99 : BitVec 32 := 0#32
  let v133 : BitVec 32 := Scalar.maxsi arg38 c0_i32_99
  let c128_i32_100 : BitVec 32 := 128#32
  let v134 : BitVec 32 := Scalar.muli v133 c128_i32_100
  let v135 : BitVec 32 := v134
  let v180 : Index := Scalar.indexCast v135
  let c0_128 : Index := 0#32
  ![v180.toNat, 0]
def k0_off69 (arg41 : BitVec 32) : Fin 2 → Nat :=
  let c0_i32_103 : BitVec 32 := 0#32
  let v139 : BitVec 32 := Scalar.maxsi arg41 c0_i32_103
  let c128_i32_104 : BitVec 32 := 128#32
  let v140 : BitVec 32 := Scalar.muli v139 c128_i32_104
  let v141 : BitVec 32 := v140
  let v182 : Index := Scalar.indexCast v141
  let c0_129 : Index := 0#32
  ![v182.toNat, 0]
def k0_off70 (arg42 : BitVec 32) : Fin 3 → Nat :=
  let c0_133 : Index := 0#32
  let c0_i32_119 : BitVec 32 := 0#32
  let v161 : BitVec 32 := Scalar.maxsi arg42 c0_i32_119
  let c2_i32_120 : BitVec 32 := 2#32
  let v162 : BitVec 32 := Scalar.muli v161 c2_i32_120
  let c128_i32_121 : BitVec 32 := 128#32
  let v163 : BitVec 32 := Scalar.muli v162 c128_i32_121
  let v164 : BitVec 32 := v163
  let v186 : Index := Scalar.indexCast v164
  let c0_134 : Index := 0#32
  ![0, v186.toNat, 0]
def k0_off71 (arg42 : BitVec 32) : Fin 2 → Nat :=
  let c0_i32_105 : BitVec 32 := 0#32
  let v142 : BitVec 32 := Scalar.maxsi arg42 c0_i32_105
  let c128_i32_106 : BitVec 32 := 128#32
  let v143 : BitVec 32 := Scalar.muli v142 c128_i32_106
  let v144 : BitVec 32 := v143
  let v195 : Index := Scalar.indexCast v144
  let c0_137 : Index := 0#32
  ![v195.toNat, 0]
def k0_off72 (arg41 : BitVec 32) : Fin 3 → Nat :=
  let c0_141 : Index := 0#32
  let c0_i32_116 : BitVec 32 := 0#32
  let v157 : BitVec 32 := Scalar.maxsi arg41 c0_i32_116
  let c2_i32_117 : BitVec 32 := 2#32
  let v158 : BitVec 32 := Scalar.muli v157 c2_i32_117
  let c128_i32_118 : BitVec 32 := 128#32
  let v159 : BitVec 32 := Scalar.muli v158 c128_i32_118
  let v160 : BitVec 32 := v159
  let v199 : Index := Scalar.indexCast v160
  let c0_142 : Index := 0#32
  ![0, v199.toNat, 0]
def k0_off73 (arg40 : BitVec 32) : Fin 2 → Nat :=
  let c0_i32_101 : BitVec 32 := 0#32
  let v136 : BitVec 32 := Scalar.maxsi arg40 c0_i32_101
  let c128_i32_102 : BitVec 32 := 128#32
  let v137 : BitVec 32 := Scalar.muli v136 c128_i32_102
  let v138 : BitVec 32 := v137
  let v208 : Index := Scalar.indexCast v138
  let c0_145 : Index := 0#32
  ![v208.toNat, 0]
def k0_off74 (arg39 : BitVec 32) : Fin 3 → Nat :=
  let c0_149 : Index := 0#32
  let c0_i32_113 : BitVec 32 := 0#32
  let v153 : BitVec 32 := Scalar.maxsi arg39 c0_i32_113
  let c2_i32_114 : BitVec 32 := 2#32
  let v154 : BitVec 32 := Scalar.muli v153 c2_i32_114
  let c128_i32_115 : BitVec 32 := 128#32
  let v155 : BitVec 32 := Scalar.muli v154 c128_i32_115
  let v156 : BitVec 32 := v155
  let v212 : Index := Scalar.indexCast v156
  let c0_150 : Index := 0#32
  ![0, v212.toNat, 0]
def k0_off75 (arg37 : BitVec 32) (c0_i32_186 : BitVec 32) : Fin 3 → Nat :=
  let c0_187 : Index := 0#32
  let c0_i32_110 : BitVec 32 := 0#32
  let v149 : BitVec 32 := Scalar.maxsi arg37 c0_i32_110
  let c2_i32_111 : BitVec 32 := 2#32
  let v150 : BitVec 32 := Scalar.muli v149 c2_i32_111
  let c128_i32_112 : BitVec 32 := 128#32
  let v151 : BitVec 32 := Scalar.muli v150 c128_i32_112
  let v152 : BitVec 32 := v151
  let v264 : BitVec 32 := Scalar.addi v152 c0_i32_186
  let v265 : Index := Scalar.indexCast v264
  let c0_188 : Index := 0#32
  ![0, v265.toNat, 0]
def k0_off76 (k0_t4 : Fin k0_t4_loop.trips) (c0_i32_205 : BitVec 32) : Fin 3 → Nat :=
  let c0_206 : Index := 0#32
  let c0_i32_71 : BitVec 32 := 0#32
  let c1_i32_73 : BitVec 32 := 1#32
  let arg29 : BitVec 32 := Scf.iv c0_i32_71 c1_i32_73 k0_t4
  let c0_i32_107 : BitVec 32 := 0#32
  let v145 : BitVec 32 := Scalar.maxsi arg29 c0_i32_107
  let c2_i32_108 : BitVec 32 := 2#32
  let v146 : BitVec 32 := Scalar.muli v145 c2_i32_108
  let c128_i32_109 : BitVec 32 := 128#32
  let v147 : BitVec 32 := Scalar.muli v146 c128_i32_109
  let v148 : BitVec 32 := v147
  let v286 : BitVec 32 := Scalar.addi v148 c0_i32_205
  let v287 : Index := Scalar.indexCast v286
  let c0_207 : Index := 0#32
  ![0, v287.toNat, 0]
def k0_off77 (k0_t4 : Fin k0_t4_loop.trips) (k0_t6 : Fin (k0_t6_loop k0_t4).trips) : Fin 2 → Nat :=
  let c0_i32_91 : BitVec 32 := 0#32
  let c0_i32_71 : BitVec 32 := 0#32
  let c1_i32_73 : BitVec 32 := 1#32
  let arg29 : BitVec 32 := Scf.iv c0_i32_71 c1_i32_73 k0_t4
  let c1_i32_90 : BitVec 32 := 1#32
  let v119 : BitVec 32 := Scalar.addi arg29 c1_i32_90
  let v120 : BitVec 32 := Scalar.subi v119 c0_i32_91
  let c1_i32_92 : BitVec 32 := 1#32
  let v122 : BitVec 32 := Scalar.divsi v120 c1_i32_92
  let v123 : BitVec 32 := Scalar.muli v122 c1_i32_92
  let v124 : BitVec 32 := Scalar.addi c0_i32_91 v123
  let c1_i32_94 : BitVec 32 := 1#32
  let arg36 : BitVec 32 := Scf.iv v124 c1_i32_94 k0_t6
  let c0_i32_95 : BitVec 32 := 0#32
  let v127 : BitVec 32 := Scalar.maxsi arg36 c0_i32_95
  let c128_i32_96 : BitVec 32 := 128#32
  let v128 : BitVec 32 := Scalar.muli v127 c128_i32_96
  let v129 : BitVec 32 := v128
  let v407 : Index := Scalar.indexCast v129
  let c128_287 : Index := 128#32
  ![v407.toNat, 128]
def k0_off78 (arg38 : BitVec 32) : Fin 2 → Nat :=
  let c0_i32_99 : BitVec 32 := 0#32
  let v133 : BitVec 32 := Scalar.maxsi arg38 c0_i32_99
  let c128_i32_100 : BitVec 32 := 128#32
  let v134 : BitVec 32 := Scalar.muli v133 c128_i32_100
  let v135 : BitVec 32 := v134
  let v409 : Index := Scalar.indexCast v135
  let c128_288 : Index := 128#32
  ![v409.toNat, 128]
def k0_off79 (arg41 : BitVec 32) : Fin 2 → Nat :=
  let c0_i32_103 : BitVec 32 := 0#32
  let v139 : BitVec 32 := Scalar.maxsi arg41 c0_i32_103
  let c128_i32_104 : BitVec 32 := 128#32
  let v140 : BitVec 32 := Scalar.muli v139 c128_i32_104
  let v141 : BitVec 32 := v140
  let v411 : Index := Scalar.indexCast v141
  let c128_289 : Index := 128#32
  ![v411.toNat, 128]
def k0_off80 (arg42 : BitVec 32) : Fin 3 → Nat :=
  let c1_293 : Index := 1#32
  let c0_i32_119 : BitVec 32 := 0#32
  let v161 : BitVec 32 := Scalar.maxsi arg42 c0_i32_119
  let c2_i32_120 : BitVec 32 := 2#32
  let v162 : BitVec 32 := Scalar.muli v161 c2_i32_120
  let c128_i32_121 : BitVec 32 := 128#32
  let v163 : BitVec 32 := Scalar.muli v162 c128_i32_121
  let v164 : BitVec 32 := v163
  let v415 : Index := Scalar.indexCast v164
  let c0_294 : Index := 0#32
  ![1, v415.toNat, 0]
def k0_off81 (arg42 : BitVec 32) : Fin 2 → Nat :=
  let c0_i32_105 : BitVec 32 := 0#32
  let v142 : BitVec 32 := Scalar.maxsi arg42 c0_i32_105
  let c128_i32_106 : BitVec 32 := 128#32
  let v143 : BitVec 32 := Scalar.muli v142 c128_i32_106
  let v144 : BitVec 32 := v143
  let v424 : Index := Scalar.indexCast v144
  let c128_297 : Index := 128#32
  ![v424.toNat, 128]
def k0_off82 (arg41 : BitVec 32) : Fin 3 → Nat :=
  let c1_301 : Index := 1#32
  let c0_i32_116 : BitVec 32 := 0#32
  let v157 : BitVec 32 := Scalar.maxsi arg41 c0_i32_116
  let c2_i32_117 : BitVec 32 := 2#32
  let v158 : BitVec 32 := Scalar.muli v157 c2_i32_117
  let c128_i32_118 : BitVec 32 := 128#32
  let v159 : BitVec 32 := Scalar.muli v158 c128_i32_118
  let v160 : BitVec 32 := v159
  let v428 : Index := Scalar.indexCast v160
  let c0_302 : Index := 0#32
  ![1, v428.toNat, 0]
def k0_off83 (arg40 : BitVec 32) : Fin 2 → Nat :=
  let c0_i32_101 : BitVec 32 := 0#32
  let v136 : BitVec 32 := Scalar.maxsi arg40 c0_i32_101
  let c128_i32_102 : BitVec 32 := 128#32
  let v137 : BitVec 32 := Scalar.muli v136 c128_i32_102
  let v138 : BitVec 32 := v137
  let v437 : Index := Scalar.indexCast v138
  let c128_305 : Index := 128#32
  ![v437.toNat, 128]
def k0_off84 (arg39 : BitVec 32) : Fin 3 → Nat :=
  let c1_309 : Index := 1#32
  let c0_i32_113 : BitVec 32 := 0#32
  let v153 : BitVec 32 := Scalar.maxsi arg39 c0_i32_113
  let c2_i32_114 : BitVec 32 := 2#32
  let v154 : BitVec 32 := Scalar.muli v153 c2_i32_114
  let c128_i32_115 : BitVec 32 := 128#32
  let v155 : BitVec 32 := Scalar.muli v154 c128_i32_115
  let v156 : BitVec 32 := v155
  let v441 : Index := Scalar.indexCast v156
  let c0_310 : Index := 0#32
  ![1, v441.toNat, 0]
def k0_off85 (arg37 : BitVec 32) (c0_i32_344 : BitVec 32) : Fin 3 → Nat :=
  let c1_345 : Index := 1#32
  let c0_i32_110 : BitVec 32 := 0#32
  let v149 : BitVec 32 := Scalar.maxsi arg37 c0_i32_110
  let c2_i32_111 : BitVec 32 := 2#32
  let v150 : BitVec 32 := Scalar.muli v149 c2_i32_111
  let c128_i32_112 : BitVec 32 := 128#32
  let v151 : BitVec 32 := Scalar.muli v150 c128_i32_112
  let v152 : BitVec 32 := v151
  let v493 : BitVec 32 := Scalar.addi v152 c0_i32_344
  let v494 : Index := Scalar.indexCast v493
  let c0_346 : Index := 0#32
  ![1, v494.toNat, 0]
def k0_off86 (k0_t4 : Fin k0_t4_loop.trips) (c0_i32_363 : BitVec 32) : Fin 3 → Nat :=
  let c1_364 : Index := 1#32
  let c0_i32_71 : BitVec 32 := 0#32
  let c1_i32_73 : BitVec 32 := 1#32
  let arg29 : BitVec 32 := Scf.iv c0_i32_71 c1_i32_73 k0_t4
  let c0_i32_107 : BitVec 32 := 0#32
  let v145 : BitVec 32 := Scalar.maxsi arg29 c0_i32_107
  let c2_i32_108 : BitVec 32 := 2#32
  let v146 : BitVec 32 := Scalar.muli v145 c2_i32_108
  let c128_i32_109 : BitVec 32 := 128#32
  let v147 : BitVec 32 := Scalar.muli v146 c128_i32_109
  let v148 : BitVec 32 := v147
  let v515 : BitVec 32 := Scalar.addi v148 c0_i32_363
  let v516 : Index := Scalar.indexCast v515
  let c0_365 : Index := 0#32
  ![1, v516.toNat, 0]
def k0_off87 (k0_t4 : Fin k0_t4_loop.trips) (k0_t6 : Fin (k0_t6_loop k0_t4).trips) : Fin 2 → Nat :=
  let c0_i32_91 : BitVec 32 := 0#32
  let c0_i32_71 : BitVec 32 := 0#32
  let c1_i32_73 : BitVec 32 := 1#32
  let arg29 : BitVec 32 := Scf.iv c0_i32_71 c1_i32_73 k0_t4
  let c1_i32_90 : BitVec 32 := 1#32
  let v119 : BitVec 32 := Scalar.addi arg29 c1_i32_90
  let v120 : BitVec 32 := Scalar.subi v119 c0_i32_91
  let c1_i32_92 : BitVec 32 := 1#32
  let v122 : BitVec 32 := Scalar.divsi v120 c1_i32_92
  let v123 : BitVec 32 := Scalar.muli v122 c1_i32_92
  let v124 : BitVec 32 := Scalar.addi c0_i32_91 v123
  let c1_i32_94 : BitVec 32 := 1#32
  let arg36 : BitVec 32 := Scf.iv v124 c1_i32_94 k0_t6
  let c0_i32_95 : BitVec 32 := 0#32
  let v127 : BitVec 32 := Scalar.maxsi arg36 c0_i32_95
  let c128_i32_96 : BitVec 32 := 128#32
  let v128 : BitVec 32 := Scalar.muli v127 c128_i32_96
  let v129 : BitVec 32 := v128
  let v636 : Index := Scalar.indexCast v129
  let c256 : Index := 256#32
  ![v636.toNat, 256]
def k0_off88 (arg38 : BitVec 32) : Fin 2 → Nat :=
  let c0_i32_99 : BitVec 32 := 0#32
  let v133 : BitVec 32 := Scalar.maxsi arg38 c0_i32_99
  let c128_i32_100 : BitVec 32 := 128#32
  let v134 : BitVec 32 := Scalar.muli v133 c128_i32_100
  let v135 : BitVec 32 := v134
  let v638 : Index := Scalar.indexCast v135
  let c256_445 : Index := 256#32
  ![v638.toNat, 256]
def k0_off89 (arg41 : BitVec 32) : Fin 2 → Nat :=
  let c0_i32_103 : BitVec 32 := 0#32
  let v139 : BitVec 32 := Scalar.maxsi arg41 c0_i32_103
  let c128_i32_104 : BitVec 32 := 128#32
  let v140 : BitVec 32 := Scalar.muli v139 c128_i32_104
  let v141 : BitVec 32 := v140
  let v640 : Index := Scalar.indexCast v141
  let c256_446 : Index := 256#32
  ![v640.toNat, 256]
def k0_off90 (arg42 : BitVec 32) : Fin 3 → Nat :=
  let c2_450 : Index := 2#32
  let c0_i32_119 : BitVec 32 := 0#32
  let v161 : BitVec 32 := Scalar.maxsi arg42 c0_i32_119
  let c2_i32_120 : BitVec 32 := 2#32
  let v162 : BitVec 32 := Scalar.muli v161 c2_i32_120
  let c128_i32_121 : BitVec 32 := 128#32
  let v163 : BitVec 32 := Scalar.muli v162 c128_i32_121
  let v164 : BitVec 32 := v163
  let v644 : Index := Scalar.indexCast v164
  let c0_451 : Index := 0#32
  ![2, v644.toNat, 0]
def k0_off91 (arg42 : BitVec 32) : Fin 2 → Nat :=
  let c0_i32_105 : BitVec 32 := 0#32
  let v142 : BitVec 32 := Scalar.maxsi arg42 c0_i32_105
  let c128_i32_106 : BitVec 32 := 128#32
  let v143 : BitVec 32 := Scalar.muli v142 c128_i32_106
  let v144 : BitVec 32 := v143
  let v653 : Index := Scalar.indexCast v144
  let c256_454 : Index := 256#32
  ![v653.toNat, 256]
def k0_off92 (arg41 : BitVec 32) : Fin 3 → Nat :=
  let c2_458 : Index := 2#32
  let c0_i32_116 : BitVec 32 := 0#32
  let v157 : BitVec 32 := Scalar.maxsi arg41 c0_i32_116
  let c2_i32_117 : BitVec 32 := 2#32
  let v158 : BitVec 32 := Scalar.muli v157 c2_i32_117
  let c128_i32_118 : BitVec 32 := 128#32
  let v159 : BitVec 32 := Scalar.muli v158 c128_i32_118
  let v160 : BitVec 32 := v159
  let v657 : Index := Scalar.indexCast v160
  let c0_459 : Index := 0#32
  ![2, v657.toNat, 0]
def k0_off93 (arg40 : BitVec 32) : Fin 2 → Nat :=
  let c0_i32_101 : BitVec 32 := 0#32
  let v136 : BitVec 32 := Scalar.maxsi arg40 c0_i32_101
  let c128_i32_102 : BitVec 32 := 128#32
  let v137 : BitVec 32 := Scalar.muli v136 c128_i32_102
  let v138 : BitVec 32 := v137
  let v666 : Index := Scalar.indexCast v138
  let c256_462 : Index := 256#32
  ![v666.toNat, 256]
def k0_off94 (arg39 : BitVec 32) : Fin 3 → Nat :=
  let c2_466 : Index := 2#32
  let c0_i32_113 : BitVec 32 := 0#32
  let v153 : BitVec 32 := Scalar.maxsi arg39 c0_i32_113
  let c2_i32_114 : BitVec 32 := 2#32
  let v154 : BitVec 32 := Scalar.muli v153 c2_i32_114
  let c128_i32_115 : BitVec 32 := 128#32
  let v155 : BitVec 32 := Scalar.muli v154 c128_i32_115
  let v156 : BitVec 32 := v155
  let v670 : Index := Scalar.indexCast v156
  let c0_467 : Index := 0#32
  ![2, v670.toNat, 0]
def k0_off95 (arg37 : BitVec 32) (c0_i32_502 : BitVec 32) : Fin 3 → Nat :=
  let c2_503 : Index := 2#32
  let c0_i32_110 : BitVec 32 := 0#32
  let v149 : BitVec 32 := Scalar.maxsi arg37 c0_i32_110
  let c2_i32_111 : BitVec 32 := 2#32
  let v150 : BitVec 32 := Scalar.muli v149 c2_i32_111
  let c128_i32_112 : BitVec 32 := 128#32
  let v151 : BitVec 32 := Scalar.muli v150 c128_i32_112
  let v152 : BitVec 32 := v151
  let v722 : BitVec 32 := Scalar.addi v152 c0_i32_502
  let v723 : Index := Scalar.indexCast v722
  let c0_504 : Index := 0#32
  ![2, v723.toNat, 0]
def k0_off96 (k0_t4 : Fin k0_t4_loop.trips) (c0_i32_521 : BitVec 32) : Fin 3 → Nat :=
  let c2_522 : Index := 2#32
  let c0_i32_71 : BitVec 32 := 0#32
  let c1_i32_73 : BitVec 32 := 1#32
  let arg29 : BitVec 32 := Scf.iv c0_i32_71 c1_i32_73 k0_t4
  let c0_i32_107 : BitVec 32 := 0#32
  let v145 : BitVec 32 := Scalar.maxsi arg29 c0_i32_107
  let c2_i32_108 : BitVec 32 := 2#32
  let v146 : BitVec 32 := Scalar.muli v145 c2_i32_108
  let c128_i32_109 : BitVec 32 := 128#32
  let v147 : BitVec 32 := Scalar.muli v146 c128_i32_109
  let v148 : BitVec 32 := v147
  let v744 : BitVec 32 := Scalar.addi v148 c0_i32_521
  let v745 : Index := Scalar.indexCast v744
  let c0_523 : Index := 0#32
  ![2, v745.toNat, 0]
def k0_off97 (k0_t4 : Fin k0_t4_loop.trips) (k0_t6 : Fin (k0_t6_loop k0_t4).trips) : Fin 2 → Nat :=
  let c0_i32_91 : BitVec 32 := 0#32
  let c0_i32_71 : BitVec 32 := 0#32
  let c1_i32_73 : BitVec 32 := 1#32
  let arg29 : BitVec 32 := Scf.iv c0_i32_71 c1_i32_73 k0_t4
  let c1_i32_90 : BitVec 32 := 1#32
  let v119 : BitVec 32 := Scalar.addi arg29 c1_i32_90
  let v120 : BitVec 32 := Scalar.subi v119 c0_i32_91
  let c1_i32_92 : BitVec 32 := 1#32
  let v122 : BitVec 32 := Scalar.divsi v120 c1_i32_92
  let v123 : BitVec 32 := Scalar.muli v122 c1_i32_92
  let v124 : BitVec 32 := Scalar.addi c0_i32_91 v123
  let c1_i32_94 : BitVec 32 := 1#32
  let arg36 : BitVec 32 := Scf.iv v124 c1_i32_94 k0_t6
  let c0_i32_95 : BitVec 32 := 0#32
  let v127 : BitVec 32 := Scalar.maxsi arg36 c0_i32_95
  let c128_i32_96 : BitVec 32 := 128#32
  let v128 : BitVec 32 := Scalar.muli v127 c128_i32_96
  let v129 : BitVec 32 := v128
  let v865 : Index := Scalar.indexCast v129
  let c384 : Index := 384#32
  ![v865.toNat, 384]
def k0_off98 (arg38 : BitVec 32) : Fin 2 → Nat :=
  let c0_i32_99 : BitVec 32 := 0#32
  let v133 : BitVec 32 := Scalar.maxsi arg38 c0_i32_99
  let c128_i32_100 : BitVec 32 := 128#32
  let v134 : BitVec 32 := Scalar.muli v133 c128_i32_100
  let v135 : BitVec 32 := v134
  let v867 : Index := Scalar.indexCast v135
  let c384_603 : Index := 384#32
  ![v867.toNat, 384]

def k0_chk8 (k0_t4 : Fin k0_t4_loop.trips) (k0_t6 : Fin (k0_t6_loop k0_t4).trips) (arg38 : BitVec 32) : Prop :=
  (128 ∣ (k0_mult20 arg38).toNat) ∧
  (∀ a, (k0_off68 arg38) a + S128x128.size a ≤ S2048x512.size a) ∧
  (∀ a, (k0_off78 arg38) a + S128x128.size a ≤ S2048x512.size a) ∧
  (∀ a, (k0_off88 arg38) a + S128x128.size a ≤ S2048x512.size a) ∧
  (∀ a, (k0_off98 arg38) a + S128x128.size a ≤ S2048x512.size a)
theorem k0_mult20_dvd : ∀ (k0_t4 : Fin k0_t4_loop.trips) (k0_t6 : Fin (k0_t6_loop k0_t4).trips) (arg38 : BitVec 32) (k0_hw8 : k0_chk8 k0_t4 k0_t6 arg38), 128 ∣ (k0_mult20 arg38).toNat := fun k0_t4 k0_t6 arg38 k0_hw8 => k0_hw8.1
theorem k0_off68_inb : ∀ (k0_t4 : Fin k0_t4_loop.trips) (k0_t6 : Fin (k0_t6_loop k0_t4).trips) (arg38 : BitVec 32) (k0_hw8 : k0_chk8 k0_t4 k0_t6 arg38), ∀ a, (k0_off68 arg38) a + S128x128.size a ≤ S2048x512.size a := fun k0_t4 k0_t6 arg38 k0_hw8 => k0_hw8.2.1
theorem k0_off78_inb : ∀ (k0_t4 : Fin k0_t4_loop.trips) (k0_t6 : Fin (k0_t6_loop k0_t4).trips) (arg38 : BitVec 32) (k0_hw8 : k0_chk8 k0_t4 k0_t6 arg38), ∀ a, (k0_off78 arg38) a + S128x128.size a ≤ S2048x512.size a := fun k0_t4 k0_t6 arg38 k0_hw8 => k0_hw8.2.2.1
theorem k0_off88_inb : ∀ (k0_t4 : Fin k0_t4_loop.trips) (k0_t6 : Fin (k0_t6_loop k0_t4).trips) (arg38 : BitVec 32) (k0_hw8 : k0_chk8 k0_t4 k0_t6 arg38), ∀ a, (k0_off88 arg38) a + S128x128.size a ≤ S2048x512.size a := fun k0_t4 k0_t6 arg38 k0_hw8 => k0_hw8.2.2.2.1
theorem k0_off98_inb : ∀ (k0_t4 : Fin k0_t4_loop.trips) (k0_t6 : Fin (k0_t6_loop k0_t4).trips) (arg38 : BitVec 32) (k0_hw8 : k0_chk8 k0_t4 k0_t6 arg38), ∀ a, (k0_off98 arg38) a + S128x128.size a ≤ S2048x512.size a := fun k0_t4 k0_t6 arg38 k0_hw8 => k0_hw8.2.2.2.2

def k0_off99 (arg41 : BitVec 32) : Fin 2 → Nat :=
  let c0_i32_103 : BitVec 32 := 0#32
  let v139 : BitVec 32 := Scalar.maxsi arg41 c0_i32_103
  let c128_i32_104 : BitVec 32 := 128#32
  let v140 : BitVec 32 := Scalar.muli v139 c128_i32_104
  let v141 : BitVec 32 := v140
  let v869 : Index := Scalar.indexCast v141
  let c384_604 : Index := 384#32
  ![v869.toNat, 384]
def k0_off100 (arg42 : BitVec 32) : Fin 3 → Nat :=
  let c3_608 : Index := 3#32
  let c0_i32_119 : BitVec 32 := 0#32
  let v161 : BitVec 32 := Scalar.maxsi arg42 c0_i32_119
  let c2_i32_120 : BitVec 32 := 2#32
  let v162 : BitVec 32 := Scalar.muli v161 c2_i32_120
  let c128_i32_121 : BitVec 32 := 128#32
  let v163 : BitVec 32 := Scalar.muli v162 c128_i32_121
  let v164 : BitVec 32 := v163
  let v873 : Index := Scalar.indexCast v164
  let c0_609 : Index := 0#32
  ![3, v873.toNat, 0]
def k0_off101 (arg42 : BitVec 32) : Fin 2 → Nat :=
  let c0_i32_105 : BitVec 32 := 0#32
  let v142 : BitVec 32 := Scalar.maxsi arg42 c0_i32_105
  let c128_i32_106 : BitVec 32 := 128#32
  let v143 : BitVec 32 := Scalar.muli v142 c128_i32_106
  let v144 : BitVec 32 := v143
  let v882 : Index := Scalar.indexCast v144
  let c384_612 : Index := 384#32
  ![v882.toNat, 384]

def k0_chk11 (k0_t4 : Fin k0_t4_loop.trips) (k0_t6 : Fin (k0_t6_loop k0_t4).trips) (arg42 : BitVec 32) : Prop :=
  (128 ∣ (k0_mult23 arg42).toNat) ∧
  (256 ∣ (k0_mult28 arg42).toNat) ∧
  (∀ a, (k0_off70 arg42) a + S1x256x128.size a ≤ S4x4096x128.size a) ∧
  (∀ a, (k0_off71 arg42) a + S128x128.size a ≤ S2048x512.size a) ∧
  (∀ a, (k0_off80 arg42) a + S1x256x128.size a ≤ S4x4096x128.size a) ∧
  (∀ a, (k0_off81 arg42) a + S128x128.size a ≤ S2048x512.size a) ∧
  (∀ a, (k0_off90 arg42) a + S1x256x128.size a ≤ S4x4096x128.size a) ∧
  (∀ a, (k0_off91 arg42) a + S128x128.size a ≤ S2048x512.size a) ∧
  (∀ a, (k0_off100 arg42) a + S1x256x128.size a ≤ S4x4096x128.size a) ∧
  (∀ a, (k0_off101 arg42) a + S128x128.size a ≤ S2048x512.size a)
theorem k0_mult23_dvd : ∀ (k0_t4 : Fin k0_t4_loop.trips) (k0_t6 : Fin (k0_t6_loop k0_t4).trips) (arg42 : BitVec 32) (k0_hw11 : k0_chk11 k0_t4 k0_t6 arg42), 128 ∣ (k0_mult23 arg42).toNat := fun k0_t4 k0_t6 arg42 k0_hw11 => k0_hw11.1
theorem k0_mult28_dvd : ∀ (k0_t4 : Fin k0_t4_loop.trips) (k0_t6 : Fin (k0_t6_loop k0_t4).trips) (arg42 : BitVec 32) (k0_hw11 : k0_chk11 k0_t4 k0_t6 arg42), 256 ∣ (k0_mult28 arg42).toNat := fun k0_t4 k0_t6 arg42 k0_hw11 => k0_hw11.2.1
theorem k0_off70_inb : ∀ (k0_t4 : Fin k0_t4_loop.trips) (k0_t6 : Fin (k0_t6_loop k0_t4).trips) (arg42 : BitVec 32) (k0_hw11 : k0_chk11 k0_t4 k0_t6 arg42), ∀ a, (k0_off70 arg42) a + S1x256x128.size a ≤ S4x4096x128.size a := fun k0_t4 k0_t6 arg42 k0_hw11 => k0_hw11.2.2.1
theorem k0_off71_inb : ∀ (k0_t4 : Fin k0_t4_loop.trips) (k0_t6 : Fin (k0_t6_loop k0_t4).trips) (arg42 : BitVec 32) (k0_hw11 : k0_chk11 k0_t4 k0_t6 arg42), ∀ a, (k0_off71 arg42) a + S128x128.size a ≤ S2048x512.size a := fun k0_t4 k0_t6 arg42 k0_hw11 => k0_hw11.2.2.2.1
theorem k0_off80_inb : ∀ (k0_t4 : Fin k0_t4_loop.trips) (k0_t6 : Fin (k0_t6_loop k0_t4).trips) (arg42 : BitVec 32) (k0_hw11 : k0_chk11 k0_t4 k0_t6 arg42), ∀ a, (k0_off80 arg42) a + S1x256x128.size a ≤ S4x4096x128.size a := fun k0_t4 k0_t6 arg42 k0_hw11 => k0_hw11.2.2.2.2.1
theorem k0_off81_inb : ∀ (k0_t4 : Fin k0_t4_loop.trips) (k0_t6 : Fin (k0_t6_loop k0_t4).trips) (arg42 : BitVec 32) (k0_hw11 : k0_chk11 k0_t4 k0_t6 arg42), ∀ a, (k0_off81 arg42) a + S128x128.size a ≤ S2048x512.size a := fun k0_t4 k0_t6 arg42 k0_hw11 => k0_hw11.2.2.2.2.2.1
theorem k0_off90_inb : ∀ (k0_t4 : Fin k0_t4_loop.trips) (k0_t6 : Fin (k0_t6_loop k0_t4).trips) (arg42 : BitVec 32) (k0_hw11 : k0_chk11 k0_t4 k0_t6 arg42), ∀ a, (k0_off90 arg42) a + S1x256x128.size a ≤ S4x4096x128.size a := fun k0_t4 k0_t6 arg42 k0_hw11 => k0_hw11.2.2.2.2.2.2.1
theorem k0_off91_inb : ∀ (k0_t4 : Fin k0_t4_loop.trips) (k0_t6 : Fin (k0_t6_loop k0_t4).trips) (arg42 : BitVec 32) (k0_hw11 : k0_chk11 k0_t4 k0_t6 arg42), ∀ a, (k0_off91 arg42) a + S128x128.size a ≤ S2048x512.size a := fun k0_t4 k0_t6 arg42 k0_hw11 => k0_hw11.2.2.2.2.2.2.2.1
theorem k0_off100_inb : ∀ (k0_t4 : Fin k0_t4_loop.trips) (k0_t6 : Fin (k0_t6_loop k0_t4).trips) (arg42 : BitVec 32) (k0_hw11 : k0_chk11 k0_t4 k0_t6 arg42), ∀ a, (k0_off100 arg42) a + S1x256x128.size a ≤ S4x4096x128.size a := fun k0_t4 k0_t6 arg42 k0_hw11 => k0_hw11.2.2.2.2.2.2.2.2.1
theorem k0_off101_inb : ∀ (k0_t4 : Fin k0_t4_loop.trips) (k0_t6 : Fin (k0_t6_loop k0_t4).trips) (arg42 : BitVec 32) (k0_hw11 : k0_chk11 k0_t4 k0_t6 arg42), ∀ a, (k0_off101 arg42) a + S128x128.size a ≤ S2048x512.size a := fun k0_t4 k0_t6 arg42 k0_hw11 => k0_hw11.2.2.2.2.2.2.2.2.2

def k0_off102 (arg41 : BitVec 32) : Fin 3 → Nat :=
  let c3_616 : Index := 3#32
  let c0_i32_116 : BitVec 32 := 0#32
  let v157 : BitVec 32 := Scalar.maxsi arg41 c0_i32_116
  let c2_i32_117 : BitVec 32 := 2#32
  let v158 : BitVec 32 := Scalar.muli v157 c2_i32_117
  let c128_i32_118 : BitVec 32 := 128#32
  let v159 : BitVec 32 := Scalar.muli v158 c128_i32_118
  let v160 : BitVec 32 := v159
  let v886 : Index := Scalar.indexCast v160
  let c0_617 : Index := 0#32
  ![3, v886.toNat, 0]

def k0_chk10 (k0_t4 : Fin k0_t4_loop.trips) (k0_t6 : Fin (k0_t6_loop k0_t4).trips) (arg41 : BitVec 32) : Prop :=
  (128 ∣ (k0_mult22 arg41).toNat) ∧
  (256 ∣ (k0_mult27 arg41).toNat) ∧
  (∀ a, (k0_off69 arg41) a + S128x128.size a ≤ S2048x512.size a) ∧
  (∀ a, (k0_off72 arg41) a + S1x256x128.size a ≤ S4x4096x128.size a) ∧
  (∀ a, (k0_off79 arg41) a + S128x128.size a ≤ S2048x512.size a) ∧
  (∀ a, (k0_off82 arg41) a + S1x256x128.size a ≤ S4x4096x128.size a) ∧
  (∀ a, (k0_off89 arg41) a + S128x128.size a ≤ S2048x512.size a) ∧
  (∀ a, (k0_off92 arg41) a + S1x256x128.size a ≤ S4x4096x128.size a) ∧
  (∀ a, (k0_off99 arg41) a + S128x128.size a ≤ S2048x512.size a) ∧
  (∀ a, (k0_off102 arg41) a + S1x256x128.size a ≤ S4x4096x128.size a)
theorem k0_mult22_dvd : ∀ (k0_t4 : Fin k0_t4_loop.trips) (k0_t6 : Fin (k0_t6_loop k0_t4).trips) (arg41 : BitVec 32) (k0_hw10 : k0_chk10 k0_t4 k0_t6 arg41), 128 ∣ (k0_mult22 arg41).toNat := fun k0_t4 k0_t6 arg41 k0_hw10 => k0_hw10.1
theorem k0_mult27_dvd : ∀ (k0_t4 : Fin k0_t4_loop.trips) (k0_t6 : Fin (k0_t6_loop k0_t4).trips) (arg41 : BitVec 32) (k0_hw10 : k0_chk10 k0_t4 k0_t6 arg41), 256 ∣ (k0_mult27 arg41).toNat := fun k0_t4 k0_t6 arg41 k0_hw10 => k0_hw10.2.1
theorem k0_off69_inb : ∀ (k0_t4 : Fin k0_t4_loop.trips) (k0_t6 : Fin (k0_t6_loop k0_t4).trips) (arg41 : BitVec 32) (k0_hw10 : k0_chk10 k0_t4 k0_t6 arg41), ∀ a, (k0_off69 arg41) a + S128x128.size a ≤ S2048x512.size a := fun k0_t4 k0_t6 arg41 k0_hw10 => k0_hw10.2.2.1
theorem k0_off72_inb : ∀ (k0_t4 : Fin k0_t4_loop.trips) (k0_t6 : Fin (k0_t6_loop k0_t4).trips) (arg41 : BitVec 32) (k0_hw10 : k0_chk10 k0_t4 k0_t6 arg41), ∀ a, (k0_off72 arg41) a + S1x256x128.size a ≤ S4x4096x128.size a := fun k0_t4 k0_t6 arg41 k0_hw10 => k0_hw10.2.2.2.1
theorem k0_off79_inb : ∀ (k0_t4 : Fin k0_t4_loop.trips) (k0_t6 : Fin (k0_t6_loop k0_t4).trips) (arg41 : BitVec 32) (k0_hw10 : k0_chk10 k0_t4 k0_t6 arg41), ∀ a, (k0_off79 arg41) a + S128x128.size a ≤ S2048x512.size a := fun k0_t4 k0_t6 arg41 k0_hw10 => k0_hw10.2.2.2.2.1
theorem k0_off82_inb : ∀ (k0_t4 : Fin k0_t4_loop.trips) (k0_t6 : Fin (k0_t6_loop k0_t4).trips) (arg41 : BitVec 32) (k0_hw10 : k0_chk10 k0_t4 k0_t6 arg41), ∀ a, (k0_off82 arg41) a + S1x256x128.size a ≤ S4x4096x128.size a := fun k0_t4 k0_t6 arg41 k0_hw10 => k0_hw10.2.2.2.2.2.1
theorem k0_off89_inb : ∀ (k0_t4 : Fin k0_t4_loop.trips) (k0_t6 : Fin (k0_t6_loop k0_t4).trips) (arg41 : BitVec 32) (k0_hw10 : k0_chk10 k0_t4 k0_t6 arg41), ∀ a, (k0_off89 arg41) a + S128x128.size a ≤ S2048x512.size a := fun k0_t4 k0_t6 arg41 k0_hw10 => k0_hw10.2.2.2.2.2.2.1
theorem k0_off92_inb : ∀ (k0_t4 : Fin k0_t4_loop.trips) (k0_t6 : Fin (k0_t6_loop k0_t4).trips) (arg41 : BitVec 32) (k0_hw10 : k0_chk10 k0_t4 k0_t6 arg41), ∀ a, (k0_off92 arg41) a + S1x256x128.size a ≤ S4x4096x128.size a := fun k0_t4 k0_t6 arg41 k0_hw10 => k0_hw10.2.2.2.2.2.2.2.1
theorem k0_off99_inb : ∀ (k0_t4 : Fin k0_t4_loop.trips) (k0_t6 : Fin (k0_t6_loop k0_t4).trips) (arg41 : BitVec 32) (k0_hw10 : k0_chk10 k0_t4 k0_t6 arg41), ∀ a, (k0_off99 arg41) a + S128x128.size a ≤ S2048x512.size a := fun k0_t4 k0_t6 arg41 k0_hw10 => k0_hw10.2.2.2.2.2.2.2.2.1
theorem k0_off102_inb : ∀ (k0_t4 : Fin k0_t4_loop.trips) (k0_t6 : Fin (k0_t6_loop k0_t4).trips) (arg41 : BitVec 32) (k0_hw10 : k0_chk10 k0_t4 k0_t6 arg41), ∀ a, (k0_off102 arg41) a + S1x256x128.size a ≤ S4x4096x128.size a := fun k0_t4 k0_t6 arg41 k0_hw10 => k0_hw10.2.2.2.2.2.2.2.2.2

def k0_off103 (arg40 : BitVec 32) : Fin 2 → Nat :=
  let c0_i32_101 : BitVec 32 := 0#32
  let v136 : BitVec 32 := Scalar.maxsi arg40 c0_i32_101
  let c128_i32_102 : BitVec 32 := 128#32
  let v137 : BitVec 32 := Scalar.muli v136 c128_i32_102
  let v138 : BitVec 32 := v137
  let v895 : Index := Scalar.indexCast v138
  let c384_620 : Index := 384#32
  ![v895.toNat, 384]

def k0_chk9 (k0_t4 : Fin k0_t4_loop.trips) (k0_t6 : Fin (k0_t6_loop k0_t4).trips) (arg40 : BitVec 32) : Prop :=
  (128 ∣ (k0_mult21 arg40).toNat) ∧
  (∀ a, (k0_off73 arg40) a + S128x128.size a ≤ S2048x512.size a) ∧
  (∀ a, (k0_off83 arg40) a + S128x128.size a ≤ S2048x512.size a) ∧
  (∀ a, (k0_off93 arg40) a + S128x128.size a ≤ S2048x512.size a) ∧
  (∀ a, (k0_off103 arg40) a + S128x128.size a ≤ S2048x512.size a)
theorem k0_mult21_dvd : ∀ (k0_t4 : Fin k0_t4_loop.trips) (k0_t6 : Fin (k0_t6_loop k0_t4).trips) (arg40 : BitVec 32) (k0_hw9 : k0_chk9 k0_t4 k0_t6 arg40), 128 ∣ (k0_mult21 arg40).toNat := fun k0_t4 k0_t6 arg40 k0_hw9 => k0_hw9.1
theorem k0_off73_inb : ∀ (k0_t4 : Fin k0_t4_loop.trips) (k0_t6 : Fin (k0_t6_loop k0_t4).trips) (arg40 : BitVec 32) (k0_hw9 : k0_chk9 k0_t4 k0_t6 arg40), ∀ a, (k0_off73 arg40) a + S128x128.size a ≤ S2048x512.size a := fun k0_t4 k0_t6 arg40 k0_hw9 => k0_hw9.2.1
theorem k0_off83_inb : ∀ (k0_t4 : Fin k0_t4_loop.trips) (k0_t6 : Fin (k0_t6_loop k0_t4).trips) (arg40 : BitVec 32) (k0_hw9 : k0_chk9 k0_t4 k0_t6 arg40), ∀ a, (k0_off83 arg40) a + S128x128.size a ≤ S2048x512.size a := fun k0_t4 k0_t6 arg40 k0_hw9 => k0_hw9.2.2.1
theorem k0_off93_inb : ∀ (k0_t4 : Fin k0_t4_loop.trips) (k0_t6 : Fin (k0_t6_loop k0_t4).trips) (arg40 : BitVec 32) (k0_hw9 : k0_chk9 k0_t4 k0_t6 arg40), ∀ a, (k0_off93 arg40) a + S128x128.size a ≤ S2048x512.size a := fun k0_t4 k0_t6 arg40 k0_hw9 => k0_hw9.2.2.2.1
theorem k0_off103_inb : ∀ (k0_t4 : Fin k0_t4_loop.trips) (k0_t6 : Fin (k0_t6_loop k0_t4).trips) (arg40 : BitVec 32) (k0_hw9 : k0_chk9 k0_t4 k0_t6 arg40), ∀ a, (k0_off103 arg40) a + S128x128.size a ≤ S2048x512.size a := fun k0_t4 k0_t6 arg40 k0_hw9 => k0_hw9.2.2.2.2

def k0_off104 (arg39 : BitVec 32) : Fin 3 → Nat :=
  let c3_624 : Index := 3#32
  let c0_i32_113 : BitVec 32 := 0#32
  let v153 : BitVec 32 := Scalar.maxsi arg39 c0_i32_113
  let c2_i32_114 : BitVec 32 := 2#32
  let v154 : BitVec 32 := Scalar.muli v153 c2_i32_114
  let c128_i32_115 : BitVec 32 := 128#32
  let v155 : BitVec 32 := Scalar.muli v154 c128_i32_115
  let v156 : BitVec 32 := v155
  let v899 : Index := Scalar.indexCast v156
  let c0_625 : Index := 0#32
  ![3, v899.toNat, 0]

def k0_chk12 (k0_t4 : Fin k0_t4_loop.trips) (k0_t6 : Fin (k0_t6_loop k0_t4).trips) (arg39 : BitVec 32) : Prop :=
  (256 ∣ (k0_mult26 arg39).toNat) ∧
  (∀ a, (k0_off74 arg39) a + S1x256x128.size a ≤ S4x4096x128.size a) ∧
  (∀ a, (k0_off84 arg39) a + S1x256x128.size a ≤ S4x4096x128.size a) ∧
  (∀ a, (k0_off94 arg39) a + S1x256x128.size a ≤ S4x4096x128.size a) ∧
  (∀ a, (k0_off104 arg39) a + S1x256x128.size a ≤ S4x4096x128.size a)
theorem k0_mult26_dvd : ∀ (k0_t4 : Fin k0_t4_loop.trips) (k0_t6 : Fin (k0_t6_loop k0_t4).trips) (arg39 : BitVec 32) (k0_hw12 : k0_chk12 k0_t4 k0_t6 arg39), 256 ∣ (k0_mult26 arg39).toNat := fun k0_t4 k0_t6 arg39 k0_hw12 => k0_hw12.1
theorem k0_off74_inb : ∀ (k0_t4 : Fin k0_t4_loop.trips) (k0_t6 : Fin (k0_t6_loop k0_t4).trips) (arg39 : BitVec 32) (k0_hw12 : k0_chk12 k0_t4 k0_t6 arg39), ∀ a, (k0_off74 arg39) a + S1x256x128.size a ≤ S4x4096x128.size a := fun k0_t4 k0_t6 arg39 k0_hw12 => k0_hw12.2.1
theorem k0_off84_inb : ∀ (k0_t4 : Fin k0_t4_loop.trips) (k0_t6 : Fin (k0_t6_loop k0_t4).trips) (arg39 : BitVec 32) (k0_hw12 : k0_chk12 k0_t4 k0_t6 arg39), ∀ a, (k0_off84 arg39) a + S1x256x128.size a ≤ S4x4096x128.size a := fun k0_t4 k0_t6 arg39 k0_hw12 => k0_hw12.2.2.1
theorem k0_off94_inb : ∀ (k0_t4 : Fin k0_t4_loop.trips) (k0_t6 : Fin (k0_t6_loop k0_t4).trips) (arg39 : BitVec 32) (k0_hw12 : k0_chk12 k0_t4 k0_t6 arg39), ∀ a, (k0_off94 arg39) a + S1x256x128.size a ≤ S4x4096x128.size a := fun k0_t4 k0_t6 arg39 k0_hw12 => k0_hw12.2.2.2.1
theorem k0_off104_inb : ∀ (k0_t4 : Fin k0_t4_loop.trips) (k0_t6 : Fin (k0_t6_loop k0_t4).trips) (arg39 : BitVec 32) (k0_hw12 : k0_chk12 k0_t4 k0_t6 arg39), ∀ a, (k0_off104 arg39) a + S1x256x128.size a ≤ S4x4096x128.size a := fun k0_t4 k0_t6 arg39 k0_hw12 => k0_hw12.2.2.2.2

def k0_off105 (arg37 : BitVec 32) (c0_i32_659 : BitVec 32) : Fin 3 → Nat :=
  let c3_660 : Index := 3#32
  let c0_i32_110 : BitVec 32 := 0#32
  let v149 : BitVec 32 := Scalar.maxsi arg37 c0_i32_110
  let c2_i32_111 : BitVec 32 := 2#32
  let v150 : BitVec 32 := Scalar.muli v149 c2_i32_111
  let c128_i32_112 : BitVec 32 := 128#32
  let v151 : BitVec 32 := Scalar.muli v150 c128_i32_112
  let v152 : BitVec 32 := v151
  let v951 : BitVec 32 := Scalar.addi v152 c0_i32_659
  let v952 : Index := Scalar.indexCast v951
  let c0_661 : Index := 0#32
  ![3, v952.toNat, 0]

def k0_chk7 (k0_t4 : Fin k0_t4_loop.trips) (k0_t6 : Fin (k0_t6_loop k0_t4).trips) (arg37 : BitVec 32) : Prop :=
  (128 ∣ (k0_mult19 arg37).toNat) ∧
  (256 ∣ (k0_mult25 arg37).toNat) ∧
  (∀ a, (k0_off66 arg37) a + S128x128.size a ≤ S2048x128.size a) ∧
  (∀ (r : Fin 2), ∀ a, (k0_off75 arg37 (BitVec.ofNat 32 (128 * r.val))) a + S1x128x128.size a ≤ S4x4096x128.size a) ∧
  (∀ (r : Fin 2), ∀ a, (k0_off85 arg37 (BitVec.ofNat 32 (128 * r.val))) a + S1x128x128.size a ≤ S4x4096x128.size a) ∧
  (∀ (r : Fin 2), ∀ a, (k0_off95 arg37 (BitVec.ofNat 32 (128 * r.val))) a + S1x128x128.size a ≤ S4x4096x128.size a) ∧
  (∀ (r : Fin 2), ∀ a, (k0_off105 arg37 (BitVec.ofNat 32 (128 * r.val))) a + S1x128x128.size a ≤ S4x4096x128.size a)
theorem k0_mult19_dvd : ∀ (k0_t4 : Fin k0_t4_loop.trips) (k0_t6 : Fin (k0_t6_loop k0_t4).trips) (arg37 : BitVec 32) (k0_hw7 : k0_chk7 k0_t4 k0_t6 arg37), 128 ∣ (k0_mult19 arg37).toNat := fun k0_t4 k0_t6 arg37 k0_hw7 => k0_hw7.1
theorem k0_mult25_dvd : ∀ (k0_t4 : Fin k0_t4_loop.trips) (k0_t6 : Fin (k0_t6_loop k0_t4).trips) (arg37 : BitVec 32) (k0_hw7 : k0_chk7 k0_t4 k0_t6 arg37), 256 ∣ (k0_mult25 arg37).toNat := fun k0_t4 k0_t6 arg37 k0_hw7 => k0_hw7.2.1
theorem k0_off66_inb : ∀ (k0_t4 : Fin k0_t4_loop.trips) (k0_t6 : Fin (k0_t6_loop k0_t4).trips) (arg37 : BitVec 32) (k0_hw7 : k0_chk7 k0_t4 k0_t6 arg37), ∀ a, (k0_off66 arg37) a + S128x128.size a ≤ S2048x128.size a := fun k0_t4 k0_t6 arg37 k0_hw7 => k0_hw7.2.2.1
theorem k0_off75_inb : ∀ (k0_t4 : Fin k0_t4_loop.trips) (k0_t6 : Fin (k0_t6_loop k0_t4).trips) (arg37 : BitVec 32) (k0_hw7 : k0_chk7 k0_t4 k0_t6 arg37), ∀ (r : Fin 2), ∀ a, (k0_off75 arg37 (BitVec.ofNat 32 (128 * r.val))) a + S1x128x128.size a ≤ S4x4096x128.size a := fun k0_t4 k0_t6 arg37 k0_hw7 r => k0_hw7.2.2.2.1 r
theorem k0_off85_inb : ∀ (k0_t4 : Fin k0_t4_loop.trips) (k0_t6 : Fin (k0_t6_loop k0_t4).trips) (arg37 : BitVec 32) (k0_hw7 : k0_chk7 k0_t4 k0_t6 arg37), ∀ (r : Fin 2), ∀ a, (k0_off85 arg37 (BitVec.ofNat 32 (128 * r.val))) a + S1x128x128.size a ≤ S4x4096x128.size a := fun k0_t4 k0_t6 arg37 k0_hw7 r => k0_hw7.2.2.2.2.1 r
theorem k0_off95_inb : ∀ (k0_t4 : Fin k0_t4_loop.trips) (k0_t6 : Fin (k0_t6_loop k0_t4).trips) (arg37 : BitVec 32) (k0_hw7 : k0_chk7 k0_t4 k0_t6 arg37), ∀ (r : Fin 2), ∀ a, (k0_off95 arg37 (BitVec.ofNat 32 (128 * r.val))) a + S1x128x128.size a ≤ S4x4096x128.size a := fun k0_t4 k0_t6 arg37 k0_hw7 r => k0_hw7.2.2.2.2.2.1 r
theorem k0_off105_inb : ∀ (k0_t4 : Fin k0_t4_loop.trips) (k0_t6 : Fin (k0_t6_loop k0_t4).trips) (arg37 : BitVec 32) (k0_hw7 : k0_chk7 k0_t4 k0_t6 arg37), ∀ (r : Fin 2), ∀ a, (k0_off105 arg37 (BitVec.ofNat 32 (128 * r.val))) a + S1x128x128.size a ≤ S4x4096x128.size a := fun k0_t4 k0_t6 arg37 k0_hw7 r => k0_hw7.2.2.2.2.2.2 r

def k0_off106 (k0_t4 : Fin k0_t4_loop.trips) (c0_i32_678 : BitVec 32) : Fin 3 → Nat :=
  let c3_679 : Index := 3#32
  let c0_i32_71 : BitVec 32 := 0#32
  let c1_i32_73 : BitVec 32 := 1#32
  let arg29 : BitVec 32 := Scf.iv c0_i32_71 c1_i32_73 k0_t4
  let c0_i32_107 : BitVec 32 := 0#32
  let v145 : BitVec 32 := Scalar.maxsi arg29 c0_i32_107
  let c2_i32_108 : BitVec 32 := 2#32
  let v146 : BitVec 32 := Scalar.muli v145 c2_i32_108
  let c128_i32_109 : BitVec 32 := 128#32
  let v147 : BitVec 32 := Scalar.muli v146 c128_i32_109
  let v148 : BitVec 32 := v147
  let v973 : BitVec 32 := Scalar.addi v148 c0_i32_678
  let v974 : Index := Scalar.indexCast v973
  let c0_680 : Index := 0#32
  ![3, v974.toNat, 0]
@[reducible] def k0_t7_loop : Scf.Loop 32 :=
  let c0_i32_76 : BitVec 32 := 0#32
  let c3_i32_77 : BitVec 32 := 3#32
  let v106 : BitVec 32 := Scalar.addi c0_i32_76 c3_i32_77
  let c1_i32_78 : BitVec 32 := 1#32
  ⟨c0_i32_76, v106, c1_i32_78⟩
def k0_mult29 : BitVec 32 :=
  let c_m1_i32_75 : BitVec 32 := 4294967295#32
  let c0_i32_90 : BitVec 32 := 0#32
  let v119 : BitVec 32 := Scalar.maxsi c_m1_i32_75 c0_i32_90
  let c128_i32_91 : BitVec 32 := 128#32
  let v120 : BitVec 32 := Scalar.muli v119 c128_i32_91
  v120
def k0_mult30 (arg30 : BitVec 32) : BitVec 32 :=
  let c0_i32_92 : BitVec 32 := 0#32
  let v122 : BitVec 32 := Scalar.maxsi arg30 c0_i32_92
  let c128_i32_93 : BitVec 32 := 128#32
  let v123 : BitVec 32 := Scalar.muli v122 c128_i32_93
  v123

def k0_mult31 (arg31 : BitVec 32) : BitVec 32 :=
  let c0_i32_94 : BitVec 32 := 0#32
  let v125 : BitVec 32 := Scalar.maxsi arg31 c0_i32_94
  let c128_i32_95 : BitVec 32 := 128#32
  let v126 : BitVec 32 := Scalar.muli v125 c128_i32_95
  v126

def k0_mult32 (arg33 : BitVec 32) : BitVec 32 :=
  let c0_i32_96 : BitVec 32 := 0#32
  let v128 : BitVec 32 := Scalar.maxsi arg33 c0_i32_96
  let c128_i32_97 : BitVec 32 := 128#32
  let v129 : BitVec 32 := Scalar.muli v128 c128_i32_97
  v129

def k0_mult33 (arg34 : BitVec 32) : BitVec 32 :=
  let c0_i32_98 : BitVec 32 := 0#32
  let v131 : BitVec 32 := Scalar.maxsi arg34 c0_i32_98
  let c128_i32_99 : BitVec 32 := 128#32
  let v132 : BitVec 32 := Scalar.muli v131 c128_i32_99
  v132

def k0_mult34 (arg35 : BitVec 32) : BitVec 32 :=
  let c0_i32_100 : BitVec 32 := 0#32
  let v134 : BitVec 32 := Scalar.maxsi arg35 c0_i32_100
  let c128_i32_101 : BitVec 32 := 128#32
  let v135 : BitVec 32 := Scalar.muli v134 c128_i32_101
  v135

def k0_mult35 : BitVec 32 :=
  let c_m1_i32_75 : BitVec 32 := 4294967295#32
  let c0_i32_102 : BitVec 32 := 0#32
  let v137 : BitVec 32 := Scalar.maxsi c_m1_i32_75 c0_i32_102
  let c2_i32_103 : BitVec 32 := 2#32
  let v138 : BitVec 32 := Scalar.muli v137 c2_i32_103
  let c128_i32_104 : BitVec 32 := 128#32
  let v139 : BitVec 32 := Scalar.muli v138 c128_i32_104
  v139
def k0_mult36 (arg30 : BitVec 32) : BitVec 32 :=
  let c0_i32_105 : BitVec 32 := 0#32
  let v141 : BitVec 32 := Scalar.maxsi arg30 c0_i32_105
  let c2_i32_106 : BitVec 32 := 2#32
  let v142 : BitVec 32 := Scalar.muli v141 c2_i32_106
  let c128_i32_107 : BitVec 32 := 128#32
  let v143 : BitVec 32 := Scalar.muli v142 c128_i32_107
  v143
def k0_mult37 (arg32 : BitVec 32) : BitVec 32 :=
  let c0_i32_108 : BitVec 32 := 0#32
  let v145 : BitVec 32 := Scalar.maxsi arg32 c0_i32_108
  let c2_i32_109 : BitVec 32 := 2#32
  let v146 : BitVec 32 := Scalar.muli v145 c2_i32_109
  let c128_i32_110 : BitVec 32 := 128#32
  let v147 : BitVec 32 := Scalar.muli v146 c128_i32_110
  v147

def k0_mult38 (arg34 : BitVec 32) : BitVec 32 :=
  let c0_i32_111 : BitVec 32 := 0#32
  let v149 : BitVec 32 := Scalar.maxsi arg34 c0_i32_111
  let c2_i32_112 : BitVec 32 := 2#32
  let v150 : BitVec 32 := Scalar.muli v149 c2_i32_112
  let c128_i32_113 : BitVec 32 := 128#32
  let v151 : BitVec 32 := Scalar.muli v150 c128_i32_113
  v151
def k0_mult39 (arg35 : BitVec 32) : BitVec 32 :=
  let c0_i32_114 : BitVec 32 := 0#32
  let v153 : BitVec 32 := Scalar.maxsi arg35 c0_i32_114
  let c2_i32_115 : BitVec 32 := 2#32
  let v154 : BitVec 32 := Scalar.muli v153 c2_i32_115
  let c128_i32_116 : BitVec 32 := 128#32
  let v155 : BitVec 32 := Scalar.muli v154 c128_i32_116
  v155
def k0_off107 (arg30 : BitVec 32) : Fin 2 → Nat :=
  let c0_i32_92 : BitVec 32 := 0#32
  let v122 : BitVec 32 := Scalar.maxsi arg30 c0_i32_92
  let c128_i32_93 : BitVec 32 := 128#32
  let v123 : BitVec 32 := Scalar.muli v122 c128_i32_93
  let v124 : BitVec 32 := v123
  let v167 : Index := Scalar.indexCast v124
  let c0_120 : Index := 0#32
  ![v167.toNat, 0]
def k0_off108 : Fin 2 → Nat :=
  let c_m1_i32_75 : BitVec 32 := 4294967295#32
  let c0_i32_90 : BitVec 32 := 0#32
  let v119 : BitVec 32 := Scalar.maxsi c_m1_i32_75 c0_i32_90
  let c128_i32_91 : BitVec 32 := 128#32
  let v120 : BitVec 32 := Scalar.muli v119 c128_i32_91
  let v121 : BitVec 32 := v120
  let v170 : Index := Scalar.indexCast v121
  let c0_122 : Index := 0#32
  ![v170.toNat, 0]
def k0_off109 (arg31 : BitVec 32) : Fin 2 → Nat :=
  let c0_i32_94 : BitVec 32 := 0#32
  let v125 : BitVec 32 := Scalar.maxsi arg31 c0_i32_94
  let c128_i32_95 : BitVec 32 := 128#32
  let v126 : BitVec 32 := Scalar.muli v125 c128_i32_95
  let v127 : BitVec 32 := v126
  let v172 : Index := Scalar.indexCast v127
  let c0_123 : Index := 0#32
  ![v172.toNat, 0]
def k0_off110 (arg34 : BitVec 32) : Fin 2 → Nat :=
  let c0_i32_98 : BitVec 32 := 0#32
  let v131 : BitVec 32 := Scalar.maxsi arg34 c0_i32_98
  let c128_i32_99 : BitVec 32 := 128#32
  let v132 : BitVec 32 := Scalar.muli v131 c128_i32_99
  let v133 : BitVec 32 := v132
  let v174 : Index := Scalar.indexCast v133
  let c0_124 : Index := 0#32
  ![v174.toNat, 0]
def k0_off111 (arg35 : BitVec 32) : Fin 3 → Nat :=
  let c0_128 : Index := 0#32
  let c0_i32_114 : BitVec 32 := 0#32
  let v153 : BitVec 32 := Scalar.maxsi arg35 c0_i32_114
  let c2_i32_115 : BitVec 32 := 2#32
  let v154 : BitVec 32 := Scalar.muli v153 c2_i32_115
  let c128_i32_116 : BitVec 32 := 128#32
  let v155 : BitVec 32 := Scalar.muli v154 c128_i32_116
  let v156 : BitVec 32 := v155
  let v178 : Index := Scalar.indexCast v156
  let c0_129 : Index := 0#32
  ![0, v178.toNat, 0]
def k0_off112 (arg35 : BitVec 32) : Fin 2 → Nat :=
  let c0_i32_100 : BitVec 32 := 0#32
  let v134 : BitVec 32 := Scalar.maxsi arg35 c0_i32_100
  let c128_i32_101 : BitVec 32 := 128#32
  let v135 : BitVec 32 := Scalar.muli v134 c128_i32_101
  let v136 : BitVec 32 := v135
  let v187 : Index := Scalar.indexCast v136
  let c0_132 : Index := 0#32
  ![v187.toNat, 0]
def k0_off113 (arg34 : BitVec 32) : Fin 3 → Nat :=
  let c0_136 : Index := 0#32
  let c0_i32_111 : BitVec 32 := 0#32
  let v149 : BitVec 32 := Scalar.maxsi arg34 c0_i32_111
  let c2_i32_112 : BitVec 32 := 2#32
  let v150 : BitVec 32 := Scalar.muli v149 c2_i32_112
  let c128_i32_113 : BitVec 32 := 128#32
  let v151 : BitVec 32 := Scalar.muli v150 c128_i32_113
  let v152 : BitVec 32 := v151
  let v191 : Index := Scalar.indexCast v152
  let c0_137 : Index := 0#32
  ![0, v191.toNat, 0]
def k0_off114 (arg33 : BitVec 32) : Fin 2 → Nat :=
  let c0_i32_96 : BitVec 32 := 0#32
  let v128 : BitVec 32 := Scalar.maxsi arg33 c0_i32_96
  let c128_i32_97 : BitVec 32 := 128#32
  let v129 : BitVec 32 := Scalar.muli v128 c128_i32_97
  let v130 : BitVec 32 := v129
  let v200 : Index := Scalar.indexCast v130
  let c0_140 : Index := 0#32
  ![v200.toNat, 0]
def k0_off115 (arg32 : BitVec 32) : Fin 3 → Nat :=
  let c0_144 : Index := 0#32
  let c0_i32_108 : BitVec 32 := 0#32
  let v145 : BitVec 32 := Scalar.maxsi arg32 c0_i32_108
  let c2_i32_109 : BitVec 32 := 2#32
  let v146 : BitVec 32 := Scalar.muli v145 c2_i32_109
  let c128_i32_110 : BitVec 32 := 128#32
  let v147 : BitVec 32 := Scalar.muli v146 c128_i32_110
  let v148 : BitVec 32 := v147
  let v204 : Index := Scalar.indexCast v148
  let c0_145 : Index := 0#32
  ![0, v204.toNat, 0]
def k0_off116 (arg30 : BitVec 32) (c0_i32_181 : BitVec 32) : Fin 3 → Nat :=
  let c0_182 : Index := 0#32
  let c0_i32_105 : BitVec 32 := 0#32
  let v141 : BitVec 32 := Scalar.maxsi arg30 c0_i32_105
  let c2_i32_106 : BitVec 32 := 2#32
  let v142 : BitVec 32 := Scalar.muli v141 c2_i32_106
  let c128_i32_107 : BitVec 32 := 128#32
  let v143 : BitVec 32 := Scalar.muli v142 c128_i32_107
  let v144 : BitVec 32 := v143
  let v256 : BitVec 32 := Scalar.addi v144 c0_i32_181
  let v257 : Index := Scalar.indexCast v256
  let c0_183 : Index := 0#32
  ![0, v257.toNat, 0]
def k0_off117 (c0_i32_200 : BitVec 32) : Fin 3 → Nat :=
  let c0_201 : Index := 0#32
  let c_m1_i32_75 : BitVec 32 := 4294967295#32
  let c0_i32_102 : BitVec 32 := 0#32
  let v137 : BitVec 32 := Scalar.maxsi c_m1_i32_75 c0_i32_102
  let c2_i32_103 : BitVec 32 := 2#32
  let v138 : BitVec 32 := Scalar.muli v137 c2_i32_103
  let c128_i32_104 : BitVec 32 := 128#32
  let v139 : BitVec 32 := Scalar.muli v138 c128_i32_104
  let v140 : BitVec 32 := v139
  let v278 : BitVec 32 := Scalar.addi v140 c0_i32_200
  let v279 : Index := Scalar.indexCast v278
  let c0_202 : Index := 0#32
  ![0, v279.toNat, 0]
def k0_off118 : Fin 2 → Nat :=
  let c_m1_i32_75 : BitVec 32 := 4294967295#32
  let c0_i32_90 : BitVec 32 := 0#32
  let v119 : BitVec 32 := Scalar.maxsi c_m1_i32_75 c0_i32_90
  let c128_i32_91 : BitVec 32 := 128#32
  let v120 : BitVec 32 := Scalar.muli v119 c128_i32_91
  let v121 : BitVec 32 := v120
  let v399 : Index := Scalar.indexCast v121
  let c128_282 : Index := 128#32
  ![v399.toNat, 128]
def k0_off119 (arg31 : BitVec 32) : Fin 2 → Nat :=
  let c0_i32_94 : BitVec 32 := 0#32
  let v125 : BitVec 32 := Scalar.maxsi arg31 c0_i32_94
  let c128_i32_95 : BitVec 32 := 128#32
  let v126 : BitVec 32 := Scalar.muli v125 c128_i32_95
  let v127 : BitVec 32 := v126
  let v401 : Index := Scalar.indexCast v127
  let c128_283 : Index := 128#32
  ![v401.toNat, 128]
def k0_off120 (arg34 : BitVec 32) : Fin 2 → Nat :=
  let c0_i32_98 : BitVec 32 := 0#32
  let v131 : BitVec 32 := Scalar.maxsi arg34 c0_i32_98
  let c128_i32_99 : BitVec 32 := 128#32
  let v132 : BitVec 32 := Scalar.muli v131 c128_i32_99
  let v133 : BitVec 32 := v132
  let v403 : Index := Scalar.indexCast v133
  let c128_284 : Index := 128#32
  ![v403.toNat, 128]
def k0_off121 (arg35 : BitVec 32) : Fin 3 → Nat :=
  let c1_288 : Index := 1#32
  let c0_i32_114 : BitVec 32 := 0#32
  let v153 : BitVec 32 := Scalar.maxsi arg35 c0_i32_114
  let c2_i32_115 : BitVec 32 := 2#32
  let v154 : BitVec 32 := Scalar.muli v153 c2_i32_115
  let c128_i32_116 : BitVec 32 := 128#32
  let v155 : BitVec 32 := Scalar.muli v154 c128_i32_116
  let v156 : BitVec 32 := v155
  let v407 : Index := Scalar.indexCast v156
  let c0_289 : Index := 0#32
  ![1, v407.toNat, 0]
def k0_off122 (arg35 : BitVec 32) : Fin 2 → Nat :=
  let c0_i32_100 : BitVec 32 := 0#32
  let v134 : BitVec 32 := Scalar.maxsi arg35 c0_i32_100
  let c128_i32_101 : BitVec 32 := 128#32
  let v135 : BitVec 32 := Scalar.muli v134 c128_i32_101
  let v136 : BitVec 32 := v135
  let v416 : Index := Scalar.indexCast v136
  let c128_292 : Index := 128#32
  ![v416.toNat, 128]
def k0_off123 (arg34 : BitVec 32) : Fin 3 → Nat :=
  let c1_296 : Index := 1#32
  let c0_i32_111 : BitVec 32 := 0#32
  let v149 : BitVec 32 := Scalar.maxsi arg34 c0_i32_111
  let c2_i32_112 : BitVec 32 := 2#32
  let v150 : BitVec 32 := Scalar.muli v149 c2_i32_112
  let c128_i32_113 : BitVec 32 := 128#32
  let v151 : BitVec 32 := Scalar.muli v150 c128_i32_113
  let v152 : BitVec 32 := v151
  let v420 : Index := Scalar.indexCast v152
  let c0_297 : Index := 0#32
  ![1, v420.toNat, 0]
def k0_off124 (arg33 : BitVec 32) : Fin 2 → Nat :=
  let c0_i32_96 : BitVec 32 := 0#32
  let v128 : BitVec 32 := Scalar.maxsi arg33 c0_i32_96
  let c128_i32_97 : BitVec 32 := 128#32
  let v129 : BitVec 32 := Scalar.muli v128 c128_i32_97
  let v130 : BitVec 32 := v129
  let v429 : Index := Scalar.indexCast v130
  let c128_300 : Index := 128#32
  ![v429.toNat, 128]
def k0_off125 (arg32 : BitVec 32) : Fin 3 → Nat :=
  let c1_304 : Index := 1#32
  let c0_i32_108 : BitVec 32 := 0#32
  let v145 : BitVec 32 := Scalar.maxsi arg32 c0_i32_108
  let c2_i32_109 : BitVec 32 := 2#32
  let v146 : BitVec 32 := Scalar.muli v145 c2_i32_109
  let c128_i32_110 : BitVec 32 := 128#32
  let v147 : BitVec 32 := Scalar.muli v146 c128_i32_110
  let v148 : BitVec 32 := v147
  let v433 : Index := Scalar.indexCast v148
  let c0_305 : Index := 0#32
  ![1, v433.toNat, 0]
def k0_off126 (arg30 : BitVec 32) (c0_i32_339 : BitVec 32) : Fin 3 → Nat :=
  let c1_340 : Index := 1#32
  let c0_i32_105 : BitVec 32 := 0#32
  let v141 : BitVec 32 := Scalar.maxsi arg30 c0_i32_105
  let c2_i32_106 : BitVec 32 := 2#32
  let v142 : BitVec 32 := Scalar.muli v141 c2_i32_106
  let c128_i32_107 : BitVec 32 := 128#32
  let v143 : BitVec 32 := Scalar.muli v142 c128_i32_107
  let v144 : BitVec 32 := v143
  let v485 : BitVec 32 := Scalar.addi v144 c0_i32_339
  let v486 : Index := Scalar.indexCast v485
  let c0_341 : Index := 0#32
  ![1, v486.toNat, 0]
def k0_off127 (c0_i32_358 : BitVec 32) : Fin 3 → Nat :=
  let c1_359 : Index := 1#32
  let c_m1_i32_75 : BitVec 32 := 4294967295#32
  let c0_i32_102 : BitVec 32 := 0#32
  let v137 : BitVec 32 := Scalar.maxsi c_m1_i32_75 c0_i32_102
  let c2_i32_103 : BitVec 32 := 2#32
  let v138 : BitVec 32 := Scalar.muli v137 c2_i32_103
  let c128_i32_104 : BitVec 32 := 128#32
  let v139 : BitVec 32 := Scalar.muli v138 c128_i32_104
  let v140 : BitVec 32 := v139
  let v507 : BitVec 32 := Scalar.addi v140 c0_i32_358
  let v508 : Index := Scalar.indexCast v507
  let c0_360 : Index := 0#32
  ![1, v508.toNat, 0]
def k0_off128 : Fin 2 → Nat :=
  let c_m1_i32_75 : BitVec 32 := 4294967295#32
  let c0_i32_90 : BitVec 32 := 0#32
  let v119 : BitVec 32 := Scalar.maxsi c_m1_i32_75 c0_i32_90
  let c128_i32_91 : BitVec 32 := 128#32
  let v120 : BitVec 32 := Scalar.muli v119 c128_i32_91
  let v121 : BitVec 32 := v120
  let v628 : Index := Scalar.indexCast v121
  let c256 : Index := 256#32
  ![v628.toNat, 256]
def k0_off129 (arg31 : BitVec 32) : Fin 2 → Nat :=
  let c0_i32_94 : BitVec 32 := 0#32
  let v125 : BitVec 32 := Scalar.maxsi arg31 c0_i32_94
  let c128_i32_95 : BitVec 32 := 128#32
  let v126 : BitVec 32 := Scalar.muli v125 c128_i32_95
  let v127 : BitVec 32 := v126
  let v630 : Index := Scalar.indexCast v127
  let c256_440 : Index := 256#32
  ![v630.toNat, 256]
def k0_off130 (arg34 : BitVec 32) : Fin 2 → Nat :=
  let c0_i32_98 : BitVec 32 := 0#32
  let v131 : BitVec 32 := Scalar.maxsi arg34 c0_i32_98
  let c128_i32_99 : BitVec 32 := 128#32
  let v132 : BitVec 32 := Scalar.muli v131 c128_i32_99
  let v133 : BitVec 32 := v132
  let v632 : Index := Scalar.indexCast v133
  let c256_441 : Index := 256#32
  ![v632.toNat, 256]
def k0_off131 (arg35 : BitVec 32) : Fin 3 → Nat :=
  let c2_445 : Index := 2#32
  let c0_i32_114 : BitVec 32 := 0#32
  let v153 : BitVec 32 := Scalar.maxsi arg35 c0_i32_114
  let c2_i32_115 : BitVec 32 := 2#32
  let v154 : BitVec 32 := Scalar.muli v153 c2_i32_115
  let c128_i32_116 : BitVec 32 := 128#32
  let v155 : BitVec 32 := Scalar.muli v154 c128_i32_116
  let v156 : BitVec 32 := v155
  let v636 : Index := Scalar.indexCast v156
  let c0_446 : Index := 0#32
  ![2, v636.toNat, 0]
def k0_off132 (arg35 : BitVec 32) : Fin 2 → Nat :=
  let c0_i32_100 : BitVec 32 := 0#32
  let v134 : BitVec 32 := Scalar.maxsi arg35 c0_i32_100
  let c128_i32_101 : BitVec 32 := 128#32
  let v135 : BitVec 32 := Scalar.muli v134 c128_i32_101
  let v136 : BitVec 32 := v135
  let v645 : Index := Scalar.indexCast v136
  let c256_449 : Index := 256#32
  ![v645.toNat, 256]
def k0_off133 (arg34 : BitVec 32) : Fin 3 → Nat :=
  let c2_453 : Index := 2#32
  let c0_i32_111 : BitVec 32 := 0#32
  let v149 : BitVec 32 := Scalar.maxsi arg34 c0_i32_111
  let c2_i32_112 : BitVec 32 := 2#32
  let v150 : BitVec 32 := Scalar.muli v149 c2_i32_112
  let c128_i32_113 : BitVec 32 := 128#32
  let v151 : BitVec 32 := Scalar.muli v150 c128_i32_113
  let v152 : BitVec 32 := v151
  let v649 : Index := Scalar.indexCast v152
  let c0_454 : Index := 0#32
  ![2, v649.toNat, 0]
def k0_off134 (arg33 : BitVec 32) : Fin 2 → Nat :=
  let c0_i32_96 : BitVec 32 := 0#32
  let v128 : BitVec 32 := Scalar.maxsi arg33 c0_i32_96
  let c128_i32_97 : BitVec 32 := 128#32
  let v129 : BitVec 32 := Scalar.muli v128 c128_i32_97
  let v130 : BitVec 32 := v129
  let v658 : Index := Scalar.indexCast v130
  let c256_457 : Index := 256#32
  ![v658.toNat, 256]
def k0_off135 (arg32 : BitVec 32) : Fin 3 → Nat :=
  let c2_461 : Index := 2#32
  let c0_i32_108 : BitVec 32 := 0#32
  let v145 : BitVec 32 := Scalar.maxsi arg32 c0_i32_108
  let c2_i32_109 : BitVec 32 := 2#32
  let v146 : BitVec 32 := Scalar.muli v145 c2_i32_109
  let c128_i32_110 : BitVec 32 := 128#32
  let v147 : BitVec 32 := Scalar.muli v146 c128_i32_110
  let v148 : BitVec 32 := v147
  let v662 : Index := Scalar.indexCast v148
  let c0_462 : Index := 0#32
  ![2, v662.toNat, 0]
def k0_off136 (arg30 : BitVec 32) (c0_i32_497 : BitVec 32) : Fin 3 → Nat :=
  let c2_498 : Index := 2#32
  let c0_i32_105 : BitVec 32 := 0#32
  let v141 : BitVec 32 := Scalar.maxsi arg30 c0_i32_105
  let c2_i32_106 : BitVec 32 := 2#32
  let v142 : BitVec 32 := Scalar.muli v141 c2_i32_106
  let c128_i32_107 : BitVec 32 := 128#32
  let v143 : BitVec 32 := Scalar.muli v142 c128_i32_107
  let v144 : BitVec 32 := v143
  let v714 : BitVec 32 := Scalar.addi v144 c0_i32_497
  let v715 : Index := Scalar.indexCast v714
  let c0_499 : Index := 0#32
  ![2, v715.toNat, 0]
def k0_off137 (c0_i32_516 : BitVec 32) : Fin 3 → Nat :=
  let c2_517 : Index := 2#32
  let c_m1_i32_75 : BitVec 32 := 4294967295#32
  let c0_i32_102 : BitVec 32 := 0#32
  let v137 : BitVec 32 := Scalar.maxsi c_m1_i32_75 c0_i32_102
  let c2_i32_103 : BitVec 32 := 2#32
  let v138 : BitVec 32 := Scalar.muli v137 c2_i32_103
  let c128_i32_104 : BitVec 32 := 128#32
  let v139 : BitVec 32 := Scalar.muli v138 c128_i32_104
  let v140 : BitVec 32 := v139
  let v736 : BitVec 32 := Scalar.addi v140 c0_i32_516
  let v737 : Index := Scalar.indexCast v736
  let c0_518 : Index := 0#32
  ![2, v737.toNat, 0]
def k0_off138 : Fin 2 → Nat :=
  let c_m1_i32_75 : BitVec 32 := 4294967295#32
  let c0_i32_90 : BitVec 32 := 0#32
  let v119 : BitVec 32 := Scalar.maxsi c_m1_i32_75 c0_i32_90
  let c128_i32_91 : BitVec 32 := 128#32
  let v120 : BitVec 32 := Scalar.muli v119 c128_i32_91
  let v121 : BitVec 32 := v120
  let v857 : Index := Scalar.indexCast v121
  let c384 : Index := 384#32
  ![v857.toNat, 384]
def k0_off139 (arg31 : BitVec 32) : Fin 2 → Nat :=
  let c0_i32_94 : BitVec 32 := 0#32
  let v125 : BitVec 32 := Scalar.maxsi arg31 c0_i32_94
  let c128_i32_95 : BitVec 32 := 128#32
  let v126 : BitVec 32 := Scalar.muli v125 c128_i32_95
  let v127 : BitVec 32 := v126
  let v859 : Index := Scalar.indexCast v127
  let c384_598 : Index := 384#32
  ![v859.toNat, 384]

def k0_chk14 (arg31 : BitVec 32) : Prop :=
  (128 ∣ (k0_mult31 arg31).toNat) ∧
  (∀ a, (k0_off109 arg31) a + S128x128.size a ≤ S2048x512.size a) ∧
  (∀ a, (k0_off119 arg31) a + S128x128.size a ≤ S2048x512.size a) ∧
  (∀ a, (k0_off129 arg31) a + S128x128.size a ≤ S2048x512.size a) ∧
  (∀ a, (k0_off139 arg31) a + S128x128.size a ≤ S2048x512.size a)
theorem k0_mult31_dvd : ∀ (arg31 : BitVec 32) (k0_hw14 : k0_chk14 arg31), 128 ∣ (k0_mult31 arg31).toNat := fun arg31 k0_hw14 => k0_hw14.1
theorem k0_off109_inb : ∀ (arg31 : BitVec 32) (k0_hw14 : k0_chk14 arg31), ∀ a, (k0_off109 arg31) a + S128x128.size a ≤ S2048x512.size a := fun arg31 k0_hw14 => k0_hw14.2.1
theorem k0_off119_inb : ∀ (arg31 : BitVec 32) (k0_hw14 : k0_chk14 arg31), ∀ a, (k0_off119 arg31) a + S128x128.size a ≤ S2048x512.size a := fun arg31 k0_hw14 => k0_hw14.2.2.1
theorem k0_off129_inb : ∀ (arg31 : BitVec 32) (k0_hw14 : k0_chk14 arg31), ∀ a, (k0_off129 arg31) a + S128x128.size a ≤ S2048x512.size a := fun arg31 k0_hw14 => k0_hw14.2.2.2.1
theorem k0_off139_inb : ∀ (arg31 : BitVec 32) (k0_hw14 : k0_chk14 arg31), ∀ a, (k0_off139 arg31) a + S128x128.size a ≤ S2048x512.size a := fun arg31 k0_hw14 => k0_hw14.2.2.2.2

def k0_off140 (arg34 : BitVec 32) : Fin 2 → Nat :=
  let c0_i32_98 : BitVec 32 := 0#32
  let v131 : BitVec 32 := Scalar.maxsi arg34 c0_i32_98
  let c128_i32_99 : BitVec 32 := 128#32
  let v132 : BitVec 32 := Scalar.muli v131 c128_i32_99
  let v133 : BitVec 32 := v132
  let v861 : Index := Scalar.indexCast v133
  let c384_599 : Index := 384#32
  ![v861.toNat, 384]
def k0_off141 (arg35 : BitVec 32) : Fin 3 → Nat :=
  let c3_603 : Index := 3#32
  let c0_i32_114 : BitVec 32 := 0#32
  let v153 : BitVec 32 := Scalar.maxsi arg35 c0_i32_114
  let c2_i32_115 : BitVec 32 := 2#32
  let v154 : BitVec 32 := Scalar.muli v153 c2_i32_115
  let c128_i32_116 : BitVec 32 := 128#32
  let v155 : BitVec 32 := Scalar.muli v154 c128_i32_116
  let v156 : BitVec 32 := v155
  let v865 : Index := Scalar.indexCast v156
  let c0_604 : Index := 0#32
  ![3, v865.toNat, 0]
def k0_off142 (arg35 : BitVec 32) : Fin 2 → Nat :=
  let c0_i32_100 : BitVec 32 := 0#32
  let v134 : BitVec 32 := Scalar.maxsi arg35 c0_i32_100
  let c128_i32_101 : BitVec 32 := 128#32
  let v135 : BitVec 32 := Scalar.muli v134 c128_i32_101
  let v136 : BitVec 32 := v135
  let v874 : Index := Scalar.indexCast v136
  let c384_607 : Index := 384#32
  ![v874.toNat, 384]

def k0_chk17 (arg35 : BitVec 32) : Prop :=
  (128 ∣ (k0_mult34 arg35).toNat) ∧
  (256 ∣ (k0_mult39 arg35).toNat) ∧
  (∀ a, (k0_off111 arg35) a + S1x256x128.size a ≤ S4x4096x128.size a) ∧
  (∀ a, (k0_off112 arg35) a + S128x128.size a ≤ S2048x512.size a) ∧
  (∀ a, (k0_off121 arg35) a + S1x256x128.size a ≤ S4x4096x128.size a) ∧
  (∀ a, (k0_off122 arg35) a + S128x128.size a ≤ S2048x512.size a) ∧
  (∀ a, (k0_off131 arg35) a + S1x256x128.size a ≤ S4x4096x128.size a) ∧
  (∀ a, (k0_off132 arg35) a + S128x128.size a ≤ S2048x512.size a) ∧
  (∀ a, (k0_off141 arg35) a + S1x256x128.size a ≤ S4x4096x128.size a) ∧
  (∀ a, (k0_off142 arg35) a + S128x128.size a ≤ S2048x512.size a)
theorem k0_mult34_dvd : ∀ (arg35 : BitVec 32) (k0_hw17 : k0_chk17 arg35), 128 ∣ (k0_mult34 arg35).toNat := fun arg35 k0_hw17 => k0_hw17.1
theorem k0_mult39_dvd : ∀ (arg35 : BitVec 32) (k0_hw17 : k0_chk17 arg35), 256 ∣ (k0_mult39 arg35).toNat := fun arg35 k0_hw17 => k0_hw17.2.1
theorem k0_off111_inb : ∀ (arg35 : BitVec 32) (k0_hw17 : k0_chk17 arg35), ∀ a, (k0_off111 arg35) a + S1x256x128.size a ≤ S4x4096x128.size a := fun arg35 k0_hw17 => k0_hw17.2.2.1
theorem k0_off112_inb : ∀ (arg35 : BitVec 32) (k0_hw17 : k0_chk17 arg35), ∀ a, (k0_off112 arg35) a + S128x128.size a ≤ S2048x512.size a := fun arg35 k0_hw17 => k0_hw17.2.2.2.1
theorem k0_off121_inb : ∀ (arg35 : BitVec 32) (k0_hw17 : k0_chk17 arg35), ∀ a, (k0_off121 arg35) a + S1x256x128.size a ≤ S4x4096x128.size a := fun arg35 k0_hw17 => k0_hw17.2.2.2.2.1
theorem k0_off122_inb : ∀ (arg35 : BitVec 32) (k0_hw17 : k0_chk17 arg35), ∀ a, (k0_off122 arg35) a + S128x128.size a ≤ S2048x512.size a := fun arg35 k0_hw17 => k0_hw17.2.2.2.2.2.1
theorem k0_off131_inb : ∀ (arg35 : BitVec 32) (k0_hw17 : k0_chk17 arg35), ∀ a, (k0_off131 arg35) a + S1x256x128.size a ≤ S4x4096x128.size a := fun arg35 k0_hw17 => k0_hw17.2.2.2.2.2.2.1
theorem k0_off132_inb : ∀ (arg35 : BitVec 32) (k0_hw17 : k0_chk17 arg35), ∀ a, (k0_off132 arg35) a + S128x128.size a ≤ S2048x512.size a := fun arg35 k0_hw17 => k0_hw17.2.2.2.2.2.2.2.1
theorem k0_off141_inb : ∀ (arg35 : BitVec 32) (k0_hw17 : k0_chk17 arg35), ∀ a, (k0_off141 arg35) a + S1x256x128.size a ≤ S4x4096x128.size a := fun arg35 k0_hw17 => k0_hw17.2.2.2.2.2.2.2.2.1
theorem k0_off142_inb : ∀ (arg35 : BitVec 32) (k0_hw17 : k0_chk17 arg35), ∀ a, (k0_off142 arg35) a + S128x128.size a ≤ S2048x512.size a := fun arg35 k0_hw17 => k0_hw17.2.2.2.2.2.2.2.2.2

def k0_off143 (arg34 : BitVec 32) : Fin 3 → Nat :=
  let c3_611 : Index := 3#32
  let c0_i32_111 : BitVec 32 := 0#32
  let v149 : BitVec 32 := Scalar.maxsi arg34 c0_i32_111
  let c2_i32_112 : BitVec 32 := 2#32
  let v150 : BitVec 32 := Scalar.muli v149 c2_i32_112
  let c128_i32_113 : BitVec 32 := 128#32
  let v151 : BitVec 32 := Scalar.muli v150 c128_i32_113
  let v152 : BitVec 32 := v151
  let v878 : Index := Scalar.indexCast v152
  let c0_612 : Index := 0#32
  ![3, v878.toNat, 0]

def k0_chk16 (arg34 : BitVec 32) : Prop :=
  (128 ∣ (k0_mult33 arg34).toNat) ∧
  (256 ∣ (k0_mult38 arg34).toNat) ∧
  (∀ a, (k0_off110 arg34) a + S128x128.size a ≤ S2048x512.size a) ∧
  (∀ a, (k0_off113 arg34) a + S1x256x128.size a ≤ S4x4096x128.size a) ∧
  (∀ a, (k0_off120 arg34) a + S128x128.size a ≤ S2048x512.size a) ∧
  (∀ a, (k0_off123 arg34) a + S1x256x128.size a ≤ S4x4096x128.size a) ∧
  (∀ a, (k0_off130 arg34) a + S128x128.size a ≤ S2048x512.size a) ∧
  (∀ a, (k0_off133 arg34) a + S1x256x128.size a ≤ S4x4096x128.size a) ∧
  (∀ a, (k0_off140 arg34) a + S128x128.size a ≤ S2048x512.size a) ∧
  (∀ a, (k0_off143 arg34) a + S1x256x128.size a ≤ S4x4096x128.size a)
theorem k0_mult33_dvd : ∀ (arg34 : BitVec 32) (k0_hw16 : k0_chk16 arg34), 128 ∣ (k0_mult33 arg34).toNat := fun arg34 k0_hw16 => k0_hw16.1
theorem k0_mult38_dvd : ∀ (arg34 : BitVec 32) (k0_hw16 : k0_chk16 arg34), 256 ∣ (k0_mult38 arg34).toNat := fun arg34 k0_hw16 => k0_hw16.2.1
theorem k0_off110_inb : ∀ (arg34 : BitVec 32) (k0_hw16 : k0_chk16 arg34), ∀ a, (k0_off110 arg34) a + S128x128.size a ≤ S2048x512.size a := fun arg34 k0_hw16 => k0_hw16.2.2.1
theorem k0_off113_inb : ∀ (arg34 : BitVec 32) (k0_hw16 : k0_chk16 arg34), ∀ a, (k0_off113 arg34) a + S1x256x128.size a ≤ S4x4096x128.size a := fun arg34 k0_hw16 => k0_hw16.2.2.2.1
theorem k0_off120_inb : ∀ (arg34 : BitVec 32) (k0_hw16 : k0_chk16 arg34), ∀ a, (k0_off120 arg34) a + S128x128.size a ≤ S2048x512.size a := fun arg34 k0_hw16 => k0_hw16.2.2.2.2.1
theorem k0_off123_inb : ∀ (arg34 : BitVec 32) (k0_hw16 : k0_chk16 arg34), ∀ a, (k0_off123 arg34) a + S1x256x128.size a ≤ S4x4096x128.size a := fun arg34 k0_hw16 => k0_hw16.2.2.2.2.2.1
theorem k0_off130_inb : ∀ (arg34 : BitVec 32) (k0_hw16 : k0_chk16 arg34), ∀ a, (k0_off130 arg34) a + S128x128.size a ≤ S2048x512.size a := fun arg34 k0_hw16 => k0_hw16.2.2.2.2.2.2.1
theorem k0_off133_inb : ∀ (arg34 : BitVec 32) (k0_hw16 : k0_chk16 arg34), ∀ a, (k0_off133 arg34) a + S1x256x128.size a ≤ S4x4096x128.size a := fun arg34 k0_hw16 => k0_hw16.2.2.2.2.2.2.2.1
theorem k0_off140_inb : ∀ (arg34 : BitVec 32) (k0_hw16 : k0_chk16 arg34), ∀ a, (k0_off140 arg34) a + S128x128.size a ≤ S2048x512.size a := fun arg34 k0_hw16 => k0_hw16.2.2.2.2.2.2.2.2.1
theorem k0_off143_inb : ∀ (arg34 : BitVec 32) (k0_hw16 : k0_chk16 arg34), ∀ a, (k0_off143 arg34) a + S1x256x128.size a ≤ S4x4096x128.size a := fun arg34 k0_hw16 => k0_hw16.2.2.2.2.2.2.2.2.2

def k0_off144 (arg33 : BitVec 32) : Fin 2 → Nat :=
  let c0_i32_96 : BitVec 32 := 0#32
  let v128 : BitVec 32 := Scalar.maxsi arg33 c0_i32_96
  let c128_i32_97 : BitVec 32 := 128#32
  let v129 : BitVec 32 := Scalar.muli v128 c128_i32_97
  let v130 : BitVec 32 := v129
  let v887 : Index := Scalar.indexCast v130
  let c384_615 : Index := 384#32
  ![v887.toNat, 384]

def k0_chk15 (arg33 : BitVec 32) : Prop :=
  (128 ∣ (k0_mult32 arg33).toNat) ∧
  (∀ a, (k0_off114 arg33) a + S128x128.size a ≤ S2048x512.size a) ∧
  (∀ a, (k0_off124 arg33) a + S128x128.size a ≤ S2048x512.size a) ∧
  (∀ a, (k0_off134 arg33) a + S128x128.size a ≤ S2048x512.size a) ∧
  (∀ a, (k0_off144 arg33) a + S128x128.size a ≤ S2048x512.size a)
theorem k0_mult32_dvd : ∀ (arg33 : BitVec 32) (k0_hw15 : k0_chk15 arg33), 128 ∣ (k0_mult32 arg33).toNat := fun arg33 k0_hw15 => k0_hw15.1
theorem k0_off114_inb : ∀ (arg33 : BitVec 32) (k0_hw15 : k0_chk15 arg33), ∀ a, (k0_off114 arg33) a + S128x128.size a ≤ S2048x512.size a := fun arg33 k0_hw15 => k0_hw15.2.1
theorem k0_off124_inb : ∀ (arg33 : BitVec 32) (k0_hw15 : k0_chk15 arg33), ∀ a, (k0_off124 arg33) a + S128x128.size a ≤ S2048x512.size a := fun arg33 k0_hw15 => k0_hw15.2.2.1
theorem k0_off134_inb : ∀ (arg33 : BitVec 32) (k0_hw15 : k0_chk15 arg33), ∀ a, (k0_off134 arg33) a + S128x128.size a ≤ S2048x512.size a := fun arg33 k0_hw15 => k0_hw15.2.2.2.1
theorem k0_off144_inb : ∀ (arg33 : BitVec 32) (k0_hw15 : k0_chk15 arg33), ∀ a, (k0_off144 arg33) a + S128x128.size a ≤ S2048x512.size a := fun arg33 k0_hw15 => k0_hw15.2.2.2.2

def k0_off145 (arg32 : BitVec 32) : Fin 3 → Nat :=
  let c3_619 : Index := 3#32
  let c0_i32_108 : BitVec 32 := 0#32
  let v145 : BitVec 32 := Scalar.maxsi arg32 c0_i32_108
  let c2_i32_109 : BitVec 32 := 2#32
  let v146 : BitVec 32 := Scalar.muli v145 c2_i32_109
  let c128_i32_110 : BitVec 32 := 128#32
  let v147 : BitVec 32 := Scalar.muli v146 c128_i32_110
  let v148 : BitVec 32 := v147
  let v891 : Index := Scalar.indexCast v148
  let c0_620 : Index := 0#32
  ![3, v891.toNat, 0]

def k0_chk18 (arg32 : BitVec 32) : Prop :=
  (256 ∣ (k0_mult37 arg32).toNat) ∧
  (∀ a, (k0_off115 arg32) a + S1x256x128.size a ≤ S4x4096x128.size a) ∧
  (∀ a, (k0_off125 arg32) a + S1x256x128.size a ≤ S4x4096x128.size a) ∧
  (∀ a, (k0_off135 arg32) a + S1x256x128.size a ≤ S4x4096x128.size a) ∧
  (∀ a, (k0_off145 arg32) a + S1x256x128.size a ≤ S4x4096x128.size a)
theorem k0_mult37_dvd : ∀ (arg32 : BitVec 32) (k0_hw18 : k0_chk18 arg32), 256 ∣ (k0_mult37 arg32).toNat := fun arg32 k0_hw18 => k0_hw18.1
theorem k0_off115_inb : ∀ (arg32 : BitVec 32) (k0_hw18 : k0_chk18 arg32), ∀ a, (k0_off115 arg32) a + S1x256x128.size a ≤ S4x4096x128.size a := fun arg32 k0_hw18 => k0_hw18.2.1
theorem k0_off125_inb : ∀ (arg32 : BitVec 32) (k0_hw18 : k0_chk18 arg32), ∀ a, (k0_off125 arg32) a + S1x256x128.size a ≤ S4x4096x128.size a := fun arg32 k0_hw18 => k0_hw18.2.2.1
theorem k0_off135_inb : ∀ (arg32 : BitVec 32) (k0_hw18 : k0_chk18 arg32), ∀ a, (k0_off135 arg32) a + S1x256x128.size a ≤ S4x4096x128.size a := fun arg32 k0_hw18 => k0_hw18.2.2.2.1
theorem k0_off145_inb : ∀ (arg32 : BitVec 32) (k0_hw18 : k0_chk18 arg32), ∀ a, (k0_off145 arg32) a + S1x256x128.size a ≤ S4x4096x128.size a := fun arg32 k0_hw18 => k0_hw18.2.2.2.2

def k0_off146 (arg30 : BitVec 32) (c0_i32_654 : BitVec 32) : Fin 3 → Nat :=
  let c3_655 : Index := 3#32
  let c0_i32_105 : BitVec 32 := 0#32
  let v141 : BitVec 32 := Scalar.maxsi arg30 c0_i32_105
  let c2_i32_106 : BitVec 32 := 2#32
  let v142 : BitVec 32 := Scalar.muli v141 c2_i32_106
  let c128_i32_107 : BitVec 32 := 128#32
  let v143 : BitVec 32 := Scalar.muli v142 c128_i32_107
  let v144 : BitVec 32 := v143
  let v943 : BitVec 32 := Scalar.addi v144 c0_i32_654
  let v944 : Index := Scalar.indexCast v943
  let c0_656 : Index := 0#32
  ![3, v944.toNat, 0]

def k0_chk13 (arg30 : BitVec 32) : Prop :=
  (128 ∣ (k0_mult30 arg30).toNat) ∧
  (256 ∣ (k0_mult36 arg30).toNat) ∧
  (∀ a, (k0_off107 arg30) a + S128x128.size a ≤ S2048x128.size a) ∧
  (∀ (r : Fin 2), ∀ a, (k0_off116 arg30 (BitVec.ofNat 32 (128 * r.val))) a + S1x128x128.size a ≤ S4x4096x128.size a) ∧
  (∀ (r : Fin 2), ∀ a, (k0_off126 arg30 (BitVec.ofNat 32 (128 * r.val))) a + S1x128x128.size a ≤ S4x4096x128.size a) ∧
  (∀ (r : Fin 2), ∀ a, (k0_off136 arg30 (BitVec.ofNat 32 (128 * r.val))) a + S1x128x128.size a ≤ S4x4096x128.size a) ∧
  (∀ (r : Fin 2), ∀ a, (k0_off146 arg30 (BitVec.ofNat 32 (128 * r.val))) a + S1x128x128.size a ≤ S4x4096x128.size a)
theorem k0_mult30_dvd : ∀ (arg30 : BitVec 32) (k0_hw13 : k0_chk13 arg30), 128 ∣ (k0_mult30 arg30).toNat := fun arg30 k0_hw13 => k0_hw13.1
theorem k0_mult36_dvd : ∀ (arg30 : BitVec 32) (k0_hw13 : k0_chk13 arg30), 256 ∣ (k0_mult36 arg30).toNat := fun arg30 k0_hw13 => k0_hw13.2.1
theorem k0_off107_inb : ∀ (arg30 : BitVec 32) (k0_hw13 : k0_chk13 arg30), ∀ a, (k0_off107 arg30) a + S128x128.size a ≤ S2048x128.size a := fun arg30 k0_hw13 => k0_hw13.2.2.1
theorem k0_off116_inb : ∀ (arg30 : BitVec 32) (k0_hw13 : k0_chk13 arg30), ∀ (r : Fin 2), ∀ a, (k0_off116 arg30 (BitVec.ofNat 32 (128 * r.val))) a + S1x128x128.size a ≤ S4x4096x128.size a := fun arg30 k0_hw13 r => k0_hw13.2.2.2.1 r
theorem k0_off126_inb : ∀ (arg30 : BitVec 32) (k0_hw13 : k0_chk13 arg30), ∀ (r : Fin 2), ∀ a, (k0_off126 arg30 (BitVec.ofNat 32 (128 * r.val))) a + S1x128x128.size a ≤ S4x4096x128.size a := fun arg30 k0_hw13 r => k0_hw13.2.2.2.2.1 r
theorem k0_off136_inb : ∀ (arg30 : BitVec 32) (k0_hw13 : k0_chk13 arg30), ∀ (r : Fin 2), ∀ a, (k0_off136 arg30 (BitVec.ofNat 32 (128 * r.val))) a + S1x128x128.size a ≤ S4x4096x128.size a := fun arg30 k0_hw13 r => k0_hw13.2.2.2.2.2.1 r
theorem k0_off146_inb : ∀ (arg30 : BitVec 32) (k0_hw13 : k0_chk13 arg30), ∀ (r : Fin 2), ∀ a, (k0_off146 arg30 (BitVec.ofNat 32 (128 * r.val))) a + S1x128x128.size a ≤ S4x4096x128.size a := fun arg30 k0_hw13 r => k0_hw13.2.2.2.2.2.2 r

def k0_off147 (c0_i32_673 : BitVec 32) : Fin 3 → Nat :=
  let c3_674 : Index := 3#32
  let c_m1_i32_75 : BitVec 32 := 4294967295#32
  let c0_i32_102 : BitVec 32 := 0#32
  let v137 : BitVec 32 := Scalar.maxsi c_m1_i32_75 c0_i32_102
  let c2_i32_103 : BitVec 32 := 2#32
  let v138 : BitVec 32 := Scalar.muli v137 c2_i32_103
  let c128_i32_104 : BitVec 32 := 128#32
  let v139 : BitVec 32 := Scalar.muli v138 c128_i32_104
  let v140 : BitVec 32 := v139
  let v965 : BitVec 32 := Scalar.addi v140 c0_i32_673
  let v966 : Index := Scalar.indexCast v965
  let c0_675 : Index := 0#32
  ![3, v966.toNat, 0]
abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== AttnIdeal.lean ====
variable {F : FTy → Type} [FloatOps F] [Named F]
def κ : String → Option EReal := fun
  | "mask" => some ⊥
  | _ => none
-- ==== AttnRefIdeal.lean ====
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩
abbrev S8x2048x64 : Shape := ⟨3, ![8, 2048, 64]⟩
abbrev S2048x1536 : Shape := ⟨2, ![2048, 1536]⟩

abbrev nBuf : Space → Nat
  | .hbm => 175
  | .vmem => 0
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S2048x512, .f32⟩
  | 4 => ⟨S2048x8x64, .f32⟩
  | 5 => ⟨S2048x8x64, .f32⟩
  | 6 => ⟨S2048x8x64, .f32⟩
  | 7 => ⟨S8x2048x2048, .f32⟩
  | 8 => ⟨S_, .f32⟩
  | 9 => ⟨S8x2048x2048, .f32⟩
  | 10 => ⟨S8x2048x2048, .f32⟩
  | 11 => ⟨S2048, .i32⟩
  | 12 => ⟨S1x2048, .i32⟩
  | 13 => ⟨S2048, .i32⟩
  | 14 => ⟨S2048x1, .i32⟩
  | 15 => ⟨S2048x2048, .i32⟩
  | 16 => ⟨S2048x2048, .i32⟩
  | 17 => ⟨S2048x2048, .i1⟩
  | 18 => ⟨S8x2048x2048, .f32⟩
  | 19 => ⟨S8x2048x2048, .f32⟩
  | 20 => ⟨S_, .f32⟩
  | 21 => ⟨S8x2048x2048, .f32⟩
  | 22 => ⟨S8x2048x2048, .f32⟩
  | 23 => ⟨S8x2048x2048, .f32⟩
  | 24 => ⟨S8x2048x2048, .f32⟩
  | 25 => ⟨S8x2048x2048, .i1⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S_, .f32⟩
  | 35 => ⟨S8x2048x2048, .f32⟩
  | 36 => ⟨S8x2048x2048, .i1⟩
  | 37 => ⟨S_, .f32⟩
  | 38 => ⟨S8x2048x2048, .f32⟩
  | 39 => ⟨S8x2048x2048, .f32⟩
  | 40 => ⟨S_, .f32⟩
  | 41 => ⟨S8x2048x2048, .f32⟩
  | 42 => ⟨S8x2048x2048, .i1⟩
  | 43 => ⟨S_, .f32⟩
  | 44 => ⟨S8x2048x2048, .f32⟩
  | 45 => ⟨S8x2048x2048, .f32⟩
  | 46 => ⟨S8x2048x2048, .f32⟩
  | 47 => ⟨S8x2048x2048, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S8x2048x2048, .f32⟩
  | 56 => ⟨S8x2048x2048, .i1⟩
  | 57 => ⟨S_, .f32⟩
  | 58 => ⟨S8x2048x2048, .f32⟩
  | 59 => ⟨S8x2048x2048, .f32⟩
  | 60 => ⟨S8x2048x2048, .f32⟩
  | 61 => ⟨S8x2048x2048, .f32⟩
  | 62 => ⟨S8x2048x2048, .f32⟩
  | 63 => ⟨S_, .f32⟩
  | 64 => ⟨S8x2048x2048, .f32⟩
  | 65 => ⟨S8x2048x2048, .f32⟩
  | 66 => ⟨S8x2048x2048, .f32⟩
  | 67 => ⟨S_, .f32⟩
  | 68 => ⟨S_, .f32⟩
  | 69 => ⟨S8x2048x2048, .i1⟩
  | 70 => ⟨S8x2048x2048, .f32⟩
  | 71 => ⟨S8x2048x2048, .f32⟩
  | 72 => ⟨S_, .f32⟩
  | 73 => ⟨S8x2048x2048, .f32⟩
  | 74 => ⟨S_, .f32⟩
  | 75 => ⟨S_, .f32⟩
  | 76 => ⟨S8x2048x2048, .f32⟩
  | 77 => ⟨S8x2048x2048, .f32⟩
  | 78 => ⟨S8x2048x2048, .f32⟩
  | 79 => ⟨S_, .f32⟩
  | 80 => ⟨S8x2048x2048, .f32⟩
  | 81 => ⟨S8x2048x2048, .f32⟩
  | 82 => ⟨S8x2048x2048, .f32⟩
  | 83 => ⟨S8x2048x2048, .f32⟩
  | 84 => ⟨S8x2048x2048, .i1⟩
  | 85 => ⟨S8x2048x2048, .f32⟩
  | 86 => ⟨S8x2048x2048, .f32⟩
  | 87 => ⟨S8x2048x2048, .f32⟩
  | 88 => ⟨S8x2048x2048, .f32⟩
  | 89 => ⟨S8x2048x2048, .f32⟩
  | 90 => ⟨S8x2048x2048, .f32⟩
  | 91 => ⟨S8x2048x2048, .f32⟩
  | 92 => ⟨S8x2048x2048, .f32⟩
  | 93 => ⟨S_, .f32⟩
  | 94 => ⟨S8x2048x2048, .f32⟩
  | 95 => ⟨S8x2048x2048, .i1⟩
  | 96 => ⟨S_, .f32⟩
  | 97 => ⟨S8x2048x2048, .f32⟩
  | 98 => ⟨S8x2048x2048, .f32⟩
  | 99 => ⟨S_, .f32⟩
  | 100 => ⟨S8x2048x2048, .f32⟩
  | 101 => ⟨S8x2048x2048, .i1⟩
  | 102 => ⟨S_, .f32⟩
  | 103 => ⟨S8x2048x2048, .f32⟩
  | 104 => ⟨S8x2048x2048, .f32⟩
  | 105 => ⟨S8x2048x2048, .f32⟩
  | 106 => ⟨S8x2048x2048, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S8x2048x2048, .f32⟩
  | 115 => ⟨S8x2048x2048, .i1⟩
  | 116 => ⟨S_, .f32⟩
  | 117 => ⟨S8x2048x2048, .f32⟩
  | 118 => ⟨S8x2048x2048, .f32⟩
  | 119 => ⟨S8x2048x2048, .f32⟩
  | 120 => ⟨S8x2048x2048, .f32⟩
  | 121 => ⟨S8x2048x2048, .f32⟩
  | 122 => ⟨S_, .f32⟩
  | 123 => ⟨S8x2048x2048, .f32⟩
  | 124 => ⟨S8x2048x2048, .f32⟩
  | 125 => ⟨S8x2048x2048, .f32⟩
  | 126 => ⟨S8x2048x2048, .f32⟩
  | 127 => ⟨S8x2048x2048, .f32⟩
  | _ => ⟨S2048x512, .f32⟩

abbrev hbmTy0_1 (i : Nat) : BufTy := match i % 128 with
  | 0 => ⟨S_, .f32⟩
  | 1 => ⟨S_, .f32⟩
  | 2 => ⟨S8x2048x2048, .i1⟩
  | 3 => ⟨S8x2048x2048, .f32⟩
  | 4 => ⟨S8x2048x2048, .f32⟩
  | 5 => ⟨S_, .f32⟩
  | 6 => ⟨S8x2048x2048, .f32⟩
  | 7 => ⟨S8x64x2048, .f32⟩
  | 8 => ⟨S2048x8x64, .f32⟩
  | 9 => ⟨S2048x512, .f32⟩
  | 10 => ⟨S2048x8x64, .f32⟩
  | 11 => ⟨S8x64x2048, .f32⟩
  | 12 => ⟨S8x2048x2048, .f32⟩
  | 13 => ⟨S8x64x2048, .f32⟩
  | 14 => ⟨S2048x8x64, .f32⟩
  | 15 => ⟨S_, .f32⟩
  | 16 => ⟨S8x2048x2048, .f32⟩
  | 17 => ⟨S8x2048x2048, .f32⟩
  | 18 => ⟨S8x2048x2048, .f32⟩
  | 19 => ⟨S8x2048x2048, .f32⟩
  | 20 => ⟨S8x2048x2048, .f32⟩
  | 21 => ⟨S8x2048x2048, .f32⟩
  | 22 => ⟨S8x2048x2048, .f32⟩
  | 23 => ⟨S_, .f32⟩
  | 24 => ⟨S_, .f32⟩
  | 25 => ⟨S8x2048x2048, .f32⟩
  | 26 => ⟨S8x2048x2048, .f32⟩
  | 27 => ⟨S_, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S_, .f32⟩
  | 36 => ⟨S8x2048x2048, .f32⟩
  | 37 => ⟨S8x2048x2048, .f32⟩
  | 38 => ⟨S8x2048x64, .f32⟩
  | 39 => ⟨S2048x8x64, .f32⟩
  | 40 => ⟨S8x2048x64, .f32⟩
  | 41 => ⟨S2048x8x64, .f32⟩
  | 42 => ⟨S2048x512, .f32⟩
  | 43 => ⟨S2048x512, .f32⟩
  | 44 => ⟨S2048x512, .f32⟩
  | 45 => ⟨S2048x1536, .f32⟩
  | 46 => ⟨S2048x1536, .bf16⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v14_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v14_2 : Ref sig .tc := ⟨.hbm, 65, rfl⟩
abbrev main_v14_0 : Ref sig .tc := ⟨.hbm, 66, rfl⟩
abbrev main_cst_0 : Ref sig .tc := ⟨.hbm, 67, rfl⟩
abbrev main_call1_v0 : Ref sig .tc := ⟨.hbm, 68, rfl⟩
abbrev main_v15_1 : Ref sig .tc := ⟨.hbm, 69, rfl⟩
abbrev main_call1_v2 : Ref sig .tc := ⟨.hbm, 70, rfl⟩
abbrev main_v15_0 : Ref sig .tc := ⟨.hbm, 71, rfl⟩
abbrev main_call1_cst : Ref sig .tc := ⟨.hbm, 72, rfl⟩
abbrev main_v15_2 : Ref sig .tc := ⟨.hbm, 73, rfl⟩
abbrev main_call2_cst : Ref sig .tc := ⟨.hbm, 74, rfl⟩
abbrev main_call2_v0 : Ref sig .tc := ⟨.hbm, 75, rfl⟩
abbrev main_v16 : Ref sig .tc := ⟨.hbm, 76, rfl⟩
abbrev main_v17 : Ref sig .tc := ⟨.hbm, 77, rfl⟩
abbrev main_call3_v0 : Ref sig .tc := ⟨.hbm, 78, rfl⟩
abbrev main_call3_call0_cst : Ref sig .tc := ⟨.hbm, 79, rfl⟩
abbrev main_call3_call0_v0 : Ref sig .tc := ⟨.hbm, 80, rfl⟩
abbrev main_call3_call0_v1 : Ref sig .tc := ⟨.hbm, 81, rfl⟩
abbrev main_call3_call0_v2 : Ref sig .tc := ⟨.hbm, 82, rfl⟩
abbrev main_call3_call0_v3 : Ref sig .tc := ⟨.hbm, 83, rfl⟩
abbrev main_call3_call0_v4 : Ref sig .tc := ⟨.hbm, 84, rfl⟩
abbrev main_call3_call0_v5 : Ref sig .tc := ⟨.hbm, 85, rfl⟩
abbrev main_call3_call0_v6 : Ref sig .tc := ⟨.hbm, 86, rfl⟩
abbrev main_call3_call0_v7 : Ref sig .tc := ⟨.hbm, 87, rfl⟩
abbrev main_call3_call0_v8 : Ref sig .tc := ⟨.hbm, 88, rfl⟩
abbrev main_call3_call0_v9 : Ref sig .tc := ⟨.hbm, 89, rfl⟩
abbrev main_call3_call0_v10 : Ref sig .tc := ⟨.hbm, 90, rfl⟩
abbrev main_call3_call0_v11 : Ref sig .tc := ⟨.hbm, 91, rfl⟩
abbrev main_call3_v1_0 : Ref sig .tc := ⟨.hbm, 92, rfl⟩
abbrev main_call3_call0_cst_0 : Ref sig .tc := ⟨.hbm, 93, rfl⟩
abbrev main_call3_call0_v13 : Ref sig .tc := ⟨.hbm, 94, rfl⟩
abbrev main_call3_call0_v14 : Ref sig .tc := ⟨.hbm, 95, rfl⟩
abbrev main_call3_call0_cst_1 : Ref sig .tc := ⟨.hbm, 96, rfl⟩
abbrev main_call3_call0_v15 : Ref sig .tc := ⟨.hbm, 97, rfl⟩
abbrev main_call3_call0_v16 : Ref sig .tc := ⟨.hbm, 98, rfl⟩
abbrev main_call3_call0_cst_2 : Ref sig .tc := ⟨.hbm, 99, rfl⟩
abbrev main_call3_call0_v17 : Ref sig .tc := ⟨.hbm, 100, rfl⟩
abbrev main_call3_call0_v18 : Ref sig .tc := ⟨.hbm, 101, rfl⟩
abbrev main_call3_call0_cst_3 : Ref sig .tc := ⟨.hbm, 102, rfl⟩
abbrev main_call3_call0_v19 : Ref sig .tc := ⟨.hbm, 103, rfl⟩
abbrev main_call3_call0_v20 : Ref sig .tc := ⟨.hbm, 104, rfl⟩
abbrev main_call3_call0_v21 : Ref sig .tc := ⟨.hbm, 105, rfl⟩
abbrev main_v18_1 : Ref sig .tc := ⟨.hbm, 106, rfl⟩
abbrev main_call3_call0_cst_4 : Ref sig .tc := ⟨.hbm, 107, rfl⟩
abbrev main_call3_call0_cst_5 : Ref sig .tc := ⟨.hbm, 108, rfl⟩
abbrev main_call3_call0_v23 : Ref sig .tc := ⟨.hbm, 109, rfl⟩
abbrev main_call3_call0_cst_6 : Ref sig .tc := ⟨.hbm, 110, rfl⟩
abbrev main_call3_call0_cst_7 : Ref sig .tc := ⟨.hbm, 111, rfl⟩
abbrev main_call3_call0_v24 : Ref sig .tc := ⟨.hbm, 112, rfl⟩
abbrev main_call3_call0_cst_8 : Ref sig .tc := ⟨.hbm, 113, rfl⟩
abbrev main_call3_call0_v25 : Ref sig .tc := ⟨.hbm, 114, rfl⟩
abbrev main_call3_call0_v26 : Ref sig .tc := ⟨.hbm, 115, rfl⟩
abbrev main_call3_call0_cst_9 : Ref sig .tc := ⟨.hbm, 116, rfl⟩
abbrev main_call3_call0_v27 : Ref sig .tc := ⟨.hbm, 117, rfl⟩
abbrev main_call3_call0_v28 : Ref sig .tc := ⟨.hbm, 118, rfl⟩
abbrev main_call3_call0_v29 : Ref sig .tc := ⟨.hbm, 119, rfl⟩
abbrev main_call3_call0_v30 : Ref sig .tc := ⟨.hbm, 120, rfl⟩
abbrev main_call3_call0_v31 : Ref sig .tc := ⟨.hbm, 121, rfl⟩
abbrev main_call3_call0_cst_10 : Ref sig .tc := ⟨.hbm, 122, rfl⟩
abbrev main_call3_call0_v32 : Ref sig .tc := ⟨.hbm, 123, rfl⟩
abbrev main_v18_2 : Ref sig .tc := ⟨.hbm, 124, rfl⟩
abbrev main_v18_0 : Ref sig .tc := ⟨.hbm, 125, rfl⟩
abbrev main_v19 : Ref sig .tc := ⟨.hbm, 126, rfl⟩
abbrev main_v20 : Ref sig .tc := ⟨.hbm, 127, rfl⟩
abbrev main_cst_1 : Ref sig .tc := ⟨.hbm, 128, rfl⟩
abbrev main_call4_v0 : Ref sig .tc := ⟨.hbm, 129, rfl⟩
abbrev main_v21_1 : Ref sig .tc := ⟨.hbm, 130, rfl⟩
abbrev main_call4_v2 : Ref sig .tc := ⟨.hbm, 131, rfl⟩
abbrev main_v21_0 : Ref sig .tc := ⟨.hbm, 132, rfl⟩
abbrev main_call4_cst : Ref sig .tc := ⟨.hbm, 133, rfl⟩
abbrev main_v21_2 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_call5_cst : Ref sig .tc := ⟨.hbm, 143, rfl⟩
abbrev main_call5_v0 : Ref sig .tc := ⟨.hbm, 144, rfl⟩
abbrev main_v30 : Ref sig .tc := ⟨.hbm, 145, rfl⟩
abbrev main_v31 : Ref sig .tc := ⟨.hbm, 146, rfl⟩
abbrev main_call6_v0 : Ref sig .tc := ⟨.hbm, 147, rfl⟩
abbrev main_call6_v1 : Ref sig .tc := ⟨.hbm, 148, rfl⟩
abbrev main_v32 : Ref sig .tc := ⟨.hbm, 149, rfl⟩
abbrev main_v33 : Ref sig .tc := ⟨.hbm, 150, rfl⟩
abbrev main_call7_cst : Ref sig .tc := ⟨.hbm, 151, rfl⟩
abbrev main_call7_v0 : Ref sig .tc := ⟨.hbm, 152, rfl⟩
abbrev main_v34 : Ref sig .tc := ⟨.hbm, 153, rfl⟩
abbrev main_v35 : Ref sig .tc := ⟨.hbm, 154, rfl⟩
abbrev main_call8_cst : Ref sig .tc := ⟨.hbm, 155, rfl⟩
abbrev main_call8_v0 : Ref sig .tc := ⟨.hbm, 156, rfl⟩
abbrev main_v36 : Ref sig .tc := ⟨.hbm, 157, rfl⟩
abbrev main_call9_v0 : Ref sig .tc := ⟨.hbm, 158, rfl⟩
abbrev main_call9_v1 : Ref sig .tc := ⟨.hbm, 159, rfl⟩
abbrev main_v37 : Ref sig .tc := ⟨.hbm, 160, rfl⟩
abbrev main_v38 : Ref sig .tc := ⟨.hbm, 161, rfl⟩
abbrev main_v39 : Ref sig .tc := ⟨.hbm, 162, rfl⟩
abbrev main_cst_2 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩

abbrev nD : Nat := 1
abbrev τ : Topo := Topo.v7x

variable {F : FTy → Type} [FloatOps F]
-- ==== Ffn.lean ====
abbrev S2048x1024 : Shape := ⟨2, ![2048, 1024]⟩
abbrev S1024x5632 : Shape := ⟨2, ![1024, 5632]⟩
abbrev S2816x1024 : Shape := ⟨2, ![2816, 1024]⟩
abbrev S1024 : Shape := ⟨1, ![1024]⟩
abbrev S1024x4x1408 : Shape := ⟨3, ![1024, 4, 1408]⟩
abbrev S4x1024x1408 : Shape := ⟨3, ![4, 1024, 1408]⟩
abbrev S1x1024 : Shape := ⟨2, ![1, 1024]⟩
abbrev S2048x2816 : Shape := ⟨2, ![2048, 2816]⟩
abbrev S64x128 : Shape := ⟨2, ![64, 128]⟩
abbrev S2048x5632 : Shape := ⟨2, ![2048, 5632]⟩
abbrev S256x1024 : Shape := ⟨2, ![256, 1024]⟩
abbrev S256x2816 : Shape := ⟨2, ![256, 2816]⟩
abbrev S8x128 : Shape := ⟨2, ![8, 128]⟩
abbrev S256x5632 : Shape := ⟨2, ![256, 5632]⟩
abbrev S1x1024x1408 : Shape := ⟨3, ![1, 1024, 1408]⟩
abbrev S1024x1408 : Shape := ⟨2, ![1024, 1408]⟩
abbrev S256x1408 : Shape := ⟨2, ![256, 1408]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 18
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2816x1024, .f32⟩
  | .hbm, ⟨3, _⟩ => ⟨S2048x1024, .f32⟩
  | .hbm, ⟨4, _⟩ => ⟨S2048x1024, .f32⟩
  | .hbm, ⟨5, _⟩ => ⟨S1024, .f32⟩
  | .hbm, ⟨6, _⟩ => ⟨S1024x5632, .bf16⟩
  | .hbm, ⟨7, _⟩ => ⟨S1024x4x1408, .bf16⟩
  | .hbm, ⟨8, _⟩ => ⟨S4x1024x1408, .bf16⟩
  | .hbm, ⟨9, _⟩ => ⟨S2048x1024, .bf16⟩
  | .hbm, ⟨10, _⟩ => ⟨S2816x1024, .bf16⟩
  | .hbm, ⟨11, _⟩ => ⟨S1x1024, .f32⟩
  | .hbm, ⟨12, _⟩ => ⟨S2048x2816, .bf16⟩
  | .hbm, ⟨13, _⟩ => ⟨S2048x1024, .bf16⟩
  | .hbm, ⟨14, _⟩ => ⟨S2048x1024, .f32⟩
  | .hbm, ⟨15, _⟩ => ⟨S64x128, .f32⟩
  | .hbm, ⟨16, _⟩ => ⟨S1x1024, .f32⟩
  | .hbm, ⟨17, _⟩ => ⟨S2048x5632, .bf16⟩
  | .local _ .vmem, ⟨0, _⟩ => ⟨S256x1024, .bf16⟩
  | .local _ .vmem, ⟨1, _⟩ => ⟨S256x1024, .bf16⟩
  | .local _ .vmem, ⟨2, _⟩ => ⟨S4x1024x1408, .bf16⟩
  | .local _ .vmem, ⟨3, _⟩ => ⟨S2816x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x2816, .bf16⟩
  | .local _ .vmem, ⟨10, _⟩ => ⟨S256x2816, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S8x128, .f32⟩
  | .local _ .vmem, ⟨16, _⟩ => ⟨S8x128, .f32⟩
  | .local _ .vmem, ⟨17, _⟩ => ⟨S1x1024, .f32⟩
  | .local _ .vmem, ⟨18, _⟩ => ⟨S256x5632, .bf16⟩
  | .local _ .vmem, ⟨19, _⟩ => ⟨S256x5632, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v81 : BitVec 1 := Scalar.cmpi .eq arg0 c0_i32
  let v82 : BitVec 32 := Scalar.extui v81
  let c0_i32_45 : BitVec 32 := 0#32
  let v83 : BitVec 1 := Scalar.cmpi .ne v82 c0_i32_45
  v83

def k0_cond2 (i : grid0.Coords) : BitVec 1 :=
  let arg0 : BitVec 32 := BitVec.ofNat 32 (i 0).val
  let c0_i32 : BitVec 32 := 0#32
  let v81 : BitVec 1 := Scalar.cmpi .eq arg0 c0_i32
  let v_true : BitVec 1 := 1#1
  let v84 : BitVec 1 := Scalar.xori v81 v_true
  let v85 : BitVec 32 := Scalar.extui v84
  let c0_i32_46 : BitVec 32 := 0#32
  let v86 : BitVec 1 := Scalar.cmpi .ne v85 c0_i32_46
  v86

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FfnRefIdeal.lean ====
abbrev S2048x1024 : Shape := ⟨2, ![2048, 1024]⟩
abbrev S1024x5632 : Shape := ⟨2, ![1024, 5632]⟩
abbrev S2816x1024 : Shape := ⟨2, ![2816, 1024]⟩
abbrev S1024 : Shape := ⟨1, ![1024]⟩
abbrev S2048x5632 : Shape := ⟨2, ![2048, 5632]⟩
abbrev S2048x2816 : Shape := ⟨2, ![2048, 2816]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S8x256 : Shape := ⟨2, ![8, 256]⟩
abbrev S8 : Shape := ⟨1, ![8]⟩
abbrev S8x8 : Shape := ⟨2, ![8, 8]⟩
abbrev S64 : Shape := ⟨1, ![64]⟩
abbrev S64x1 : Shape := ⟨2, ![64, 1]⟩
abbrev S64x128 : Shape := ⟨2, ![64, 128]⟩

abbrev nBuf : Space → Nat
  | .hbm => 113
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2816x1024, .f32⟩
  | .hbm, ⟨3, _⟩ => ⟨S2048x1024, .f32⟩
  | .hbm, ⟨4, _⟩ => ⟨S2048x1024, .f32⟩
  | .hbm, ⟨5, _⟩ => ⟨S1024, .f32⟩
  | .hbm, ⟨6, _⟩ => ⟨S2048x5632, .f32⟩
  | .hbm, ⟨7, _⟩ => ⟨S2048x2816, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S_, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S1x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048, .f32⟩
  | .hbm, ⟨55, _⟩ => ⟨S_, .f32⟩
  | .hbm, ⟨56, _⟩ => ⟨S2048, .f32⟩
  | .hbm, ⟨57, _⟩ => ⟨S2048, .f32⟩
  | .hbm, ⟨58, _⟩ => ⟨S_, .f32⟩
  | .hbm, ⟨59, _⟩ => ⟨S2048, .f32⟩
  | .hbm, ⟨60, _⟩ => ⟨S2048, .f32⟩
  | .hbm, ⟨61, _⟩ => ⟨S_, .f32⟩
  | .hbm, ⟨62, _⟩ => ⟨S2048, .f32⟩
  | .hbm, ⟨63, _⟩ => ⟨S_, .f32⟩
  | .hbm, ⟨64, _⟩ => ⟨S2048, .f32⟩
  | .hbm, ⟨65, _⟩ => ⟨S2048, .f32⟩
  | .hbm, ⟨66, _⟩ => ⟨S_, .f32⟩
  | .hbm, ⟨67, _⟩ => ⟨S2048, .f32⟩
  | .hbm, ⟨68, _⟩ => ⟨S2048, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S2048x1024, .f32⟩
  | .hbm, ⟨76, _⟩ => ⟨S2048x1024, .f32⟩
  | .hbm, ⟨77, _⟩ => ⟨S_, .f32⟩
  | .hbm, ⟨78, _⟩ => ⟨S1024, .f32⟩
  | .hbm, ⟨79, _⟩ => ⟨S2048x1024, .f32⟩
  | .hbm, ⟨80, _⟩ => ⟨S_, .f32⟩
  | .hbm, ⟨81, _⟩ => ⟨S2048, .f32⟩
  | .hbm, ⟨82, _⟩ => ⟨S2048x1, .f32⟩
  | .hbm, ⟨83, _⟩ => ⟨S2048x1024, .f32⟩
  | .hbm, ⟨84, _⟩ => ⟨S2048x1024, .f32⟩
  | .hbm, ⟨85, _⟩ => ⟨S2048x1, .f32⟩
  | .hbm, ⟨86, _⟩ => ⟨S_, .f32⟩
  | .hbm, ⟨87, _⟩ => ⟨S2048x1, .f32⟩
  | .hbm, ⟨88, _⟩ => ⟨S2048x1, .f32⟩
  | .hbm, ⟨89, _⟩ => ⟨S_, .f32⟩
  | .hbm, ⟨90, _⟩ => ⟨S2048, .f32⟩
  | .hbm, ⟨91, _⟩ => ⟨S2048x1024, .f32⟩
  | .hbm, ⟨92, _⟩ => ⟨S2048x1024, .f32⟩
  | .hbm, ⟨93, _⟩ => ⟨S2048x1024, .f32⟩
  | .hbm, ⟨94, _⟩ => ⟨S2048x2816, .f32⟩
  | .hbm, ⟨95, _⟩ => ⟨S2048x2816, .f32⟩
  | .hbm, ⟨96, _⟩ => ⟨S2048x2816, .f32⟩
  | .hbm, ⟨97, _⟩ => ⟨S2048x2816, .f32⟩
  | .hbm, ⟨98, _⟩ => ⟨S2048x2816, .f32⟩
  | .hbm, ⟨99, _⟩ => ⟨S2048x2816, .f32⟩
  | .hbm, ⟨100, _⟩ => ⟨S2048x2816, .f32⟩
  | .hbm, ⟨101, _⟩ => ⟨S2048x5632, .f32⟩
  | .hbm, ⟨102, _⟩ => ⟨S8x256, .f32⟩
  | .hbm, ⟨103, _⟩ => ⟨S_, .f32⟩
  | .hbm, ⟨104, _⟩ => ⟨S8, .f32⟩
  | .hbm, ⟨105, _⟩ => ⟨S8x8, .f32⟩
  | .hbm, ⟨106, _⟩ => ⟨S64, .f32⟩
  | .hbm, ⟨107, _⟩ => ⟨S64x1, .f32⟩
  | .hbm, ⟨108, _⟩ => ⟨S64x128, .f32⟩
  | .hbm, ⟨109, _⟩ => ⟨S2048x2816, .bf16⟩
  | .hbm, ⟨110, _⟩ => ⟨S2048x1024, .bf16⟩
  | .hbm, ⟨111, _⟩ => ⟨S1x1024, .f32⟩
  | .hbm, ⟨112, _⟩ => ⟨S2048x5632, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v3_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v3_1 : Ref sig .tc := ⟨.hbm, 20, rfl⟩
abbrev main_v3_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_v31 : Ref sig .tc := ⟨.hbm, 57, rfl⟩
abbrev main_cst_7 : Ref sig .tc := ⟨.hbm, 58, rfl⟩
abbrev main_v32 : Ref sig .tc := ⟨.hbm, 59, rfl⟩
abbrev main_v33 : Ref sig .tc := ⟨.hbm, 60, rfl⟩
abbrev main_cst_8 : Ref sig .tc := ⟨.hbm, 61, rfl⟩
abbrev main_v34 : Ref sig .tc := ⟨.hbm, 62, rfl⟩
abbrev main_cst_9 : Ref sig .tc := ⟨.hbm, 63, rfl⟩
abbrev main_v35 : Ref sig .tc := ⟨.hbm, 64, rfl⟩
abbrev main_v36 : Ref sig .tc := ⟨.hbm, 65, rfl⟩
abbrev main_cst_10 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_11 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_12 : Ref sig .tc := ⟨.hbm, 77, rfl⟩
abbrev main_v46 : Ref sig .tc := ⟨.hbm, 78, rfl⟩
abbrev main_v47 : Ref sig .tc := ⟨.hbm, 79, rfl⟩
abbrev main_cst_13 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_14 : Ref sig .tc := ⟨.hbm, 86, rfl⟩
abbrev main_v53 : Ref sig .tc := ⟨.hbm, 87, rfl⟩
abbrev main_v54 : Ref sig .tc := ⟨.hbm, 88, rfl⟩
abbrev main_cst_15 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_16 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩

abbrev nD : Nat := 1
abbrev τ : Topo := Topo.v7x

variable {F : FTy → Type} [FloatOps F]
-- ==== Merge.lean ====
abbrev S2048x1024 : Shape := ⟨2, ![2048, 1024]⟩
abbrev S2048x512 : Shape := ⟨2, ![2048, 512]⟩
abbrev S512x1024 : Shape := ⟨2, ![512, 1024]⟩
abbrev S1024 : Shape := ⟨1, ![1024]⟩
abbrev S1024x1024 : Shape := ⟨2, ![1024, 1024]⟩
abbrev S1024x5632 : Shape := ⟨2, ![1024, 5632]⟩
abbrev S2048x5632 : Shape := ⟨2, ![2048, 5632]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024x4x1408 : Shape := ⟨3, ![1024, 4, 1408]⟩
abbrev S4x1024x1408 : Shape := ⟨3, ![4, 1024, 1408]⟩
abbrev S512x4x256 : Shape := ⟨3, ![512, 4, 256]⟩
abbrev S4x512x256 : Shape := ⟨3, ![4, 512, 256]⟩
abbrev S8x128 : Shape := ⟨2, ![8, 128]⟩
abbrev S2048x2048 : Shape := ⟨2, ![2048, 2048]⟩
abbrev S256x5632 : Shape := ⟨2, ![256, 5632]⟩
abbrev S256x1024 : Shape := ⟨2, ![256, 1024]⟩
abbrev S256x512 : Shape := ⟨2, ![256, 512]⟩
abbrev S256x2048 : Shape := ⟨2, ![256, 2048]⟩
abbrev S256x1408 : Shape := ⟨2, ![256, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩
abbrev S1x512x256 : Shape := ⟨3, ![1, 512, 256]⟩
abbrev S512x256 : Shape := ⟨2, ![512, 256]⟩
abbrev S256x256 : Shape := ⟨2, ![256, 256]⟩

abbrev nBuf : Space → Nat
  | .hbm => 84
  | .vmem => 41
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S2048x1024, .f32⟩
  | .hbm, ⟨4, _⟩ => ⟨S2048x1024, .f32⟩
  | .hbm, ⟨5, _⟩ => ⟨S512x1024, .f32⟩
  | .hbm, ⟨6, _⟩ => ⟨S1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x5632, .f32⟩
  | .hbm, ⟨12, _⟩ => ⟨S2048x1024, .f32⟩
  | .hbm, ⟨13, _⟩ => ⟨S2048x5632, .f32⟩
  | .hbm, ⟨14, _⟩ => ⟨S1x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S2048x1, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x5632, .bf16⟩
  | .hbm, ⟨57, _⟩ => ⟨S1024x5632, .bf16⟩
  | .hbm, ⟨58, _⟩ => ⟨S1024x4x1408, .bf16⟩
  | .hbm, ⟨59, _⟩ => ⟨S4x1024x1408, .bf16⟩
  | .hbm, ⟨60, _⟩ => ⟨S1x1024, .f32⟩
  | .hbm, ⟨61, _⟩ => ⟨S1x1024, .f32⟩
  | .hbm, ⟨62, _⟩ => ⟨S1024x1024, .bf16⟩
  | .hbm, ⟨63, _⟩ => ⟨S2048x512, .bf16⟩
  | .hbm, ⟨64, _⟩ => ⟨S2048x512, .bf16⟩
  | .hbm, ⟨65, _⟩ => ⟨S512x1024, .bf16⟩
  | .hbm, ⟨66, _⟩ => ⟨S512x4x256, .bf16⟩
  | .hbm, ⟨67, _⟩ => ⟨S4x512x256, .bf16⟩
  | .hbm, ⟨68, _⟩ => ⟨S1x1024, .f32⟩
  | .hbm, ⟨69, _⟩ => ⟨S512x1024, .bf16⟩
  | .hbm, ⟨70, _⟩ => ⟨S512x4x256, .bf16⟩
  | .hbm, ⟨71, _⟩ => ⟨S4x512x256, .bf16⟩
  | .hbm, ⟨72, _⟩ => ⟨S_, .f32⟩
  | .hbm, ⟨73, _⟩ => ⟨S8x128, .f32⟩
  | .hbm, ⟨74, _⟩ => ⟨S2048x1024, .f32⟩
  | .hbm, ⟨75, _⟩ => ⟨S2048x1024, .bf16⟩
  | .hbm, ⟨76, _⟩ => ⟨S1x1024, .f32⟩
  | .hbm, ⟨77, _⟩ => ⟨S1x1024, .f32⟩
  | .hbm, ⟨78, _⟩ => ⟨S2048x1024, .bf16⟩
  | .hbm, ⟨79, _⟩ => ⟨S2048x1024, .bf16⟩
  | .hbm, ⟨80, _⟩ => ⟨S2048x2048, .bf16⟩
  | .hbm, ⟨81, _⟩ => ⟨S2048x512, .f32⟩
  | .hbm, ⟨82, _⟩ => ⟨S2048x512, .bf16⟩
  | .hbm, ⟨83, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S4x1024x1408, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S4x512x256, .bf16⟩
  | .local _ .vmem, ⟨21, _⟩ => ⟨S1x1024, .f32⟩
  | .local _ .vmem, ⟨22, _⟩ => ⟨S4x512x256, .bf16⟩
  | .local _ .vmem, ⟨23, _⟩ => ⟨S8x128, .f32⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | .local _ .vmem, ⟨28, _⟩ => ⟨S1x1024, .f32⟩
  | .local _ .vmem, ⟨29, _⟩ => ⟨S1x1024, .f32⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x2048, .bf16⟩
  | .local _ .vmem, ⟨35, _⟩ => ⟨S256x2048, .bf16⟩
  | .local _ .vmem, ⟨36, _⟩ => ⟨S256x512, .f32⟩
  | .local _ .vmem, ⟨37, _⟩ => ⟨S256x512, .f32⟩
  | .local _ .vmem, ⟨38, _⟩ => ⟨S256x512, .bf16⟩
  | .local _ .vmem, ⟨39, _⟩ => ⟨S256x512, .bf16⟩
  | .local _ .vmem, ⟨40, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_6 : Ref sig .tc := ⟨.hbm, 72, rfl⟩
abbrev main_v51 : Ref sig .tc := ⟨.hbm, 73, rfl⟩
abbrev main_v52_0 : Ref sig .tc := ⟨.hbm, 74, rfl⟩
abbrev main_v52_1 : Ref sig .tc := ⟨.hbm, 75, rfl⟩
abbrev main_v52_2 : Ref sig .tc := ⟨.hbm, 76, rfl⟩
abbrev main_v52_3 : Ref sig .tc := ⟨.hbm, 77, rfl⟩
abbrev main_v52_4 : Ref sig .tc := ⟨.hbm, 78, rfl⟩
abbrev main_v52_5 : Ref sig .tc := ⟨.hbm, 79, rfl⟩
abbrev main_v52_6 : Ref sig .tc := ⟨.hbm, 80, rfl⟩
abbrev main_v52_7 : Ref sig .tc := ⟨.hbm, 81, rfl⟩
abbrev main_v52_8 : Ref sig .tc := ⟨.hbm, 82, rfl⟩
abbrev main_v52_9 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_stg25_0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem19_0 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37
abbrev cc0_sem24_0 : DmaSem sig := 38
abbrev cc0_sem24_1 : DmaSem sig := 39
abbrev cc0_sem25_0 : DmaSem sig := 40

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v23 : BitVec 1 := Scalar.cmpi .eq arg0 c0_i32
  let v56 : BitVec 32 := Scalar.extui v23
  let c0_i32_30 : BitVec 32 := 0#32
  let v57 : BitVec 1 := Scalar.cmpi .ne v56 c0_i32_30
  v57

def k0_cond2 (i : grid0.Coords) : BitVec 1 :=
  let arg0 : BitVec 32 := BitVec.ofNat 32 (i 0).val
  let c0_i32 : BitVec 32 := 0#32
  let v23 : BitVec 1 := Scalar.cmpi .eq arg0 c0_i32
  let v_true : BitVec 1 := 1#1
  let v58 : BitVec 1 := Scalar.xori v23 v_true
  let v59 : BitVec 32 := Scalar.extui v58
  let c0_i32_31 : BitVec 32 := 0#32
  let v60 : BitVec 1 := Scalar.cmpi .ne v59 c0_i32_31
  v60

def k0_cond3 (i : grid0.Coords) : BitVec 1 :=
  let arg0 : BitVec 32 := BitVec.ofNat 32 (i 0).val
  let c0_i32 : BitVec 32 := 0#32
  let v23 : BitVec 1 := Scalar.cmpi .eq arg0 c0_i32
  let v92 : BitVec 32 := Scalar.extui v23
  let c0_i32_44 : BitVec 32 := 0#32
  let v93 : BitVec 1 := Scalar.cmpi .ne v92 c0_i32_44
  v93

def k0_cond4 (i : grid0.Coords) : BitVec 1 :=
  let arg0 : BitVec 32 := BitVec.ofNat 32 (i 0).val
  let c0_i32 : BitVec 32 := 0#32
  let v23 : BitVec 1 := Scalar.cmpi .eq arg0 c0_i32
  let true_45 : BitVec 1 := 1#1
  let v94 : BitVec 1 := Scalar.xori v23 true_45
  let v95 : BitVec 32 := Scalar.extui v94
  let c0_i32_46 : BitVec 32 := 0#32
  let v96 : BitVec 1 := Scalar.cmpi .ne v95 c0_i32_46
  v96

def k0_cond5 (i : grid0.Coords) : BitVec 1 :=
  let arg0 : BitVec 32 := BitVec.ofNat 32 (i 0).val
  let c0_i32_104 : BitVec 32 := 0#32
  let v168 : BitVec 1 := Scalar.cmpi .eq arg0 c0_i32_104
  let v169 : BitVec 32 := Scalar.extui v168
  let c0_i32_105 : BitVec 32 := 0#32
  let v170 : BitVec 1 := Scalar.cmpi .ne v169 c0_i32_105
  v170

def k0_cond6 (i : grid0.Coords) : BitVec 1 :=
  let arg0 : BitVec 32 := BitVec.ofNat 32 (i 0).val
  let c0_i32_104 : BitVec 32 := 0#32
  let v168 : BitVec 1 := Scalar.cmpi .eq arg0 c0_i32_104
  let true_106 : BitVec 1 := 1#1
  let v171 : BitVec 1 := Scalar.xori v168 true_106
  let v172 : BitVec 32 := Scalar.extui v171
  let c0_i32_107 : BitVec 32 := 0#32
  let v173 : BitVec 1 := Scalar.cmpi .ne v172 c0_i32_107
  v173

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x512x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x512x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x2048 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== MergeRefIdeal.lean ====
abbrev S2048x1024 : Shape := ⟨2, ![2048, 1024]⟩
abbrev S2048x512 : Shape := ⟨2, ![2048, 512]⟩
abbrev S512x1024 : Shape := ⟨2, ![512, 1024]⟩
abbrev S1024 : Shape := ⟨1, ![1024]⟩
abbrev S1024x1024 : Shape := ⟨2, ![1024, 1024]⟩
abbrev S1024x5632 : Shape := ⟨2, ![1024, 5632]⟩
abbrev S2048x5632 : Shape := ⟨2, ![2048, 5632]⟩
abbrev S1x1024 : Shape := ⟨2, ![1, 1024]⟩
abbrev S2048x2048 : Shape := ⟨2, ![2048, 2048]⟩
abbrev S2048 : Shape := ⟨1, ![2048]⟩
abbrev S2048x1 : Shape := ⟨2, ![2048, 1]⟩

abbrev nBuf : Space → Nat
  | .hbm => 27
  | .vmem => 24
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S2048x1024, .f32⟩
  | .hbm, ⟨4, _⟩ => ⟨S2048x1024, .f32⟩
  | .hbm, ⟨5, _⟩ => ⟨S512x1024, .f32⟩
  | .hbm, ⟨6, _⟩ => ⟨S1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x5632, .f32⟩
  | .hbm, ⟨12, _⟩ => ⟨S2048x1024, .f32⟩
  | .hbm, ⟨13, _⟩ => ⟨S2048x5632, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S2048x1024, .f32⟩
  | .hbm, ⟨18, _⟩ => ⟨S2048x1024, .bf16⟩
  | .hbm, ⟨19, _⟩ => ⟨S1x1024, .f32⟩
  | .hbm, ⟨20, _⟩ => ⟨S1x1024, .f32⟩
  | .hbm, ⟨21, _⟩ => ⟨S2048x1024, .bf16⟩
  | .hbm, ⟨22, _⟩ => ⟨S2048x1024, .bf16⟩
  | .hbm, ⟨23, _⟩ => ⟨S2048x2048, .bf16⟩
  | .hbm, ⟨24, _⟩ => ⟨S2048x512, .f32⟩
  | .hbm, ⟨25, _⟩ => ⟨S2048x512, .bf16⟩
  | .hbm, ⟨26, _⟩ => ⟨S1x1024, .f32⟩
  | .local _ .vmem, ⟨0, _⟩ => ⟨S2048x1024, .f32⟩
  | .local _ .vmem, ⟨1, _⟩ => ⟨S2048x512, .f32⟩
  | .local _ .vmem, ⟨2, _⟩ => ⟨S2048x512, .f32⟩
  | .local _ .vmem, ⟨3, _⟩ => ⟨S2048x1024, .f32⟩
  | .local _ .vmem, ⟨4, _⟩ => ⟨S2048x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S1024x1024, .f32⟩
  | .local _ .vmem, ⟨9, _⟩ => ⟨S1x1024, .f32⟩
  | .local _ .vmem, ⟨10, _⟩ => ⟨S1x1024, .f32⟩
  | .local _ .vmem, ⟨11, _⟩ => ⟨S1024x5632, .f32⟩
  | .local _ .vmem, ⟨12, _⟩ => ⟨S2048x1024, .f32⟩
  | .local _ .vmem, ⟨13, _⟩ => ⟨S2048x5632, .f32⟩
  | .local _ .vmem, ⟨14, _⟩ => ⟨S2048x1024, .f32⟩
  | .local _ .vmem, ⟨15, _⟩ => ⟨S2048x1024, .bf16⟩
  | .local _ .vmem, ⟨16, _⟩ => ⟨S1x1024, .f32⟩
  | .local _ .vmem, ⟨17, _⟩ => ⟨S1x1024, .f32⟩
  | .local _ .vmem, ⟨18, _⟩ => ⟨S2048x1024, .bf16⟩
  | .local _ .vmem, ⟨19, _⟩ => ⟨S2048x1024, .bf16⟩
  | .local _ .vmem, ⟨20, _⟩ => ⟨S2048x2048, .bf16⟩
  | .local _ .vmem, ⟨21, _⟩ => ⟨S2048x512, .f32⟩
  | .local _ .vmem, ⟨22, _⟩ => ⟨S2048x512, .bf16⟩
  | .local _ .vmem, ⟨23, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev main_v3_2 : Ref sig .tc := ⟨.hbm, 19, rfl⟩
abbrev main_v3_3 : Ref sig .tc := ⟨.hbm, 20, rfl⟩
abbrev main_v3_4 : Ref sig .tc := ⟨.hbm, 21, rfl⟩
abbrev main_v3_5 : Ref sig .tc := ⟨.hbm, 22, rfl⟩
abbrev main_v3_6 : Ref sig .tc := ⟨.hbm, 23, rfl⟩
abbrev main_v3_7 : Ref sig .tc := ⟨.hbm, 24, rfl⟩
abbrev main_v3_8 : Ref sig .tc := ⟨.hbm, 25, rfl⟩
abbrev main_v3_9 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2048x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2048x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2048x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2048x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2048x2048 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2048x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2048x512 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== Mix.lean ====
abbrev S2048x512 : Shape := ⟨2, ![2048, 512]⟩
abbrev S2048x1024 : Shape := ⟨2, ![2048, 1024]⟩
abbrev S512x1024 : Shape := ⟨2, ![512, 1024]⟩
abbrev S1024 : Shape := ⟨1, ![1024]⟩
abbrev S1024x1024 : Shape := ⟨2, ![1024, 1024]⟩
abbrev S512x4x256 : Shape := ⟨3, ![512, 4, 256]⟩
abbrev S4x512x256 : Shape := ⟨3, ![4, 512, 256]⟩
abbrev S1x1024 : Shape := ⟨2, ![1, 1024]⟩
abbrev S_ : Shape := ⟨0, ![]⟩
abbrev S8x128 : Shape := ⟨2, ![8, 128]⟩
abbrev S256x512 : Shape := ⟨2, ![256, 512]⟩
abbrev S256x1024 : Shape := ⟨2, ![256, 1024]⟩
abbrev S1x512x256 : Shape := ⟨3, ![1, 512, 256]⟩
abbrev S512x256 : Shape := ⟨2, ![512, 256]⟩
abbrev S256x256 : Shape := ⟨2, ![256, 256]⟩
abbrev S256 : Shape := ⟨1, ![256]⟩
abbrev S256x1 : Shape := ⟨2, ![256, 1]⟩

abbrev nBuf : Space → Nat
  | .hbm => 29
  | .vmem => 25
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S512x1024, .f32⟩
  | .hbm, ⟨6, _⟩ => ⟨S1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S2048x512, .bf16⟩
  | .hbm, ⟨12, _⟩ => ⟨S2048x512, .bf16⟩
  | .hbm, ⟨13, _⟩ => ⟨S512x1024, .bf16⟩
  | .hbm, ⟨14, _⟩ => ⟨S512x4x256, .bf16⟩
  | .hbm, ⟨15, _⟩ => ⟨S4x512x256, .bf16⟩
  | .hbm, ⟨16, _⟩ => ⟨S1x1024, .f32⟩
  | .hbm, ⟨17, _⟩ => ⟨S512x1024, .bf16⟩
  | .hbm, ⟨18, _⟩ => ⟨S512x4x256, .bf16⟩
  | .hbm, ⟨19, _⟩ => ⟨S4x512x256, .bf16⟩
  | .hbm, ⟨20, _⟩ => ⟨S1024x1024, .bf16⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S8x128, .f32⟩
  | .hbm, ⟨25, _⟩ => ⟨S2048x1024, .bf16⟩
  | .hbm, ⟨26, _⟩ => ⟨S2048x1024, .f32⟩
  | .hbm, ⟨27, _⟩ => ⟨S2048x1024, .f32⟩
  | .hbm, ⟨28, _⟩ => ⟨S2048x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S4x512x256, .bf16⟩
  | .local _ .vmem, ⟨11, _⟩ => ⟨S1x1024, .f32⟩
  | .local _ .vmem, ⟨12, _⟩ => ⟨S4x512x256, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S8x128, .f32⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .bf16⟩
  | .local _ .vmem, ⟨24, _⟩ => ⟨S256x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev main_v13_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixRefIdeal.lean ====
abbrev S2048x512 : Shape := ⟨2, ![2048, 512]⟩
abbrev S2048x1024 : Shape := ⟨2, ![2048, 1024]⟩
abbrev S512x1024 : Shape := ⟨2, ![512, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 71
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S512x1024, .f32⟩
  | .hbm, ⟨6, _⟩ => ⟨S1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S2048x1024, .f32⟩
  | .hbm, ⟨12, _⟩ => ⟨S1x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S2048x1, .f32⟩
  | .hbm, ⟨47, _⟩ => ⟨S2048x1024, .f32⟩
  | .hbm, ⟨48, _⟩ => ⟨S2048x1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .bf16⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S2048x1, .f32⟩
  | .hbm, ⟨65, _⟩ => ⟨S2048x1024, .f32⟩
  | .hbm, ⟨66, _⟩ => ⟨S2048x1024, .f32⟩
  | .hbm, ⟨67, _⟩ => ⟨S1x1024, .f32⟩
  | .hbm, ⟨68, _⟩ => ⟨S2048x1024, .f32⟩
  | .hbm, ⟨69, _⟩ => ⟨S2048x1024, .f32⟩
  | .hbm, ⟨70, _⟩ => ⟨S2048x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]
-- ==== InFwd.lean ====
abbrev S2048x1024 : Shape := ⟨2, ![2048, 1024]⟩
abbrev S1024 : Shape := ⟨1, ![1024]⟩
abbrev S1024x4608 : Shape := ⟨2, ![1024, 4608]⟩
abbrev S1024x4x1152 : Shape := ⟨3, ![1024, 4, 1152]⟩
abbrev S4x1024x1152 : Shape := ⟨3, ![4, 1024, 1152]⟩
abbrev S1x1024 : Shape := ⟨2, ![1, 1024]⟩
abbrev S_ : Shape := ⟨0, ![]⟩
abbrev S8x128 : Shape := ⟨2, ![8, 128]⟩
abbrev S2048x512 : Shape := ⟨2, ![2048, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1x1024x1152 : Shape := ⟨3, ![1, 1024, 1152]⟩
abbrev S1024x1152 : Shape := ⟨2, ![1024, 1152]⟩
abbrev S256x1152 : Shape := ⟨2, ![256, 1152]⟩
abbrev S256x128 : Shape := ⟨2, ![256, 128]⟩
abbrev S256x384 : Shape := ⟨2, ![256, 384]⟩
abbrev S256x256 : Shape := ⟨2, ![256, 256]⟩
abbrev S256x896 : Shape := ⟨2, ![256, 896]⟩

abbrev nBuf : Space → Nat
  | .hbm => 16
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4608, .f32⟩
  | .hbm, ⟨3, _⟩ => ⟨S1024x4608, .bf16⟩
  | .hbm, ⟨4, _⟩ => ⟨S1024x4x1152, .bf16⟩
  | .hbm, ⟨5, _⟩ => ⟨S4x1024x1152, .bf16⟩
  | .hbm, ⟨6, _⟩ => ⟨S1x1024, .f32⟩
  | .hbm, ⟨7, _⟩ => ⟨S_, .f32⟩
  | .hbm, ⟨8, _⟩ => ⟨S8x128, .f32⟩
  | .hbm, ⟨9, _⟩ => ⟨S2048x1024, .bf16⟩
  | .hbm, ⟨10, _⟩ => ⟨S2048x1024, .f32⟩
  | .hbm, ⟨11, _⟩ => ⟨S2048x512, .bf16⟩
  | .hbm, ⟨12, _⟩ => ⟨S2048x512, .bf16⟩
  | .hbm, ⟨13, _⟩ => ⟨S2048x512, .bf16⟩
  | .hbm, ⟨14, _⟩ => ⟨S2048x1024, .f32⟩
  | .hbm, ⟨15, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1152, .bf16⟩
  | .local _ .vmem, ⟨4, _⟩ => ⟨S8x128, .f32⟩
  | .local _ .vmem, ⟨5, _⟩ => ⟨S256x1024, .bf16⟩
  | .local _ .vmem, ⟨6, _⟩ => ⟨S256x1024, .bf16⟩
  | .local _ .vmem, ⟨7, _⟩ => ⟨S256x1024, .f32⟩
  | .local _ .vmem, ⟨8, _⟩ => ⟨S256x1024, .f32⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v5_4 : Ref sig .tc := ⟨.hbm, 13, rfl⟩
abbrev main_v5_5 : Ref sig .tc := ⟨.hbm, 14, rfl⟩
abbrev main_v5_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InFwdRefIdeal.lean ====
abbrev S2048x1024 : Shape := ⟨2, ![2048, 1024]⟩
abbrev S1024 : Shape := ⟨1, ![1024]⟩
abbrev S1024x4608 : Shape := ⟨2, ![1024, 4608]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4608 : Shape := ⟨2, ![2048, 4608]⟩
abbrev S2048x512 : Shape := ⟨2, ![2048, 512]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4608, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x4608, .f32⟩
  | .hbm, ⟨20, _⟩ => ⟨S2048x1024, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x1024, .bf16⟩
  | .hbm, ⟨30, _⟩ => ⟨S2048x512, .bf16⟩
  | .hbm, ⟨31, _⟩ => ⟨S2048x512, .bf16⟩
  | .hbm, ⟨32, _⟩ => ⟨S2048x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== AttnFwd.lean ====
abbrev S2048x512 : Shape := ⟨2, ![2048, 512]⟩
abbrev S_ : Shape := ⟨0, ![]⟩
abbrev S2048x128 : Shape := ⟨2, ![2048, 128]⟩
abbrev S8x128x128 : Shape := ⟨3, ![8, 128, 128]⟩
abbrev S4x128x256 : Shape := ⟨3, ![4, 128, 256]⟩
abbrev S4x4096x128 : Shape := ⟨3, ![4, 4096, 128]⟩
abbrev S3 : Shape := ⟨1, ![3]⟩
abbrev S1 : Shape := ⟨1, ![1]⟩
abbrev S128x128 : Shape := ⟨2, ![128, 128]⟩
abbrev S128x256 : Shape := ⟨2, ![128, 256]⟩
abbrev S1x128x128 : Shape := ⟨3, ![1, 128, 128]⟩
abbrev S1x128x256 : Shape := ⟨3, ![1, 128, 256]⟩
abbrev S1x256x128 : Shape := ⟨3, ![1, 256, 128]⟩
abbrev S256x128 : Shape := ⟨2, ![256, 128]⟩

abbrev nBuf : Space → Nat
  | .hbm => 11
  | .vmem => 12
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S_, .f32⟩
  | .hbm, ⟨4, _⟩ => ⟨S2048x512, .f32⟩
  | .hbm, ⟨5, _⟩ => ⟨S2048x512, .f32⟩
  | .hbm, ⟨6, _⟩ => ⟨S2048x512, .bf16⟩
  | .hbm, ⟨7, _⟩ => ⟨S2048x512, .bf16⟩
  | .hbm, ⟨8, _⟩ => ⟨S2048x512, .bf16⟩
  | .hbm, ⟨9, _⟩ => ⟨S2048x512, .bf16⟩
  | .hbm, ⟨10, _⟩ => ⟨S2048x128, .f32⟩
  | .local _ .vmem, ⟨0, _⟩ => ⟨S2048x512, .bf16⟩
  | .local _ .vmem, ⟨1, _⟩ => ⟨S2048x128, .f32⟩
  | .local _ .vmem, ⟨2, _⟩ => ⟨S2048x512, .f32⟩
  | .local _ .vmem, ⟨3, _⟩ => ⟨S8x128x128, .f32⟩
  | .local _ .vmem, ⟨4, _⟩ => ⟨S8x128x128, .f32⟩
  | .local _ .vmem, ⟨5, _⟩ => ⟨S8x128x128, .bf16⟩
  | .local _ .vmem, ⟨6, _⟩ => ⟨S4x128x256, .bf16⟩
  | .local _ .vmem, ⟨7, _⟩ => ⟨S4x4096x128, .bf16⟩
  | .local _ .vmem, ⟨8, _⟩ => ⟨S4x4096x128, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_21 : BitVec 32 := 0#32
  let c16_i32 : BitVec 32 := 16#32
  let v44 : BitVec 32 := Scalar.addi c0_i32_21 c16_i32
  let c1_i32_22 : BitVec 32 := 1#32
  ⟨c0_i32_21, v44, c1_i32_22⟩
def k0_mult1 (k0_t1 : Fin k0_t1_loop.trips) : BitVec 32 :=
  let c0_i32_21 : BitVec 32 := 0#32
  let c1_i32_22 : BitVec 32 := 1#32
  let arg16 : BitVec 32 := Scf.iv c0_i32_21 c1_i32_22 k0_t1
  let c128_i32_46 : BitVec 32 := 128#32
  let v60 : BitVec 32 := Scalar.muli arg16 c128_i32_46
  v60
def k0_mult2 (k0_t1 : Fin k0_t1_loop.trips) : BitVec 32 :=
  let c0_i32_21 : BitVec 32 := 0#32
  let c1_i32_22 : BitVec 32 := 1#32
  let arg16 : BitVec 32 := Scf.iv c0_i32_21 c1_i32_22 k0_t1
  let c2_i32_47 : BitVec 32 := 2#32
  let v62 : BitVec 32 := Scalar.muli arg16 c2_i32_47
  let c128_i32_48 : BitVec 32 := 128#32
  let v63 : BitVec 32 := Scalar.muli v62 c128_i32_48
  v63
def k0_off1 (k0_t1 : Fin k0_t1_loop.trips) : Fin 2 → Nat :=
  let c0_i32_21 : BitVec 32 := 0#32
  let c1_i32_22 : BitVec 32 := 1#32
  let arg16 : BitVec 32 := Scf.iv c0_i32_21 c1_i32_22 k0_t1
  let c128_i32_46 : BitVec 32 := 128#32
  let v60 : BitVec 32 := Scalar.muli arg16 c128_i32_46
  let v61 : BitVec 32 := v60
  let v65 : Index := Scalar.indexCast v61
  let c0_49 : Index := 0#32
  ![v65.toNat, 0]
def k0_off2 (k0_t1 : Fin k0_t1_loop.trips) (c0_i32_51 : BitVec 32) : Fin 3 → Nat :=
  let c0_52 : Index := 0#32
  let c0_i32_21 : BitVec 32 := 0#32
  let c1_i32_22 : BitVec 32 := 1#32
  let arg16 : BitVec 32 := Scf.iv c0_i32_21 c1_i32_22 k0_t1
  let c2_i32_47 : BitVec 32 := 2#32
  let v62 : BitVec 32 := Scalar.muli arg16 c2_i32_47
  let c128_i32_48 : BitVec 32 := 128#32
  let v63 : BitVec 32 := Scalar.muli v62 c128_i32_48
  let v64 : BitVec 32 := v63
  let v69 : BitVec 32 := Scalar.addi v64 c0_i32_51
  let v70 : Index := Scalar.indexCast v69
  let c0_53 : Index := 0#32
  ![0, v70.toNat, 0]
def k0_off3 (k0_t1 : Fin k0_t1_loop.trips) : Fin 2 → Nat :=
  let c0_i32_21 : BitVec 32 := 0#32
  let c1_i32_22 : BitVec 32 := 1#32
  let arg16 : BitVec 32 := Scf.iv c0_i32_21 c1_i32_22 k0_t1
  let c128_i32_46 : BitVec 32 := 128#32
  let v60 : BitVec 32 := Scalar.muli arg16 c128_i32_46
  let v61 : BitVec 32 := v60
  let v81 : Index := Scalar.indexCast v61
  let c128 : Index := 128#32
  ![v81.toNat, 128]
def k0_off4 (k0_t1 : Fin k0_t1_loop.trips) (c0_i32_59 : BitVec 32) : Fin 3 → Nat :=
  let c1 : Index := 1#32
  let c0_i32_21 : BitVec 32 := 0#32
  let c1_i32_22 : BitVec 32 := 1#32
  let arg16 : BitVec 32 := Scf.iv c0_i32_21 c1_i32_22 k0_t1
  let c2_i32_47 : BitVec 32 := 2#32
  let v62 : BitVec 32 := Scalar.muli arg16 c2_i32_47
  let c128_i32_48 : BitVec 32 := 128#32
  let v63 : BitVec 32 := Scalar.muli v62 c128_i32_48
  let v64 : BitVec 32 := v63
  let v85 : BitVec 32 := Scalar.addi v64 c0_i32_59
  let v86 : Index := Scalar.indexCast v85
  let c0_60 : Index := 0#32
  ![1, v86.toNat, 0]
def k0_off5 (k0_t1 : Fin k0_t1_loop.trips) : Fin 2 → Nat :=
  let c0_i32_21 : BitVec 32 := 0#32
  let c1_i32_22 : BitVec 32 := 1#32
  let arg16 : BitVec 32 := Scf.iv c0_i32_21 c1_i32_22 k0_t1
  let c128_i32_46 : BitVec 32 := 128#32
  let v60 : BitVec 32 := Scalar.muli arg16 c128_i32_46
  let v61 : BitVec 32 := v60
  let v97 : Index := Scalar.indexCast v61
  let c256 : Index := 256#32
  ![v97.toNat, 256]
def k0_off6 (k0_t1 : Fin k0_t1_loop.trips) (c0_i32_66 : BitVec 32) : Fin 3 → Nat :=
  let c2 : Index := 2#32
  let c0_i32_21 : BitVec 32 := 0#32
  let c1_i32_22 : BitVec 32 := 1#32
  let arg16 : BitVec 32 := Scf.iv c0_i32_21 c1_i32_22 k0_t1
  let c2_i32_47 : BitVec 32 := 2#32
  let v62 : BitVec 32 := Scalar.muli arg16 c2_i32_47
  let c128_i32_48 : BitVec 32 := 128#32
  let v63 : BitVec 32 := Scalar.muli v62 c128_i32_48
  let v64 : BitVec 32 := v63
  let v101 : BitVec 32 := Scalar.addi v64 c0_i32_66
  let v102 : Index := Scalar.indexCast v101
  let c0_67 : Index := 0#32
  ![2, v102.toNat, 0]
def k0_off7 (k0_t1 : Fin k0_t1_loop.trips) : Fin 2 → Nat :=
  let c0_i32_21 : BitVec 32 := 0#32
  let c1_i32_22 : BitVec 32 := 1#32
  let arg16 : BitVec 32 := Scf.iv c0_i32_21 c1_i32_22 k0_t1
  let c128_i32_46 : BitVec 32 := 128#32
  let v60 : BitVec 32 := Scalar.muli arg16 c128_i32_46
  let v61 : BitVec 32 := v60
  let v113 : Index := Scalar.indexCast v61
  let c384 : Index := 384#32
  ![v113.toNat, 384]
def k0_off8 (k0_t1 : Fin k0_t1_loop.trips) (c0_i32_73 : BitVec 32) : Fin 3 → Nat :=
  let c3 : Index := 3#32
  let c0_i32_21 : BitVec 32 := 0#32
  let c1_i32_22 : BitVec 32 := 1#32
  let arg16 : BitVec 32 := Scf.iv c0_i32_21 c1_i32_22 k0_t1
  let c2_i32_47 : BitVec 32 := 2#32
  let v62 : BitVec 32 := Scalar.muli arg16 c2_i32_47
  let c128_i32_48 : BitVec 32 := 128#32
  let v63 : BitVec 32 := Scalar.muli v62 c128_i32_48
  let v64 : BitVec 32 := v63
  let v117 : BitVec 32 := Scalar.addi v64 c0_i32_73
  let v118 : Index := Scalar.indexCast v117
  let c0_74 : Index := 0#32
  ![3, v118.toNat, 0]
@[reducible] def k0_t2_loop : Scf.Loop 32 :=
  let c0_i32_26 : BitVec 32 := 0#32
  let c16_i32_27 : BitVec 32 := 16#32
  let v50 : BitVec 32 := Scalar.addi c0_i32_26 c16_i32_27
  let c1_i32_28 : BitVec 32 := 1#32
  ⟨c0_i32_26, v50, c1_i32_28⟩
def k0_mult3 (k0_t2 : Fin k0_t2_loop.trips) : BitVec 32 :=
  let c0_i32_26 : BitVec 32 := 0#32
  let c1_i32_28 : BitVec 32 := 1#32
  let arg16 : BitVec 32 := Scf.iv c0_i32_26 c1_i32_28 k0_t2
  let c128_i32_46 : BitVec 32 := 128#32
  let v60 : BitVec 32 := Scalar.muli arg16 c128_i32_46
  v60
def k0_mult4 (k0_t2 : Fin k0_t2_loop.trips) : BitVec 32 :=
  let c0_i32_26 : BitVec 32 := 0#32
  let c1_i32_28 : BitVec 32 := 1#32
  let arg16 : BitVec 32 := Scf.iv c0_i32_26 c1_i32_28 k0_t2
  let c2_i32_47 : BitVec 32 := 2#32
  let v62 : BitVec 32 := Scalar.muli arg16 c2_i32_47
  let c128_i32_48 : BitVec 32 := 128#32
  let v63 : BitVec 32 := Scalar.muli v62 c128_i32_48
  v63
def k0_off9 (k0_t2 : Fin k0_t2_loop.trips) : Fin 2 → Nat :=
  let c0_i32_26 : BitVec 32 := 0#32
  let c1_i32_28 : BitVec 32 := 1#32
  let arg16 : BitVec 32 := Scf.iv c0_i32_26 c1_i32_28 k0_t2
  let c128_i32_46 : BitVec 32 := 128#32
  let v60 : BitVec 32 := Scalar.muli arg16 c128_i32_46
  let v61 : BitVec 32 := v60
  let v65 : Index := Scalar.indexCast v61
  let c0_49 : Index := 0#32
  ![v65.toNat, 0]
def k0_off10 (k0_t2 : Fin k0_t2_loop.trips) (c0_i32_51 : BitVec 32) : Fin 3 → Nat :=
  let c0_52 : Index := 0#32
  let c0_i32_26 : BitVec 32 := 0#32
  let c1_i32_28 : BitVec 32 := 1#32
  let arg16 : BitVec 32 := Scf.iv c0_i32_26 c1_i32_28 k0_t2
  let c2_i32_47 : BitVec 32 := 2#32
  let v62 : BitVec 32 := Scalar.muli arg16 c2_i32_47
  let c128_i32_48 : BitVec 32 := 128#32
  let v63 : BitVec 32 := Scalar.muli v62 c128_i32_48
  let v64 : BitVec 32 := v63
  let v69 : BitVec 32 := Scalar.addi v64 c0_i32_51
  let v70 : Index := Scalar.indexCast v69
  let c0_53 : Index := 0#32
  ![0, v70.toNat, 0]
def k0_off11 (k0_t2 : Fin k0_t2_loop.trips) : Fin 2 → Nat :=
  let c0_i32_26 : BitVec 32 := 0#32
  let c1_i32_28 : BitVec 32 := 1#32
  let arg16 : BitVec 32 := Scf.iv c0_i32_26 c1_i32_28 k0_t2
  let c128_i32_46 : BitVec 32 := 128#32
  let v60 : BitVec 32 := Scalar.muli arg16 c128_i32_46
  let v61 : BitVec 32 := v60
  let v81 : Index := Scalar.indexCast v61
  let c128 : Index := 128#32
  ![v81.toNat, 128]
def k0_off12 (k0_t2 : Fin k0_t2_loop.trips) (c0_i32_59 : BitVec 32) : Fin 3 → Nat :=
  let c1 : Index := 1#32
  let c0_i32_26 : BitVec 32 := 0#32
  let c1_i32_28 : BitVec 32 := 1#32
  let arg16 : BitVec 32 := Scf.iv c0_i32_26 c1_i32_28 k0_t2
  let c2_i32_47 : BitVec 32 := 2#32
  let v62 : BitVec 32 := Scalar.muli arg16 c2_i32_47
  let c128_i32_48 : BitVec 32 := 128#32
  let v63 : BitVec 32 := Scalar.muli v62 c128_i32_48
  let v64 : BitVec 32 := v63
  let v85 : BitVec 32 := Scalar.addi v64 c0_i32_59
  let v86 : Index := Scalar.indexCast v85
  let c0_60 : Index := 0#32
  ![1, v86.toNat, 0]
def k0_off13 (k0_t2 : Fin k0_t2_loop.trips) : Fin 2 → Nat :=
  let c0_i32_26 : BitVec 32 := 0#32
  let c1_i32_28 : BitVec 32 := 1#32
  let arg16 : BitVec 32 := Scf.iv c0_i32_26 c1_i32_28 k0_t2
  let c128_i32_46 : BitVec 32 := 128#32
  let v60 : BitVec 32 := Scalar.muli arg16 c128_i32_46
  let v61 : BitVec 32 := v60
  let v97 : Index := Scalar.indexCast v61
  let c256 : Index := 256#32
  ![v97.toNat, 256]
def k0_off14 (k0_t2 : Fin k0_t2_loop.trips) (c0_i32_66 : BitVec 32) : Fin 3 → Nat :=
  let c2 : Index := 2#32
  let c0_i32_26 : BitVec 32 := 0#32
  let c1_i32_28 : BitVec 32 := 1#32
  let arg16 : BitVec 32 := Scf.iv c0_i32_26 c1_i32_28 k0_t2
  let c2_i32_47 : BitVec 32 := 2#32
  let v62 : BitVec 32 := Scalar.muli arg16 c2_i32_47
  let c128_i32_48 : BitVec 32 := 128#32
  let v63 : BitVec 32 := Scalar.muli v62 c128_i32_48
  let v64 : BitVec 32 := v63
  let v101 : BitVec 32 := Scalar.addi v64 c0_i32_66
  let v102 : Index := Scalar.indexCast v101
  let c0_67 : Index := 0#32
  ![2, v102.toNat, 0]
def k0_off15 (k0_t2 : Fin k0_t2_loop.trips) : Fin 2 → Nat :=
  let c0_i32_26 : BitVec 32 := 0#32
  let c1_i32_28 : BitVec 32 := 1#32
  let arg16 : BitVec 32 := Scf.iv c0_i32_26 c1_i32_28 k0_t2
  let c128_i32_46 : BitVec 32 := 128#32
  let v60 : BitVec 32 := Scalar.muli arg16 c128_i32_46
  let v61 : BitVec 32 := v60
  let v113 : Index := Scalar.indexCast v61
  let c384 : Index := 384#32
  ![v113.toNat, 384]
def k0_off16 (k0_t2 : Fin k0_t2_loop.trips) (c0_i32_73 : BitVec 32) : Fin 3 → Nat :=
  let c3 : Index := 3#32
  let c0_i32_26 : BitVec 32 := 0#32
  let c1_i32_28 : BitVec 32 := 1#32
  let arg16 : BitVec 32 := Scf.iv c0_i32_26 c1_i32_28 k0_t2
  let c2_i32_47 : BitVec 32 := 2#32
  let v62 : BitVec 32 := Scalar.muli arg16 c2_i32_47
  let c128_i32_48 : BitVec 32 := 128#32
  let v63 : BitVec 32 := Scalar.muli v62 c128_i32_48
  let v64 : BitVec 32 := v63
  let v117 : BitVec 32 := Scalar.addi v64 c0_i32_73
  let v118 : Index := Scalar.indexCast v117
  let c0_74 : Index := 0#32
  ![3, v118.toNat, 0]
@[reducible] def k0_t3_loop : Scf.Loop 32 :=
  let c0_i32_34 : BitVec 32 := 0#32
  let c16_i32_35 : BitVec 32 := 16#32
  let v53 : BitVec 32 := Scalar.addi c0_i32_34 c16_i32_35
  let c1_i32_36 : BitVec 32 := 1#32
  ⟨c0_i32_34, v53, c1_i32_36⟩
@[reducible] def k0_t4_loop (k0_t3 : Fin k0_t3_loop.trips) : Scf.Loop 32 :=
  let c0_i32_47 : BitVec 32 := 0#32
  let c0_i32_34 : BitVec 32 := 0#32
  let c1_i32_36 : BitVec 32 := 1#32
  let arg16 : BitVec 32 := Scf.iv c0_i32_34 c1_i32_36 k0_t3
  let c1_i32_46 : BitVec 32 := 1#32
  let v60 : BitVec 32 := Scalar.addi arg16 c1_i32_46
  let v61 : BitVec 32 := Scalar.subi v60 c0_i32_47
  let c1_i32_48 : BitVec 32 := 1#32
  let v63 : BitVec 32 := Scalar.divsi v61 c1_i32_48
  let v64 : BitVec 32 := Scalar.muli v63 c1_i32_48
  let v65 : BitVec 32 := Scalar.addi c0_i32_47 v64
  let c1_i32_49 : BitVec 32 := 1#32
  ⟨c0_i32_47, v65, c1_i32_49⟩
def k0_mult5 (k0_t3 : Fin k0_t3_loop.trips) (k0_t4 : Fin (k0_t4_loop k0_t3).trips) : BitVec 32 :=
  let c0_i32_34 : BitVec 32 := 0#32
  let c1_i32_36 : BitVec 32 := 1#32
  let arg16 : BitVec 32 := Scf.iv c0_i32_34 c1_i32_36 k0_t3
  let c0_i32_47 : BitVec 32 := 0#32
  let c1_i32_49 : BitVec 32 := 1#32
  let arg21 : BitVec 32 := Scf.iv c0_i32_47 c1_i32_49 k0_t4
  let v68 : BitVec 32 := Scalar.subi arg16 arg21
  let c0_i32_51 : BitVec 32 := 0#32
  let v69 : BitVec 32 := Scalar.maxsi v68 c0_i32_51
  let c128_i32_52 : BitVec 32 := 128#32
  let v70 : BitVec 32 := Scalar.muli v69 c128_i32_52
  v70
def k0_mult6 (arg22 : BitVec 32) : BitVec 32 :=
  let c0_i32_53 : BitVec 32 := 0#32
  let v72 : BitVec 32 := Scalar.maxsi arg22 c0_i32_53
  let c128_i32_54 : BitVec 32 := 128#32
  let v73 : BitVec 32 := Scalar.muli v72 c128_i32_54
  v73

def k0_mult7 (arg24 : BitVec 32) : BitVec 32 :=
  let c0_i32_55 : BitVec 32 := 0#32
  let v75 : BitVec 32 := Scalar.maxsi arg24 c0_i32_55
  let c128_i32_56 : BitVec 32 := 128#32
  let v76 : BitVec 32 := Scalar.muli v75 c128_i32_56
  v76

def k0_mult8 (k0_t3 : Fin k0_t3_loop.trips) : BitVec 32 :=
  let c0_i32_34 : BitVec 32 := 0#32
  let c1_i32_36 : BitVec 32 := 1#32
  let arg16 : BitVec 32 := Scf.iv c0_i32_34 c1_i32_36 k0_t3
  let c0_i32_57 : BitVec 32 := 0#32
  let v78 : BitVec 32 := Scalar.maxsi arg16 c0_i32_57
  let c2_i32_58 : BitVec 32 := 2#32
  let v79 : BitVec 32 := Scalar.muli v78 c2_i32_58
  let c128_i32_59 : BitVec 32 := 128#32
  let v80 : BitVec 32 := Scalar.muli v79 c128_i32_59
  v80
def k0_mult9 (arg25 : BitVec 32) : BitVec 32 :=
  let c0_i32_60 : BitVec 32 := 0#32
  let v82 : BitVec 32 := Scalar.maxsi arg25 c0_i32_60
  let c2_i32_61 : BitVec 32 := 2#32
  let v83 : BitVec 32 := Scalar.muli v82 c2_i32_61
  let c128_i32_62 : BitVec 32 := 128#32
  let v84 : BitVec 32 := Scalar.muli v83 c128_i32_62
  v84

def k0_off17 (arg22 : BitVec 32) : Fin 2 → Nat :=
  let c0_i32_53 : BitVec 32 := 0#32
  let v72 : BitVec 32 := Scalar.maxsi arg22 c0_i32_53
  let c128_i32_54 : BitVec 32 := 128#32
  let v73 : BitVec 32 := Scalar.muli v72 c128_i32_54
  let v74 : BitVec 32 := v73
  let v97 : Index := Scalar.indexCast v74
  let c0_66 : Index := 0#32
  ![v97.toNat, 0]

def k0_chk1 (arg22 : BitVec 32) : Prop :=
  (128 ∣ (k0_mult6 arg22).toNat) ∧
  (∀ a, (k0_off17 arg22) a + S128x128.size a ≤ S2048x128.size a)
theorem k0_mult6_dvd : ∀ (arg22 : BitVec 32) (k0_hw1 : k0_chk1 arg22), 128 ∣ (k0_mult6 arg22).toNat := fun arg22 k0_hw1 => k0_hw1.1
theorem k0_off17_inb : ∀ (arg22 : BitVec 32) (k0_hw1 : k0_chk1 arg22), ∀ a, (k0_off17 arg22) a + S128x128.size a ≤ S2048x128.size a := fun arg22 k0_hw1 => k0_hw1.2

def k0_off18 (k0_t3 : Fin k0_t3_loop.trips) (k0_t4 : Fin (k0_t4_loop k0_t3).trips) : Fin 2 → Nat :=
  let c0_i32_34 : BitVec 32 := 0#32
  let c1_i32_36 : BitVec 32 := 1#32
  let arg16 : BitVec 32 := Scf.iv c0_i32_34 c1_i32_36 k0_t3
  let c0_i32_47 : BitVec 32 := 0#32
  let c1_i32_49 : BitVec 32 := 1#32
  let arg21 : BitVec 32 := Scf.iv c0_i32_47 c1_i32_49 k0_t4
  let v68 : BitVec 32 := Scalar.subi arg16 arg21
  let c0_i32_51 : BitVec 32 := 0#32
  let v69 : BitVec 32 := Scalar.maxsi v68 c0_i32_51
  let c128_i32_52 : BitVec 32 := 128#32
  let v70 : BitVec 32 := Scalar.muli v69 c128_i32_52
  let v71 : BitVec 32 := v70
  let v100 : Index := Scalar.indexCast v71
  let c0_67 : Index := 0#32
  ![v100.toNat, 0]
def k0_off19 (arg24 : BitVec 32) : Fin 2 → Nat :=
  let c0_i32_55 : BitVec 32 := 0#32
  let v75 : BitVec 32 := Scalar.maxsi arg24 c0_i32_55
  let c128_i32_56 : BitVec 32 := 128#32
  let v76 : BitVec 32 := Scalar.muli v75 c128_i32_56
  let v77 : BitVec 32 := v76
  let v102 : Index := Scalar.indexCast v77
  let c0_68 : Index := 0#32
  ![v102.toNat, 0]
def k0_off20 (arg25 : BitVec 32) : Fin 3 → Nat :=
  let c0_72 : Index := 0#32
  let c0_i32_60 : BitVec 32 := 0#32
  let v82 : BitVec 32 := Scalar.maxsi arg25 c0_i32_60
  let c2_i32_61 : BitVec 32 := 2#32
  let v83 : BitVec 32 := Scalar.muli v82 c2_i32_61
  let c128_i32_62 : BitVec 32 := 128#32
  let v84 : BitVec 32 := Scalar.muli v83 c128_i32_62
  let v85 : BitVec 32 := v84
  let v106 : Index := Scalar.indexCast v85
  let c0_73 : Index := 0#32
  ![0, v106.toNat, 0]
def k0_off21 (k0_t3 : Fin k0_t3_loop.trips) (c0_i32_95 : BitVec 32) : Fin 3 → Nat :=
  let c0_96 : Index := 0#32
  let c0_i32_34 : BitVec 32 := 0#32
  let c1_i32_36 : BitVec 32 := 1#32
  let arg16 : BitVec 32 := Scf.iv c0_i32_34 c1_i32_36 k0_t3
  let c0_i32_57 : BitVec 32 := 0#32
  let v78 : BitVec 32 := Scalar.maxsi arg16 c0_i32_57
  let c2_i32_58 : BitVec 32 := 2#32
  let v79 : BitVec 32 := Scalar.muli v78 c2_i32_58
  let c128_i32_59 : BitVec 32 := 128#32
  let v80 : BitVec 32 := Scalar.muli v79 c128_i32_59
  let v81 : BitVec 32 := v80
  let v144 : BitVec 32 := Scalar.addi v81 c0_i32_95
  let v145 : Index := Scalar.indexCast v144
  let c0_97 : Index := 0#32
  ![0, v145.toNat, 0]
def k0_off22 (k0_t3 : Fin k0_t3_loop.trips) (k0_t4 : Fin (k0_t4_loop k0_t3).trips) : Fin 2 → Nat :=
  let c0_i32_34 : BitVec 32 := 0#32
  let c1_i32_36 : BitVec 32 := 1#32
  let arg16 : BitVec 32 := Scf.iv c0_i32_34 c1_i32_36 k0_t3
  let c0_i32_47 : BitVec 32 := 0#32
  let c1_i32_49 : BitVec 32 := 1#32
  let arg21 : BitVec 32 := Scf.iv c0_i32_47 c1_i32_49 k0_t4
  let v68 : BitVec 32 := Scalar.subi arg16 arg21
  let c0_i32_51 : BitVec 32 := 0#32
  let v69 : BitVec 32 := Scalar.maxsi v68 c0_i32_51
  let c128_i32_52 : BitVec 32 := 128#32
  let v70 : BitVec 32 := Scalar.muli v69 c128_i32_52
  let v71 : BitVec 32 := v70
  let v219 : Index := Scalar.indexCast v71
  let c128_138 : Index := 128#32
  ![v219.toNat, 128]
def k0_off23 (arg24 : BitVec 32) : Fin 2 → Nat :=
  let c0_i32_55 : BitVec 32 := 0#32
  let v75 : BitVec 32 := Scalar.maxsi arg24 c0_i32_55
  let c128_i32_56 : BitVec 32 := 128#32
  let v76 : BitVec 32 := Scalar.muli v75 c128_i32_56
  let v77 : BitVec 32 := v76
  let v221 : Index := Scalar.indexCast v77
  let c128_139 : Index := 128#32
  ![v221.toNat, 128]
def k0_off24 (arg25 : BitVec 32) : Fin 3 → Nat :=
  let c1_143 : Index := 1#32
  let c0_i32_60 : BitVec 32 := 0#32
  let v82 : BitVec 32 := Scalar.maxsi arg25 c0_i32_60
  let c2_i32_61 : BitVec 32 := 2#32
  let v83 : BitVec 32 := Scalar.muli v82 c2_i32_61
  let c128_i32_62 : BitVec 32 := 128#32
  let v84 : BitVec 32 := Scalar.muli v83 c128_i32_62
  let v85 : BitVec 32 := v84
  let v225 : Index := Scalar.indexCast v85
  let c0_144 : Index := 0#32
  ![1, v225.toNat, 0]
def k0_off25 (k0_t3 : Fin k0_t3_loop.trips) (c0_i32_164 : BitVec 32) : Fin 3 → Nat :=
  let c1_165 : Index := 1#32
  let c0_i32_34 : BitVec 32 := 0#32
  let c1_i32_36 : BitVec 32 := 1#32
  let arg16 : BitVec 32 := Scf.iv c0_i32_34 c1_i32_36 k0_t3
  let c0_i32_57 : BitVec 32 := 0#32
  let v78 : BitVec 32 := Scalar.maxsi arg16 c0_i32_57
  let c2_i32_58 : BitVec 32 := 2#32
  let v79 : BitVec 32 := Scalar.muli v78 c2_i32_58
  let c128_i32_59 : BitVec 32 := 128#32
  let v80 : BitVec 32 := Scalar.muli v79 c128_i32_59
  let v81 : BitVec 32 := v80
  let v263 : BitVec 32 := Scalar.addi v81 c0_i32_164
  let v264 : Index := Scalar.indexCast v263
  let c0_166 : Index := 0#32
  ![1, v264.toNat, 0]
def k0_off26 (k0_t3 : Fin k0_t3_loop.trips) (k0_t4 : Fin (k0_t4_loop k0_t3).trips) : Fin 2 → Nat :=
  let c0_i32_34 : BitVec 32 := 0#32
  let c1_i32_36 : BitVec 32 := 1#32
  let arg16 : BitVec 32 := Scf.iv c0_i32_34 c1_i32_36 k0_t3
  let c0_i32_47 : BitVec 32 := 0#32
  let c1_i32_49 : BitVec 32 := 1#32
  let arg21 : BitVec 32 := Scf.iv c0_i32_47 c1_i32_49 k0_t4
  let v68 : BitVec 32 := Scalar.subi arg16 arg21
  let c0_i32_51 : BitVec 32 := 0#32
  let v69 : BitVec 32 := Scalar.maxsi v68 c0_i32_51
  let c128_i32_52 : BitVec 32 := 128#32
  let v70 : BitVec 32 := Scalar.muli v69 c128_i32_52
  let v71 : BitVec 32 := v70
  let v338 : Index := Scalar.indexCast v71
  let c256 : Index := 256#32
  ![v338.toNat, 256]
def k0_off27 (arg24 : BitVec 32) : Fin 2 → Nat :=
  let c0_i32_55 : BitVec 32 := 0#32
  let v75 : BitVec 32 := Scalar.maxsi arg24 c0_i32_55
  let c128_i32_56 : BitVec 32 := 128#32
  let v76 : BitVec 32 := Scalar.muli v75 c128_i32_56
  let v77 : BitVec 32 := v76
  let v340 : Index := Scalar.indexCast v77
  let c256_207 : Index := 256#32
  ![v340.toNat, 256]
def k0_off28 (arg25 : BitVec 32) : Fin 3 → Nat :=
  let c2_211 : Index := 2#32
  let c0_i32_60 : BitVec 32 := 0#32
  let v82 : BitVec 32 := Scalar.maxsi arg25 c0_i32_60
  let c2_i32_61 : BitVec 32 := 2#32
  let v83 : BitVec 32 := Scalar.muli v82 c2_i32_61
  let c128_i32_62 : BitVec 32 := 128#32
  let v84 : BitVec 32 := Scalar.muli v83 c128_i32_62
  let v85 : BitVec 32 := v84
  let v344 : Index := Scalar.indexCast v85
  let c0_212 : Index := 0#32
  ![2, v344.toNat, 0]
def k0_off29 (k0_t3 : Fin k0_t3_loop.trips) (c0_i32_233 : BitVec 32) : Fin 3 → Nat :=
  let c2_234 : Index := 2#32
  let c0_i32_34 : BitVec 32 := 0#32
  let c1_i32_36 : BitVec 32 := 1#32
  let arg16 : BitVec 32 := Scf.iv c0_i32_34 c1_i32_36 k0_t3
  let c0_i32_57 : BitVec 32 := 0#32
  let v78 : BitVec 32 := Scalar.maxsi arg16 c0_i32_57
  let c2_i32_58 : BitVec 32 := 2#32
  let v79 : BitVec 32 := Scalar.muli v78 c2_i32_58
  let c128_i32_59 : BitVec 32 := 128#32
  let v80 : BitVec 32 := Scalar.muli v79 c128_i32_59
  let v81 : BitVec 32 := v80
  let v382 : BitVec 32 := Scalar.addi v81 c0_i32_233
  let v383 : Index := Scalar.indexCast v382
  let c0_235 : Index := 0#32
  ![2, v383.toNat, 0]
def k0_off30 (k0_t3 : Fin k0_t3_loop.trips) (k0_t4 : Fin (k0_t4_loop k0_t3).trips) : Fin 2 → Nat :=
  let c0_i32_34 : BitVec 32 := 0#32
  let c1_i32_36 : BitVec 32 := 1#32
  let arg16 : BitVec 32 := Scf.iv c0_i32_34 c1_i32_36 k0_t3
  let c0_i32_47 : BitVec 32 := 0#32
  let c1_i32_49 : BitVec 32 := 1#32
  let arg21 : BitVec 32 := Scf.iv c0_i32_47 c1_i32_49 k0_t4
  let v68 : BitVec 32 := Scalar.subi arg16 arg21
  let c0_i32_51 : BitVec 32 := 0#32
  let v69 : BitVec 32 := Scalar.maxsi v68 c0_i32_51
  let c128_i32_52 : BitVec 32 := 128#32
  let v70 : BitVec 32 := Scalar.muli v69 c128_i32_52
  let v71 : BitVec 32 := v70
  let v457 : Index := Scalar.indexCast v71
  let c384 : Index := 384#32
  ![v457.toNat, 384]
def k0_off31 (arg24 : BitVec 32) : Fin 2 → Nat :=
  let c0_i32_55 : BitVec 32 := 0#32
  let v75 : BitVec 32 := Scalar.maxsi arg24 c0_i32_55
  let c128_i32_56 : BitVec 32 := 128#32
  let v76 : BitVec 32 := Scalar.muli v75 c128_i32_56
  let v77 : BitVec 32 := v76
  let v459 : Index := Scalar.indexCast v77
  let c384_276 : Index := 384#32
  ![v459.toNat, 384]

def k0_chk2 (arg24 : BitVec 32) : Prop :=
  (128 ∣ (k0_mult7 arg24).toNat) ∧
  (∀ a, (k0_off19 arg24) a + S128x128.size a ≤ S2048x512.size a) ∧
  (∀ a, (k0_off23 arg24) a + S128x128.size a ≤ S2048x512.size a) ∧
  (∀ a, (k0_off27 arg24) a + S128x128.size a ≤ S2048x512.size a) ∧
  (∀ a, (k0_off31 arg24) a + S128x128.size a ≤ S2048x512.size a)
theorem k0_mult7_dvd : ∀ (arg24 : BitVec 32) (k0_hw2 : k0_chk2 arg24), 128 ∣ (k0_mult7 arg24).toNat := fun arg24 k0_hw2 => k0_hw2.1
theorem k0_off19_inb : ∀ (arg24 : BitVec 32) (k0_hw2 : k0_chk2 arg24), ∀ a, (k0_off19 arg24) a + S128x128.size a ≤ S2048x512.size a := fun arg24 k0_hw2 => k0_hw2.2.1
theorem k0_off23_inb : ∀ (arg24 : BitVec 32) (k0_hw2 : k0_chk2 arg24), ∀ a, (k0_off23 arg24) a + S128x128.size a ≤ S2048x512.size a := fun arg24 k0_hw2 => k0_hw2.2.2.1
theorem k0_off27_inb : ∀ (arg24 : BitVec 32) (k0_hw2 : k0_chk2 arg24), ∀ a, (k0_off27 arg24) a + S128x128.size a ≤ S2048x512.size a := fun arg24 k0_hw2 => k0_hw2.2.2.2.1
theorem k0_off31_inb : ∀ (arg24 : BitVec 32) (k0_hw2 : k0_chk2 arg24), ∀ a, (k0_off31 arg24) a + S128x128.size a ≤ S2048x512.size a := fun arg24 k0_hw2 => k0_hw2.2.2.2.2

def k0_off32 (arg25 : BitVec 32) : Fin 3 → Nat :=
  let c3_280 : Index := 3#32
  let c0_i32_60 : BitVec 32 := 0#32
  let v82 : BitVec 32 := Scalar.maxsi arg25 c0_i32_60
  let c2_i32_61 : BitVec 32 := 2#32
  let v83 : BitVec 32 := Scalar.muli v82 c2_i32_61
  let c128_i32_62 : BitVec 32 := 128#32
  let v84 : BitVec 32 := Scalar.muli v83 c128_i32_62
  let v85 : BitVec 32 := v84
  let v463 : Index := Scalar.indexCast v85
  let c0_281 : Index := 0#32
  ![3, v463.toNat, 0]

def k0_chk3 (arg25 : BitVec 32) : Prop :=
  (256 ∣ (k0_mult9 arg25).toNat) ∧
  (∀ a, (k0_off20 arg25) a + S1x256x128.size a ≤ S4x4096x128.size a) ∧
  (∀ a, (k0_off24 arg25) a + S1x256x128.size a ≤ S4x4096x128.size a) ∧
  (∀ a, (k0_off28 arg25) a + S1x256x128.size a ≤ S4x4096x128.size a) ∧
  (∀ a, (k0_off32 arg25) a + S1x256x128.size a ≤ S4x4096x128.size a)
theorem k0_mult9_dvd : ∀ (arg25 : BitVec 32) (k0_hw3 : k0_chk3 arg25), 256 ∣ (k0_mult9 arg25).toNat := fun arg25 k0_hw3 => k0_hw3.1
theorem k0_off20_inb : ∀ (arg25 : BitVec 32) (k0_hw3 : k0_chk3 arg25), ∀ a, (k0_off20 arg25) a + S1x256x128.size a ≤ S4x4096x128.size a := fun arg25 k0_hw3 => k0_hw3.2.1
theorem k0_off24_inb : ∀ (arg25 : BitVec 32) (k0_hw3 : k0_chk3 arg25), ∀ a, (k0_off24 arg25) a + S1x256x128.size a ≤ S4x4096x128.size a := fun arg25 k0_hw3 => k0_hw3.2.2.1
theorem k0_off28_inb : ∀ (arg25 : BitVec 32) (k0_hw3 : k0_chk3 arg25), ∀ a, (k0_off28 arg25) a + S1x256x128.size a ≤ S4x4096x128.size a := fun arg25 k0_hw3 => k0_hw3.2.2.2.1
theorem k0_off32_inb : ∀ (arg25 : BitVec 32) (k0_hw3 : k0_chk3 arg25), ∀ a, (k0_off32 arg25) a + S1x256x128.size a ≤ S4x4096x128.size a := fun arg25 k0_hw3 => k0_hw3.2.2.2.2

def k0_off33 (k0_t3 : Fin k0_t3_loop.trips) (c0_i32_301 : BitVec 32) : Fin 3 → Nat :=
  let c3_302 : Index := 3#32
  let c0_i32_34 : BitVec 32 := 0#32
  let c1_i32_36 : BitVec 32 := 1#32
  let arg16 : BitVec 32 := Scf.iv c0_i32_34 c1_i32_36 k0_t3
  let c0_i32_57 : BitVec 32 := 0#32
  let v78 : BitVec 32 := Scalar.maxsi arg16 c0_i32_57
  let c2_i32_58 : BitVec 32 := 2#32
  let v79 : BitVec 32 := Scalar.muli v78 c2_i32_58
  let c128_i32_59 : BitVec 32 := 128#32
  let v80 : BitVec 32 := Scalar.muli v79 c128_i32_59
  let v81 : BitVec 32 := v80
  let v501 : BitVec 32 := Scalar.addi v81 c0_i32_301
  let v502 : Index := Scalar.indexCast v501
  let c0_303 : Index := 0#32
  ![3, v502.toNat, 0]
@[reducible] def k0_t5_loop (k0_t3 : Fin k0_t3_loop.trips) : Scf.Loop 32 :=
  let c0_i32_47 : BitVec 32 := 0#32
  let c0_i32_34 : BitVec 32 := 0#32
  let c1_i32_36 : BitVec 32 := 1#32
  let arg16 : BitVec 32 := Scf.iv c0_i32_34 c1_i32_36 k0_t3
  let c1_i32_46 : BitVec 32 := 1#32
  let v60 : BitVec 32 := Scalar.addi arg16 c1_i32_46
  let v61 : BitVec 32 := Scalar.subi v60 c0_i32_47
  let c1_i32_48 : BitVec 32 := 1#32
  let v63 : BitVec 32 := Scalar.divsi v61 c1_i32_48
  let v64 : BitVec 32 := Scalar.muli v63 c1_i32_48
  let v65 : BitVec 32 := Scalar.addi c0_i32_47 v64
  let v62 : BitVec 32 := Scalar.addi c0_i32_47 v61
  let c1_i32_50 : BitVec 32 := 1#32
  ⟨v65, v62, c1_i32_50⟩
def k0_mult10 (k0_t3 : Fin k0_t3_loop.trips) (k0_t5 : Fin (k0_t5_loop k0_t3).trips) : BitVec 32 :=
  let c0_i32_34 : BitVec 32 := 0#32
  let c1_i32_36 : BitVec 32 := 1#32
  let arg16 : BitVec 32 := Scf.iv c0_i32_34 c1_i32_36 k0_t3
  let c0_i32_47 : BitVec 32 := 0#32
  let c1_i32_46 : BitVec 32 := 1#32
  let v60 : BitVec 32 := Scalar.addi arg16 c1_i32_46
  let v61 : BitVec 32 := Scalar.subi v60 c0_i32_47
  let c1_i32_48 : BitVec 32 := 1#32
  let v63 : BitVec 32 := Scalar.divsi v61 c1_i32_48
  let v64 : BitVec 32 := Scalar.muli v63 c1_i32_48
  let v65 : BitVec 32 := Scalar.addi c0_i32_47 v64
  let c1_i32_50 : BitVec 32 := 1#32
  let arg21 : BitVec 32 := Scf.iv v65 c1_i32_50 k0_t5
  let v68 : BitVec 32 := Scalar.subi arg16 arg21
  let c0_i32_51 : BitVec 32 := 0#32
  let v69 : BitVec 32 := Scalar.maxsi v68 c0_i32_51
  let c128_i32_52 : BitVec 32 := 128#32
  let v70 : BitVec 32 := Scalar.muli v69 c128_i32_52
  v70
def k0_mult11 (arg22 : BitVec 32) : BitVec 32 :=
  let c0_i32_53 : BitVec 32 := 0#32
  let v72 : BitVec 32 := Scalar.maxsi arg22 c0_i32_53
  let c128_i32_54 : BitVec 32 := 128#32
  let v73 : BitVec 32 := Scalar.muli v72 c128_i32_54
  v73

def k0_mult12 (arg24 : BitVec 32) : BitVec 32 :=
  let c0_i32_55 : BitVec 32 := 0#32
  let v75 : BitVec 32 := Scalar.maxsi arg24 c0_i32_55
  let c128_i32_56 : BitVec 32 := 128#32
  let v76 : BitVec 32 := Scalar.muli v75 c128_i32_56
  v76

def k0_mult13 (k0_t3 : Fin k0_t3_loop.trips) : BitVec 32 :=
  let c0_i32_34 : BitVec 32 := 0#32
  let c1_i32_36 : BitVec 32 := 1#32
  let arg16 : BitVec 32 := Scf.iv c0_i32_34 c1_i32_36 k0_t3
  let c0_i32_57 : BitVec 32 := 0#32
  let v78 : BitVec 32 := Scalar.maxsi arg16 c0_i32_57
  let c2_i32_58 : BitVec 32 := 2#32
  let v79 : BitVec 32 := Scalar.muli v78 c2_i32_58
  let c128_i32_59 : BitVec 32 := 128#32
  let v80 : BitVec 32 := Scalar.muli v79 c128_i32_59
  v80
def k0_mult14 (arg25 : BitVec 32) : BitVec 32 :=
  let c0_i32_60 : BitVec 32 := 0#32
  let v82 : BitVec 32 := Scalar.maxsi arg25 c0_i32_60
  let c2_i32_61 : BitVec 32 := 2#32
  let v83 : BitVec 32 := Scalar.muli v82 c2_i32_61
  let c128_i32_62 : BitVec 32 := 128#32
  let v84 : BitVec 32 := Scalar.muli v83 c128_i32_62
  v84

def k0_off34 (arg22 : BitVec 32) : Fin 2 → Nat :=
  let c0_i32_53 : BitVec 32 := 0#32
  let v72 : BitVec 32 := Scalar.maxsi arg22 c0_i32_53
  let c128_i32_54 : BitVec 32 := 128#32
  let v73 : BitVec 32 := Scalar.muli v72 c128_i32_54
  let v74 : BitVec 32 := v73
  let v97 : Index := Scalar.indexCast v74
  let c0_66 : Index := 0#32
  ![v97.toNat, 0]

def k0_chk4 (k0_t3 : Fin k0_t3_loop.trips) (k0_t5 : Fin (k0_t5_loop k0_t3).trips) (arg22 : BitVec 32) : Prop :=
  (128 ∣ (k0_mult11 arg22).toNat) ∧
  (∀ a, (k0_off34 arg22) a + S128x128.size a ≤ S2048x128.size a)
theorem k0_mult11_dvd : ∀ (k0_t3 : Fin k0_t3_loop.trips) (k0_t5 : Fin (k0_t5_loop k0_t3).trips) (arg22 : BitVec 32) (k0_hw4 : k0_chk4 k0_t3 k0_t5 arg22), 128 ∣ (k0_mult11 arg22).toNat := fun k0_t3 k0_t5 arg22 k0_hw4 => k0_hw4.1
theorem k0_off34_inb : ∀ (k0_t3 : Fin k0_t3_loop.trips) (k0_t5 : Fin (k0_t5_loop k0_t3).trips) (arg22 : BitVec 32) (k0_hw4 : k0_chk4 k0_t3 k0_t5 arg22), ∀ a, (k0_off34 arg22) a + S128x128.size a ≤ S2048x128.size a := fun k0_t3 k0_t5 arg22 k0_hw4 => k0_hw4.2

def k0_off35 (k0_t3 : Fin k0_t3_loop.trips) (k0_t5 : Fin (k0_t5_loop k0_t3).trips) : Fin 2 → Nat :=
  let c0_i32_34 : BitVec 32 := 0#32
  let c1_i32_36 : BitVec 32 := 1#32
  let arg16 : BitVec 32 := Scf.iv c0_i32_34 c1_i32_36 k0_t3
  let c0_i32_47 : BitVec 32 := 0#32
  let c1_i32_46 : BitVec 32 := 1#32
  let v60 : BitVec 32 := Scalar.addi arg16 c1_i32_46
  let v61 : BitVec 32 := Scalar.subi v60 c0_i32_47
  let c1_i32_48 : BitVec 32 := 1#32
  let v63 : BitVec 32 := Scalar.divsi v61 c1_i32_48
  let v64 : BitVec 32 := Scalar.muli v63 c1_i32_48
  let v65 : BitVec 32 := Scalar.addi c0_i32_47 v64
  let c1_i32_50 : BitVec 32 := 1#32
  let arg21 : BitVec 32 := Scf.iv v65 c1_i32_50 k0_t5
  let v68 : BitVec 32 := Scalar.subi arg16 arg21
  let c0_i32_51 : BitVec 32 := 0#32
  let v69 : BitVec 32 := Scalar.maxsi v68 c0_i32_51
  let c128_i32_52 : BitVec 32 := 128#32
  let v70 : BitVec 32 := Scalar.muli v69 c128_i32_52
  let v71 : BitVec 32 := v70
  let v100 : Index := Scalar.indexCast v71
  let c0_67 : Index := 0#32
  ![v100.toNat, 0]
def k0_off36 (arg24 : BitVec 32) : Fin 2 → Nat :=
  let c0_i32_55 : BitVec 32 := 0#32
  let v75 : BitVec 32 := Scalar.maxsi arg24 c0_i32_55
  let c128_i32_56 : BitVec 32 := 128#32
  let v76 : BitVec 32 := Scalar.muli v75 c128_i32_56
  let v77 : BitVec 32 := v76
  let v102 : Index := Scalar.indexCast v77
  let c0_68 : Index := 0#32
  ![v102.toNat, 0]
def k0_off37 (arg25 : BitVec 32) : Fin 3 → Nat :=
  let c0_72 : Index := 0#32
  let c0_i32_60 : BitVec 32 := 0#32
  let v82 : BitVec 32 := Scalar.maxsi arg25 c0_i32_60
  let c2_i32_61 : BitVec 32 := 2#32
  let v83 : BitVec 32 := Scalar.muli v82 c2_i32_61
  let c128_i32_62 : BitVec 32 := 128#32
  let v84 : BitVec 32 := Scalar.muli v83 c128_i32_62
  let v85 : BitVec 32 := v84
  let v106 : Index := Scalar.indexCast v85
  let c0_73 : Index := 0#32
  ![0, v106.toNat, 0]
def k0_off38 (k0_t3 : Fin k0_t3_loop.trips) (c0_i32_95 : BitVec 32) : Fin 3 → Nat :=
  let c0_96 : Index := 0#32
  let c0_i32_34 : BitVec 32 := 0#32
  let c1_i32_36 : BitVec 32 := 1#32
  let arg16 : BitVec 32 := Scf.iv c0_i32_34 c1_i32_36 k0_t3
  let c0_i32_57 : BitVec 32 := 0#32
  let v78 : BitVec 32 := Scalar.maxsi arg16 c0_i32_57
  let c2_i32_58 : BitVec 32 := 2#32
  let v79 : BitVec 32 := Scalar.muli v78 c2_i32_58
  let c128_i32_59 : BitVec 32 := 128#32
  let v80 : BitVec 32 := Scalar.muli v79 c128_i32_59
  let v81 : BitVec 32 := v80
  let v144 : BitVec 32 := Scalar.addi v81 c0_i32_95
  let v145 : Index := Scalar.indexCast v144
  let c0_97 : Index := 0#32
  ![0, v145.toNat, 0]
def k0_off39 (k0_t3 : Fin k0_t3_loop.trips) (k0_t5 : Fin (k0_t5_loop k0_t3).trips) : Fin 2 → Nat :=
  let c0_i32_34 : BitVec 32 := 0#32
  let c1_i32_36 : BitVec 32 := 1#32
  let arg16 : BitVec 32 := Scf.iv c0_i32_34 c1_i32_36 k0_t3
  let c0_i32_47 : BitVec 32 := 0#32
  let c1_i32_46 : BitVec 32 := 1#32
  let v60 : BitVec 32 := Scalar.addi arg16 c1_i32_46
  let v61 : BitVec 32 := Scalar.subi v60 c0_i32_47
  let c1_i32_48 : BitVec 32 := 1#32
  let v63 : BitVec 32 := Scalar.divsi v61 c1_i32_48
  let v64 : BitVec 32 := Scalar.muli v63 c1_i32_48
  let v65 : BitVec 32 := Scalar.addi c0_i32_47 v64
  let c1_i32_50 : BitVec 32 := 1#32
  let arg21 : BitVec 32 := Scf.iv v65 c1_i32_50 k0_t5
  let v68 : BitVec 32 := Scalar.subi arg16 arg21
  let c0_i32_51 : BitVec 32 := 0#32
  let v69 : BitVec 32 := Scalar.maxsi v68 c0_i32_51
  let c128_i32_52 : BitVec 32 := 128#32
  let v70 : BitVec 32 := Scalar.muli v69 c128_i32_52
  let v71 : BitVec 32 := v70
  let v219 : Index := Scalar.indexCast v71
  let c128_138 : Index := 128#32
  ![v219.toNat, 128]
def k0_off40 (arg24 : BitVec 32) : Fin 2 → Nat :=
  let c0_i32_55 : BitVec 32 := 0#32
  let v75 : BitVec 32 := Scalar.maxsi arg24 c0_i32_55
  let c128_i32_56 : BitVec 32 := 128#32
  let v76 : BitVec 32 := Scalar.muli v75 c128_i32_56
  let v77 : BitVec 32 := v76
  let v221 : Index := Scalar.indexCast v77
  let c128_139 : Index := 128#32
  ![v221.toNat, 128]
def k0_off41 (arg25 : BitVec 32) : Fin 3 → Nat :=
  let c1_143 : Index := 1#32
  let c0_i32_60 : BitVec 32 := 0#32
  let v82 : BitVec 32 := Scalar.maxsi arg25 c0_i32_60
  let c2_i32_61 : BitVec 32 := 2#32
  let v83 : BitVec 32 := Scalar.muli v82 c2_i32_61
  let c128_i32_62 : BitVec 32 := 128#32
  let v84 : BitVec 32 := Scalar.muli v83 c128_i32_62
  let v85 : BitVec 32 := v84
  let v225 : Index := Scalar.indexCast v85
  let c0_144 : Index := 0#32
  ![1, v225.toNat, 0]
def k0_off42 (k0_t3 : Fin k0_t3_loop.trips) (c0_i32_164 : BitVec 32) : Fin 3 → Nat :=
  let c1_165 : Index := 1#32
  let c0_i32_34 : BitVec 32 := 0#32
  let c1_i32_36 : BitVec 32 := 1#32
  let arg16 : BitVec 32 := Scf.iv c0_i32_34 c1_i32_36 k0_t3
  let c0_i32_57 : BitVec 32 := 0#32
  let v78 : BitVec 32 := Scalar.maxsi arg16 c0_i32_57
  let c2_i32_58 : BitVec 32 := 2#32
  let v79 : BitVec 32 := Scalar.muli v78 c2_i32_58
  let c128_i32_59 : BitVec 32 := 128#32
  let v80 : BitVec 32 := Scalar.muli v79 c128_i32_59
  let v81 : BitVec 32 := v80
  let v263 : BitVec 32 := Scalar.addi v81 c0_i32_164
  let v264 : Index := Scalar.indexCast v263
  let c0_166 : Index := 0#32
  ![1, v264.toNat, 0]
def k0_off43 (k0_t3 : Fin k0_t3_loop.trips) (k0_t5 : Fin (k0_t5_loop k0_t3).trips) : Fin 2 → Nat :=
  let c0_i32_34 : BitVec 32 := 0#32
  let c1_i32_36 : BitVec 32 := 1#32
  let arg16 : BitVec 32 := Scf.iv c0_i32_34 c1_i32_36 k0_t3
  let c0_i32_47 : BitVec 32 := 0#32
  let c1_i32_46 : BitVec 32 := 1#32
  let v60 : BitVec 32 := Scalar.addi arg16 c1_i32_46
  let v61 : BitVec 32 := Scalar.subi v60 c0_i32_47
  let c1_i32_48 : BitVec 32 := 1#32
  let v63 : BitVec 32 := Scalar.divsi v61 c1_i32_48
  let v64 : BitVec 32 := Scalar.muli v63 c1_i32_48
  let v65 : BitVec 32 := Scalar.addi c0_i32_47 v64
  let c1_i32_50 : BitVec 32 := 1#32
  let arg21 : BitVec 32 := Scf.iv v65 c1_i32_50 k0_t5
  let v68 : BitVec 32 := Scalar.subi arg16 arg21
  let c0_i32_51 : BitVec 32 := 0#32
  let v69 : BitVec 32 := Scalar.maxsi v68 c0_i32_51
  let c128_i32_52 : BitVec 32 := 128#32
  let v70 : BitVec 32 := Scalar.muli v69 c128_i32_52
  let v71 : BitVec 32 := v70
  let v338 : Index := Scalar.indexCast v71
  let c256 : Index := 256#32
  ![v338.toNat, 256]
def k0_off44 (arg24 : BitVec 32) : Fin 2 → Nat :=
  let c0_i32_55 : BitVec 32 := 0#32
  let v75 : BitVec 32 := Scalar.maxsi arg24 c0_i32_55
  let c128_i32_56 : BitVec 32 := 128#32
  let v76 : BitVec 32 := Scalar.muli v75 c128_i32_56
  let v77 : BitVec 32 := v76
  let v340 : Index := Scalar.indexCast v77
  let c256_207 : Index := 256#32
  ![v340.toNat, 256]
def k0_off45 (arg25 : BitVec 32) : Fin 3 → Nat :=
  let c2_211 : Index := 2#32
  let c0_i32_60 : BitVec 32 := 0#32
  let v82 : BitVec 32 := Scalar.maxsi arg25 c0_i32_60
  let c2_i32_61 : BitVec 32 := 2#32
  let v83 : BitVec 32 := Scalar.muli v82 c2_i32_61
  let c128_i32_62 : BitVec 32 := 128#32
  let v84 : BitVec 32 := Scalar.muli v83 c128_i32_62
  let v85 : BitVec 32 := v84
  let v344 : Index := Scalar.indexCast v85
  let c0_212 : Index := 0#32
  ![2, v344.toNat, 0]
def k0_off46 (k0_t3 : Fin k0_t3_loop.trips) (c0_i32_233 : BitVec 32) : Fin 3 → Nat :=
  let c2_234 : Index := 2#32
  let c0_i32_34 : BitVec 32 := 0#32
  let c1_i32_36 : BitVec 32 := 1#32
  let arg16 : BitVec 32 := Scf.iv c0_i32_34 c1_i32_36 k0_t3
  let c0_i32_57 : BitVec 32 := 0#32
  let v78 : BitVec 32 := Scalar.maxsi arg16 c0_i32_57
  let c2_i32_58 : BitVec 32 := 2#32
  let v79 : BitVec 32 := Scalar.muli v78 c2_i32_58
  let c128_i32_59 : BitVec 32 := 128#32
  let v80 : BitVec 32 := Scalar.muli v79 c128_i32_59
  let v81 : BitVec 32 := v80
  let v382 : BitVec 32 := Scalar.addi v81 c0_i32_233
  let v383 : Index := Scalar.indexCast v382
  let c0_235 : Index := 0#32
  ![2, v383.toNat, 0]
def k0_off47 (k0_t3 : Fin k0_t3_loop.trips) (k0_t5 : Fin (k0_t5_loop k0_t3).trips) : Fin 2 → Nat :=
  let c0_i32_34 : BitVec 32 := 0#32
  let c1_i32_36 : BitVec 32 := 1#32
  let arg16 : BitVec 32 := Scf.iv c0_i32_34 c1_i32_36 k0_t3
  let c0_i32_47 : BitVec 32 := 0#32
  let c1_i32_46 : BitVec 32 := 1#32
  let v60 : BitVec 32 := Scalar.addi arg16 c1_i32_46
  let v61 : BitVec 32 := Scalar.subi v60 c0_i32_47
  let c1_i32_48 : BitVec 32 := 1#32
  let v63 : BitVec 32 := Scalar.divsi v61 c1_i32_48
  let v64 : BitVec 32 := Scalar.muli v63 c1_i32_48
  let v65 : BitVec 32 := Scalar.addi c0_i32_47 v64
  let c1_i32_50 : BitVec 32 := 1#32
  let arg21 : BitVec 32 := Scf.iv v65 c1_i32_50 k0_t5
  let v68 : BitVec 32 := Scalar.subi arg16 arg21
  let c0_i32_51 : BitVec 32 := 0#32
  let v69 : BitVec 32 := Scalar.maxsi v68 c0_i32_51
  let c128_i32_52 : BitVec 32 := 128#32
  let v70 : BitVec 32 := Scalar.muli v69 c128_i32_52
  let v71 : BitVec 32 := v70
  let v457 : Index := Scalar.indexCast v71
  let c384 : Index := 384#32
  ![v457.toNat, 384]
def k0_off48 (arg24 : BitVec 32) : Fin 2 → Nat :=
  let c0_i32_55 : BitVec 32 := 0#32
  let v75 : BitVec 32 := Scalar.maxsi arg24 c0_i32_55
  let c128_i32_56 : BitVec 32 := 128#32
  let v76 : BitVec 32 := Scalar.muli v75 c128_i32_56
  let v77 : BitVec 32 := v76
  let v459 : Index := Scalar.indexCast v77
  let c384_276 : Index := 384#32
  ![v459.toNat, 384]

def k0_chk5 (k0_t3 : Fin k0_t3_loop.trips) (k0_t5 : Fin (k0_t5_loop k0_t3).trips) (arg24 : BitVec 32) : Prop :=
  (128 ∣ (k0_mult12 arg24).toNat) ∧
  (∀ a, (k0_off36 arg24) a + S128x128.size a ≤ S2048x512.size a) ∧
  (∀ a, (k0_off40 arg24) a + S128x128.size a ≤ S2048x512.size a) ∧
  (∀ a, (k0_off44 arg24) a + S128x128.size a ≤ S2048x512.size a) ∧
  (∀ a, (k0_off48 arg24) a + S128x128.size a ≤ S2048x512.size a)
theorem k0_mult12_dvd : ∀ (k0_t3 : Fin k0_t3_loop.trips) (k0_t5 : Fin (k0_t5_loop k0_t3).trips) (arg24 : BitVec 32) (k0_hw5 : k0_chk5 k0_t3 k0_t5 arg24), 128 ∣ (k0_mult12 arg24).toNat := fun k0_t3 k0_t5 arg24 k0_hw5 => k0_hw5.1
theorem k0_off36_inb : ∀ (k0_t3 : Fin k0_t3_loop.trips) (k0_t5 : Fin (k0_t5_loop k0_t3).trips) (arg24 : BitVec 32) (k0_hw5 : k0_chk5 k0_t3 k0_t5 arg24), ∀ a, (k0_off36 arg24) a + S128x128.size a ≤ S2048x512.size a := fun k0_t3 k0_t5 arg24 k0_hw5 => k0_hw5.2.1
theorem k0_off40_inb : ∀ (k0_t3 : Fin k0_t3_loop.trips) (k0_t5 : Fin (k0_t5_loop k0_t3).trips) (arg24 : BitVec 32) (k0_hw5 : k0_chk5 k0_t3 k0_t5 arg24), ∀ a, (k0_off40 arg24) a + S128x128.size a ≤ S2048x512.size a := fun k0_t3 k0_t5 arg24 k0_hw5 => k0_hw5.2.2.1
theorem k0_off44_inb : ∀ (k0_t3 : Fin k0_t3_loop.trips) (k0_t5 : Fin (k0_t5_loop k0_t3).trips) (arg24 : BitVec 32) (k0_hw5 : k0_chk5 k0_t3 k0_t5 arg24), ∀ a, (k0_off44 arg24) a + S128x128.size a ≤ S2048x512.size a := fun k0_t3 k0_t5 arg24 k0_hw5 => k0_hw5.2.2.2.1
theorem k0_off48_inb : ∀ (k0_t3 : Fin k0_t3_loop.trips) (k0_t5 : Fin (k0_t5_loop k0_t3).trips) (arg24 : BitVec 32) (k0_hw5 : k0_chk5 k0_t3 k0_t5 arg24), ∀ a, (k0_off48 arg24) a + S128x128.size a ≤ S2048x512.size a := fun k0_t3 k0_t5 arg24 k0_hw5 => k0_hw5.2.2.2.2

def k0_off49 (arg25 : BitVec 32) : Fin 3 → Nat :=
  let c3_280 : Index := 3#32
  let c0_i32_60 : BitVec 32 := 0#32
  let v82 : BitVec 32 := Scalar.maxsi arg25 c0_i32_60
  let c2_i32_61 : BitVec 32 := 2#32
  let v83 : BitVec 32 := Scalar.muli v82 c2_i32_61
  let c128_i32_62 : BitVec 32 := 128#32
  let v84 : BitVec 32 := Scalar.muli v83 c128_i32_62
  let v85 : BitVec 32 := v84
  let v463 : Index := Scalar.indexCast v85
  let c0_281 : Index := 0#32
  ![3, v463.toNat, 0]

def k0_chk6 (k0_t3 : Fin k0_t3_loop.trips) (k0_t5 : Fin (k0_t5_loop k0_t3).trips) (arg25 : BitVec 32) : Prop :=
  (256 ∣ (k0_mult14 arg25).toNat) ∧
  (∀ a, (k0_off37 arg25) a + S1x256x128.size a ≤ S4x4096x128.size a) ∧
  (∀ a, (k0_off41 arg25) a + S1x256x128.size a ≤ S4x4096x128.size a) ∧
  (∀ a, (k0_off45 arg25) a + S1x256x128.size a ≤ S4x4096x128.size a) ∧
  (∀ a, (k0_off49 arg25) a + S1x256x128.size a ≤ S4x4096x128.size a)
theorem k0_mult14_dvd : ∀ (k0_t3 : Fin k0_t3_loop.trips) (k0_t5 : Fin (k0_t5_loop k0_t3).trips) (arg25 : BitVec 32) (k0_hw6 : k0_chk6 k0_t3 k0_t5 arg25), 256 ∣ (k0_mult14 arg25).toNat := fun k0_t3 k0_t5 arg25 k0_hw6 => k0_hw6.1
theorem k0_off37_inb : ∀ (k0_t3 : Fin k0_t3_loop.trips) (k0_t5 : Fin (k0_t5_loop k0_t3).trips) (arg25 : BitVec 32) (k0_hw6 : k0_chk6 k0_t3 k0_t5 arg25), ∀ a, (k0_off37 arg25) a + S1x256x128.size a ≤ S4x4096x128.size a := fun k0_t3 k0_t5 arg25 k0_hw6 => k0_hw6.2.1
theorem k0_off41_inb : ∀ (k0_t3 : Fin k0_t3_loop.trips) (k0_t5 : Fin (k0_t5_loop k0_t3).trips) (arg25 : BitVec 32) (k0_hw6 : k0_chk6 k0_t3 k0_t5 arg25), ∀ a, (k0_off41 arg25) a + S1x256x128.size a ≤ S4x4096x128.size a := fun k0_t3 k0_t5 arg25 k0_hw6 => k0_hw6.2.2.1
theorem k0_off45_inb : ∀ (k0_t3 : Fin k0_t3_loop.trips) (k0_t5 : Fin (k0_t5_loop k0_t3).trips) (arg25 : BitVec 32) (k0_hw6 : k0_chk6 k0_t3 k0_t5 arg25), ∀ a, (k0_off45 arg25) a + S1x256x128.size a ≤ S4x4096x128.size a := fun k0_t3 k0_t5 arg25 k0_hw6 => k0_hw6.2.2.2.1
theorem k0_off49_inb : ∀ (k0_t3 : Fin k0_t3_loop.trips) (k0_t5 : Fin (k0_t5_loop k0_t3).trips) (arg25 : BitVec 32) (k0_hw6 : k0_chk6 k0_t3 k0_t5 arg25), ∀ a, (k0_off49 arg25) a + S1x256x128.size a ≤ S4x4096x128.size a := fun k0_t3 k0_t5 arg25 k0_hw6 => k0_hw6.2.2.2.2

def k0_off50 (k0_t3 : Fin k0_t3_loop.trips) (c0_i32_301 : BitVec 32) : Fin 3 → Nat :=
  let c3_302 : Index := 3#32
  let c0_i32_34 : BitVec 32 := 0#32
  let c1_i32_36 : BitVec 32 := 1#32
  let arg16 : BitVec 32 := Scf.iv c0_i32_34 c1_i32_36 k0_t3
  let c0_i32_57 : BitVec 32 := 0#32
  let v78 : BitVec 32 := Scalar.maxsi arg16 c0_i32_57
  let c2_i32_58 : BitVec 32 := 2#32
  let v79 : BitVec 32 := Scalar.muli v78 c2_i32_58
  let c128_i32_59 : BitVec 32 := 128#32
  let v80 : BitVec 32 := Scalar.muli v79 c128_i32_59
  let v81 : BitVec 32 := v80
  let v501 : BitVec 32 := Scalar.addi v81 c0_i32_301
  let v502 : Index := Scalar.indexCast v501
  let c0_303 : Index := 0#32
  ![3, v502.toNat, 0]
@[reducible] def k0_t6_loop : Scf.Loop 32 :=
  let c0_i32_39 : BitVec 32 := 0#32
  let c2_i32_40 : BitVec 32 := 2#32
  let v55 : BitVec 32 := Scalar.addi c0_i32_39 c2_i32_40
  let c1_i32_41 : BitVec 32 := 1#32
  ⟨c0_i32_39, v55, c1_i32_41⟩
def k0_mult15 : BitVec 32 :=
  let c_m1_i32_38 : BitVec 32 := 4294967295#32
  let c0_i32_46 : BitVec 32 := 0#32
  let v60 : BitVec 32 := Scalar.maxsi c_m1_i32_38 c0_i32_46
  let c128_i32_47 : BitVec 32 := 128#32
  let v61 : BitVec 32 := Scalar.muli v60 c128_i32_47
  v61
def k0_mult16 (arg17 : BitVec 32) : BitVec 32 :=
  let c0_i32_48 : BitVec 32 := 0#32
  let v63 : BitVec 32 := Scalar.maxsi arg17 c0_i32_48
  let c128_i32_49 : BitVec 32 := 128#32
  let v64 : BitVec 32 := Scalar.muli v63 c128_i32_49
  v64

def k0_mult17 (arg19 : BitVec 32) : BitVec 32 :=
  let c0_i32_50 : BitVec 32 := 0#32
  let v66 : BitVec 32 := Scalar.maxsi arg19 c0_i32_50
  let c128_i32_51 : BitVec 32 := 128#32
  let v67 : BitVec 32 := Scalar.muli v66 c128_i32_51
  v67

def k0_mult18 : BitVec 32 :=
  let c_m1_i32_38 : BitVec 32 := 4294967295#32
  let c0_i32_52 : BitVec 32 := 0#32
  let v69 : BitVec 32 := Scalar.maxsi c_m1_i32_38 c0_i32_52
  let c2_i32_53 : BitVec 32 := 2#32
  let v70 : BitVec 32 := Scalar.muli v69 c2_i32_53
  let c128_i32_54 : BitVec 32 := 128#32
  let v71 : BitVec 32 := Scalar.muli v70 c128_i32_54
  v71
def k0_mult19 (arg20 : BitVec 32) : BitVec 32 :=
  let c0_i32_55 : BitVec 32 := 0#32
  let v73 : BitVec 32 := Scalar.maxsi arg20 c0_i32_55
  let c2_i32_56 : BitVec 32 := 2#32
  let v74 : BitVec 32 := Scalar.muli v73 c2_i32_56
  let c128_i32_57 : BitVec 32 := 128#32
  let v75 : BitVec 32 := Scalar.muli v74 c128_i32_57
  v75

def k0_off51 (arg17 : BitVec 32) : Fin 2 → Nat :=
  let c0_i32_48 : BitVec 32 := 0#32
  let v63 : BitVec 32 := Scalar.maxsi arg17 c0_i32_48
  let c128_i32_49 : BitVec 32 := 128#32
  let v64 : BitVec 32 := Scalar.muli v63 c128_i32_49
  let v65 : BitVec 32 := v64
  let v88 : Index := Scalar.indexCast v65
  let c0_61 : Index := 0#32
  ![v88.toNat, 0]

def k0_chk7 (arg17 : BitVec 32) : Prop :=
  (128 ∣ (k0_mult16 arg17).toNat) ∧
  (∀ a, (k0_off51 arg17) a + S128x128.size a ≤ S2048x128.size a)
theorem k0_mult16_dvd : ∀ (arg17 : BitVec 32) (k0_hw7 : k0_chk7 arg17), 128 ∣ (k0_mult16 arg17).toNat := fun arg17 k0_hw7 => k0_hw7.1
theorem k0_off51_inb : ∀ (arg17 : BitVec 32) (k0_hw7 : k0_chk7 arg17), ∀ a, (k0_off51 arg17) a + S128x128.size a ≤ S2048x128.size a := fun arg17 k0_hw7 => k0_hw7.2

def k0_off52 : Fin 2 → Nat :=
  let c_m1_i32_38 : BitVec 32 := 4294967295#32
  let c0_i32_46 : BitVec 32 := 0#32
  let v60 : BitVec 32 := Scalar.maxsi c_m1_i32_38 c0_i32_46
  let c128_i32_47 : BitVec 32 := 128#32
  let v61 : BitVec 32 := Scalar.muli v60 c128_i32_47
  let v62 : BitVec 32 := v61
  let v91 : Index := Scalar.indexCast v62
  let c0_62 : Index := 0#32
  ![v91.toNat, 0]
def k0_off53 (arg19 : BitVec 32) : Fin 2 → Nat :=
  let c0_i32_50 : BitVec 32 := 0#32
  let v66 : BitVec 32 := Scalar.maxsi arg19 c0_i32_50
  let c128_i32_51 : BitVec 32 := 128#32
  let v67 : BitVec 32 := Scalar.muli v66 c128_i32_51
  let v68 : BitVec 32 := v67
  let v93 : Index := Scalar.indexCast v68
  let c0_63 : Index := 0#32
  ![v93.toNat, 0]
def k0_off54 (arg20 : BitVec 32) : Fin 3 → Nat :=
  let c0_67 : Index := 0#32
  let c0_i32_55 : BitVec 32 := 0#32
  let v73 : BitVec 32 := Scalar.maxsi arg20 c0_i32_55
  let c2_i32_56 : BitVec 32 := 2#32
  let v74 : BitVec 32 := Scalar.muli v73 c2_i32_56
  let c128_i32_57 : BitVec 32 := 128#32
  let v75 : BitVec 32 := Scalar.muli v74 c128_i32_57
  let v76 : BitVec 32 := v75
  let v97 : Index := Scalar.indexCast v76
  let c0_68 : Index := 0#32
  ![0, v97.toNat, 0]
def k0_off55 (c0_i32_90 : BitVec 32) : Fin 3 → Nat :=
  let c0_91 : Index := 0#32
  let c_m1_i32_38 : BitVec 32 := 4294967295#32
  let c0_i32_52 : BitVec 32 := 0#32
  let v69 : BitVec 32 := Scalar.maxsi c_m1_i32_38 c0_i32_52
  let c2_i32_53 : BitVec 32 := 2#32
  let v70 : BitVec 32 := Scalar.muli v69 c2_i32_53
  let c128_i32_54 : BitVec 32 := 128#32
  let v71 : BitVec 32 := Scalar.muli v70 c128_i32_54
  let v72 : BitVec 32 := v71
  let v135 : BitVec 32 := Scalar.addi v72 c0_i32_90
  let v136 : Index := Scalar.indexCast v135
  let c0_92 : Index := 0#32
  ![0, v136.toNat, 0]
def k0_off56 : Fin 2 → Nat :=
  let c_m1_i32_38 : BitVec 32 := 4294967295#32
  let c0_i32_46 : BitVec 32 := 0#32
  let v60 : BitVec 32 := Scalar.maxsi c_m1_i32_38 c0_i32_46
  let c128_i32_47 : BitVec 32 := 128#32
  let v61 : BitVec 32 := Scalar.muli v60 c128_i32_47
  let v62 : BitVec 32 := v61
  let v210 : Index := Scalar.indexCast v62
  let c128_133 : Index := 128#32
  ![v210.toNat, 128]
def k0_off57 (arg19 : BitVec 32) : Fin 2 → Nat :=
  let c0_i32_50 : BitVec 32 := 0#32
  let v66 : BitVec 32 := Scalar.maxsi arg19 c0_i32_50
  let c128_i32_51 : BitVec 32 := 128#32
  let v67 : BitVec 32 := Scalar.muli v66 c128_i32_51
  let v68 : BitVec 32 := v67
  let v212 : Index := Scalar.indexCast v68
  let c128_134 : Index := 128#32
  ![v212.toNat, 128]
def k0_off58 (arg20 : BitVec 32) : Fin 3 → Nat :=
  let c1_138 : Index := 1#32
  let c0_i32_55 : BitVec 32 := 0#32
  let v73 : BitVec 32 := Scalar.maxsi arg20 c0_i32_55
  let c2_i32_56 : BitVec 32 := 2#32
  let v74 : BitVec 32 := Scalar.muli v73 c2_i32_56
  let c128_i32_57 : BitVec 32 := 128#32
  let v75 : BitVec 32 := Scalar.muli v74 c128_i32_57
  let v76 : BitVec 32 := v75
  let v216 : Index := Scalar.indexCast v76
  let c0_139 : Index := 0#32
  ![1, v216.toNat, 0]
def k0_off59 (c0_i32_159 : BitVec 32) : Fin 3 → Nat :=
  let c1_160 : Index := 1#32
  let c_m1_i32_38 : BitVec 32 := 4294967295#32
  let c0_i32_52 : BitVec 32 := 0#32
  let v69 : BitVec 32 := Scalar.maxsi c_m1_i32_38 c0_i32_52
  let c2_i32_53 : BitVec 32 := 2#32
  let v70 : BitVec 32 := Scalar.muli v69 c2_i32_53
  let c128_i32_54 : BitVec 32 := 128#32
  let v71 : BitVec 32 := Scalar.muli v70 c128_i32_54
  let v72 : BitVec 32 := v71
  let v254 : BitVec 32 := Scalar.addi v72 c0_i32_159
  let v255 : Index := Scalar.indexCast v254
  let c0_161 : Index := 0#32
  ![1, v255.toNat, 0]
def k0_off60 : Fin 2 → Nat :=
  let c_m1_i32_38 : BitVec 32 := 4294967295#32
  let c0_i32_46 : BitVec 32 := 0#32
  let v60 : BitVec 32 := Scalar.maxsi c_m1_i32_38 c0_i32_46
  let c128_i32_47 : BitVec 32 := 128#32
  let v61 : BitVec 32 := Scalar.muli v60 c128_i32_47
  let v62 : BitVec 32 := v61
  let v329 : Index := Scalar.indexCast v62
  let c256 : Index := 256#32
  ![v329.toNat, 256]
def k0_off61 (arg19 : BitVec 32) : Fin 2 → Nat :=
  let c0_i32_50 : BitVec 32 := 0#32
  let v66 : BitVec 32 := Scalar.maxsi arg19 c0_i32_50
  let c128_i32_51 : BitVec 32 := 128#32
  let v67 : BitVec 32 := Scalar.muli v66 c128_i32_51
  let v68 : BitVec 32 := v67
  let v331 : Index := Scalar.indexCast v68
  let c256_202 : Index := 256#32
  ![v331.toNat, 256]
def k0_off62 (arg20 : BitVec 32) : Fin 3 → Nat :=
  let c2_206 : Index := 2#32
  let c0_i32_55 : BitVec 32 := 0#32
  let v73 : BitVec 32 := Scalar.maxsi arg20 c0_i32_55
  let c2_i32_56 : BitVec 32 := 2#32
  let v74 : BitVec 32 := Scalar.muli v73 c2_i32_56
  let c128_i32_57 : BitVec 32 := 128#32
  let v75 : BitVec 32 := Scalar.muli v74 c128_i32_57
  let v76 : BitVec 32 := v75
  let v335 : Index := Scalar.indexCast v76
  let c0_207 : Index := 0#32
  ![2, v335.toNat, 0]
def k0_off63 (c0_i32_228 : BitVec 32) : Fin 3 → Nat :=
  let c2_229 : Index := 2#32
  let c_m1_i32_38 : BitVec 32 := 4294967295#32
  let c0_i32_52 : BitVec 32 := 0#32
  let v69 : BitVec 32 := Scalar.maxsi c_m1_i32_38 c0_i32_52
  let c2_i32_53 : BitVec 32 := 2#32
  let v70 : BitVec 32 := Scalar.muli v69 c2_i32_53
  let c128_i32_54 : BitVec 32 := 128#32
  let v71 : BitVec 32 := Scalar.muli v70 c128_i32_54
  let v72 : BitVec 32 := v71
  let v373 : BitVec 32 := Scalar.addi v72 c0_i32_228
  let v374 : Index := Scalar.indexCast v373
  let c0_230 : Index := 0#32
  ![2, v374.toNat, 0]
def k0_off64 : Fin 2 → Nat :=
  let c_m1_i32_38 : BitVec 32 := 4294967295#32
  let c0_i32_46 : BitVec 32 := 0#32
  let v60 : BitVec 32 := Scalar.maxsi c_m1_i32_38 c0_i32_46
  let c128_i32_47 : BitVec 32 := 128#32
  let v61 : BitVec 32 := Scalar.muli v60 c128_i32_47
  let v62 : BitVec 32 := v61
  let v448 : Index := Scalar.indexCast v62
  let c384 : Index := 384#32
  ![v448.toNat, 384]
def k0_off65 (arg19 : BitVec 32) : Fin 2 → Nat :=
  let c0_i32_50 : BitVec 32 := 0#32
  let v66 : BitVec 32 := Scalar.maxsi arg19 c0_i32_50
  let c128_i32_51 : BitVec 32 := 128#32
  let v67 : BitVec 32 := Scalar.muli v66 c128_i32_51
  let v68 : BitVec 32 := v67
  let v450 : Index := Scalar.indexCast v68
  let c384_271 : Index := 384#32
  ![v450.toNat, 384]

def k0_chk8 (arg19 : BitVec 32) : Prop :=
  (128 ∣ (k0_mult17 arg19).toNat) ∧
  (∀ a, (k0_off53 arg19) a + S128x128.size a ≤ S2048x512.size a) ∧
  (∀ a, (k0_off57 arg19) a + S128x128.size a ≤ S2048x512.size a) ∧
  (∀ a, (k0_off61 arg19) a + S128x128.size a ≤ S2048x512.size a) ∧
  (∀ a, (k0_off65 arg19) a + S128x128.size a ≤ S2048x512.size a)
theorem k0_mult17_dvd : ∀ (arg19 : BitVec 32) (k0_hw8 : k0_chk8 arg19), 128 ∣ (k0_mult17 arg19).toNat := fun arg19 k0_hw8 => k0_hw8.1
theorem k0_off53_inb : ∀ (arg19 : BitVec 32) (k0_hw8 : k0_chk8 arg19), ∀ a, (k0_off53 arg19) a + S128x128.size a ≤ S2048x512.size a := fun arg19 k0_hw8 => k0_hw8.2.1
theorem k0_off57_inb : ∀ (arg19 : BitVec 32) (k0_hw8 : k0_chk8 arg19), ∀ a, (k0_off57 arg19) a + S128x128.size a ≤ S2048x512.size a := fun arg19 k0_hw8 => k0_hw8.2.2.1
theorem k0_off61_inb : ∀ (arg19 : BitVec 32) (k0_hw8 : k0_chk8 arg19), ∀ a, (k0_off61 arg19) a + S128x128.size a ≤ S2048x512.size a := fun arg19 k0_hw8 => k0_hw8.2.2.2.1
theorem k0_off65_inb : ∀ (arg19 : BitVec 32) (k0_hw8 : k0_chk8 arg19), ∀ a, (k0_off65 arg19) a + S128x128.size a ≤ S2048x512.size a := fun arg19 k0_hw8 => k0_hw8.2.2.2.2

def k0_off66 (arg20 : BitVec 32) : Fin 3 → Nat :=
  let c3_275 : Index := 3#32
  let c0_i32_55 : BitVec 32 := 0#32
  let v73 : BitVec 32 := Scalar.maxsi arg20 c0_i32_55
  let c2_i32_56 : BitVec 32 := 2#32
  let v74 : BitVec 32 := Scalar.muli v73 c2_i32_56
  let c128_i32_57 : BitVec 32 := 128#32
  let v75 : BitVec 32 := Scalar.muli v74 c128_i32_57
  let v76 : BitVec 32 := v75
  let v454 : Index := Scalar.indexCast v76
  let c0_276 : Index := 0#32
  ![3, v454.toNat, 0]

def k0_chk9 (arg20 : BitVec 32) : Prop :=
  (256 ∣ (k0_mult19 arg20).toNat) ∧
  (∀ a, (k0_off54 arg20) a + S1x256x128.size a ≤ S4x4096x128.size a) ∧
  (∀ a, (k0_off58 arg20) a + S1x256x128.size a ≤ S4x4096x128.size a) ∧
  (∀ a, (k0_off62 arg20) a + S1x256x128.size a ≤ S4x4096x128.size a) ∧
  (∀ a, (k0_off66 arg20) a + S1x256x128.size a ≤ S4x4096x128.size a)
theorem k0_mult19_dvd : ∀ (arg20 : BitVec 32) (k0_hw9 : k0_chk9 arg20), 256 ∣ (k0_mult19 arg20).toNat := fun arg20 k0_hw9 => k0_hw9.1
theorem k0_off54_inb : ∀ (arg20 : BitVec 32) (k0_hw9 : k0_chk9 arg20), ∀ a, (k0_off54 arg20) a + S1x256x128.size a ≤ S4x4096x128.size a := fun arg20 k0_hw9 => k0_hw9.2.1
theorem k0_off58_inb : ∀ (arg20 : BitVec 32) (k0_hw9 : k0_chk9 arg20), ∀ a, (k0_off58 arg20) a + S1x256x128.size a ≤ S4x4096x128.size a := fun arg20 k0_hw9 => k0_hw9.2.2.1
theorem k0_off62_inb : ∀ (arg20 : BitVec 32) (k0_hw9 : k0_chk9 arg20), ∀ a, (k0_off62 arg20) a + S1x256x128.size a ≤ S4x4096x128.size a := fun arg20 k0_hw9 => k0_hw9.2.2.2.1
theorem k0_off66_inb : ∀ (arg20 : BitVec 32) (k0_hw9 : k0_chk9 arg20), ∀ a, (k0_off66 arg20) a + S1x256x128.size a ≤ S4x4096x128.size a := fun arg20 k0_hw9 => k0_hw9.2.2.2.2

def k0_off67 (c0_i32_296 : BitVec 32) : Fin 3 → Nat :=
  let c3_297 : Index := 3#32
  let c_m1_i32_38 : BitVec 32 := 4294967295#32
  let c0_i32_52 : BitVec 32 := 0#32
  let v69 : BitVec 32 := Scalar.maxsi c_m1_i32_38 c0_i32_52
  let c2_i32_53 : BitVec 32 := 2#32
  let v70 : BitVec 32 := Scalar.muli v69 c2_i32_53
  let c128_i32_54 : BitVec 32 := 128#32
  let v71 : BitVec 32 := Scalar.muli v70 c128_i32_54
  let v72 : BitVec 32 := v71
  let v492 : BitVec 32 := Scalar.addi v72 c0_i32_296
  let v493 : Index := Scalar.indexCast v492
  let c0_298 : Index := 0#32
  ![3, v493.toNat, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== AttnFwdIdeal.lean ====
variable {F : FTy → Type} [FloatOps F] [Named F]
def κ : String → Option EReal := fun
  | "mask" => some ⊥
  | _ => none
-- ==== AttnFwdRefIdeal.lean ====
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩
abbrev S8x2048x15 : Shape := ⟨3, ![8, 2048, 15]⟩
abbrev S8x2048x1 : Shape := ⟨3, ![8, 2048, 1]⟩
abbrev S8x2048x16 : Shape := ⟨3, ![8, 2048, 16]⟩
abbrev S2048x8x16 : Shape := ⟨3, ![2048, 8, 16]⟩
abbrev S2048x128 : Shape := ⟨2, ![2048, 128]⟩

abbrev nBuf : Space → Nat
  | .hbm => 77
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x8x64, .f32⟩
  | .hbm, ⟨4, _⟩ => ⟨S2048x8x64, .f32⟩
  | .hbm, ⟨5, _⟩ => ⟨S2048x8x64, .f32⟩
  | .hbm, ⟨6, _⟩ => ⟨S8x2048x2048, .f32⟩
  | .hbm, ⟨7, _⟩ => ⟨S_, .f32⟩
  | .hbm, ⟨8, _⟩ => ⟨S8x2048x2048, .f32⟩
  | .hbm, ⟨9, _⟩ => ⟨S8x2048x2048, .f32⟩
  | .hbm, ⟨10, _⟩ => ⟨S2048, .i32⟩
  | .hbm, ⟨11, _⟩ => ⟨S1x2048, .i32⟩
  | .hbm, ⟨12, _⟩ => ⟨S2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S_, .f32⟩
  | .hbm, ⟨36, _⟩ => ⟨S8x2048x2048, .i1⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S_, .f32⟩
  | .hbm, ⟨41, _⟩ => ⟨S8x2048x2048, .f32⟩
  | .hbm, ⟨42, _⟩ => ⟨S8x2048x2048, .f32⟩
  | .hbm, ⟨43, _⟩ => ⟨S_, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S8x2048x2048, .i1⟩
  | .hbm, ⟨49, _⟩ => ⟨S8x2048x2048, .f32⟩
  | .hbm, ⟨50, _⟩ => ⟨S8x2048x2048, .f32⟩
  | .hbm, ⟨51, _⟩ => ⟨S8x2048x2048, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S_, .f32⟩
  | .hbm, ⟨62, _⟩ => ⟨S_, .f32⟩
  | .hbm, ⟨63, _⟩ => ⟨S8x2048x2048, .i1⟩
  | .hbm, ⟨64, _⟩ => ⟨S8x2048x2048, .f32⟩
  | .hbm, ⟨65, _⟩ => ⟨S8x2048x2048, .f32⟩
  | .hbm, ⟨66, _⟩ => ⟨S8x64x2048, .f32⟩
  | .hbm, ⟨67, _⟩ => ⟨S2048x8x64, .f32⟩
  | .hbm, ⟨68, _⟩ => ⟨S2048x512, .f32⟩
  | .hbm, ⟨69, _⟩ => ⟨S8x2048x15, .f32⟩
  | .hbm, ⟨70, _⟩ => ⟨S8x2048x15, .f32⟩
  | .hbm, ⟨71, _⟩ => ⟨S_, .f32⟩
  | .hbm, ⟨72, _⟩ => ⟨S8x2048x1, .f32⟩
  | .hbm, ⟨73, _⟩ => ⟨S8x2048x16, .f32⟩
  | .hbm, ⟨74, _⟩ => ⟨S2048x512, .bf16⟩
  | .hbm, ⟨75, _⟩ => ⟨S2048x8x16, .f32⟩
  | .hbm, ⟨76, _⟩ => ⟨S2048x128, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_call2_cst : Ref sig .tc := ⟨.hbm, 39, rfl⟩
abbrev main_call2_v0 : Ref sig .tc := ⟨.hbm, 40, rfl⟩
abbrev main_v16 : Ref sig .tc := ⟨.hbm, 41, rfl⟩
abbrev main_call3_v0 : Ref sig .tc := ⟨.hbm, 42, rfl⟩
abbrev main_call3_call0_cst : Ref sig .tc := ⟨.hbm, 43, rfl⟩
abbrev main_call3_call0_v0 : Ref sig .tc := ⟨.hbm, 44, rfl⟩
abbrev main_call3_call0_v1 : Ref sig .tc := ⟨.hbm, 45, rfl⟩
abbrev main_call3_call0_v2 : Ref sig .tc := ⟨.hbm, 46, rfl⟩
abbrev main_call3_call0_v3 : Ref sig .tc := ⟨.hbm, 47, rfl⟩
abbrev main_call3_call0_v4 : Ref sig .tc := ⟨.hbm, 48, rfl⟩
abbrev main_call3_call0_v5 : Ref sig .tc := ⟨.hbm, 49, rfl⟩
abbrev main_call3_call0_v6 : Ref sig .tc := ⟨.hbm, 50, rfl⟩
abbrev main_call3_call0_v7 : Ref sig .tc := ⟨.hbm, 51, rfl⟩
abbrev main_call3_call0_v8 : Ref sig .tc := ⟨.hbm, 52, rfl⟩
abbrev main_call3_call0_v9 : Ref sig .tc := ⟨.hbm, 53, rfl⟩
abbrev main_call3_call0_v10 : Ref sig .tc := ⟨.hbm, 54, rfl⟩
abbrev main_call3_call0_v11 : Ref sig .tc := ⟨.hbm, 55, rfl⟩
abbrev main_call3_v1 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_cst_2 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩

abbrev nD : Nat := 1
abbrev τ : Topo := Topo.v7x

variable {F : FTy → Type} [FloatOps F]
-- ==== Proof.Basic.lean ====
/- Hand-written, untrusted: facts over the extended reals that several value proofs of this certificate share — an entry
   that is neither infinity is a real number, finite sums of reals, three printed constants, and the gradient of the
   root-mean-square norm of one row, written once the way the step's kernels compute it and once the way the reverse-mode
   derivative of the forward line computes it. -/
module

public import Idealize.ShloMosaic.PureOps.Ideal.Laws
public import Idealize.ShloMosaic.Lib.IdealHost
public import Idealize.ShloMosaic.Lib.ReduceAll
public import Idealize.ShloMosaic.Lib.Affine
public import Idealize.ShloMosaic.Lib.ValueIdx
public import Idealize.ShloMosaic.Lib.ValueIdxCore
public import Idealize.ShloMosaic.Lib.MatmulPlain

@[expose] public section

noncomputable section

namespace Cert.Proof

open Idealize.ShloMosaic Idealize.ShloMosaic.ValueIdx

/-- An extended real whose absolute value is below the word of `+∞` is a real number. -/
theorem real_of_abs_lt {x : EReal} (h : Ideal.cmp .olt (max x (-x)) (Ideal.ofBits .f32 0x7F800000#32) = 1#1) :
    ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe r => exact ⟨r, rfl⟩

/-- Both conjuncts of an all-ones `and` are all ones. -/
theorem andi_one {s : Shape} {a b : IVec s 1} {j : s.Idx} (h : andi a b j = 1#1) : a j = 1#1 ∧ b j = 1#1 :=
  IntOp.andi_eq_one.mp h

/-- An array whose entries are all real is the array of those reals. -/
theorem exists_real {ι : Type} {x : ι → EReal} (h : ∀ i, ∃ r : ℝ, x i = (r : EReal)) :
    ∃ f : ι → ℝ, x = fun i => ((f i : ℝ) : EReal) :=
  ⟨fun i => (h i).choose, funext fun i => (h i).choose_spec⟩

/-- A finite sum of reals, cast. -/
theorem coe_sum {ι : Type} (s : Finset ι) (f : ι → ℝ) : ((∑ i ∈ s, f i : ℝ) : EReal) = ∑ i ∈ s, ((f i : ℝ) : EReal) := by
  induction s using Finset.cons_induction with
  | empty => simp
  | cons a s ha ih => rw [Finset.sum_cons, Finset.sum_cons, EReal.coe_add, ih]

theorem ofBits_1024 : Ideal.ofBits .f32 0x44800000#32 = ((1024 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
/-- The norm's small constant as a real number. -/
def eps : ℝ := 8796093 * (2 : ℝ) ^ (-43 : ℤ)
theorem eps_pos : 0 < eps := by unfold eps; positivity
theorem ofBits_eps : Ideal.ofBits .f32 0x358637BD#32 = ((eps : ℝ) : EReal) := by
  simp [Ideal.ofBits, Ideal.ieee, -EReal.coe_mul, eps]

/-! ## One row of the root-mean-square norm's gradient -/

/-- The reciprocal root of a row's mean square plus the small constant. -/
def rmsE {ι : Type} [Fintype ι] (x : ι → EReal) : EReal :=
  Ideal.rsqrt (Ideal.div (∑ k, x k * x k) (Ideal.ofBits .f32 0x44800000#32) + Ideal.ofBits .f32 0x358637BD#32)

/-- The mean square plus the small constant, over the reals. -/
def msR {ι : Type} [Fintype ι] (x : ι → ℝ) : ℝ := (∑ k, x k * x k) * (1 / 1024) + eps
theorem msR_pos {ι : Type} [Fintype ι] (x : ι → ℝ) : 0 < msR x :=
  add_pos_of_nonneg_of_pos (mul_nonneg (Finset.sum_nonneg fun k _ => mul_self_nonneg (x k)) (by norm_num)) eps_pos

theorem msE_coe {ι : Type} [Fintype ι] (x : ι → ℝ) :
    Ideal.div (∑ k, (x k : EReal) * (x k : EReal)) (Ideal.ofBits .f32 0x44800000#32) + Ideal.ofBits .f32 0x358637BD#32
      = ((msR x : ℝ) : EReal) := by
  rw [ofBits_1024, ofBits_eps, Ideal.div_coe (by norm_num)]
  simp only [← EReal.coe_mul, ← coe_sum, ← EReal.coe_add]; rfl

theorem rsqrt_pos_coe {s : ℝ} (h : 0 < s) : Ideal.rsqrt (s : EReal) = (((Real.sqrt s)⁻¹ : ℝ) : EReal) := by
  rw [Ideal.rsqrt_coe, if_neg (not_lt.mpr h.le), if_neg h.ne']

theorem rmsE_coe {ι : Type} [Fintype ι] (x : ι → ℝ) :
    rmsE (fun k => (x k : EReal)) = (((Real.sqrt (msR x))⁻¹ : ℝ) : EReal) := by
  unfold rmsE; rw [msE_coe, rsqrt_pos_coe (msR_pos x)]

/-- The gradient at place `j` of a row as the kernels compute it: `r · (d − n · mean(d · n))`, `n = x · r`. -/
def rowGrad {ι : Type} [Fintype ι] (x d : ι → EReal) (j : ι) : EReal :=
  rmsE x * (d j - x j * rmsE x * Ideal.div (∑ k, d k * (x k * rmsE x)) (Ideal.ofBits .f32 0x44800000#32))

/-- The weight of `2 · x` in the gradient as the derivative of the forward line has it:
    `(Σ x · d) · (−½ · (r / (mean x² + ε))) / 1024`. -/
def rowWeight {ι : Type} [Fintype ι] (x d : ι → EReal) : EReal :=
  Ideal.div ((∑ k, x k * d k) * (Ideal.ofBits .f32 0xBF000000#32 * Ideal.div (rmsE x)
    (Ideal.div (∑ k, x k * x k) (Ideal.ofBits .f32 0x44800000#32) + Ideal.ofBits .f32 0x358637BD#32)))
    (Ideal.ofBits .f32 0x44800000#32)

/-- The two agree on rows of reals; what the gradient is added to may be anything. -/
theorem rowGrad_eq {ι : Type} [Fintype ι] (x d : ι → ℝ) (a : EReal) (j : ι) :
    a + rowGrad (fun k => (x k : EReal)) (fun k => (d k : EReal)) j
      = a + (d j : EReal) * rmsE (fun k => (x k : EReal))
        + (x j : EReal) * rowWeight (fun k => (x k : EReal)) (fun k => (d k : EReal))
        + rowWeight (fun k => (x k : EReal)) (fun k => (d k : EReal)) * (x j : EReal) := by
  have hs := msR_pos x
  unfold rowGrad rowWeight
  rw [rmsE_coe, msE_coe, ofBits_1024, ofBits_neg_half, Ideal.div_coe (by norm_num), Ideal.div_coe (by norm_num),
    Ideal.div_coe hs.ne']
  simp only [← EReal.coe_mul, ← coe_sum, ← EReal.coe_sub]
  rw [add_assoc, add_assoc]
  simp only [← EReal.coe_add]
  refine congrArg (fun r : ℝ => a + (r : EReal)) ?_
  have hq : Real.sqrt (msR x) ≠ 0 := (Real.sqrt_pos.mpr hs).ne'
  have e1 : (∑ k, d k * (x k * (Real.sqrt (msR x))⁻¹)) = (∑ k, x k * d k) * (Real.sqrt (msR x))⁻¹ := by
    rw [Finset.sum_mul]; exact Finset.sum_congr rfl fun k _ => by ring
  have e2 : (1 / msR x) = (Real.sqrt (msR x))⁻¹ * (Real.sqrt (msR x))⁻¹ := by
    rw [← mul_inv, Real.mul_self_sqrt hs.le, one_div]
  rw [e1, e2]; ring

/-- The same for rows named as extended reals that happen to be real. -/
theorem rowGrad_real {ι : Type} [Fintype ι] (x d : ι → EReal) (hx : ∀ k, ∃ r : ℝ, x k = (r : EReal))
    (hd : ∀ k, ∃ r : ℝ, d k = (r : EReal)) (a : EReal) (j : ι) :
    a + d j * rmsE x + x j * rowWeight x d + rowWeight x d * x j = a + rowGrad x d j := by
  obtain ⟨x', rfl⟩ := exists_real hx
  obtain ⟨d', rfl⟩ := exists_real hd
  exact (rowGrad_eq x' d' a j).symm

/-- A sum of products of reals is real. -/
theorem real_sum_mul {ι : Type} (s : Finset ι) (x y : ι → EReal) (hx : ∀ k, ∃ r : ℝ, x k = (r : EReal))
    (hy : ∀ k, ∃ r : ℝ, y k = (r : EReal)) : ∃ r : ℝ, ∑ k ∈ s, x k * y k = (r : EReal) := by
  obtain ⟨x', rfl⟩ := exists_real hx
  obtain ⟨y', rfl⟩ := exists_real hy
  exact ⟨∑ k ∈ s, x' k * y' k, by simp only [coe_sum, EReal.coe_mul]⟩

/-- A product of reals is real. -/
theorem real_mul {x y : EReal} (hx : ∃ r : ℝ, x = (r : EReal)) (hy : ∃ r : ℝ, y = (r : EReal)) : ∃ r : ℝ, x * y = (r : EReal) := by
  obtain ⟨x', rfl⟩ := hx
  obtain ⟨y', rfl⟩ := hy
  exact ⟨x' * y', (EReal.coe_mul _ _).symm⟩

end Cert.Proof

end
-- ==== Proof.InProjPay.lean ====
/- Hand-written, untrusted: what one grid point of the input projection's backward call computes, at an index, over the
   extended reals. -/
module

public import proofs.«01_k».proof.Proof.Basic
public import proofs.«01_k».proof.Proof.Gen.InProjIdeal.Value
public import Idealize.ShloMosaic.Lib.Pointwise
public import Idealize.ShloMosaic.Lib.StableHlo.ReadAt
public import Idealize.ShloMosaic.Lib.Pipeline.ValueKit.Tiles

@[expose] public section

noncomputable section

namespace Cert.Proof.InProj

open Cert.InProjIdeal Cert.InProjIdeal.Gen Idealize.ShloMosaic TcCoe Idealize.SL.Sem

/-- The tile of `dproj · w_inᵀ`: the six partial products of one point, from its three column pieces of `dproj` and the
    four-piece weight. -/
def dhBlk (x0 : Vec Ideal S256x1024 .bf16) (x1 : Vec Ideal S256x1536 .bf16) (x2 : Vec Ideal S256x2048 .bf16)
    (x3 : Vec Ideal S4x1024x1152 .bf16) : FVec Ideal S256x1024 .f32 :=
  k0_pay3
    (k0_pay2 x0
      (View.ld x3 (Rect.unit (s := S4x1024x1152) ![0, 0, 0] S1x1024x1024.size inb_S4x1024x1152_S1x1024x1024_0_0_0))
      (View.ld x1 (Rect.unit (s := S256x1536) ![0, 0] S256x128.size inb_S256x1536_S256x128_0_0))
      (View.ld x3 (Rect.unit (s := S4x1024x1152) ![0, 0, 1024] S1x1024x128.size inb_S4x1024x1152_S1x1024x128_0_0_1024))
      (View.ld x1 (Rect.unit (s := S256x1536) ![0, 128] S256x1152.size inb_S256x1536_S256x1152_0_128))
      (View.ld x3 (Rect.unit (s := S4x1024x1152) ![1, 0, 0] S1x1024x1152.size inb_S4x1024x1152_S1x1024x1152_1_0_0))
      (View.ld x1 (Rect.unit (s := S256x1536) ![0, 1280] S256x256.size inb_S256x1536_S256x256_0_1280))
      (View.ld x3 (Rect.unit (s := S4x1024x1152) ![2, 0, 0] S1x1024x256.size inb_S4x1024x1152_S1x1024x256_2_0_0))
      (View.ld x2 (Rect.unit (s := S256x2048) ![0, 0] S256x896.size inb_S256x2048_S256x896_0_0))
      (View.ld x3 (Rect.unit (s := S4x1024x1152) ![2, 0, 256] S1x1024x896.size inb_S4x1024x1152_S1x1024x896_2_0_256)))
    (View.ld x2 (Rect.unit (s := S256x2048) ![0, 896] S256x1152.size inb_S256x2048_S256x1152_0_896))
    (View.ld x3 (Rect.unit (s := S4x1024x1152) ![3, 0, 0] S1x1024x1152.size inb_S4x1024x1152_S1x1024x1152_3_0_0))

theorem dhBlk_apply (x0 : Vec Ideal S256x1024 .bf16) (x1 : Vec Ideal S256x1536 .bf16) (x2 : Vec Ideal S256x2048 .bf16)
    (x3 : Vec Ideal S4x1024x1152 .bf16) (p : Fin 256) (j : Fin 1024) :
    dhBlk x0 x1 x2 x3 (ix2 p j) =
      (∑ k : Fin 1024, x0 (ix2 p k) * x3 (ix3 0 j ⟨k.val, by omega⟩))
      + (∑ k : Fin 128, x1 (ix2 p ⟨k.val, by omega⟩) * x3 (ix3 0 j ⟨1024 + k.val, by omega⟩))
      + (∑ k : Fin 1152, x1 (ix2 p ⟨128 + k.val, by omega⟩) * x3 (ix3 1 j k))
      + (∑ k : Fin 256, x1 (ix2 p ⟨1280 + k.val, by omega⟩) * x3 (ix3 2 j ⟨k.val, by omega⟩))
      + (∑ k : Fin 896, x2 (ix2 p ⟨k.val, by omega⟩) * x3 (ix3 2 j ⟨256 + k.val, by omega⟩))
      + (∑ k : Fin 1152, x2 (ix2 p ⟨896 + k.val, by omega⟩) * x3 (ix3 3 j k)) := by
  pointwise [dhBlk, k0_pay3, k0_pay2]

theorem pay6_apply (v28 : FVec Ideal S256x1024 .f32) (v29 : Vec Ideal S256x1152 .bf16) (v31 : Vec Ideal S1x1024x1152 .bf16)
    (x4 x5 : Vec Ideal S256x1024 .f32) (x6 : Vec Ideal S1x1024 .f32) (o : S256x1024.Idx) :
    k0_pay6 v28 v29 v31 x4 x5 x6 o
      = x5 o + rowGrad (fun k => x4 (ix2 (o 0) k)) (fun k => k0_pay3 v28 v29 v31 (ix2 (o 0) k) * x6 (ix2 0 k)) (o 1) := by
  unfold rowGrad rmsE
  pointwise [k0_pay6, k0_pay5, k0_pay4]

theorem pay7_apply (v28 : FVec Ideal S256x1024 .f32) (v29 : Vec Ideal S256x1152 .bf16) (v31 : Vec Ideal S1x1024x1152 .bf16)
    (x4 : Vec Ideal S256x1024 .f32) (j : S1x1024.Idx) :
    k0_pay7 v28 v29 v31 x4 j
      = ∑ p : Fin 256, k0_pay3 v28 v29 v31 (ix2 p (j 1)) * (x4 (ix2 p (j 1)) * rmsE (fun k => x4 (ix2 p k))) := by
  unfold rmsE
  pointwise [k0_pay7, k0_pay5, k0_pay4]

theorem pay1_apply (a b : Vec Ideal S1x1024 .f32) (j : S1x1024.Idx) : k0_pay1 a b j = b j + a j := by
  pointwise [k0_pay1]

/-! ## What the body's stores leave, as functions of the blocks it reads -/

theorem hz2 : (![0, 0] : Fin 2 → Nat) = fun _ => 0 := funext fun a => by fin_cases a <;> rfl

variable (c : Dev nD) (i : grid0.Coords)
  (arg1 : Memref sig .tc .vmem S256x1024 .bf16) (harg1 : arg1.IsWhole) (arg2 : Memref sig .tc .vmem S256x1536 .bf16) (harg2 : arg2.IsWhole)
  (arg3 : Memref sig .tc .vmem S256x2048 .bf16) (harg3 : arg3.IsWhole) (arg4 : Memref sig .tc .vmem S4x1024x1152 .bf16) (harg4 : arg4.IsWhole)
  (arg5 : Memref sig .tc .vmem S256x1024 .f32) (harg5 : arg5.IsWhole) (arg6 : Memref sig .tc .vmem S256x1024 .f32) (harg6 : arg6.IsWhole)
  (arg7 : Memref sig .tc .vmem S1x1024 .f32) (harg7 : arg7.IsWhole) (arg8 : Memref sig .tc .vmem S8x128 .f32) (harg8 : arg8.IsWhole)
  (arg9 : Memref sig .tc .vmem S256x1024 .f32) (harg9 : arg9.IsWhole) (arg10 : Memref sig .tc .vmem S1x1024 .f32) (harg10 : arg10.IsWhole)
  (x0 : Vec Ideal S256x1024 .bf16) (x1 : Vec Ideal S256x1536 .bf16) (x2 : Vec Ideal S256x2048 .bf16)
  (x3 : Vec Ideal S4x1024x1152 .bf16) (x4 x5 : Vec Ideal S256x1024 .f32) (x6 : Vec Ideal S1x1024 .f32) (x7 : Vec Ideal S8x128 .f32)

/-- The tile of `dx`. -/
def dxBlk : Vec Ideal S256x1024 .f32 := fun o =>
  x5 o + rowGrad (fun k => x4 (ix2 (o 0) k)) (fun k => dhBlk x0 x1 x2 x3 (ix2 (o 0) k) * x6 (ix2 0 k)) (o 1)

/-- The tile's part of the scale's gradient. -/
def dgBlk : Vec Ideal S1x1024 .f32 := fun o =>
  ∑ p : Fin 256, dhBlk x0 x1 x2 x3 (ix2 p (o 1)) * (x4 (ix2 p (o 1)) * rmsE (fun k => x4 (ix2 p k)))

theorem out_A8 (h0 h1) : out0_A_8 c i arg1 harg1 arg2 harg2 arg3 harg3 arg4 harg4 arg5 harg5 arg6 harg6 arg7 harg7 arg8 harg8
    arg9 harg9 arg10 harg10 h0 h1 x0 x1 x2 x3 x4 x5 x6 x7 = dxBlk x0 x1 x2 x3 x4 x5 x6 := by
  unfold out0_A_8
  rw [View.read_writes_junk_eq_canon]
  unfold kernelRun0_A
  dsimp only
  sl_unfold_words
  simp only [View.readAt_eq_ld, harg1.read_unread, harg2.read_unread, harg3.read_unread, harg4.read_unread,
    harg5.read_unread, harg6.read_unread, harg7.read_unread]
  rw [View.canon_unit_zero hz2]
  simp only [View.ld_unit_zero (S := S256x1024) hz2 inb_S256x1024_S256x1024_0_0, View.ld_unit_zero (S := S1x1024) hz2 inb_S1x1024_S1x1024_0_0]
  funext o
  rw [pay6_apply]
  rfl

theorem out_B8 (h0 h1) (xp : Vec Ideal S1x1024 .f32) : out0_B_8 c i arg1 harg1 arg2 harg2 arg3 harg3 arg4 harg4 arg5 harg5
    arg6 harg6 arg7 harg7 arg8 harg8 arg9 harg9 arg10 harg10 h0 h1 x0 x1 x2 x3 x4 x5 x6 x7 xp = dxBlk x0 x1 x2 x3 x4 x5 x6 := by
  unfold out0_B_8
  rw [View.read_writes_junk_eq_canon]
  unfold kernelRun0_B
  dsimp only
  sl_unfold_words
  simp only [View.readAt_eq_ld, harg1.read_unread, harg2.read_unread, harg3.read_unread, harg4.read_unread,
    harg5.read_unread, harg6.read_unread, harg7.read_unread]
  rw [View.canon_unit_zero hz2]
  simp only [View.ld_unit_zero (S := S256x1024) hz2 inb_S256x1024_S256x1024_0_0, View.ld_unit_zero (S := S1x1024) hz2 inb_S1x1024_S1x1024_0_0]
  funext o
  rw [pay6_apply]
  rfl

theorem out_A9 (h0 h1) : out0_A_9 c i arg1 harg1 arg2 harg2 arg3 harg3 arg4 harg4 arg5 harg5 arg6 harg6 arg7 harg7 arg8 harg8
    arg9 harg9 arg10 harg10 h0 h1 x0 x1 x2 x3 x4 x5 x6 x7 = dgBlk x0 x1 x2 x3 x4 := by
  unfold out0_A_9
  rw [View.read_writes_junk_eq_canon]
  unfold kernelRun0_A
  dsimp only
  sl_unfold_words
  simp only [View.readAt_eq_ld, harg1.read_unread, harg2.read_unread, harg3.read_unread, harg4.read_unread,
    harg5.read_unread, harg6.read_unread, harg7.read_unread]
  rw [View.canon_unit_zero hz2]
  simp only [View.ld_unit_zero (S := S256x1024) hz2 inb_S256x1024_S256x1024_0_0]
  funext o
  rw [pay7_apply]
  rfl

theorem out_B9 (h0 h1) (xp : Vec Ideal S1x1024 .f32) : out0_B_9 c i arg1 harg1 arg2 harg2 arg3 harg3 arg4 harg4 arg5 harg5
    arg6 harg6 arg7 harg7 arg8 harg8 arg9 harg9 arg10 harg10 h0 h1 x0 x1 x2 x3 x4 x5 x6 x7 xp
      = fun o => xp o + dgBlk x0 x1 x2 x3 x4 o := by
  unfold out0_B_9
  rw [View.read_writes_eq_canon _ _ _ (cover0_B_9 c i arg1 harg1 arg2 harg2 arg3 harg3 arg4 harg4 arg5 harg5
    arg6 harg6 arg7 harg7 arg8 harg8 arg9 harg9 arg10 harg10 h0 h1 x0 x1 x2 x3 x4 x5 x6 x7 xp)]
  unfold kernelRun0_B
  dsimp only
  sl_unfold_words
  simp only [View.readAt_eq_ld, harg1.read_unread, harg2.read_unread, harg3.read_unread, harg4.read_unread,
    harg5.read_unread, harg6.read_unread, harg7.read_unread, harg10.read_unread]
  rw [View.canon_unit_zero hz2]
  simp only [View.ld_unit_zero (S := S256x1024) hz2 inb_S256x1024_S256x1024_0_0, View.ld_unit_zero (S := S1x1024) hz2 inb_S1x1024_S1x1024_0_0]
  funext o
  rw [pay1_apply, pay7_apply]
  rfl

end Cert.Proof.InProj

end
-- ==== Proof.InProjRun.lean ====
/- Hand-written, untrusted: the two arrays that the input projection's backward call leaves, as functions of its
   arguments, over the extended reals: `dx` row by row and the scale's gradient as one sum over all rows. -/
module

public import proofs.«01_k».proof.Proof.InProjPay

@[expose] public section

noncomputable section

namespace Cert.Proof.InProj

open Cert.InProjIdeal Cert.InProjIdeal.Gen Cert.InProjIdeal.Value Idealize.ShloMosaic TcCoe Idealize.SL.Sem

/-- `dproj · w_inᵀ` at one place. -/
def dh (dproj : Vec Ideal S2048x4608 .f32) (w : Vec Ideal S1024x4608 .f32) (p : Fin 2048) (j : Fin 1024) : EReal :=
  ∑ k : Fin 4608, dproj (ix2 p k) * w (ix2 j k)

/-- The gradient of the norm's input, with the gradient that arrives beside it. -/
def dxOf (x : Vec Ideal S2048x1024 .f32) (g : Vec Ideal S1024 .f32) (w : Vec Ideal S1024x4608 .f32)
    (dx2 : Vec Ideal S2048x1024 .f32) (dproj : Vec Ideal S2048x4608 .f32) : Vec Ideal S2048x1024 .f32 := fun o =>
  dx2 o + rowGrad (fun k => x (ix2 (o 0) k)) (fun k => dh dproj w (o 0) k * g (ix1 k)) (o 1)

/-- The gradient of the norm's scale. -/
def dgOf (x : Vec Ideal S2048x1024 .f32) (w : Vec Ideal S1024x4608 .f32) (dproj : Vec Ideal S2048x4608 .f32) :
    Vec Ideal S1x1024 .f32 := fun o =>
  ∑ p : Fin 2048, dh dproj w p (o 1) * (x (ix2 p (o 1)) * rmsE (fun k => x (ix2 p k)))

theorem split6 (f : Fin (1024 + 128 + 1152 + 256 + 896 + 1152) → EReal) :
    ∑ k, f k = (∑ k : Fin 1024, f ⟨k.val, by omega⟩) + (∑ k : Fin 128, f ⟨1024 + k.val, by omega⟩)
      + (∑ k : Fin 1152, f ⟨1152 + k.val, by omega⟩) + (∑ k : Fin 256, f ⟨2304 + k.val, by omega⟩)
      + (∑ k : Fin 896, f ⟨2560 + k.val, by omega⟩) + (∑ k : Fin 1152, f ⟨3456 + k.val, by omega⟩) := by
  rw [Fin.sum_univ_add, Fin.sum_univ_add, Fin.sum_univ_add, Fin.sum_univ_add, Fin.sum_univ_add]
  rfl

theorem split_rows (f : Fin 2048 → EReal) :
    ∑ p, f p = ∑ s : Fin 8, ∑ p : Fin 256, f ⟨256 * s.val + p.val, by omega⟩ := by
  rw [← Finset.sum_product', Finset.univ_product_univ, ← Equiv.sum_comp (finProdFinEquiv (m := 8) (n := 256))]
  exact Finset.sum_congr rfl fun q _ => congrArg f (Fin.ext (Nat.add_comm _ _))

variable (m : (ℓ : Loc nD τ sig) → Buf (Elt Ideal) ℓ) (ρ : Dev nD → PrngReg)

/-! ## The arrays the region finds -/

theorem V_v1 (c : Dev nD) (p : Fin 2048) (k : Fin 1024) :
    V m c main_v1 (ix2 p k) = m ((c : Thread nD τ).loc main_arg4) (ix2 p ⟨k.val, by omega⟩) := by
  unfold V; after_reads_at
theorem V_v2 (c : Dev nD) (p : Fin 2048) (k : Fin 1536) :
    V m c main_v2 (ix2 p k) = m ((c : Thread nD τ).loc main_arg4) (ix2 p ⟨1024 + k.val, by omega⟩) := by
  unfold V; after_reads_at
theorem V_v3 (c : Dev nD) (p : Fin 2048) (k : Fin 2048) :
    V m c main_v3 (ix2 p k) = m ((c : Thread nD τ).loc main_arg4) (ix2 p ⟨2560 + k.val, by omega⟩) := by
  unfold V; after_reads_at
theorem V_v6 (c : Dev nD) (a : Fin 4) (j : Fin 1024) (k : Fin 1152) :
    V m c main_v6 (ix3 a j k) = m ((c : Thread nD τ).loc main_arg2) (ix2 j ⟨1152 * a.val + k.val, by omega⟩) := by
  unfold V; after_reads_at
  exact congrArg _ (congrArg (ix2 j) (Fin.ext (by show a.val * 1152 + k.val = 1152 * a.val + k.val; omega)))
theorem V_v7 (c : Dev nD) (j : Fin 1024) :
    V m c main_v7 (ix2 0 j) = m ((c : Thread nD τ).loc main_arg1) (ix1 j) := by
  unfold V; after_reads_at

/-! ## Where a point's blocks lie -/

theorem N8 : cfg0.N = 8 := by decide
theorem lt8 (t : Fin cfg0.N) : t.val < 8 := lt_of_lt_of_eq t.isLt N8

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)

/-- Row `p` of point `t`'s tile, in the whole array. -/
def row (t : Fin cfg0.N) (p : Fin 256) : Fin 2048 := ⟨256 * t.val + p.val, by have := lt8 t; omega⟩

theorem iblk0 (c : Dev nD) (t : Fin cfg0.N) (p : Fin 256) (k : Fin 1024) :
    iblk m c 0 t (ix2 p k) = m ((c : Thread nD τ).loc main_arg4) (ix2 (row t p) ⟨k.val, by omega⟩) := by
  obtain ⟨e0, e1⟩ := idx0 t
  have e : ((cfg0.win 0).blk t).view.emb (ix2 p k) = ix2 (row t p) k := by
    refine funext fun a => Fin.ext ?_
    match a with
    | ⟨0, _⟩ => show win0_0.index t (0 : Fin 2) * 256 + 1 * p.val = 256 * t.val + p.val; omega
    | ⟨1, _⟩ => show win0_0.index t (1 : Fin 2) * 1024 + 1 * k.val = k.val; omega
  exact (congrArg (V m c main_v1) e).trans (V_v1 m c _ _)
theorem iblk1 (c : Dev nD) (t : Fin cfg0.N) (p : Fin 256) (k : Fin 1536) :
    iblk m c 1 t (ix2 p k) = m ((c : Thread nD τ).loc main_arg4) (ix2 (row t p) ⟨1024 + k.val, by omega⟩) := by
  obtain ⟨e0, e1⟩ := idx1 t
  have e : ((cfg0.win 1).blk t).view.emb (ix2 p k) = ix2 (row t p) k := by
    refine funext fun a => Fin.ext ?_
    match a with
    | ⟨0, _⟩ => show win0_1.index t (0 : Fin 2) * 256 + 1 * p.val = 256 * t.val + p.val; omega
    | ⟨1, _⟩ => show win0_1.index t (1 : Fin 2) * 1536 + 1 * k.val = k.val; omega
  exact (congrArg (V m c main_v2) e).trans (V_v2 m c _ _)
theorem iblk2 (c : Dev nD) (t : Fin cfg0.N) (p : Fin 256) (k : Fin 2048) :
    iblk m c 2 t (ix2 p k) = m ((c : Thread nD τ).loc main_arg4) (ix2 (row t p) ⟨2560 + k.val, by omega⟩) := by
  obtain ⟨e0, e1⟩ := idx2 t
  have e : ((cfg0.win 2).blk t).view.emb (ix2 p k) = ix2 (row t p) k := by
    refine funext fun a => Fin.ext ?_
    match a with
    | ⟨0, _⟩ => show win0_2.index t (0 : Fin 2) * 256 + 1 * p.val = 256 * t.val + p.val; omega
    | ⟨1, _⟩ => show win0_2.index t (1 : Fin 2) * 2048 + 1 * k.val = k.val; omega
  exact (congrArg (V m c main_v3) e).trans (V_v3 m c _ _)
theorem iblk3 (c : Dev nD) (t : Fin cfg0.N) (b : Fin 4) (j : Fin 1024) (k : Fin 1152) :
    iblk m c 3 t (ix3 b j k) = m ((c : Thread nD τ).loc main_arg2) (ix2 j ⟨1152 * b.val + k.val, by omega⟩) := by
  obtain ⟨e0, e1, e2⟩ := idx3 t
  have e : ((cfg0.win 3).blk t).view.emb (ix3 b j k) = ix3 b j k := by
    refine funext fun a => Fin.ext ?_
    match a with
    | ⟨0, _⟩ => show win0_3.index t (0 : Fin 3) * 4 + 1 * b.val = b.val; omega
    | ⟨1, _⟩ => show win0_3.index t (1 : Fin 3) * 1024 + 1 * j.val = j.val; omega
    | ⟨2, _⟩ => show win0_3.index t (2 : Fin 3) * 1152 + 1 * k.val = k.val; omega
  exact (congrArg (V m c main_v6) e).trans (V_v6 m c _ _ _)
theorem iblk4 (c : Dev nD) (t : Fin cfg0.N) (p : Fin 256) (k : Fin 1024) :
    iblk m c 4 t (ix2 p k) = m ((c : Thread nD τ).loc main_arg0) (ix2 (row t p) k) := by
  obtain ⟨e0, e1⟩ := idx4 t
  have e : ((cfg0.win 4).blk t).view.emb (ix2 p k) = ix2 (row t p) k := by
    refine funext fun a => Fin.ext ?_
    match a with
    | ⟨0, _⟩ => show win0_4.index t (0 : Fin 2) * 256 + 1 * p.val = 256 * t.val + p.val; omega
    | ⟨1, _⟩ => show win0_4.index t (1 : Fin 2) * 1024 + 1 * k.val = k.val; omega
  exact (congrArg (V m c main_arg0) e).trans (congrFun (V_main_arg0 m c) _)
theorem iblk5 (c : Dev nD) (t : Fin cfg0.N) (o : S256x1024.Idx) :
    iblk m c 5 t o = m ((c : Thread nD τ).loc main_arg3) (ix2 (row t (o 0)) (o 1)) := by
  obtain ⟨e0, e1⟩ := idx5 t
  have e : ((cfg0.win 5).blk t).view.emb o = ix2 (row t (o 0)) (o 1) := by
    refine funext fun a => Fin.ext ?_
    match a with
    | ⟨0, _⟩ => show win0_5.index t (0 : Fin 2) * 256 + 1 * (o 0).val = 256 * t.val + (o 0).val; omega
    | ⟨1, _⟩ => show win0_5.index t (1 : Fin 2) * 1024 + 1 * (o 1).val = (o 1).val; omega
  exact (congrArg (V m c main_arg3) e).trans (congrFun (V_main_arg3 m c) _)
theorem iblk6 (c : Dev nD) (t : Fin cfg0.N) (j : Fin 1024) :
    iblk m c 6 t (ix2 0 j) = m ((c : Thread nD τ).loc main_arg1) (ix1 j) := by
  obtain ⟨e0, e1⟩ := idx6 t
  have e : ((cfg0.win 6).blk t).view.emb (ix2 0 j) = ix2 0 j := by
    refine funext fun a => Fin.ext ?_
    match a with
    | ⟨0, _⟩ => show win0_6.index t (0 : Fin 2) * 1 + 1 * 0 = 0; omega
    | ⟨1, _⟩ => show win0_6.index t (1 : Fin 2) * 1024 + 1 * j.val = j.val; omega
  exact (congrArg (V m c main_v7) e).trans (V_v7 m c _)

theorem dhBlk_eq (c : Dev nD) (t : Fin cfg0.N) (p : Fin 256) (j : Fin 1024) :
    dhBlk (iblk m c 0 t) (iblk m c 1 t) (iblk m c 2 t) (iblk m c 3 t) (ix2 p j)
      = dh (m ((c : Thread nD τ).loc main_arg4)) (m ((c : Thread nD τ).loc main_arg2)) (row t p) j := by
  rw [dhBlk_apply]
  unfold dh
  refine Eq.trans ?_ (split6 _).symm
  simp only [iblk0, iblk1, iblk2, iblk3]
  refine congrArg₂ (· + ·) (congrArg₂ (· + ·) (congrArg₂ (· + ·) (congrArg₂ (· + ·) (congrArg₂ (· + ·) ?_ ?_) ?_) ?_) ?_) ?_ <;>
    refine Finset.sum_congr rfl fun k _ => congrArg₂ (· * ·) (congrArg _ (congrArg (ix2 _) (Fin.ext ?_)))
      (congrArg _ (congrArg (ix2 _) (Fin.ext ?_))) <;> simp <;> omega

/-! ## `dx` -/

theorem emb8 (t : Fin cfg0.N) (o : S256x1024.Idx) : ((cfg0.win 8).blk t).view.emb o = ix2 (row t (o 0)) (o 1) := by
  obtain ⟨e0, e1⟩ := idx8 t
  refine funext fun a => Fin.ext ?_
  match a with
  | ⟨0, _⟩ => show win0_8.index t (0 : Fin 2) * 256 + 1 * (o 0).val = 256 * t.val + (o 0).val; omega
  | ⟨1, _⟩ => show win0_8.index t (1 : Fin 2) * 1024 + 1 * (o 1).val = (o 1).val; omega

/-- The whole `dx`, of the launch memory. -/
abbrev dxM (c : Dev nD) : Vec Ideal S2048x1024 .f32 :=
  dxOf (m ((c : Thread nD τ).loc main_arg0)) (m ((c : Thread nD τ).loc main_arg1)) (m ((c : Thread nD τ).loc main_arg2))
    (m ((c : Thread nD τ).loc main_arg3)) (m ((c : Thread nD τ).loc main_arg4))
abbrev dgM (c : Dev nD) : Vec Ideal S1x1024 .f32 :=
  dgOf (m ((c : Thread nD τ).loc main_arg0)) (m ((c : Thread nD τ).loc main_arg2)) (m ((c : Thread nD τ).loc main_arg4))

theorem dxBlk_eq (c : Dev nD) (t : Fin cfg0.N) (o : S256x1024.Idx) :
    dxBlk (iblk m c 0 t) (iblk m c 1 t) (iblk m c 2 t) (iblk m c 3 t) (iblk m c 4 t) (iblk m c 5 t) (iblk m c 6 t) o
      = dxM m c (ix2 (row t (o 0)) (o 1)) := by
  refine congrArg₂ (· + ·) (iblk5 m c t o) ?_
  exact congrFun (congrArg₂ rowGrad (funext fun k => iblk4 m c t (o 0) k)
    (funext fun k => congrArg₂ (· * ·) (dhBlk_eq m c t (o 0) k) (iblk6 m c t k))) (o 1)

theorem flushed8_eq (c : Dev nD) (t : Fin cfg0.N) :
    (dats m 0 c).flushed 8 t = ((cfg0.win 8).blk t).view.read (Elt Ideal) (dxM m c) := by
  have key : (dats m 0 c).flushed 8 t = (cfg0.win 8).cut (grid0.coords t)
      (dxBlk (iblk m c 0 t) (iblk m c 1 t) (iblk m c 2 t) (iblk m c 3 t) (iblk m c 4 t) (iblk m c 5 t) (iblk m c 6 t)) := by
    have := lt8 t
    by_cases h1 : 1 ≤ t.val
    · rw [flushed8_B m c t (by omega) h1, out_B8]
    · rw [flushed8_A m c t (by omega) h1, out_A8]
  rw [key]
  funext o
  show dxBlk _ _ _ _ _ _ _ o = dxM m c (((cfg0.win 8).blk t).view.emb o)
  rw [emb8]
  exact dxBlk_eq m c t o

theorem covered8 (i : S2048x1024.Idx) :
    ∃ t : Fin cfg0.N, (cfg0.win 8).flush t = true ∧ i ∈ ((cfg0.win 8).blk t).view.set := by
  have hi : (i 0).val < 2048 := (i 0).isLt
  refine ⟨⟨(i 0).val / 256, lt_of_lt_of_eq (by omega) N8.symm⟩, flush0_8 _, ?_⟩
  set t : Fin cfg0.N := ⟨(i 0).val / 256, lt_of_lt_of_eq (by omega) N8.symm⟩ with ht
  have h := ((cfg0.win 8).blk t).view.emb_mem_set (ix2 ⟨(i 0).val % 256, Nat.mod_lt _ (by norm_num)⟩ (i 1) : S256x1024.Idx)
  rw [emb8] at h
  refine (congrArg (· ∈ ((cfg0.win 8).blk t).view.set) ((eq_ix2 i).trans (congrArg (fun r => ix2 r (i 1)) (Fin.ext ?_)))).mpr h
  show (i 0).val = 256 * ((i 0).val / 256) + (i 0).val % 256
  omega

theorem final8 (c : Dev nD) : (dats m 0 c).arrAt 8 cfg0.N = dxM m c :=
  (dats m 0 c).arrAt_eq_of_cover 8 (dxM m c) (fun t _ => flushed8_eq m c t) covered8

/-! ## The scale's gradient -/

/-- Point `n`'s part of it. -/
def dgPart (c : Dev nD) (n : ℕ) (o : S1x1024.Idx) : EReal :=
  if h : n < cfg0.N then
    dgBlk (iblk m c 0 ⟨n, h⟩) (iblk m c 1 ⟨n, h⟩) (iblk m c 2 ⟨n, h⟩) (iblk m c 3 ⟨n, h⟩) (iblk m c 4 ⟨n, h⟩) o else 0

theorem accA (c : Dev nD) (t : Fin cfg0.N) (h0 : t.val % 8 = 0) (h1 : ¬1 ≤ t.val) : (outsAt0 m c t.val t.isLt).2
    = dgBlk (iblk m c 0 t) (iblk m c 1 t) (iblk m c 2 t) (iblk m c 3 t) (iblk m c 4 t) := by
  rw [outsAt0_A m c t h0 h1, out_A9]
theorem accB (c : Dev nD) (t : Fin cfg0.N) (h0 : ¬t.val % 8 = 0) (h1 : 1 ≤ t.val) : (outsAt0 m c t.val t.isLt).2
    = fun o => (outsAt0 m c (t.val - 1) (Nat.lt_of_le_of_lt (Nat.sub_le _ _) t.isLt)).2 o
        + dgBlk (iblk m c 0 t) (iblk m c 1 t) (iblk m c 2 t) (iblk m c 3 t) (iblk m c 4 t) o := by
  rw [outsAt0_B m c t h0 h1, out_B9]

theorem acc9 (c : Dev nD) : ∀ (n : ℕ) (h : n < cfg0.N),
    (outsAt0 m c n h).2 = fun o => ∑ s ∈ Finset.range (n + 1), dgPart m c s o
  | 0, h => by
    refine (accA m c ⟨0, h⟩ rfl (by norm_num)).trans (funext fun o => ?_)
    rw [Finset.sum_range_one, dgPart, dif_pos h]
  | n + 1, h => by
    have h8 : n + 1 < 8 := lt_of_lt_of_eq h N8
    refine (accB m c ⟨n + 1, h⟩ (by show ¬(n + 1) % 8 = 0; omega) (by show 1 ≤ n + 1; omega)).trans (funext fun o => ?_)
    rw [Finset.sum_range_succ, dgPart, dif_pos h]
    exact congrArg₂ (· + ·) (congrFun (acc9 c n (Nat.lt_of_succ_lt h)) o) rfl

theorem total9 (c : Dev nD) (o : S1x1024.Idx) : ∑ s ∈ Finset.range 8, dgPart m c s o = dgM m c o := by
  unfold dgM dgOf
  rw [split_rows, Finset.sum_range]
  refine Finset.sum_congr rfl fun s _ => ?_
  have hs : s.val < cfg0.N := lt_of_lt_of_eq s.isLt N8.symm
  rw [dgPart, dif_pos hs]
  exact Finset.sum_congr rfl fun p _ => congrArg₂ (· * ·) (dhBlk_eq m c ⟨s.val, hs⟩ p (o 1))
    (congrArg₂ (· * ·) (iblk4 m c ⟨s.val, hs⟩ p (o 1)) (congrArg rmsE (funext fun k => iblk4 m c ⟨s.val, hs⟩ p k)))

theorem emb9 (t : Fin cfg0.N) (o : S1x1024.Idx) : ((cfg0.win 9).blk t).view.emb o = o := by
  obtain ⟨e0, e1⟩ := idx9 t
  refine funext fun a => Fin.ext ?_
  match a with
  | ⟨0, _⟩ => show win0_9.index t (0 : Fin 2) * 1 + 1 * (o 0).val = (o 0).val; omega
  | ⟨1, _⟩ => show win0_9.index t (1 : Fin 2) * 1024 + 1 * (o 1).val = (o 1).val; omega

theorem flushed9_eq (c : Dev nD) (t : Fin cfg0.N) (hf : (cfg0.win 9).flush t = true) :
    (dats m 0 c).flushed 9 t = ((cfg0.win 9).blk t).view.read (Elt Ideal) (dgM m c) := by
  have h7 : t.val = 7 := by have := (flush0_9 t).mp hf; have := lt8 t; omega
  rw [flushed9, acc9]
  funext o
  show ∑ s ∈ Finset.range (t.val + 1), dgPart m c s o = dgM m c (((cfg0.win 9).blk t).view.emb o)
  rw [emb9, h7, total9]

theorem covered9 (i : S1x1024.Idx) :
    ∃ t : Fin cfg0.N, (cfg0.win 9).flush t = true ∧ i ∈ ((cfg0.win 9).blk t).view.set := by
  refine ⟨⟨7, lt_of_lt_of_eq (by norm_num) N8.symm⟩, (flush0_9 _).mpr rfl, ?_⟩
  have h := ((cfg0.win 9).blk ⟨7, lt_of_lt_of_eq (by norm_num) N8.symm⟩).view.emb_mem_set i
  rwa [emb9] at h

theorem final9 (c : Dev nD) : (dats m 0 c).arrAt 9 cfg0.N = dgM m c :=
  (dats m 0 c).arrAt_eq_of_cover 9 (dgM m c) (fun t hf => flushed9_eq m c t hf) covered9

/-- The kernel's run with both result arrays at their functions of the arguments. -/
theorem run : θ_run defs (onTc (τ := τ) (main (F := Ideal))) ⟨m, fun _ => 0, ρ⟩ fun r => ∀ c : Dev nD,
      r.2.mem ((c : Thread nD τ).loc main_v9_0) = dxM m c
      ∧ r.2.mem ((c : Thread nD τ).loc main_v9_1) = dgM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final8 m c), (h c).2.1.trans (final9 m c), (h c).2.2⟩) (run_blocks m ρ)

end Cert.Proof.InProj

end
-- ==== Proof.InProjRef.lean ====
/- Hand-written, untrusted: the reference of the input projection's backward call, read at an index over the extended
   reals, and that on finite arguments it is what the kernel leaves. -/
module

public import proofs.«01_k».proof.Proof.InProjRun
public import proofs.«01_k».proof.Proof.Gen.InProjRefIdeal.Read
public import proofs.«01_k».proof.Pre_finite_inproj

@[expose] public section

noncomputable section

namespace Cert.Proof.InProj

open Cert.InProjRefIdeal Cert.InProjRefIdeal.Read Idealize.ShloMosaic

theorem ref_dx (x0 : Vec Ideal S2048x1024 .f32) (x1 : Vec Ideal S1024 .f32) (x2 : Vec Ideal S1024x4608 .f32)
    (x3 : Vec Ideal S2048x1024 .f32) (x4 : Vec Ideal S2048x4608 .f32) (o : S2048x1024.Idx) :
    val_main_v40 x0 x1 x2 x3 x4 o
      = x3 o + (dh x4 x2 (o 0) (o 1) * x1 (ix1 (o 1))) * rmsE (fun k => x0 (ix2 (o 0) k))
        + x0 o * rowWeight (fun k => x0 (ix2 (o 0) k)) (fun k => dh x4 x2 (o 0) k * x1 (ix1 k))
        + rowWeight (fun k => x0 (ix2 (o 0) k)) (fun k => dh x4 x2 (o 0) k * x1 (ix1 k)) * x0 o := by
  unfold rowWeight rmsE dh
  pointwise [val_main_v40, val_main_v39, val_main_v38, val_main_v37, val_main_v36, val_main_v35, val_main_v34, val_main_v33,
    val_main_v32, val_main_v31, val_main_v30, val_main_v29, val_main_v28, val_main_v27, val_main_v26, val_main_v24,
    val_main_v23, val_main_v19, val_main_v13, val_main_v10, val_main_v9, val_main_v8, val_main_v7, val_main_v6, val_main_v5,
    val_main_v4, val_main_v3, val_main_v2, val_main_v1, val_main_v0, val_main_cst, val_main_cst_0, val_main_cst_1, val_main_cst_2,
    val_main_cst_3, val_main_cst_4, val_main_cst_5, val_main_cst_6, val_main_cst_7]
  simp only [Fin.sum_univ_one, zero_add]

theorem ref_dg (x0 : Vec Ideal S2048x1024 .f32) (x2 : Vec Ideal S1024x4608 .f32) (x4 : Vec Ideal S2048x4608 .f32) (o : S1x1024.Idx) :
    val_main_v41 x0 x2 x4 o = dgOf x0 x2 x4 o := by
  unfold dgOf rmsE dh
  pointwise [val_main_v41, val_main_v25, val_main_v22, val_main_v21, val_main_v20, val_main_v12, val_main_v11,
    val_main_v23, val_main_v19, val_main_v13, val_main_v10, val_main_v9, val_main_v8, val_main_v7, val_main_v6, val_main_v5,
    val_main_v4, val_main_v3, val_main_v2, val_main_v1, val_main_v0, val_main_cst, val_main_cst_0, val_main_cst_1, val_main_cst_3,
    val_main_cst_4]
  simp only [Fin.sum_univ_one, zero_add]
  exact Finset.sum_congr rfl fun k _ => mul_comm _ _

/-- What the precondition says: the arguments are reals. -/
theorem finite_of_pre [Cert.Pre_finite_inproj.Facts] (x0 : Vec Ideal S2048x1024 .f32) (x1 : Vec Ideal S1024 .f32) (x2 : Vec Ideal S1024x4608 .f32)
    (x3 : Vec Ideal S2048x1024 .f32) (x4 : Vec Ideal S2048x4608 .f32)
    (h : ∀ j, Cert.Pre_finite_inproj.fn (F := Ideal) x0 x1 x2 x3 x4 j = 1#1) :
    (∀ i, ∃ r : ℝ, x0 i = (r : EReal)) ∧ (∀ i, ∃ r : ℝ, x1 i = (r : EReal)) ∧ (∀ i, ∃ r : ℝ, x2 i = (r : EReal))
      ∧ ∀ i, ∃ r : ℝ, x4 i = (r : EReal) := by
  have h0 := h ix0
  dsimp only [Cert.Pre_finite_inproj.fn, Cert.Pre_finite_inproj.fn_part1] at h0
  obtain ⟨h012, h4⟩ := andi_one h0
  obtain ⟨h01, h2⟩ := andi_one h012
  obtain ⟨h0', h1⟩ := andi_one h01
  exact ⟨fun i => real_of_abs_lt (Host.reduce_andi_all _ _ _ _ _ h0' i), fun i => real_of_abs_lt (Host.reduce_andi_all _ _ _ _ _ h1 i),
    fun i => real_of_abs_lt (Host.reduce_andi_all _ _ _ _ _ h2 i), fun i => real_of_abs_lt (Host.reduce_andi_all _ _ _ _ _ h4 i)⟩

/-- On real arguments the two programs' gradients of the input are one array. -/
theorem ref_dx_eq (x0 : Vec Ideal S2048x1024 .f32) (x1 : Vec Ideal S1024 .f32) (x2 : Vec Ideal S1024x4608 .f32)
    (x3 : Vec Ideal S2048x1024 .f32) (x4 : Vec Ideal S2048x4608 .f32)
    (h0 : ∀ i, ∃ r : ℝ, x0 i = (r : EReal)) (h1 : ∀ i, ∃ r : ℝ, x1 i = (r : EReal)) (h2 : ∀ i, ∃ r : ℝ, x2 i = (r : EReal))
    (h4 : ∀ i, ∃ r : ℝ, x4 i = (r : EReal)) : val_main_v40 x0 x1 x2 x3 x4 = dxOf x0 x1 x2 x3 x4 := by
  funext o
  have ho : x0 o = x0 (ix2 (o 0) (o 1)) := congrArg x0 (eq_ix2 o)
  have e := ref_dx x0 x1 x2 x3 x4 o
  rw [ho] at e
  exact e.trans (rowGrad_real _ (fun k => dh x4 x2 (o 0) k * x1 (ix1 k)) (fun k => h0 _)
    (fun k => real_mul (real_sum_mul _ _ _ (fun q => h4 _) fun q => h2 _) (h1 _)) (x3 o) (o 1))

end Cert.Proof.InProj

end
-- ==== Proof.InProjClaim.lean ====
/- Hand-written, untrusted: the claims on the input projection's backward call. -/
module

public import proofs.«01_k».proof.Defs
public import proofs.«01_k».proof.Proof.InProjRef
public import proofs.«01_k».proof.Proof.Gen.InProj
public import proofs.«01_k».proof.Proof.Gen.InProj.Frame
public import proofs.«01_k».proof.Proof.Gen.InProjIdeal.Frame
public import proofs.«01_k».proof.Proof.Gen.InProjRefIdeal.Run
public import proofs.«01_k».proof.Proof.Gen.Pre_finite_inproj

@[expose] public section

noncomputable section

namespace Cert.Proof.InProj

open Idealize.ShloMosaic Idealize.SL.Sem

theorem frame : Cert.quiescent_InProj := fun m ρ _ => Cert.InProj.Gen.frame m ρ
theorem frameIdeal : Cert.quiescent_InProjIdeal := fun m ρ _ => Cert.InProjIdeal.Gen.frame m ρ
theorem frameIdealPre : Cert.quiescent_InProjIdeal_pre_finite_inproj := fun m ρ _ => Cert.InProjIdeal.Gen.frame m ρ
theorem frameRef : Cert.quiescent_InProjRefIdeal := fun m ρ _ =>
  (θ_run Cert.InProjRefIdeal.defs _ _).mono (fun r h => ⟨fun c => (h c).2.2, sem_eq_zero_of_no_sems (by decide) r.2⟩)
    (Cert.InProjRefIdeal.Value.run m ρ)
theorem frameRefPre : Cert.quiescent_InProjRefIdeal_pre_finite_inproj := fun m ρ _ => frameRef m ρ trivial

theorem value : Cert.algebraic_InProjIdeal_InProjRefIdeal_pre_finite_inproj := by
  intro m g m' g' hpre hargs
  refine ⟨fun c => dxM m c, fun c => dgM m c, run m g, ?_⟩
  refine (θ_run Cert.InProjRefIdeal.defs _ _).mono (fun r h c => ?_) (Cert.InProjRefIdeal.Value.run m' g')
  obtain ⟨a0, a1, a2, a3, a4⟩ := hargs c
  obtain ⟨e0, e1, e2, e4⟩ := finite_of_pre _ _ _ _ _ (fun j => congrFun (hpre c) j)
  obtain ⟨r0, r1, r2⟩ := h c
  refine ⟨?_, ?_, r2⟩
  · rw [r0, Cert.InProjRefIdeal.Read.val_main_v40_eq, a0, a1, a2, a3, a4]
    exact ref_dx_eq _ _ _ _ _ e0 e1 e2 e4
  · rw [r1, Cert.InProjRefIdeal.Read.val_main_v41_eq, a0, a2, a4]
    exact funext (ref_dg _ _ _)

end Cert.Proof.InProj

end
-- ==== Proof.AttnTrip.lean ====
module

public import proofs.«01_k».proof.Proof.Gen.AttnIdeal.Loops
public import proofs.«01_k».proof.Proof.Gen.AttnIdeal.Frame

@[expose] public section
set_option maxRecDepth 16384
noncomputable section

namespace Cert.Proof.Attn

open Cert.AttnIdeal Cert.AttnIdeal.Gen
open Idealize.ShloMosaic TcCoe Tactic
open Memref renaming whole → wh, isWhole_whole → iw
open Idealize.SL RA BI
open scoped BI
open BIBase Laws ProofMode Sem

variable {F : FTy → Type} [FloatOps F] [Named F]
local notation "𝕄" => MT nD τ sig Unit (Elt F) ℕ (Pipeline.UD sig nD τ) ℕ

/-! ## One step of the pipeline over the block pairs, run once at any contents -/

/-- The first row of the block a word names; block zero for a negative word. -/
def rowOf (w : BitVec 32) : ℕ := (Scalar.muli (Scalar.maxsi w 0#32) 128#32).toNat

instance closedOff_28 (w : BitVec 32) : ClosedOff (k0_off28 w) := ⟨![rowOf w, 0], rfl⟩
instance closedOff_38 (w : BitVec 32) : ClosedOff (k0_off38 w) := ⟨![rowOf w, 128], rfl⟩
instance closedOff_48 (w : BitVec 32) : ClosedOff (k0_off48 w) := ⟨![rowOf w, 256], rfl⟩
instance closedOff_58 (w : BitVec 32) : ClosedOff (k0_off58 w) := ⟨![rowOf w, 384], rfl⟩
instance closedOff_30 (w : BitVec 32) : ClosedOff (k0_off30 w) := ⟨![rowOf w, 0], rfl⟩
instance closedOff_40 (w : BitVec 32) : ClosedOff (k0_off40 w) := ⟨![rowOf w, 128], rfl⟩
instance closedOff_50 (w : BitVec 32) : ClosedOff (k0_off50 w) := ⟨![rowOf w, 256], rfl⟩
instance closedOff_60 (w : BitVec 32) : ClosedOff (k0_off60 w) := ⟨![rowOf w, 384], rfl⟩
instance closedOff_32 (w : BitVec 32) : ClosedOff (k0_off32 w) := ⟨![rowOf w, 0], rfl⟩
instance closedOff_42 (w : BitVec 32) : ClosedOff (k0_off42 w) := ⟨![rowOf w, 128], rfl⟩
instance closedOff_52 (w : BitVec 32) : ClosedOff (k0_off52 w) := ⟨![rowOf w, 256], rfl⟩
instance closedOff_62 (w : BitVec 32) : ClosedOff (k0_off62 w) := ⟨![rowOf w, 384], rfl⟩
instance closedOff_110 (w : BitVec 32) : ClosedOff (k0_off110 w) := ⟨![rowOf w, 0], rfl⟩
instance closedOff_120 (w : BitVec 32) : ClosedOff (k0_off120 w) := ⟨![rowOf w, 128], rfl⟩
instance closedOff_130 (w : BitVec 32) : ClosedOff (k0_off130 w) := ⟨![rowOf w, 256], rfl⟩
instance closedOff_140 (w : BitVec 32) : ClosedOff (k0_off140 w) := ⟨![rowOf w, 384], rfl⟩
instance closedOff_112 (w : BitVec 32) : ClosedOff (k0_off112 w) := ⟨![rowOf w, 0], rfl⟩
instance closedOff_122 (w : BitVec 32) : ClosedOff (k0_off122 w) := ⟨![rowOf w, 128], rfl⟩
instance closedOff_132 (w : BitVec 32) : ClosedOff (k0_off132 w) := ⟨![rowOf w, 256], rfl⟩
instance closedOff_142 (w : BitVec 32) : ClosedOff (k0_off142 w) := ⟨![rowOf w, 384], rfl⟩
instance closedOff_114 (w : BitVec 32) : ClosedOff (k0_off114 w) := ⟨![rowOf w, 0], rfl⟩
instance closedOff_124 (w : BitVec 32) : ClosedOff (k0_off124 w) := ⟨![rowOf w, 128], rfl⟩
instance closedOff_134 (w : BitVec 32) : ClosedOff (k0_off134 w) := ⟨![rowOf w, 256], rfl⟩
instance closedOff_144 (w : BitVec 32) : ClosedOff (k0_off144 w) := ⟨![rowOf w, 384], rfl⟩

/-- What the thirteen buffers a step writes hold. -/
structure Bufs (F : FTy → Type) where
  dq : Vec F S2048x512 .f32
  dk : Vec F S2048x512 .f32
  dv : Vec F S2048x512 .f32
  pc : Vec F S8x128x128 .f32
  z : Vec F S8x128x128 .f32
  s1 : Vec F S8x128x128 .f32
  s2 : Vec F S8x128x128 .f32
  g : Vec F S8x128x128 .f32
  sp : Vec F S8x128x128 .bf16
  gb : Vec F S8x128x128 .bf16
  ar : Vec F S4x256x128 .bf16
  dzr : Vec F S4x256x128 .bf16
  dzc : Vec F S4x128x256 .bf16

/-- What the six buffers a step only reads hold. -/
structure Ins (F : FTy → Type) where
  qm : Vec F S4x4096x128 .bf16
  km : Vec F S4x4096x128 .bf16
  dm : Vec F S4x4096x128 .bf16
  k : Vec F S2048x512 .bf16
  v : Vec F S2048x512 .bf16
  rc : Vec F S2048x128 .f32

/-- The pairs of block numbers a step works at beside the newest one: the pair one, two and three steps back. -/
abbrev Words : Type := BitVec 32 × BitVec 32 × BitVec 32 × BitVec 32 × BitVec 32 × BitVec 32

/-- The side conditions of a step: every word names a block of the arrays. -/
structure WordsOk (w : Words) : Prop where
  c1 : k0_chk1 w.1
  c2 : k0_chk2 w.2.1
  c6 : k0_chk6 w.2.2.1
  c3 : k0_chk3 w.2.2.2.1
  c4 : k0_chk4 w.2.2.2.2.1
  c5 : k0_chk5 w.2.2.2.2.2

/-- A whole scratch buffer of core `c` at contents `f`. -/
abbrev heldAt (c : Dev nD) {sp : Space} {S : Shape} {e : EltTy} (M : Memref sig .tc sp S e) (f : BufTy.Contents (Elt F) M.view.ty) : sProp 𝕄 :=
  iprop(M.view.loc (c : Thread nD τ) ↦[M.view.set]{fullShare} f)
/-- The buffers a step only reads, held at `X`. -/
abbrev Reads (c : Dev nD) (X : Ins F) : sProp 𝕄 :=
  iprop(heldAt c (wh cc0_scratch13) X.qm ∗ heldAt c (wh cc0_scratch14) X.km ∗ heldAt c (wh cc0_scratch15) X.dm ∗ heldAt c (wh cc0_scratch17) X.k ∗ heldAt c (wh cc0_scratch18) X.v ∗ heldAt c (wh cc0_scratch20) X.rc)
/-- The buffers a step writes, held at `B`. -/
abbrev Writes (c : Dev nD) (B : Bufs F) : sProp 𝕄 :=
  iprop(heldAt c (wh cc0_scratch0) B.dq ∗ heldAt c (wh cc0_scratch1) B.dk ∗ heldAt c (wh cc0_scratch2) B.dv ∗ heldAt c (wh cc0_scratch3) B.pc ∗ heldAt c (wh cc0_scratch4) B.z ∗ heldAt c (wh cc0_scratch5) B.s1 ∗ heldAt c (wh cc0_scratch6) B.s2 ∗ heldAt c (wh cc0_scratch7) B.g ∗ heldAt c (wh cc0_scratch8) B.sp ∗ heldAt c (wh cc0_scratch9) B.gb ∗ heldAt c (wh cc0_scratch10) B.ar ∗ heldAt c (wh cc0_scratch11) B.dzr ∗ heldAt c (wh cc0_scratch12) B.dzc)
/-- The lists of pieces a step writes, one for each buffer. -/
structure Pieces (F : FTy → Type) where
  dq : List (View.Piece (Elt F) S2048x512 .f32)
  dk : List (View.Piece (Elt F) S2048x512 .f32)
  dv : List (View.Piece (Elt F) S2048x512 .f32)
  pc : List (View.Piece (Elt F) S8x128x128 .f32)
  z : List (View.Piece (Elt F) S8x128x128 .f32)
  s1 : List (View.Piece (Elt F) S8x128x128 .f32)
  s2 : List (View.Piece (Elt F) S8x128x128 .f32)
  g : List (View.Piece (Elt F) S8x128x128 .f32)
  sp : List (View.Piece (Elt F) S8x128x128 .bf16)
  gb : List (View.Piece (Elt F) S8x128x128 .bf16)
  ar : List (View.Piece (Elt F) S4x256x128 .bf16)
  dzr : List (View.Piece (Elt F) S4x256x128 .bf16)
  dzc : List (View.Piece (Elt F) S4x128x256 .bf16)

/-- The buffers after the pieces are written over what they held. -/
abbrev Pieces.over (L : Pieces F) (B : Bufs F) : Bufs F :=
  ⟨(wh cc0_scratch0).view.writes (Elt F) B.dq L.dq, (wh cc0_scratch1).view.writes (Elt F) B.dk L.dk, (wh cc0_scratch2).view.writes (Elt F) B.dv L.dv, (wh cc0_scratch3).view.writes (Elt F) B.pc L.pc, (wh cc0_scratch4).view.writes (Elt F) B.z L.z, (wh cc0_scratch5).view.writes (Elt F) B.s1 L.s1, (wh cc0_scratch6).view.writes (Elt F) B.s2 L.s2, (wh cc0_scratch7).view.writes (Elt F) B.g L.g, (wh cc0_scratch8).view.writes (Elt F) B.sp L.sp, (wh cc0_scratch9).view.writes (Elt F) B.gb L.gb, (wh cc0_scratch10).view.writes (Elt F) B.ar L.ar, (wh cc0_scratch11).view.writes (Elt F) B.dzr L.dzr, (wh cc0_scratch12).view.writes (Elt F) B.dzc L.dzc⟩

set_option maxHeartbeats 4000000 in
/-- One trip of the loop over the block pairs: the pieces it writes, found by the run. -/
@[irreducible] def trip5 (c : Dev nD) (a5 : Memref sig .tc .vmem S8x128 .f32) (h5 : a5.IsWhole) (a6 : Memref sig .tc .vmem S2048x1536 .bf16) (h6 : a6.IsWhole) (v10 v11 : IVec S128x128 32) (i : Fin k0_t4_loop.trips) (k : Fin (k0_t5_loop i).trips)
    (w : Words) (hw : WordsOk w) (X : Ins F) (B : Bufs F) :
    { L : Pieces F // ∀ (E : Set ℕ),
      iprop(Reads c X ∗ Writes c B)
      ⊢ wp frame (wpE (defs₀ (F := F)) Variants.none c.tc none) E (k0_t5_body (F := F) (wh main_v89) (iw _) (wh main_v90) (iw _) (wh main_v91) (iw _) (wh main_v92) (iw _) (wh main_v88) (iw _) a5 h5 a6 h6 (wh cc0_scratch0) (iw _) (wh cc0_scratch1) (iw _) (wh cc0_scratch2) (iw _) (wh cc0_scratch3) (iw _) (wh cc0_scratch4) (iw _) (wh cc0_scratch5) (iw _) (wh cc0_scratch6) (iw _) (wh cc0_scratch7) (iw _) (wh cc0_scratch8) (iw _) (wh cc0_scratch9) (iw _) (wh cc0_scratch10) (iw _) (wh cc0_scratch11) (iw _) (wh cc0_scratch12) (iw _) (wh cc0_scratch13) (iw _) (wh cc0_scratch14) (iw _) (wh cc0_scratch15) (iw _) (wh cc0_scratch16) (iw _) (wh cc0_scratch17) (iw _) (wh cc0_scratch18) (iw _) (wh cc0_scratch19) (iw _) (wh cc0_scratch20) (iw _) cc0_scratch21 v10 v11 i (Scf.iv 0#32 1#32 i) k w)
          (fun r => iprop(⌜r = (Scf.iv 0#32 1#32 i, Scf.iv 0#32 1#32 k, w.1, w.2.1, w.2.2.1, w.2.2.2.1)⌝ ∗ Reads c X ∗ Writes c (L.over B))) } := by
  obtain ⟨w1, w2, w3, w4, w5, w6⟩ := w
  obtain ⟨Xqm, Xkm, Xdm, Xk, Xv, Xrc⟩ := X
  obtain ⟨Bdq, Bdk, Bdv, Bpc, Bz, Bs1, Bs2, Bg, Bsp, Bgb, Bar, Bdzr, Bdzc⟩ := B
  have c1 := hw.c1
  have c2 := hw.c2
  have c3 := hw.c3
  have c4 := hw.c4
  have c5 := hw.c5
  have c6 := hw.c6
  refine ⟨⟨?_, ?_, ?_, ?_, ?_, ?_, ?_, ?_, ?_, ?_, ?_, ?_, ?_⟩, fun E => ?run⟩
  case run =>
    unfold k0_t5_body
    iintro ⟨⟨HRqm, HRkm, HRdm, HRk, HRv, HRrc⟩, ⟨HWdq, HWdk, HWdv, HWpc, HWz, HWs1, HWs2, HWg, HWsp, HWgb, HWar, HWdzr, HWdzc⟩⟩
    sl_exec_parts
    sl_step
    isplitr; · ipureintro; rfl
    sl_close

set_option maxHeartbeats 4000000 in
/-- One trip of the loop that drains the pipeline: the pieces it writes, found by the run. -/
@[irreducible] def trip7 (c : Dev nD) (a5 : Memref sig .tc .vmem S8x128 .f32) (h5 : a5.IsWhole) (a6 : Memref sig .tc .vmem S2048x1536 .bf16) (h6 : a6.IsWhole) (v10 v11 : IVec S128x128 32) (k : Fin k0_t7_loop.trips)
    (w : Words) (hw : WordsOk w) (X : Ins F) (B : Bufs F) :
    { L : Pieces F // ∀ (E : Set ℕ),
      iprop(Reads c X ∗ Writes c B)
      ⊢ wp frame (wpE (defs₀ (F := F)) Variants.none c.tc none) E (k0_t7_body (F := F) (wh main_v89) (iw _) (wh main_v90) (iw _) (wh main_v91) (iw _) (wh main_v92) (iw _) (wh main_v88) (iw _) a5 h5 a6 h6 (wh cc0_scratch0) (iw _) (wh cc0_scratch1) (iw _) (wh cc0_scratch2) (iw _) (wh cc0_scratch3) (iw _) (wh cc0_scratch4) (iw _) (wh cc0_scratch5) (iw _) (wh cc0_scratch6) (iw _) (wh cc0_scratch7) (iw _) (wh cc0_scratch8) (iw _) (wh cc0_scratch9) (iw _) (wh cc0_scratch10) (iw _) (wh cc0_scratch11) (iw _) (wh cc0_scratch12) (iw _) (wh cc0_scratch13) (iw _) (wh cc0_scratch14) (iw _) (wh cc0_scratch15) (iw _) (wh cc0_scratch16) (iw _) (wh cc0_scratch17) (iw _) (wh cc0_scratch18) (iw _) (wh cc0_scratch19) (iw _) (wh cc0_scratch20) (iw _) cc0_scratch21 v10 v11 k w)
          (fun r => iprop(⌜r = (4294967295#32, 4294967295#32, w.1, w.2.1, w.2.2.1, w.2.2.2.1)⌝ ∗ Reads c X ∗ Writes c (L.over B))) } := by
  obtain ⟨w1, w2, w3, w4, w5, w6⟩ := w
  obtain ⟨Xqm, Xkm, Xdm, Xk, Xv, Xrc⟩ := X
  obtain ⟨Bdq, Bdk, Bdv, Bpc, Bz, Bs1, Bs2, Bg, Bsp, Bgb, Bar, Bdzr, Bdzc⟩ := B
  have c1 := hw.c1
  have c2 := hw.c2
  have c3 := hw.c3
  have c4 := hw.c4
  have c5 := hw.c5
  have c6 := hw.c6
  have d13 : k0_chk13 w1 := c1
  have d14 : k0_chk14 w2 := c2
  have d18 : k0_chk18 w3 := c6
  have d15 : k0_chk15 w4 := c3
  have d16 : k0_chk16 w5 := c4
  have d17 : k0_chk17 w6 := c5
  refine ⟨⟨?_, ?_, ?_, ?_, ?_, ?_, ?_, ?_, ?_, ?_, ?_, ?_, ?_⟩, fun E => ?run⟩
  case run =>
    unfold k0_t7_body
    iintro ⟨⟨HRqm, HRkm, HRdm, HRk, HRv, HRrc⟩, ⟨HWdq, HWdk, HWdv, HWpc, HWz, HWs1, HWs2, HWg, HWsp, HWgb, HWar, HWdzr, HWdzc⟩⟩
    sl_exec_parts
    sl_step
    isplitr; · ipureintro; rfl
    sl_close

end Cert.Proof.Attn
end
-- ==== Proof.AttnLoops.lean ====
module

public import proofs.«01_k».proof.Proof.AttnTrip

@[expose] public section
set_option maxRecDepth 16384
noncomputable section

namespace Cert.Proof.Attn

open Cert.AttnIdeal Cert.AttnIdeal.Gen
open Idealize.ShloMosaic TcCoe Tactic
open Memref renaming whole → wh, isWhole_whole → iw
open Cert.AttnIdeal renaming cc0_scratch0 → b0, cc0_scratch1 → b1, cc0_scratch2 → b2, cc0_scratch3 → b3, cc0_scratch4 → b4, cc0_scratch5 → b5, cc0_scratch6 → b6, cc0_scratch7 → b7, cc0_scratch8 → b8, cc0_scratch9 → b9, cc0_scratch10 → b10, cc0_scratch11 → b11, cc0_scratch12 → b12, cc0_scratch13 → b13, cc0_scratch14 → b14, cc0_scratch15 → b15, cc0_scratch16 → b16, cc0_scratch17 → b17, cc0_scratch18 → b18, cc0_scratch19 → b19, cc0_scratch20 → b20, cc0_scratch21 → b21
open Idealize.SL RA BI
open scoped BI
open BIBase Laws ProofMode Sem

variable {F : FTy → Type} [FloatOps F] [Named F]
local notation "𝕄" => MT nD τ sig Unit (Elt F) ℕ (Pipeline.UD sig nD τ) ℕ

/-! ## The loops' invariants -/

/-- A state after the first trips of a loop of `n` trips, trip by trip. -/
def iterN {α : Type} {n : ℕ} (next : Fin n → α → α) : ℕ → α → α
  | 0, s => s
  | k + 1, s => if h : k < n then next ⟨k, h⟩ (iterN next k s) else iterN next k s

theorem iterN_succ {α : Type} {n : ℕ} (next : Fin n → α → α) (k : Fin n) (s : α) :
    iterN next (k.val + 1) s = next k (iterN next k.val s) := dif_pos k.isLt

theorem in_block (y : S4x4096x128.Idx) (p r : ℕ) (h0 : (y 0).val = p) (h1 : r ≤ (y 1).val ∧ (y 1).val < r + 128) :
    ∀ a : Fin 3, (![p, r, 0] : Fin 3 → ℕ) a ≤ (y a).val ∧ (y a).val < (![p, r, 0] : Fin 3 → ℕ) a + S1x128x128.size a
  | 0 => ⟨le_of_eq h0.symm, Nat.lt_succ_of_le (le_of_eq h0)⟩
  | 1 => h1
  | 2 => ⟨Nat.zero_le _, lt_of_lt_of_eq (y 2).isLt (Nat.zero_add _).symm⟩

/-- Two contents agreeing at an index, or an index the pieces cover: the same piece list leaves the same there. -/
theorem writes_congr_at {S : Shape} {e : EltTy} {κ : Kind} {sp : Space} (v : View sig κ sp S e) (f f' : v.ty.Contents (Elt F)) (y : S.Idx) :
    ∀ L : List (View.Piece (Elt F) S e), (v.read (Elt F) f y = v.read (Elt F) f' y ∨ ∃ pc ∈ L, y ∈ pc.1.set) →
      v.read (Elt F) (v.writes (Elt F) f L) y = v.read (Elt F) (v.writes (Elt F) f' L) y
  | [], h => by
      rcases h with h | ⟨_, hm, _⟩
      · exact h
      · exact absurd hm List.not_mem_nil
  | ⟨R, w⟩ :: L, h => by
      by_cases hy : y ∈ R.set
      · rw [← Rect.map_emb_univ] at hy
        obtain ⟨x, -, rfl⟩ := Finset.mem_map.1 hy
        exact (View.read_writes_cons_emb v f R w L x).trans (View.read_writes_cons_emb v f' R w L x).symm
      · have ih := writes_congr_at v f f' y L (h.imp id fun ⟨pc, hm, hc⟩ => by
          rcases List.mem_cons.1 hm with rfl | hm
          · exact absurd hc hy
          · exact ⟨pc, hm, hc⟩)
        have hy' : y ∉ Finset.univ.map R.emb := by rw [Rect.map_emb_univ]; exact hy
        rw [View.writes_cons, View.writes_cons]
        exact (View.read_slice_write_of_not_mem _ _ _ _ hy').trans (ih.trans (View.read_slice_write_of_not_mem _ _ _ _ hy').symm)

section Split

variable (c : Dev nD) (a5 : Memref sig .tc .vmem S8x128 .f32) (h5 : a5.IsWhole) (a6 : Memref sig .tc .vmem S2048x1536 .bf16) (h6 : a6.IsWhole) (v56 : FVec F S4x256x128 .bf16) (X : Vec F S2048x512 .bf16)

/-- One trip of the loop that splits a block's heads, buffer 16 into buffer 13. -/
@[irreducible] def cut1 (k : Fin k0_t1_loop.trips) :
    { L : List (View.Piece (Elt F) S4x4096x128 .bf16) // ∀ (E : Set ℕ) (f : Vec F S4x4096x128 .bf16),
      iprop(heldAt c (wh b16) X ∗ heldAt c (wh b13) f)
      ⊢ wp frame (wpE (defs₀ (F := F)) Variants.none c.tc none) E (k0_t1_body (F := F) (wh main_v89) (iw _) (wh main_v90) (iw _) (wh main_v91) (iw _) (wh main_v92) (iw _) (wh main_v88) (iw _) a5 h5 a6 h6 (wh b0) (iw _) (wh b1) (iw _) (wh b2) (iw _) (wh b3) (iw _) (wh b4) (iw _) (wh b5) (iw _) (wh b6) (iw _) (wh b7) (iw _) (wh b8) (iw _) (wh b9) (iw _) (wh b10) (iw _) (wh b11) (iw _) (wh b12) (iw _) (wh b13) (iw _) (wh b14) (iw _) (wh b15) (iw _) (wh b16) (iw _) (wh b17) (iw _) (wh b18) (iw _) (wh b19) (iw _) (wh b20) (iw _) b21 v56 k PUnit.unit)
          (fun _ => iprop(heldAt c (wh b16) X ∗ heldAt c (wh b13) ((wh b13).view.writes (Elt F) f L))) } := by
  have hk : k.val < 16 := Nat.lt_of_lt_of_le k.isLt k0_t1_abs.2.1
  refine ⟨?_, fun E f => ?run⟩
  case run =>
    unfold k0_t1_body
    iintro ⟨HR, HW⟩
    sl_exec
    sl_step
    sl_close

/-- The split buffer after the first trips. -/
abbrev cutAt1 (k : ℕ) (f : Vec F S4x4096x128 .bf16) : Vec F S4x4096x128 .bf16 :=
  iterN (fun k f => (wh b13).view.writes (Elt F) f (cut1 c a5 h5 a6 h6 v56 X k).1) k f

theorem cover1 (k : Fin k0_t1_loop.trips) (y : S4x4096x128.Idx)
    (h : 256 * k.val ≤ (y 1).val ∧ (y 1).val < 256 * k.val + 256) : ∃ pc ∈ (cut1 c a5 h5 a6 h6 v56 X k).1, y ∈ pc.1.set := by
  unfold cut1
  dsimp only
  have h0 : (y 0).val < 4 := (y 0).isLt
  have h2 : (y 2).val < 128 := (y 2).isLt
  by_cases hh : (y 1).val < 256 * k.val + 128 <;> obtain h0 | h0 | h0 | h0 : (y 0).val = 0 ∨ (y 0).val = 1 ∨ (y 0).val = 2 ∨ (y 0).val = 3 := by omega
  · refine ⟨_, .tail _ (.tail _ (.tail _ (.tail _ (.tail _ (.tail _ (.tail _ (.head _))))))), ?_⟩
    rw [Rect.mem_set_unit, (by decide +kernel : ∀ k, k0_off2 k 0#32 = ![0, 256 * k.val + 0, 0]) k]
    exact in_block y 0 _ h0 (by omega)
  · refine ⟨_, .tail _ (.tail _ (.tail _ (.tail _ (.tail _ (.head _))))), ?_⟩
    rw [Rect.mem_set_unit, (by decide +kernel : ∀ k, k0_off4 k 0#32 = ![1, 256 * k.val + 0, 0]) k]
    exact in_block y 1 _ h0 (by omega)
  · refine ⟨_, .tail _ (.tail _ (.tail _ (.head _))), ?_⟩
    rw [Rect.mem_set_unit, (by decide +kernel : ∀ k, k0_off6 k 0#32 = ![2, 256 * k.val + 0, 0]) k]
    exact in_block y 2 _ h0 (by omega)
  · refine ⟨_, .tail _ (.head _), ?_⟩
    rw [Rect.mem_set_unit, (by decide +kernel : ∀ k, k0_off8 k 0#32 = ![3, 256 * k.val + 0, 0]) k]
    exact in_block y 3 _ h0 (by omega)
  · refine ⟨_, .tail _ (.tail _ (.tail _ (.tail _ (.tail _ (.tail _ (.head _)))))), ?_⟩
    rw [Rect.mem_set_unit, (by decide +kernel : ∀ k, k0_off2 k 128#32 = ![0, 256 * k.val + 128, 0]) k]
    exact in_block y 0 _ h0 (by omega)
  · refine ⟨_, .tail _ (.tail _ (.tail _ (.tail _ (.head _)))), ?_⟩
    rw [Rect.mem_set_unit, (by decide +kernel : ∀ k, k0_off4 k 128#32 = ![1, 256 * k.val + 128, 0]) k]
    exact in_block y 1 _ h0 (by omega)
  · refine ⟨_, .tail _ (.tail _ (.head _)), ?_⟩
    rw [Rect.mem_set_unit, (by decide +kernel : ∀ k, k0_off6 k 128#32 = ![2, 256 * k.val + 128, 0]) k]
    exact in_block y 2 _ h0 (by omega)
  · refine ⟨_, .head _, ?_⟩
    rw [Rect.mem_set_unit, (by decide +kernel : ∀ k, k0_off8 k 128#32 = ![3, 256 * k.val + 128, 0]) k]
    exact in_block y 3 _ h0 (by omega)

/-- The split buffer after the loop does not depend on what it held before. -/
theorem cutAt1_indep (f f' : Vec F S4x4096x128 .bf16) :
    ∀ k ≤ k0_t1_loop.trips, ∀ y : S4x4096x128.Idx, (y 1).val < 256 * k → cutAt1 c a5 h5 a6 h6 v56 X k f y = cutAt1 c a5 h5 a6 h6 v56 X k f' y
  | 0, _, y, hy => absurd hy (by omega)
  | k + 1, hk, y, hy => by
      rw [show cutAt1 c a5 h5 a6 h6 v56 X (k + 1) f = _ from iterN_succ _ ⟨k, hk⟩ _, show cutAt1 c a5 h5 a6 h6 v56 X (k + 1) f' = _ from iterN_succ _ ⟨k, hk⟩ _]
      refine writes_congr_at (F := F) (wh b13).view _ _ y _ ?_
      by_cases h : (y 1).val < 256 * k
      · exact Or.inl (cutAt1_indep f f' k (Nat.le_of_succ_le hk) y h)
      · exact Or.inr (cover1 c a5 h5 a6 h6 v56 X ⟨k, hk⟩ y ⟨Nat.le_of_not_lt h, hy⟩)

/-- The split buffer. -/
abbrev split1 : Vec F S4x4096x128 .bf16 :=
  cutAt1 c a5 h5 a6 h6 v56 X k0_t1_loop.trips (fun _ => FloatOps.ofBits .bf16 0)

/-- The splitting loop's invariant: the split buffer as the trips so far leave it. -/
@[sl_loop, instance_reducible] def loopCut1 (G : Vec F S4x4096x128 .bf16) :
    Gen.LoopInvTy_k0_t1 (F := F) Unit ℕ (Pipeline.UD sig nD τ) ℕ Variants.none c none Set.univ (wh main_v89) (iw _) (wh main_v90) (iw _) (wh main_v91) (iw _) (wh main_v92) (iw _) (wh main_v88) (iw _) a5 h5 a6 h6 (wh b0) (iw _) (wh b1) (iw _) (wh b2) (iw _) (wh b3) (iw _) (wh b4) (iw _) (wh b5) (iw _) (wh b6) (iw _) (wh b7) (iw _) (wh b8) (iw _) (wh b9) (iw _) (wh b10) (iw _) (wh b11) (iw _) (wh b12) (iw _) (wh b13) (iw _) (wh b14) (iw _) (wh b15) (iw _) (wh b16) (iw _) (wh b17) (iw _) (wh b18) (iw _) (wh b19) (iw _) (wh b20) (iw _) b21 v56 where
  inv k _ := iprop(heldAt c (wh b16) X ∗ heldAt c (wh b13) (cutAt1 c a5 h5 a6 h6 v56 X k G))
  step k acc := by
    iintro ⟨HR, HW⟩
    iapply (wp_wand_r frame (wpE (defs₀ (F := F)) Variants.none c.tc none) Set.univ)
    isplitl [HR HW]
    · iapply ((cut1 c a5 h5 a6 h6 v56 X k).2 Set.univ _)
      isplitl [HR]; · iexact HR
      iexact HW
    · iintro %_ ⟨HR, HW⟩
      isplitl [HR]; · iexact HR
      rw [show cutAt1 c a5 h5 a6 h6 v56 X (k.val + 1) G = _ from iterN_succ _ k _]
      iexact HW

/-- After the splitting loop. -/
instance exitCut1 (G : Vec F S4x4096x128 .bf16) :
    LoopExit (loopCut1 c a5 h5 a6 h6 v56 X G) where
  post _ := iprop(heldAt c (wh b16) X ∗ heldAt c (wh b13) (split1 c a5 h5 a6 h6 v56 X))
  exit _ := by
    have e : cutAt1 c a5 h5 a6 h6 v56 X k0_t1_loop.trips G = split1 c a5 h5 a6 h6 v56 X := funext fun y =>
      cutAt1_indep c a5 h5 a6 h6 v56 X G _ _ le_rfl y (lt_of_lt_of_eq (y 1).isLt (by decide +kernel : 4096 = 256 * k0_t1_loop.trips))
    rw [← e]
    exact .rfl

/-- One trip of the loop that splits a block's heads, buffer 17 into buffer 14. -/
@[irreducible] def cut2 (k : Fin k0_t2_loop.trips) :
    { L : List (View.Piece (Elt F) S4x4096x128 .bf16) // ∀ (E : Set ℕ) (f : Vec F S4x4096x128 .bf16),
      iprop(heldAt c (wh b17) X ∗ heldAt c (wh b14) f)
      ⊢ wp frame (wpE (defs₀ (F := F)) Variants.none c.tc none) E (k0_t2_body (F := F) (wh main_v89) (iw _) (wh main_v90) (iw _) (wh main_v91) (iw _) (wh main_v92) (iw _) (wh main_v88) (iw _) a5 h5 a6 h6 (wh b0) (iw _) (wh b1) (iw _) (wh b2) (iw _) (wh b3) (iw _) (wh b4) (iw _) (wh b5) (iw _) (wh b6) (iw _) (wh b7) (iw _) (wh b8) (iw _) (wh b9) (iw _) (wh b10) (iw _) (wh b11) (iw _) (wh b12) (iw _) (wh b13) (iw _) (wh b14) (iw _) (wh b15) (iw _) (wh b16) (iw _) (wh b17) (iw _) (wh b18) (iw _) (wh b19) (iw _) (wh b20) (iw _) b21 v56 k PUnit.unit)
          (fun _ => iprop(heldAt c (wh b17) X ∗ heldAt c (wh b14) ((wh b14).view.writes (Elt F) f L))) } := by
  have hk : k.val < 16 := Nat.lt_of_lt_of_le k.isLt k0_t2_abs.2.1
  refine ⟨?_, fun E f => ?run⟩
  case run =>
    unfold k0_t2_body
    iintro ⟨HR, HW⟩
    sl_exec
    sl_step
    sl_close

/-- The split buffer after the first trips. -/
abbrev cutAt2 (k : ℕ) (f : Vec F S4x4096x128 .bf16) : Vec F S4x4096x128 .bf16 :=
  iterN (fun k f => (wh b14).view.writes (Elt F) f (cut2 c a5 h5 a6 h6 v56 X k).1) k f

theorem cover2 (k : Fin k0_t2_loop.trips) (y : S4x4096x128.Idx)
    (h : 256 * k.val ≤ (y 1).val ∧ (y 1).val < 256 * k.val + 256) : ∃ pc ∈ (cut2 c a5 h5 a6 h6 v56 X k).1, y ∈ pc.1.set := by
  unfold cut2
  dsimp only
  have h0 : (y 0).val < 4 := (y 0).isLt
  have h2 : (y 2).val < 128 := (y 2).isLt
  by_cases hh : (y 1).val < 256 * k.val + 128 <;> obtain h0 | h0 | h0 | h0 : (y 0).val = 0 ∨ (y 0).val = 1 ∨ (y 0).val = 2 ∨ (y 0).val = 3 := by omega
  · refine ⟨_, .tail _ (.tail _ (.tail _ (.tail _ (.tail _ (.tail _ (.tail _ (.head _))))))), ?_⟩
    rw [Rect.mem_set_unit, (by decide +kernel : ∀ k, k0_off10 k 0#32 = ![0, 256 * k.val + 0, 0]) k]
    exact in_block y 0 _ h0 (by omega)
  · refine ⟨_, .tail _ (.tail _ (.tail _ (.tail _ (.tail _ (.head _))))), ?_⟩
    rw [Rect.mem_set_unit, (by decide +kernel : ∀ k, k0_off12 k 0#32 = ![1, 256 * k.val + 0, 0]) k]
    exact in_block y 1 _ h0 (by omega)
  · refine ⟨_, .tail _ (.tail _ (.tail _ (.head _))), ?_⟩
    rw [Rect.mem_set_unit, (by decide +kernel : ∀ k, k0_off14 k 0#32 = ![2, 256 * k.val + 0, 0]) k]
    exact in_block y 2 _ h0 (by omega)
  · refine ⟨_, .tail _ (.head _), ?_⟩
    rw [Rect.mem_set_unit, (by decide +kernel : ∀ k, k0_off16 k 0#32 = ![3, 256 * k.val + 0, 0]) k]
    exact in_block y 3 _ h0 (by omega)
  · refine ⟨_, .tail _ (.tail _ (.tail _ (.tail _ (.tail _ (.tail _ (.head _)))))), ?_⟩
    rw [Rect.mem_set_unit, (by decide +kernel : ∀ k, k0_off10 k 128#32 = ![0, 256 * k.val + 128, 0]) k]
    exact in_block y 0 _ h0 (by omega)
  · refine ⟨_, .tail _ (.tail _ (.tail _ (.tail _ (.head _)))), ?_⟩
    rw [Rect.mem_set_unit, (by decide +kernel : ∀ k, k0_off12 k 128#32 = ![1, 256 * k.val + 128, 0]) k]
    exact in_block y 1 _ h0 (by omega)
  · refine ⟨_, .tail _ (.tail _ (.head _)), ?_⟩
    rw [Rect.mem_set_unit, (by decide +kernel : ∀ k, k0_off14 k 128#32 = ![2, 256 * k.val + 128, 0]) k]
    exact in_block y 2 _ h0 (by omega)
  · refine ⟨_, .head _, ?_⟩
    rw [Rect.mem_set_unit, (by decide +kernel : ∀ k, k0_off16 k 128#32 = ![3, 256 * k.val + 128, 0]) k]
    exact in_block y 3 _ h0 (by omega)

/-- The split buffer after the loop does not depend on what it held before. -/
theorem cutAt2_indep (f f' : Vec F S4x4096x128 .bf16) :
    ∀ k ≤ k0_t2_loop.trips, ∀ y : S4x4096x128.Idx, (y 1).val < 256 * k → cutAt2 c a5 h5 a6 h6 v56 X k f y = cutAt2 c a5 h5 a6 h6 v56 X k f' y
  | 0, _, y, hy => absurd hy (by omega)
  | k + 1, hk, y, hy => by
      rw [show cutAt2 c a5 h5 a6 h6 v56 X (k + 1) f = _ from iterN_succ _ ⟨k, hk⟩ _, show cutAt2 c a5 h5 a6 h6 v56 X (k + 1) f' = _ from iterN_succ _ ⟨k, hk⟩ _]
      refine writes_congr_at (F := F) (wh b14).view _ _ y _ ?_
      by_cases h : (y 1).val < 256 * k
      · exact Or.inl (cutAt2_indep f f' k (Nat.le_of_succ_le hk) y h)
      · exact Or.inr (cover2 c a5 h5 a6 h6 v56 X ⟨k, hk⟩ y ⟨Nat.le_of_not_lt h, hy⟩)

/-- The split buffer. -/
abbrev split2 : Vec F S4x4096x128 .bf16 :=
  cutAt2 c a5 h5 a6 h6 v56 X k0_t2_loop.trips (fun _ => FloatOps.ofBits .bf16 0)

/-- The splitting loop's invariant: the split buffer as the trips so far leave it. -/
@[sl_loop, instance_reducible] def loopCut2 (G : Vec F S4x4096x128 .bf16) :
    Gen.LoopInvTy_k0_t2 (F := F) Unit ℕ (Pipeline.UD sig nD τ) ℕ Variants.none c none Set.univ (wh main_v89) (iw _) (wh main_v90) (iw _) (wh main_v91) (iw _) (wh main_v92) (iw _) (wh main_v88) (iw _) a5 h5 a6 h6 (wh b0) (iw _) (wh b1) (iw _) (wh b2) (iw _) (wh b3) (iw _) (wh b4) (iw _) (wh b5) (iw _) (wh b6) (iw _) (wh b7) (iw _) (wh b8) (iw _) (wh b9) (iw _) (wh b10) (iw _) (wh b11) (iw _) (wh b12) (iw _) (wh b13) (iw _) (wh b14) (iw _) (wh b15) (iw _) (wh b16) (iw _) (wh b17) (iw _) (wh b18) (iw _) (wh b19) (iw _) (wh b20) (iw _) b21 v56 where
  inv k _ := iprop(heldAt c (wh b17) X ∗ heldAt c (wh b14) (cutAt2 c a5 h5 a6 h6 v56 X k G))
  step k acc := by
    iintro ⟨HR, HW⟩
    iapply (wp_wand_r frame (wpE (defs₀ (F := F)) Variants.none c.tc none) Set.univ)
    isplitl [HR HW]
    · iapply ((cut2 c a5 h5 a6 h6 v56 X k).2 Set.univ _)
      isplitl [HR]; · iexact HR
      iexact HW
    · iintro %_ ⟨HR, HW⟩
      isplitl [HR]; · iexact HR
      rw [show cutAt2 c a5 h5 a6 h6 v56 X (k.val + 1) G = _ from iterN_succ _ k _]
      iexact HW

/-- After the splitting loop. -/
instance exitCut2 (G : Vec F S4x4096x128 .bf16) :
    LoopExit (loopCut2 c a5 h5 a6 h6 v56 X G) where
  post _ := iprop(heldAt c (wh b17) X ∗ heldAt c (wh b14) (split2 c a5 h5 a6 h6 v56 X))
  exit _ := by
    have e : cutAt2 c a5 h5 a6 h6 v56 X k0_t2_loop.trips G = split2 c a5 h5 a6 h6 v56 X := funext fun y =>
      cutAt2_indep c a5 h5 a6 h6 v56 X G _ _ le_rfl y (lt_of_lt_of_eq (y 1).isLt (by decide +kernel : 4096 = 256 * k0_t2_loop.trips))
    rw [← e]
    exact .rfl

/-- One trip of the loop that splits a block's heads, buffer 19 into buffer 15. -/
@[irreducible] def cut3 (k : Fin k0_t3_loop.trips) :
    { L : List (View.Piece (Elt F) S4x4096x128 .bf16) // ∀ (E : Set ℕ) (f : Vec F S4x4096x128 .bf16),
      iprop(heldAt c (wh b19) X ∗ heldAt c (wh b15) f)
      ⊢ wp frame (wpE (defs₀ (F := F)) Variants.none c.tc none) E (k0_t3_body (F := F) (wh main_v89) (iw _) (wh main_v90) (iw _) (wh main_v91) (iw _) (wh main_v92) (iw _) (wh main_v88) (iw _) a5 h5 a6 h6 (wh b0) (iw _) (wh b1) (iw _) (wh b2) (iw _) (wh b3) (iw _) (wh b4) (iw _) (wh b5) (iw _) (wh b6) (iw _) (wh b7) (iw _) (wh b8) (iw _) (wh b9) (iw _) (wh b10) (iw _) (wh b11) (iw _) (wh b12) (iw _) (wh b13) (iw _) (wh b14) (iw _) (wh b15) (iw _) (wh b16) (iw _) (wh b17) (iw _) (wh b18) (iw _) (wh b19) (iw _) (wh b20) (iw _) b21 v56 k PUnit.unit)
          (fun _ => iprop(heldAt c (wh b19) X ∗ heldAt c (wh b15) ((wh b15).view.writes (Elt F) f L))) } := by
  have hk : k.val < 16 := Nat.lt_of_lt_of_le k.isLt k0_t3_abs.2.1
  refine ⟨?_, fun E f => ?run⟩
  case run =>
    unfold k0_t3_body
    iintro ⟨HR, HW⟩
    sl_exec
    sl_step
    sl_close

/-- The split buffer after the first trips. -/
abbrev cutAt3 (k : ℕ) (f : Vec F S4x4096x128 .bf16) : Vec F S4x4096x128 .bf16 :=
  iterN (fun k f => (wh b15).view.writes (Elt F) f (cut3 c a5 h5 a6 h6 v56 X k).1) k f

theorem cover3 (k : Fin k0_t3_loop.trips) (y : S4x4096x128.Idx)
    (h : 256 * k.val ≤ (y 1).val ∧ (y 1).val < 256 * k.val + 256) : ∃ pc ∈ (cut3 c a5 h5 a6 h6 v56 X k).1, y ∈ pc.1.set := by
  unfold cut3
  dsimp only
  have h0 : (y 0).val < 4 := (y 0).isLt
  have h2 : (y 2).val < 128 := (y 2).isLt
  by_cases hh : (y 1).val < 256 * k.val + 128 <;> obtain h0 | h0 | h0 | h0 : (y 0).val = 0 ∨ (y 0).val = 1 ∨ (y 0).val = 2 ∨ (y 0).val = 3 := by omega
  · refine ⟨_, .tail _ (.tail _ (.tail _ (.tail _ (.tail _ (.tail _ (.tail _ (.head _))))))), ?_⟩
    rw [Rect.mem_set_unit, (by decide +kernel : ∀ k, k0_off18 k 0#32 = ![0, 256 * k.val + 0, 0]) k]
    exact in_block y 0 _ h0 (by omega)
  · refine ⟨_, .tail _ (.tail _ (.tail _ (.tail _ (.tail _ (.head _))))), ?_⟩
    rw [Rect.mem_set_unit, (by decide +kernel : ∀ k, k0_off20 k 0#32 = ![1, 256 * k.val + 0, 0]) k]
    exact in_block y 1 _ h0 (by omega)
  · refine ⟨_, .tail _ (.tail _ (.tail _ (.head _))), ?_⟩
    rw [Rect.mem_set_unit, (by decide +kernel : ∀ k, k0_off22 k 0#32 = ![2, 256 * k.val + 0, 0]) k]
    exact in_block y 2 _ h0 (by omega)
  · refine ⟨_, .tail _ (.head _), ?_⟩
    rw [Rect.mem_set_unit, (by decide +kernel : ∀ k, k0_off24 k 0#32 = ![3, 256 * k.val + 0, 0]) k]
    exact in_block y 3 _ h0 (by omega)
  · refine ⟨_, .tail _ (.tail _ (.tail _ (.tail _ (.tail _ (.tail _ (.head _)))))), ?_⟩
    rw [Rect.mem_set_unit, (by decide +kernel : ∀ k, k0_off18 k 128#32 = ![0, 256 * k.val + 128, 0]) k]
    exact in_block y 0 _ h0 (by omega)
  · refine ⟨_, .tail _ (.tail _ (.tail _ (.tail _ (.head _)))), ?_⟩
    rw [Rect.mem_set_unit, (by decide +kernel : ∀ k, k0_off20 k 128#32 = ![1, 256 * k.val + 128, 0]) k]
    exact in_block y 1 _ h0 (by omega)
  · refine ⟨_, .tail _ (.tail _ (.head _)), ?_⟩
    rw [Rect.mem_set_unit, (by decide +kernel : ∀ k, k0_off22 k 128#32 = ![2, 256 * k.val + 128, 0]) k]
    exact in_block y 2 _ h0 (by omega)
  · refine ⟨_, .head _, ?_⟩
    rw [Rect.mem_set_unit, (by decide +kernel : ∀ k, k0_off24 k 128#32 = ![3, 256 * k.val + 128, 0]) k]
    exact in_block y 3 _ h0 (by omega)

/-- The split buffer after the loop does not depend on what it held before. -/
theorem cutAt3_indep (f f' : Vec F S4x4096x128 .bf16) :
    ∀ k ≤ k0_t3_loop.trips, ∀ y : S4x4096x128.Idx, (y 1).val < 256 * k → cutAt3 c a5 h5 a6 h6 v56 X k f y = cutAt3 c a5 h5 a6 h6 v56 X k f' y
  | 0, _, y, hy => absurd hy (by omega)
  | k + 1, hk, y, hy => by
      rw [show cutAt3 c a5 h5 a6 h6 v56 X (k + 1) f = _ from iterN_succ _ ⟨k, hk⟩ _, show cutAt3 c a5 h5 a6 h6 v56 X (k + 1) f' = _ from iterN_succ _ ⟨k, hk⟩ _]
      refine writes_congr_at (F := F) (wh b15).view _ _ y _ ?_
      by_cases h : (y 1).val < 256 * k
      · exact Or.inl (cutAt3_indep f f' k (Nat.le_of_succ_le hk) y h)
      · exact Or.inr (cover3 c a5 h5 a6 h6 v56 X ⟨k, hk⟩ y ⟨Nat.le_of_not_lt h, hy⟩)

/-- The split buffer. -/
abbrev split3 : Vec F S4x4096x128 .bf16 :=
  cutAt3 c a5 h5 a6 h6 v56 X k0_t3_loop.trips (fun _ => FloatOps.ofBits .bf16 0)

/-- The splitting loop's invariant: the split buffer as the trips so far leave it. -/
@[sl_loop, instance_reducible] def loopCut3 (G : Vec F S4x4096x128 .bf16) :
    Gen.LoopInvTy_k0_t3 (F := F) Unit ℕ (Pipeline.UD sig nD τ) ℕ Variants.none c none Set.univ (wh main_v89) (iw _) (wh main_v90) (iw _) (wh main_v91) (iw _) (wh main_v92) (iw _) (wh main_v88) (iw _) a5 h5 a6 h6 (wh b0) (iw _) (wh b1) (iw _) (wh b2) (iw _) (wh b3) (iw _) (wh b4) (iw _) (wh b5) (iw _) (wh b6) (iw _) (wh b7) (iw _) (wh b8) (iw _) (wh b9) (iw _) (wh b10) (iw _) (wh b11) (iw _) (wh b12) (iw _) (wh b13) (iw _) (wh b14) (iw _) (wh b15) (iw _) (wh b16) (iw _) (wh b17) (iw _) (wh b18) (iw _) (wh b19) (iw _) (wh b20) (iw _) b21 v56 where
  inv k _ := iprop(heldAt c (wh b19) X ∗ heldAt c (wh b15) (cutAt3 c a5 h5 a6 h6 v56 X k G))
  step k acc := by
    iintro ⟨HR, HW⟩
    iapply (wp_wand_r frame (wpE (defs₀ (F := F)) Variants.none c.tc none) Set.univ)
    isplitl [HR HW]
    · iapply ((cut3 c a5 h5 a6 h6 v56 X k).2 Set.univ _)
      isplitl [HR]; · iexact HR
      iexact HW
    · iintro %_ ⟨HR, HW⟩
      isplitl [HR]; · iexact HR
      rw [show cutAt3 c a5 h5 a6 h6 v56 X (k.val + 1) G = _ from iterN_succ _ k _]
      iexact HW

/-- After the splitting loop. -/
instance exitCut3 (G : Vec F S4x4096x128 .bf16) :
    LoopExit (loopCut3 c a5 h5 a6 h6 v56 X G) where
  post _ := iprop(heldAt c (wh b19) X ∗ heldAt c (wh b15) (split3 c a5 h5 a6 h6 v56 X))
  exit _ := by
    have e : cutAt3 c a5 h5 a6 h6 v56 X k0_t3_loop.trips G = split3 c a5 h5 a6 h6 v56 X := funext fun y =>
      cutAt3_indep c a5 h5 a6 h6 v56 X G _ _ le_rfl y (lt_of_lt_of_eq (y 1).isLt (by decide +kernel : 4096 = 256 * k0_t3_loop.trips))
    rw [← e]
    exact .rfl

end Split

/-- A word that names a block of the arrays, or no block. -/
def WordOk (w : BitVec 32) : Prop := w = 4294967295#32 ∨ ∃ n : Fin 16, w = BitVec.ofNat 32 n.val

/-- Every word of a step names a block, or none. -/
abbrev AllOk (w : Words) : Prop :=
  WordOk w.1 ∧ WordOk w.2.1 ∧ WordOk w.2.2.1 ∧ WordOk w.2.2.2.1 ∧ WordOk w.2.2.2.2.1 ∧ WordOk w.2.2.2.2.2

theorem chk1_of {w : BitVec 32} (h : WordOk w) : k0_chk1 w := by
  rcases h with rfl | ⟨n, rfl⟩
  · decide +kernel
  · exact (by decide +kernel : ∀ n : Fin 16, k0_chk1 (BitVec.ofNat 32 n.val)) n

theorem chk2_of {w : BitVec 32} (h : WordOk w) : k0_chk2 w := by
  rcases h with rfl | ⟨n, rfl⟩
  · decide +kernel
  · exact (by decide +kernel : ∀ n : Fin 16, k0_chk2 (BitVec.ofNat 32 n.val)) n

theorem chk3_of {w : BitVec 32} (h : WordOk w) : k0_chk3 w := by
  rcases h with rfl | ⟨n, rfl⟩
  · decide +kernel
  · exact (by decide +kernel : ∀ n : Fin 16, k0_chk3 (BitVec.ofNat 32 n.val)) n

theorem chk4_of {w : BitVec 32} (h : WordOk w) : k0_chk4 w := by
  rcases h with rfl | ⟨n, rfl⟩
  · decide +kernel
  · exact (by decide +kernel : ∀ n : Fin 16, k0_chk4 (BitVec.ofNat 32 n.val)) n

theorem chk5_of {w : BitVec 32} (h : WordOk w) : k0_chk5 w := by
  rcases h with rfl | ⟨n, rfl⟩
  · decide +kernel
  · exact (by decide +kernel : ∀ n : Fin 16, k0_chk5 (BitVec.ofNat 32 n.val)) n

theorem chk6_of {w : BitVec 32} (h : WordOk w) : k0_chk6 w := by
  rcases h with rfl | ⟨n, rfl⟩
  · decide +kernel
  · exact (by decide +kernel : ∀ n : Fin 16, k0_chk6 (BitVec.ofNat 32 n.val)) n

theorem WordsOk.of {w : Words} (h : AllOk w) : WordsOk w :=
  ⟨chk1_of h.1, chk2_of h.2.1, chk6_of h.2.2.1, chk3_of h.2.2.2.1, chk4_of h.2.2.2.2.1, chk5_of h.2.2.2.2.2⟩

theorem wordOk_iv {n : ℕ} (h : n < 16) : WordOk (Scf.iv 0#32 1#32 n) := Or.inr ⟨⟨n, h⟩, by
  simp [Scf.iv]⟩

/-- The words and the buffers between two steps. -/
abbrev State (F : FTy → Type) : Type := Words × Bufs F

open Classical in
/-- One step of the loop over the pairs. -/
def next5 (c : Dev nD) (a5 : Memref sig .tc .vmem S8x128 .f32) (h5 : a5.IsWhole) (a6 : Memref sig .tc .vmem S2048x1536 .bf16) (h6 : a6.IsWhole) (v10 v11 : IVec S128x128 32) (X : Ins F) (i : Fin k0_t4_loop.trips) (k : Fin (k0_t5_loop i).trips) (s : State F) : State F :=
  if h : WordsOk s.1 then
    ((Scf.iv 0#32 1#32 i, Scf.iv 0#32 1#32 k, s.1.1, s.1.2.1, s.1.2.2.1, s.1.2.2.2.1), (trip5 c a5 h5 a6 h6 v10 v11 i k s.1 h X s.2).1.over s.2)
  else s

open Classical in
/-- One step of the draining loop. -/
def next7 (c : Dev nD) (a5 : Memref sig .tc .vmem S8x128 .f32) (h5 : a5.IsWhole) (a6 : Memref sig .tc .vmem S2048x1536 .bf16) (h6 : a6.IsWhole) (v10 v11 : IVec S128x128 32) (X : Ins F) (k : Fin k0_t7_loop.trips) (s : State F) : State F :=
  if h : WordsOk s.1 then
    ((4294967295#32, 4294967295#32, s.1.1, s.1.2.1, s.1.2.2.1, s.1.2.2.2.1), (trip7 c a5 h5 a6 h6 v10 v11 k s.1 h X s.2).1.over s.2)
  else s

/-- The state after the first trips of the inner loop. -/
abbrev inner (c : Dev nD) (a5 : Memref sig .tc .vmem S8x128 .f32) (h5 : a5.IsWhole) (a6 : Memref sig .tc .vmem S2048x1536 .bf16) (h6 : a6.IsWhole) (v10 v11 : IVec S128x128 32) (X : Ins F) (i : Fin k0_t4_loop.trips) (k : ℕ) (s : State F) : State F :=
  iterN (next5 c a5 h5 a6 h6 v10 v11 X i) k s

/-- The state after the first trips of the outer loop. -/
abbrev outer (c : Dev nD) (a5 : Memref sig .tc .vmem S8x128 .f32) (h5 : a5.IsWhole) (a6 : Memref sig .tc .vmem S2048x1536 .bf16) (h6 : a6.IsWhole) (v10 v11 : IVec S128x128 32) (X : Ins F) (i : ℕ) (s : State F) : State F :=
  iterN (fun i s => inner c a5 h5 a6 h6 v10 v11 X i (k0_t5_loop i).trips s) i s

/-- The state after the first trips of the draining loop. -/
abbrev drain (c : Dev nD) (a5 : Memref sig .tc .vmem S8x128 .f32) (h5 : a5.IsWhole) (a6 : Memref sig .tc .vmem S2048x1536 .bf16) (h6 : a6.IsWhole) (v10 v11 : IVec S128x128 32) (X : Ins F) (k : ℕ) (s : State F) : State F :=
  iterN (next7 c a5 h5 a6 h6 v10 v11 X) k s

/-- The resources at state `s`, with the carried words `acc`. -/
abbrev At (c : Dev nD) (X : Ins F) (s : State F) (acc : Words) : sProp 𝕄 :=
  iprop(⌜acc = s.1⌝ ∗ ⌜AllOk acc⌝ ∗ Reads c X ∗ Writes c s.2)

/-- The inner loop's invariant. -/
@[sl_loop, instance_reducible] def loop5 (c : Dev nD) (a5 : Memref sig .tc .vmem S8x128 .f32) (h5 : a5.IsWhole) (a6 : Memref sig .tc .vmem S2048x1536 .bf16) (h6 : a6.IsWhole) (v10 v11 : IVec S128x128 32) (i : Fin k0_t4_loop.trips) (init : Words) (hinit : AllOk init) (Xqm : Vec F S4x4096x128 .bf16) (Xkm : Vec F S4x4096x128 .bf16) (Xdm : Vec F S4x4096x128 .bf16) (Xk : Vec F S2048x512 .bf16) (Xv : Vec F S2048x512 .bf16) (Xrc : Vec F S2048x128 .f32) (Bdq : Vec F S2048x512 .f32) (Bdk : Vec F S2048x512 .f32) (Bdv : Vec F S2048x512 .f32) (Bpc : Vec F S8x128x128 .f32) (Bz : Vec F S8x128x128 .f32) (Bs1 : Vec F S8x128x128 .f32) (Bs2 : Vec F S8x128x128 .f32) (Bg : Vec F S8x128x128 .f32) (Bsp : Vec F S8x128x128 .bf16) (Bgb : Vec F S8x128x128 .bf16) (Bar : Vec F S4x256x128 .bf16) (Bdzr : Vec F S4x256x128 .bf16) (Bdzc : Vec F S4x128x256 .bf16) :
    Gen.LoopInvTy_k0_t5 (F := F) Unit ℕ (Pipeline.UD sig nD τ) ℕ Variants.none c none Set.univ (wh main_v89) (iw _) (wh main_v90) (iw _) (wh main_v91) (iw _) (wh main_v92) (iw _) (wh main_v88) (iw _) a5 h5 a6 h6 (wh b0) (iw _) (wh b1) (iw _) (wh b2) (iw _) (wh b3) (iw _) (wh b4) (iw _) (wh b5) (iw _) (wh b6) (iw _) (wh b7) (iw _) (wh b8) (iw _) (wh b9) (iw _) (wh b10) (iw _) (wh b11) (iw _) (wh b12) (iw _) (wh b13) (iw _) (wh b14) (iw _) (wh b15) (iw _) (wh b16) (iw _) (wh b17) (iw _) (wh b18) (iw _) (wh b19) (iw _) (wh b20) (iw _) b21 v10 v11 i (Scf.iv 0#32 1#32 i) init where
  inv k acc := At c ⟨Xqm, Xkm, Xdm, Xk, Xv, Xrc⟩ (inner c a5 h5 a6 h6 v10 v11 ⟨Xqm, Xkm, Xdm, Xk, Xv, Xrc⟩ i k (init, ⟨Bdq, Bdk, Bdv, Bpc, Bz, Bs1, Bs2, Bg, Bsp, Bgb, Bar, Bdzr, Bdzc⟩)) acc
  step k acc := by
    iintro ⟨%e, %h, HR, HW⟩
    obtain rfl := e
    iapply (wp_wand_r frame (wpE (defs₀ (F := F)) Variants.none c.tc none) Set.univ)
    isplitl [HR HW]
    · iapply ((trip5 c a5 h5 a6 h6 v10 v11 i k _ (WordsOk.of h) ⟨Xqm, Xkm, Xdm, Xk, Xv, Xrc⟩ _).2 Set.univ)
      isplitl [HR]; · iexact HR
      iexact HW
    · iintro %r ⟨%hr, HR, HW⟩
      have hi : i.val < 16 := Nat.lt_of_lt_of_le i.isLt k0_t4_abs.2.1
      have hk : k.val < 16 := Nat.lt_of_lt_of_le k.isLt (k0_t5_abs i).2.1
      rw [show inner c a5 h5 a6 h6 v10 v11 ⟨Xqm, Xkm, Xdm, Xk, Xv, Xrc⟩ i (k.val + 1) (init, ⟨Bdq, Bdk, Bdv, Bpc, Bz, Bs1, Bs2, Bg, Bsp, Bgb, Bar, Bdzr, Bdzc⟩) = _ from iterN_succ _ k _]
      rw [next5, dif_pos (WordsOk.of h)]
      isplitr
      · ipureintro
        subst hr
        rfl
      isplitr
      · ipureintro
        subst hr
        exact ⟨wordOk_iv hi, wordOk_iv hk, h.1, h.2.1, h.2.2.1, h.2.2.2.1⟩
      isplitl [HR]; · iexact HR
      iexact HW

/-- The loop that never runs: its invariant holds what it finds. -/
@[sl_loop, instance_reducible] def loop6 (c : Dev nD) (a5 : Memref sig .tc .vmem S8x128 .f32) (h5 : a5.IsWhole) (a6 : Memref sig .tc .vmem S2048x1536 .bf16) (h6 : a6.IsWhole) (v10 v11 : IVec S128x128 32) (i : Fin k0_t4_loop.trips) (arg29 v124 : BitVec 32) (init : Words) :
    Gen.LoopInvTy_k0_t6 (F := F) Unit ℕ (Pipeline.UD sig nD τ) ℕ Variants.none c none Set.univ (wh main_v89) (iw _) (wh main_v90) (iw _) (wh main_v91) (iw _) (wh main_v92) (iw _) (wh main_v88) (iw _) a5 h5 a6 h6 (wh b0) (iw _) (wh b1) (iw _) (wh b2) (iw _) (wh b3) (iw _) (wh b4) (iw _) (wh b5) (iw _) (wh b6) (iw _) (wh b7) (iw _) (wh b8) (iw _) (wh b9) (iw _) (wh b10) (iw _) (wh b11) (iw _) (wh b12) (iw _) (wh b13) (iw _) (wh b14) (iw _) (wh b15) (iw _) (wh b16) (iw _) (wh b17) (iw _) (wh b18) (iw _) (wh b19) (iw _) (wh b20) (iw _) b21 v10 v11 i arg29 v124 init where
  inv _ acc := iprop(⌜acc = init⌝)
  step k acc := absurd k.isLt (Nat.not_lt.2 (Nat.le_trans (k0_t6_abs i).2.1 (Nat.zero_le _)))

/-- The outer loop's invariant. -/
@[sl_loop, instance_reducible] def loop4 (c : Dev nD) (a5 : Memref sig .tc .vmem S8x128 .f32) (h5 : a5.IsWhole) (a6 : Memref sig .tc .vmem S2048x1536 .bf16) (h6 : a6.IsWhole) (v10 v11 : IVec S128x128 32) (init : Words) (hinit : AllOk init) (Xqm : Vec F S4x4096x128 .bf16) (Xkm : Vec F S4x4096x128 .bf16) (Xdm : Vec F S4x4096x128 .bf16) (Xk : Vec F S2048x512 .bf16) (Xv : Vec F S2048x512 .bf16) (Xrc : Vec F S2048x128 .f32) (Bdq : Vec F S2048x512 .f32) (Bdk : Vec F S2048x512 .f32) (Bdv : Vec F S2048x512 .f32) (Bpc : Vec F S8x128x128 .f32) (Bz : Vec F S8x128x128 .f32) (Bs1 : Vec F S8x128x128 .f32) (Bs2 : Vec F S8x128x128 .f32) (Bg : Vec F S8x128x128 .f32) (Bsp : Vec F S8x128x128 .bf16) (Bgb : Vec F S8x128x128 .bf16) (Bar : Vec F S4x256x128 .bf16) (Bdzr : Vec F S4x256x128 .bf16) (Bdzc : Vec F S4x128x256 .bf16) :
    Gen.LoopInvTy_k0_t4 (F := F) Unit ℕ (Pipeline.UD sig nD τ) ℕ Variants.none c none Set.univ (wh main_v89) (iw _) (wh main_v90) (iw _) (wh main_v91) (iw _) (wh main_v92) (iw _) (wh main_v88) (iw _) a5 h5 a6 h6 (wh b0) (iw _) (wh b1) (iw _) (wh b2) (iw _) (wh b3) (iw _) (wh b4) (iw _) (wh b5) (iw _) (wh b6) (iw _) (wh b7) (iw _) (wh b8) (iw _) (wh b9) (iw _) (wh b10) (iw _) (wh b11) (iw _) (wh b12) (iw _) (wh b13) (iw _) (wh b14) (iw _) (wh b15) (iw _) (wh b16) (iw _) (wh b17) (iw _) (wh b18) (iw _) (wh b19) (iw _) (wh b20) (iw _) b21 v10 v11 init where
  inv k acc := match k with
    | 0 => At c ⟨Xqm, Xkm, Xdm, Xk, Xv, Xrc⟩ (init, ⟨Bdq, Bdk, Bdv, Bpc, Bz, Bs1, Bs2, Bg, Bsp, Bgb, Bar, Bdzr, Bdzc⟩) acc
    | k + 1 => At c ⟨Xqm, Xkm, Xdm, Xk, Xv, Xrc⟩ (outer c a5 h5 a6 h6 v10 v11 ⟨Xqm, Xkm, Xdm, Xk, Xv, Xrc⟩ (k + 1) (init, ⟨Bdq, Bdk, Bdv, Bpc, Bz, Bs1, Bs2, Bg, Bsp, Bgb, Bar, Bdzr, Bdzc⟩)) acc
  step k acc := by
    refine BIBase.Entails.trans (show _ ⊢ At c ⟨Xqm, Xkm, Xdm, Xk, Xv, Xrc⟩ (outer c a5 h5 a6 h6 v10 v11 ⟨Xqm, Xkm, Xdm, Xk, Xv, Xrc⟩ k (init, ⟨Bdq, Bdk, Bdv, Bpc, Bz, Bs1, Bs2, Bg, Bsp, Bgb, Bar, Bdzr, Bdzc⟩)) acc from ?_) ?_
    · obtain ⟨k, hk⟩ := k
      cases k with
      | zero => exact .rfl
      | succ k => exact .rfl
    show _ ⊢ wp _ _ _ _ (fun acc => At c ⟨Xqm, Xkm, Xdm, Xk, Xv, Xrc⟩ (outer c a5 h5 a6 h6 v10 v11 ⟨Xqm, Xkm, Xdm, Xk, Xv, Xrc⟩ (k.val + 1) (init, ⟨Bdq, Bdk, Bdv, Bpc, Bz, Bs1, Bs2, Bg, Bsp, Bgb, Bar, Bdzr, Bdzc⟩)) acc)
    iintro ⟨%e, %h, ⟨HRqm, HRkm, HRdm, HRk, HRv, HRrc⟩, ⟨HWdq, HWdk, HWdv, HWpc, HWz, HWs1, HWs2, HWg, HWsp, HWgb, HWar, HWdzr, HWdzc⟩⟩
    rw [show outer c a5 h5 a6 h6 v10 v11 ⟨Xqm, Xkm, Xdm, Xk, Xv, Xrc⟩ (k.val + 1) (init, ⟨Bdq, Bdk, Bdv, Bpc, Bz, Bs1, Bs2, Bg, Bsp, Bgb, Bar, Bdzr, Bdzc⟩) = inner c a5 h5 a6 h6 v10 v11 ⟨Xqm, Xkm, Xdm, Xk, Xv, Xrc⟩ k (k0_t5_loop k).trips (outer c a5 h5 a6 h6 v10 v11 ⟨Xqm, Xkm, Xdm, Xk, Xv, Xrc⟩ k.val (init, ⟨Bdq, Bdk, Bdv, Bpc, Bz, Bs1, Bs2, Bg, Bsp, Bgb, Bar, Bdzr, Bdzc⟩)) from iterN_succ _ k _]
    generalize outer c a5 h5 a6 h6 v10 v11 ⟨Xqm, Xkm, Xdm, Xk, Xv, Xrc⟩ k.val (init, ⟨Bdq, Bdk, Bdv, Bpc, Bz, Bs1, Bs2, Bg, Bsp, Bgb, Bar, Bdzr, Bdzc⟩) = s at *
    obtain ⟨w, B⟩ := s
    obtain ⟨Cdq, Cdk, Cdv, Cpc, Cz, Cs1, Cs2, Cg, Csp, Cgb, Car, Cdzr, Cdzc⟩ := B
    obtain rfl : acc = w := e
    unfold k0_t4_body
    sl_exec
    sl_step
    have e2 : inner c a5 h5 a6 h6 v10 v11 ⟨Xqm, Xkm, Xdm, Xk, Xv, Xrc⟩ k (k0_t5_loop k).trips (acc, ⟨Cdq, Cdk, Cdv, Cpc, Cz, Cs1, Cs2, Cg, Csp, Cgb, Car, Cdzr, Cdzc⟩) = inner c a5 h5 a6 h6 v10 v11 ⟨Xqm, Xkm, Xdm, Xk, Xv, Xrc⟩ k (Scf.trips (k0_t5_loop k).lb (k0_t5_loop k).ub (k0_t5_loop k).st) ((acc.1, acc.2.1, acc.2.2.1, acc.2.2.2.1, acc.2.2.2.2.1, acc.2.2.2.2.2), ⟨Cdq, Cdk, Cdv, Cpc, Cz, Cs1, Cs2, Cg, Csp, Cgb, Car, Cdzr, Cdzc⟩) := rfl
    rw [e2]
    generalize inner c a5 h5 a6 h6 v10 v11 ⟨Xqm, Xkm, Xdm, Xk, Xv, Xrc⟩ k (Scf.trips (k0_t5_loop k).lb (k0_t5_loop k).ub (k0_t5_loop k).st) ((acc.1, acc.2.1, acc.2.2.1, acc.2.2.2.1, acc.2.2.2.2.1, acc.2.2.2.2.2), ⟨Cdq, Cdk, Cdv, Cpc, Cz, Cs1, Cs2, Cg, Csp, Cgb, Car, Cdzr, Cdzc⟩) = S at *
    obtain ⟨⟨s1, s2, s3, s4, s5, s6⟩, S2⟩ := S
    isplitr
    · ipureintro; rfl
    isplitr
    · ipureintro; assumption
    isplitl [HRqm HRkm HRdm HRk HRv HRrc]
    · sl_close
    · sl_close

/-- The draining loop's invariant. -/
@[sl_loop, instance_reducible] def loop7 (c : Dev nD) (a5 : Memref sig .tc .vmem S8x128 .f32) (h5 : a5.IsWhole) (a6 : Memref sig .tc .vmem S2048x1536 .bf16) (h6 : a6.IsWhole) (v10 v11 : IVec S128x128 32) (init : Words) (hinit : AllOk init) (Xqm : Vec F S4x4096x128 .bf16) (Xkm : Vec F S4x4096x128 .bf16) (Xdm : Vec F S4x4096x128 .bf16) (Xk : Vec F S2048x512 .bf16) (Xv : Vec F S2048x512 .bf16) (Xrc : Vec F S2048x128 .f32) (Bdq : Vec F S2048x512 .f32) (Bdk : Vec F S2048x512 .f32) (Bdv : Vec F S2048x512 .f32) (Bpc : Vec F S8x128x128 .f32) (Bz : Vec F S8x128x128 .f32) (Bs1 : Vec F S8x128x128 .f32) (Bs2 : Vec F S8x128x128 .f32) (Bg : Vec F S8x128x128 .f32) (Bsp : Vec F S8x128x128 .bf16) (Bgb : Vec F S8x128x128 .bf16) (Bar : Vec F S4x256x128 .bf16) (Bdzr : Vec F S4x256x128 .bf16) (Bdzc : Vec F S4x128x256 .bf16) :
    Gen.LoopInvTy_k0_t7 (F := F) Unit ℕ (Pipeline.UD sig nD τ) ℕ Variants.none c none Set.univ (wh main_v89) (iw _) (wh main_v90) (iw _) (wh main_v91) (iw _) (wh main_v92) (iw _) (wh main_v88) (iw _) a5 h5 a6 h6 (wh b0) (iw _) (wh b1) (iw _) (wh b2) (iw _) (wh b3) (iw _) (wh b4) (iw _) (wh b5) (iw _) (wh b6) (iw _) (wh b7) (iw _) (wh b8) (iw _) (wh b9) (iw _) (wh b10) (iw _) (wh b11) (iw _) (wh b12) (iw _) (wh b13) (iw _) (wh b14) (iw _) (wh b15) (iw _) (wh b16) (iw _) (wh b17) (iw _) (wh b18) (iw _) (wh b19) (iw _) (wh b20) (iw _) b21 v10 v11 init where
  inv k acc := match k with
    | 0 => At c ⟨Xqm, Xkm, Xdm, Xk, Xv, Xrc⟩ (init, ⟨Bdq, Bdk, Bdv, Bpc, Bz, Bs1, Bs2, Bg, Bsp, Bgb, Bar, Bdzr, Bdzc⟩) acc
    | k + 1 => At c ⟨Xqm, Xkm, Xdm, Xk, Xv, Xrc⟩ (drain c a5 h5 a6 h6 v10 v11 ⟨Xqm, Xkm, Xdm, Xk, Xv, Xrc⟩ (k + 1) (init, ⟨Bdq, Bdk, Bdv, Bpc, Bz, Bs1, Bs2, Bg, Bsp, Bgb, Bar, Bdzr, Bdzc⟩)) acc
  step k acc := by
    refine BIBase.Entails.trans (show _ ⊢ At c ⟨Xqm, Xkm, Xdm, Xk, Xv, Xrc⟩ (drain c a5 h5 a6 h6 v10 v11 ⟨Xqm, Xkm, Xdm, Xk, Xv, Xrc⟩ k (init, ⟨Bdq, Bdk, Bdv, Bpc, Bz, Bs1, Bs2, Bg, Bsp, Bgb, Bar, Bdzr, Bdzc⟩)) acc from ?_) ?_
    · obtain ⟨k, hk⟩ := k
      cases k with
      | zero => exact .rfl
      | succ k => exact .rfl
    show _ ⊢ wp _ _ _ _ (fun acc => At c ⟨Xqm, Xkm, Xdm, Xk, Xv, Xrc⟩ (drain c a5 h5 a6 h6 v10 v11 ⟨Xqm, Xkm, Xdm, Xk, Xv, Xrc⟩ (k.val + 1) (init, ⟨Bdq, Bdk, Bdv, Bpc, Bz, Bs1, Bs2, Bg, Bsp, Bgb, Bar, Bdzr, Bdzc⟩)) acc)
    iintro ⟨%e, %h, HR, HW⟩
    obtain rfl := e
    iapply (wp_wand_r frame (wpE (defs₀ (F := F)) Variants.none c.tc none) Set.univ)
    isplitl [HR HW]
    · iapply ((trip7 c a5 h5 a6 h6 v10 v11 k _ (WordsOk.of h) ⟨Xqm, Xkm, Xdm, Xk, Xv, Xrc⟩ _).2 Set.univ)
      isplitl [HR]; · iexact HR
      iexact HW
    · iintro %r ⟨%hr, HR, HW⟩
      rw [show drain c a5 h5 a6 h6 v10 v11 ⟨Xqm, Xkm, Xdm, Xk, Xv, Xrc⟩ (k.val + 1) (init, ⟨Bdq, Bdk, Bdv, Bpc, Bz, Bs1, Bs2, Bg, Bsp, Bgb, Bar, Bdzr, Bdzc⟩) = _ from iterN_succ _ k _]
      rw [next7, dif_pos (WordsOk.of h)]
      isplitr
      · ipureintro
        subst hr
        rfl
      isplitr
      · ipureintro
        subst hr
        exact ⟨Or.inl rfl, Or.inl rfl, h.1, h.2.1, h.2.2.1, h.2.2.2.1⟩
      isplitl [HR]; · iexact HR
      iexact HW

end Cert.Proof.Attn
end
-- ==== Proof.AttnRun.lean ====
module

public import proofs.«01_k».proof.Proof.AttnLoops

@[expose] public section
set_option maxRecDepth 16384
noncomputable section

namespace Cert.Proof.Attn

open Cert.AttnIdeal Cert.AttnIdeal.Gen
open Idealize.ShloMosaic TcCoe Tactic
open Memref renaming whole → wh, isWhole_whole → iw
open Idealize.SL RA BI
open scoped BI
open BIBase Laws ProofMode Sem

variable {F : FTy → Type} [FloatOps F] [Named F]
local notation "𝕄" => MT nD τ sig Unit (Elt F) ℕ (Pipeline.UD sig nD τ) ℕ

/-! ## The body's run -/

/-- A buffer of core `c`, held whole at contents `f`. -/
abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f

theorem allOk_start : AllOk (4294967295#32, 4294967295#32, 4294967295#32, 4294967295#32, 4294967295#32, 4294967295#32) :=
  ⟨Or.inl rfl, Or.inl rfl, Or.inl rfl, Or.inl rfl, Or.inl rfl, Or.inl rfl⟩

/-- The body's own buffers, each whole at some contents. -/
abbrev Scratch (c : Dev nD) : sProp 𝕄 :=
  iprop((∃ d, owns c.tc (wh cc0_scratch0) fullShare d) ∗ (∃ d, owns c.tc (wh cc0_scratch1) fullShare d) ∗ (∃ d, owns c.tc (wh cc0_scratch2) fullShare d) ∗ (∃ d, owns c.tc (wh cc0_scratch3) fullShare d) ∗ (∃ d, owns c.tc (wh cc0_scratch4) fullShare d) ∗ (∃ d, owns c.tc (wh cc0_scratch5) fullShare d) ∗ (∃ d, owns c.tc (wh cc0_scratch6) fullShare d) ∗ (∃ d, owns c.tc (wh cc0_scratch7) fullShare d) ∗ (∃ d, owns c.tc (wh cc0_scratch8) fullShare d) ∗ (∃ d, owns c.tc (wh cc0_scratch9) fullShare d) ∗ (∃ d, owns c.tc (wh cc0_scratch10) fullShare d) ∗ (∃ d, owns c.tc (wh cc0_scratch11) fullShare d) ∗ (∃ d, owns c.tc (wh cc0_scratch12) fullShare d) ∗ (∃ d, owns c.tc (wh cc0_scratch13) fullShare d) ∗ (∃ d, owns c.tc (wh cc0_scratch14) fullShare d) ∗ (∃ d, owns c.tc (wh cc0_scratch15) fullShare d) ∗ (∃ d, owns c.tc (wh cc0_scratch16) fullShare d) ∗ (∃ d, owns c.tc (wh cc0_scratch17) fullShare d) ∗ (∃ d, owns c.tc (wh cc0_scratch18) fullShare d) ∗ (∃ d, owns c.tc (wh cc0_scratch19) fullShare d) ∗ (∃ d, owns c.tc (wh cc0_scratch20) fullShare d))

/-- The body's own counters, at zero. -/
abbrev Cells (c : Dev nD) : sProp 𝕄 :=
  iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0)

/-- The arrays the body's transfers read. -/
abbrev Arrays (c : Dev nD) (f0 f1 f2 f3 : Vec F S2048x512 .bf16) (f4 : Vec F S2048x128 .f32) : sProp 𝕄 :=
  iprop(hbPt c (wh main_v89) f0 ∗ hbPt c (wh main_v90) f1 ∗ hbPt c (wh main_v91) f2 ∗ hbPt c (wh main_v92) f3 ∗ hbPt c (wh main_v88) f4)

set_option maxHeartbeats 1600000 in
/-- The body's run: what it stores into its result, from the arrays it reads. -/
def bodyRun (c : Dev nD) (a5 : Memref sig .tc .vmem S8x128 .f32) (h5 : a5.IsWhole) (a6 : Memref sig .tc .vmem S2048x1536 .bf16) (h6 : a6.IsWhole)
    (x5 : Vec F S8x128 .f32) (f0 f1 f2 f3 : Vec F S2048x512 .bf16) (f4 : Vec F S2048x128 .f32) :
    { L : List (View.Piece (Elt F) S2048x1536 .bf16) // ∀ (W : Waits sig Unit) (K : PUnit → sProp 𝕄),
      iprop(owns c.tc a5 fullShare x5 ∗ (∃ d, owns c.tc a6 fullShare d) ∗ Scratch c ∗ Cells c ∗ Arrays c f0 f1 f2 f3 f4
          ∗ owes (c : Thread nD τ) 0 W
          ∗ (iprop(owns c.tc a5 fullShare x5 ∗ (∃ f, a6.view.loc (c : Thread nD τ) ↦[a6.view.set]{fullShare} a6.view.writes (Elt F) f L)
              ∗ Scratch c ∗ Cells c ∗ Arrays c f0 f1 f2 f3 f4 ∗ (∃ W', owes (c : Thread nD τ) 0 W')) -∗ K ⟨⟩))
        ⊢ wp frame (wpE (defs₀ (F := F)) Variants.none c.tc none) Set.univ
            (cc0_attn_bwd (wh main_v89) (iw _) (wh main_v90) (iw _) (wh main_v91) (iw _) (wh main_v92) (iw _) (wh main_v88) (iw _) a5 h5 a6 h6 (wh cc0_scratch0) (iw _) (wh cc0_scratch1) (iw _) (wh cc0_scratch2) (iw _) (wh cc0_scratch3) (iw _) (wh cc0_scratch4) (iw _) (wh cc0_scratch5) (iw _) (wh cc0_scratch6) (iw _) (wh cc0_scratch7) (iw _) (wh cc0_scratch8) (iw _) (wh cc0_scratch9) (iw _) (wh cc0_scratch10) (iw _) (wh cc0_scratch11) (iw _) (wh cc0_scratch12) (iw _) (wh cc0_scratch13) (iw _) (wh cc0_scratch14) (iw _) (wh cc0_scratch15) (iw _) (wh cc0_scratch16) (iw _) (wh cc0_scratch17) (iw _) (wh cc0_scratch18) (iw _) (wh cc0_scratch19) (iw _) (wh cc0_scratch20) (iw _) cc0_scratch21) K } := by
  refine ⟨?_, fun W K => ?run⟩
  case run =>
    simp only [cc0_attn_bwd_eq_skeleton]; unfold cc0_attn_bwd_skel
    simp only [k0_part91_eq_skeleton, k0_part92_eq_skeleton, k0_part93_eq_skeleton, k0_part94_eq_skeleton]
    unfold k0_part91_skel k0_part92_skel k0_part93_skel k0_part94_skel
    simp only [Prog.bind_assoc]
    unfold Scratch Cells Arrays owns
    have hok := allOk_start
    iintro ⟨⟨%g5, %e5, H5⟩, ⟨%d6, %g6, -, H6⟩, ⟨⟨%t0, %s0, -, S0⟩, ⟨%t1, %s1, -, S1⟩, ⟨%t2, %s2, -, S2⟩, ⟨%t3, %s3, -, S3⟩, ⟨%t4, %s4, -, S4⟩, ⟨%t5, %s5, -, S5⟩, ⟨%t6, %s6, -, S6⟩, ⟨%t7, %s7, -, S7⟩, ⟨%t8, %s8, -, S8⟩, ⟨%t9, %s9, -, S9⟩, ⟨%t10, %s10, -, S10⟩, ⟨%t11, %s11, -, S11⟩, ⟨%t12, %s12, -, S12⟩, ⟨%t13, %s13, -, S13⟩, ⟨%t14, %s14, -, S14⟩, ⟨%t15, %s15, -, S15⟩, ⟨%t16, %s16, -, S16⟩, ⟨%t17, %s17, -, S17⟩, ⟨%t18, %s18, -, S18⟩, ⟨%t19, %s19, -, S19⟩, ⟨%t20, %s20, -, S20⟩⟩, ⟨Q0, Q1, Q2, Q3, Q4⟩, ⟨Ha, Hb, Hc, Hd, He⟩, HO, Hk⟩
    sl_exec
    sl_step
    iapply Hk
    sl_close
end Cert.Proof.Attn
end
-- ==== Proof.AttnFrame.lean ====
module

public import proofs.«01_k».proof.Proof.AttnRun

@[expose] public section
set_option maxRecDepth 16384
noncomputable section

namespace Cert.Proof.Attn

open Cert.AttnIdeal Cert.AttnIdeal.Gen
open Idealize.ShloMosaic TcCoe Tactic
open Idealize.SL RA BI
open scoped BI
open BIBase Laws ProofMode Sem

variable {F : FTy → Type} [FloatOps F] [Named F]
open Idealize.ShloMosaic.Rounds
open Idealize.ShloMosaic.Pipeline (Dat Cfg Window BodyObligation cellOf)

variable (m : (ℓ : Loc nD τ sig) → Buf (Elt F) ℓ) (ρ : Dev nD → PrngReg)
local notation "𝕄" => MT nD τ sig Unit (Elt F) ℕ (Pipeline.UD sig nD τ) ℕ

/-! ## The launch -/

theorem hmain (𝒱₀ : Variants) : Pipeline.HMain (Ix := Unit) (Name := ℕ) (U := Pipeline.UD sig nD τ) (Lvl := ℕ) cfgs 0 defs₀ 𝒱₀ m (main (F := F)) (Gen.V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- The body's own counters. -/
abbrev ownCells : Fin 5 → SemLoc sig := fun j => (![SemLoc.dma 2, SemLoc.dma 3, SemLoc.dma 4, SemLoc.dma 5, SemLoc.dma 6] : Fin 5 → SemLoc sig) j

theorem ownCells_facts : Pipeline.OwnSemFacts spec0 ownCells := by decide

theorem ownCells_eq (c : Dev nD) :
    (Pipeline.ownSems0 (Ix := Unit) (Name := ℕ) (U := Pipeline.UD sig nD τ) (Lvl := ℕ) (Val := Elt F) (τ := τ) ownCells c : sProp 𝕄) = Cells c := by
  rw [Pipeline.ownSems0_eq_of_list c ownCells [0, 1, 2, 3, 4] (by decide) (by decide)]; rfl

/-- The arrays the body's transfers read. -/
def srcs : Finset (Ref sig .tc) := {main_v89, main_v90, main_v91, main_v92, main_v88}

theorem srcs_sub : srcs ⊆ Pipeline.restRefs sig spec0 := by decide

theorem srcs_eq (c : Dev nD) :
    (bigSep srcs (fun b => ((c : Thread nD τ).loc b) ↦{fullShare} Gen.V m c b) : sProp 𝕄)
      = Arrays c (Gen.V m c main_v89) (Gen.V m c main_v90) (Gen.V m c main_v91) (Gen.V m c main_v92) (Gen.V m c main_v88) := by
  rw [BI.bigSep_eq_bigSepL_of_eq [main_v89, main_v90, main_v91, main_v92, main_v88] (by decide) (by decide)]; rfl

theorem phi_eq (c : Dev nD) :
    (Pipeline.ΦD ownCells spec0 srcs (Gen.V m) c : sProp 𝕄)
      = iprop(Scratch c ∗ (∃ r, prngReg c r) ∗ Cells c ∗ Arrays c (Gen.V m c main_v89) (Gen.V m c main_v90) (Gen.V m c main_v91) (Gen.V m c main_v92) (Gen.V m c main_v88)) := by
  rw [Pipeline.ΦD_eq, scopedRest0_eq, ownCells_eq, srcs_eq]
  simp only [Scratch, owns_whole]

abbrev ms0 (t : Fin cfg0.N) : Memref sig .tc .vmem S8x128 .f32 := win0_0.stage (cfg0.slots t 0)
abbrev ms1 (t : Fin cfg0.N) : Memref sig .tc .vmem S2048x1536 .bf16 := win0_1.stage (cfg0.slots t 1)

/-- The list of the body's stores into its result. -/
abbrev outL (c : Dev nD) (t : Fin cfg0.N) : List (View.Piece (Elt F) S2048x1536 .bf16) :=
  (bodyRun c (ms0 t) (hstage0_0 0) (ms1 t) (hstage0_1 0) (iblk m c 0 t) (Gen.V m c main_v89) (Gen.V m c main_v90) (Gen.V m c main_v91) (Gen.V m c main_v92) (Gen.V m c main_v88)).1

/-- The body's result. -/
def outAt (c : Dev nD) (t : Fin cfg0.N) : Vec F S2048x1536 .bf16 :=
  (Memref.whole cc0_stg1_0 : Memref sig .tc .vmem S2048x1536 .bf16).view.read (Elt F)
    ((Memref.whole cc0_stg1_0 : Memref sig .tc .vmem S2048x1536 .bf16).view.writes (Elt F) (Memref.whole cc0_stg1_0 : Memref sig .tc .vmem S2048x1536 .bf16).view.junk (outL m c t))

theorem coverOut (c : Dev nD) (t : Fin cfg0.N) (y : S2048x1536.Idx) : ∃ pc ∈ outL m c t, y ∈ pc.1.set :=
  View.cover_of_tiledL (outL m c t) ![2048, 512] (by sl_kernel_rfl) y

/-- The pipeline's proof data on core `c`. -/
def dats (_ : Fin 1) (c : Dev nD) : Dat τ (Elt F) Unit ℕ (Pipeline.UD sig nD τ) ℕ cfg0 c where
  A w := Gen.V m c (Pipeline.arrRef spec0 w)
  after w t := match w with
    | ⟨0, _⟩ => iblk m c 0 t
    | ⟨1, _⟩ => outAt m c t
  Φ _ := Pipeline.ΦD ownCells spec0 srcs (Gen.V m) c
  q _ := fullShare
  owed _ := 0

theorem A_eq (c : Dev nD) (w : Fin cfg0.W) : (dats m 0 c).A w = Gen.V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = outAt m c t := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

/-- What the body starts from at point `t`. -/
def bodyPre (c : Dev nD) (t : Fin cfg0.N) : sProp 𝕄 :=
  iprop((dats m 0 c).Φ t.castSucc ∗ (dats m 0 c).owesAt () t.castSucc
    ∗ (∃ d, owns c.tc (ms0 t) fullShare ((dats m 0 c).before 0 t d))
    ∗ (∃ d, owns c.tc (ms1 t) fullShare ((dats m 0 c).before 1 t d)))

/-- What the body ends with at point `t`. -/
def bodyPost (c : Dev nD) (t : Fin cfg0.N) : sProp 𝕄 :=
  iprop((dats m 0 c).Φ t.succ ∗ (dats m 0 c).owesAt () t.succ
    ∗ owns c.tc (ms0 t) fullShare ((dats m 0 c).after 0 t)
    ∗ owns c.tc (ms1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0, after1]
  rw [show (dats m 0 c).Φ t.castSucc = Pipeline.ΦD ownCells spec0 srcs (Gen.V m) c from rfl, phi_eq]
  unfold Dat.owesAt Pipeline.owesWithin
  rw [show (dats m 0 c).owed t.castSucc = 0 from rfl, show (dats m 0 c).owed t.succ = 0 from rfl]
  simp only [before0]
  iintro ⟨⟨HS, Hg, HQ, HA⟩, ⟨%W, -, HW⟩, ⟨%d0, H0⟩, ⟨%d1, H1⟩⟩
  iapply ((bodyRun c (ms0 t) (hstage0_0 0) (ms1 t) (hstage0_1 0) (iblk m c 0 t) (Gen.V m c main_v89) (Gen.V m c main_v90) (Gen.V m c main_v91) (Gen.V m c main_v92) (Gen.V m c main_v88)).2 W _)
  isplitl [H0]; · iexact H0
  isplitl [H1]; · iexists _; iexact H1
  isplitl [HS]; · iexact HS
  isplitl [HQ]; · iexact HQ
  isplitl [HA]; · iexact HA
  isplitl [HW]; · iexact HW
  iintro ⟨H0, ⟨%e1, H1⟩, HS, HQ, HA, ⟨%W', HW'⟩⟩
  isplitl [HS Hg HQ HA]
  · isplitl [HS]; · iexact HS
    isplitl [Hg]; · iexact Hg
    isplitl [HQ]; · iexact HQ
    iexact HA
  isplitl [HW']
  · iexists W'; isplitr; · ipureintro; exact fun _ _ => Or.inl trivial
    iexact HW'
  isplitl [H0]; · iexact H0
  unfold owns outAt; iexists _; isplitr
  swap; · iexact H1
  ipureintro; exact View.read_writes_of_cover _ _ _ _ _ (coverOut m c t)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) ⟨m, fun _ => 0, ρ⟩ (fun r => Pipeline.FramePost cfgs (dats m) 0 (Gen.V m) r ∧ r.2.sem = fun _ => 0) :=
  Pipeline.θ_run_frame_dma (Q' := _) cfgs (dats m) (0 : Fin 1) launch0 ownCells defs₀ Variants.none ownCells_facts srcs srcs_sub m ρ main
    (hbody := fun c => (body_obligation m c).loose) (hshare := fun c => (dats m 0 c).share_full fun _ => rfl)
    (howed := fun _ _ => rfl) (V := Gen.V m) (hmain := hmain m Variants.none) (hA := A_eq m)
    (hin := fun _ => .rfl) (hout := fun _ => .rfl)

/-- The program ends, faults nowhere, and leaves its arguments and counters as it found them. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.Proof.Attn
end
-- ==== Proof.AttnBits.lean ====
module

public import proofs.«01_k».proof.Defs
public import proofs.«01_k».proof.Proof.AttnFrame
public import proofs.«01_k».proof.Proof.Gen.Attn.Frame

@[expose] public section
set_option maxRecDepth 65536
noncomputable section

namespace Cert.Proof.Attn

open Idealize.ShloMosaic TcCoe Tactic
open Idealize.SL Idealize.SL.Sem

/-- At the machine's own numbers the named mask constant is the constant its bits spell. -/
local instance namedBits : Named Bits where
  named _ _ {φ} bits := FloatOps.ofBits φ bits

/-- The statement about the idealized program read at the machine's own numbers. -/
abbrev AtBits : Prop := ∀ (m : (ℓ : Loc Cert.AttnIdeal.nD Cert.AttnIdeal.τ Cert.AttnIdeal.sig) → Buf (Elt Bits) ℓ) (g : Dev Cert.AttnIdeal.nD → PrngReg), True →
    θ_run (Cert.AttnIdeal.defs (F := Bits)) (onTc (τ := Cert.AttnIdeal.τ) (Cert.AttnIdeal.main (F := Bits))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

theorem atBits : AtBits := fun m g _ => frame_run m g

theorem same_text : AtBits = quiescent_Attn (hAttn := Cert.Attn.Gen.facts) := by
  sl_kernel_rfl

theorem frame : quiescent_Attn (hAttn := Cert.Attn.Gen.facts) := same_text.mp atBits

end Cert.Proof.Attn
end
-- ==== Proof.AttnClaim.lean ====
/- Hand-written, untrusted: the claims on the attention's backward call. -/
module

public import proofs.«01_k».proof.Defs
public import proofs.«01_k».proof.Proof.AttnBits
public import proofs.«01_k».proof.Proof.Gen.AttnRefIdeal.Run

@[expose] public section

noncomputable section

namespace Cert.Proof.Attn

open Idealize.ShloMosaic Idealize.SL.Sem

theorem frameIdeal : Cert.quiescent_AttnIdeal (hAttnIdeal := Cert.AttnIdeal.Gen.facts) := fun m ρ _ => frame_run m ρ
theorem frameRef : Cert.quiescent_AttnRefIdeal (hAttnRefIdeal := Cert.AttnRefIdeal.Gen.facts) := fun m ρ _ =>
  (θ_run Cert.AttnRefIdeal.defs _ _).mono (fun r h => ⟨fun c => (h c).2, sem_eq_zero_of_no_sems (by decide) r.2⟩)
    (Cert.AttnRefIdeal.Value.run m ρ)
theorem preserves : Cert.preserves_Attn_AttnIdeal :=
  IdealRules.named_const.statement Cert.AttnIdeal.κ "mask" .f32 0xF149F2CA#32 ⊥ rfl

end Cert.Proof.Attn

end
-- ==== Proof.AttnWeights.lean ====
/- Hand-written, untrusted: the bits of the triangular weights. -/
module

public import proofs.«01_k».proof.Proof.Gen.AttnIdeal.Skeleton
public import proofs.«01_k».proof.Proof.Basic
public import Idealize.ShloMosaic.Lib.Pointwise

@[expose] public section
set_option maxRecDepth 16384
noncomputable section

namespace Cert.Proof.Attn

open Cert.AttnIdeal Cert.AttnIdeal.Gen
open Idealize.ShloMosaic TcCoe Tactic
open Idealize.SL.Sem

theorem w_suffix_bits : ∀ l c : Fin 128, BitVec.setWidth 32
    (IntOp.ori (IntOp.cmpi CmpIPredicate.sge (BitVec.ofNat 32 ↑l) (BitVec.ofNat 32 ↑c)) (IntOp.cmpi CmpIPredicate.sge (BitVec.ofNat 32 ↑c) 128#32))
      = if c ≤ l then 1#32 else 0#32 := by decide +kernel
theorem w_prefix_bits : ∀ l c : Fin 128, BitVec.setWidth 32
    (IntOp.ori (IntOp.cmpi CmpIPredicate.sle (BitVec.ofNat 32 ↑l) (BitVec.ofNat 32 ↑c)) (IntOp.cmpi CmpIPredicate.sge (BitVec.ofNat 32 ↑c) 128#32))
      = if l ≤ c then 1#32 else 0#32 := by decide +kernel
theorem lt_bits : ∀ c r : Fin 128, IntOp.cmpi CmpIPredicate.slt (BitVec.ofNat 32 ↑c) (BitVec.ofNat 32 ↑r) = if c < r then 1#1 else 0#1 := by decide +kernel
theorem w_total_bits : ∀ l c : Fin 128, BitVec.setWidth 32
    (IntOp.ori (IntOp.cmpi CmpIPredicate.sle (BitVec.ofNat 32 ↑l) (BitVec.ofNat 32 (128 + ↑c))) (IntOp.cmpi CmpIPredicate.sge (BitVec.ofNat 32 (128 + ↑c)) 128#32))
      = 1#32 := by decide +kernel

end Cert.Proof.Attn
end
-- ==== Proof.AttnHead.lean ====
/- Hand-written, untrusted: what one head of one step of the attention's backward call computes, over the reals. -/
module

public import proofs.«01_k».proof.Proof.Gen.AttnIdeal.Skeleton
public import proofs.«01_k».proof.Proof.Basic
public import proofs.«01_k».proof.Proof.AttnWeights
public import Idealize.ShloMosaic.Lib.Pointwise

@[expose] public section
set_option maxRecDepth 16384
noncomputable section

namespace Cert.Proof.Attn

open Cert.AttnIdeal Cert.AttnIdeal.Gen
open Idealize.ShloMosaic TcCoe Tactic
open Idealize.SL.Sem

/-! ## The operations -/

section ops
variable {F : FTy → Type} [FloatOps F] [Named F]

/-- The scores of a block. -/
abbrev hScore (Q : FVec F S1x128x128 .bf16) (K : FVec F S128x128 .bf16) (b : FVec F S128x128 .f32) : FVec F S128x128 .f32 :=
  addf (matmul dot_S128x128_S128x128_S128x128_1_1_0_0_n_n none (shapeCast S128x128 Q shapeCasts_S1x128x128_S128x128 : FVec F S128x128 .bf16) K (constant S128x128 FTy.f32 0#32)) b
/-- The softplus of a block of scores. -/
abbrev hPlus (z : FVec F S128x128 .f32) : FVec F S128x128 .f32 :=
  addf (maximumf z (broadcast S128x128 (FloatOps.ofBits FTy.f32 0#32)))
    (log (addf (broadcast S128x128 (FloatOps.ofBits FTy.f32 1065353216#32)) (exp (subf (broadcast S128x128 (FloatOps.ofBits FTy.f32 0#32)) (absf z)))))
/-- The weights of a block: the exponential of the score less the softplus summed from the key on. -/
abbrev hA (Z : FVec F S1x128x128 .f32) (SP : FVec F S1x128x128 .bf16) (RC : FVec F S128x128 .f32) (v10 : IVec S128x128 32) (kw : BitVec 32) : FVec F S128x128 .f32 :=
  exp (subf (shapeCast S128x128 Z shapeCasts_S1x128x128_S128x128)
    (addf (matmul dot_S128x128_S128x128_S128x128_1_0_0_1_n_n none (shapeCast S128x128 SP shapeCasts_S1x128x128_S128x128 : FVec F S128x128 .bf16) (k0_pay557 (F := F)) (constant S128x128 FTy.f32 0#32))
      (broadcastTo S128x128 (shapeCast S128x1 (multiReduction FKind.add [1] S128 (select (cmpi CmpIPredicate.eq v10 (broadcast S128x128 kw)) RC (broadcast S128x128 (FloatOps.ofBits FTy.f32 0#32))) 0#32 (by decide) k0_part7._proof_15 k0_part7._proof_16) shapeCasts_S128_S128x1) (by decide))))
end ops

/-! ## Over the reals -/

/-- A score, or minus infinity where the key is masked. -/
def zV (P : Prop) [Decidable P] (x : ℝ) : EReal := if P then (x : EReal) else ⊥

/-- Softplus, as the program computes it. -/
def spF (x : ℝ) : ℝ := max x 0 + Real.log (1 + Real.exp (-|x|))

/-- A word as a number. -/
abbrev ofWord (b : BitVec 32) : EReal := (FloatOps.sitofp FTy.f32 b : Ideal .f32)
theorem sitofp_one : ofWord 1#32 = ((1 : ℝ) : EReal) := by
  show ((((1#32 : BitVec 32).toInt : ℤ) : ℝ) : EReal) = _; norm_num
theorem sitofp_zero : ofWord 0#32 = ((0 : ℝ) : EReal) := by
  show ((((0#32 : BitVec 32).toInt : ℤ) : ℝ) : EReal) = _; norm_num

theorem nt_real (Q : FVec Ideal S1x128x128 .bf16) (K : FVec Ideal S128x128 .bf16) (fq fk : ℕ → ℕ → ℝ)
    (hQ : ∀ r l : Fin 128, Q (ix3 0 r l) = ((fq r l : ℝ) : EReal)) (hK : ∀ r l : Fin 128, K (ix2 r l) = ((fk r l : ℝ) : EReal)) (r c : Fin 128) :
    matmul dot_S128x128_S128x128_S128x128_1_1_0_0_n_n none (shapeCast S128x128 Q shapeCasts_S1x128x128_S128x128 : FVec Ideal S128x128 .bf16) K (constant S128x128 FTy.f32 0#32) (ix2 r c)
      = ((∑ l : Fin 128, fq r l * fk c l : ℝ) : EReal) := by
  refine Eq.trans (b := ∑ l : Fin 128, Q (ix3 0 r l) * K (ix2 c l)) (by pointwise) ?_
  rw [coe_sum]; exact Finset.sum_congr rfl fun l _ => by rw [hQ, hK, EReal.coe_mul]

theorem score_real (Q : FVec Ideal S1x128x128 .bf16) (K : FVec Ideal S128x128 .bf16) (b : FVec Ideal S128x128 .f32) (fq fk : ℕ → ℕ → ℝ)
    (hQ : ∀ r l : Fin 128, Q (ix3 0 r l) = ((fq r l : ℝ) : EReal)) (hK : ∀ r l : Fin 128, K (ix2 r l) = ((fk r l : ℝ) : EReal)) (r c : Fin 128)
    (P : Prop) [Decidable P] (hb : b (ix2 r c) = if P then 0 else ⊥) :
    hScore Q K b (ix2 r c) = zV P (∑ l : Fin 128, fq r l * fk c l) := by
  refine (congrArg₂ (fun u v : EReal => u + v) (nt_real Q K fq fk hQ hK r c) hb).trans ?_
  unfold zV; split <;> simp

theorem plus_coe (x : ℝ) : max (x : EReal) 0 + Ideal.log (1 + Ideal.exp (0 - max (x : EReal) (-(x : EReal)))) = ((spF x : ℝ) : EReal) := by
  have e1 : max (x : EReal) (-(x : EReal)) = ((|x| : ℝ) : EReal) := by rw [abs_eq_max_neg, EReal.coe_strictMono.monotone.map_max]; rfl
  have e2 : max (x : EReal) 0 = ((max x 0 : ℝ) : EReal) := by rw [EReal.coe_strictMono.monotone.map_max]; rfl
  have e3 : (1 : EReal) + Ideal.exp (0 - ((|x| : ℝ) : EReal)) = ((1 + Real.exp (-|x|) : ℝ) : EReal) := by
    rw [show (0 : EReal) - ((|x| : ℝ) : EReal) = ((-|x| : ℝ) : EReal) by rw [zero_sub]; rfl, Ideal.exp_coe, EReal.coe_add]; rfl
  rw [e1, e2, e3, Ideal.log_coe, if_neg (not_le.2 (by positivity)), ← EReal.coe_add]; rfl

theorem plus_bot : max (⊥ : EReal) 0 + Ideal.log (1 + Ideal.exp (0 - max (⊥ : EReal) (-⊥))) = 0 := by
  have : (0 : EReal) - max (⊥ : EReal) (-⊥) = ⊥ := by simp
  rw [this, Ideal.exp_bot, add_zero, show (1 : EReal) = ((1 : ℝ) : EReal) from rfl, Ideal.log_coe, if_neg (by norm_num), Real.log_one]
  simp

theorem plus_real (z : FVec Ideal S128x128 .f32) (o : S128x128.Idx) (P : Prop) [Decidable P] (x : ℝ) (hz : z o = zV P x) :
    hPlus z o = ((if P then spF x else 0 : ℝ) : EReal) := by
  refine Eq.trans (b := max (z o) 0 + Ideal.log (1 + Ideal.exp (0 - max (z o) (- z o)))) (by pointwise; rfl) ?_
  rw [hz]; unfold zV; split
  · exact plus_coe x
  · exact plus_bot

theorem exp_zV (P : Prop) [Decidable P] (x y : ℝ) : Ideal.exp (zV P x - (y : EReal)) = ((if P then Real.exp (x - y) else 0 : ℝ) : EReal) := by
  unfold zV; split
  · rw [← EReal.coe_sub, Ideal.exp_coe]
  · rw [EReal.bot_sub]; rfl

theorem sig_real (z : FVec Ideal S128x128 .f32) (o : S128x128.Idx) (P : Prop) [Decidable P] (x : ℝ) (hz : z o = zV P x) :
    exp (subf z (hPlus z)) o = ((if P then Real.exp (x - spF x) else 0 : ℝ) : EReal) := by
  refine (show _ = Ideal.exp (z o - hPlus z o) from rfl).trans ?_
  rw [hz, plus_real z o P x hz, exp_zV]
  split <;> rfl

theorem select_eq {α : Type} (a b : BitVec 32) (x y : α) : Scalar.select (IntOp.cmpi CmpIPredicate.eq a b) x y = if a = b then x else y := by
  by_cases h : a = b
  · subst h; simp [Scalar.select, IntOp.cmpi]
  · have : (a == b) = false := by simpa using h
    simp [Scalar.select, IntOp.cmpi, h, this]

/-- The sum a block takes from the saved sums: the lane the word names, of the row. -/
def laneSum (f : ℕ → ℝ) (kw : BitVec 32) : ℝ := ∑ l : Fin 128, if BitVec.ofNat 32 l.val = kw then f l else 0

theorem weight_real (Z : FVec Ideal S1x128x128 .f32) (SP : FVec Ideal S1x128x128 .bf16) (RC : FVec Ideal S128x128 .f32) (v10 : IVec S128x128 32) (kw : BitVec 32)
    (fs : ℕ → ℕ → ℝ) (frc : ℕ → ℕ → ℝ) (r c : Fin 128) (P : Prop) [Decidable P] (x : ℝ) (hZ : Z (ix3 0 r c) = zV P x)
    (hSP : ∀ r l : Fin 128, SP (ix3 0 r l) = ((fs r l : ℝ) : EReal)) (hRC : ∀ r l : Fin 128, RC (ix2 r l) = ((frc r l : ℝ) : EReal))
    (hv : ∀ o : S128x128.Idx, v10 o = BitVec.ofNat 32 (o 1).val) :
    hA Z SP RC v10 kw (ix2 r c)
      = ((if P then Real.exp (x - ((∑ l : Fin 128, if c ≤ l then fs r l else 0) + laneSum (frc r) kw)) else 0 : ℝ) : EReal) := by
  refine Eq.trans (b := Ideal.exp (Z (ix3 0 r c) - ((∑ l : Fin 128, (SP (ix3 0 r l) : EReal) * ofWord (BitVec.setWidth 32
    (IntOp.ori (IntOp.cmpi CmpIPredicate.sge (BitVec.ofNat 32 ↑l) (BitVec.ofNat 32 ↑c)) (IntOp.cmpi CmpIPredicate.sge (BitVec.ofNat 32 ↑c) 128#32))))
      + ∑ l : Fin 128, Scalar.select (IntOp.cmpi CmpIPredicate.eq (v10 (ix2 r l)) kw) (RC (ix2 r l) : EReal) 0))) (by pointwise [k0_pay557]) ?_
  have e1 : (∑ l : Fin 128, (SP (ix3 0 r l) : EReal) * ofWord (BitVec.setWidth 32
    (IntOp.ori (IntOp.cmpi CmpIPredicate.sge (BitVec.ofNat 32 ↑l) (BitVec.ofNat 32 ↑c)) (IntOp.cmpi CmpIPredicate.sge (BitVec.ofNat 32 ↑c) 128#32))) : EReal)
      = ((∑ l : Fin 128, if c ≤ l then fs r l else 0 : ℝ) : EReal) := by
    rw [coe_sum]; refine Finset.sum_congr rfl fun l _ => ?_
    rw [hSP, w_suffix_bits]; split
    · rw [sitofp_one, ← EReal.coe_mul, mul_one]
    · rw [sitofp_zero, ← EReal.coe_mul, mul_zero]
  have e2 : (∑ l : Fin 128, Scalar.select (IntOp.cmpi CmpIPredicate.eq (v10 (ix2 r l)) kw) (RC (ix2 r l) : EReal) 0 : EReal)
      = ((laneSum (frc r) kw : ℝ) : EReal) := by
    unfold laneSum
    rw [coe_sum]; refine Finset.sum_congr rfl fun l _ => ?_
    rw [select_eq, hv, hRC]
    show (if BitVec.ofNat 32 l.val = kw then _ else (0 : EReal)) = _
    split <;> rfl
  rw [e1, e2, hZ, ← EReal.coe_add, exp_zV]

theorem gain_real (D : FVec Ideal S1x128x128 .bf16) (V : FVec Ideal S128x128 .bf16) (a : FVec Ideal S128x128 .f32) (fd fv : ℕ → ℕ → ℝ) (y : ℝ)
    (hD : ∀ r l : Fin 128, D (ix3 0 r l) = ((fd r l : ℝ) : EReal)) (hV : ∀ r l : Fin 128, V (ix2 r l) = ((fv r l : ℝ) : EReal)) (r c : Fin 128)
    (ha : a (ix2 r c) = (y : EReal)) :
    mulf (matmul dot_S128x128_S128x128_S128x128_1_1_0_0_n_n none (shapeCast S128x128 D shapeCasts_S1x128x128_S128x128 : FVec Ideal S128x128 .bf16) V (constant S128x128 FTy.f32 0#32)) a (ix2 r c)
      = (((∑ l : Fin 128, fd r l * fv c l) * y : ℝ) : EReal) := by
  refine (congrArg₂ (fun u v : EReal => u * v) (nt_real D V fd fv hD hV r c) ha).trans ?_
  exact (EReal.coe_mul _ _).symm

/-- The sum carried into a block: none where the block is a row's first. -/
abbrev hIn {F : FTy → Type} [FloatOps F] (cj : BitVec 32) (PC : FVec F S1x128x128 .f32) : FVec F S128x128 .f32 :=
  Scalar.select (Scalar.cmpi CmpIPredicate.eq cj 0#32) (broadcast S128x128 (FloatOps.ofBits FTy.f32 0#32)) (shapeCast S128x128 PC shapeCasts_S1x128x128_S128x128)

theorem in_real (cj : BitVec 32) (PC : FVec Ideal S1x128x128 .f32) (r c : Fin 128) (x : ℝ) (h : cj ≠ 0#32 → PC (ix3 0 r c) = (x : EReal)) :
    hIn cj PC (ix2 r c) = ((if cj = 0#32 then 0 else x : ℝ) : EReal) := by
  unfold hIn
  rw [show (Scalar.cmpi CmpIPredicate.eq cj 0#32) = IntOp.cmpi CmpIPredicate.eq cj 0#32 from rfl, select_eq]
  split
  · pointwise; rfl
  · rename_i hc; refine Eq.trans (b := PC (ix3 0 r c)) (by pointwise) (h hc)

/-- Products with the prefix weights: sums up to each key, then the sum of the whole block. -/
abbrev hPre {F : FTy → Type} [FloatOps F] (GB : FVec F S1x128x128 .bf16) : FVec F S128x256 .f32 :=
  matmul dot_S128x128_S128x256_S128x256_1_0_0_1_n_n none (shapeCast S128x128 GB shapeCasts_S1x128x128_S128x128 : FVec F S128x128 .bf16) (k0_pay558 (F := F)) (constant S128x256 FTy.f32 0#32)

theorem total_real (GB : FVec Ideal S1x128x128 .bf16) (fg : ℕ → ℕ → ℝ) (hG : ∀ r l : Fin 128, GB (ix3 0 r l) = ((fg r l : ℝ) : EReal)) (h) (r c : Fin 128) :
    extractStridedSlice S128x128 ![0, 128] (hPre GB) h (ix2 r c) = ((∑ l : Fin 128, fg r l : ℝ) : EReal) := by
  refine Eq.trans (b := ∑ l : Fin 128, (GB (ix3 0 r l) : EReal) * ofWord (BitVec.setWidth 32
    (IntOp.ori (IntOp.cmpi CmpIPredicate.sle (BitVec.ofNat 32 ↑l) (BitVec.ofNat 32 (128 + ↑c))) (IntOp.cmpi CmpIPredicate.sge (BitVec.ofNat 32 (128 + ↑c)) 128#32))))
    (by pointwise [k0_pay558]) ?_
  rw [coe_sum]; refine Finset.sum_congr rfl fun l _ => ?_
  rw [hG, w_total_bits, sitofp_one, ← EReal.coe_mul, mul_one]

theorem prefix_real (GB : FVec Ideal S1x128x128 .bf16) (fg : ℕ → ℕ → ℝ) (hG : ∀ r l : Fin 128, GB (ix3 0 r l) = ((fg r l : ℝ) : EReal)) (h) (r c : Fin 128) :
    extractStridedSlice S128x128 ![0, 0] (hPre GB) h (ix2 r c) = ((∑ l : Fin 128, if l ≤ c then fg r l else 0 : ℝ) : EReal) := by
  refine Eq.trans (b := ∑ l : Fin 128, (GB (ix3 0 r l) : EReal) * ofWord (BitVec.setWidth 32
    (IntOp.ori (IntOp.cmpi CmpIPredicate.sle (BitVec.ofNat 32 ↑l) (BitVec.ofNat 32 ↑c)) (IntOp.cmpi CmpIPredicate.sge (BitVec.ofNat 32 ↑c) 128#32))))
    (by pointwise [k0_pay558]) ?_
  rw [coe_sum]; refine Finset.sum_congr rfl fun l _ => ?_
  rw [hG, w_prefix_bits]; split
  · rw [sitofp_one, ← EReal.coe_mul, mul_one]
  · rw [sitofp_zero, ← EReal.coe_mul, mul_zero]

theorem carry_real (GB : FVec Ideal S1x128x128 .bf16) (cj : BitVec 32) (PC : FVec Ideal S1x128x128 .f32) (fg : ℕ → ℕ → ℝ)
    (hG : ∀ r l : Fin 128, GB (ix3 0 r l) = ((fg r l : ℝ) : EReal)) (h) (r c : Fin 128) (x : ℝ) (hP : cj ≠ 0#32 → PC (ix3 0 r c) = (x : EReal)) :
    addf (hIn cj PC) (extractStridedSlice S128x128 ![0, 128] (hPre GB) h) (ix2 r c) = (((if cj = 0#32 then 0 else x) + ∑ l : Fin 128, fg r l : ℝ) : EReal) := by
  refine (congrArg₂ (fun u v : EReal => u + v) (in_real cj PC r c x hP) (total_real GB fg hG h r c)).trans ?_
  exact (EReal.coe_add _ _).symm

theorem slope_real (G S2 : FVec Ideal S1x128x128 .f32) (GB : FVec Ideal S1x128x128 .bf16) (cj : BitVec 32) (PC : FVec Ideal S1x128x128 .f32) (fg : ℕ → ℕ → ℝ) (g s : ℝ)
    (hG : ∀ r l : Fin 128, GB (ix3 0 r l) = ((fg r l : ℝ) : EReal)) (h) (r c : Fin 128) (hg : G (ix3 0 r c) = (g : EReal)) (hs : S2 (ix3 0 r c) = (s : EReal))
    (x : ℝ) (hP : cj ≠ 0#32 → PC (ix3 0 r c) = (x : EReal)) :
    subf (shapeCast S128x128 G shapeCasts_S1x128x128_S128x128) (mulf (shapeCast S128x128 S2 shapeCasts_S1x128x128_S128x128) (addf (extractStridedSlice S128x128 ![0, 0] (hPre GB) h) (hIn cj PC))) (ix2 r c)
      = ((g - s * ((∑ l : Fin 128, if l ≤ c then fg r l else 0) + if cj = 0#32 then 0 else x) : ℝ) : EReal) := by
  have e1 : (shapeCast S128x128 G shapeCasts_S1x128x128_S128x128 : FVec Ideal S128x128 .f32) (ix2 r c) = (g : EReal) := Eq.trans (b := G (ix3 0 r c)) (by pointwise) hg
  have e2 : (shapeCast S128x128 S2 shapeCasts_S1x128x128_S128x128 : FVec Ideal S128x128 .f32) (ix2 r c) = (s : EReal) := Eq.trans (b := S2 (ix3 0 r c)) (by pointwise) hs
  refine (congrArg₂ (fun u v : EReal => u - v) e1 (congrArg₂ (fun u v : EReal => u * v) e2
    (congrArg₂ (fun u v : EReal => u + v) (prefix_real GB fg hG h r c) (in_real cj PC r c x hP)))).trans ?_
  simp only [EReal.coe_sub, EReal.coe_mul, EReal.coe_add]

/-- A row block of a sum of products over both heads of a column block: the query's side. -/
theorem rowAcc_real (O : FVec Ideal S128x128 .f32) (D : FVec Ideal S1x128x256 .bf16) (K : FVec Ideal S1x256x128 .bf16) (fd fk : ℕ → ℕ → ℝ)
    (hD : ∀ (r : Fin 128) (l : Fin 256), D (ix3 0 r l) = ((fd r l : ℝ) : EReal)) (hK : ∀ (l : Fin 256) (c : Fin 128), K (ix3 0 l c) = ((fk l c : ℝ) : EReal)) (r c : Fin 128)
    (x : ℝ) (hO : O (ix2 r c) = (x : EReal)) :
    addf O (matmul dot_S128x256_S256x128_S128x128_1_0_0_1_n_n none (shapeCast S128x256 D shapeCasts_S1x128x256_S128x256 : FVec Ideal S128x256 .bf16)
      (shapeCast S256x128 K shapeCasts_S1x256x128_S256x128 : FVec Ideal S256x128 .bf16) (constant S128x128 FTy.f32 0#32)) (ix2 r c)
      = ((x + ∑ l : Fin 256, fd r l * fk l c : ℝ) : EReal) := by
  refine Eq.trans (b := O (ix2 r c) + ∑ l : Fin 256, D (ix3 0 r l) * K (ix3 0 l c)) (by pointwise) ?_
  rw [hO, EReal.coe_add, coe_sum]
  exact congrArg (fun u : EReal => x + u) (Finset.sum_congr rfl fun l _ => by rw [hD, hK, EReal.coe_mul])

/-- The same on the key's side. -/
theorem keyAcc_real (O : FVec Ideal S128x128 .f32) (D : FVec Ideal S1x256x128 .bf16) (K : FVec Ideal S1x256x128 .bf16) (fd fk : ℕ → ℕ → ℝ)
    (hD : ∀ (l : Fin 256) (r : Fin 128), D (ix3 0 l r) = ((fd l r : ℝ) : EReal)) (hK : ∀ (l : Fin 256) (c : Fin 128), K (ix3 0 l c) = ((fk l c : ℝ) : EReal)) (r c : Fin 128)
    (x : ℝ) (hO : O (ix2 r c) = (x : EReal)) :
    addf O (matmul dot_S256x128_S256x128_S128x128_0_0_1_1_n_n none (shapeCast S256x128 D shapeCasts_S1x256x128_S256x128 : FVec Ideal S256x128 .bf16)
      (shapeCast S256x128 K shapeCasts_S1x256x128_S256x128 : FVec Ideal S256x128 .bf16) (constant S128x128 FTy.f32 0#32)) (ix2 r c)
      = ((x + ∑ l : Fin 256, fd l r * fk l c : ℝ) : EReal) := by
  refine Eq.trans (b := O (ix2 r c) + ∑ l : Fin 256, D (ix3 0 l r) * K (ix3 0 l c)) (by pointwise) ?_
  rw [hO, EReal.coe_add, coe_sum]
  exact congrArg (fun u : EReal => x + u) (Finset.sum_congr rfl fun l _ => by rw [hD, hK, EReal.coe_mul])

/-- The mask's addend: nothing where the key lies before the query, minus infinity elsewhere. -/
theorem bias_real (v10 v11 : IVec S128x128 32) (i j : ℕ) (hi : i < 16) (hj : j < 16)
    (hv : ∀ o : S128x128.Idx, v10 o = BitVec.ofNat 32 (o 1).val) (hw : ∀ o : S128x128.Idx, v11 o = BitVec.ofNat 32 (o 0).val) (r c : Fin 128) :
    k0_pay14 (F := Ideal) v10 v11 (BitVec.ofNat 32 i) (BitVec.ofNat 32 j) (ix2 r c) = if j < i ∨ c < r then 0 else ⊥ := by
  refine Eq.trans (b := Scalar.select (IntOp.andi (Scalar.cmpi CmpIPredicate.sge (BitVec.ofNat 32 i) 0#32)
        (IntOp.ori (Scalar.cmpi CmpIPredicate.slt (BitVec.ofNat 32 j) (BitVec.ofNat 32 i)) (IntOp.cmpi CmpIPredicate.slt (v10 (ix2 r c)) (v11 (ix2 r c)))))
      (0 : EReal) (Named.named (F := Ideal) κ "mask" (φ := .f32) 4048155338#32)) (by pointwise [k0_pay14]) ?_
  rw [hv, hw]
  have e1 := (by decide +kernel : ∀ i : Fin 16, Scalar.cmpi CmpIPredicate.sge (BitVec.ofNat 32 i.val) 0#32 = 1#1) ⟨i, hi⟩
  have e2 := (by decide +kernel : ∀ i j : Fin 16, Scalar.cmpi CmpIPredicate.slt (BitVec.ofNat 32 j.val) (BitVec.ofNat 32 i.val) = if j.val < i.val then 1#1 else 0#1) ⟨i, hi⟩ ⟨j, hj⟩
  have e3 : IntOp.cmpi CmpIPredicate.slt (BitVec.ofNat 32 c.val) (BitVec.ofNat 32 r.val) = if c < r then 1#1 else 0#1 := lt_bits c r
  dsimp only at e1 e2
  refine (congrArg (fun b : BitVec 1 => Scalar.select b (0 : EReal) (Named.named (F := Ideal) κ "mask" (φ := .f32) 4048155338#32))
    (congrArg₂ IntOp.andi e1 (congrArg₂ IntOp.ori e2 e3))).trans ?_
  by_cases h1 : j < i <;> by_cases h2 : c < r <;> simp only [h1, h2, if_true, if_false, true_or, or_true, or_self] <;> rfl

end Cert.Proof.Attn
end
-- ==== Proof.AttnModel.lean ====
/- Hand-written, untrusted: the gradient of the stick-breaking attention over the reals, and its sums block by block. -/
module

public import proofs.«01_k».proof.Proof.AttnHead

@[expose] public section
set_option maxRecDepth 16384
noncomputable section

namespace Cert.Proof.Attn

open scoped BigOperators

/-- The four arguments, as real arrays. -/
structure Args where
  q : ℕ → ℕ → ℝ
  k : ℕ → ℕ → ℝ
  v : ℕ → ℕ → ℝ
  d : ℕ → ℕ → ℝ

namespace Args
variable (A : Args)

/-- The scaled queries. -/
def qs (I c : ℕ) : ℝ := A.q I c * (1 / 8)
/-- The score of query `I` and key `J` in head `n`. -/
def zR (n I J : ℕ) : ℝ := ∑ l : Fin 64, A.qs I (64 * n + l) * A.k J (64 * n + l)
/-- The softplus of the score, nothing where the key is masked. -/
def lR (n I J : ℕ) : ℝ := if J < I then spF (A.zR n I J) else 0
/-- The sigmoid of the score, nothing where the key is masked. -/
def sR (n I J : ℕ) : ℝ := if J < I then Real.exp (A.zR n I J - spF (A.zR n I J)) else 0
/-- The softplus summed from key `J` on. -/
def SR (n I J : ℕ) : ℝ := ∑ J' ∈ Finset.Ico J 2048, A.lR n I J'
/-- The attention weight. -/
def aR (n I J : ℕ) : ℝ := if J < I then Real.exp (A.zR n I J - A.SR n I J) else 0
/-- The weight's cotangent times the weight. -/
def gR (n I J : ℕ) : ℝ := (∑ l : Fin 64, A.d I (64 * n + l) * A.v J (64 * n + l)) * A.aR n I J
/-- Its sum over the keys before `J`. -/
def pR (n I J : ℕ) : ℝ := ∑ J' ∈ Finset.range J, A.gR n I J'
/-- The score's cotangent. -/
def dzR (n I J : ℕ) : ℝ := A.gR n I J - A.sR n I J * A.pR n I (J + 1)

/-- The saved sums, as the columns hold them: 16 key blocks of each of 8 heads. -/
def rcR (I lane : ℕ) : ℝ := A.SR (lane / 16) I (128 * (lane % 16 + 1))

end Args

/-- An array split by heads: of each pair of heads' columns, one row block holds the first head's and the next the second's. -/
def splitR (f : ℕ → ℕ → ℝ) (p t l : ℕ) : ℝ := if l / 64 = t / 128 % 2 then f (128 * (t / 256) + t % 128) (128 * p + l) else 0

theorem splitR_at (f : ℕ → ℕ → ℝ) (p i h r l : ℕ) (hh : h < 2) (hr : r < 128) :
    splitR f p (256 * i + 128 * h + r) l = if l / 64 = h then f (128 * i + r) (128 * p + l) else 0 := by
  unfold splitR
  rw [show (256 * i + 128 * h + r) / 128 % 2 = h by omega, show 128 * ((256 * i + 128 * h + r) / 256) + (256 * i + 128 * h + r) % 128 = 128 * i + r by omega]

theorem sum_two (n : ℕ) (f : ℕ → ℝ) : ∑ l : Fin (n + n), f l = (∑ l : Fin n, f l) + ∑ l : Fin n, f (n + l) := by
  rw [Fin.sum_univ_add]; rfl

theorem sum_half (f : ℕ → ℝ) (h : ℕ) (hh : h < 2) : ∑ l : Fin 128, (if l.val / 64 = h then f l else 0) = ∑ l : Fin 64, f (64 * h + l) := by
  refine (sum_two 64 (fun l => if l / 64 = h then f l else 0)).trans ?_
  rcases (by omega : h = 0 ∨ h = 1) with rfl | rfl
  · rw [Finset.sum_congr rfl (fun l (_ : l ∈ Finset.univ) => if_pos (by have := l.isLt; omega)),
      Finset.sum_eq_zero (s := Finset.univ) (f := fun l : Fin 64 => if (64 + l.val) / 64 = 0 then f (64 + l) else 0) (fun l _ => if_neg (by omega)), add_zero]
    exact Finset.sum_congr rfl fun l _ => by rw [Nat.mul_zero, Nat.zero_add]
  · rw [Finset.sum_eq_zero (s := Finset.univ) (f := fun l : Fin 64 => if l.val / 64 = 1 then f l else 0) (fun l _ => if_neg (by have := l.isLt; omega)), zero_add]
    exact Finset.sum_congr rfl fun l _ => if_pos (by have := l.isLt; omega)

/-- A product of one head over the columns of a pair of heads. -/
theorem sum_head (f g : ℕ → ℕ → ℝ) (p i h r J : ℕ) (hh : h < 2) (hr : r < 128) :
    ∑ l : Fin 128, splitR f p (256 * i + 128 * h + r) l * g J (128 * p + l)
      = ∑ l : Fin 64, f (128 * i + r) (64 * (2 * p + h) + l) * g J (64 * (2 * p + h) + l) := by
  have e : ∀ l : Fin 128, splitR f p (256 * i + 128 * h + r) l * g J (128 * p + l)
      = if l.val / 64 = h then f (128 * i + r) (128 * p + l) * g J (128 * p + l) else 0 := fun l => by
    rw [splitR_at f p i h r l hh hr]; split <;> simp
  rw [Finset.sum_congr rfl fun l _ => e l, sum_half (fun l => f (128 * i + r) (128 * p + l) * g J (128 * p + l)) h hh]
  exact Finset.sum_congr rfl fun l _ => by rw [show 128 * p + (64 * h + l.val) = 64 * (2 * p + h) + l.val by ring]

/-- A product over both heads' rows takes the head of the column. -/
theorem sum_pair (f : ℕ → ℕ → ℝ) (g : ℕ → ℕ → ℝ) (p i col : ℕ) (hc : col < 128) :
    ∑ l : Fin 256, f (l.val / 128) (l.val % 128) * splitR g p (256 * i + l) col
      = ∑ l : Fin 128, f (col / 64) l * g (128 * i + l) (128 * p + col) := by
  refine (sum_two 128 (fun l => f (l / 128) (l % 128) * splitR g p (256 * i + l) col)).trans ?_
  have e0 : ∀ l : Fin 128, splitR g p (256 * i + l) col = if col / 64 = 0 then g (128 * i + l) (128 * p + col) else 0 := fun l => by
    have := splitR_at g p i 0 l col (by omega) l.isLt
    rwa [Nat.mul_zero, Nat.add_zero] at this
  have e1 : ∀ l : Fin 128, splitR g p (256 * i + (128 + l)) col = if col / 64 = 1 then g (128 * i + l) (128 * p + col) else 0 := fun l => by
    have := splitR_at g p i 1 l col (by omega) l.isLt
    rwa [Nat.mul_one, Nat.add_assoc] at this
  rcases (by omega : col / 64 = 0 ∨ col / 64 = 1) with h | h
  · rw [h, Finset.sum_eq_zero (s := Finset.univ) (f := fun l : Fin 128 => f ((128 + l.val) / 128) ((128 + l.val) % 128) * splitR g p (256 * i + (128 + l)) col)
      (fun l _ => by rw [e1, h, if_neg (by omega), mul_zero]), add_zero]
    exact Finset.sum_congr rfl fun l _ => by
      rw [e0, h, if_pos rfl, show l.val / 128 = 0 by have := l.isLt; omega, Nat.mod_eq_of_lt l.isLt]
  · rw [h, Finset.sum_eq_zero (s := Finset.univ) (f := fun l : Fin 128 => f (l.val / 128) (l.val % 128) * splitR g p (256 * i + l) col)
      (fun l _ => by rw [e0, h, if_neg (by omega), mul_zero]), zero_add]
    exact Finset.sum_congr rfl fun l _ => by
      rw [e1, h, if_pos rfl, show (128 + l.val) / 128 = 1 by have := l.isLt; omega, show (128 + l.val) % 128 = l.val by have := l.isLt; omega]

theorem sum_upto (f : ℕ → ℝ) (c : Fin 128) : ∑ l : Fin 128, (if l ≤ c then f l else 0) = ∑ l ∈ Finset.range (c + 1), f l := by
  have : ∀ l : Fin 128, (if l ≤ c then f l else 0) = (fun l : ℕ => if l ≤ c.val then f l else 0) l := fun l => rfl
  rw [Finset.sum_congr rfl fun l _ => this l, Fin.sum_univ_eq_sum_range (fun l : ℕ => if l ≤ c.val then f l else 0) 128, ← Finset.sum_filter]
  exact Finset.sum_congr (by ext x; have := c.isLt; simp; omega) fun _ _ => rfl

theorem sum_from (f : ℕ → ℝ) (c : Fin 128) : ∑ l : Fin 128, (if c ≤ l then f l else 0) = ∑ l ∈ Finset.Ico c.val 128, f l := by
  have : ∀ l : Fin 128, (if c ≤ l then f l else 0) = (fun l : ℕ => if c.val ≤ l then f l else 0) l := fun l => rfl
  rw [Finset.sum_congr rfl fun l _ => this l, Fin.sum_univ_eq_sum_range (fun l : ℕ => if c.val ≤ l then f l else 0) 128, ← Finset.sum_filter]
  exact Finset.sum_congr (by ext x; have := c.isLt; simp; omega) fun _ _ => rfl

namespace Args
variable (A : Args)

theorem pR_upto (n I j : ℕ) (c : Fin 128) :
    (∑ l : Fin 128, (if l ≤ c then A.gR n I (128 * j + l) else 0)) + A.pR n I (128 * j) = A.pR n I (128 * j + c + 1) := by
  rw [sum_upto (fun l => A.gR n I (128 * j + l)) c, add_comm]; unfold pR
  rw [show 128 * j + c.val + 1 = 128 * j + (c.val + 1) by ring, Finset.sum_range_add (fun J => A.gR n I J) (128 * j) (c.val + 1)]

theorem pR_total (n I j : ℕ) : A.pR n I (128 * j) + ∑ l : Fin 128, A.gR n I (128 * j + l) = A.pR n I (128 * (j + 1)) := by
  rw [Fin.sum_univ_eq_sum_range (fun l => A.gR n I (128 * j + l)) 128]; unfold pR
  rw [show 128 * (j + 1) = 128 * j + 128 by ring, Finset.sum_range_add]

theorem SR_from (n I j : ℕ) (hj : j < 16) (c : Fin 128) :
    (∑ l : Fin 128, (if c ≤ l then A.lR n I (128 * j + l) else 0)) + A.SR n I (128 * (j + 1)) = A.SR n I (128 * j + c) := by
  rw [sum_from (fun l => A.lR n I (128 * j + l)) c]; unfold SR
  have := c.isLt
  rw [Finset.sum_Ico_add' (fun x => A.lR n I x) c.val 128 (128 * j) |> fun h => (Finset.sum_congr rfl fun l _ => by rw [add_comm]).trans h,
    show c.val + 128 * j = 128 * j + c.val by ring, show 128 + 128 * j = 128 * (j + 1) by ring]
  exact Finset.sum_Ico_consecutive _ (by omega) (by omega)

theorem lane_rc (n I j : ℕ) (hn : n < 8) (hj : j < 16) : laneSum (A.rcR I) (BitVec.ofNat 32 (16 * n + j)) = A.SR n I (128 * (j + 1)) := by
  unfold laneSum
  rw [Finset.sum_eq_single (⟨16 * n + j, by omega⟩ : Fin 128)]
  · rw [if_pos rfl]; unfold rcR
    rw [show (16 * n + j) / 16 = n by omega, show (16 * n + j) % 16 = j by omega]
  · intro l _ hl
    refine if_neg fun h => hl (Fin.ext ?_)
    have := congrArg BitVec.toNat h
    have hlt := l.isLt
    simp only [BitVec.toNat_ofNat] at this
    rw [Nat.mod_eq_of_lt (by omega), Nat.mod_eq_of_lt (by omega)] at this
    exact this
  · exact fun h => absurd (Finset.mem_univ _) h

end Args

end Cert.Proof.Attn
end
-- ==== Proof.AttnRead.lean ====
/- Hand-written, untrusted: the buffers of the attention's backward call read after one step's stores. -/
module

public import proofs.«01_k».proof.Proof.AttnModel
public import proofs.«01_k».proof.Proof.AttnTrip
public import Idealize.ShloMosaic.Lib.WritesUnit

@[expose] public section
set_option maxRecDepth 16384
noncomputable section

namespace Cert.Proof.Attn

open Cert.AttnIdeal Cert.AttnIdeal.Gen
open Idealize.ShloMosaic TcCoe Tactic
open Idealize.SL.Sem

theorem cast_block {α : Type} (w : S128x128.Idx → α) (hc) (o : S1x128x128.Idx) : shapeCast S1x128x128 w hc o = w (ix2 (o 1) (o 2)) := by
  pointwise

section
variable {sg : RefSig} {κ' : Kind} {sp : Space} {α : EltTy → Type} {e : EltTy}

/-- A block stored at `![n, s, t]`, read at an index. -/
theorem read_block {D : Fin 3 → ℕ} (v : View sg κ' sp ⟨3, D⟩ e) (f : v.ty.Contents α) (n s t : ℕ) (inb) (w : S128x128.Idx → α e) (hc)
    (L : List (View.Piece α ⟨3, D⟩ e)) (y : (⟨3, D⟩ : Shape).Idx) :
    v.read α (v.writes α f (⟨Rect.unit (s := ⟨3, D⟩) ![n, s, t] S1x128x128.size inb, shapeCast S1x128x128 w hc⟩ :: L)) y
      = if h : (y 0).val = n ∧ (s ≤ (y 1).val ∧ (y 1).val < s + 128) ∧ (t ≤ (y 2).val ∧ (y 2).val < t + 128) then
          w (ix2 ⟨(y 1).val - s, by omega⟩ ⟨(y 2).val - t, by omega⟩)
        else v.read α (v.writes α f L) y := by
  split
  · rename_i h
    have hh : ∀ a : Fin 3, (![n, s, t] : Fin 3 → ℕ) a ≤ (y a).val ∧ (y a).val < (![n, s, t] : Fin 3 → ℕ) a + (![1, 128, 128] : Fin 3 → ℕ) a := by
      rw [Fin.forall_fin_succ, Fin.forall_fin_two]
      exact ⟨⟨h.1.ge, by show _ < n + 1; omega⟩, h.2.1, h.2.2⟩
    refine (View.read_writes_cons_unit v f inb _ L y rfl).trans ((dif_pos hh).trans ?_)
    refine Eq.trans (b := w (ix2 (Rect.unitLocal (s := ⟨3, D⟩) (off := ![n, s, t]) (size := S1x128x128.size) y hh 1) (Rect.unitLocal (s := ⟨3, D⟩) (off := ![n, s, t]) (size := S1x128x128.size) y hh 2))) ?_ rfl
    generalize Rect.unitLocal (s := ⟨3, D⟩) (off := ![n, s, t]) (size := S1x128x128.size) y hh = o
    exact cast_block w hc o
  · rename_i h
    refine (View.read_writes_cons_unit v f inb _ L y rfl).trans (dif_neg fun hh => h ?_)
    have h0 := hh 0; have h1 := hh 1; have h2 := hh 2
    exact ⟨by have : (y 0).val < n + 1 := h0.2; have : n ≤ (y 0).val := h0.1; omega, h1, h2⟩

/-- A block stored at `![s, t]`, read at an index. -/
theorem read_panel {D : Fin 2 → ℕ} (v : View sg κ' sp ⟨2, D⟩ e) (f : v.ty.Contents α) (s t : ℕ) (inb) (w : S128x128.Idx → α e) (hc)
    (L : List (View.Piece α ⟨2, D⟩ e)) (y : (⟨2, D⟩ : Shape).Idx) :
    v.read α (v.writes α f (⟨Rect.unit (s := ⟨2, D⟩) ![s, t] S128x128.size inb, shapeCast S128x128 w hc⟩ :: L)) y
      = if h : (s ≤ (y 0).val ∧ (y 0).val < s + 128) ∧ (t ≤ (y 1).val ∧ (y 1).val < t + 128) then
          w (ix2 ⟨(y 0).val - s, by omega⟩ ⟨(y 1).val - t, by omega⟩)
        else v.read α (v.writes α f L) y := by
  split
  · rename_i h
    have hh : ∀ a : Fin 2, (![s, t] : Fin 2 → ℕ) a ≤ (y a).val ∧ (y a).val < (![s, t] : Fin 2 → ℕ) a + (![128, 128] : Fin 2 → ℕ) a := by
      rw [Fin.forall_fin_two]; exact h
    refine (View.read_writes_cons_unit v f inb _ L y rfl).trans ((dif_pos hh).trans ?_)
    refine Eq.trans (b := w (ix2 (Rect.unitLocal (s := ⟨2, D⟩) (off := ![s, t]) (size := S128x128.size) y hh 0) (Rect.unitLocal (s := ⟨2, D⟩) (off := ![s, t]) (size := S128x128.size) y hh 1))) ?_ rfl
    generalize Rect.unitLocal (s := ⟨2, D⟩) (off := ![s, t]) (size := S128x128.size) y hh = o
    exact (congrFun (shapeCast_self w hc) o).trans (congrArg w (eq_ix2 o))
  · rename_i h
    refine (View.read_writes_cons_unit v f inb _ L y rfl).trans (dif_neg fun hh => h ?_)
    exact ⟨hh 0, hh 1⟩

/-- One stored block, where the contents are to be a function of the coordinates. -/
theorem store_block {D : Fin 3 → ℕ} (v : View sg κ' sp ⟨3, D⟩ e) (f : v.ty.Contents α) (n s t : ℕ) (inb) (w : S128x128.Idx → α e) (hc)
    (L : List (View.Piece α ⟨3, D⟩ e)) (G : ℕ → ℕ → ℕ → α e) (y : (⟨3, D⟩ : Shape).Idx) (H : ∀ r c : Fin 128, w (ix2 r c) = G n (s + r) (t + c))
    (rest : ¬((y 0).val = n ∧ (s ≤ (y 1).val ∧ (y 1).val < s + 128) ∧ (t ≤ (y 2).val ∧ (y 2).val < t + 128)) → v.read α (v.writes α f L) y = G (y 0) (y 1) (y 2)) :
    v.read α (v.writes α f (⟨Rect.unit (s := ⟨3, D⟩) ![n, s, t] S1x128x128.size inb, shapeCast S1x128x128 w hc⟩ :: L)) y = G (y 0) (y 1) (y 2) := by
  rw [read_block]; split
  · rename_i h
    rw [H, h.1]; dsimp only
    rw [Nat.add_sub_cancel' h.2.1.1, Nat.add_sub_cancel' h.2.2.1]
  · rename_i h; exact rest h

/-- One stored panel, where the contents are to be a function of the coordinates. -/
theorem store_panel {D : Fin 2 → ℕ} (v : View sg κ' sp ⟨2, D⟩ e) (f : v.ty.Contents α) (s t : ℕ) (inb) (w : S128x128.Idx → α e) (hc)
    (L : List (View.Piece α ⟨2, D⟩ e)) (G : ℕ → ℕ → α e) (y : (⟨2, D⟩ : Shape).Idx) (H : ∀ r c : Fin 128, w (ix2 r c) = G (s + r) (t + c))
    (rest : ¬((s ≤ (y 0).val ∧ (y 0).val < s + 128) ∧ (t ≤ (y 1).val ∧ (y 1).val < t + 128)) → v.read α (v.writes α f L) y = G (y 0) (y 1)) :
    v.read α (v.writes α f (⟨Rect.unit (s := ⟨2, D⟩) ![s, t] S128x128.size inb, shapeCast S128x128 w hc⟩ :: L)) y = G (y 0) (y 1) := by
  rw [read_panel]; split
  · rename_i h
    rw [H]; dsimp only
    rw [Nat.add_sub_cancel' h.1.1, Nat.add_sub_cancel' h.2.1]
  · rename_i h; exact rest h

/-- The eight heads' blocks of a buffer, read at an index. -/
theorem read8 (v : View sg κ' sp S8x128x128 e) (f : v.ty.Contents α) (G : ℕ → ℕ → ℕ → α e) (w0 w1 w2 w3 w4 w5 w6 w7 : S128x128.Idx → α e) (i0) (i1) (i2) (i3) (i4) (i5) (i6) (i7) (c0) (c1) (c2) (c3) (c4) (c5) (c6) (c7)
    (H0 : ∀ r c : Fin 128, w0 (ix2 r c) = G 0 r c) (H1 : ∀ r c : Fin 128, w1 (ix2 r c) = G 1 r c) (H2 : ∀ r c : Fin 128, w2 (ix2 r c) = G 2 r c) (H3 : ∀ r c : Fin 128, w3 (ix2 r c) = G 3 r c) (H4 : ∀ r c : Fin 128, w4 (ix2 r c) = G 4 r c) (H5 : ∀ r c : Fin 128, w5 (ix2 r c) = G 5 r c) (H6 : ∀ r c : Fin 128, w6 (ix2 r c) = G 6 r c) (H7 : ∀ r c : Fin 128, w7 (ix2 r c) = G 7 r c) (y : S8x128x128.Idx) :
    v.read α (v.writes α f [⟨Rect.unit (s := S8x128x128) ![7, 0, 0] S1x128x128.size i7, shapeCast S1x128x128 w7 c7⟩, ⟨Rect.unit (s := S8x128x128) ![6, 0, 0] S1x128x128.size i6, shapeCast S1x128x128 w6 c6⟩, ⟨Rect.unit (s := S8x128x128) ![5, 0, 0] S1x128x128.size i5, shapeCast S1x128x128 w5 c5⟩, ⟨Rect.unit (s := S8x128x128) ![4, 0, 0] S1x128x128.size i4, shapeCast S1x128x128 w4 c4⟩, ⟨Rect.unit (s := S8x128x128) ![3, 0, 0] S1x128x128.size i3, shapeCast S1x128x128 w3 c3⟩, ⟨Rect.unit (s := S8x128x128) ![2, 0, 0] S1x128x128.size i2, shapeCast S1x128x128 w2 c2⟩, ⟨Rect.unit (s := S8x128x128) ![1, 0, 0] S1x128x128.size i1, shapeCast S1x128x128 w1 c1⟩, ⟨Rect.unit (s := S8x128x128) ![0, 0, 0] S1x128x128.size i0, shapeCast S1x128x128 w0 c0⟩]) y = G (y 0) (y 1) (y 2) := by
  refine store_block v f _ _ _ i7 w7 c7 _ (fun a b c => G a b c) y (fun r c => (H7 r c).trans (by simp only [Nat.zero_add])) fun h7 => ?_
  refine store_block v f _ _ _ i6 w6 c6 _ (fun a b c => G a b c) y (fun r c => (H6 r c).trans (by simp only [Nat.zero_add])) fun h6 => ?_
  refine store_block v f _ _ _ i5 w5 c5 _ (fun a b c => G a b c) y (fun r c => (H5 r c).trans (by simp only [Nat.zero_add])) fun h5 => ?_
  refine store_block v f _ _ _ i4 w4 c4 _ (fun a b c => G a b c) y (fun r c => (H4 r c).trans (by simp only [Nat.zero_add])) fun h4 => ?_
  refine store_block v f _ _ _ i3 w3 c3 _ (fun a b c => G a b c) y (fun r c => (H3 r c).trans (by simp only [Nat.zero_add])) fun h3 => ?_
  refine store_block v f _ _ _ i2 w2 c2 _ (fun a b c => G a b c) y (fun r c => (H2 r c).trans (by simp only [Nat.zero_add])) fun h2 => ?_
  refine store_block v f _ _ _ i1 w1 c1 _ (fun a b c => G a b c) y (fun r c => (H1 r c).trans (by simp only [Nat.zero_add])) fun h1 => ?_
  refine store_block v f _ _ _ i0 w0 c0 _ (fun a b c => G a b c) y (fun r c => (H0 r c).trans (by simp only [Nat.zero_add])) fun h0 => ?_
  exfalso; have := (y 0).isLt; have := (y 1).isLt; have := (y 2).isLt
  simp only [Matrix.cons_val_zero, Matrix.cons_val_one, Matrix.cons_val] at *
  omega
/-- The eight heads' blocks of a buffer that holds two heads' rows under each other. -/
theorem readRows (v : View sg κ' sp S4x256x128 e) (f : v.ty.Contents α) (G : ℕ → ℕ → ℕ → α e) (w0 w1 w2 w3 w4 w5 w6 w7 : S128x128.Idx → α e) (i0) (i1) (i2) (i3) (i4) (i5) (i6) (i7) (c0) (c1) (c2) (c3) (c4) (c5) (c6) (c7)
    (H0 : ∀ r c : Fin 128, w0 (ix2 r c) = G 0 r c) (H1 : ∀ r c : Fin 128, w1 (ix2 r c) = G 1 r c) (H2 : ∀ r c : Fin 128, w2 (ix2 r c) = G 2 r c) (H3 : ∀ r c : Fin 128, w3 (ix2 r c) = G 3 r c) (H4 : ∀ r c : Fin 128, w4 (ix2 r c) = G 4 r c) (H5 : ∀ r c : Fin 128, w5 (ix2 r c) = G 5 r c) (H6 : ∀ r c : Fin 128, w6 (ix2 r c) = G 6 r c) (H7 : ∀ r c : Fin 128, w7 (ix2 r c) = G 7 r c) (y : S4x256x128.Idx) :
    v.read α (v.writes α f [⟨Rect.unit (s := S4x256x128) ![3, 128, 0] S1x128x128.size i7, shapeCast S1x128x128 w7 c7⟩, ⟨Rect.unit (s := S4x256x128) ![3, 0, 0] S1x128x128.size i6, shapeCast S1x128x128 w6 c6⟩, ⟨Rect.unit (s := S4x256x128) ![2, 128, 0] S1x128x128.size i5, shapeCast S1x128x128 w5 c5⟩, ⟨Rect.unit (s := S4x256x128) ![2, 0, 0] S1x128x128.size i4, shapeCast S1x128x128 w4 c4⟩, ⟨Rect.unit (s := S4x256x128) ![1, 128, 0] S1x128x128.size i3, shapeCast S1x128x128 w3 c3⟩, ⟨Rect.unit (s := S4x256x128) ![1, 0, 0] S1x128x128.size i2, shapeCast S1x128x128 w2 c2⟩, ⟨Rect.unit (s := S4x256x128) ![0, 128, 0] S1x128x128.size i1, shapeCast S1x128x128 w1 c1⟩, ⟨Rect.unit (s := S4x256x128) ![0, 0, 0] S1x128x128.size i0, shapeCast S1x128x128 w0 c0⟩]) y = G (2 * (y 0).val + (y 1).val / 128) ((y 1).val % 128) (y 2) := by
  refine store_block v f _ _ _ i7 w7 c7 _ (fun a b c => G (2 * a + b / 128) (b % 128) c) y (fun r c => (H7 r c).trans (by simp only [Nat.zero_add]; congr 1 <;> omega)) fun h7 => ?_
  refine store_block v f _ _ _ i6 w6 c6 _ (fun a b c => G (2 * a + b / 128) (b % 128) c) y (fun r c => (H6 r c).trans (by simp only [Nat.zero_add]; congr 1 <;> omega)) fun h6 => ?_
  refine store_block v f _ _ _ i5 w5 c5 _ (fun a b c => G (2 * a + b / 128) (b % 128) c) y (fun r c => (H5 r c).trans (by simp only [Nat.zero_add]; congr 1 <;> omega)) fun h5 => ?_
  refine store_block v f _ _ _ i4 w4 c4 _ (fun a b c => G (2 * a + b / 128) (b % 128) c) y (fun r c => (H4 r c).trans (by simp only [Nat.zero_add]; congr 1 <;> omega)) fun h4 => ?_
  refine store_block v f _ _ _ i3 w3 c3 _ (fun a b c => G (2 * a + b / 128) (b % 128) c) y (fun r c => (H3 r c).trans (by simp only [Nat.zero_add]; congr 1 <;> omega)) fun h3 => ?_
  refine store_block v f _ _ _ i2 w2 c2 _ (fun a b c => G (2 * a + b / 128) (b % 128) c) y (fun r c => (H2 r c).trans (by simp only [Nat.zero_add]; congr 1 <;> omega)) fun h2 => ?_
  refine store_block v f _ _ _ i1 w1 c1 _ (fun a b c => G (2 * a + b / 128) (b % 128) c) y (fun r c => (H1 r c).trans (by simp only [Nat.zero_add]; congr 1 <;> omega)) fun h1 => ?_
  refine store_block v f _ _ _ i0 w0 c0 _ (fun a b c => G (2 * a + b / 128) (b % 128) c) y (fun r c => (H0 r c).trans (by simp only [Nat.zero_add]; congr 1 <;> omega)) fun h0 => ?_
  exfalso; have := (y 0).isLt; have := (y 1).isLt; have := (y 2).isLt
  simp only [Matrix.cons_val_zero, Matrix.cons_val_one, Matrix.cons_val] at *
  omega
/-- The eight heads' blocks of a buffer that holds two heads' columns beside each other. -/
theorem readCols (v : View sg κ' sp S4x128x256 e) (f : v.ty.Contents α) (G : ℕ → ℕ → ℕ → α e) (w0 w1 w2 w3 w4 w5 w6 w7 : S128x128.Idx → α e) (i0) (i1) (i2) (i3) (i4) (i5) (i6) (i7) (c0) (c1) (c2) (c3) (c4) (c5) (c6) (c7)
    (H0 : ∀ r c : Fin 128, w0 (ix2 r c) = G 0 r c) (H1 : ∀ r c : Fin 128, w1 (ix2 r c) = G 1 r c) (H2 : ∀ r c : Fin 128, w2 (ix2 r c) = G 2 r c) (H3 : ∀ r c : Fin 128, w3 (ix2 r c) = G 3 r c) (H4 : ∀ r c : Fin 128, w4 (ix2 r c) = G 4 r c) (H5 : ∀ r c : Fin 128, w5 (ix2 r c) = G 5 r c) (H6 : ∀ r c : Fin 128, w6 (ix2 r c) = G 6 r c) (H7 : ∀ r c : Fin 128, w7 (ix2 r c) = G 7 r c) (y : S4x128x256.Idx) :
    v.read α (v.writes α f [⟨Rect.unit (s := S4x128x256) ![3, 0, 128] S1x128x128.size i7, shapeCast S1x128x128 w7 c7⟩, ⟨Rect.unit (s := S4x128x256) ![3, 0, 0] S1x128x128.size i6, shapeCast S1x128x128 w6 c6⟩, ⟨Rect.unit (s := S4x128x256) ![2, 0, 128] S1x128x128.size i5, shapeCast S1x128x128 w5 c5⟩, ⟨Rect.unit (s := S4x128x256) ![2, 0, 0] S1x128x128.size i4, shapeCast S1x128x128 w4 c4⟩, ⟨Rect.unit (s := S4x128x256) ![1, 0, 128] S1x128x128.size i3, shapeCast S1x128x128 w3 c3⟩, ⟨Rect.unit (s := S4x128x256) ![1, 0, 0] S1x128x128.size i2, shapeCast S1x128x128 w2 c2⟩, ⟨Rect.unit (s := S4x128x256) ![0, 0, 128] S1x128x128.size i1, shapeCast S1x128x128 w1 c1⟩, ⟨Rect.unit (s := S4x128x256) ![0, 0, 0] S1x128x128.size i0, shapeCast S1x128x128 w0 c0⟩]) y = G (2 * (y 0).val + (y 2).val / 128) (y 1) ((y 2).val % 128) := by
  refine store_block v f _ _ _ i7 w7 c7 _ (fun a b c => G (2 * a + c / 128) b (c % 128)) y (fun r c => (H7 r c).trans (by simp only [Nat.zero_add]; congr 1 <;> omega)) fun h7 => ?_
  refine store_block v f _ _ _ i6 w6 c6 _ (fun a b c => G (2 * a + c / 128) b (c % 128)) y (fun r c => (H6 r c).trans (by simp only [Nat.zero_add]; congr 1 <;> omega)) fun h6 => ?_
  refine store_block v f _ _ _ i5 w5 c5 _ (fun a b c => G (2 * a + c / 128) b (c % 128)) y (fun r c => (H5 r c).trans (by simp only [Nat.zero_add]; congr 1 <;> omega)) fun h5 => ?_
  refine store_block v f _ _ _ i4 w4 c4 _ (fun a b c => G (2 * a + c / 128) b (c % 128)) y (fun r c => (H4 r c).trans (by simp only [Nat.zero_add]; congr 1 <;> omega)) fun h4 => ?_
  refine store_block v f _ _ _ i3 w3 c3 _ (fun a b c => G (2 * a + c / 128) b (c % 128)) y (fun r c => (H3 r c).trans (by simp only [Nat.zero_add]; congr 1 <;> omega)) fun h3 => ?_
  refine store_block v f _ _ _ i2 w2 c2 _ (fun a b c => G (2 * a + c / 128) b (c % 128)) y (fun r c => (H2 r c).trans (by simp only [Nat.zero_add]; congr 1 <;> omega)) fun h2 => ?_
  refine store_block v f _ _ _ i1 w1 c1 _ (fun a b c => G (2 * a + c / 128) b (c % 128)) y (fun r c => (H1 r c).trans (by simp only [Nat.zero_add]; congr 1 <;> omega)) fun h1 => ?_
  refine store_block v f _ _ _ i0 w0 c0 _ (fun a b c => G (2 * a + c / 128) b (c % 128)) y (fun r c => (H0 r c).trans (by simp only [Nat.zero_add]; congr 1 <;> omega)) fun h0 => ?_
  exfalso; have := (y 0).isLt; have := (y 1).isLt; have := (y 2).isLt
  simp only [Matrix.cons_val_zero, Matrix.cons_val_one, Matrix.cons_val] at *
  omega
/-- A row block of an accumulator after one step's four stores. -/
theorem readAcc (v : View sg κ' sp S2048x512 e) (f : v.ty.Contents α) (G : ℕ → ℕ → α e) (t : ℕ) (w0 w1 w2 w3 : S128x128.Idx → α e) (i0) (i1) (i2) (i3) (c0) (c1) (c2) (c3)
    (H0 : ∀ r c : Fin 128, w0 (ix2 r c) = G (t + r) (0 + c)) (H1 : ∀ r c : Fin 128, w1 (ix2 r c) = G (t + r) (128 + c)) (H2 : ∀ r c : Fin 128, w2 (ix2 r c) = G (t + r) (256 + c)) (H3 : ∀ r c : Fin 128, w3 (ix2 r c) = G (t + r) (384 + c)) (y : S2048x512.Idx)
    (Hf : ¬(t ≤ (y 0).val ∧ (y 0).val < t + 128) → v.read α f y = G (y 0) (y 1)) :
    v.read α (v.writes α f [⟨Rect.unit (s := S2048x512) ![t, 384] S128x128.size i3, shapeCast S128x128 w3 c3⟩, ⟨Rect.unit (s := S2048x512) ![t, 256] S128x128.size i2, shapeCast S128x128 w2 c2⟩, ⟨Rect.unit (s := S2048x512) ![t, 128] S128x128.size i1, shapeCast S128x128 w1 c1⟩, ⟨Rect.unit (s := S2048x512) ![t, 0] S128x128.size i0, shapeCast S128x128 w0 c0⟩]) y = G (y 0) (y 1) := by
  refine store_panel v f _ _ i3 w3 c3 _ G y H3 fun h3 => ?_
  refine store_panel v f _ _ i2 w2 c2 _ G y H2 fun h2 => ?_
  refine store_panel v f _ _ i1 w1 c1 _ G y H1 fun h1 => ?_
  refine store_panel v f _ _ i0 w0 c0 _ G y H0 fun h0 => ?_
  refine Hf ?_; have := (y 1).isLt
  simp only [Matrix.cons_val_zero, Matrix.cons_val_one, Matrix.cons_val] at *
  omega

end

end Cert.Proof.Attn
end
-- ==== Proof.AttnStep.lean ====
/- Hand-written, untrusted: one step of the attention's backward call, over the reals. -/
module

public import proofs.«01_k».proof.Proof.AttnRead

@[expose] public section
set_option maxRecDepth 16384
noncomputable section

namespace Cert.Proof.Attn

open Cert.AttnIdeal Cert.AttnIdeal.Gen
open Idealize.ShloMosaic TcCoe Tactic
open Idealize.SL.Sem

/-- A pair of a query block and a key block, or none. -/
abbrev Pair : Type := Option (ℕ × ℕ)

/-- The word that names a pair's query block. -/
def encI : Pair → BitVec 32
  | none => 4294967295#32
  | some p => BitVec.ofNat 32 p.1
/-- The word that names a pair's key block. -/
def encJ : Pair → BitVec 32
  | none => 4294967295#32
  | some p => BitVec.ofNat 32 p.2
/-- The query block a pair's word is read as. -/
def bI : Pair → ℕ
  | none => 0
  | some p => p.1
/-- The key block a pair's word is read as. -/
def bJ : Pair → ℕ
  | none => 0
  | some p => p.2
/-- A pair the program visits. -/
def Visited : Pair → Prop
  | none => True
  | some p => p.1 < 16 ∧ p.2 ≤ p.1

/-- A function of head, query and key, on a pair's block. -/
def onR (f : ℕ → ℕ → ℕ → ℝ) (a : Pair) (n r c : ℕ) : ℝ := match a with
  | none => 0
  | some p => f n (128 * p.1 + r) (128 * p.2 + c)

/-- A pair's block of scores. -/
def zE (A : Args) (a : Pair) (n r c : ℕ) : EReal := match a with
  | none => ⊥
  | some p => zV (128 * p.2 + c < 128 * p.1 + r) (A.zR n (128 * p.1 + r) (128 * p.2 + c))

/-- A word that names block `n`, or names none and is read as the first. -/
def Blk (w : BitVec 32) (n : ℕ) : Prop := (w = 4294967295#32 ∧ n = 0) ∨ (n < 16 ∧ w = BitVec.ofNat 32 n)

theorem blkI (a : Pair) (h : Visited a) : Blk (encI a) (bI a) := by
  cases a with
  | none => exact .inl ⟨rfl, rfl⟩
  | some p => exact .inr ⟨h.1, rfl⟩
theorem blkJ (a : Pair) (h : Visited a) : Blk (encJ a) (bJ a) := by
  cases a with
  | none => exact .inl ⟨rfl, rfl⟩
  | some p => exact .inr ⟨lt_of_le_of_lt h.2 h.1, rfl⟩

theorem off_row {w : BitVec 32} {n : ℕ} (h : Blk w n) : BitVec.toNat (Scalar.indexCast (Scalar.muli (Scalar.maxsi w 0#32) 128#32)) = 128 * n := by
  rcases h with ⟨rfl, rfl⟩ | ⟨h, rfl⟩
  · decide
  · exact (by decide +kernel : ∀ n : Fin 16, BitVec.toNat (Scalar.indexCast (Scalar.muli (Scalar.maxsi (BitVec.ofNat 32 n.val) 0#32) 128#32)) = 128 * n.val) ⟨n, h⟩
theorem off_split {w : BitVec 32} {n : ℕ} (h : Blk w n) : BitVec.toNat (Scalar.indexCast (Scalar.muli (Scalar.muli (Scalar.maxsi w 0#32) 2#32) 128#32)) = 256 * n := by
  rcases h with ⟨rfl, rfl⟩ | ⟨h, rfl⟩
  · decide
  · exact (by decide +kernel : ∀ n : Fin 16, BitVec.toNat (Scalar.indexCast (Scalar.muli (Scalar.muli (Scalar.maxsi (BitVec.ofNat 32 n.val) 0#32) 2#32) 128#32)) = 256 * n.val) ⟨n, h⟩
theorem off_half {w : BitVec 32} {n : ℕ} (h : Blk w n) (k : Fin 2) :
    BitVec.toNat (Scalar.indexCast (Scalar.addi (Scalar.muli (Scalar.muli (Scalar.maxsi w 0#32) 2#32) 128#32) (BitVec.ofNat 32 (128 * k.val)))) = 256 * n + 128 * k.val := by
  rcases h with ⟨rfl, rfl⟩ | ⟨h, rfl⟩
  · revert k; decide +kernel
  · exact (by decide +kernel : ∀ (n : Fin 16) (k : Fin 2), BitVec.toNat (Scalar.indexCast (Scalar.addi (Scalar.muli (Scalar.muli (Scalar.maxsi (BitVec.ofNat 32 n.val) 0#32) 2#32) 128#32) (BitVec.ofNat 32 (128 * k.val)))) = 256 * n.val + 128 * k.val) ⟨n, h⟩ k

/-! ## Loads -/

/-- What the buffers that a step only reads hold. -/
structure InsOk (A : Args) (X : Ins Ideal) : Prop where
  qm : ∀ o : S4x4096x128.Idx, X.qm o = ((splitR A.qs (o 0) (o 1) (o 2) : ℝ) : EReal)
  km : ∀ o : S4x4096x128.Idx, X.km o = ((splitR A.k (o 0) (o 1) (o 2) : ℝ) : EReal)
  dm : ∀ o : S4x4096x128.Idx, X.dm o = ((splitR A.d (o 0) (o 1) (o 2) : ℝ) : EReal)
  k : ∀ o : S2048x512.Idx, X.k o = ((A.k (o 0) (o 1) : ℝ) : EReal)
  v : ∀ o : S2048x512.Idx, X.v o = ((A.v (o 0) (o 1) : ℝ) : EReal)
  rc : ∀ o : S2048x128.Idx, X.rc o = ((A.rcR (o 0) (o 1) : ℝ) : EReal)

theorem ldR3 {D : Fin 3 → ℕ} {e : EltTy} {X : (⟨3, D⟩ : Shape).Idx → Elt Ideal e} (f : ℕ → ℕ → ℕ → Elt Ideal e) (hX : ∀ o, X o = f (o 0) (o 1) (o 2))
    (a b c : ℕ) (size : Fin 3 → ℕ) (inb) (x : (Rect.unit (s := ⟨3, D⟩) ![a, b, c] size inb).shape.Idx) :
    View.ld X (Rect.unit (s := ⟨3, D⟩) ![a, b, c] size inb) x = f (a + (x 0).val) (b + (x 1).val) (c + (x 2).val) := by
  refine (hX _).trans ?_
  show f (a + 1 * (x 0).val) (b + 1 * (x 1).val) (c + 1 * (x 2).val) = _
  rw [Nat.one_mul, Nat.one_mul, Nat.one_mul]

theorem ldR2 {D : Fin 2 → ℕ} {e : EltTy} {X : (⟨2, D⟩ : Shape).Idx → Elt Ideal e} (f : ℕ → ℕ → Elt Ideal e) (hX : ∀ o, X o = f (o 0) (o 1))
    (a b : ℕ) (size : Fin 2 → ℕ) (inb) (x : (Rect.unit (s := ⟨2, D⟩) ![a, b] size inb).shape.Idx) :
    View.ld X (Rect.unit (s := ⟨2, D⟩) ![a, b] size inb) x = f (a + (x 0).val) (b + (x 1).val) := by
  refine (hX _).trans ?_
  show f (a + 1 * (x 0).val) (b + 1 * (x 1).val) = _
  rw [Nat.one_mul, Nat.one_mul]

/-! ## The heads of a step -/

section
variable {A : Args} {X : Ins Ideal} (hX : InsOk A X)
include hX

/-- The scores of a pair's block. -/
theorem score_step (i j : ℕ) (hj : j ≤ i) (n p t u cc : ℕ) (hp : p = n / 2) (ht : t = 256 * i + 128 * (n % 2)) (hu : u = 128 * j) (hcc : cc = 128 * (n / 2))
    (inb) (inb') (b : FVec Ideal S128x128 .f32) (r c : Fin 128) (hb : b (ix2 r c) = if j < i ∨ c < r then 0 else ⊥) :
    hScore (View.ld X.qm (Rect.unit (s := S4x4096x128) ![p, t, 0] S1x128x128.size inb)) (View.ld X.k (Rect.unit (s := S2048x512) ![u, cc] S128x128.size inb')) b (ix2 r c)
      = zE A (some (i, j)) n r c := by
  subst hp ht hu hcc
  refine (score_real _ _ b (fun r l => splitR A.qs (n / 2) (256 * i + 128 * (n % 2) + r) l) (fun c l => A.k (128 * j + c) (128 * (n / 2) + l))
    (fun r l => (ldR3 (X := X.qm) (fun a b c => ((splitR A.qs a b c : ℝ) : EReal)) hX.qm _ _ _ _ _ _).trans (by simp only [Nat.zero_add]; rfl)) (fun r l => ldR2 (X := X.k) (fun a b => ((A.k a b : ℝ) : EReal)) hX.k _ _ _ _ _) r c _ hb).trans ?_
  rw [sum_head A.qs A.k (n / 2) i (n % 2) r (128 * j + c) (Nat.mod_lt _ (by decide)) r.isLt, show 2 * (n / 2) + n % 2 = n by omega]
  show zV _ _ = zV _ (A.zR n (128 * i + r) (128 * j + c))
  unfold zV Args.zR
  have : (j < i ∨ c < r) ↔ 128 * j + c.val < 128 * i + r.val := by
    have := r.isLt; have := c.isLt
    constructor
    · rintro (h | h)
      · omega
      · have : c.val < r.val := h; omega
    · intro h
      by_cases h' : j < i
      · exact .inl h'
      · exact .inr (show c.val < r.val by omega)
  by_cases h : (j < i ∨ c < r)
  · rw [if_pos h, if_pos (this.1 h)]
  · rw [if_neg h, if_neg (fun h' => h (this.2 h'))]

/-- With no pair, no score. -/
theorem score_none (n p t z u cc : ℕ) (inb) (inb') (b : FVec Ideal S128x128 .f32) (r c : Fin 128) (hb : b (ix2 r c) = ⊥) :
    hScore (View.ld X.qm (Rect.unit (s := S4x4096x128) ![p, t, z] S1x128x128.size inb)) (View.ld X.k (Rect.unit (s := S2048x512) ![u, cc] S128x128.size inb')) b (ix2 r c)
      = zE A none n r c := by
  refine (score_real _ _ b (fun r l => splitR A.qs (p + 0) (t + r) (z + l)) (fun c l => A.k (u + c) (cc + l))
    (fun r l => ldR3 (X := X.qm) (fun a b c => ((splitR A.qs a b c : ℝ) : EReal)) hX.qm _ _ _ _ _ _) (fun r l => ldR2 (X := X.k) (fun a b => ((A.k a b : ℝ) : EReal)) hX.k _ _ _ _ _) r c False (by rw [hb, if_neg not_false])).trans ?_
  exact if_neg not_false

end

theorem zE_zV (A : Args) (a : Pair) (n r c : ℕ) : ∃ (P : Prop) (_ : Decidable P) (x : ℝ), zE A a n r c = zV P x ∧
    (if P then spF x else 0) = onR A.lR a n r c ∧ (if P then Real.exp (x - spF x) else 0) = onR A.sR a n r c := by
  cases a with
  | none => exact ⟨False, inferInstance, 0, (if_neg not_false).symm, if_neg not_false, if_neg not_false⟩
  | some p => exact ⟨_, inferInstance, _, rfl, rfl, rfl⟩

theorem plus_step (A : Args) (a : Pair) (z : FVec Ideal S128x128 .f32) (n : ℕ) (r c : Fin 128) (hz : z (ix2 r c) = zE A a n r c) :
    truncf (F := Ideal) .bf16 (hPlus z) bitsLt_bf16_f32 (ix2 r c) = ((onR A.lR a n r c : ℝ) : EReal) := by
  obtain ⟨P, hP, x, e, e1, e2⟩ := zE_zV A a n r c
  exact (plus_real z (ix2 r c) P x (hz.trans e)).trans (congrArg _ e1)

theorem sig_step (A : Args) (a : Pair) (z : FVec Ideal S128x128 .f32) (n : ℕ) (r c : Fin 128) (hz : z (ix2 r c) = zE A a n r c) :
    exp (subf z (hPlus z)) (ix2 r c) = ((onR A.sR a n r c : ℝ) : EReal) := by
  obtain ⟨P, hP, x, e, e1, e2⟩ := zE_zV A a n r c
  exact (sig_real z (ix2 r c) P x (hz.trans e)).trans (congrArg _ e2)

theorem shot {t : FTy} (Z : FVec Ideal S1x128x128 t) (h) (r c : Fin 128) : shapeCast S128x128 Z h (ix2 r c) = Z (ix3 0 r c) := by pointwise

/-- The weights of a pair's block. -/
theorem weight_step (A : Args) (b : Pair) (hb : Visited b) (n : ℕ) (hn : n < 8) (Z : FVec Ideal S1x128x128 .f32) (SP : FVec Ideal S1x128x128 .bf16) (RC : FVec Ideal S128x128 .f32)
    (v10 : IVec S128x128 32) (kw : BitVec 32) (hkw : kw = Scalar.addi (BitVec.ofNat 32 (16 * n)) (encJ b)) (hv : ∀ o : S128x128.Idx, v10 o = BitVec.ofNat 32 (o 1).val)
    (hZ : ∀ r c : Fin 128, Z (ix3 0 r c) = zE A b n r c) (hSP : ∀ r l : Fin 128, SP (ix3 0 r l) = ((onR A.lR b n r l : ℝ) : EReal))
    (hRC : ∀ r l : Fin 128, RC (ix2 r l) = ((A.rcR (128 * bI b + r) l : ℝ) : EReal)) (r c : Fin 128) :
    hA Z SP RC v10 kw (ix2 r c) = ((onR A.aR b n r c : ℝ) : EReal) := by
  cases b with
  | none => exact (weight_real Z SP RC v10 kw _ (fun r l => A.rcR (128 * bI none + r) l) r c False 0 (hZ r c) hSP hRC hv).trans (congrArg _ (if_neg not_false))
  | some p =>
    refine (weight_real Z SP RC v10 kw _ (fun r l => A.rcR (128 * bI (some p) + r) l) r c (128 * p.2 + c.val < 128 * p.1 + r.val) (A.zR n (128 * p.1 + r) (128 * p.2 + c)) (hZ r c) hSP hRC hv).trans (congrArg _ ?_)
    have hj : p.2 < 16 := lt_of_le_of_lt hb.2 hb.1
    have e : kw = BitVec.ofNat 32 (16 * n + p.2) := by rw [hkw]; show BitVec.ofNat 32 (16 * n) + BitVec.ofNat 32 p.2 = _; rw [BitVec.ofNat_add]
    have e' := A.SR_from n (128 * p.1 + r) p.2 hj c
    rw [e]
    show (if _ then Real.exp (_ - (_ + laneSum (A.rcR (128 * p.1 + r)) _)) else 0) = _
    rw [A.lane_rc n (128 * p.1 + r) p.2 hn hj]
    show (if _ then Real.exp (_ - ((∑ l : Fin 128, if c ≤ l then A.lR n (128 * p.1 + r) (128 * p.2 + l) else 0) + _)) else 0) = A.aR n (128 * p.1 + r) (128 * p.2 + c)
    rw [e']; rfl

/-- The weights' cotangents times the weights, of a pair's block. -/
theorem gain_step (A : Args) (b : Pair) (n : ℕ) (D : FVec Ideal S1x128x128 .bf16) (V : FVec Ideal S128x128 .bf16) (a : FVec Ideal S128x128 .f32)
    (hD : ∀ r l : Fin 128, D (ix3 0 r l) = ((splitR A.d (n / 2) (256 * bI b + 128 * (n % 2) + r) l : ℝ) : EReal)) (hV : ∀ r l : Fin 128, V (ix2 r l) = ((A.v (128 * bJ b + r) (128 * (n / 2) + l) : ℝ) : EReal))
    (ha : ∀ r c : Fin 128, a (ix2 r c) = ((onR A.aR b n r c : ℝ) : EReal)) (r c : Fin 128) :
    mulf (matmul dot_S128x128_S128x128_S128x128_1_1_0_0_n_n none (shapeCast S128x128 D shapeCasts_S1x128x128_S128x128 : FVec Ideal S128x128 .bf16) V (constant S128x128 FTy.f32 0#32)) a (ix2 r c)
      = ((onR A.gR b n r c : ℝ) : EReal) := by
  refine (gain_real _ _ a (fun r l => splitR A.d (n / 2) (256 * bI b + 128 * (n % 2) + r) l) (fun c l => A.v (128 * bJ b + c) (128 * (n / 2) + l)) _ hD hV r c (ha r c)).trans (congrArg _ ?_)
  rw [sum_head A.d A.v (n / 2) (bI b) (n % 2) r (128 * bJ b + c) (Nat.mod_lt _ (by decide)) r.isLt, show 2 * (n / 2) + n % 2 = n by omega]
  cases b with
  | none => exact mul_zero _
  | some p => rfl

theorem encJ_zero (i j : ℕ) (h : Visited (some (i, j))) : encJ (some (i, j)) = 0#32 ↔ j = 0 := by
  have : j < 16 := lt_of_le_of_lt h.2 h.1
  exact (by decide +kernel : ∀ j : Fin 16, (BitVec.ofNat 32 j.val = 0#32 ↔ j.val = 0)) ⟨j, this⟩

/-- The cotangents of the scores of a pair's block. -/
theorem slope_step (A : Args) (c : Pair) (hc : Visited c) (n : ℕ) (G S2 : FVec Ideal S1x128x128 .f32) (GB : FVec Ideal S1x128x128 .bf16) (PC : FVec Ideal S1x128x128 .f32) (P : ℕ → ℕ → ℕ → ℝ)
    (hG : ∀ r l : Fin 128, G (ix3 0 r l) = ((onR A.gR c n r l : ℝ) : EReal)) (hGB : ∀ r l : Fin 128, GB (ix3 0 r l) = ((onR A.gR c n r l : ℝ) : EReal))
    (hS : ∀ r l : Fin 128, S2 (ix3 0 r l) = ((onR A.sR c n r l : ℝ) : EReal)) (hP : ∀ r l : Fin 128, PC (ix3 0 r l) = ((P n r l : ℝ) : EReal))
    (hp : ∀ i j, c = some (i, j + 1) → ∀ r l : Fin 128, P n r l = A.pR n (128 * i + r) (128 * (j + 1))) (h) (r l : Fin 128) :
    subf (shapeCast S128x128 G shapeCasts_S1x128x128_S128x128) (mulf (shapeCast S128x128 S2 shapeCasts_S1x128x128_S128x128) (addf (extractStridedSlice S128x128 ![0, 0] (hPre GB) h) (hIn (encJ c) PC))) (ix2 r l)
      = ((onR A.dzR c n r l : ℝ) : EReal) := by
  refine (slope_real G S2 GB (encJ c) PC (fun r l => onR A.gR c n r l) _ _ hGB h r l (hG r l) (hS r l) (P n r l) (fun _ => hP r l)).trans (congrArg _ ?_)
  cases c with
  | none => show (0 : ℝ) - 0 * _ = 0; simp
  | some p =>
    obtain ⟨i, j⟩ := p
    show A.gR n (128 * i + r) (128 * j + l) - A.sR n (128 * i + r) (128 * j + l) * ((∑ l' : Fin 128, if l' ≤ l then A.gR n (128 * i + r) (128 * j + l') else 0) + _) = A.gR n _ _ - A.sR n _ _ * A.pR n _ (128 * j + l + 1)
    rw [← A.pR_upto]
    congr 3
    cases j with
    | zero => rw [if_pos ((encJ_zero i 0 hc).2 rfl)]; exact (Finset.sum_range_zero _).symm
    | succ j => rw [if_neg (fun h => absurd ((encJ_zero i (j + 1) hc).1 h) (Nat.succ_ne_zero j))]; exact hp i j rfl r l

/-- The sums a step carries on. -/
def pNext (A : Args) (c : Pair) (P : ℕ → ℕ → ℕ → ℝ) (n r l : ℕ) : ℝ := (if encJ c = 0#32 then 0 else P n r l) + ∑ l' : Fin 128, onR A.gR c n r l'

theorem pNext_eq (A : Args) (i j : ℕ) (h : Visited (some (i, j))) (P : ℕ → ℕ → ℕ → ℝ) (n r l : ℕ) (hP : ∀ j', j = j' + 1 → P n r l = A.pR n (128 * i + r) (128 * (j' + 1))) :
    pNext A (some (i, j)) P n r l = A.pR n (128 * i + r) (128 * (j + 1)) := by
  rw [← A.pR_total]
  unfold pNext
  refine congrArg₂ (· + ·) ?_ rfl
  cases j with
  | zero => rw [if_pos ((encJ_zero i 0 h).2 rfl)]; exact (Finset.sum_range_zero _).symm
  | succ j => rw [if_neg (fun h' => absurd ((encJ_zero i (j + 1) h).1 h') (Nat.succ_ne_zero j))]; exact hP j rfl

theorem carry_step (A : Args) (c : Pair) (n : ℕ) (GB : FVec Ideal S1x128x128 .bf16) (PC : FVec Ideal S1x128x128 .f32) (P : ℕ → ℕ → ℕ → ℝ)
    (hGB : ∀ r l : Fin 128, GB (ix3 0 r l) = ((onR A.gR c n r l : ℝ) : EReal)) (hP : ∀ r l : Fin 128, PC (ix3 0 r l) = ((P n r l : ℝ) : EReal)) (h) (r l : Fin 128) :
    addf (hIn (encJ c) PC) (extractStridedSlice S128x128 ![0, 128] (hPre GB) h) (ix2 r l) = ((pNext A c P n r l : ℝ) : EReal) :=
  carry_real GB (encJ c) PC (fun r l => onR A.gR c n r l) hGB h r l (P n r l) (fun _ => hP r l)

/-- What a pair adds to a row's sum over the keys. -/
def cRow (f : ℕ → ℕ → ℕ → ℝ) (g : ℕ → ℕ → ℝ) (d : Pair) (I col : ℕ) : ℝ := match d with
  | none => 0
  | some p => if I / 128 = p.1 then ∑ l : Fin 128, f (col / 64) I (128 * p.2 + l) * g (128 * p.2 + l) col else 0
/-- What a pair adds to a key's sum over the rows. -/
def cKey (f : ℕ → ℕ → ℕ → ℝ) (g : ℕ → ℕ → ℝ) (d : Pair) (J col : ℕ) : ℝ := match d with
  | none => 0
  | some p => if J / 128 = p.2 then ∑ l : Fin 128, f (col / 64) (128 * p.1 + l) J * g (128 * p.1 + l) col else 0

theorem cRow_off (f g) (d : Pair) (I col : ℕ) (h : ¬(128 * bI d ≤ I ∧ I < 128 * bI d + 128)) : cRow f g d I col = 0 := by
  cases d with
  | none => rfl
  | some p => exact if_neg (fun e => h (by rw [show bI (some p) = p.1 from rfl]; omega))
theorem cKey_off (f g) (d : Pair) (J col : ℕ) (h : ¬(128 * bJ d ≤ J ∧ J < 128 * bJ d + 128)) : cKey f g d J col = 0 := by
  cases d with
  | none => rfl
  | some p => exact if_neg (fun e => h (by rw [show bJ (some p) = p.2 from rfl]; omega))

theorem row_step (f : ℕ → ℕ → ℕ → ℝ) (g : ℕ → ℕ → ℝ) (d : Pair) (S : ℕ → ℕ → ℝ) (p : ℕ) (O : FVec Ideal S128x128 .f32) (D : FVec Ideal S1x128x256 .bf16) (K : FVec Ideal S1x256x128 .bf16)
    (hO : ∀ r c : Fin 128, O (ix2 r c) = ((S (128 * bI d + r) (128 * p + c) : ℝ) : EReal))
    (hD : ∀ (r : Fin 128) (l : Fin 256), D (ix3 0 r l) = ((onR f d (2 * p + l / 128) r (l % 128) : ℝ) : EReal))
    (hK : ∀ (l : Fin 256) (c : Fin 128), K (ix3 0 l c) = ((splitR g p (256 * bJ d + l) c : ℝ) : EReal)) (r c : Fin 128) :
    addf O (matmul dot_S128x256_S256x128_S128x128_1_0_0_1_n_n none (shapeCast S128x256 D shapeCasts_S1x128x256_S128x256 : FVec Ideal S128x256 .bf16)
      (shapeCast S256x128 K shapeCasts_S1x256x128_S256x128 : FVec Ideal S256x128 .bf16) (constant S128x128 FTy.f32 0#32)) (ix2 r c)
      = ((cRow f g d (128 * bI d + r) (128 * p + c) + S (128 * bI d + r) (128 * p + c) : ℝ) : EReal) := by
  refine (rowAcc_real O D K (fun r l => onR f d (2 * p + l / 128) r (l % 128)) (fun l c => splitR g p (256 * bJ d + l) c) hD hK r c _ (hO r c)).trans (congrArg _ ?_)
  rw [add_comm, sum_pair (fun h l => onR f d (2 * p + h) r l) g p (bJ d) c c.isLt]
  refine congrArg₂ (· + ·) ?_ rfl
  cases d with
  | none => exact Finset.sum_eq_zero fun l _ => zero_mul _
  | some q =>
    show _ = if (128 * q.1 + r.val) / 128 = q.1 then _ else _
    rw [if_pos (by have := r.isLt; omega), show (128 * p + c.val) / 64 = 2 * p + c / 64 by omega]; rfl

theorem key_step (f : ℕ → ℕ → ℕ → ℝ) (g : ℕ → ℕ → ℝ) (d : Pair) (S : ℕ → ℕ → ℝ) (p : ℕ) (O : FVec Ideal S128x128 .f32) (D : FVec Ideal S1x256x128 .bf16) (K : FVec Ideal S1x256x128 .bf16)
    (hO : ∀ r c : Fin 128, O (ix2 r c) = ((S (128 * bJ d + r) (128 * p + c) : ℝ) : EReal))
    (hD : ∀ (l : Fin 256) (r : Fin 128), D (ix3 0 l r) = ((onR f d (2 * p + l / 128) (l % 128) r : ℝ) : EReal))
    (hK : ∀ (l : Fin 256) (c : Fin 128), K (ix3 0 l c) = ((splitR g p (256 * bI d + l) c : ℝ) : EReal)) (r c : Fin 128) :
    addf O (matmul dot_S256x128_S256x128_S128x128_0_0_1_1_n_n none (shapeCast S256x128 D shapeCasts_S1x256x128_S256x128 : FVec Ideal S256x128 .bf16)
      (shapeCast S256x128 K shapeCasts_S1x256x128_S256x128 : FVec Ideal S256x128 .bf16) (constant S128x128 FTy.f32 0#32)) (ix2 r c)
      = ((cKey f g d (128 * bJ d + r) (128 * p + c) + S (128 * bJ d + r) (128 * p + c) : ℝ) : EReal) := by
  refine (keyAcc_real O D K (fun l r => onR f d (2 * p + l / 128) (l % 128) r) (fun l c => splitR g p (256 * bI d + l) c) hD hK r c _ (hO r c)).trans (congrArg _ ?_)
  rw [add_comm, sum_pair (fun h l => onR f d (2 * p + h) l r) g p (bI d) c c.isLt]
  refine congrArg₂ (· + ·) ?_ rfl
  cases d with
  | none => exact Finset.sum_eq_zero fun l _ => zero_mul _
  | some q =>
    show _ = if (128 * q.2 + r.val) / 128 = q.2 then _ else _
    rw [if_pos (by have := r.isLt; omega), show (128 * p + c.val) / 64 = 2 * p + c / 64 by omega]; rfl

theorem bias_none (v10 v11 : IVec S128x128 32) (r c : Fin 128) : k0_pay354 (F := Ideal) v10 v11 4294967295#32 (ix2 r c) = ⊥ := by
  refine Eq.trans (b := Scalar.select (IntOp.andi (Scalar.cmpi CmpIPredicate.sge 4294967295#32 0#32)
        (IntOp.ori (Scalar.cmpi CmpIPredicate.slt 4294967295#32 4294967295#32) (IntOp.cmpi CmpIPredicate.slt (v10 (ix2 r c)) (v11 (ix2 r c)))))
      (0 : EReal) (Named.named (F := Ideal) κ "mask" (φ := .f32) 4048155338#32)) (by pointwise [k0_pay354]) ?_
  refine (congrArg (fun b : BitVec 1 => Scalar.select b (0 : EReal) (Named.named (F := Ideal) κ "mask" (φ := .f32) 4048155338#32)) (a₂ := 0#1) BitVec.zero_and).trans rfl

end Cert.Proof.Attn
end
-- ==== Proof.AttnInv.lean ====
/- Hand-written, untrusted: what the buffers hold between two steps of the attention's backward call. -/
module

public import proofs.«01_k».proof.Proof.AttnStep
public import proofs.«01_k».proof.Proof.AttnFrame

@[expose] public section
set_option maxRecDepth 16384
noncomputable section

namespace Cert.Proof.Attn

open Cert.AttnIdeal Cert.AttnIdeal.Gen
open Idealize.ShloMosaic TcCoe Tactic
open Idealize.SL.Sem

/-- The words of three pairs. -/
abbrev wordsOf (b c d : Pair) : Words := (encI b, encJ b, encI c, encJ c, encI d, encJ d)

/-- What the buffers hold with `b`, `c` and `d` the last three pairs, `e` the pairs before them, and `P` the sums carried on. -/
structure Inv (A : Args) (b c d : Pair) (e : List Pair) (P : ℕ → ℕ → ℕ → ℝ) (B : Bufs Ideal) : Prop where
  z : ∀ y : S8x128x128.Idx, B.z y = zE A b (y 0) (y 1) (y 2)
  s1 : ∀ y : S8x128x128.Idx, B.s1 y = ((onR A.sR b (y 0) (y 1) (y 2) : ℝ) : EReal)
  sp : ∀ y : S8x128x128.Idx, B.sp y = ((onR A.lR b (y 0) (y 1) (y 2) : ℝ) : EReal)
  s2 : ∀ y : S8x128x128.Idx, B.s2 y = ((onR A.sR c (y 0) (y 1) (y 2) : ℝ) : EReal)
  g : ∀ y : S8x128x128.Idx, B.g y = ((onR A.gR c (y 0) (y 1) (y 2) : ℝ) : EReal)
  gb : ∀ y : S8x128x128.Idx, B.gb y = ((onR A.gR c (y 0) (y 1) (y 2) : ℝ) : EReal)
  ar : ∀ y : S4x256x128.Idx, B.ar y = ((onR A.aR c (2 * (y 0).val + (y 1).val / 128) ((y 1).val % 128) (y 2) : ℝ) : EReal)
  dzr : ∀ y : S4x256x128.Idx, B.dzr y = ((onR A.dzR d (2 * (y 0).val + (y 1).val / 128) ((y 1).val % 128) (y 2) : ℝ) : EReal)
  dzc : ∀ y : S4x128x256.Idx, B.dzc y = ((onR A.dzR d (2 * (y 0).val + (y 2).val / 128) (y 1) ((y 2).val % 128) : ℝ) : EReal)
  pc : ∀ y : S8x128x128.Idx, B.pc y = ((P (y 0) (y 1) (y 2) : ℝ) : EReal)
  pcR : ∀ i j, d = some (i, j) → ∀ n r l : ℕ, P n r l = A.pR n (128 * i + r) (128 * (j + 1))
  dq : ∀ y : S2048x512.Idx, B.dq y = (((e.map fun p => cRow A.dzR A.k p (y 0) (y 1)).sum : ℝ) : EReal)
  dk : ∀ y : S2048x512.Idx, B.dk y = (((e.map fun p => cKey A.dzR A.qs p (y 0) (y 1)).sum : ℝ) : EReal)
  dv : ∀ y : S2048x512.Idx, B.dv y = ((((d :: e).map fun p => cKey A.aR A.d p (y 0) (y 1)).sum : ℝ) : EReal)

/-- Two neighbouring pairs of the visit: along one query block, key blocks one after another. -/
def Chain (c d : Pair) : Prop := ∀ i j, c = some (i, j + 1) → d = some (i, j)

/-! ## What a step reads -/

section
variable {A : Args} {X : Ins Ideal} (hX : InsOk A X)
include hX

theorem rd_rc (n t : ℕ) (ht : t = 128 * n) (inb) (r l : Fin 128) :
    View.ld X.rc (Rect.unit (s := S2048x128) ![t, 0] S128x128.size inb) (ix2 r l) = ((A.rcR (128 * n + r) l : ℝ) : EReal) := by
  subst ht
  exact (ldR2 (X := X.rc) (fun a b => ((A.rcR a b : ℝ) : EReal)) hX.rc _ _ _ _ _).trans (by simp only [Nat.zero_add]; rfl)
theorem rd_d (n i p t : ℕ) (hp : p = n / 2) (ht : t = 256 * i + 128 * (n % 2)) (inb) (r l : Fin 128) :
    View.ld X.dm (Rect.unit (s := S4x4096x128) ![p, t, 0] S1x128x128.size inb) (ix3 0 r l) = ((splitR A.d (n / 2) (256 * i + 128 * (n % 2) + r) l : ℝ) : EReal) := by
  subst hp ht
  exact (ldR3 (X := X.dm) (fun a b c => ((splitR A.d a b c : ℝ) : EReal)) hX.dm _ _ _ _ _ _).trans (by simp only [Nat.zero_add]; rfl)
theorem rd_v (n j u cc : ℕ) (hu : u = 128 * j) (hcc : cc = 128 * (n / 2)) (inb) (r l : Fin 128) :
    View.ld X.v (Rect.unit (s := S2048x512) ![u, cc] S128x128.size inb) (ix2 r l) = ((A.v (128 * j + r) (128 * (n / 2) + l) : ℝ) : EReal) := by
  subst hu hcc
  exact ldR2 (X := X.v) (fun a b => ((A.v a b : ℝ) : EReal)) hX.v _ _ _ _ _
end

theorem rd_split (Y : S4x4096x128.Idx → Elt Ideal .bf16) (f : ℕ → ℕ → ℝ) (hY : ∀ o : S4x4096x128.Idx, Y o = ((splitR f (o 0) (o 1) (o 2) : ℝ) : EReal)) (p j t : ℕ) (ht : t = 256 * j) (inb) (l : Fin 256) (c : Fin 128) :
    View.ld Y (Rect.unit (s := S4x4096x128) ![p, t, 0] S1x256x128.size inb) (ix3 0 l c) = ((splitR f p (256 * j + l) c : ℝ) : EReal) := by
  subst ht
  exact (ldR3 (X := Y) (fun a b c => ((splitR f a b c : ℝ) : EReal)) hY _ _ _ _ _ _).trans (by simp only [Nat.zero_add]; rfl)

theorem rd_block {e : EltTy} (Y : S8x128x128.Idx → Elt Ideal e) (f : ℕ → ℕ → ℕ → Elt Ideal e) (hY : ∀ y : S8x128x128.Idx, Y y = f (y 0) (y 1) (y 2)) (n : ℕ) (inb) (r l : Fin 128) :
    View.ld Y (Rect.unit (s := S8x128x128) ![n, 0, 0] S1x128x128.size inb) (ix3 0 r l) = f n r l :=
  (ldR3 (X := Y) f hY _ _ _ _ _ _).trans (by simp only [Nat.zero_add]; rfl)
theorem rd_rows (Y : S4x256x128.Idx → Elt Ideal .bf16) (f : ℕ → ℕ → ℕ → ℝ) (hY : ∀ y : S4x256x128.Idx, Y y = ((f (2 * (y 0).val + (y 1).val / 128) ((y 1).val % 128) (y 2) : ℝ) : EReal)) (p : ℕ) (inb) (l : Fin 256) (r : Fin 128) :
    View.ld Y (Rect.unit (s := S4x256x128) ![p, 0, 0] S1x256x128.size inb) (ix3 0 l r) = ((f (2 * p + l / 128) (l % 128) r : ℝ) : EReal) :=
  (ldR3 (X := Y) (fun a b c => ((f (2 * a + b / 128) (b % 128) c : ℝ) : EReal)) hY _ _ _ _ _ _).trans (by simp only [Nat.zero_add]; rfl)
theorem rd_cols (Y : S4x128x256.Idx → Elt Ideal .bf16) (f : ℕ → ℕ → ℕ → ℝ) (hY : ∀ y : S4x128x256.Idx, Y y = ((f (2 * (y 0).val + (y 2).val / 128) (y 1) ((y 2).val % 128) : ℝ) : EReal)) (p : ℕ) (inb) (r : Fin 128) (l : Fin 256) :
    View.ld Y (Rect.unit (s := S4x128x256) ![p, 0, 0] S1x128x256.size inb) (ix3 0 r l) = ((f (2 * p + l / 128) r (l % 128) : ℝ) : EReal) :=
  (ldR3 (X := Y) (fun a b c => ((f (2 * a + c / 128) b (c % 128) : ℝ) : EReal)) hY _ _ _ _ _ _).trans (by simp only [Nat.zero_add]; rfl)
theorem rd_acc (Y : S2048x512.Idx → Elt Ideal .f32) (f : ℕ → ℕ → ℝ) (hY : ∀ y : S2048x512.Idx, Y y = ((f (y 0) (y 1) : ℝ) : EReal)) (n t p cc : ℕ) (ht : t = 128 * n) (hc : cc = 128 * p) (inb) (r l : Fin 128) :
    View.ld Y (Rect.unit (s := S2048x512) ![t, cc] S128x128.size inb) (ix2 r l) = ((f (128 * n + r) (128 * p + l) : ℝ) : EReal) := by
  subst ht hc
  exact ldR2 (X := Y) (fun a b => ((f a b : ℝ) : EReal)) hY _ _ _ _ _

theorem iv_bits (n : ℕ) : Scf.iv 0#32 1#32 n = BitVec.ofNat 32 n := by
  unfold Scf.iv; simp
theorem blk_iv (n : ℕ) (h : n < 16) : Blk (Scf.iv 0#32 1#32 n) n := .inr ⟨h, iv_bits n⟩

end Cert.Proof.Attn
end
-- ==== Proof.AttnFive.lean ====
/- Hand-written, untrusted: a step of the attention's backward call at a visited pair, buffer by buffer. -/
module

public import proofs.«01_k».proof.Proof.AttnInv

@[expose] public section
set_option maxRecDepth 16384
set_option maxHeartbeats 2000000
noncomputable section

namespace Cert.Proof.Attn

open Cert.AttnIdeal Cert.AttnIdeal.Gen
open Idealize.ShloMosaic TcCoe Tactic
open Memref renaming whole → wh
open Idealize.SL.Sem

section
variable (c : Dev nD) (a5 : Memref sig .tc .vmem S8x128 .f32) (h5 : a5.IsWhole) (a6 : Memref sig .tc .vmem S2048x1536 .bf16) (h6 : a6.IsWhole) (v10 v11 : IVec S128x128 32)
  (hv : ∀ o : S128x128.Idx, v10 o = BitVec.ofNat 32 (o 1).val) (hv' : ∀ o : S128x128.Idx, v11 o = BitVec.ofNat 32 (o 0).val)
  {A : Args} {X : Ins Ideal} (hX : InsOk A X)
  (pb pc pd : Pair) (vb : Visited pb) (vc : Visited pc) (vd : Visited pd) (hw : WordsOk (wordsOf pb pc pd)) (e : List Pair) (P : ℕ → ℕ → ℕ → ℝ) (B : Bufs Ideal) (hB : Inv A pb pc pd e P B)
  (i : Fin k0_t4_loop.trips) (k : Fin (k0_t5_loop i).trips) (hi : i.val < 16) (hk : k.val ≤ i.val)
include hv hv' hX vb vc vd hB hi hk

theorem z5 (y : S8x128x128.Idx) : ((trip5 c a5 h5 a6 h6 v10 v11 i k (wordsOf pb pc pd) hw X B).1.over B).z y = zE A (some (i.val, k.val)) (y 0) (y 1) (y 2) := by
  unfold trip5 Pieces.over; dsimp only; sl_unfold_words
  refine read8 (α := Elt Ideal) (e := .f32) (wh cc0_scratch4).view B.z (zE A (some (i.val, k.val))) _ _ _ _ _ _ _ _ _ _ _ _ _ _ _ _ _ _ _ _ _ _ _ _ ?_ ?_ ?_ ?_ ?_ ?_ ?_ ?_ y <;> intro r l
  all_goals exact score_step hX i.val k.val hk _ _ _ _ _ (by rfl) (by first | exact off_half (blk_iv _ hi) 0 | exact off_half (blk_iv _ hi) 1) (by exact off_row (blk_iv _ (by omega))) (by rfl) _ _ _ r l (by rw [iv_bits, iv_bits]; exact bias_real v10 v11 _ _ hi (by omega) hv hv' r l)

theorem s15 (y : S8x128x128.Idx) : ((trip5 c a5 h5 a6 h6 v10 v11 i k (wordsOf pb pc pd) hw X B).1.over B).s1 y = ((onR A.sR (some (i.val, k.val)) (y 0) (y 1) (y 2) : ℝ) : EReal) := by
  unfold trip5 Pieces.over; dsimp only; sl_unfold_words
  refine read8 (α := Elt Ideal) (e := .f32) (wh cc0_scratch5).view B.s1 (fun n r l => ((onR A.sR (some (i.val, k.val)) n r l : ℝ) : EReal)) _ _ _ _ _ _ _ _ _ _ _ _ _ _ _ _ _ _ _ _ _ _ _ _ ?_ ?_ ?_ ?_ ?_ ?_ ?_ ?_ y <;> intro r l
  all_goals exact sig_step A (some (i.val, k.val)) _ _ r l (score_step hX i.val k.val hk _ _ _ _ _ (by rfl) (by first | exact off_half (blk_iv _ hi) 0 | exact off_half (blk_iv _ hi) 1) (by exact off_row (blk_iv _ (by omega))) (by rfl) _ _ _ r l (by rw [iv_bits, iv_bits]; exact bias_real v10 v11 _ _ hi (by omega) hv hv' r l))

theorem sp5 (y : S8x128x128.Idx) : ((trip5 c a5 h5 a6 h6 v10 v11 i k (wordsOf pb pc pd) hw X B).1.over B).sp y = ((onR A.lR (some (i.val, k.val)) (y 0) (y 1) (y 2) : ℝ) : EReal) := by
  unfold trip5 Pieces.over; dsimp only; sl_unfold_words
  refine read8 (α := Elt Ideal) (e := .bf16) (wh cc0_scratch8).view B.sp (fun n r l => ((onR A.lR (some (i.val, k.val)) n r l : ℝ) : EReal)) _ _ _ _ _ _ _ _ _ _ _ _ _ _ _ _ _ _ _ _ _ _ _ _ ?_ ?_ ?_ ?_ ?_ ?_ ?_ ?_ y <;> intro r l
  all_goals exact plus_step A (some (i.val, k.val)) _ _ r l (score_step hX i.val k.val hk _ _ _ _ _ (by rfl) (by first | exact off_half (blk_iv _ hi) 0 | exact off_half (blk_iv _ hi) 1) (by exact off_row (blk_iv _ (by omega))) (by rfl) _ _ _ r l (by rw [iv_bits, iv_bits]; exact bias_real v10 v11 _ _ hi (by omega) hv hv' r l))

omit hv' hk hi in
theorem ar5 (y : S4x256x128.Idx) : ((trip5 c a5 h5 a6 h6 v10 v11 i k (wordsOf pb pc pd) hw X B).1.over B).ar y = ((onR A.aR pb (2 * (y 0).val + (y 1).val / 128) ((y 1).val % 128) (y 2) : ℝ) : EReal) := by
  unfold trip5 Pieces.over; dsimp only; sl_unfold_words
  refine readRows (α := Elt Ideal) (e := .bf16) (wh cc0_scratch10).view B.ar (fun n r l => ((onR A.aR pb n r l : ℝ) : EReal)) _ _ _ _ _ _ _ _ _ _ _ _ _ _ _ _ _ _ _ _ _ _ _ _ ?_ ?_ ?_ ?_ ?_ ?_ ?_ ?_ y <;> intro r l
  all_goals exact weight_step A pb vb _ (by decide) _ _ _ v10 _ (by rfl) hv (rd_block (e := .f32) B.z _ hB.z _ _) (rd_block (e := .bf16) B.sp (fun n r l => ((onR A.lR pb n r l : ℝ) : EReal)) hB.sp _ _) (rd_rc hX (bI pb) _ (off_row (blkI pb vb)) _) r l

omit hv' hk hi in
theorem g5 (y : S8x128x128.Idx) : ((trip5 c a5 h5 a6 h6 v10 v11 i k (wordsOf pb pc pd) hw X B).1.over B).g y = ((onR A.gR pb (y 0) (y 1) (y 2) : ℝ) : EReal) := by
  unfold trip5 Pieces.over; dsimp only; sl_unfold_words
  refine read8 (α := Elt Ideal) (e := .f32) (wh cc0_scratch7).view B.g (fun n r l => ((onR A.gR pb n r l : ℝ) : EReal)) _ _ _ _ _ _ _ _ _ _ _ _ _ _ _ _ _ _ _ _ _ _ _ _ ?_ ?_ ?_ ?_ ?_ ?_ ?_ ?_ y <;> intro r l
  all_goals exact gain_step A pb _ _ _ _ (rd_d hX _ (bI pb) _ _ (by rfl) (by first | exact off_half (blkI pb vb) 0 | exact off_half (blkI pb vb) 1) _) (rd_v hX _ (bJ pb) _ _ (by exact off_row (blkJ pb vb)) (by rfl) _) (weight_step A pb vb _ (by decide) _ _ _ v10 _ (by rfl) hv (rd_block (e := .f32) B.z _ hB.z _ _) (rd_block (e := .bf16) B.sp (fun n r l => ((onR A.lR pb n r l : ℝ) : EReal)) hB.sp _ _) (rd_rc hX (bI pb) _ (off_row (blkI pb vb)) _)) r l

omit hv' hk hi in
theorem gb5 (y : S8x128x128.Idx) : ((trip5 c a5 h5 a6 h6 v10 v11 i k (wordsOf pb pc pd) hw X B).1.over B).gb y = ((onR A.gR pb (y 0) (y 1) (y 2) : ℝ) : EReal) := by
  unfold trip5 Pieces.over; dsimp only; sl_unfold_words
  refine read8 (α := Elt Ideal) (e := .bf16) (wh cc0_scratch9).view B.gb (fun n r l => ((onR A.gR pb n r l : ℝ) : EReal)) _ _ _ _ _ _ _ _ _ _ _ _ _ _ _ _ _ _ _ _ _ _ _ _ ?_ ?_ ?_ ?_ ?_ ?_ ?_ ?_ y <;> intro r l
  all_goals exact gain_step A pb _ _ _ _ (rd_d hX _ (bI pb) _ _ (by rfl) (by first | exact off_half (blkI pb vb) 0 | exact off_half (blkI pb vb) 1) _) (rd_v hX _ (bJ pb) _ _ (by exact off_row (blkJ pb vb)) (by rfl) _) (weight_step A pb vb _ (by decide) _ _ _ v10 _ (by rfl) hv (rd_block (e := .f32) B.z _ hB.z _ _) (rd_block (e := .bf16) B.sp (fun n r l => ((onR A.lR pb n r l : ℝ) : EReal)) hB.sp _ _) (rd_rc hX (bI pb) _ (off_row (blkI pb vb)) _)) r l

omit hv hv' hX vb vc vd hk hi in
theorem s25 (y : S8x128x128.Idx) : ((trip5 c a5 h5 a6 h6 v10 v11 i k (wordsOf pb pc pd) hw X B).1.over B).s2 y = ((onR A.sR pb (y 0) (y 1) (y 2) : ℝ) : EReal) := by
  unfold trip5 Pieces.over; dsimp only; sl_unfold_words
  refine read8 (α := Elt Ideal) (e := .f32) (wh cc0_scratch6).view B.s2 (fun n r l => ((onR A.sR pb n r l : ℝ) : EReal)) _ _ _ _ _ _ _ _ _ _ _ _ _ _ _ _ _ _ _ _ _ _ _ _ ?_ ?_ ?_ ?_ ?_ ?_ ?_ ?_ y <;> intro r l
  all_goals exact (shot _ _ r l).trans (rd_block (e := .f32) B.s1 (fun n r l => ((onR A.sR pb n r l : ℝ) : EReal)) hB.s1 _ _ r l)

omit hv hv' hX vb vd hk hi in
theorem dzr5 (hp : Chain pc pd) (y : S4x256x128.Idx) : ((trip5 c a5 h5 a6 h6 v10 v11 i k (wordsOf pb pc pd) hw X B).1.over B).dzr y = ((onR A.dzR pc (2 * (y 0).val + (y 1).val / 128) ((y 1).val % 128) (y 2) : ℝ) : EReal) := by
  unfold trip5 Pieces.over; dsimp only; sl_unfold_words
  refine readRows (α := Elt Ideal) (e := .bf16) (wh cc0_scratch11).view B.dzr (fun n r l => ((onR A.dzR pc n r l : ℝ) : EReal)) _ _ _ _ _ _ _ _ _ _ _ _ _ _ _ _ _ _ _ _ _ _ _ _ ?_ ?_ ?_ ?_ ?_ ?_ ?_ ?_ y <;> intro r l
  all_goals exact slope_step A pc vc _ _ _ _ _ P (rd_block (e := .f32) B.g (fun n r l => ((onR A.gR pc n r l : ℝ) : EReal)) hB.g _ _) (rd_block (e := .bf16) B.gb (fun n r l => ((onR A.gR pc n r l : ℝ) : EReal)) hB.gb _ _) (rd_block (e := .f32) B.s2 (fun n r l => ((onR A.sR pc n r l : ℝ) : EReal)) hB.s2 _ _) (rd_block (e := .f32) B.pc (fun n r l => ((P n r l : ℝ) : EReal)) hB.pc _ _) (fun i j h r l => hB.pcR i j (hp i j h) _ r l) _ r l

omit hv hv' hX vb vd hk hi in
theorem dzc5 (hp : Chain pc pd) (y : S4x128x256.Idx) : ((trip5 c a5 h5 a6 h6 v10 v11 i k (wordsOf pb pc pd) hw X B).1.over B).dzc y = ((onR A.dzR pc (2 * (y 0).val + (y 2).val / 128) (y 1) ((y 2).val % 128) : ℝ) : EReal) := by
  unfold trip5 Pieces.over; dsimp only; sl_unfold_words
  refine readCols (α := Elt Ideal) (e := .bf16) (wh cc0_scratch12).view B.dzc (fun n r l => ((onR A.dzR pc n r l : ℝ) : EReal)) _ _ _ _ _ _ _ _ _ _ _ _ _ _ _ _ _ _ _ _ _ _ _ _ ?_ ?_ ?_ ?_ ?_ ?_ ?_ ?_ y <;> intro r l
  all_goals exact slope_step A pc vc _ _ _ _ _ P (rd_block (e := .f32) B.g (fun n r l => ((onR A.gR pc n r l : ℝ) : EReal)) hB.g _ _) (rd_block (e := .bf16) B.gb (fun n r l => ((onR A.gR pc n r l : ℝ) : EReal)) hB.gb _ _) (rd_block (e := .f32) B.s2 (fun n r l => ((onR A.sR pc n r l : ℝ) : EReal)) hB.s2 _ _) (rd_block (e := .f32) B.pc (fun n r l => ((P n r l : ℝ) : EReal)) hB.pc _ _) (fun i j h r l => hB.pcR i j (hp i j h) _ r l) _ r l

omit hv hv' hX vb vc vd hk hi in
theorem pc5 (y : S8x128x128.Idx) : ((trip5 c a5 h5 a6 h6 v10 v11 i k (wordsOf pb pc pd) hw X B).1.over B).pc y = ((pNext A pc P (y 0) (y 1) (y 2) : ℝ) : EReal) := by
  unfold trip5 Pieces.over; dsimp only; sl_unfold_words
  refine read8 (α := Elt Ideal) (e := .f32) (wh cc0_scratch3).view B.pc (fun n r l => ((pNext A pc P n r l : ℝ) : EReal)) _ _ _ _ _ _ _ _ _ _ _ _ _ _ _ _ _ _ _ _ _ _ _ _ ?_ ?_ ?_ ?_ ?_ ?_ ?_ ?_ y <;> intro r l
  all_goals exact carry_step A pc _ _ _ P (rd_block (e := .bf16) B.gb (fun n r l => ((onR A.gR pc n r l : ℝ) : EReal)) hB.gb _ _) (rd_block (e := .f32) B.pc (fun n r l => ((P n r l : ℝ) : EReal)) hB.pc _ _) _ r l

omit hv hv' vb vc hk hi in
theorem dq5 (y : S2048x512.Idx) : ((trip5 c a5 h5 a6 h6 v10 v11 i k (wordsOf pb pc pd) hw X B).1.over B).dq y = ((((pd :: e).map fun p => cRow A.dzR A.k p (y 0) (y 1)).sum : ℝ) : EReal) := by
  unfold trip5 Pieces.over; dsimp only; sl_unfold_words
  refine readAcc (α := Elt Ideal) (e := .f32) (wh cc0_scratch0).view B.dq (fun I C => ((((pd :: e).map fun p => cRow A.dzR A.k p I C).sum : ℝ) : EReal)) _ _ _ _ _ _ _ _ _ _ _ _ _ ?_ ?_ ?_ ?_ y ?_
  iterate 4
    intro r l
    rw [off_row (blkI pd vd)]
    exact row_step A.dzR A.k pd (fun I C => (e.map fun p => cRow A.dzR A.k p I C).sum) _ _ _ _
      (rd_acc B.dq (fun I C => (e.map fun p => cRow A.dzR A.k p I C).sum) hB.dq (bI pd) _ _ _ (by exact off_row (blkI pd vd)) (by rfl) _)
      (rd_cols B.dzc (onR A.dzR pd) hB.dzc _ _) (rd_split X.km A.k hX.km _ (bJ pd) _ (by exact off_split (blkJ pd vd)) _) r l
  intro h
  rw [off_row (blkI pd vd)] at h
  refine (hB.dq y).trans (congrArg _ ?_)
  rw [List.map_cons, List.sum_cons, cRow_off _ _ _ _ _ h, zero_add]

end
end Cert.Proof.Attn
end
-- ==== Proof.AttnSeven.lean ====
/- Hand-written, untrusted: the steps of the attention's backward call keep what the buffers hold. -/
module

public import proofs.«01_k».proof.Proof.AttnFive

@[expose] public section
set_option maxRecDepth 16384
set_option maxHeartbeats 2000000
noncomputable section

namespace Cert.Proof.Attn

open Cert.AttnIdeal Cert.AttnIdeal.Gen
open Idealize.ShloMosaic TcCoe Tactic
open Memref renaming whole → wh
open Idealize.SL.Sem

section
variable (c : Dev nD) (a5 : Memref sig .tc .vmem S8x128 .f32) (h5 : a5.IsWhole) (a6 : Memref sig .tc .vmem S2048x1536 .bf16) (h6 : a6.IsWhole) (v10 v11 : IVec S128x128 32)
  (hv : ∀ o : S128x128.Idx, v10 o = BitVec.ofNat 32 (o 1).val) (hv' : ∀ o : S128x128.Idx, v11 o = BitVec.ofNat 32 (o 0).val)
  {A : Args} {X : Ins Ideal} (hX : InsOk A X)
  (pb pc pd : Pair) (vb : Visited pb) (vc : Visited pc) (vd : Visited pd) (hw : WordsOk (wordsOf pb pc pd)) (e : List Pair) (P : ℕ → ℕ → ℕ → ℝ) (B : Bufs Ideal) (hB : Inv A pb pc pd e P B)
  (i : Fin k0_t4_loop.trips) (k : Fin (k0_t5_loop i).trips) (hi : i.val < 16) (hk : k.val ≤ i.val)
include hv hv' hX vb vc vd hB hi hk

omit hv hv' vb vc hk hi in
theorem dk5 (y : S2048x512.Idx) : ((trip5 c a5 h5 a6 h6 v10 v11 i k (wordsOf pb pc pd) hw X B).1.over B).dk y = ((((pd :: e).map fun p => cKey A.dzR A.qs p (y 0) (y 1)).sum : ℝ) : EReal) := by
  unfold trip5 Pieces.over; dsimp only; sl_unfold_words
  refine readAcc (α := Elt Ideal) (e := .f32) (wh cc0_scratch1).view B.dk (fun I C => ((((pd :: e).map fun p => cKey A.dzR A.qs p I C).sum : ℝ) : EReal)) _ _ _ _ _ _ _ _ _ _ _ _ _ ?_ ?_ ?_ ?_ y ?_
  iterate 4
    intro r l
    rw [off_row (blkJ pd vd)]
    exact key_step A.dzR A.qs pd (fun I C => ((e).map fun p => cKey A.dzR A.qs p I C).sum) _ _ _ _
      (rd_acc B.dk (fun I C => ((e).map fun p => cKey A.dzR A.qs p I C).sum) hB.dk (bJ pd) _ _ _ (by exact off_row (blkJ pd vd)) (by rfl) _)
      (rd_rows B.dzr (onR A.dzR pd) hB.dzr _ _) (rd_split X.qm A.qs hX.qm _ (bI pd) _ (by exact off_split (blkI pd vd)) _) r l
  intro h
  rw [off_row (blkJ pd vd)] at h
  refine (hB.dk y).trans (congrArg _ ?_)
  exact (zero_add _).symm.trans (congrArg₂ (· + ·) (cKey_off _ _ _ _ _ h).symm rfl)

omit hv hv' vb vd hk hi in
theorem dv5 (y : S2048x512.Idx) : ((trip5 c a5 h5 a6 h6 v10 v11 i k (wordsOf pb pc pd) hw X B).1.over B).dv y = ((((pc :: pd :: e).map fun p => cKey A.aR A.d p (y 0) (y 1)).sum : ℝ) : EReal) := by
  unfold trip5 Pieces.over; dsimp only; sl_unfold_words
  refine readAcc (α := Elt Ideal) (e := .f32) (wh cc0_scratch2).view B.dv (fun I C => ((((pc :: pd :: e).map fun p => cKey A.aR A.d p I C).sum : ℝ) : EReal)) _ _ _ _ _ _ _ _ _ _ _ _ _ ?_ ?_ ?_ ?_ y ?_
  iterate 4
    intro r l
    rw [off_row (blkJ pc vc)]
    exact key_step A.aR A.d pc (fun I C => ((pd :: e).map fun p => cKey A.aR A.d p I C).sum) _ _ _ _
      (rd_acc B.dv (fun I C => ((pd :: e).map fun p => cKey A.aR A.d p I C).sum) hB.dv (bJ pc) _ _ _ (by exact off_row (blkJ pc vc)) (by rfl) _)
      (rd_rows B.ar (onR A.aR pc) hB.ar _ _) (rd_split X.dm A.d hX.dm _ (bI pc) _ (by exact off_split (blkI pc vc)) _) r l
  intro h
  rw [off_row (blkJ pc vc)] at h
  refine (hB.dv y).trans (congrArg _ ?_)
  exact (zero_add _).symm.trans (congrArg₂ (· + ·) (cKey_off _ _ _ _ _ h).symm rfl)

/-- A step at a visited pair keeps what the buffers hold, one pair on. -/
theorem step5 (hp : Chain pc pd) : Inv A (some (i.val, k.val)) pb pc (pd :: e) (pNext A pc P) ((trip5 c a5 h5 a6 h6 v10 v11 i k (wordsOf pb pc pd) hw X B).1.over B) where
  z := z5 c a5 h5 a6 h6 v10 v11 hv hv' hX pb pc pd vb vc vd hw e P B hB i k hi hk
  s1 := s15 c a5 h5 a6 h6 v10 v11 hv hv' hX pb pc pd vb vc vd hw e P B hB i k hi hk
  sp := sp5 c a5 h5 a6 h6 v10 v11 hv hv' hX pb pc pd vb vc vd hw e P B hB i k hi hk
  s2 := s25 c a5 h5 a6 h6 v10 v11 pb pc pd hw e P B hB i k
  g := g5 c a5 h5 a6 h6 v10 v11 hv hX pb pc pd vb vc vd hw e P B hB i k
  gb := gb5 c a5 h5 a6 h6 v10 v11 hv hX pb pc pd vb vc vd hw e P B hB i k
  ar := ar5 c a5 h5 a6 h6 v10 v11 hv hX pb pc pd vb vc vd hw e P B hB i k
  dzr := dzr5 c a5 h5 a6 h6 v10 v11 pb pc pd vc hw e P B hB i k hp
  dzc := dzc5 c a5 h5 a6 h6 v10 v11 pb pc pd vc hw e P B hB i k hp
  pc := pc5 c a5 h5 a6 h6 v10 v11 pb pc pd hw e P B hB i k
  pcR := fun i' j' h n r l => by
    subst h
    exact pNext_eq A i' j' vc P n r l fun j'' h => hB.pcR i' j'' (hp i' j'' (by rw [h])) n r l
  dq := dq5 c a5 h5 a6 h6 v10 v11 hX pb pc pd vd hw e P B hB i k
  dk := dk5 c a5 h5 a6 h6 v10 v11 hX pb pc pd vd hw e P B hB i k
  dv := dv5 c a5 h5 a6 h6 v10 v11 hX pb pc pd vc hw e P B hB i k

/-! ## A step past the last pair -/

variable (k7 : Fin k0_t7_loop.trips)
omit hv hv' hX vb vc vd hB hi hk in
/-- Past the last pair a step writes as at a pair, but for the scores. -/
theorem same7 : (trip7 c a5 h5 a6 h6 v10 v11 k7 (wordsOf pb pc pd) hw X B).1.dq = (trip5 c a5 h5 a6 h6 v10 v11 i k (wordsOf pb pc pd) hw X B).1.dq ∧ (trip7 c a5 h5 a6 h6 v10 v11 k7 (wordsOf pb pc pd) hw X B).1.dk = (trip5 c a5 h5 a6 h6 v10 v11 i k (wordsOf pb pc pd) hw X B).1.dk ∧ (trip7 c a5 h5 a6 h6 v10 v11 k7 (wordsOf pb pc pd) hw X B).1.dv = (trip5 c a5 h5 a6 h6 v10 v11 i k (wordsOf pb pc pd) hw X B).1.dv ∧ (trip7 c a5 h5 a6 h6 v10 v11 k7 (wordsOf pb pc pd) hw X B).1.pc = (trip5 c a5 h5 a6 h6 v10 v11 i k (wordsOf pb pc pd) hw X B).1.pc ∧ (trip7 c a5 h5 a6 h6 v10 v11 k7 (wordsOf pb pc pd) hw X B).1.s2 = (trip5 c a5 h5 a6 h6 v10 v11 i k (wordsOf pb pc pd) hw X B).1.s2 ∧ (trip7 c a5 h5 a6 h6 v10 v11 k7 (wordsOf pb pc pd) hw X B).1.g = (trip5 c a5 h5 a6 h6 v10 v11 i k (wordsOf pb pc pd) hw X B).1.g ∧ (trip7 c a5 h5 a6 h6 v10 v11 k7 (wordsOf pb pc pd) hw X B).1.gb = (trip5 c a5 h5 a6 h6 v10 v11 i k (wordsOf pb pc pd) hw X B).1.gb ∧ (trip7 c a5 h5 a6 h6 v10 v11 k7 (wordsOf pb pc pd) hw X B).1.ar = (trip5 c a5 h5 a6 h6 v10 v11 i k (wordsOf pb pc pd) hw X B).1.ar ∧ (trip7 c a5 h5 a6 h6 v10 v11 k7 (wordsOf pb pc pd) hw X B).1.dzr = (trip5 c a5 h5 a6 h6 v10 v11 i k (wordsOf pb pc pd) hw X B).1.dzr ∧ (trip7 c a5 h5 a6 h6 v10 v11 k7 (wordsOf pb pc pd) hw X B).1.dzc = (trip5 c a5 h5 a6 h6 v10 v11 i k (wordsOf pb pc pd) hw X B).1.dzc := by
  unfold trip7 trip5; exact ⟨rfl, rfl, rfl, rfl, rfl, rfl, rfl, rfl, rfl, rfl⟩

omit hv hv' vb vc vd hB hi hk in
theorem z7 (y : S8x128x128.Idx) : ((trip7 c a5 h5 a6 h6 v10 v11 k7 (wordsOf pb pc pd) hw X B).1.over B).z y = zE A none (y 0) (y 1) (y 2) := by
  unfold trip7 Pieces.over; dsimp only; sl_unfold_words
  refine read8 (α := Elt Ideal) (e := .f32) (wh cc0_scratch4).view B.z (zE A none) _ _ _ _ _ _ _ _ _ _ _ _ _ _ _ _ _ _ _ _ _ _ _ _ ?_ ?_ ?_ ?_ ?_ ?_ ?_ ?_ y <;> intro r l
  all_goals exact score_none hX _ _ _ _ _ _ _ _ _ r l (bias_none v10 v11 r l)

omit hv hv' vb vc vd hB hi hk in
theorem s17 (y : S8x128x128.Idx) : ((trip7 c a5 h5 a6 h6 v10 v11 k7 (wordsOf pb pc pd) hw X B).1.over B).s1 y = ((onR A.sR none (y 0) (y 1) (y 2) : ℝ) : EReal) := by
  unfold trip7 Pieces.over; dsimp only; sl_unfold_words
  refine read8 (α := Elt Ideal) (e := .f32) (wh cc0_scratch5).view B.s1 (fun n r l => ((onR A.sR none n r l : ℝ) : EReal)) _ _ _ _ _ _ _ _ _ _ _ _ _ _ _ _ _ _ _ _ _ _ _ _ ?_ ?_ ?_ ?_ ?_ ?_ ?_ ?_ y <;> intro r l
  all_goals exact sig_step A none _ _ r l (score_none hX _ _ _ _ _ _ _ _ _ r l (bias_none v10 v11 r l))

omit hv hv' vb vc vd hB hi hk in
theorem sp7 (y : S8x128x128.Idx) : ((trip7 c a5 h5 a6 h6 v10 v11 k7 (wordsOf pb pc pd) hw X B).1.over B).sp y = ((onR A.lR none (y 0) (y 1) (y 2) : ℝ) : EReal) := by
  unfold trip7 Pieces.over; dsimp only; sl_unfold_words
  refine read8 (α := Elt Ideal) (e := .bf16) (wh cc0_scratch8).view B.sp (fun n r l => ((onR A.lR none n r l : ℝ) : EReal)) _ _ _ _ _ _ _ _ _ _ _ _ _ _ _ _ _ _ _ _ _ _ _ _ ?_ ?_ ?_ ?_ ?_ ?_ ?_ ?_ y <;> intro r l
  all_goals exact plus_step A none _ _ r l (score_none hX _ _ _ _ _ _ _ _ _ r l (bias_none v10 v11 r l))

/-- A step past the last pair keeps what the buffers hold, no pair on. -/
theorem step7 (hp : Chain pc pd) : Inv A none pb pc (pd :: e) (pNext A pc P) ((trip7 c a5 h5 a6 h6 v10 v11 k7 (wordsOf pb pc pd) hw X B).1.over B) := by
  have E := same7 c a5 h5 a6 h6 v10 v11 (X := X) pb pc pd hw B i k k7
  have I := step5 c a5 h5 a6 h6 v10 v11 hv hv' hX pb pc pd vb vc vd hw e P B hB i k hi hk hp
  exact ⟨z7 c a5 h5 a6 h6 v10 v11 hX pb pc pd hw B k7, s17 c a5 h5 a6 h6 v10 v11 hX pb pc pd hw B k7, sp7 c a5 h5 a6 h6 v10 v11 hX pb pc pd hw B k7,
    fun y => (congrFun (congrArg (fun l => (wh cc0_scratch6).view.writes (Elt Ideal) B.s2 l) E.2.2.2.2.1) y).trans (I.s2 y),
    fun y => (congrFun (congrArg (fun l => (wh cc0_scratch7).view.writes (Elt Ideal) B.g l) E.2.2.2.2.2.1) y).trans (I.g y),
    fun y => (congrFun (congrArg (fun l => (wh cc0_scratch9).view.writes (Elt Ideal) B.gb l) E.2.2.2.2.2.2.1) y).trans (I.gb y),
    fun y => (congrFun (congrArg (fun l => (wh cc0_scratch10).view.writes (Elt Ideal) B.ar l) E.2.2.2.2.2.2.2.1) y).trans (I.ar y),
    fun y => (congrFun (congrArg (fun l => (wh cc0_scratch11).view.writes (Elt Ideal) B.dzr l) E.2.2.2.2.2.2.2.2.1) y).trans (I.dzr y),
    fun y => (congrFun (congrArg (fun l => (wh cc0_scratch12).view.writes (Elt Ideal) B.dzc l) E.2.2.2.2.2.2.2.2.2) y).trans (I.dzc y),
    fun y => (congrFun (congrArg (fun l => (wh cc0_scratch3).view.writes (Elt Ideal) B.pc l) E.2.2.2.1) y).trans (I.pc y),
    I.pcR,
    fun y => (congrFun (congrArg (fun l => (wh cc0_scratch0).view.writes (Elt Ideal) B.dq l) E.1) y).trans (I.dq y),
    fun y => (congrFun (congrArg (fun l => (wh cc0_scratch1).view.writes (Elt Ideal) B.dk l) E.2.1) y).trans (I.dk y),
    fun y => (congrFun (congrArg (fun l => (wh cc0_scratch2).view.writes (Elt Ideal) B.dv l) E.2.2.1) y).trans (I.dv y)⟩

end
end Cert.Proof.Attn
end
-- ==== Proof.AttnSum.lean ====
/- Hand-written, untrusted: the attention's backward loops, summed over all pairs of blocks. -/
module

public import proofs.«01_k».proof.Proof.AttnSeven

@[expose] public section
set_option maxRecDepth 16384
noncomputable section

namespace Cert.Proof.Attn

open Cert.AttnIdeal Cert.AttnIdeal.Gen
open Idealize.ShloMosaic TcCoe Tactic
open Idealize.SL.Sem

/-- The pairs visited in one query block's first `k` steps, the last one first. -/
def row (i : ℕ) : ℕ → List Pair
  | 0 => []
  | k + 1 => some (i, k) :: row i k
/-- The pairs visited in the first `n` query blocks, after the three that are none. -/
def rows : ℕ → List Pair
  | 0 => [none, none, none]
  | n + 1 => row n (n + 1) ++ rows n

/-- The state's words and buffers are those after the pairs of `l`. -/
def Good (A : Args) (l : List Pair) (s : State Ideal) : Prop :=
  ∃ b c d e P, l = b :: c :: d :: e ∧ s.1 = wordsOf b c d ∧ Visited b ∧ Visited c ∧ Visited d ∧ Chain b c ∧ Chain c d ∧ Inv A b c d e P s.2

theorem okI {a : Pair} (h : Visited a) : WordOk (encI a) := by
  cases a with
  | none => exact .inl rfl
  | some p => exact .inr ⟨⟨p.1, h.1⟩, rfl⟩
theorem okJ {a : Pair} (h : Visited a) : WordOk (encJ a) := by
  cases a with
  | none => exact .inl rfl
  | some p => exact .inr ⟨⟨p.2, lt_of_le_of_lt h.2 h.1⟩, rfl⟩

section
variable (c : Dev nD) (a5 : Memref sig .tc .vmem S8x128 .f32) (h5 : a5.IsWhole) (a6 : Memref sig .tc .vmem S2048x1536 .bf16) (h6 : a6.IsWhole) (v10 v11 : IVec S128x128 32)
  (hv : ∀ o : S128x128.Idx, v10 o = BitVec.ofNat 32 (o 1).val) (hv' : ∀ o : S128x128.Idx, v11 o = BitVec.ofNat 32 (o 0).val)
  {A : Args} {X : Ins Ideal} (hX : InsOk A X)
include hv hv' hX

theorem good5 (i : Fin k0_t4_loop.trips) (k : Fin (k0_t5_loop i).trips) (hi : i.val < 16) (hk : k.val ≤ i.val) (l : List Pair) (s : State Ideal) (hs : Good A l s)
    (hl : ∀ j, k.val = j + 1 → l.head? = some (some (i.val, j))) : Good A (some (i.val, k.val) :: l) (next5 c a5 h5 a6 h6 v10 v11 X i k s) := by
  obtain ⟨pb, pc, pd, e, P, rfl, hw, vb, vc, vd, hbc, hcd, hB⟩ := hs
  obtain ⟨w, B⟩ := s
  obtain rfl : w = wordsOf pb pc pd := hw
  have ok : WordsOk (wordsOf pb pc pd) := WordsOk.of ⟨okI vb, okJ vb, okI vc, okJ vc, okI vd, okJ vd⟩
  unfold next5
  rw [dif_pos ok]
  refine ⟨some (i.val, k.val), pb, pc, pd :: e, pNext A pc P, rfl, ?_, ⟨hi, hk⟩, vb, vc, ?_, hbc, step5 c a5 h5 a6 h6 v10 v11 hv hv' hX pb pc pd vb vc vd ok e P B hB i k hi hk hcd⟩
  · show (Scf.iv 0#32 1#32 i.val, Scf.iv 0#32 1#32 k.val, _) = _
    rw [iv_bits, iv_bits]; rfl
  · intro i' j' h
    have h' := Option.some.inj h
    have := hl j' (congrArg Prod.snd h')
    rw [show i' = i.val from (congrArg Prod.fst h').symm]
    exact Option.some.inj this

theorem good7 (k : Fin k0_t7_loop.trips) (l : List Pair) (s : State Ideal) (hs : Good A l s) : Good A (none :: l) (next7 c a5 h5 a6 h6 v10 v11 X k s) := by
  obtain ⟨pb, pc, pd, e, P, rfl, hw, vb, vc, vd, hbc, hcd, hB⟩ := hs
  obtain ⟨w, B⟩ := s
  obtain rfl : w = wordsOf pb pc pd := hw
  have ok : WordsOk (wordsOf pb pc pd) := WordsOk.of ⟨okI vb, okJ vb, okI vc, okJ vc, okI vd, okJ vd⟩
  unfold next7
  rw [dif_pos ok]
  exact ⟨none, pb, pc, pd :: e, pNext A pc P, rfl, rfl, trivial, vb, vc, (fun _ _ h => by cases h), hbc,
    step7 c a5 h5 a6 h6 v10 v11 hv hv' hX pb pc pd vb vc vd ok e P B hB ⟨0, by decide +kernel⟩ ⟨0, by decide +kernel⟩ (by decide) (by decide) k hcd⟩

theorem good_inner (i : Fin k0_t4_loop.trips) (l : List Pair) (s : State Ideal) (hs : Good A l s) (k : ℕ) (hk : k ≤ (k0_t5_loop i).trips) :
    Good A (row i.val k ++ l) (inner c a5 h5 a6 h6 v10 v11 X i k s) := by
  have hi : i.val < 16 := lt_of_lt_of_eq i.isLt (by decide +kernel)
  have ht : (k0_t5_loop i).trips = i.val + 1 := (by decide +kernel : ∀ i : Fin k0_t4_loop.trips, (k0_t5_loop i).trips = i.val + 1) i
  induction k with
  | zero => exact hs
  | succ k ih =>
    have h := ih (by omega)
    unfold inner at h ⊢
    rw [iterN_succ (next5 c a5 h5 a6 h6 v10 v11 X i) ⟨k, hk⟩ s]
    refine good5 c a5 h5 a6 h6 v10 v11 hv hv' hX i ⟨k, hk⟩ hi (by dsimp only; omega) _ _ h fun j hj => ?_
    dsimp only at hj; subst hj; rfl

theorem good_outer (s : State Ideal) (hs : Good A [none, none, none] s) (n : ℕ) (hn : n ≤ k0_t4_loop.trips) : Good A (rows n) (outer c a5 h5 a6 h6 v10 v11 X n s) := by
  induction n with
  | zero => exact hs
  | succ n ih =>
    have h := ih (by omega)
    unfold outer at h ⊢
    rw [iterN_succ (fun i s => inner c a5 h5 a6 h6 v10 v11 X i (k0_t5_loop i).trips s) ⟨n, hn⟩ s]
    have e : row n (n + 1) = row n (k0_t5_loop ⟨n, hn⟩).trips := by
      rw [(by decide +kernel : ∀ i : Fin k0_t4_loop.trips, (k0_t5_loop i).trips = i.val + 1) ⟨n, hn⟩]
    unfold rows
    rw [e]
    exact good_inner c a5 h5 a6 h6 v10 v11 hv hv' hX ⟨n, hn⟩ _ _ h _ le_rfl

theorem good_drain (l : List Pair) (s : State Ideal) (hs : Good A l s) : Good A (none :: none :: none :: l) (drain c a5 h5 a6 h6 v10 v11 X 3 s) := by
  have h3 : k0_t7_loop.trips = 3 := by decide +kernel
  have g := fun (k : Fin k0_t7_loop.trips) l s hs => good7 c a5 h5 a6 h6 v10 v11 hv hv' hX k l s hs
  unfold drain
  rw [iterN_succ (next7 c a5 h5 a6 h6 v10 v11 X) ⟨2, by omega⟩, iterN_succ (next7 c a5 h5 a6 h6 v10 v11 X) ⟨1, by omega⟩, iterN_succ (next7 c a5 h5 a6 h6 v10 v11 X) ⟨0, by omega⟩]
  exact g _ _ _ (g _ _ _ (g _ _ _ hs))

end

/-! ## Sums over all pairs -/

theorem sum_row_row (f : ℕ → ℕ → ℕ → ℝ) (g : ℕ → ℕ → ℝ) (i k I col : ℕ) :
    ((row i k).map fun p => cRow f g p I col).sum = if I / 128 = i then ∑ J ∈ Finset.range (128 * k), f (col / 64) I J * g J col else 0 := by
  induction k with
  | zero => simp [row]
  | succ k ih =>
    unfold row
    rw [List.map_cons, List.sum_cons, ih]
    unfold cRow
    dsimp only
    by_cases h : I / 128 = i
    · rw [if_pos h, if_pos h, if_pos h, Fin.sum_univ_eq_sum_range (fun l => f (col / 64) I (128 * k + l) * g (128 * k + l) col) 128, add_comm, show 128 * (k + 1) = 128 * k + 128 by ring,
        Finset.sum_range_add (fun J => f (col / 64) I J * g J col) (128 * k) 128]
    · rw [if_neg h, if_neg h, if_neg h, add_zero]

theorem sum_rows_row (f : ℕ → ℕ → ℕ → ℝ) (g : ℕ → ℕ → ℝ) (n : ℕ) (hn : n ≤ 16) (I col : ℕ) (hf : ∀ n I J, I ≤ J → f n I J = 0) :
    ((rows n).map fun p => cRow f g p I col).sum = if I / 128 < n then ∑ J ∈ Finset.range 2048, f (col / 64) I J * g J col else 0 := by
  induction n with
  | zero => simp [rows, cRow]
  | succ n ih =>
    unfold rows
    rw [List.map_append, List.sum_append, ih (by omega), sum_row_row]
    by_cases h : I / 128 = n
    · rw [if_pos h, if_neg (by omega), if_pos (by omega), add_zero]
      refine Finset.sum_subset (Finset.range_mono (by omega)) fun J _ hJ => ?_
      rw [hf _ _ _ (by have := Nat.le_of_not_lt fun h => hJ (Finset.mem_range.2 h); omega), zero_mul]
    · rw [if_neg h, zero_add]
      by_cases h' : I / 128 < n
      · rw [if_pos h', if_pos (by omega)]
      · rw [if_neg h', if_neg (by omega)]

theorem sum_row_key (f : ℕ → ℕ → ℕ → ℝ) (g : ℕ → ℕ → ℝ) (i k J col : ℕ) :
    ((row i k).map fun p => cKey f g p J col).sum = if J / 128 < k then ∑ l ∈ Finset.range 128, f (col / 64) (128 * i + l) J * g (128 * i + l) col else 0 := by
  induction k with
  | zero => simp [row]
  | succ k ih =>
    unfold row
    rw [List.map_cons, List.sum_cons, ih]
    unfold cKey
    dsimp only
    rw [Fin.sum_univ_eq_sum_range (fun l => f (col / 64) (128 * i + l) J * g (128 * i + l) col) 128]
    by_cases h : J / 128 = k
    · rw [if_pos h, if_neg (by omega), if_pos (by omega), add_zero]
    · rw [if_neg h, zero_add]
      by_cases h' : J / 128 < k
      · rw [if_pos h', if_pos (by omega)]
      · rw [if_neg h', if_neg (by omega)]

theorem sum_rows_key (f : ℕ → ℕ → ℕ → ℝ) (g : ℕ → ℕ → ℝ) (n J col : ℕ) (hf : ∀ n I J, I ≤ J → f n I J = 0) :
    ((rows n).map fun p => cKey f g p J col).sum = ∑ I ∈ Finset.range (128 * n), f (col / 64) I J * g I col := by
  induction n with
  | zero => simp [rows, cKey]
  | succ n ih =>
    unfold rows
    rw [List.map_append, List.sum_append, ih, sum_row_key, add_comm, show 128 * (n + 1) = 128 * n + 128 by ring, Finset.sum_range_add (fun I => f (col / 64) I J * g I col) (128 * n) 128]
    congr 1
    by_cases h : J / 128 < n + 1
    · rw [if_pos h]
    · rw [if_neg h]
      refine (Finset.sum_eq_zero fun l hl => ?_).symm
      have := Finset.mem_range.1 hl
      rw [hf _ _ _ (by omega), zero_mul]

theorem aR_off (A : Args) (n I J : ℕ) (h : I ≤ J) : A.aR n I J = 0 := if_neg (by omega)
theorem dzR_off (A : Args) (n I J : ℕ) (h : I ≤ J) : A.dzR n I J = 0 := by
  show A.gR n I J - A.sR n I J * _ = 0
  rw [show A.gR n I J = 0 by unfold Args.gR; rw [aR_off A n I J h, mul_zero], show A.sR n I J = 0 from if_neg (by omega)]; ring

/-- What the three sums hold after all steps. -/
theorem good_end {A : Args} {s : State Ideal} (h : Good A (none :: none :: none :: rows 16) s) :
    (∀ y : S2048x512.Idx, s.2.dq y = ((∑ J ∈ Finset.range 2048, A.dzR ((y 1).val / 64) (y 0) J * A.k J (y 1) : ℝ) : EReal)) ∧
    (∀ y : S2048x512.Idx, s.2.dk y = ((∑ I ∈ Finset.range 2048, A.dzR ((y 1).val / 64) I (y 0) * A.qs I (y 1) : ℝ) : EReal)) ∧
    (∀ y : S2048x512.Idx, s.2.dv y = ((∑ I ∈ Finset.range 2048, A.aR ((y 1).val / 64) I (y 0) * A.d I (y 1) : ℝ) : EReal)) := by
  obtain ⟨pb, pc, pd, e, P, hl, -, -, -, -, -, -, hB⟩ := h
  simp only [List.cons.injEq] at hl
  obtain ⟨rfl, rfl, rfl, rfl⟩ := hl
  refine ⟨fun y => (hB.dq y).trans (congrArg _ ?_), fun y => (hB.dk y).trans (congrArg _ ?_), fun y => (hB.dv y).trans (congrArg _ ?_)⟩
  · rw [sum_rows_row _ _ _ le_rfl _ _ (dzR_off A), if_pos (by have : (y 0).val < 2048 := (y 0).isLt; omega)]
  · exact sum_rows_key _ _ _ _ _ (dzR_off A)
  · rw [List.map_cons, List.sum_cons, sum_rows_key _ _ _ _ _ (aR_off A)]; exact zero_add _

end Cert.Proof.Attn
end
-- ==== Proof.AttnSplit.lean ====
/- Hand-written, untrusted: the buffers that hold an array split by heads. -/
module

public import proofs.«01_k».proof.Proof.AttnSum

@[expose] public section
set_option maxRecDepth 16384
noncomputable section

namespace Cert.Proof.Attn

open Cert.AttnIdeal Cert.AttnIdeal.Gen
open Idealize.ShloMosaic TcCoe Tactic
open Idealize.SL.Sem

/-- Eight blocks written into one block row of a split buffer, read back. -/
theorem readSplit {sg : RefSig} {κ' : Kind} {sp : Space} {e : EltTy} {α : EltTy → Type} (v : View sg κ' sp S4x4096x128 e) (f : v.ty.Contents α) (G : ℕ → ℕ → ℕ → α e) (k t0 t1 : ℕ) (ht0 : t0 = 256 * k) (ht1 : t1 = 256 * k + 128)
    (w0 w1 w2 w3 w4 w5 w6 w7 : S128x128.Idx → α e) (i0) (i1) (i2) (i3) (i4) (i5) (i6) (i7) (c0) (c1) (c2) (c3) (c4) (c5) (c6) (c7)
    (H0 : ∀ r c : Fin 128, w0 (ix2 r c) = G 0 (256 * k + 0 + r) c) (H1 : ∀ r c : Fin 128, w1 (ix2 r c) = G 0 (256 * k + 128 + r) c) (H2 : ∀ r c : Fin 128, w2 (ix2 r c) = G 1 (256 * k + 0 + r) c) (H3 : ∀ r c : Fin 128, w3 (ix2 r c) = G 1 (256 * k + 128 + r) c) (H4 : ∀ r c : Fin 128, w4 (ix2 r c) = G 2 (256 * k + 0 + r) c) (H5 : ∀ r c : Fin 128, w5 (ix2 r c) = G 2 (256 * k + 128 + r) c) (H6 : ∀ r c : Fin 128, w6 (ix2 r c) = G 3 (256 * k + 0 + r) c) (H7 : ∀ r c : Fin 128, w7 (ix2 r c) = G 3 (256 * k + 128 + r) c) (y : S4x4096x128.Idx)
    (Hf : ¬(256 * k ≤ (y 1).val ∧ (y 1).val < 256 * k + 256) → v.read α f y = G (y 0) (y 1) (y 2)) :
    v.read α (v.writes α f [⟨Rect.unit (s := S4x4096x128) ![3, t1, 0] S1x128x128.size i7, shapeCast S1x128x128 w7 c7⟩, ⟨Rect.unit (s := S4x4096x128) ![3, t0, 0] S1x128x128.size i6, shapeCast S1x128x128 w6 c6⟩, ⟨Rect.unit (s := S4x4096x128) ![2, t1, 0] S1x128x128.size i5, shapeCast S1x128x128 w5 c5⟩, ⟨Rect.unit (s := S4x4096x128) ![2, t0, 0] S1x128x128.size i4, shapeCast S1x128x128 w4 c4⟩, ⟨Rect.unit (s := S4x4096x128) ![1, t1, 0] S1x128x128.size i3, shapeCast S1x128x128 w3 c3⟩, ⟨Rect.unit (s := S4x4096x128) ![1, t0, 0] S1x128x128.size i2, shapeCast S1x128x128 w2 c2⟩, ⟨Rect.unit (s := S4x4096x128) ![0, t1, 0] S1x128x128.size i1, shapeCast S1x128x128 w1 c1⟩, ⟨Rect.unit (s := S4x4096x128) ![0, t0, 0] S1x128x128.size i0, shapeCast S1x128x128 w0 c0⟩]) y = G (y 0) (y 1) (y 2) := by
  subst ht0 ht1
  have b0 : (y 0).val < 4 := (y 0).isLt
  have b2 : (y 2).val < 128 := (y 2).isLt
  refine store_block v f _ _ _ i7 w7 c7 _ G y (fun r c => (H7 r c).trans (by simp only [Nat.zero_add, Nat.add_zero])) fun h7 => ?_
  refine store_block v f _ _ _ i6 w6 c6 _ G y (fun r c => (H6 r c).trans (by simp only [Nat.zero_add, Nat.add_zero])) fun h6 => ?_
  refine store_block v f _ _ _ i5 w5 c5 _ G y (fun r c => (H5 r c).trans (by simp only [Nat.zero_add, Nat.add_zero])) fun h5 => ?_
  refine store_block v f _ _ _ i4 w4 c4 _ G y (fun r c => (H4 r c).trans (by simp only [Nat.zero_add, Nat.add_zero])) fun h4 => ?_
  refine store_block v f _ _ _ i3 w3 c3 _ G y (fun r c => (H3 r c).trans (by simp only [Nat.zero_add, Nat.add_zero])) fun h3 => ?_
  refine store_block v f _ _ _ i2 w2 c2 _ G y (fun r c => (H2 r c).trans (by simp only [Nat.zero_add, Nat.add_zero])) fun h2 => ?_
  refine store_block v f _ _ _ i1 w1 c1 _ G y (fun r c => (H1 r c).trans (by simp only [Nat.zero_add, Nat.add_zero])) fun h1 => ?_
  refine store_block v f _ _ _ i0 w0 c0 _ G y (fun r c => (H0 r c).trans (by simp only [Nat.zero_add, Nat.add_zero])) fun h0 => ?_
  exact Hf (by omega)

theorem lane_lt (l : Fin 128) : IntOp.cmpi CmpIPredicate.slt (BitVec.ofNat 32 l.val) 64#32 = if l.val / 64 = 0 then 1#1 else 0#1 :=
  (by decide +kernel : ∀ l : Fin 128, IntOp.cmpi CmpIPredicate.slt (BitVec.ofNat 32 l.val) 64#32 = if l.val / 64 = 0 then 1#1 else 0#1) l

theorem half_lo (V : FVec Ideal S128x128 .bf16) (f : ℕ → ℕ → ℝ) (k p n : ℕ) (hV : ∀ r l : Fin 128, V (ix2 r l) = ((f (128 * k + r) (128 * p + l) : ℝ) : EReal)) (hn : n = 256 * k + 0) (r l : Fin 128) :
    select k0_pay539 V (broadcast S128x128 (FloatOps.ofBits FTy.bf16 0#16) : FVec Ideal S128x128 .bf16) (ix2 r l) = ((splitR f p (n + r) l : ℝ) : EReal) := by
  subst hn
  refine Eq.trans (b := Scalar.select (IntOp.cmpi CmpIPredicate.slt (BitVec.ofNat 32 l.val) 64#32) (V (ix2 r l) : EReal) 0) (by pointwise [k0_pay539]) ?_
  rw [lane_lt, hV, show 256 * k + 0 + r.val = 256 * k + 128 * 0 + r.val by omega, splitR_at f p k 0 r l (by decide) r.isLt]
  split
  · rfl
  · rfl

theorem half_hi (V : FVec Ideal S128x128 .bf16) (f : ℕ → ℕ → ℝ) (k p n : ℕ) (hV : ∀ r l : Fin 128, V (ix2 r l) = ((f (128 * k + r) (128 * p + l) : ℝ) : EReal)) (hn : n = 256 * k + 128) (r l : Fin 128) :
    select k0_pay539 (broadcast S128x128 (FloatOps.ofBits FTy.bf16 0#16) : FVec Ideal S128x128 .bf16) V (ix2 r l) = ((splitR f p (n + r) l : ℝ) : EReal) := by
  subst hn
  refine Eq.trans (b := Scalar.select (IntOp.cmpi CmpIPredicate.slt (BitVec.ofNat 32 l.val) 64#32) (0 : EReal) (V (ix2 r l) : EReal)) (by pointwise [k0_pay539]) ?_
  rw [lane_lt, hV, show 256 * k + 128 + r.val = 256 * k + 128 * 1 + r.val by omega, splitR_at f p k 1 r l (by decide) r.isLt]
  have := l.isLt
  by_cases h : l.val / 64 = 0
  · rw [if_pos h, if_neg (by omega)]; rfl
  · rw [if_neg h, if_pos (by omega)]; rfl

theorem off_src (k : ℕ) (h : k < 16) : BitVec.toNat (Scalar.indexCast (Scalar.muli (Scf.iv 0#32 1#32 k) 128#32)) = 128 * k :=
  (by decide +kernel : ∀ k : Fin 16, BitVec.toNat (Scalar.indexCast (Scalar.muli (Scf.iv 0#32 1#32 k.val) 128#32)) = 128 * k.val) ⟨k, h⟩
theorem off_dst (k : ℕ) (h : k < 16) (w : Fin 2) :
    BitVec.toNat (Scalar.indexCast (Scalar.addi (Scalar.muli (Scalar.muli (Scf.iv 0#32 1#32 k) 2#32) 128#32) (BitVec.ofNat 32 (128 * w.val)))) = 256 * k + 128 * w.val :=
  (by decide +kernel : ∀ (k : Fin 16) (w : Fin 2), BitVec.toNat (Scalar.indexCast (Scalar.addi (Scalar.muli (Scalar.muli (Scf.iv 0#32 1#32 k.val) 2#32) 128#32) (BitVec.ofNat 32 (128 * w.val)))) = 256 * k.val + 128 * w.val) ⟨k, h⟩ w

section
variable (c : Dev nD) (a5 : Memref sig .tc .vmem S8x128 .f32) (h5 : a5.IsWhole) (a6 : Memref sig .tc .vmem S2048x1536 .bf16) (h6 : a6.IsWhole) (v56 : FVec Ideal S4x256x128 .bf16)
  (X : Vec Ideal S2048x512 .bf16) (f : ℕ → ℕ → ℝ) (hX : ∀ o : S2048x512.Idx, X o = ((f (o 0) (o 1) : ℝ) : EReal))
include hX

theorem rd_src (k t p cc : ℕ) (ht : t = 128 * k) (hc : cc = 128 * p) (inb) (r l : Fin 128) :
    View.ld (Val := Elt Ideal) (e' := .bf16) X (Rect.unit (s := S2048x512) ![t, cc] S128x128.size inb) (ix2 r l) = ((f (128 * k + r) (128 * p + l) : ℝ) : EReal) := by
  subst ht hc
  exact ldR2 (e := .bf16) (X := X) (fun a b => ((f a b : ℝ) : EReal)) hX _ _ _ _ _

set_option maxHeartbeats 1000000 in
theorem cut1_at (k : Fin k0_t1_loop.trips) (B : Vec Ideal S4x4096x128 .bf16) (y : S4x4096x128.Idx)
    (hB : ¬(256 * k.val ≤ (y 1).val ∧ (y 1).val < 256 * k.val + 256) → B y = ((splitR f (y 0) (y 1) (y 2) : ℝ) : EReal)) :
    (Memref.whole cc0_scratch13).view.writes (Elt Ideal) B (cut1 c a5 h5 a6 h6 v56 X k).1 y = ((splitR f (y 0) (y 1) (y 2) : ℝ) : EReal) := by
  have hk : k.val < 16 := lt_of_lt_of_eq k.isLt (by decide +kernel)
  unfold cut1; dsimp only; sl_unfold_words
  refine readSplit (α := Elt Ideal) (e := .bf16) (Memref.whole cc0_scratch13).view B (fun a b c => ((splitR f a b c : ℝ) : EReal)) k.val _ _ ?_ ?_ _ _ _ _ _ _ _ _ _ _ _ _ _ _ _ _ _ _ _ _ _ _ _ _ ?_ ?_ ?_ ?_ ?_ ?_ ?_ ?_ y hB
  · exact off_dst k.val hk 0
  · exact off_dst k.val hk 1
  iterate 4
    · exact half_lo _ f k.val _ _ (rd_src X f hX k.val _ _ _ (by exact off_src k.val hk) (by rfl) _) rfl
    · exact half_hi _ f k.val _ _ (rd_src X f hX k.val _ _ _ (by exact off_src k.val hk) (by rfl) _) rfl

/-- The split buffer holds the array split by heads. -/
theorem split1_eq (y : S4x4096x128.Idx) : split1 c a5 h5 a6 h6 v56 X y = ((splitR f (y 0) (y 1) (y 2) : ℝ) : EReal) := by
  have ht : k0_t1_loop.trips = 16 := by decide +kernel
  have key : ∀ k ≤ k0_t1_loop.trips, ∀ y : S4x4096x128.Idx, (y 1).val < 256 * k →
      cutAt1 c a5 h5 a6 h6 v56 X k (fun _ => (FloatOps.ofBits .bf16 0 : Ideal .bf16)) y = ((splitR f (y 0) (y 1) (y 2) : ℝ) : EReal) := by
    intro k
    induction k with
    | zero => intro _ y hy; exact absurd hy (by omega)
    | succ k ih =>
      intro hk y hy
      rw [show cutAt1 c a5 h5 a6 h6 v56 X (k + 1) (fun _ => (FloatOps.ofBits .bf16 0 : Ideal .bf16)) = _ from iterN_succ _ ⟨k, hk⟩ _]
      exact cut1_at c a5 h5 a6 h6 v56 X f hX ⟨k, hk⟩ _ y fun h => ih (Nat.le_of_succ_le hk) y (by dsimp only at h; omega)
  exact key _ le_rfl y (by have : (y 1).val < 4096 := (y 1).isLt; omega)

set_option maxHeartbeats 1000000 in
theorem cut2_at (k : Fin k0_t2_loop.trips) (B : Vec Ideal S4x4096x128 .bf16) (y : S4x4096x128.Idx)
    (hB : ¬(256 * k.val ≤ (y 1).val ∧ (y 1).val < 256 * k.val + 256) → B y = ((splitR f (y 0) (y 1) (y 2) : ℝ) : EReal)) :
    (Memref.whole cc0_scratch14).view.writes (Elt Ideal) B (cut2 c a5 h5 a6 h6 v56 X k).1 y = ((splitR f (y 0) (y 1) (y 2) : ℝ) : EReal) := by
  have hk : k.val < 16 := lt_of_lt_of_eq k.isLt (by decide +kernel)
  unfold cut2; dsimp only; sl_unfold_words
  refine readSplit (α := Elt Ideal) (e := .bf16) (Memref.whole cc0_scratch14).view B (fun a b c => ((splitR f a b c : ℝ) : EReal)) k.val _ _ ?_ ?_ _ _ _ _ _ _ _ _ _ _ _ _ _ _ _ _ _ _ _ _ _ _ _ _ ?_ ?_ ?_ ?_ ?_ ?_ ?_ ?_ y hB
  · exact off_dst k.val hk 0
  · exact off_dst k.val hk 1
  iterate 4
    · exact half_lo _ f k.val _ _ (rd_src X f hX k.val _ _ _ (by exact off_src k.val hk) (by rfl) _) rfl
    · exact half_hi _ f k.val _ _ (rd_src X f hX k.val _ _ _ (by exact off_src k.val hk) (by rfl) _) rfl

/-- The split buffer holds the array split by heads. -/
theorem split2_eq (y : S4x4096x128.Idx) : split2 c a5 h5 a6 h6 v56 X y = ((splitR f (y 0) (y 1) (y 2) : ℝ) : EReal) := by
  have ht : k0_t2_loop.trips = 16 := by decide +kernel
  have key : ∀ k ≤ k0_t2_loop.trips, ∀ y : S4x4096x128.Idx, (y 1).val < 256 * k →
      cutAt2 c a5 h5 a6 h6 v56 X k (fun _ => (FloatOps.ofBits .bf16 0 : Ideal .bf16)) y = ((splitR f (y 0) (y 1) (y 2) : ℝ) : EReal) := by
    intro k
    induction k with
    | zero => intro _ y hy; exact absurd hy (by omega)
    | succ k ih =>
      intro hk y hy
      rw [show cutAt2 c a5 h5 a6 h6 v56 X (k + 1) (fun _ => (FloatOps.ofBits .bf16 0 : Ideal .bf16)) = _ from iterN_succ _ ⟨k, hk⟩ _]
      exact cut2_at c a5 h5 a6 h6 v56 X f hX ⟨k, hk⟩ _ y fun h => ih (Nat.le_of_succ_le hk) y (by dsimp only at h; omega)
  exact key _ le_rfl y (by have : (y 1).val < 4096 := (y 1).isLt; omega)

set_option maxHeartbeats 1000000 in
theorem cut3_at (k : Fin k0_t3_loop.trips) (B : Vec Ideal S4x4096x128 .bf16) (y : S4x4096x128.Idx)
    (hB : ¬(256 * k.val ≤ (y 1).val ∧ (y 1).val < 256 * k.val + 256) → B y = ((splitR f (y 0) (y 1) (y 2) : ℝ) : EReal)) :
    (Memref.whole cc0_scratch15).view.writes (Elt Ideal) B (cut3 c a5 h5 a6 h6 v56 X k).1 y = ((splitR f (y 0) (y 1) (y 2) : ℝ) : EReal) := by
  have hk : k.val < 16 := lt_of_lt_of_eq k.isLt (by decide +kernel)
  unfold cut3; dsimp only; sl_unfold_words
  refine readSplit (α := Elt Ideal) (e := .bf16) (Memref.whole cc0_scratch15).view B (fun a b c => ((splitR f a b c : ℝ) : EReal)) k.val _ _ ?_ ?_ _ _ _ _ _ _ _ _ _ _ _ _ _ _ _ _ _ _ _ _ _ _ _ _ ?_ ?_ ?_ ?_ ?_ ?_ ?_ ?_ y hB
  · exact off_dst k.val hk 0
  · exact off_dst k.val hk 1
  iterate 4
    · exact half_lo _ f k.val _ _ (rd_src X f hX k.val _ _ _ (by exact off_src k.val hk) (by rfl) _) rfl
    · exact half_hi _ f k.val _ _ (rd_src X f hX k.val _ _ _ (by exact off_src k.val hk) (by rfl) _) rfl

/-- The split buffer holds the array split by heads. -/
theorem split3_eq (y : S4x4096x128.Idx) : split3 c a5 h5 a6 h6 v56 X y = ((splitR f (y 0) (y 1) (y 2) : ℝ) : EReal) := by
  have ht : k0_t3_loop.trips = 16 := by decide +kernel
  have key : ∀ k ≤ k0_t3_loop.trips, ∀ y : S4x4096x128.Idx, (y 1).val < 256 * k →
      cutAt3 c a5 h5 a6 h6 v56 X k (fun _ => (FloatOps.ofBits .bf16 0 : Ideal .bf16)) y = ((splitR f (y 0) (y 1) (y 2) : ℝ) : EReal) := by
    intro k
    induction k with
    | zero => intro _ y hy; exact absurd hy (by omega)
    | succ k ih =>
      intro hk y hy
      rw [show cutAt3 c a5 h5 a6 h6 v56 X (k + 1) (fun _ => (FloatOps.ofBits .bf16 0 : Ideal .bf16)) = _ from iterN_succ _ ⟨k, hk⟩ _]
      exact cut3_at c a5 h5 a6 h6 v56 X f hX ⟨k, hk⟩ _ y fun h => ih (Nat.le_of_succ_le hk) y (by dsimp only at h; omega)
  exact key _ le_rfl y (by have : (y 1).val < 4096 := (y 1).isLt; omega)

end
end Cert.Proof.Attn
end
-- ==== Proof.AttnOut.lean ====
/- Hand-written, untrusted: what the attention's backward body stores. -/
module

public import proofs.«01_k».proof.Proof.AttnSplit
public import Idealize.ShloMosaic.Lib.VecWindow

@[expose] public section
set_option maxRecDepth 16384
noncomputable section

namespace Cert.Proof.Attn

open Cert.AttnIdeal Cert.AttnIdeal.Gen
open Idealize.ShloMosaic TcCoe Tactic
open Memref renaming whole → wh
open Idealize.SL.Sem

/-- The state before the loops. -/
def start : State Ideal :=
  ((4294967295#32, 4294967295#32, 4294967295#32, 4294967295#32, 4294967295#32, 4294967295#32),
   ⟨(wh cc0_scratch0).view.writes (Elt Ideal) (wh cc0_scratch0).view.junk [⟨Rect.unit ![0, 0] ![2048, 512] inb_S2048x512_S2048x512_0_0, (k0_pay524 (F := Ideal))⟩],
    (wh cc0_scratch1).view.writes (Elt Ideal) (wh cc0_scratch1).view.junk [⟨Rect.unit ![0, 0] ![2048, 512] inb_S2048x512_S2048x512_0_0, (k0_pay525 (F := Ideal))⟩],
    (wh cc0_scratch2).view.writes (Elt Ideal) (wh cc0_scratch2).view.junk [⟨Rect.unit ![0, 0] ![2048, 512] inb_S2048x512_S2048x512_0_0, (k0_pay526 (F := Ideal))⟩],
    (wh cc0_scratch3).view.writes (Elt Ideal) (wh cc0_scratch3).view.junk [⟨Rect.unit ![0, 0, 0] ![8, 128, 128] inb_S8x128x128_S8x128x128_0_0_0, (k0_pay527 (F := Ideal))⟩],
    (wh cc0_scratch4).view.writes (Elt Ideal) (wh cc0_scratch4).view.junk [⟨Rect.unit ![0, 0, 0] ![8, 128, 128] inb_S8x128x128_S8x128x128_0_0_0, (k0_pay529 (k0_pay528 (F := Ideal)))⟩],
    (wh cc0_scratch5).view.writes (Elt Ideal) (wh cc0_scratch5).view.junk [⟨Rect.unit ![0, 0, 0] ![8, 128, 128] inb_S8x128x128_S8x128x128_0_0_0, (k0_pay530 (F := Ideal))⟩],
    (wh cc0_scratch6).view.writes (Elt Ideal) (wh cc0_scratch6).view.junk [⟨Rect.unit ![0, 0, 0] ![8, 128, 128] inb_S8x128x128_S8x128x128_0_0_0, (k0_pay531 (F := Ideal))⟩],
    (wh cc0_scratch7).view.writes (Elt Ideal) (wh cc0_scratch7).view.junk [⟨Rect.unit ![0, 0, 0] ![8, 128, 128] inb_S8x128x128_S8x128x128_0_0_0, (k0_pay534 (F := Ideal))⟩],
    (wh cc0_scratch8).view.writes (Elt Ideal) (wh cc0_scratch8).view.junk [⟨Rect.unit ![0, 0, 0] ![8, 128, 128] inb_S8x128x128_S8x128x128_0_0_0, (k0_pay532 (F := Ideal))⟩],
    (wh cc0_scratch9).view.writes (Elt Ideal) (wh cc0_scratch9).view.junk [⟨Rect.unit ![0, 0, 0] ![8, 128, 128] inb_S8x128x128_S8x128x128_0_0_0, (k0_pay535 (F := Ideal))⟩],
    (wh cc0_scratch10).view.writes (Elt Ideal) (wh cc0_scratch10).view.junk [⟨Rect.unit ![0, 0, 0] ![4, 256, 128] inb_S4x256x128_S4x256x128_0_0_0, (k0_pay533 (F := Ideal))⟩],
    (wh cc0_scratch11).view.writes (Elt Ideal) (wh cc0_scratch11).view.junk [⟨Rect.unit ![0, 0, 0] ![4, 256, 128] inb_S4x256x128_S4x256x128_0_0_0, (k0_pay537 (k0_pay536 (F := Ideal)))⟩],
    (wh cc0_scratch12).view.writes (Elt Ideal) (wh cc0_scratch12).view.junk [⟨Rect.unit ![0, 0, 0] ![4, 128, 256] inb_S4x128x256_S4x128x256_0_0_0, (k0_pay538 (F := Ideal))⟩]⟩)

/-! What a copy into a scratch buffer leaves. -/

theorem whole_writes {sg : RefSig} {κ' : Kind} {α : EltTy → Type} (b : Ref sg κ') (f g : b.ty.Contents α) :
    (wh b).view.writes α f [⟨Rect.whole b.ty.shape, g⟩] = g := View.read_writes_whole (Val := α) (View.whole b) f g

def copied16 (f : Vec Ideal S2048x512 .bf16) : Vec Ideal S2048x512 .bf16 :=
  (wh cc0_scratch16).view.writes (Elt Ideal) (wh cc0_scratch16).view.junk [⟨Rect.whole cc0_scratch16.ty.shape, ReadAs.same.apply (View.read (Elt Ideal) (wh main_v89).view f)⟩]
theorem copied16_eq (f : Vec Ideal S2048x512 .bf16) : copied16 f = f := by
  exact whole_writes cc0_scratch16 _ _
def copied17 (f : Vec Ideal S2048x512 .bf16) : Vec Ideal S2048x512 .bf16 :=
  (wh cc0_scratch17).view.writes (Elt Ideal) (wh cc0_scratch17).view.junk [⟨Rect.whole cc0_scratch17.ty.shape, ReadAs.same.apply (View.read (Elt Ideal) (wh main_v90).view f)⟩]
theorem copied17_eq (f : Vec Ideal S2048x512 .bf16) : copied17 f = f := by
  exact whole_writes cc0_scratch17 _ _
def copied18 (f : Vec Ideal S2048x512 .bf16) : Vec Ideal S2048x512 .bf16 :=
  (wh cc0_scratch18).view.writes (Elt Ideal) (wh cc0_scratch18).view.junk [⟨Rect.whole cc0_scratch18.ty.shape, ReadAs.same.apply (View.read (Elt Ideal) (wh main_v91).view f)⟩]
theorem copied18_eq (f : Vec Ideal S2048x512 .bf16) : copied18 f = f := by
  exact whole_writes cc0_scratch18 _ _
def copied19 (f : Vec Ideal S2048x512 .bf16) : Vec Ideal S2048x512 .bf16 :=
  (wh cc0_scratch19).view.writes (Elt Ideal) (wh cc0_scratch19).view.junk [⟨Rect.whole cc0_scratch19.ty.shape, ReadAs.same.apply (View.read (Elt Ideal) (wh main_v92).view f)⟩]
theorem copied19_eq (f : Vec Ideal S2048x512 .bf16) : copied19 f = f := by
  exact whole_writes cc0_scratch19 _ _
def copied20 (f : Vec Ideal S2048x128 .f32) : Vec Ideal S2048x128 .f32 :=
  (wh cc0_scratch20).view.writes (Elt Ideal) (wh cc0_scratch20).view.junk [⟨Rect.whole cc0_scratch20.ty.shape, ReadAs.same.apply (View.read (Elt Ideal) (wh main_v88).view f)⟩]
theorem copied20_eq (f : Vec Ideal S2048x128 .f32) : copied20 f = f := by
  exact whole_writes cc0_scratch20 _ _

section
variable (c : Dev nD) (a5 : Memref sig .tc .vmem S8x128 .f32) (h5 : a5.IsWhole) (a6 : Memref sig .tc .vmem S2048x1536 .bf16) (h6 : a6.IsWhole) (x5 : Vec Ideal S8x128 .f32) (f0 f1 f2 f3 : Vec Ideal S2048x512 .bf16) (f4 : Vec Ideal S2048x128 .f32)

/-- What the buffers the loops only read hold. -/
def given : Ins Ideal :=
  ⟨split1 c a5 h5 a6 h6 (k0_pay536 (F := Ideal)) (copied16 f0),
   split2 c a5 h5 a6 h6 (k0_pay536 (F := Ideal)) (copied17 f1),
   split3 c a5 h5 a6 h6 (k0_pay536 (F := Ideal)) (copied19 f3),
   copied17 f1,
   copied18 f2,
   copied20 f4⟩

/-- The column and row numbers of a block. -/
abbrev lanes : IVec S128x128 32 := iota .tc S128x128 32 [1] iota_S128x128_d1_w32
abbrev rowsOf : IVec S128x128 32 := iota .tc S128x128 32 [0] iota_S128x128_d0_w32

theorem lanes_at : ∀ o : S128x128.Idx, lanes o = BitVec.ofNat 32 (o 1).val := fun o => by rw [eq_ix2 o]; pointwise
theorem rowsOf_at : ∀ o : S128x128.Idx, rowsOf o = BitVec.ofNat 32 (o 0).val := fun o => by rw [eq_ix2 o]; pointwise

/-- The state after the loops. -/
def final : State Ideal :=
  drain c a5 h5 a6 h6 lanes rowsOf (given c a5 h5 a6 h6 f0 f1 f2 f3 f4) 3 (outer c a5 h5 a6 h6 lanes rowsOf (given c a5 h5 a6 h6 f0 f1 f2 f3 f4) 16 start)

set_option maxHeartbeats 2000000 in
theorem body_list : (bodyRun c a5 h5 a6 h6 x5 f0 f1 f2 f3 f4).1
    = [⟨Rect.unit ![0, 1024] ![2048, 512] inb_S2048x1536_S2048x512_0_1024, k0_pay1 (View.ld (final c a5 h5 a6 h6 f0 f1 f2 f3 f4).2.dv (Rect.unit ![0, 0] ![2048, 512] inb_S2048x512_S2048x512_0_0))⟩,
       ⟨Rect.unit ![0, 512] ![2048, 512] inb_S2048x1536_S2048x512_0_512, k0_pay563 (View.ld (final c a5 h5 a6 h6 f0 f1 f2 f3 f4).2.dk (Rect.unit ![0, 0] ![2048, 512] inb_S2048x512_S2048x512_0_0))⟩,
       ⟨Rect.unit ![0, 0] ![2048, 512] inb_S2048x1536_S2048x512_0_0, k0_pay562 (View.ld (final c a5 h5 a6 h6 f0 f1 f2 f3 f4).2.dq (Rect.unit ![0, 0] ![2048, 512] inb_S2048x512_S2048x512_0_0))⟩] := by
  unfold bodyRun final start given copied16 copied17 copied18 copied19 copied20; dsimp only; sl_unfold_words
  rfl

variable {A : Args} (e0 : ∀ o : S2048x512.Idx, f0 o = ((A.qs (o 0) (o 1) : ℝ) : EReal)) (e1 : ∀ o : S2048x512.Idx, f1 o = ((A.k (o 0) (o 1) : ℝ) : EReal))
  (e2 : ∀ o : S2048x512.Idx, f2 o = ((A.v (o 0) (o 1) : ℝ) : EReal)) (e3 : ∀ o : S2048x512.Idx, f3 o = ((A.d (o 0) (o 1) : ℝ) : EReal))
  (e4 : ∀ o : S2048x128.Idx, f4 o = ((A.rcR (o 0) (o 1) : ℝ) : EReal))
include e0 e1 e2 e3 e4

theorem ins_ok (w : FVec Ideal S4x256x128 .bf16) :
    InsOk A ⟨split1 c a5 h5 a6 h6 w f0, split2 c a5 h5 a6 h6 w f1, split3 c a5 h5 a6 h6 w f3, f1, f2, f4⟩ where
  qm y := split1_eq c a5 h5 a6 h6 w f0 A.qs e0 y
  km y := split2_eq c a5 h5 a6 h6 w f1 A.k e1 y
  dm y := split3_eq c a5 h5 a6 h6 w f3 A.d e3 y
  k := e1
  v := e2
  rc := e4

theorem given_ok : InsOk A (given c a5 h5 a6 h6 f0 f1 f2 f3 f4) := by
  unfold given
  rw [copied16_eq, copied17_eq, copied18_eq, copied19_eq, copied20_eq]
  exact ins_ok c a5 h5 a6 h6 f0 f1 f2 f3 f4 e0 e1 e2 e3 e4 _
omit e0 e1 e2 e3 e4

theorem zero32 : (FloatOps.ofBits .f32 0x00000000#32 : Ideal .f32) = ((0 : ℝ) : EReal) := by
  show Ideal.ofBits .f32 0x00000000#32 = _
  rw [Ideal.ofBits_zero_f32]; rfl
theorem zero16 : (FloatOps.ofBits .bf16 0x0000#16 : Ideal .bf16) = ((0 : ℝ) : EReal) := by
  show Ideal.ofBits .bf16 0x0000#16 = _
  rw [Ideal.ofBits_zero]; rfl

omit A in
/-- Before the loops nothing is carried, nothing summed, and every score is masked. -/
theorem start_ok (A : Args) : Good A [none, none, none] start := by
  refine ⟨none, none, none, [], fun _ _ _ => 0, rfl, rfl, trivial, trivial, trivial, (fun _ _ h => by cases h), (fun _ _ h => by cases h), ?_⟩
  constructor
  · exact fun y => (congrFun (View.read_writes_full (Val := Elt Ideal) (wh cc0_scratch4).view _ _ (k0_pay529 (k0_pay528 (F := Ideal))) []) y).trans rfl
  · exact fun y => (congrFun (View.read_writes_full (Val := Elt Ideal) (wh cc0_scratch5).view _ _ (k0_pay530 (F := Ideal)) []) y).trans (by unfold k0_pay530; exact zero32)
  · exact fun y => (congrFun (View.read_writes_full (Val := Elt Ideal) (wh cc0_scratch8).view _ _ (k0_pay532 (F := Ideal)) []) y).trans (by unfold k0_pay532; exact zero16)
  · exact fun y => (congrFun (View.read_writes_full (Val := Elt Ideal) (wh cc0_scratch6).view _ _ (k0_pay531 (F := Ideal)) []) y).trans (by unfold k0_pay531; exact zero32)
  · exact fun y => (congrFun (View.read_writes_full (Val := Elt Ideal) (wh cc0_scratch7).view _ _ (k0_pay534 (F := Ideal)) []) y).trans (by unfold k0_pay534; exact zero32)
  · exact fun y => (congrFun (View.read_writes_full (Val := Elt Ideal) (wh cc0_scratch9).view _ _ (k0_pay535 (F := Ideal)) []) y).trans (by unfold k0_pay535; exact zero16)
  · exact fun y => (congrFun (View.read_writes_full (Val := Elt Ideal) (wh cc0_scratch10).view _ _ (k0_pay533 (F := Ideal)) []) y).trans (by unfold k0_pay533; exact zero16)
  · exact fun y => (congrFun (View.read_writes_full (Val := Elt Ideal) (wh cc0_scratch11).view _ _ (k0_pay537 (k0_pay536 (F := Ideal))) []) y).trans (by unfold k0_pay537 k0_pay536; exact zero16)
  · exact fun y => (congrFun (View.read_writes_full (Val := Elt Ideal) (wh cc0_scratch12).view _ _ (k0_pay538 (F := Ideal)) []) y).trans (by unfold k0_pay538; exact zero16)
  · exact fun y => (congrFun (View.read_writes_full (Val := Elt Ideal) (wh cc0_scratch3).view _ _ (k0_pay527 (F := Ideal)) []) y).trans (by unfold k0_pay527; exact zero32)
  · exact fun _ _ h => by cases h
  · exact fun y => (congrFun (View.read_writes_full (Val := Elt Ideal) (wh cc0_scratch0).view _ _ (k0_pay524 (F := Ideal)) []) y).trans (by unfold k0_pay524; exact zero32)
  · exact fun y => (congrFun (View.read_writes_full (Val := Elt Ideal) (wh cc0_scratch1).view _ _ (k0_pay525 (F := Ideal)) []) y).trans (by unfold k0_pay525; exact zero32)
  · refine fun y => (congrFun (View.read_writes_full (Val := Elt Ideal) (wh cc0_scratch2).view _ _ (k0_pay526 (F := Ideal)) []) y).trans ?_
    unfold k0_pay526
    refine (zero32).trans (congrArg _ ?_)
    simp [cKey, cRow]

include e0 e1 e2 e3 e4
theorem final_ok : Good A (none :: none :: none :: rows 16) (final c a5 h5 a6 h6 f0 f1 f2 f3 f4) := by
  have hX := given_ok c a5 h5 a6 h6 f0 f1 f2 f3 f4 e0 e1 e2 e3 e4
  unfold final
  generalize given c a5 h5 a6 h6 f0 f1 f2 f3 f4 = X at hX ⊢
  refine good_drain c a5 h5 a6 h6 lanes rowsOf ?_ ?_ hX _ _ ?_
  · exact lanes_at
  · exact rowsOf_at
  · exact good_outer c a5 h5 a6 h6 lanes rowsOf lanes_at rowsOf_at hX start (start_ok A) 16 (by decide +kernel)
end

/-- The gradients side by side: of the queries, the keys and the values. -/
def outR (A : Args) (I c : ℕ) : ℝ :=
  if c < 512 then (∑ J ∈ Finset.range 2048, A.dzR (c / 64) I J * A.k J c) * (1 / 8)
  else if c < 1024 then ∑ I' ∈ Finset.range 2048, A.dzR ((c - 512) / 64) I' I * A.qs I' (c - 512)
  else ∑ I' ∈ Finset.range 2048, A.aR ((c - 1024) / 64) I' I * A.d I' (c - 1024)

section
variable (c : Dev nD) (a5 : Memref sig .tc .vmem S8x128 .f32) (h5 : a5.IsWhole) (a6 : Memref sig .tc .vmem S2048x1536 .bf16) (h6 : a6.IsWhole) (x5 : Vec Ideal S8x128 .f32) (f0 f1 f2 f3 : Vec Ideal S2048x512 .bf16) (f4 : Vec Ideal S2048x128 .f32)
  {A : Args} (e0 : ∀ o : S2048x512.Idx, f0 o = ((A.qs (o 0) (o 1) : ℝ) : EReal)) (e1 : ∀ o : S2048x512.Idx, f1 o = ((A.k (o 0) (o 1) : ℝ) : EReal))
  (e2 : ∀ o : S2048x512.Idx, f2 o = ((A.v (o 0) (o 1) : ℝ) : EReal)) (e3 : ∀ o : S2048x512.Idx, f3 o = ((A.d (o 0) (o 1) : ℝ) : EReal))
  (e4 : ∀ o : S2048x128.Idx, f4 o = ((A.rcR (o 0) (o 1) : ℝ) : EReal))

theorem eighth : (FloatOps.ofBits .f32 0x3E000000#32 : Ideal .f32) = ((1 / 8 : ℝ) : EReal) := by
  show Ideal.ofBits .f32 0x3E000000#32 = _
  simp [Ideal.ofBits, Ideal.ieee, -EReal.coe_mul]; norm_num

theorem ld_all {X : Vec Ideal S2048x512 .f32} (f : ℕ → ℕ → ℝ) (hX : ∀ o : S2048x512.Idx, X o = ((f (o 0) (o 1) : ℝ) : EReal)) (x : S2048x512.Idx) :
    View.ld X (Rect.unit (s := S2048x512) ![0, 0] ![2048, 512] inb_S2048x512_S2048x512_0_0) x = ((f (x 0) (x 1) : ℝ) : EReal) := by
  refine (ldR2 (X := X) (fun a b => ((f a b : ℝ) : EReal)) hX 0 0 ![2048, 512] inb_S2048x512_S2048x512_0_0 x).trans ?_
  rw [Nat.zero_add, Nat.zero_add]

include e0 e1 e2 e3 e4
/-- The output window after the body: the three gradients side by side. -/
theorem body_value {sp : Space} (v : View sig .tc sp S2048x1536 .bf16) (g : v.ty.Contents (Elt Ideal)) (y : S2048x1536.Idx) :
    v.read (Elt Ideal) (v.writes (Elt Ideal) g (bodyRun c a5 h5 a6 h6 x5 f0 f1 f2 f3 f4).1) y = ((outR A (y 0) (y 1) : ℝ) : EReal) := by
  rw [body_list]
  obtain ⟨hq, hk, hv⟩ := good_end (final_ok c a5 h5 a6 h6 f0 f1 f2 f3 f4 e0 e1 e2 e3 e4)
  generalize final c a5 h5 a6 h6 f0 f1 f2 f3 f4 = s at hq hk hv ⊢
  have h0 : (y 0).val < 2048 := (y 0).isLt
  have h1 : (y 1).val < 1536 := (y 1).isLt
  unfold outR
  rw [View.read_writes_cons_unit v g inb_S2048x1536_S2048x512_0_1024 _ _ y rfl]
  split
  next h =>
    have h' := h 1
    have h2 : 1024 ≤ (y 1).val := h'.1
    rw [if_neg (by omega), if_neg (by omega)]
    exact ld_all (fun a b => ∑ I ∈ Finset.range 2048, A.aR (b / 64) I a * A.d I b) hv _
  next h =>
    have h2 : (y 1).val < 1024 := by
      by_contra hc; exact h (Fin.forall_fin_two.2 ⟨⟨Nat.zero_le _, by show (y 0).val < 0 + 2048; omega⟩, ⟨by show 1024 ≤ (y 1).val; omega, by show (y 1).val < 1024 + 512; omega⟩⟩)
    rw [View.read_writes_cons_unit v g inb_S2048x1536_S2048x512_0_512 _ _ y rfl]
    split
    next h =>
      have h' := h 1
      have h3 : 512 ≤ (y 1).val := h'.1
      rw [if_neg (by omega)]
      exact ld_all (fun a b => ∑ I ∈ Finset.range 2048, A.dzR (b / 64) I a * A.qs I b) hk _
    next h =>
      have h3 : (y 1).val < 512 := by
        by_contra hc; exact h (Fin.forall_fin_two.2 ⟨⟨Nat.zero_le _, by show (y 0).val < 0 + 2048; omega⟩, ⟨by show 512 ≤ (y 1).val; omega, by show (y 1).val < 512 + 512; omega⟩⟩)
      rw [View.read_writes_cons_unit v g inb_S2048x1536_S2048x512_0_0 _ _ y rfl, if_pos h3]
      rw [dif_pos (Fin.forall_fin_two.2 ⟨⟨Nat.zero_le _, by show (y 0).val < 0 + 2048; omega⟩, ⟨Nat.zero_le _, by show (y 1).val < 0 + 512; omega⟩⟩)]
      refine (congrArg₂ (· * ·) (ld_all (fun a b => ∑ J ∈ Finset.range 2048, A.dzR (b / 64) a J * A.k J b) hq _) eighth).trans (EReal.coe_mul _ _).symm
end

end Cert.Proof.Attn
end
-- ==== Proof.AttnHost.lean ====
/- Hand-written, untrusted: the arrays the attention's backward call finds. -/
module

public import proofs.«01_k».proof.Proof.AttnOut
public import Idealize.ShloMosaic.Lib.StableHlo.ReadAt
public import Idealize.ShloMosaic.Lib.WordCmp

@[expose] public section
set_option maxRecDepth 16384
noncomputable section

namespace Cert.Proof.Attn

open Cert.AttnIdeal Cert.AttnIdeal.Gen
open Idealize.ShloMosaic TcCoe Tactic
open Idealize.SL.Sem

/-! ## The arguments as reals -/

/-- An array's real values. -/
def arr (x : Vec Ideal S2048x512 .f32) (I c : ℕ) : ℝ := if h : I < 2048 ∧ c < 512 then (x (ix2 ⟨I, h.1⟩ ⟨c, h.2⟩) : EReal).toReal else 0

theorem arr_at (x : Vec Ideal S2048x512 .f32) (hx : ∀ i, ∃ r : ℝ, x i = (r : EReal)) (a : Fin 2048) (b : Fin 512) : x (ix2 a b) = ((arr x a b : ℝ) : EReal) := by
  unfold arr
  rw [dif_pos ⟨a.isLt, b.isLt⟩]
  obtain ⟨r, hr⟩ := hx (ix2 a b)
  show x (ix2 a b) = ((x (ix2 a b) : EReal).toReal : EReal)
  rw [hr]; rfl

/-- The four arguments. -/
def argsOf (x0 x1 x2 x3 : Vec Ideal S2048x512 .f32) : Args := ⟨arr x0, arr x1, arr x2, arr x3⟩

/-! ## The sums over later key blocks -/

theorem stack_at (u : Fin 16 → FVec Ideal S8x2048x1 .f32) (n : Fin 8) (r : Fin 2048) (j : Fin 16) :
    (concatenate S8x2048x16 2 [⟨S8x2048x1, u 0⟩, ⟨S8x2048x1, u 1⟩, ⟨S8x2048x1, u 2⟩, ⟨S8x2048x1, u 3⟩, ⟨S8x2048x1, u 4⟩, ⟨S8x2048x1, u 5⟩, ⟨S8x2048x1, u 6⟩, ⟨S8x2048x1, u 7⟩, ⟨S8x2048x1, u 8⟩, ⟨S8x2048x1, u 9⟩, ⟨S8x2048x1, u 10⟩, ⟨S8x2048x1, u 11⟩, ⟨S8x2048x1, u 12⟩, ⟨S8x2048x1, u 13⟩, ⟨S8x2048x1, u 14⟩, ⟨S8x2048x1, u 15⟩]
      concatenates_S8x2048x1_S8x2048x1_S8x2048x1_S8x2048x1_S8x2048x1_S8x2048x1_S8x2048x1_S8x2048x1_S8x2048x1_S8x2048x1_S8x2048x1_S8x2048x1_S8x2048x1_S8x2048x1_S8x2048x1_S8x2048x1_S8x2048x16_d2
      : FVec Ideal S8x2048x16 .f32) (ix3 n r j) = u j (ix3 n r 0) := by
  fin_cases j <;> pointwise

theorem flat_at (X : FVec Ideal S8x2048x16 .f32) (n : Fin 8) (r : Fin 2048) (j : Fin 16) :
    (shapeCast S2048x128 (transpose S2048x8x16 [1, 0, 2] X transposes_S8x2048x16_S2048x8x16_1_0_2) shapeCasts_S2048x8x16_S2048x128 : FVec Ideal S2048x128 .f32)
      (ix2 r ⟨16 * n.val + j.val, by omega⟩) = X (ix3 n r j) := by
  pointwise

/-- The sixteen sums' buffers. -/
def cols (U : Valuation τ sig (Elt Ideal)) : Fin 16 → FVec Ideal S8x2048x1 .f32 :=
  ![U main_v70, U main_v71, U main_v72, U main_v73, U main_v74, U main_v75, U main_v76, U main_v77, U main_v78, U main_v79, U main_v80, U main_v81, U main_v82, U main_v83, U main_v84, U main_v85]

abbrev at3 {s : Shape} (X : FVec Ideal s .f32) (i : s.Idx) : EReal := X i

theorem block_sum (W : Valuation τ sig (Elt Ideal)) (n : Fin 8) (r : Fin 2048) (i : Fin 16) :
    (StableHlo.after (List.take 3 (List.take 69 hostOps0_2)) W main_v20 : FVec Ideal S8x2048x16 .f32) (ix3 n r i)
      = ∑ l : Fin 128, at3 (W main_v18 : FVec Ideal S8x2048x2048 .f32) (ix3 n r ⟨128 * i.val + l.val, by omega⟩) := by
  unfold hostOps0_2
  dsimp only [List.take, List.drop]
  after_reads_at
  refine Finset.sum_congr rfl fun l _ => congrArg (at3 (W main_v18 : FVec Ideal S8x2048x2048 .f32)) (congrArg (ix3 n r) (Fin.ext ?_))
  show i.val * 128 + l.val = 128 * i.val + l.val
  omega

set_option maxHeartbeats 4000000 in
theorem cols_at (W : Valuation τ sig (Elt Ideal)) (n : Fin 8) (r : Fin 2048) (T : ℕ → ℝ) (h16 : T 16 = 0)
    (hX : ∀ i : Fin 16, (W main_v20 : FVec Ideal S8x2048x16 .f32) (ix3 n r i) = ((T i - T (i + 1) : ℝ) : EReal)) (j : Fin 16) :
    cols (StableHlo.after (List.drop 3 (List.take 69 hostOps0_2)) W) j (ix3 n r 0) = ((T (j + 1) : ℝ) : EReal) := by
  unfold hostOps0_2 cols
  dsimp only [List.take, List.drop]
  fin_cases j <;> dsimp only [Matrix.cons_val] <;> after_reads_at
  all_goals
    try simp only [hX, ← EReal.coe_add]
    try rw [← EReal.coe_zero]
    refine congrArg _ ?_
    norm_num [h16]

theorem saved_at (W : Valuation τ sig (Elt Ideal)) (n : Fin 8) (r : Fin 2048) (f : ℕ → ℝ)
    (hX : ∀ J : Fin 2048, (W main_v18 : FVec Ideal S8x2048x2048 .f32) (ix3 n r J) = ((f J : ℝ) : EReal)) (j : Fin 16) :
    (StableHlo.after hostOps0_2 W main_v88 : FVec Ideal S2048x128 .f32) (ix2 r ⟨16 * n.val + j.val, by omega⟩)
      = ((∑ J ∈ Finset.Ico (128 * (j.val + 1)) 2048, f J : ℝ) : EReal) := by
  have hS : ∀ i : Fin 16, ∑ l : Fin 128, f (128 * i + l) = ∑ J ∈ Finset.Ico (128 * i.val) 2048, f J - ∑ J ∈ Finset.Ico (128 * (i.val + 1)) 2048, f J := fun i => by
    have hi := i.isLt
    rw [← Finset.sum_Ico_consecutive f (show 128 * i.val ≤ 128 * (i.val + 1) by omega) (show 128 * (i.val + 1) ≤ 2048 by omega), add_sub_cancel_right,
      Finset.sum_Ico_eq_sum_range, show 128 * (i.val + 1) - 128 * i.val = 128 by omega, Fin.sum_univ_eq_sum_range (fun l => f (128 * i.val + l)) 128]
  have hB : ∀ i : Fin 16, at3 (StableHlo.after (List.take 3 (List.take 69 hostOps0_2)) W main_v20 : FVec Ideal S8x2048x16 .f32) (ix3 n r i)
      = ((∑ J ∈ Finset.Ico (128 * i.val) 2048, f J - ∑ J ∈ Finset.Ico (128 * (i.val + 1)) 2048, f J : ℝ) : EReal) := fun i => by
    have e : ((∑ l : Fin 128, f (128 * i + l) : ℝ) : EReal) = ∑ l : Fin 128, ((f (128 * i + l) : ℝ) : EReal) := by rw [coe_sum]
    rw [← hS i, e]
    have e3 : ∑ l : Fin 128, at3 (W main_v18 : FVec Ideal S8x2048x2048 .f32) (ix3 n r ⟨128 * i.val + l.val, by have := i.isLt; have := l.isLt; omega⟩) = ∑ l : Fin 128, ((f (128 * i + l) : ℝ) : EReal) :=
      Finset.sum_congr rfl fun l _ => hX _
    exact (block_sum W n r i).trans e3
  have hT := cols_at (StableHlo.after (List.take 3 (List.take 69 hostOps0_2)) W) n r (fun i => ∑ J ∈ Finset.Ico (128 * i) 2048, f J) (by simp) hB j
  rw [← List.take_append_drop 69 hostOps0_2, StableHlo.after_append, ← List.take_append_drop 3 (List.take 69 hostOps0_2), StableHlo.after_append]
  generalize StableHlo.after (List.drop 3 (List.take 69 hostOps0_2)) (StableHlo.after (List.take 3 (List.take 69 hostOps0_2)) W) = U at hT ⊢
  refine Eq.trans ?_ hT
  rw [← stack_at (cols U) n r j]
  refine Eq.trans ?_ (flat_at _ n r j)
  unfold hostOps0_2
  dsimp only [List.take, List.drop]
  after_reads_simp
  dsimp only [Matrix.cons_val]
  rfl

/-! ## The arrays at the region's entry -/

section
variable (m : (ℓ : Loc nD τ sig) → Buf (Elt Ideal) ℓ) (c : Dev nD)

/-- The memory's four arguments. -/
abbrev X0 : Vec Ideal S2048x512 .f32 := m ((c : Thread nD τ).loc main_arg0)
abbrev X1 : Vec Ideal S2048x512 .f32 := m ((c : Thread nD τ).loc main_arg1)
abbrev X2 : Vec Ideal S2048x512 .f32 := m ((c : Thread nD τ).loc main_arg2)
abbrev X3 : Vec Ideal S2048x512 .f32 := m ((c : Thread nD τ).loc main_arg3)
abbrev memArgs : Args := argsOf (X0 m c) (X1 m c) (X2 m c) (X3 m c)

theorem V_v89 (p : Fin 2048) (k : Fin 512) : (V m c main_v89 : FVec Ideal S2048x512 .bf16) (ix2 p k) = X0 m c (ix2 p k) * Ideal.ofBits .f32 0x3E000000#32 := by
  unfold V; after_reads_at
theorem V_v90 (p : Fin 2048) (k : Fin 512) : (V m c main_v90 : FVec Ideal S2048x512 .bf16) (ix2 p k) = X1 m c (ix2 p k) := by
  unfold V; after_reads_at
theorem V_v91 (p : Fin 2048) (k : Fin 512) : (V m c main_v91 : FVec Ideal S2048x512 .bf16) (ix2 p k) = X2 m c (ix2 p k) := by
  unfold V; after_reads_at
theorem V_v92 (p : Fin 2048) (k : Fin 512) : (V m c main_v92 : FVec Ideal S2048x512 .bf16) (ix2 p k) = X3 m c (ix2 p k) := by
  unfold V; after_reads_at

theorem lt_word (a b : ℕ) (ha : a < 2048) (hb : b < 2048) : IntOp.cmpi CmpIPredicate.slt (BitVec.ofNat 32 a) (BitVec.ofNat 32 b) = if a < b then 1#1 else 0#1 := by
  rw [WordCmp.cmpi_slt_ofNat (by omega) (by omega)]
  by_cases hab : a < b <;> simp [hab]

/-- A score's softplus where the key is kept. -/
def keptE (I J : ℕ) (z : EReal) : EReal :=
  Scalar.select (IntOp.cmpi CmpIPredicate.slt (BitVec.ofNat 32 J) (BitVec.ofNat 32 I)) (max z 0 + Ideal.log (1 + Ideal.exp (-(max z (-z))))) (0 : EReal)

theorem keptE_at (I J : ℕ) (hI : I < 2048) (hJ : J < 2048) (z : ℝ) : keptE I J z = ((if J < I then spF z else 0 : ℝ) : EReal) := by
  unfold keptE
  rw [lt_word J I (by omega) (by omega), ← zero_sub, plus_coe]
  split <;> rfl

theorem ofBits_eighth : Ideal.ofBits .f32 0x3E000000#32 = ((1 / 8 : ℝ) : EReal) := eighth

variable (f0 : ∀ i, ∃ r : ℝ, X0 m c i = (r : EReal)) (f1 : ∀ i, ∃ r : ℝ, X1 m c i = (r : EReal)) (f2 : ∀ i, ∃ r : ℝ, X2 m c i = (r : EReal)) (f3 : ∀ i, ∃ r : ℝ, X3 m c i = (r : EReal))

theorem qs_at (p : Fin 2048) (k : Fin 512) (f0 : ∀ i, ∃ r : ℝ, X0 m c i = (r : EReal)) :
    X0 m c (ix2 p k) * Ideal.ofBits .f32 0x3E000000#32 = (((memArgs m c).qs p k : ℝ) : EReal) := by
  rw [arr_at _ f0, ofBits_eighth, ← EReal.coe_mul]; rfl

theorem score_at (n : Fin 8) (I J : Fin 2048) (f0 : ∀ i, ∃ r : ℝ, X0 m c i = (r : EReal)) (f1 : ∀ i, ∃ r : ℝ, X1 m c i = (r : EReal)) :
    (∑ x : Fin 64, (X0 m c (ix2 I ⟨n.val * 64 + x.val, by omega⟩) * Ideal.ofBits .f32 0x3E000000#32 : EReal) * X1 m c (ix2 J ⟨n.val * 64 + x.val, by omega⟩))
      = (((memArgs m c).zR n I J : ℝ) : EReal) := by
  unfold Args.zR
  rw [coe_sum]
  refine Finset.sum_congr rfl fun x _ => ?_
  rw [qs_at m c _ _ f0, arr_at _ f1, ← EReal.coe_mul]
  show (((memArgs m c).qs I (n.val * 64 + x.val) * (memArgs m c).k J (n.val * 64 + x.val) : ℝ) : EReal) = _
  rw [Nat.mul_comm n.val 64]

theorem kept_at (n : Fin 8) (I J : Fin 2048) (f0 : ∀ i, ∃ r : ℝ, X0 m c i = (r : EReal)) (f1 : ∀ i, ∃ r : ℝ, X1 m c i = (r : EReal)) :
    (StableHlo.after (hostOps0 ++ hostOps0_1) (fun b => m (c, b)) main_v18 : FVec Ideal S8x2048x2048 .f32) (ix3 n I J) = (((memArgs m c).lR n I J : ℝ) : EReal) := by
  refine Eq.trans ?_ ((congrArg (keptE I J) (score_at m c n I J f0 f1)).trans (keptE_at I J I.isLt J.isLt _))
  after_reads_at
  exact congrArg (Scalar.select _ _) Ideal.ofBits_zero_f32

theorem V_v88 (n : Fin 8) (p : Fin 2048) (j : Fin 16) (f0 : ∀ i, ∃ r : ℝ, X0 m c i = (r : EReal)) (f1 : ∀ i, ∃ r : ℝ, X1 m c i = (r : EReal)) :
    (V m c main_v88 : FVec Ideal S2048x128 .f32) (ix2 p ⟨16 * n.val + j.val, by omega⟩) = (((memArgs m c).rcR p (16 * n.val + j.val) : ℝ) : EReal) := by
  have h := saved_at (StableHlo.after (hostOps0 ++ hostOps0_1) (fun b => m (c, b))) n p ((memArgs m c).lR n p) (fun J => kept_at m c n p J f0 f1) j
  rw [← StableHlo.after_append] at h
  unfold V
  rw [List.flatten_cons, List.flatten_cons, List.flatten_cons, List.flatten_nil, List.append_nil, ← List.append_assoc]
  refine h.trans (congrArg _ ?_)
  have hj := j.isLt
  unfold Args.rcR Args.SR
  rw [show (16 * n.val + j.val) / 16 = n.val by omega, show (16 * n.val + j.val) % 16 = j.val by omega]
end

end Cert.Proof.Attn
end
-- ==== Proof.AttnRef.lean ====
/- Hand-written, untrusted: the reference of the attention's backward call, read at an index over the reals. -/
module

public import proofs.«01_k».proof.Proof.AttnHost
public import proofs.«01_k».proof.Proof.Gen.AttnRefIdeal.Read

@[expose] public section
set_option maxRecDepth 16384
noncomputable section

namespace Cert.Proof.Attn

open Cert.AttnRefIdeal Cert.AttnRefIdeal.Read Idealize.ShloMosaic

/-! ## Softplus of a number and of its negative -/

theorem spF_eq (z : ℝ) : spF z = Real.log (1 + Real.exp z) := by
  unfold spF
  rcases le_total 0 z with h | h
  · rw [max_eq_left h, abs_of_nonneg h]
    nth_rewrite 1 [← Real.log_exp z]
    rw [← Real.log_mul (Real.exp_pos z).ne' (by positivity), mul_add, mul_one, ← Real.exp_add, add_neg_cancel, Real.exp_zero, add_comm]
  · rw [max_eq_right h, abs_of_nonpos h, neg_neg, zero_add]

theorem spF_neg (z : ℝ) : spF (-z) = spF z - z := by
  unfold spF; rw [abs_neg]
  have : max (-z) 0 = max z 0 - z := by
    rcases le_total 0 z with h | h
    · rw [max_eq_left h, max_eq_right (by linarith)]; ring
    · rw [max_eq_right h, max_eq_left (by linarith)]; ring
  rw [this]; ring

theorem sig_neg (z : ℝ) : Real.exp (-z - spF (-z)) = 1 - Real.exp (z - spF z) := by
  rw [spF_neg, show -z - (spF z - z) = - spF z by ring, Real.exp_sub, Real.exp_neg, spF_eq, Real.exp_log (by positivity)]
  have : (1 + Real.exp z) ≠ 0 := by positivity
  field_simp; ring

theorem soft_scalar (r : ℝ) (w : EReal) (hw : w = (r : EReal)) :
    (if w ≠ w then w else max w 0 + Ideal.log1p (Ideal.exp (-((FloatOps.absf (F := Ideal) (φ := FTy.f32) w : EReal))))) = ((spF r : ℝ) : EReal) := by
  rw [if_neg (fun h => h rfl), hw, ← plus_coe r, zero_sub]; rfl

theorem top_word : Ideal.ofBits .f32 2139095040#32 = ⊤ := by simp [Ideal.ofBits, Ideal.ieee]

theorem neg_coe_coe (z : ℝ) : - -(z : EReal) = (z : EReal) := neg_neg _

theorem sig_scalar (r s : ℝ) :
    Ideal.exp ((if (r : EReal) = Ideal.ofBits .f32 2139095040#32 then 0 else (r : EReal)) - (if (s : EReal) = Ideal.ofBits .f32 2139095040#32 then 0 else (s : EReal)))
      = ((Real.exp (r - s) : ℝ) : EReal) := by
  rw [top_word, if_neg (EReal.coe_ne_top r), if_neg (EReal.coe_ne_top s), ← EReal.coe_sub, Ideal.exp_coe]

/-! ## A running sum as a sum -/

theorem foldl_sum (N : ℕ) (g : Fin N → EReal) (v : EReal) : (List.finRange N).foldl (fun r n => r + g n) v = v + ∑ n : Fin N, g n := by
  rw [← List.sum_ofFn, List.ofFn_eq_map]
  induction List.finRange N generalizing v with
  | nil => simp
  | cons a l ih => rw [List.foldl_cons, ih, List.map_cons, List.sum_cons, add_assoc]

abbrev S1x1x2048 : Shape := ⟨3, ![1, 1, 2048]⟩

theorem window_sum (g : S1x1x2048.Idx → EReal) : ∑ n : Fin S1x1x2048.numel, g (S1x1x2048.rowMajor.symm n) = ∑ l : Fin 2048, g (ix3 0 0 l) := by
  rw [Equiv.sum_comp S1x1x2048.rowMajor.symm g]
  refine Finset.sum_nbij' (fun o => o 2) (fun l => ix3 0 0 l) (fun _ _ => Finset.mem_univ _) (fun _ _ => Finset.mem_univ _) (fun o _ => ?_) (fun _ _ => rfl) (fun o _ => ?_)
  · exact (funext fun a => by
      match a with
      | ⟨0, _⟩ => exact Subsingleton.elim (α := Fin 1) _ _
      | ⟨1, _⟩ => exact Subsingleton.elim (α := Fin 1) _ _
      | ⟨2, _⟩ => rfl)
  · exact congrArg g (funext fun a => by
      match a with
      | ⟨0, _⟩ => exact Subsingleton.elim (α := Fin 1) _ _
      | ⟨1, _⟩ => exact Subsingleton.elim (α := Fin 1) _ _
      | ⟨2, _⟩ => rfl)

theorem window_at (x : FVec Ideal S8x2048x2048 .f32) (lo hi : ℕ) (init : FVec Ideal S_ .f32) (h0 : ∀ o, init o = (0 : EReal)) (h) (hu) (n : Fin 8) (I J : Fin 2048) :
    (Host.reduceWindowAdd ![1, 1, 2048] ![1, 1, 1] ![0, 0, lo] ![0, 0, hi] x init h hu : FVec Ideal S8x2048x2048 .f32) (ix3 n I J)
      = ∑ l : Fin 2048, if q : lo ≤ J.val + l.val ∧ J.val + l.val - lo < 2048 then at3 x (ix3 n I ⟨J.val + l.val - lo, q.2⟩) else 0 := by
  unfold Host.reduceWindowAdd
  rw [Ideal.hostReduceWindowAdd_def]
  unfold Ideal.hostReduceWindowAdd Host.reduceWindow
  dsimp only
  rw [h0]
  refine (foldl_sum S1x1x2048.numel _ _).trans ?_
  rw [zero_add]
  refine Eq.trans (Finset.sum_congr rfl fun m _ => ?_) (window_sum (fun w => if q : lo ≤ J.val + (w 2).val ∧ J.val + (w 2).val - lo < 2048 then
    at3 x (ix3 n I ⟨J.val + (w 2).val - lo, q.2⟩) else 0))
  have w0 : (S1x1x2048.rowMajor.symm m 0).val = 0 := by have : (S1x1x2048.rowMajor.symm m 0).val < 1 := (S1x1x2048.rowMajor.symm m 0).isLt; omega
  have w1 : (S1x1x2048.rowMajor.symm m 1).val = 0 := by have : (S1x1x2048.rowMajor.symm m 1).val < 1 := (S1x1x2048.rowMajor.symm m 1).isLt; omega
  by_cases q : lo ≤ J.val + (S1x1x2048.rowMajor.symm m 2).val ∧ J.val + (S1x1x2048.rowMajor.symm m 2).val - lo < 2048
  · rw [dif_pos q, dif_pos (fun a => by
      match a with
      | ⟨0, _⟩ => exact ⟨Nat.zero_le _, by have := n.isLt; show n.val * 1 + (S1x1x2048.rowMajor.symm m 0).val - 0 < 8; omega⟩
      | ⟨1, _⟩ => exact ⟨Nat.zero_le _, by have := I.isLt; show I.val * 1 + (S1x1x2048.rowMajor.symm m 1).val - 0 < 2048; omega⟩
      | ⟨2, _⟩ => exact ⟨by show lo ≤ J.val * 1 + (S1x1x2048.rowMajor.symm m 2).val; omega, by show J.val * 1 + (S1x1x2048.rowMajor.symm m 2).val - lo < 2048; omega⟩)]
    exact congrArg x (funext fun a => by
      match a with
      | ⟨0, _⟩ => exact Fin.ext (by show n.val * 1 + (S1x1x2048.rowMajor.symm m 0).val - 0 = n.val; omega)
      | ⟨1, _⟩ => exact Fin.ext (by show I.val * 1 + (S1x1x2048.rowMajor.symm m 1).val - 0 = I.val; omega)
      | ⟨2, _⟩ => exact Fin.ext (by show J.val * 1 + (S1x1x2048.rowMajor.symm m 2).val - lo = J.val + (S1x1x2048.rowMajor.symm m 2).val - lo; omega))
  · rw [dif_neg q, dif_neg (fun hin => q (by
      have h2 : lo ≤ J.val * 1 + (S1x1x2048.rowMajor.symm m 2).val ∧ J.val * 1 + (S1x1x2048.rowMajor.symm m 2).val - lo < 2048 := hin 2
      omega))]

variable (x : FVec Ideal S8x2048x2048 .f32) (f : ℕ → ℕ → ℕ → ℝ) (hx : ∀ (n : Fin 8) (I J : Fin 2048), x (ix3 n I J) = ((f n I J : ℝ) : EReal))
  (init : FVec Ideal S_ .f32) (h0 : ∀ o, init o = (0 : EReal))

include hx h0

theorem window_real (lo hi : ℕ) (h) (hu) (n : Fin 8) (I J : Fin 2048) :
    (Host.reduceWindowAdd ![1, 1, 2048] ![1, 1, 1] ![0, 0, lo] ![0, 0, hi] x init h hu : FVec Ideal S8x2048x2048 .f32) (ix3 n I J)
      = ((∑ l ∈ Finset.range 2048, (if lo ≤ J.val + l ∧ J.val + l - lo < 2048 then f n I (J.val + l - lo) else 0) : ℝ) : EReal) := by
  rw [window_at x lo hi init h0 h hu n I J, ← Fin.sum_univ_eq_sum_range (fun l => if lo ≤ J.val + l ∧ J.val + l - lo < 2048 then f n I (J.val + l - lo) else 0) 2048, coe_sum]
  refine Finset.sum_congr rfl fun l _ => ?_
  split
  · exact hx _ _ _
  · rfl

theorem window_from (h) (hu) (n : Fin 8) (I J : Fin 2048) :
    (Host.reduceWindowAdd ![1, 1, 2048] ![1, 1, 1] ![0, 0, 0] ![0, 0, 2047] x init h hu : FVec Ideal S8x2048x2048 .f32) (ix3 n I J)
      = ((∑ J' ∈ Finset.Ico J.val 2048, f n I J' : ℝ) : EReal) := by
  rw [window_real x f hx init h0 0 2047 h hu n I J, ← Finset.sum_filter]
  have := J.isLt
  congr 1
  refine Finset.sum_nbij' (fun l => J.val + l) (fun l => l - J.val) ?_ ?_ ?_ ?_ ?_ <;> intro l hl <;>
    simp only [Finset.mem_filter, Finset.mem_range, Finset.mem_Ico] at hl ⊢ <;> first | omega | rfl

theorem window_upto (h) (hu) (n : Fin 8) (I J : Fin 2048) :
    (Host.reduceWindowAdd ![1, 1, 2048] ![1, 1, 1] ![0, 0, 2047] ![0, 0, 0] x init h hu : FVec Ideal S8x2048x2048 .f32) (ix3 n I J)
      = ((∑ J' ∈ Finset.range (J.val + 1), f n I J' : ℝ) : EReal) := by
  rw [window_real x f hx init h0 2047 0 h hu n I J, ← Finset.sum_filter]
  have := J.isLt
  congr 1
  refine Finset.sum_nbij' (fun l => J.val + l - 2047) (fun l => l + 2047 - J.val) ?_ ?_ ?_ ?_ ?_ <;> intro l hl <;>
    simp only [Finset.mem_filter, Finset.mem_range, Finset.mem_Ico] at hl ⊢ <;> first | omega | rfl

omit hx h0

section
variable (x0 x1 x2 x3 : Vec Ideal S2048x512 .f32)

theorem ref_z (n : Fin 8) (I J : Fin 2048) (f0 : ∀ i, ∃ r : ℝ, x0 i = (r : EReal)) (f1 : ∀ i, ∃ r : ℝ, x1 i = (r : EReal)) :
    val_main_v5 (F := Ideal) x0 x1 (ix3 n I J) = (((argsOf x0 x1 x2 x3).zR n I J : ℝ) : EReal) := by
  pointwise [val_main_v5, val_main_v4, val_main_cst, val_main_v3, val_main_v0, val_main_v1]
  rw [ofBits_eighth]
  have e : ∀ x : Fin 64, x0 (ix2 I ⟨n.val * 64 + x.val, by have := n.isLt; have := x.isLt; omega⟩) * x1 (ix2 J ⟨n.val * 64 + x.val, by have := n.isLt; have := x.isLt; omega⟩)
      = ((arr x0 I (n.val * 64 + x.val) * arr x1 J (n.val * 64 + x.val) : ℝ) : EReal) := fun x => by
    rw [arr_at x0 f0, arr_at x1 f1, EReal.coe_mul]
  rw [Finset.sum_congr rfl fun x _ => e x, ← coe_sum, ← EReal.coe_mul, Finset.sum_mul]
  congr 1
  unfold Args.zR Args.qs
  refine Finset.sum_congr rfl fun x _ => ?_
  rw [mul_comm 64]
  show _ = arr x0 I (n * 64 + x) * (1 / 8) * arr x1 J (n * 64 + x)
  ring

theorem ref_soft (n : Fin 8) (I J : Fin 2048) (z : ℝ) (hz : val_main_v5 (F := Ideal) x0 x1 (ix3 n I J) = (z : EReal)) :
    val_main_call0_v1_0 (F := Ideal) x0 x1 (ix3 n I J) = ((spF z : ℝ) : EReal) := by
  pointwise [val_main_call0_v1_0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_v0, val_main_v13, val_main_call0_call0_cst]
  rw [hz, neg_coe_coe]
  exact soft_scalar z _ rfl

theorem ref_sig (n : Fin 8) (I J : Fin 2048) (z : ℝ) (hz : val_main_v5 (F := Ideal) x0 x1 (ix3 n I J) = (z : EReal)) :
    val_main_v14_1 (F := Ideal) x0 x1 (ix3 n I J) = ((Real.exp (z - spF z) : ℝ) : EReal) := by
  have hs := ref_soft x0 x1 n I J z hz
  pointwise [val_main_v14_1, val_main_call0_call0_v21, val_main_call0_call0_v20, val_main_call0_call0_v19, val_main_call0_call0_v18, val_main_call0_call0_v17, val_main_call0_call0_v16, val_main_call0_call0_v15, val_main_call0_call0_v14, val_main_call0_call0_v13, val_main_call0_call0_cst_0, val_main_call0_call0_cst_1, val_main_call0_call0_cst_2, val_main_call0_call0_cst_3, val_main_call0_v0, val_main_v13]
  rw [hs, hz, neg_coe_coe]
  exact sig_scalar z (spF z)

theorem ref_soft_neg (n : Fin 8) (I J : Fin 2048) (z : ℝ) (hz : val_main_v5 (F := Ideal) x0 x1 (ix3 n I J) = (z : EReal)) :
    val_main_call3_v1_0 (F := Ideal) x0 x1 (ix3 n I J) = ((spF (-z) : ℝ) : EReal) := by
  pointwise [val_main_call3_v1_0, val_main_call3_call0_v11, val_main_call3_call0_v10, val_main_call3_call0_v9, val_main_call3_call0_v8, val_main_call3_call0_v7, val_main_call3_call0_v6, val_main_call3_call0_v5, val_main_call3_call0_v4, val_main_call3_call0_v3, val_main_call3_call0_v2, val_main_call3_call0_v1, val_main_call3_call0_v0, val_main_call3_v0, val_main_call3_call0_cst]
  rw [hz, ← EReal.coe_neg]
  exact soft_scalar (-z) _ rfl

theorem ref_sig_neg (n : Fin 8) (I J : Fin 2048) (z : ℝ) (hz : val_main_v5 (F := Ideal) x0 x1 (ix3 n I J) = (z : EReal)) :
    val_main_v18_1 (F := Ideal) x0 x1 (ix3 n I J) = ((1 - Real.exp (z - spF z) : ℝ) : EReal) := by
  have hs := ref_soft_neg x0 x1 n I J z hz
  pointwise [val_main_v18_1, val_main_call3_call0_v21, val_main_call3_call0_v20, val_main_call3_call0_v19, val_main_call3_call0_v18, val_main_call3_call0_v17, val_main_call3_call0_v16, val_main_call3_call0_v15, val_main_call3_call0_v14, val_main_call3_call0_v13, val_main_call3_call0_cst_0, val_main_call3_call0_cst_1, val_main_call3_call0_cst_2, val_main_call3_call0_cst_3, val_main_call3_v0]
  rw [hs, hz, ← EReal.coe_neg]
  exact (sig_scalar (-z) (spF (-z))).trans (by rw [sig_neg])

theorem ref_keep (n : Fin 8) (I J : Fin 2048) : val_main_v15_1 (F := Ideal) (ix3 n I J) = BitVec.ofBool (decide (J.val < I.val)) := by
  pointwise [val_main_v15_1, val_main_v12, val_main_v11, val_main_v10, val_main_v9, val_main_v8, val_main_v7, val_main_v6]
  have := I.isLt; have := J.isLt
  exact WordCmp.cmpi_slt_ofNat (by omega) (by omega)

theorem ref_keep' (n : Fin 8) (I J : Fin 2048) : val_main_v21_1 (F := Ideal) (ix3 n I J) = BitVec.ofBool (decide (J.val < I.val)) := by
  pointwise [val_main_v21_1, val_main_v12, val_main_v11, val_main_v10, val_main_v9, val_main_v8, val_main_v7, val_main_v6]
  have := I.isLt; have := J.isLt
  exact WordCmp.cmpi_slt_ofNat (by omega) (by omega)

theorem sel_kept (P : Prop) [Decidable P] (a b : ℝ) : Scalar.select (BitVec.ofBool (decide P)) (a : EReal) (b : EReal) = ((if P then a else b : ℝ) : EReal) := by
  by_cases h : P <;> simp [Scalar.select, h]

theorem ref_l (n : Fin 8) (I J : Fin 2048) (z : ℝ) (hz : val_main_v5 (F := Ideal) x0 x1 (ix3 n I J) = (z : EReal)) :
    val_main_v15_0 (F := Ideal) x0 x1 (ix3 n I J) = ((- (if J.val < I.val then spF z else 0) : ℝ) : EReal) := by
  have hs := ref_soft x0 x1 n I J z hz
  have hk := ref_keep n I J
  pointwise [val_main_v15_0, val_main_v14_0, val_main_call1_v2, val_main_call1_v0, val_main_call1_cst]
  rw [hs, hk, ← EReal.coe_neg]
  refine (congrArg (Scalar.select _ _) (show (_ : EReal) = ((0 : ℝ) : EReal) from Ideal.ofBits_zero_f32)).trans ?_
  rw [sel_kept]; split <;> simp
end
end Cert.Proof.Attn
end
-- ==== Proof.AttnRefGrad.lean ====
/- Hand-written, untrusted: the reference's cotangents of the attention, read at an index over the reals. -/
module

public import proofs.«01_k».proof.Proof.AttnRef
public import proofs.«01_k».proof.Proof.AttnOut

@[expose] public section
set_option maxRecDepth 16384
noncomputable section

namespace Cert.Proof.Attn

open Cert.AttnRefIdeal Cert.AttnRefIdeal.Read Idealize.ShloMosaic

variable (x0 x1 x2 x3 : Vec Ideal S2048x512 .f32)
  (f0 : ∀ i, ∃ r : ℝ, x0 i = (r : EReal)) (f1 : ∀ i, ∃ r : ℝ, x1 i = (r : EReal))
  (f2 : ∀ i, ∃ r : ℝ, x2 i = (r : EReal)) (f3 : ∀ i, ∃ r : ℝ, x3 i = (r : EReal))

section

include f0 f1

theorem ref_lR (n : Fin 8) (I J : Fin 2048) : val_main_v15_0 (F := Ideal) x0 x1 (ix3 n I J) = ((-((argsOf x0 x1 x2 x3).lR n I J) : ℝ) : EReal) :=
  ref_l x0 x1 n I J _ (ref_z x0 x1 x2 x3 n I J f0 f1)

theorem ref_SR (n : Fin 8) (I J : Fin 2048) : val_main_v16 (F := Ideal) x0 x1 (ix3 n I J) = ((-((argsOf x0 x1 x2 x3).SR n I J) : ℝ) : EReal) := by
  refine (window_from (val_main_v15_0 (F := Ideal) x0 x1) (fun n I J => -((argsOf x0 x1 x2 x3).lR n I J)) (fun n I J => ref_lR x0 x1 x2 x3 f0 f1 n I J)
    (val_main_call2_v0 (F := Ideal)) (fun o => by pointwise [val_main_call2_v0, val_main_call2_cst]) _ _ n I J).trans ?_
  congr 1; exact Finset.sum_neg_distrib _

/-- The weight before the mask. -/
def eR (A : Args) (n I J : ℕ) : ℝ := Real.exp (-(spF (-(A.zR n I J))) + (-(A.SR n I J) - -(A.lR n I J)))

theorem ref_e (n : Fin 8) (I J : Fin 2048) : val_main_v20 (F := Ideal) x0 x1 (ix3 n I J) = ((eR (argsOf x0 x1 x2 x3) n I J : ℝ) : EReal) := by
  have h1 := ref_soft_neg x0 x1 n I J _ (ref_z x0 x1 x2 x3 n I J f0 f1)
  have h2 := ref_SR x0 x1 x2 x3 f0 f1 n I J
  have h3 := ref_lR x0 x1 x2 x3 f0 f1 n I J
  pointwise [val_main_v20, val_main_v19, val_main_v18_0, val_main_v17]
  rw [h1, h2, h3, ← EReal.coe_neg, ← EReal.coe_sub, ← EReal.coe_add, Ideal.exp_coe]; rfl

omit f0 f1 in
theorem eR_kept (A : Args) (n I J : ℕ) : (if J < I then eR A n I J else 0) = A.aR n I J := by
  unfold Args.aR eR
  split
  · next h =>
    congr 1
    unfold Args.lR
    rw [if_pos h, spF_neg]; ring
  · rfl

theorem ref_a (n : Fin 8) (I J : Fin 2048) : val_main_v21_0 (F := Ideal) x0 x1 (ix3 n I J) = (((argsOf x0 x1 x2 x3).aR n I J : ℝ) : EReal) := by
  have h1 := ref_e x0 x1 x2 x3 f0 f1 n I J
  have hk := ref_keep' n I J
  pointwise [val_main_v21_0, val_main_call4_v2, val_main_call4_v0, val_main_call4_cst]
  rw [h1, hk]
  refine (congrArg (Scalar.select _ _) (show (_ : EReal) = ((0 : ℝ) : EReal) from Ideal.ofBits_zero_f32)).trans ?_
  rw [sel_kept, eR_kept]

include f2 f3

omit f0 f1 in
theorem ref_c (n : Fin 8) (I J : Fin 2048) : val_main_v27 (F := Ideal) x2 x3 (ix3 n I J)
    = ((∑ l : Fin 64, (argsOf x0 x1 x2 x3).d I (64 * n + l) * (argsOf x0 x1 x2 x3).v J (64 * n + l) : ℝ) : EReal) := by
  pointwise [val_main_v27, val_main_v26, val_main_v25, val_main_v2]
  have e : ∀ x : Fin 64, x3 (ix2 I ⟨n.val * 64 + x.val, by have := n.isLt; have := x.isLt; omega⟩) * x2 (ix2 J ⟨n.val * 64 + x.val, by have := n.isLt; have := x.isLt; omega⟩)
      = ((arr x3 I (n.val * 64 + x.val) * arr x2 J (n.val * 64 + x.val) : ℝ) : EReal) := fun x => by
    rw [arr_at x3 f3, arr_at x2 f2, EReal.coe_mul]
  rw [Finset.sum_congr rfl fun x _ => e x, ← coe_sum]
  congr 1
  exact Finset.sum_congr rfl fun x _ => by rw [mul_comm 64]; rfl

theorem ref_gR (n : Fin 8) (I J : Fin 2048) : val_main_v31 (F := Ideal) x0 x1 x2 x3 (ix3 n I J) = (((argsOf x0 x1 x2 x3).gR n I J : ℝ) : EReal) := by
  have h1 := ref_e x0 x1 x2 x3 f0 f1 n I J
  have h2 := ref_c x0 x1 x2 x3 f2 f3 n I J
  have hk := ref_keep' n I J
  pointwise [val_main_v31, val_main_v30, val_main_call5_v0, val_main_call5_cst]
  rw [h1, h2, hk, ← EReal.coe_mul]
  refine (congrArg (Scalar.select _ _) (show (0 : EReal) = ((0 : ℝ) : EReal) from rfl)).trans ?_
  rw [sel_kept]
  congr 1
  unfold Args.gR
  rw [← eR_kept]
  split <;> simp

theorem ref_pR (n : Fin 8) (I J : Fin 2048) : val_main_v34 (F := Ideal) x0 x1 x2 x3 (ix3 n I J) = (((argsOf x0 x1 x2 x3).pR n I (J + 1) : ℝ) : EReal) :=
  window_upto (val_main_v31 (F := Ideal) x0 x1 x2 x3) (fun n I J => (argsOf x0 x1 x2 x3).gR n I J) (fun n I J => ref_gR x0 x1 x2 x3 f0 f1 f2 f3 n I J)
    (val_main_call7_v0 (F := Ideal)) (fun o => by pointwise [val_main_call7_v0, val_main_call7_cst]) _ _ n I J

omit f0 f1 f2 f3 in
theorem dz_scalar (P : Prop) [Decidable P] (g p s : ℝ) :
    -(-(g : EReal) * ((1 - s : ℝ) : EReal)) + - -(-Scalar.select (BitVec.ofBool (decide P)) (-(g : EReal) + (p : EReal)) (0 : EReal) * (s : EReal))
      = ((g * (1 - s) - (if P then p - g else 0) * s : ℝ) : EReal) := by
  have e : Scalar.select (BitVec.ofBool (decide P)) (-(g : EReal) + (p : EReal)) (0 : EReal) = ((if P then p - g else 0 : ℝ) : EReal) := by
    rw [← EReal.coe_neg, ← EReal.coe_add, neg_add_eq_sub]
    exact sel_kept P (p - g) 0
  rw [e, ← EReal.coe_neg, ← EReal.coe_neg, ← EReal.coe_mul, ← EReal.coe_mul, ← EReal.coe_neg, ← EReal.coe_neg, ← EReal.coe_neg, ← EReal.coe_add]
  congr 1; ring

theorem ref_dz (n : Fin 8) (I J : Fin 2048) : val_main_v39 (F := Ideal) x0 x1 x2 x3 (ix3 n I J) = (((argsOf x0 x1 x2 x3).dzR n I J : ℝ) : EReal) := by
  have hz := ref_z x0 x1 x2 x3 n I J f0 f1
  have h1 := ref_sig x0 x1 n I J _ hz
  have h2 := ref_sig_neg x0 x1 n I J _ hz
  have h3 := ref_gR x0 x1 x2 x3 f0 f1 f2 f3 n I J
  have h4 := ref_pR x0 x1 x2 x3 f0 f1 f2 f3 n I J
  have hk := ref_keep n I J
  pointwise [val_main_v39, val_main_v38, val_main_v37, val_main_call9_v1, val_main_call9_v0, val_main_v36, val_main_call8_v0, val_main_call8_cst, val_main_v35, val_main_v33, val_main_v32, val_main_call6_v1, val_main_call6_v0]
  rw [h1, h2, h3, h4, hk]
  refine (dz_scalar _ _ _ _).trans (congrArg Real.toEReal ?_)
  unfold Args.dzR Args.sR
  split
  · ring
  · next h =>
    have hg : (argsOf x0 x1 x2 x3).gR n I J = 0 := by unfold Args.gR Args.aR; rw [if_neg h, mul_zero]
    rw [hg]; ring

theorem ref_dv (n : Fin 8) (l : Fin 64) (J : Fin 2048) : val_main_v28 (F := Ideal) x0 x1 x3 (ix3 n l J)
    = ((∑ I : Fin 2048, (argsOf x0 x1 x2 x3).aR n I J * (argsOf x0 x1 x2 x3).d I (64 * n + l) : ℝ) : EReal) := by
  refine Eq.trans (b := ∑ I : Fin 2048, val_main_v26 (F := Ideal) x3 (ix3 n l I) * val_main_v21_0 (F := Ideal) x0 x1 (ix3 n I J)) (by pointwise [val_main_v28]) ?_
  have e : ∀ I : Fin 2048, val_main_v26 (F := Ideal) x3 (ix3 n l I) * val_main_v21_0 (F := Ideal) x0 x1 (ix3 n I J)
      = (((argsOf x0 x1 x2 x3).aR n I J * (argsOf x0 x1 x2 x3).d I (64 * n + l) : ℝ) : EReal) := fun I => by
    rw [ref_a x0 x1 x2 x3 f0 f1 n I J, EReal.coe_mul, mul_comm]
    refine congrArg (fun t : EReal => _ * t) ?_
    pointwise [val_main_v26, val_main_v25]
    rw [arr_at x3 f3, mul_comm 64]; rfl
  rw [Finset.sum_congr rfl fun I _ => e I, ← coe_sum]

theorem ref_dk (n : Fin 8) (J : Fin 2048) (l : Fin 64) : val_main_v42 (F := Ideal) x0 x1 x2 x3 (ix3 n J l)
    = (((∑ I : Fin 2048, (argsOf x0 x1 x2 x3).dzR n I J * (argsOf x0 x1 x2 x3).qs I (64 * n + l) : ℝ)) : EReal) := by
  refine Eq.trans (b := ∑ I : Fin 2048, val_main_v39 (F := Ideal) x0 x1 x2 x3 (ix3 n I J) * Ideal.ofBits .f32 0x3E000000#32 * val_main_v0 (F := Ideal) x0 (ix3 I n l)) (by pointwise [val_main_v42, val_main_v41, val_main_v40, val_main_cst_2]) ?_
  have e : ∀ I : Fin 2048, val_main_v39 (F := Ideal) x0 x1 x2 x3 (ix3 n I J) * Ideal.ofBits .f32 0x3E000000#32 * val_main_v0 (F := Ideal) x0 (ix3 I n l)
      = (((argsOf x0 x1 x2 x3).dzR n I J * (argsOf x0 x1 x2 x3).qs I (64 * n + l) : ℝ) : EReal) := fun I => by
    have h : val_main_v0 (F := Ideal) x0 (ix3 I n l) = ((arr x0 I (64 * n + l) : ℝ) : EReal) := by
      pointwise [val_main_v0]
      rw [arr_at x0 f0, mul_comm 64]
    rw [ref_dz x0 x1 x2 x3 f0 f1 f2 f3 n I J, h, ofBits_eighth, ← EReal.coe_mul, ← EReal.coe_mul]
    congr 1
    show _ = (argsOf x0 x1 x2 x3).dzR n I J * (arr x0 I (64 * n + l) * (1 / 8))
    ring
  rw [Finset.sum_congr rfl fun I _ => e I, ← coe_sum]

theorem ref_dq (n : Fin 8) (I : Fin 2048) (l : Fin 64) : val_main_v44 (F := Ideal) x0 x1 x2 x3 (ix3 n I l)
    = (((∑ J : Fin 2048, (argsOf x0 x1 x2 x3).dzR n I J * (argsOf x0 x1 x2 x3).k J (64 * n + l)) * (1 / 8) : ℝ) : EReal) := by
  refine Eq.trans (b := ∑ J : Fin 2048, val_main_v39 (F := Ideal) x0 x1 x2 x3 (ix3 n I J) * Ideal.ofBits .f32 0x3E000000#32 * val_main_v1 (F := Ideal) x1 (ix3 J n l)) (by pointwise [val_main_v44, val_main_v41, val_main_v40, val_main_cst_2]) ?_
  have e : ∀ J : Fin 2048, val_main_v39 (F := Ideal) x0 x1 x2 x3 (ix3 n I J) * Ideal.ofBits .f32 0x3E000000#32 * val_main_v1 (F := Ideal) x1 (ix3 J n l)
      = (((argsOf x0 x1 x2 x3).dzR n I J * (argsOf x0 x1 x2 x3).k J (64 * n + l) * (1 / 8) : ℝ) : EReal) := fun J => by
    have h : val_main_v1 (F := Ideal) x1 (ix3 J n l) = ((arr x1 J (64 * n + l) : ℝ) : EReal) := by
      pointwise [val_main_v1]
      rw [arr_at x1 f1, mul_comm 64]
    rw [ref_dz x0 x1 x2 x3 f0 f1 f2 f3 n I J, h, ofBits_eighth, ← EReal.coe_mul, ← EReal.coe_mul]
    congr 1
    show _ = (argsOf x0 x1 x2 x3).dzR n I J * arr x1 J (64 * n + l) * (1 / 8)
    ring
  rw [Finset.sum_congr rfl fun J _ => e J, ← coe_sum, Finset.sum_mul]

theorem ref_out (p : Fin 2048) (c : Fin 1536) :
    val_main_v50 (F := Ideal) x0 x1 x2 x3 (ix2 p c) = ((outR (argsOf x0 x1 x2 x3) p c : ℝ) : EReal) := by
  pointwise [val_main_v50, val_main_v49, val_main_v48, val_main_v47, val_main_v46, val_main_v45, val_main_v43, val_main_v29]
  have hc := c.isLt
  unfold outR
  split
  · next h =>
    refine (ref_dq x0 x1 x2 x3 f0 f1 f2 f3 _ p _).trans ?_
    congr 1
    show (∑ J : Fin 2048, (argsOf x0 x1 x2 x3).dzR (c / 64) p J * (argsOf x0 x1 x2 x3).k J (64 * (c / 64) + c % 64)) * (1 / 8) = _
    rw [Nat.div_add_mod, Fin.sum_univ_eq_sum_range (fun J => (argsOf x0 x1 x2 x3).dzR (c / 64) p J * (argsOf x0 x1 x2 x3).k J c) 2048]
  · next h =>
    split
    · next h' =>
      refine Eq.trans (b := ((∑ I : Fin 2048, (argsOf x0 x1 x2 x3).dzR ((c - 512) / 64) I p * (argsOf x0 x1 x2 x3).qs I (64 * ((c - 512) / 64) + (c - 512) % 64) : ℝ) : EReal))
        (ref_dk x0 x1 x2 x3 f0 f1 f2 f3 _ p _) ?_
      rw [if_pos (by omega), Nat.div_add_mod, Fin.sum_univ_eq_sum_range (fun I => (argsOf x0 x1 x2 x3).dzR ((c - 512) / 64) I p * (argsOf x0 x1 x2 x3).qs I (c - 512)) 2048]
    · next h' =>
      refine Eq.trans (b := ((∑ I : Fin 2048, (argsOf x0 x1 x2 x3).aR ((c - 512 - 512) / 64) I p * (argsOf x0 x1 x2 x3).d I (64 * ((c - 512 - 512) / 64) + (c - 512 - 512) % 64) : ℝ) : EReal))
        (ref_dv x0 x1 x2 x3 f0 f1 f2 f3 _ _ p) ?_
      rw [if_neg (by omega), Nat.div_add_mod, Nat.sub_sub, Fin.sum_univ_eq_sum_range (fun I => (argsOf x0 x1 x2 x3).aR ((c - 1024) / 64) I p * (argsOf x0 x1 x2 x3).d I (c - 1024)) 2048]

end
end Cert.Proof.Attn
end
-- ==== Proof.AttnValue.lean ====
/- Hand-written, untrusted: the attention's backward call leaves the cotangents of its reference. -/
module

public import proofs.«01_k».proof.Proof.AttnClaim
public import proofs.«01_k».proof.Proof.AttnHost
public import proofs.«01_k».proof.Proof.AttnRefGrad
public import proofs.«01_k».proof.Proof.InProjRef
public import proofs.«01_k».proof.Proof.Gen.Pre_finite_attn

@[expose] public section
set_option maxRecDepth 16384
noncomputable section

namespace Cert.Proof.Attn

open Cert.AttnIdeal Cert.AttnIdeal.Gen Idealize.ShloMosaic Idealize.ShloMosaic.Pipeline Idealize.SL.Sem

variable (m : (ℓ : Loc nD τ sig) → Buf (Elt Ideal) ℓ) (ρ : Dev nD → PrngReg) (c : Dev nD)

/-- What the call leaves. -/
def outM : FVec Ideal S2048x1536 .bf16 := fun o => ((outR (memArgs m c) (o 0) (o 1) : ℝ) : EReal)

variable (f0 : ∀ i, ∃ r : ℝ, X0 m c i = (r : EReal)) (f1 : ∀ i, ∃ r : ℝ, X1 m c i = (r : EReal)) (f2 : ∀ i, ∃ r : ℝ, X2 m c i = (r : EReal)) (f3 : ∀ i, ∃ r : ℝ, X3 m c i = (r : EReal))

include f0 f1 f2 f3

theorem outAt_eq (t : Fin cfg0.N) : outAt m c t = outM m c := by
  funext y
  exact body_value (A := memArgs m c) c (ms0 t) (hstage0_0 0) (ms1 t) (hstage0_1 0) (iblk m c 0 t) (Gen.V m c main_v89) (Gen.V m c main_v90) (Gen.V m c main_v91) (Gen.V m c main_v92) (Gen.V m c main_v88)
    (fun o => by
      rw [eq_ix2 o]
      exact (V_v89 m c (o 0) (o 1)).trans (qs_at m c (o 0) (o 1) f0))
    (fun o => by
      rw [eq_ix2 o]
      exact (V_v90 m c (o 0) (o 1)).trans (arr_at (X1 m c) f1 (o 0) (o 1)))
    (fun o => by
      rw [eq_ix2 o]
      exact (V_v91 m c (o 0) (o 1)).trans (arr_at (X2 m c) f2 (o 0) (o 1)))
    (fun o => by
      rw [eq_ix2 o]
      exact (V_v92 m c (o 0) (o 1)).trans (arr_at (X3 m c) f3 (o 0) (o 1)))
    (fun o => by
      have h := V_v88 m c ⟨(o 1).val / 16, by have : (o 1).val < 128 := (o 1).isLt; omega⟩ (o 0) ⟨(o 1).val % 16, by omega⟩ f0 f1
      have e : 16 * ((o 1).val / 16) + (o 1).val % 16 = (o 1).val := Nat.div_add_mod _ _
      refine Eq.trans (congrArg (Gen.V m c main_v88) ?_) (h.trans ?_)
      · exact (eq_ix2 o).trans (congrArg (ix2 (o 0)) (Fin.ext e.symm))
      · exact congrArg (fun x : ℕ => (((memArgs m c).rcR (o 0) x : ℝ) : EReal)) e)
    _ _ y

omit f0 f1 f2 f3 in
theorem emb1 (t : Fin cfg0.N) (o : S2048x1536.Idx) : ((cfg0.win 1).blk t).view.emb o = o := by
  refine funext fun a => Fin.ext ?_
  match a with
  | ⟨0, _⟩ => show 0 * 2048 + 1 * (o 0).val = (o 0).val; omega
  | ⟨1, _⟩ => show 0 * 1536 + 1 * (o 1).val = (o 1).val; omega

theorem flushed1 (t : Fin cfg0.N) : (dats m 0 c).flushed 1 t = ((cfg0.win 1).blk t).view.read (Elt Ideal) (outM m c) := by
  have key : (dats m 0 c).flushed 1 t = (cfg0.win 1).cut (grid0.coords t) (outM m c) := by
    unfold Dat.flushed
    rw [after1, outAt_eq m c f0 f1 f2 f3 t]
  rw [key]
  funext o
  show outM m c o = outM m c (((cfg0.win 1).blk t).view.emb o)
  rw [emb1]

theorem final1 : (dats m 0 c).arrAt 1 cfg0.N = outM m c := by
  refine (dats m 0 c).arrAt_eq_of_cover 1 (outM m c) (fun t _ => flushed1 m c f0 f1 f2 f3 t) (fun i => ?_)
  refine ⟨⟨0, by decide⟩, flush0_1 _, ?_⟩
  have h := ((cfg0.win 1).blk ⟨0, by decide⟩).view.emb_mem_set i
  rwa [emb1] at h

omit f0 f1 f2 f3 in
/-- The program's run, with the array it leaves. -/
theorem run_out (f0 : ∀ c i, ∃ r : ℝ, X0 m c i = (r : EReal)) (f1 : ∀ c i, ∃ r : ℝ, X1 m c i = (r : EReal)) (f2 : ∀ c i, ∃ r : ℝ, X2 m c i = (r : EReal)) (f3 : ∀ c i, ∃ r : ℝ, X3 m c i = (r : EReal)) :
    θ_run defs (onTc (τ := τ) (main (F := Ideal))) ⟨m, fun _ => 0, ρ⟩ (fun r => ∀ c : Dev nD,
      r.2.mem ((c.tc : Thread nD τ).loc main_v94) = outM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 1).trans (final1 m c (f0 c) (f1 c) (f2 c) (f3 c)),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (run_main m ρ)

omit f0 f1 f2 f3 in
/-- What the precondition says: the arguments are reals. -/
theorem finite_of_pre [Cert.Pre_finite_attn.Facts] (x0 x1 x2 x3 : Vec Ideal S2048x512 .f32)
    (h : ∀ j, Cert.Pre_finite_attn.fn (F := Ideal) x0 x1 x2 x3 j = 1#1) :
    (∀ i, ∃ r : ℝ, x0 i = (r : EReal)) ∧ (∀ i, ∃ r : ℝ, x1 i = (r : EReal)) ∧ (∀ i, ∃ r : ℝ, x2 i = (r : EReal)) ∧ ∀ i, ∃ r : ℝ, x3 i = (r : EReal) := by
  have h0 := h ix0
  dsimp only [Cert.Pre_finite_attn.fn, Cert.Pre_finite_attn.fn_part1] at h0
  obtain ⟨h012, h3⟩ := andi_one h0
  obtain ⟨h01, h2⟩ := andi_one h012
  obtain ⟨h0', h1⟩ := andi_one h01
  exact ⟨fun i => real_of_abs_lt (Host.reduce_andi_all _ _ _ _ _ h0' i), fun i => real_of_abs_lt (Host.reduce_andi_all _ _ _ _ _ h1 i),
    fun i => real_of_abs_lt (Host.reduce_andi_all _ _ _ _ _ h2 i), fun i => real_of_abs_lt (Host.reduce_andi_all _ _ _ _ _ h3 i)⟩

omit f0 f1 f2 f3 in
theorem frameIdealPre : Cert.quiescent_AttnIdeal_pre_finite_attn (hAttnIdeal := Cert.AttnIdeal.Gen.facts) (hPre_finite_attn := Cert.Pre_finite_attn.Gen.facts) :=
  fun m ρ _ => frame_run m ρ
omit f0 f1 f2 f3 in
theorem frameRefPre : Cert.quiescent_AttnRefIdeal_pre_finite_attn (hAttnRefIdeal := Cert.AttnRefIdeal.Gen.facts) (hPre_finite_attn := Cert.Pre_finite_attn.Gen.facts) :=
  fun m ρ _ => frameRef m ρ trivial

omit f0 f1 f2 f3 in
theorem value : Cert.algebraic_AttnIdeal_AttnRefIdeal_pre_finite_attn (hAttnIdeal := Cert.AttnIdeal.Gen.facts) (hAttnRefIdeal := Cert.AttnRefIdeal.Gen.facts)
    (hPre_finite_attn := Cert.Pre_finite_attn.Gen.facts) := by
  intro m g m' g' hpre hargs
  have fin := fun c : Dev nD => finite_of_pre (X0 m c) (X1 m c) (X2 m c) (X3 m c) (fun j => congrFun (hpre c) j)
  refine ⟨fun c => outM m c, run_out m g (fun c => (fin c).1) (fun c => (fin c).2.1) (fun c => (fin c).2.2.1) (fun c => (fin c).2.2.2), ?_⟩
  refine (θ_run Cert.AttnRefIdeal.defs _ _).mono (fun r h c => ?_) (Cert.AttnRefIdeal.Value.run m' g')
  obtain ⟨a0, a1, a2, a3⟩ := hargs c
  obtain ⟨r0, r2⟩ := h c
  refine ⟨?_, r2⟩
  rw [r0, Cert.AttnRefIdeal.Read.val_main_v50_eq, a0, a1, a2, a3]
  funext o
  exact (congrArg _ (eq_ix2 o)).trans (ref_out (X0 m c) (X1 m c) (X2 m c) (X3 m c) (fin c).1 (fin c).2.1 (fin c).2.2.1 (fin c).2.2.2 (o 0) (o 1))

end Cert.Proof.Attn
end
-- ==== Proof.FfnRow.lean ====
/- Hand-written, untrusted: one row of the gated feed-forward layer, the output norm and the squared loss, forward and
   backward, as the step's kernel computes them over the extended reals. -/
module

public import proofs.«01_k».proof.Proof.Basic

@[expose] public section

noncomputable section

namespace Cert.Proof.Ffn

open Idealize.ShloMosaic

/-- The logistic function, as the kernel divides it out. -/
def sigE (z : EReal) : EReal :=
  Ideal.div (Ideal.ofBits .f32 0x3F800000#32) (Ideal.ofBits .f32 0x3F800000#32 + Ideal.exp (-z))

variable (h : Fin 1024 → EReal) (wg wu : Fin 1024 → Fin 2816 → EReal) (wd : Fin 2816 → Fin 1024 → EReal)
  (x t g : Fin 1024 → EReal)

/-- A row times one half of the up-projection. -/
def rowMul (w : Fin 1024 → Fin 2816 → EReal) (f : Fin 2816) : EReal := ∑ k : Fin 1024, h k * w k f

/-- The gated activation of a row. -/
def rowAct (f : Fin 2816) : EReal := rowMul h wg f * sigE (rowMul h wg f) * rowMul h wu f

/-- The row after the down-projection. -/
def rowFf (j : Fin 1024) : EReal := ∑ f : Fin 2816, rowAct h wg wu f * wd f j

/-- The row of the layer's output less its target. -/
def rowErr (j : Fin 1024) : EReal :=
  x j + rowFf h wg wu wd j * rmsE (rowFf h wg wu wd) * g j - t j

/-- The loss's gradient at the output. -/
def rowDy (j : Fin 1024) : EReal := rowErr h wg wu wd x t g j * Ideal.ofBits .f32 0x3A800000#32

/-- The loss's gradient at the down-projection. -/
def rowDff (j : Fin 1024) : EReal :=
  rowGrad (rowFf h wg wu wd) (fun k => rowDy h wg wu wd x t g k * g k) j

/-- The loss's gradient at the activation. -/
def rowDact (f : Fin 2816) : EReal := ∑ j : Fin 1024, rowDff h wg wu wd x t g j * wd f j

/-- The loss's gradient at the gate's half of the up-projection. -/
def rowDgate (f : Fin 2816) : EReal :=
  rowDact h wg wu wd x t g f * rowMul h wu f
    * (sigE (rowMul h wg f) * (Ideal.ofBits .f32 0x3F800000#32
        + rowMul h wg f * (Ideal.ofBits .f32 0x3F800000#32 - sigE (rowMul h wg f))))

/-- The loss's gradient at the other half. -/
def rowDup (f : Fin 2816) : EReal := rowDact h wg wu wd x t g f * (rowMul h wg f * sigE (rowMul h wg f))

/-- Half the mean squared error of the row, less the half. -/
def rowMse : EReal :=
  Ideal.div (∑ k : Fin 1024, rowErr h wg wu wd x t g k * rowErr h wg wu wd x t g k) (Ideal.ofBits .f32 0x44800000#32)

/-- The row's part of the gradient of the norm's scale. -/
def rowDg (j : Fin 1024) : EReal :=
  rowDy h wg wu wd x t g j * (rowFf h wg wu wd j * rmsE (rowFf h wg wu wd))

end Cert.Proof.Ffn

end
-- ==== Proof.FfnPay.lean ====
/- Hand-written, untrusted: what one grid point of the feed-forward and loss call computes, at an index, over the extended
   reals. -/
module

public import proofs.«01_k».proof.Proof.FfnRow
public import proofs.«01_k».proof.Proof.Gen.FfnIdeal.Value
public import Idealize.ShloMosaic.Lib.Pointwise
public import Idealize.ShloMosaic.Lib.StableHlo.ReadAt
public import Idealize.ShloMosaic.Lib.Pipeline.ValueKit.Tiles

@[expose] public section

noncomputable section

namespace Cert.Proof.Ffn

open Cert.FfnIdeal Cert.FfnIdeal.Gen Idealize.ShloMosaic TcCoe Idealize.SL.Sem

/-! ## The payloads -/

theorem pay8_apply (v0 : Vec Ideal S256x1024 .bf16) (v2 v5 : Vec Ideal S1x1024x1408 .bf16) (p : Fin 256) (f : Fin 2816) :
    k0_pay8 v0 v2 v5 (ix2 p f) = if hf : f.val < 1408 then ∑ k : Fin 1024, v0 (ix2 p k) * v2 (ix3 0 k ⟨f.val, hf⟩)
      else ∑ k : Fin 1024, v0 (ix2 p k) * v5 (ix3 0 k ⟨f.val - 1408, by omega⟩) := by
  pointwise [k0_pay8, k0_pay7]

theorem pay9_eq (v0 : Vec Ideal S256x1024 .bf16) (v9 v12 : Vec Ideal S1x1024x1408 .bf16) :
    k0_pay9 v0 v9 v12 = k0_pay8 v0 v9 v12 := rfl

theorem pay10_apply (v0 : Vec Ideal S256x1024 .bf16) (v2 v5 : Vec Ideal S1x1024x1408 .bf16) (p : Fin 256) (f : Fin 2816) :
    k0_pay10 v0 v2 v5 (ix2 p f) = sigE (k0_pay8 v0 v2 v5 (ix2 p f)) := by
  unfold sigE
  pointwise [k0_pay10]
  rw [zero_sub]

theorem pay11_apply (v0 : Vec Ideal S256x1024 .bf16) (v2 v5 v9 v12 : Vec Ideal S1x1024x1408 .bf16) (p : Fin 256) (f : Fin 2816) :
    k0_pay11 v0 v2 v5 v9 v12 (ix2 p f)
      = k0_pay8 v0 v2 v5 (ix2 p f) * k0_pay10 v0 v2 v5 (ix2 p f) * k0_pay9 v0 v9 v12 (ix2 p f) := by
  pointwise [k0_pay11]

theorem pay12_apply (v0 : Vec Ideal S256x1024 .bf16) (v2 v5 v9 v12 : Vec Ideal S1x1024x1408 .bf16) (v27 : Vec Ideal S2816x1024 .bf16)
    (p : Fin 256) (j : Fin 1024) :
    k0_pay12 v0 v2 v5 v9 v12 v27 (ix2 p j) = ∑ f : Fin 2816, k0_pay11 v0 v2 v5 v9 v12 (ix2 p f) * v27 (ix2 f j) := by
  pointwise [k0_pay12]

theorem pay14_apply (v29 : FVec Ideal S256x1024 .f32) (p : Fin 256) :
    k0_pay14 (mulf v29 v29) (ix2 p 0) = rmsE (fun k => v29 (ix2 p k)) := by
  unfold rmsE
  pointwise [k0_pay14]

theorem pay15_apply (v29 v30 : FVec Ideal S256x1024 .f32) (p : Fin 256) (j : Fin 1024) :
    k0_pay15 v29 v30 (ix2 p j) = v29 (ix2 p j) * k0_pay14 v30 (ix2 p 0) := by
  pointwise [k0_pay15]

theorem pay17_apply (v29 v30 : FVec Ideal S256x1024 .f32) (v40 : Vec Ideal S1x1024 .f32) (v42 v46 : Vec Ideal S256x1024 .f32)
    (p : Fin 256) (j : Fin 1024) :
    k0_pay17 v29 v30 v40 v42 v46 (ix2 p j)
      = v42 (ix2 p j) + k0_pay15 v29 v30 (ix2 p j) * v40 (ix2 0 j) - v46 (ix2 p j) := by
  pointwise [k0_pay17, k0_pay16]

theorem pay18_apply (v29 v30 : FVec Ideal S256x1024 .f32) (v40 : Vec Ideal S1x1024 .f32) (v42 v46 : Vec Ideal S256x1024 .f32)
    (a : Fin 8) (b : Fin 128) :
    k0_pay18 v29 v30 v40 v42 v46 (ix2 a b)
      = Ideal.ofBits .f32 0x3F000000#32 * ∑ p : Fin 256, Ideal.div (∑ k : Fin 1024, k0_pay17 v29 v30 v40 v42 v46 (ix2 p k)
          * k0_pay17 v29 v30 v40 v42 v46 (ix2 p k)) (Ideal.ofBits .f32 0x44800000#32) := by
  pointwise [k0_pay18]

theorem pay19_apply (v29 v30 : FVec Ideal S256x1024 .f32) (v40 : Vec Ideal S1x1024 .f32) (v42 v46 : Vec Ideal S256x1024 .f32)
    (p : Fin 256) (j : Fin 1024) :
    k0_pay19 v29 v30 v40 v42 v46 (ix2 p j) = k0_pay17 v29 v30 v40 v42 v46 (ix2 p j) * Ideal.ofBits .f32 0x3A800000#32 := by
  pointwise [k0_pay19]

theorem pay20_apply (v29 v30 : FVec Ideal S256x1024 .f32) (v40 : Vec Ideal S1x1024 .f32) (v42 v46 : Vec Ideal S256x1024 .f32)
    (p : Fin 256) (j : Fin 1024) :
    k0_pay20 v29 v30 v40 v42 v46 (ix2 p j) = k0_pay19 v29 v30 v40 v42 v46 (ix2 p j) * v40 (ix2 0 j) := by
  pointwise [k0_pay20, k0_pay16]

theorem pay21_apply (v29 v30 : FVec Ideal S256x1024 .f32) (v40 : Vec Ideal S1x1024 .f32) (v42 v46 : Vec Ideal S256x1024 .f32)
    (p : Fin 256) :
    k0_pay21 v29 v30 v40 v42 v46 (ix2 p 0)
      = ∑ k : Fin 1024, k0_pay20 v29 v30 v40 v42 v46 (ix2 p k) * k0_pay15 v29 v30 (ix2 p k) := by
  pointwise [k0_pay21]

theorem pay1_apply (v37 v68 : FVec Ideal S256x1 .f32) (v39 v65 : FVec Ideal S256x1024 .f32) (c : EReal) (p : Fin 256) (j : Fin 1024) :
    k0_pay1 (F := Ideal) v37 v39 v65 v68 c (ix2 p j)
      = v37 (ix2 p 0) * (v65 (ix2 p j) - v39 (ix2 p j) * Ideal.div (v68 (ix2 p 0)) c) := by
  pointwise [k0_pay1]

theorem pay2_apply (v39 v62 : FVec Ideal S256x1024 .f32) (j : Fin 1024) :
    k0_pay2 v39 v62 (ix2 0 j) = ∑ p : Fin 256, v62 (ix2 p j) * v39 (ix2 p j) := by
  pointwise [k0_pay2]

theorem pay3_apply (v39 v62 : FVec Ideal S256x1024 .f32) (v104 : Vec Ideal S1x1024 .f32) (j : Fin 1024) :
    k0_pay3 v39 v62 v104 (ix2 0 j) = v104 (ix2 0 j) + k0_pay2 v39 v62 (ix2 0 j) := by
  pointwise [k0_pay3]

theorem pay4_apply (v37 v68 : FVec Ideal S256x1 .f32) (v39 v65 : FVec Ideal S256x1024 .f32) (c : EReal) (v87 : Vec Ideal S2816x1024 .bf16)
    (p : Fin 256) (f : Fin 2816) :
    k0_pay4 (F := Ideal) v37 v39 v65 v68 c v87 (ix2 p f)
      = ∑ j : Fin 1024, k0_pay1 (F := Ideal) v37 v39 v65 v68 c (ix2 p j) * v87 (ix2 f j) := by
  pointwise [k0_pay4]

theorem pay5_apply (v8 v15 v22 : FVec Ideal S256x2816 .f32) (v37 v68 : FVec Ideal S256x1 .f32) (v39 v65 : FVec Ideal S256x1024 .f32)
    (c : EReal) (v87 : Vec Ideal S2816x1024 .bf16) (p : Fin 256) (f : Fin 2816) :
    k0_pay5 (F := Ideal) v8 v15 v22 v37 v39 v65 v68 c v87 (ix2 p f)
      = k0_pay4 (F := Ideal) v37 v39 v65 v68 c v87 (ix2 p f) * v15 (ix2 p f)
        * (v22 (ix2 p f) * (Ideal.ofBits .f32 0x3F800000#32 + v8 (ix2 p f) * (Ideal.ofBits .f32 0x3F800000#32 - v22 (ix2 p f)))) := by
  pointwise [k0_pay5]

theorem pay6_apply (v8 v22 : FVec Ideal S256x2816 .f32) (v37 v68 : FVec Ideal S256x1 .f32) (v39 v65 : FVec Ideal S256x1024 .f32)
    (c : EReal) (v87 : Vec Ideal S2816x1024 .bf16) (p : Fin 256) (f : Fin 2816) :
    k0_pay6 (F := Ideal) v8 v22 v37 v39 v65 v68 c v87 (ix2 p f)
      = k0_pay4 (F := Ideal) v37 v39 v65 v68 c v87 (ix2 p f) * (v8 (ix2 p f) * v22 (ix2 p f)) := by
  pointwise [k0_pay6]

end Cert.Proof.Ffn

end
-- ==== Proof.FfnBlk.lean ====
/- Hand-written, untrusted: what the stores of one grid point of the feed-forward and loss call leave, row by row, as
   functions of the blocks the point reads. -/
module

public import proofs.«01_k».proof.Proof.FfnPay

@[expose] public section

noncomputable section

namespace Cert.Proof.Ffn

open Cert.FfnIdeal Cert.FfnIdeal.Gen Idealize.ShloMosaic TcCoe Idealize.SL.Sem

theorem hz2 : (![0, 0] : Fin 2 → Nat) = fun _ => 0 := funext fun a => by fin_cases a <;> rfl

/-! ## The blocks of a point, by rows -/

section Blocks

variable (x0 : Vec Ideal S256x1024 .bf16) (x1 : Vec Ideal S4x1024x1408 .bf16) (x2 : Vec Ideal S2816x1024 .bf16)
  (x3 x4 : Vec Ideal S256x1024 .f32) (x5 : Vec Ideal S1x1024 .f32)

/-- Row `p` of a tile. -/
abbrev rowB {n : Nat} (x : (⟨2, ![256, n]⟩ : Shape).Idx → EReal) (p : Fin 256) (k : Fin n) : EReal := x (ix2 p k)
/-- The gate's half of the four-piece weight. -/
def gateB (k : Fin 1024) (f : Fin 2816) : EReal := x1 (ix3 ⟨f.val / 1408, by omega⟩ k ⟨f.val % 1408, by omega⟩)
/-- Its other half. -/
def upB (k : Fin 1024) (f : Fin 2816) : EReal := x1 (ix3 ⟨2 + f.val / 1408, by omega⟩ k ⟨f.val % 1408, by omega⟩)
abbrev downB (f : Fin 2816) (j : Fin 1024) : EReal := x2 (ix2 f j)
abbrev scaleB (j : Fin 1024) : EReal := x5 (ix2 0 j)

/-- The four pieces of the weight, as the body loads them. -/
abbrev w0 : Vec Ideal S1x1024x1408 .bf16 := View.ld x1 (Rect.unit (s := S4x1024x1408) ![0, 0, 0] S1x1024x1408.size inb_S4x1024x1408_S1x1024x1408_0_0_0)
abbrev w1 : Vec Ideal S1x1024x1408 .bf16 := View.ld x1 (Rect.unit (s := S4x1024x1408) ![1, 0, 0] S1x1024x1408.size inb_S4x1024x1408_S1x1024x1408_1_0_0)
abbrev w2 : Vec Ideal S1x1024x1408 .bf16 := View.ld x1 (Rect.unit (s := S4x1024x1408) ![2, 0, 0] S1x1024x1408.size inb_S4x1024x1408_S1x1024x1408_2_0_0)
abbrev w3 : Vec Ideal S1x1024x1408 .bf16 := View.ld x1 (Rect.unit (s := S4x1024x1408) ![3, 0, 0] S1x1024x1408.size inb_S4x1024x1408_S1x1024x1408_3_0_0)

theorem w_apply (b : Fin 4) (inb) (k : Fin 1024) (q : Fin 1408) :
    View.ld x1 (Rect.unit (s := S4x1024x1408) ![b.val, 0, 0] S1x1024x1408.size inb) (ix3 0 k q) = x1 (ix3 b k q) :=
  View.ld_unit_apply_of x1 _ _ _ _ _ fun a => by
    match a with
    | ⟨0, _⟩ => rfl
    | ⟨1, _⟩ => exact (Nat.zero_add _).symm
    | ⟨2, _⟩ => exact (Nat.zero_add _).symm

theorem gate_apply (p : Fin 256) (f : Fin 2816) :
    k0_pay8 x0 (w0 x1) (w1 x1) (ix2 p f) = rowMul (rowB x0 p) (gateB x1) f := by
  rw [pay8_apply]
  unfold rowMul gateB
  split
  · refine Finset.sum_congr rfl fun k _ => congrArg (x0 (ix2 p k) * ·) ((w_apply x1 0 _ k _).trans ?_)
    exact congrArg x1 (congrArg₂ (fun a b => ix3 a k b) (Fin.ext (by show 0 = f.val / 1408; omega))
      (Fin.ext (by show f.val = f.val % 1408; omega)))
  · refine Finset.sum_congr rfl fun k _ => congrArg (x0 (ix2 p k) * ·) ((w_apply x1 1 _ k _).trans ?_)
    exact congrArg x1 (congrArg₂ (fun a b => ix3 a k b) (Fin.ext (by show 1 = f.val / 1408; omega))
      (Fin.ext (by show f.val - 1408 = f.val % 1408; omega)))

theorem up_apply (p : Fin 256) (f : Fin 2816) :
    k0_pay9 x0 (w2 x1) (w3 x1) (ix2 p f) = rowMul (rowB x0 p) (upB x1) f := by
  rw [pay9_eq, pay8_apply]
  unfold rowMul upB
  split
  · refine Finset.sum_congr rfl fun k _ => congrArg (x0 (ix2 p k) * ·) ((w_apply x1 2 _ k _).trans ?_)
    exact congrArg x1 (congrArg₂ (fun a b => ix3 a k b) (Fin.ext (by show 2 = 2 + f.val / 1408; omega))
      (Fin.ext (by show f.val = f.val % 1408; omega)))
  · refine Finset.sum_congr rfl fun k _ => congrArg (x0 (ix2 p k) * ·) ((w_apply x1 3 _ k _).trans ?_)
    exact congrArg x1 (congrArg₂ (fun a b => ix3 a k b) (Fin.ext (by show 3 = 2 + f.val / 1408; omega))
      (Fin.ext (by show f.val - 1408 = f.val % 1408; omega)))

theorem act_apply (p : Fin 256) (f : Fin 2816) :
    k0_pay11 x0 (w0 x1) (w1 x1) (w2 x1) (w3 x1) (ix2 p f) = rowAct (rowB x0 p) (gateB x1) (upB x1) f := by
  rw [pay11_apply, pay10_apply, gate_apply, up_apply]; rfl

/-- The tile after the down-projection, and its square. -/
abbrev ffB : FVec Ideal S256x1024 .f32 := k0_pay12 x0 (w0 x1) (w1 x1) (w2 x1) (w3 x1) x2
abbrev sqB : FVec Ideal S256x1024 .f32 := k0_pay13 x0 (w0 x1) (w1 x1) (w2 x1) (w3 x1) x2

theorem ff_apply (p : Fin 256) (j : Fin 1024) :
    ffB x0 x1 x2 (ix2 p j) = rowFf (rowB x0 p) (gateB x1) (upB x1) (downB x2) j := by
  refine (pay12_apply _ _ _ _ _ _ p j).trans ?_
  exact Finset.sum_congr rfl fun f _ => congrArg (· * x2 (ix2 f j)) (act_apply x0 x1 p f)

theorem rms_apply (p : Fin 256) :
    k0_pay14 (sqB x0 x1 x2) (ix2 p 0) = rmsE (rowFf (rowB x0 p) (gateB x1) (upB x1) (downB x2)) :=
  (pay14_apply (ffB x0 x1 x2) p).trans (congrArg rmsE (funext fun j => ff_apply x0 x1 x2 p j))

theorem norm_apply (p : Fin 256) (j : Fin 1024) :
    k0_pay15 (ffB x0 x1 x2) (sqB x0 x1 x2) (ix2 p j)
      = rowFf (rowB x0 p) (gateB x1) (upB x1) (downB x2) j * rmsE (rowFf (rowB x0 p) (gateB x1) (upB x1) (downB x2)) := by
  rw [pay15_apply, ff_apply, rms_apply]

theorem err_apply (p : Fin 256) (j : Fin 1024) :
    k0_pay17 (ffB x0 x1 x2) (sqB x0 x1 x2) x5 x3 x4 (ix2 p j)
      = rowErr (rowB x0 p) (gateB x1) (upB x1) (downB x2) (rowB x3 p) (rowB x4 p) (scaleB x5) j := by
  rw [pay17_apply, norm_apply]; rfl

theorem dy_apply (p : Fin 256) (j : Fin 1024) :
    k0_pay19 (ffB x0 x1 x2) (sqB x0 x1 x2) x5 x3 x4 (ix2 p j)
      = rowDy (rowB x0 p) (gateB x1) (upB x1) (downB x2) (rowB x3 p) (rowB x4 p) (scaleB x5) j := by
  rw [pay19_apply, err_apply]; rfl

theorem dyg_apply (p : Fin 256) (j : Fin 1024) :
    k0_pay20 (ffB x0 x1 x2) (sqB x0 x1 x2) x5 x3 x4 (ix2 p j)
      = rowDy (rowB x0 p) (gateB x1) (upB x1) (downB x2) (rowB x3 p) (rowB x4 p) (scaleB x5) j * scaleB x5 j := by
  rw [pay20_apply, dy_apply]

/-- The tile of the gradient at the down-projection. -/
abbrev dffB : FVec Ideal S256x1024 .bf16 :=
  k0_pay1 (F := Ideal) (k0_pay14 (sqB x0 x1 x2)) (k0_pay15 (ffB x0 x1 x2) (sqB x0 x1 x2))
    (k0_pay20 (ffB x0 x1 x2) (sqB x0 x1 x2) x5 x3 x4) (k0_pay21 (ffB x0 x1 x2) (sqB x0 x1 x2) x5 x3 x4) (FloatOps.ofBits FTy.f32 0x44800000#32)

theorem dff_apply (p : Fin 256) (j : Fin 1024) :
    dffB x0 x1 x2 x3 x4 x5 (ix2 p j)
      = rowDff (rowB x0 p) (gateB x1) (upB x1) (downB x2) (rowB x3 p) (rowB x4 p) (scaleB x5) j := by
  refine (pay1_apply _ _ _ _ _ p j).trans ?_
  rw [pay21_apply, rms_apply, dyg_apply, norm_apply, Finset.sum_congr rfl fun k _ =>
    congrArg₂ (· * ·) (dyg_apply x0 x1 x2 x3 x4 x5 p k) (norm_apply x0 x1 x2 p k)]
  rfl

/-- The tile of the gradient at the activation. -/
abbrev dactB : FVec Ideal S256x2816 .f32 :=
  k0_pay4 (F := Ideal) (k0_pay14 (sqB x0 x1 x2)) (k0_pay15 (ffB x0 x1 x2) (sqB x0 x1 x2))
    (k0_pay20 (ffB x0 x1 x2) (sqB x0 x1 x2) x5 x3 x4) (k0_pay21 (ffB x0 x1 x2) (sqB x0 x1 x2) x5 x3 x4) (FloatOps.ofBits FTy.f32 0x44800000#32) x2

theorem dact_apply (p : Fin 256) (f : Fin 2816) :
    dactB x0 x1 x2 x3 x4 x5 (ix2 p f)
      = rowDact (rowB x0 p) (gateB x1) (upB x1) (downB x2) (rowB x3 p) (rowB x4 p) (scaleB x5) f :=
  (pay4_apply _ _ _ _ _ _ p f).trans
    (Finset.sum_congr rfl fun j _ => congrArg (· * x2 (ix2 f j)) (dff_apply x0 x1 x2 x3 x4 x5 p j))

theorem dgate_apply (p : Fin 256) (f : Fin 2816) :
    k0_pay5 (F := Ideal) (k0_pay8 x0 (w0 x1) (w1 x1)) (k0_pay9 x0 (w2 x1) (w3 x1)) (k0_pay10 x0 (w0 x1) (w1 x1))
      (k0_pay14 (sqB x0 x1 x2)) (k0_pay15 (ffB x0 x1 x2) (sqB x0 x1 x2))
      (k0_pay20 (ffB x0 x1 x2) (sqB x0 x1 x2) x5 x3 x4) (k0_pay21 (ffB x0 x1 x2) (sqB x0 x1 x2) x5 x3 x4)
      (FloatOps.ofBits FTy.f32 0x44800000#32) x2 (ix2 p f)
      = rowDgate (rowB x0 p) (gateB x1) (upB x1) (downB x2) (rowB x3 p) (rowB x4 p) (scaleB x5) f := by
  refine (pay5_apply _ _ _ _ _ _ _ _ _ p f).trans ?_
  rw [pay10_apply, gate_apply, up_apply]
  exact congrArg (fun s => s * _ * _) (dact_apply x0 x1 x2 x3 x4 x5 p f)

theorem dup_apply (p : Fin 256) (f : Fin 2816) :
    k0_pay6 (F := Ideal) (k0_pay8 x0 (w0 x1) (w1 x1)) (k0_pay10 x0 (w0 x1) (w1 x1))
      (k0_pay14 (sqB x0 x1 x2)) (k0_pay15 (ffB x0 x1 x2) (sqB x0 x1 x2))
      (k0_pay20 (ffB x0 x1 x2) (sqB x0 x1 x2) x5 x3 x4) (k0_pay21 (ffB x0 x1 x2) (sqB x0 x1 x2) x5 x3 x4)
      (FloatOps.ofBits FTy.f32 0x44800000#32) x2 (ix2 p f)
      = rowDup (rowB x0 p) (gateB x1) (upB x1) (downB x2) (rowB x3 p) (rowB x4 p) (scaleB x5) f := by
  refine (pay6_apply _ _ _ _ _ _ _ _ p f).trans ?_
  rw [pay10_apply, gate_apply]
  exact congrArg (fun s => s * _) (dact_apply x0 x1 x2 x3 x4 x5 p f)

theorem dg_apply (j : Fin 1024) :
    k0_pay2 (k0_pay15 (ffB x0 x1 x2) (sqB x0 x1 x2)) (k0_pay19 (ffB x0 x1 x2) (sqB x0 x1 x2) x5 x3 x4) (ix2 0 j)
      = ∑ p : Fin 256, rowDg (rowB x0 p) (gateB x1) (upB x1) (downB x2) (rowB x3 p) (rowB x4 p) (scaleB x5) j := by
  rw [pay2_apply]
  exact Finset.sum_congr rfl fun p _ => congrArg₂ (· * ·) (dy_apply x0 x1 x2 x3 x4 x5 p j) (norm_apply x0 x1 x2 p j)

theorem loss_apply (a : Fin 8) (b : Fin 128) :
    k0_pay18 (ffB x0 x1 x2) (sqB x0 x1 x2) x5 x3 x4 (ix2 a b)
      = Ideal.ofBits .f32 0x3F000000#32 * ∑ p : Fin 256,
          rowMse (rowB x0 p) (gateB x1) (upB x1) (downB x2) (rowB x3 p) (rowB x4 p) (scaleB x5) := by
  rw [pay18_apply]
  refine congrArg (_ * ·) (Finset.sum_congr rfl fun p _ => congrArg (Ideal.div · _) (Finset.sum_congr rfl fun k _ => ?_))
  rw [err_apply]

/-! ## The six blocks -/

/-- A whole array given row by row. -/
abbrev ofRows {m n : Nat} (G : Fin m → Fin n → EReal) : FVec Ideal ⟨2, ![m, n]⟩ .f32 := fun o => G (o 0) (o 1)

/-- Two gradients side by side. -/
def side (G H : Fin 2816 → EReal) (q : Fin 5632) : EReal :=
  if hq : q.val < 2816 then G ⟨q.val, hq⟩ else H ⟨q.val - 2816, by omega⟩

def actBlk (p : Fin 256) (f : Fin 2816) : EReal := rowAct (rowB x0 p) (gateB x1) (upB x1) f
def dffBlk (p : Fin 256) (j : Fin 1024) : EReal :=
  rowDff (rowB x0 p) (gateB x1) (upB x1) (downB x2) (rowB x3 p) (rowB x4 p) (scaleB x5) j
def dyBlk (p : Fin 256) (j : Fin 1024) : EReal :=
  rowDy (rowB x0 p) (gateB x1) (upB x1) (downB x2) (rowB x3 p) (rowB x4 p) (scaleB x5) j
def lossBlk : EReal := Ideal.ofBits .f32 0x3F000000#32 * ∑ p : Fin 256,
  rowMse (rowB x0 p) (gateB x1) (upB x1) (downB x2) (rowB x3 p) (rowB x4 p) (scaleB x5)
def dgBlk (j : Fin 1024) : EReal :=
  ∑ p : Fin 256, rowDg (rowB x0 p) (gateB x1) (upB x1) (downB x2) (rowB x3 p) (rowB x4 p) (scaleB x5) j
def dguBlk (p : Fin 256) (q : Fin 5632) : EReal :=
  side (rowDgate (rowB x0 p) (gateB x1) (upB x1) (downB x2) (rowB x3 p) (rowB x4 p) (scaleB x5))
    (rowDup (rowB x0 p) (gateB x1) (upB x1) (downB x2) (rowB x3 p) (rowB x4 p) (scaleB x5)) q

/-- Two stores side by side, read back. -/
theorem canon_side (a b : S256x2816.Idx → EReal) (i1 i0) (G H : Fin 2816 → EReal) (p : Fin 256) (q : Fin 5632)
    (ha : ∀ f, a (ix2 p f) = H f) (hb : ∀ f, b (ix2 p f) = G f) :
    View.canon (Val := Elt Ideal) (e := .bf16) [(⟨Rect.unit (s := S256x5632) ![0, 2816] S256x2816.size i1, a⟩ : View.Piece (Elt Ideal) S256x5632 .bf16),
      ⟨Rect.unit (s := S256x5632) ![0, 0] S256x2816.size i0, b⟩] (ix2 p q) = side G H q := by
  refine View.canon_eq_of_allAt _ _ _ ?_ (View.allAt_cons_unit _ _ _ _ _ (fun x hx => ?_)
    (View.allAt_cons_unit _ _ _ _ _ (fun x hx => ?_) (View.allAt_nil _ _)))
  · by_cases hq : q.val < 2816
    · refine ⟨_, List.mem_cons_of_mem _ List.mem_cons_self, (Rect.mem_set_unit (inb := i0)).mpr fun a => ?_⟩
      match a with
      | ⟨0, _⟩ => exact ⟨Nat.zero_le _, by show p.val < 0 + 256; omega⟩
      | ⟨1, _⟩ => exact ⟨Nat.zero_le _, by show q.val < 0 + 2816; omega⟩
    · refine ⟨_, List.mem_cons_self, (Rect.mem_set_unit (inb := i1)).mpr fun a => ?_⟩
      match a with
      | ⟨0, _⟩ => exact ⟨Nat.zero_le _, by show p.val < 0 + 256; omega⟩
      | ⟨1, _⟩ => exact ⟨by show 2816 ≤ q.val; omega, by show q.val < 2816 + 2816; omega⟩
  · have e0 : p.val = 0 + (x 0).val := hx 0
    have e1 : q.val = 2816 + (x 1).val := hx 1
    unfold side
    rw [dif_neg (by omega), ← ha]
    refine congrArg a ((eq_ix2 x).trans (congrArg₂ (fun a b => ix2 a b) (Fin.ext ?_) (Fin.ext ?_)))
    · show (x 0).val = p.val; omega
    · show (x 1).val = q.val - 2816; omega
  · have e0 : p.val = 0 + (x 0).val := hx 0
    have e1 : q.val = 0 + (x 1).val := hx 1
    have h2 : (x 1).val < 2816 := (x 1).isLt
    unfold side
    rw [dif_pos (by omega), ← hb]
    refine congrArg b ((eq_ix2 x).trans (congrArg₂ (fun a b => ix2 a b) (Fin.ext ?_) (Fin.ext ?_)))
    · show (x 0).val = p.val; omega
    · show (x 1).val = q.val; omega

end Blocks

end Cert.Proof.Ffn

end
-- ==== Proof.FfnOut.lean ====
/- Hand-written, untrusted: the six blocks that one run of the feed-forward and loss body leaves, at the first point and at
   the later ones. -/
module

public import proofs.«01_k».proof.Proof.FfnBlk

@[expose] public section

noncomputable section

namespace Cert.Proof.Ffn

open Cert.FfnIdeal Cert.FfnIdeal.Gen Idealize.ShloMosaic TcCoe Idealize.SL.Sem

variable (c : Dev nD) (i : grid0.Coords)
  (arg1 : Memref sig .tc .vmem S256x1024 .bf16) (harg1 : arg1.IsWhole) (arg2 : Memref sig .tc .vmem S4x1024x1408 .bf16) (harg2 : arg2.IsWhole)
  (arg3 : Memref sig .tc .vmem S2816x1024 .bf16) (harg3 : arg3.IsWhole) (arg4 : Memref sig .tc .vmem S256x1024 .f32) (harg4 : arg4.IsWhole)
  (arg5 : Memref sig .tc .vmem S256x1024 .f32) (harg5 : arg5.IsWhole) (arg6 : Memref sig .tc .vmem S1x1024 .f32) (harg6 : arg6.IsWhole)
  (arg7 : Memref sig .tc .vmem S256x2816 .bf16) (harg7 : arg7.IsWhole) (arg8 : Memref sig .tc .vmem S256x1024 .bf16) (harg8 : arg8.IsWhole)
  (arg9 : Memref sig .tc .vmem S256x1024 .f32) (harg9 : arg9.IsWhole) (arg10 : Memref sig .tc .vmem S8x128 .f32) (harg10 : arg10.IsWhole)
  (arg11 : Memref sig .tc .vmem S1x1024 .f32) (harg11 : arg11.IsWhole) (arg12 : Memref sig .tc .vmem S256x5632 .bf16) (harg12 : arg12.IsWhole)
  (x0 : Vec Ideal S256x1024 .bf16) (x1 : Vec Ideal S4x1024x1408 .bf16) (x2 : Vec Ideal S2816x1024 .bf16)
  (x3 x4 : Vec Ideal S256x1024 .f32) (x5 : Vec Ideal S1x1024 .f32)

theorem out_A6 (h0 h1) : out0_A_6 c i arg1 harg1 arg2 harg2 arg3 harg3 arg4 harg4 arg5 harg5 arg6 harg6 arg7 harg7 arg8 harg8
    arg9 harg9 arg10 harg10 arg11 harg11 arg12 harg12 h0 h1 x0 x1 x2 x3 x4 x5 = ofRows (actBlk x0 x1) := by
  unfold out0_A_6
  rw [View.read_writes_junk_eq_canon]
  unfold kernelRun0_A
  dsimp only
  sl_unfold_words
  simp only [View.readAt_eq_ld, harg1.read_unread, harg2.read_unread, View.ld_unit_zero (S := S256x1024) hz2 inb_S256x1024_S256x1024_0_0]
  rw [View.canon_unit_zero hz2]
  funext o
  obtain ⟨p, q, rfl⟩ : ∃ p q, o = ix2 p q := ⟨o 0, o 1, eq_ix2 o⟩
  exact act_apply x0 x1 p q

theorem out_A7 (h0 h1) : out0_A_7 c i arg1 harg1 arg2 harg2 arg3 harg3 arg4 harg4 arg5 harg5 arg6 harg6 arg7 harg7 arg8 harg8
    arg9 harg9 arg10 harg10 arg11 harg11 arg12 harg12 h0 h1 x0 x1 x2 x3 x4 x5 = ofRows (dffBlk x0 x1 x2 x3 x4 x5) := by
  unfold out0_A_7
  rw [View.read_writes_junk_eq_canon]
  unfold kernelRun0_A
  dsimp only
  sl_unfold_words
  simp only [View.readAt_eq_ld, harg1.read_unread, harg2.read_unread, harg3.read_unread, harg4.read_unread,
    harg5.read_unread, harg6.read_unread, View.ld_unit_zero (S := S256x1024) hz2 inb_S256x1024_S256x1024_0_0,
    View.ld_unit_zero (S := S1x1024) hz2 inb_S1x1024_S1x1024_0_0, View.ld_unit_zero (S := S2816x1024) hz2 inb_S2816x1024_S2816x1024_0_0]
  rw [View.canon_unit_zero hz2]
  funext o
  obtain ⟨p, q, rfl⟩ : ∃ p q, o = ix2 p q := ⟨o 0, o 1, eq_ix2 o⟩
  exact dff_apply x0 x1 x2 x3 x4 x5 p q

theorem out_A8 (h0 h1) : out0_A_8 c i arg1 harg1 arg2 harg2 arg3 harg3 arg4 harg4 arg5 harg5 arg6 harg6 arg7 harg7 arg8 harg8
    arg9 harg9 arg10 harg10 arg11 harg11 arg12 harg12 h0 h1 x0 x1 x2 x3 x4 x5 = ofRows (dyBlk x0 x1 x2 x3 x4 x5) := by
  unfold out0_A_8
  rw [View.read_writes_junk_eq_canon]
  unfold kernelRun0_A
  dsimp only
  sl_unfold_words
  simp only [View.readAt_eq_ld, harg1.read_unread, harg2.read_unread, harg3.read_unread, harg4.read_unread,
    harg5.read_unread, harg6.read_unread, View.ld_unit_zero (S := S256x1024) hz2 inb_S256x1024_S256x1024_0_0,
    View.ld_unit_zero (S := S1x1024) hz2 inb_S1x1024_S1x1024_0_0, View.ld_unit_zero (S := S2816x1024) hz2 inb_S2816x1024_S2816x1024_0_0]
  rw [View.canon_unit_zero hz2]
  funext o
  obtain ⟨p, q, rfl⟩ : ∃ p q, o = ix2 p q := ⟨o 0, o 1, eq_ix2 o⟩
  exact dy_apply x0 x1 x2 x3 x4 x5 p q

theorem out_A9 (h0 h1) : out0_A_9 c i arg1 harg1 arg2 harg2 arg3 harg3 arg4 harg4 arg5 harg5 arg6 harg6 arg7 harg7 arg8 harg8
    arg9 harg9 arg10 harg10 arg11 harg11 arg12 harg12 h0 h1 x0 x1 x2 x3 x4 x5 = fun _ => lossBlk x0 x1 x2 x3 x4 x5 := by
  unfold out0_A_9
  rw [View.read_writes_junk_eq_canon]
  unfold kernelRun0_A
  dsimp only
  sl_unfold_words
  simp only [View.readAt_eq_ld, harg1.read_unread, harg2.read_unread, harg3.read_unread, harg4.read_unread,
    harg5.read_unread, harg6.read_unread, View.ld_unit_zero (S := S256x1024) hz2 inb_S256x1024_S256x1024_0_0,
    View.ld_unit_zero (S := S1x1024) hz2 inb_S1x1024_S1x1024_0_0, View.ld_unit_zero (S := S2816x1024) hz2 inb_S2816x1024_S2816x1024_0_0]
  rw [View.canon_unit_zero hz2]
  funext o
  obtain ⟨p, q, rfl⟩ : ∃ p q, o = ix2 p q := ⟨o 0, o 1, eq_ix2 o⟩
  exact loss_apply x0 x1 x2 x3 x4 x5 p q

theorem out_A10 (h0 h1) : out0_A_10 c i arg1 harg1 arg2 harg2 arg3 harg3 arg4 harg4 arg5 harg5 arg6 harg6 arg7 harg7 arg8 harg8
    arg9 harg9 arg10 harg10 arg11 harg11 arg12 harg12 h0 h1 x0 x1 x2 x3 x4 x5 = fun o => dgBlk x0 x1 x2 x3 x4 x5 (o 1) := by
  unfold out0_A_10
  rw [View.read_writes_junk_eq_canon]
  unfold kernelRun0_A
  dsimp only
  sl_unfold_words
  simp only [View.readAt_eq_ld, harg1.read_unread, harg2.read_unread, harg3.read_unread, harg4.read_unread,
    harg5.read_unread, harg6.read_unread, View.ld_unit_zero (S := S256x1024) hz2 inb_S256x1024_S256x1024_0_0,
    View.ld_unit_zero (S := S1x1024) hz2 inb_S1x1024_S1x1024_0_0, View.ld_unit_zero (S := S2816x1024) hz2 inb_S2816x1024_S2816x1024_0_0]
  rw [View.canon_unit_zero hz2]
  funext o
  obtain ⟨q, rfl⟩ : ∃ q, o = ix2 0 q := ⟨o 1, (eq_ix2 o).trans (congrArg (fun a => ix2 a (o 1)) (Fin.ext (by have : (o 0).val < 1 := (o 0).isLt; show (o 0).val = 0; omega)))⟩
  exact dg_apply x0 x1 x2 x3 x4 x5 q

theorem out_A11 (h0 h1) : out0_A_11 c i arg1 harg1 arg2 harg2 arg3 harg3 arg4 harg4 arg5 harg5 arg6 harg6 arg7 harg7 arg8 harg8
    arg9 harg9 arg10 harg10 arg11 harg11 arg12 harg12 h0 h1 x0 x1 x2 x3 x4 x5 = ofRows (dguBlk x0 x1 x2 x3 x4 x5) := by
  unfold out0_A_11
  rw [View.read_writes_junk_eq_canon]
  unfold kernelRun0_A
  dsimp only
  sl_unfold_words
  simp only [View.readAt_eq_ld, harg1.read_unread, harg2.read_unread, harg3.read_unread, harg4.read_unread,
    harg5.read_unread, harg6.read_unread, View.ld_unit_zero (S := S256x1024) hz2 inb_S256x1024_S256x1024_0_0,
    View.ld_unit_zero (S := S1x1024) hz2 inb_S1x1024_S1x1024_0_0, View.ld_unit_zero (S := S2816x1024) hz2 inb_S2816x1024_S2816x1024_0_0]
  funext o
  obtain ⟨p, q, rfl⟩ : ∃ p q, o = ix2 p q := ⟨o 0, o 1, eq_ix2 o⟩
  exact canon_side _ _ _ _ _ _ p q (dup_apply x0 x1 x2 x3 x4 x5 p) (dgate_apply x0 x1 x2 x3 x4 x5 p)

/-! ## The later points store the same blocks, the scale's gradient added to what was there -/

theorem out_B6 (h0 h1) (xp : Vec Ideal S1x1024 .f32) : out0_B_6 c i arg1 harg1 arg2 harg2 arg3 harg3 arg4 harg4 arg5 harg5 arg6 harg6 arg7 harg7 arg8 harg8
    arg9 harg9 arg10 harg10 arg11 harg11 arg12 harg12 h0 h1 x0 x1 x2 x3 x4 x5 xp = ofRows (actBlk x0 x1) := by
  unfold out0_B_6
  rw [View.read_writes_junk_eq_canon]
  unfold kernelRun0_B
  dsimp only
  sl_unfold_words
  simp only [View.readAt_eq_ld, harg1.read_unread, harg2.read_unread, View.ld_unit_zero (S := S256x1024) hz2 inb_S256x1024_S256x1024_0_0]
  rw [View.canon_unit_zero hz2]
  funext o
  obtain ⟨p, q, rfl⟩ : ∃ p q, o = ix2 p q := ⟨o 0, o 1, eq_ix2 o⟩
  exact act_apply x0 x1 p q

theorem out_B7 (h0 h1) (xp : Vec Ideal S1x1024 .f32) : out0_B_7 c i arg1 harg1 arg2 harg2 arg3 harg3 arg4 harg4 arg5 harg5 arg6 harg6 arg7 harg7 arg8 harg8
    arg9 harg9 arg10 harg10 arg11 harg11 arg12 harg12 h0 h1 x0 x1 x2 x3 x4 x5 xp = ofRows (dffBlk x0 x1 x2 x3 x4 x5) := by
  unfold out0_B_7
  rw [View.read_writes_junk_eq_canon]
  unfold kernelRun0_B
  dsimp only
  sl_unfold_words
  simp only [View.readAt_eq_ld, harg1.read_unread, harg2.read_unread, harg3.read_unread, harg4.read_unread,
    harg5.read_unread, harg6.read_unread, View.ld_unit_zero (S := S256x1024) hz2 inb_S256x1024_S256x1024_0_0,
    View.ld_unit_zero (S := S1x1024) hz2 inb_S1x1024_S1x1024_0_0, View.ld_unit_zero (S := S2816x1024) hz2 inb_S2816x1024_S2816x1024_0_0]
  rw [View.canon_unit_zero hz2]
  funext o
  obtain ⟨p, q, rfl⟩ : ∃ p q, o = ix2 p q := ⟨o 0, o 1, eq_ix2 o⟩
  exact dff_apply x0 x1 x2 x3 x4 x5 p q

theorem out_B8 (h0 h1) (xp : Vec Ideal S1x1024 .f32) : out0_B_8 c i arg1 harg1 arg2 harg2 arg3 harg3 arg4 harg4 arg5 harg5 arg6 harg6 arg7 harg7 arg8 harg8
    arg9 harg9 arg10 harg10 arg11 harg11 arg12 harg12 h0 h1 x0 x1 x2 x3 x4 x5 xp = ofRows (dyBlk x0 x1 x2 x3 x4 x5) := by
  unfold out0_B_8
  rw [View.read_writes_junk_eq_canon]
  unfold kernelRun0_B
  dsimp only
  sl_unfold_words
  simp only [View.readAt_eq_ld, harg1.read_unread, harg2.read_unread, harg3.read_unread, harg4.read_unread,
    harg5.read_unread, harg6.read_unread, View.ld_unit_zero (S := S256x1024) hz2 inb_S256x1024_S256x1024_0_0,
    View.ld_unit_zero (S := S1x1024) hz2 inb_S1x1024_S1x1024_0_0, View.ld_unit_zero (S := S2816x1024) hz2 inb_S2816x1024_S2816x1024_0_0]
  rw [View.canon_unit_zero hz2]
  funext o
  obtain ⟨p, q, rfl⟩ : ∃ p q, o = ix2 p q := ⟨o 0, o 1, eq_ix2 o⟩
  exact dy_apply x0 x1 x2 x3 x4 x5 p q

theorem out_B9 (h0 h1) (xp : Vec Ideal S1x1024 .f32) : out0_B_9 c i arg1 harg1 arg2 harg2 arg3 harg3 arg4 harg4 arg5 harg5 arg6 harg6 arg7 harg7 arg8 harg8
    arg9 harg9 arg10 harg10 arg11 harg11 arg12 harg12 h0 h1 x0 x1 x2 x3 x4 x5 xp = fun _ => lossBlk x0 x1 x2 x3 x4 x5 := by
  unfold out0_B_9
  rw [View.read_writes_junk_eq_canon]
  unfold kernelRun0_B
  dsimp only
  sl_unfold_words
  simp only [View.readAt_eq_ld, harg1.read_unread, harg2.read_unread, harg3.read_unread, harg4.read_unread,
    harg5.read_unread, harg6.read_unread, View.ld_unit_zero (S := S256x1024) hz2 inb_S256x1024_S256x1024_0_0,
    View.ld_unit_zero (S := S1x1024) hz2 inb_S1x1024_S1x1024_0_0, View.ld_unit_zero (S := S2816x1024) hz2 inb_S2816x1024_S2816x1024_0_0]
  rw [View.canon_unit_zero hz2]
  funext o
  obtain ⟨p, q, rfl⟩ : ∃ p q, o = ix2 p q := ⟨o 0, o 1, eq_ix2 o⟩
  exact loss_apply x0 x1 x2 x3 x4 x5 p q

theorem out_B11 (h0 h1) (xp : Vec Ideal S1x1024 .f32) : out0_B_11 c i arg1 harg1 arg2 harg2 arg3 harg3 arg4 harg4 arg5 harg5 arg6 harg6 arg7 harg7 arg8 harg8
    arg9 harg9 arg10 harg10 arg11 harg11 arg12 harg12 h0 h1 x0 x1 x2 x3 x4 x5 xp = ofRows (dguBlk x0 x1 x2 x3 x4 x5) := by
  unfold out0_B_11
  rw [View.read_writes_junk_eq_canon]
  unfold kernelRun0_B
  dsimp only
  sl_unfold_words
  simp only [View.readAt_eq_ld, harg1.read_unread, harg2.read_unread, harg3.read_unread, harg4.read_unread,
    harg5.read_unread, harg6.read_unread, View.ld_unit_zero (S := S256x1024) hz2 inb_S256x1024_S256x1024_0_0,
    View.ld_unit_zero (S := S1x1024) hz2 inb_S1x1024_S1x1024_0_0, View.ld_unit_zero (S := S2816x1024) hz2 inb_S2816x1024_S2816x1024_0_0]
  funext o
  obtain ⟨p, q, rfl⟩ : ∃ p q, o = ix2 p q := ⟨o 0, o 1, eq_ix2 o⟩
  exact canon_side _ _ _ _ _ _ p q (dup_apply x0 x1 x2 x3 x4 x5 p) (dgate_apply x0 x1 x2 x3 x4 x5 p)

theorem out_B10 (h0 h1) (xp : Vec Ideal S1x1024 .f32) : out0_B_10 c i arg1 harg1 arg2 harg2 arg3 harg3 arg4 harg4 arg5 harg5
    arg6 harg6 arg7 harg7 arg8 harg8 arg9 harg9 arg10 harg10 arg11 harg11 arg12 harg12 h0 h1 x0 x1 x2 x3 x4 x5 xp
      = fun o => xp o + dgBlk x0 x1 x2 x3 x4 x5 (o 1) := by
  unfold out0_B_10
  rw [View.read_writes_eq_canon _ _ _ (cover0_B_10 c i arg1 harg1 arg2 harg2 arg3 harg3 arg4 harg4 arg5 harg5 arg6 harg6
    arg7 harg7 arg8 harg8 arg9 harg9 arg10 harg10 arg11 harg11 arg12 harg12 h0 h1 x0 x1 x2 x3 x4 x5 xp)]
  unfold kernelRun0_B
  dsimp only
  sl_unfold_words
  simp only [View.readAt_eq_ld, harg1.read_unread, harg2.read_unread, harg3.read_unread, harg4.read_unread,
    harg5.read_unread, harg6.read_unread, harg11.read_unread, View.ld_unit_zero (S := S256x1024) hz2 inb_S256x1024_S256x1024_0_0,
    View.ld_unit_zero (S := S1x1024) hz2 inb_S1x1024_S1x1024_0_0, View.ld_unit_zero (S := S2816x1024) hz2 inb_S2816x1024_S2816x1024_0_0]
  rw [View.canon_unit_zero hz2]
  funext o
  obtain ⟨q, rfl⟩ : ∃ q, o = ix2 0 q := ⟨o 1, (eq_ix2 o).trans (congrArg (fun a => ix2 a (o 1)) (Fin.ext (by have : (o 0).val < 1 := (o 0).isLt; show (o 0).val = 0; omega)))⟩
  exact (pay3_apply _ _ _ q).trans (congrArg (xp (ix2 0 q) + ·) (dg_apply x0 x1 x2 x3 x4 x5 q))

end Cert.Proof.Ffn

end
-- ==== Proof.FfnRun.lean ====
/- Hand-written, untrusted: the six arrays that the feed-forward and loss call leaves, as functions of its arguments, over
   the extended reals: row by row, the loss by tiles of 256 rows, the scale's gradient as one sum over all rows. -/
module

public import proofs.«01_k».proof.Proof.FfnOut
public import proofs.«01_k».proof.Proof.InProjRun

@[expose] public section

noncomputable section

namespace Cert.Proof.Ffn

open Cert.FfnIdeal Cert.FfnIdeal.Gen Cert.FfnIdeal.Value Idealize.ShloMosaic TcCoe Idealize.SL.Sem

/-! ## The results, of the arguments -/

section Results

variable (h2 : Vec Ideal S2048x1024 .f32) (wup : Vec Ideal S1024x5632 .f32) (wdn : Vec Ideal S2816x1024 .f32)
  (x2 tg : Vec Ideal S2048x1024 .f32) (g : Vec Ideal S1024 .f32)

abbrev rowA {n : Nat} (x : (⟨2, ![2048, n]⟩ : Shape).Idx → EReal) (p : Fin 2048) (k : Fin n) : EReal := x (ix2 p k)
abbrev gateA (k : Fin 1024) (f : Fin 2816) : EReal := wup (ix2 k ⟨f.val, by omega⟩)
abbrev upA (k : Fin 1024) (f : Fin 2816) : EReal := wup (ix2 k ⟨2816 + f.val, by omega⟩)
abbrev downA (f : Fin 2816) (j : Fin 1024) : EReal := wdn (ix2 f j)
abbrev scaleA (j : Fin 1024) : EReal := g (ix1 j)

def actA (p : Fin 2048) (f : Fin 2816) : EReal := rowAct (rowA h2 p) (gateA wup) (upA wup) f
def dffA (p : Fin 2048) (j : Fin 1024) : EReal :=
  rowDff (rowA h2 p) (gateA wup) (upA wup) (downA wdn) (rowA x2 p) (rowA tg p) (scaleA g) j
def dyA (p : Fin 2048) (j : Fin 1024) : EReal :=
  rowDy (rowA h2 p) (gateA wup) (upA wup) (downA wdn) (rowA x2 p) (rowA tg p) (scaleA g) j
def mseA (p : Fin 2048) : EReal :=
  rowMse (rowA h2 p) (gateA wup) (upA wup) (downA wdn) (rowA x2 p) (rowA tg p) (scaleA g)
/-- The loss of tile `a`'s rows, in every place of the tile's eight rows of partial sums. -/
def lossA (a : Fin 64) (_ : Fin 128) : EReal :=
  Ideal.ofBits .f32 0x3F000000#32 * ∑ p : Fin 256, mseA h2 wup wdn x2 tg g ⟨256 * (a.val / 8) + p.val, by omega⟩
def dgA (j : Fin 1024) : EReal :=
  ∑ p : Fin 2048, rowDg (rowA h2 p) (gateA wup) (upA wup) (downA wdn) (rowA x2 p) (rowA tg p) (scaleA g) j
def dguA (p : Fin 2048) (q : Fin 5632) : EReal :=
  side (rowDgate (rowA h2 p) (gateA wup) (upA wup) (downA wdn) (rowA x2 p) (rowA tg p) (scaleA g))
    (rowDup (rowA h2 p) (gateA wup) (upA wup) (downA wdn) (rowA x2 p) (rowA tg p) (scaleA g)) q

end Results

variable (m : (ℓ : Loc nD τ sig) → Buf (Elt Ideal) ℓ) (ρ : Dev nD → PrngReg)

/-! ## The arrays the region finds -/

theorem V_v2 (c : Dev nD) (a : Fin 4) (k : Fin 1024) (q : Fin 1408) :
    V m c main_v2 (ix3 a k q) = m ((c : Thread nD τ).loc main_arg1) (ix2 k ⟨1408 * a.val + q.val, by omega⟩) := by
  unfold V; after_reads_at
  exact congrArg _ (congrArg (ix2 k) (Fin.ext (by show a.val * 1408 + q.val = 1408 * a.val + q.val; omega)))
theorem V_v3 (c : Dev nD) (p : Fin 2048) (k : Fin 1024) :
    V m c main_v3 (ix2 p k) = m ((c : Thread nD τ).loc main_arg0) (ix2 p k) := by
  unfold V; after_reads_at
theorem V_v4 (c : Dev nD) (f : Fin 2816) (j : Fin 1024) :
    V m c main_v4 (ix2 f j) = m ((c : Thread nD τ).loc main_arg2) (ix2 f j) := by
  unfold V; after_reads_at
theorem V_v5 (c : Dev nD) (j : Fin 1024) :
    V m c main_v5 (ix2 0 j) = m ((c : Thread nD τ).loc main_arg5) (ix1 j) := by
  unfold V; after_reads_at

/-! ## Where a point's blocks lie -/

theorem N8 : cfg0.N = 8 := by decide
theorem lt8 (t : Fin cfg0.N) : t.val < 8 := lt_of_lt_of_eq t.isLt N8

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)

/-- Row `p` of point `t`'s tile, in the whole array. -/
def row (t : Fin cfg0.N) (p : Fin 256) : Fin 2048 := ⟨256 * t.val + p.val, by have := lt8 t; omega⟩

theorem blkH (c : Dev nD) (t : Fin cfg0.N) (p : Fin 256) :
    rowB (iblk m c 0 t) p = rowA (m ((c : Thread nD τ).loc main_arg0)) (row t p) := by
  obtain ⟨e0, e1⟩ := idx0 t
  funext k
  have e : ((cfg0.win 0).blk t).view.emb (ix2 p k) = ix2 (row t p) k := by
    refine funext fun a => Fin.ext ?_
    match a with
    | ⟨0, _⟩ => show win0_0.index t (0 : Fin 2) * 256 + 1 * p.val = 256 * t.val + p.val; omega
    | ⟨1, _⟩ => show win0_0.index t (1 : Fin 2) * 1024 + 1 * k.val = k.val; omega
  exact (congrArg (V m c main_v3) e).trans (V_v3 m c _ _)
theorem iblk1 (c : Dev nD) (t : Fin cfg0.N) (b : Fin 4) (k : Fin 1024) (q : Fin 1408) :
    iblk m c 1 t (ix3 b k q) = m ((c : Thread nD τ).loc main_arg1) (ix2 k ⟨1408 * b.val + q.val, by omega⟩) := by
  obtain ⟨e0, e1, e2⟩ := idx1 t
  have e : ((cfg0.win 1).blk t).view.emb (ix3 b k q) = ix3 b k q := by
    refine funext fun a => Fin.ext ?_
    match a with
    | ⟨0, _⟩ => show win0_1.index t (0 : Fin 3) * 4 + 1 * b.val = b.val; omega
    | ⟨1, _⟩ => show win0_1.index t (1 : Fin 3) * 1024 + 1 * k.val = k.val; omega
    | ⟨2, _⟩ => show win0_1.index t (2 : Fin 3) * 1408 + 1 * q.val = q.val; omega
  exact (congrArg (V m c main_v2) e).trans (V_v2 m c _ _ _)
theorem blkGate (c : Dev nD) (t : Fin cfg0.N) : gateB (iblk m c 1 t) = gateA (m ((c : Thread nD τ).loc main_arg1)) :=
  funext fun k => funext fun f => (iblk1 m c t _ k _).trans
    (congrArg _ (congrArg (ix2 k) (Fin.ext (by show 1408 * (f.val / 1408) + f.val % 1408 = f.val; omega))))
theorem blkUp (c : Dev nD) (t : Fin cfg0.N) : upB (iblk m c 1 t) = upA (m ((c : Thread nD τ).loc main_arg1)) :=
  funext fun k => funext fun f => (iblk1 m c t _ k _).trans
    (congrArg _ (congrArg (ix2 k) (Fin.ext (by show 1408 * (2 + f.val / 1408) + f.val % 1408 = 2816 + f.val; omega))))
theorem blkDown (c : Dev nD) (t : Fin cfg0.N) : downB (iblk m c 2 t) = downA (m ((c : Thread nD τ).loc main_arg2)) := by
  obtain ⟨e0, e1⟩ := idx2 t
  funext f j
  have e : ((cfg0.win 2).blk t).view.emb (ix2 f j) = ix2 f j := by
    refine funext fun a => Fin.ext ?_
    match a with
    | ⟨0, _⟩ => show win0_2.index t (0 : Fin 2) * 2816 + 1 * f.val = f.val; omega
    | ⟨1, _⟩ => show win0_2.index t (1 : Fin 2) * 1024 + 1 * j.val = j.val; omega
  exact (congrArg (V m c main_v4) e).trans (V_v4 m c _ _)
theorem blkX (c : Dev nD) (t : Fin cfg0.N) (p : Fin 256) :
    rowB (iblk m c 3 t) p = rowA (m ((c : Thread nD τ).loc main_arg3)) (row t p) := by
  obtain ⟨e0, e1⟩ := idx3 t
  funext k
  have e : ((cfg0.win 3).blk t).view.emb (ix2 p k) = ix2 (row t p) k := by
    refine funext fun a => Fin.ext ?_
    match a with
    | ⟨0, _⟩ => show win0_3.index t (0 : Fin 2) * 256 + 1 * p.val = 256 * t.val + p.val; omega
    | ⟨1, _⟩ => show win0_3.index t (1 : Fin 2) * 1024 + 1 * k.val = k.val; omega
  exact (congrArg (V m c main_arg3) e).trans (congrFun (V_main_arg3 m c) _)
theorem blkT (c : Dev nD) (t : Fin cfg0.N) (p : Fin 256) :
    rowB (iblk m c 4 t) p = rowA (m ((c : Thread nD τ).loc main_arg4)) (row t p) := by
  obtain ⟨e0, e1⟩ := idx4 t
  funext k
  have e : ((cfg0.win 4).blk t).view.emb (ix2 p k) = ix2 (row t p) k := by
    refine funext fun a => Fin.ext ?_
    match a with
    | ⟨0, _⟩ => show win0_4.index t (0 : Fin 2) * 256 + 1 * p.val = 256 * t.val + p.val; omega
    | ⟨1, _⟩ => show win0_4.index t (1 : Fin 2) * 1024 + 1 * k.val = k.val; omega
  exact (congrArg (V m c main_arg4) e).trans (congrFun (V_main_arg4 m c) _)
theorem blkG (c : Dev nD) (t : Fin cfg0.N) : scaleB (iblk m c 5 t) = scaleA (m ((c : Thread nD τ).loc main_arg5)) := by
  obtain ⟨e0, e1⟩ := idx5 t
  funext j
  have e : ((cfg0.win 5).blk t).view.emb (ix2 0 j) = ix2 0 j := by
    refine funext fun a => Fin.ext ?_
    match a with
    | ⟨0, _⟩ => show win0_5.index t (0 : Fin 2) * 1 + 1 * 0 = 0; omega
    | ⟨1, _⟩ => show win0_5.index t (1 : Fin 2) * 1024 + 1 * j.val = j.val; omega
  exact (congrArg (V m c main_v5) e).trans (V_v5 m c _)

/-! ## The results, of the launch memory -/

abbrev a0 (c : Dev nD) : Vec Ideal S2048x1024 .f32 := m ((c : Thread nD τ).loc main_arg0)
abbrev a1 (c : Dev nD) : Vec Ideal S1024x5632 .f32 := m ((c : Thread nD τ).loc main_arg1)
abbrev a2 (c : Dev nD) : Vec Ideal S2816x1024 .f32 := m ((c : Thread nD τ).loc main_arg2)
abbrev a3 (c : Dev nD) : Vec Ideal S2048x1024 .f32 := m ((c : Thread nD τ).loc main_arg3)
abbrev a4 (c : Dev nD) : Vec Ideal S2048x1024 .f32 := m ((c : Thread nD τ).loc main_arg4)
abbrev a5 (c : Dev nD) : Vec Ideal S1024 .f32 := m ((c : Thread nD τ).loc main_arg5)

theorem act_eq (c : Dev nD) (t : Fin cfg0.N) (p : Fin 256) (f : Fin 2816) :
    actBlk (iblk m c 0 t) (iblk m c 1 t) p f = actA (a0 m c) (a1 m c) (row t p) f := by
  unfold actBlk actA; rw [blkH, blkGate, blkUp]
theorem dff_eq (c : Dev nD) (t : Fin cfg0.N) (p : Fin 256) (j : Fin 1024) :
    dffBlk (iblk m c 0 t) (iblk m c 1 t) (iblk m c 2 t) (iblk m c 3 t) (iblk m c 4 t) (iblk m c 5 t) p j
      = dffA (a0 m c) (a1 m c) (a2 m c) (a3 m c) (a4 m c) (a5 m c) (row t p) j := by
  unfold dffBlk dffA; rw [blkH, blkGate, blkUp, blkDown, blkX, blkT, blkG]
theorem dy_eq (c : Dev nD) (t : Fin cfg0.N) (p : Fin 256) (j : Fin 1024) :
    dyBlk (iblk m c 0 t) (iblk m c 1 t) (iblk m c 2 t) (iblk m c 3 t) (iblk m c 4 t) (iblk m c 5 t) p j
      = dyA (a0 m c) (a1 m c) (a2 m c) (a3 m c) (a4 m c) (a5 m c) (row t p) j := by
  unfold dyBlk dyA; rw [blkH, blkGate, blkUp, blkDown, blkX, blkT, blkG]
theorem dgu_eq (c : Dev nD) (t : Fin cfg0.N) (p : Fin 256) (q : Fin 5632) :
    dguBlk (iblk m c 0 t) (iblk m c 1 t) (iblk m c 2 t) (iblk m c 3 t) (iblk m c 4 t) (iblk m c 5 t) p q
      = dguA (a0 m c) (a1 m c) (a2 m c) (a3 m c) (a4 m c) (a5 m c) (row t p) q := by
  unfold dguBlk dguA; rw [blkH, blkGate, blkUp, blkDown, blkX, blkT, blkG]
theorem loss_eq (c : Dev nD) (t : Fin cfg0.N) :
    lossBlk (iblk m c 0 t) (iblk m c 1 t) (iblk m c 2 t) (iblk m c 3 t) (iblk m c 4 t) (iblk m c 5 t)
      = Ideal.ofBits .f32 0x3F000000#32 * ∑ p : Fin 256, mseA (a0 m c) (a1 m c) (a2 m c) (a3 m c) (a4 m c) (a5 m c) (row t p) := by
  unfold lossBlk
  refine congrArg (_ * ·) (Finset.sum_congr rfl fun p _ => ?_)
  unfold mseA; rw [blkH, blkGate, blkUp, blkDown, blkX, blkT, blkG]
theorem dg_eq (c : Dev nD) (t : Fin cfg0.N) (j : Fin 1024) :
    dgBlk (iblk m c 0 t) (iblk m c 1 t) (iblk m c 2 t) (iblk m c 3 t) (iblk m c 4 t) (iblk m c 5 t) j
      = ∑ p : Fin 256, rowDg (rowA (a0 m c) (row t p)) (gateA (a1 m c)) (upA (a1 m c)) (downA (a2 m c)) (rowA (a3 m c) (row t p))
          (rowA (a4 m c) (row t p)) (scaleA (a5 m c)) j := by
  unfold dgBlk
  refine Finset.sum_congr rfl fun p _ => ?_
  rw [blkH, blkGate, blkUp, blkDown, blkX, blkT, blkG]

end Cert.Proof.Ffn

end
-- ==== Proof.FfnArr.lean ====
/- Hand-written, untrusted: the feed-forward and loss call's run — each of its six result arrays, written tile by tile, is
   its function of the arguments, and the arguments stay as they were. -/
module

public import proofs.«01_k».proof.Proof.FfnRun

@[expose] public section

noncomputable section

namespace Cert.Proof.Ffn

open Cert.FfnIdeal Cert.FfnIdeal.Gen Cert.FfnIdeal.Value Idealize.ShloMosaic TcCoe Idealize.SL.Sem

variable (m : (ℓ : Loc nD τ sig) → Buf (Elt Ideal) ℓ) (ρ : Dev nD → PrngReg)

abbrev actM (c : Dev nD) : Vec Ideal S2048x2816 .bf16 := ofRows (actA (a0 m c) (a1 m c))
abbrev dffM (c : Dev nD) : Vec Ideal S2048x1024 .bf16 := ofRows (dffA (a0 m c) (a1 m c) (a2 m c) (a3 m c) (a4 m c) (a5 m c))
abbrev dyM (c : Dev nD) : Vec Ideal S2048x1024 .f32 := ofRows (dyA (a0 m c) (a1 m c) (a2 m c) (a3 m c) (a4 m c) (a5 m c))
abbrev lossM (c : Dev nD) : Vec Ideal S64x128 .f32 := ofRows (lossA (a0 m c) (a1 m c) (a2 m c) (a3 m c) (a4 m c) (a5 m c))
abbrev dgM (c : Dev nD) : Vec Ideal S1x1024 .f32 := fun o => dgA (a0 m c) (a1 m c) (a2 m c) (a3 m c) (a4 m c) (a5 m c) (o 1)
abbrev dguM (c : Dev nD) : Vec Ideal S2048x5632 .bf16 := ofRows (dguA (a0 m c) (a1 m c) (a2 m c) (a3 m c) (a4 m c) (a5 m c))

/-- A row of 2048 lies in the tile of 256 that its quotient names, at its remainder. -/
theorem in_tile {n : Nat} (i : (⟨2, ![2048, n]⟩ : Shape).Idx) (h : (i 0).val / 256 < cfg0.N) :
    i = ix2 (row ⟨(i 0).val / 256, h⟩ ⟨(i 0).val % 256, Nat.mod_lt _ (by norm_num)⟩) (i 1) :=
  (eq_ix2 i).trans (congrArg (fun r => ix2 r (i 1)) (Fin.ext (by
    show (i 0).val = 256 * ((i 0).val / 256) + (i 0).val % 256
    omega)))
theorem tile_lt (i : Fin 2048) : i.val / 256 < cfg0.N := lt_of_lt_of_eq (by omega) N8.symm

/-! ## The activation -/

theorem emb6 (t : Fin cfg0.N) (o : S256x2816.Idx) : ((cfg0.win 6).blk t).view.emb o = ix2 (row t (o 0)) (o 1) := by
  obtain ⟨e0, e1⟩ := idx6 t
  refine funext fun a => Fin.ext ?_
  match a with
  | ⟨0, _⟩ => show win0_6.index t (0 : Fin 2) * 256 + 1 * (o 0).val = 256 * t.val + (o 0).val; omega
  | ⟨1, _⟩ => show win0_6.index t (1 : Fin 2) * 2816 + 1 * (o 1).val = (o 1).val; omega

theorem flushed6_eq (c : Dev nD) (t : Fin cfg0.N) :
    (dats m 0 c).flushed 6 t = ((cfg0.win 6).blk t).view.read (Elt Ideal) (actM m c) := by
  have key : (dats m 0 c).flushed 6 t = (cfg0.win 6).cut (grid0.coords t) (ofRows (actBlk (iblk m c 0 t) (iblk m c 1 t))) := by
    have := lt8 t
    by_cases h1 : 1 ≤ t.val
    · rw [flushed6_B m c t (by omega) h1, out_B6]
    · rw [flushed6_A m c t (by omega) h1, out_A6]
  rw [key]
  funext o
  refine (act_eq m c t (o 0) (o 1)).trans ?_
  show _ = actM m c (((cfg0.win 6).blk t).view.emb o)
  rw [emb6]
  rfl

theorem covered6 (i : S2048x2816.Idx) :
    ∃ t : Fin cfg0.N, (cfg0.win 6).flush t = true ∧ i ∈ ((cfg0.win 6).blk t).view.set := by
  refine ⟨⟨(i 0).val / 256, tile_lt (i 0)⟩, flush0_6 _, ?_⟩
  have h := ((cfg0.win 6).blk ⟨(i 0).val / 256, tile_lt (i 0)⟩).view.emb_mem_set
    (ix2 ⟨(i 0).val % 256, Nat.mod_lt _ (by norm_num)⟩ (i 1) : S256x2816.Idx)
  rw [emb6] at h
  exact (congrArg (· ∈ ((cfg0.win 6).blk _).view.set) (in_tile i (tile_lt (i 0)))).mpr h

theorem final6 (c : Dev nD) : (dats m 0 c).arrAt 6 cfg0.N = actM m c :=
  (dats m 0 c).arrAt_eq_of_cover 6 (actM m c) (fun t _ => flushed6_eq m c t) covered6

/-! ## The gradient of the block's output -/

theorem emb7 (t : Fin cfg0.N) (o : S256x1024.Idx) : ((cfg0.win 7).blk t).view.emb o = ix2 (row t (o 0)) (o 1) := by
  obtain ⟨e0, e1⟩ := idx7 t
  refine funext fun a => Fin.ext ?_
  match a with
  | ⟨0, _⟩ => show win0_7.index t (0 : Fin 2) * 256 + 1 * (o 0).val = 256 * t.val + (o 0).val; omega
  | ⟨1, _⟩ => show win0_7.index t (1 : Fin 2) * 1024 + 1 * (o 1).val = (o 1).val; omega

theorem flushed7_eq (c : Dev nD) (t : Fin cfg0.N) :
    (dats m 0 c).flushed 7 t = ((cfg0.win 7).blk t).view.read (Elt Ideal) (dffM m c) := by
  have key : (dats m 0 c).flushed 7 t = (cfg0.win 7).cut (grid0.coords t) (ofRows (dffBlk (iblk m c 0 t) (iblk m c 1 t) (iblk m c 2 t) (iblk m c 3 t) (iblk m c 4 t) (iblk m c 5 t))) := by
    have := lt8 t
    by_cases h1 : 1 ≤ t.val
    · rw [flushed7_B m c t (by omega) h1, out_B7]
    · rw [flushed7_A m c t (by omega) h1, out_A7]
  rw [key]
  funext o
  refine (dff_eq m c t (o 0) (o 1)).trans ?_
  show _ = dffM m c (((cfg0.win 7).blk t).view.emb o)
  rw [emb7]
  rfl

theorem covered7 (i : S2048x1024.Idx) :
    ∃ t : Fin cfg0.N, (cfg0.win 7).flush t = true ∧ i ∈ ((cfg0.win 7).blk t).view.set := by
  refine ⟨⟨(i 0).val / 256, tile_lt (i 0)⟩, flush0_7 _, ?_⟩
  have h := ((cfg0.win 7).blk ⟨(i 0).val / 256, tile_lt (i 0)⟩).view.emb_mem_set
    (ix2 ⟨(i 0).val % 256, Nat.mod_lt _ (by norm_num)⟩ (i 1) : S256x1024.Idx)
  rw [emb7] at h
  exact (congrArg (· ∈ ((cfg0.win 7).blk _).view.set) (in_tile i (tile_lt (i 0)))).mpr h

theorem final7 (c : Dev nD) : (dats m 0 c).arrAt 7 cfg0.N = dffM m c :=
  (dats m 0 c).arrAt_eq_of_cover 7 (dffM m c) (fun t _ => flushed7_eq m c t) covered7

/-! ## The gradient of the network's output -/

theorem emb8 (t : Fin cfg0.N) (o : S256x1024.Idx) : ((cfg0.win 8).blk t).view.emb o = ix2 (row t (o 0)) (o 1) := by
  obtain ⟨e0, e1⟩ := idx8 t
  refine funext fun a => Fin.ext ?_
  match a with
  | ⟨0, _⟩ => show win0_8.index t (0 : Fin 2) * 256 + 1 * (o 0).val = 256 * t.val + (o 0).val; omega
  | ⟨1, _⟩ => show win0_8.index t (1 : Fin 2) * 1024 + 1 * (o 1).val = (o 1).val; omega

theorem flushed8_eq (c : Dev nD) (t : Fin cfg0.N) :
    (dats m 0 c).flushed 8 t = ((cfg0.win 8).blk t).view.read (Elt Ideal) (dyM m c) := by
  have key : (dats m 0 c).flushed 8 t = (cfg0.win 8).cut (grid0.coords t) (ofRows (dyBlk (iblk m c 0 t) (iblk m c 1 t) (iblk m c 2 t) (iblk m c 3 t) (iblk m c 4 t) (iblk m c 5 t))) := by
    have := lt8 t
    by_cases h1 : 1 ≤ t.val
    · rw [flushed8_B m c t (by omega) h1, out_B8]
    · rw [flushed8_A m c t (by omega) h1, out_A8]
  rw [key]
  funext o
  refine (dy_eq m c t (o 0) (o 1)).trans ?_
  show _ = dyM m c (((cfg0.win 8).blk t).view.emb o)
  rw [emb8]
  rfl

theorem covered8 (i : S2048x1024.Idx) :
    ∃ t : Fin cfg0.N, (cfg0.win 8).flush t = true ∧ i ∈ ((cfg0.win 8).blk t).view.set := by
  refine ⟨⟨(i 0).val / 256, tile_lt (i 0)⟩, flush0_8 _, ?_⟩
  have h := ((cfg0.win 8).blk ⟨(i 0).val / 256, tile_lt (i 0)⟩).view.emb_mem_set
    (ix2 ⟨(i 0).val % 256, Nat.mod_lt _ (by norm_num)⟩ (i 1) : S256x1024.Idx)
  rw [emb8] at h
  exact (congrArg (· ∈ ((cfg0.win 8).blk _).view.set) (in_tile i (tile_lt (i 0)))).mpr h

theorem final8 (c : Dev nD) : (dats m 0 c).arrAt 8 cfg0.N = dyM m c :=
  (dats m 0 c).arrAt_eq_of_cover 8 (dyM m c) (fun t _ => flushed8_eq m c t) covered8

/-! ## The gradients of gate and up, side by side -/

theorem emb11 (t : Fin cfg0.N) (o : S256x5632.Idx) : ((cfg0.win 11).blk t).view.emb o = ix2 (row t (o 0)) (o 1) := by
  obtain ⟨e0, e1⟩ := idx11 t
  refine funext fun a => Fin.ext ?_
  match a with
  | ⟨0, _⟩ => show win0_11.index t (0 : Fin 2) * 256 + 1 * (o 0).val = 256 * t.val + (o 0).val; omega
  | ⟨1, _⟩ => show win0_11.index t (1 : Fin 2) * 5632 + 1 * (o 1).val = (o 1).val; omega

theorem flushed11_eq (c : Dev nD) (t : Fin cfg0.N) :
    (dats m 0 c).flushed 11 t = ((cfg0.win 11).blk t).view.read (Elt Ideal) (dguM m c) := by
  have key : (dats m 0 c).flushed 11 t = (cfg0.win 11).cut (grid0.coords t) (ofRows (dguBlk (iblk m c 0 t) (iblk m c 1 t) (iblk m c 2 t) (iblk m c 3 t) (iblk m c 4 t) (iblk m c 5 t))) := by
    have := lt8 t
    by_cases h1 : 1 ≤ t.val
    · rw [flushed11_B m c t (by omega) h1, out_B11]
    · rw [flushed11_A m c t (by omega) h1, out_A11]
  rw [key]
  funext o
  refine (dgu_eq m c t (o 0) (o 1)).trans ?_
  show _ = dguM m c (((cfg0.win 11).blk t).view.emb o)
  rw [emb11]
  rfl

theorem covered11 (i : S2048x5632.Idx) :
    ∃ t : Fin cfg0.N, (cfg0.win 11).flush t = true ∧ i ∈ ((cfg0.win 11).blk t).view.set := by
  refine ⟨⟨(i 0).val / 256, tile_lt (i 0)⟩, flush0_11 _, ?_⟩
  have h := ((cfg0.win 11).blk ⟨(i 0).val / 256, tile_lt (i 0)⟩).view.emb_mem_set
    (ix2 ⟨(i 0).val % 256, Nat.mod_lt _ (by norm_num)⟩ (i 1) : S256x5632.Idx)
  rw [emb11] at h
  exact (congrArg (· ∈ ((cfg0.win 11).blk _).view.set) (in_tile i (tile_lt (i 0)))).mpr h

theorem final11 (c : Dev nD) : (dats m 0 c).arrAt 11 cfg0.N = dguM m c :=
  (dats m 0 c).arrAt_eq_of_cover 11 (dguM m c) (fun t _ => flushed11_eq m c t) covered11

/-! ## The loss -/

theorem emb9 (t : Fin cfg0.N) (o : S8x128.Idx) :
    ((cfg0.win 9).blk t).view.emb o = ix2 ⟨8 * t.val + (o 0).val, by have := lt8 t; have : (o 0).val < 8 := (o 0).isLt; omega⟩ (o 1) := by
  obtain ⟨e0, e1⟩ := idx9 t
  refine funext fun a => Fin.ext ?_
  match a with
  | ⟨0, _⟩ => show win0_9.index t (0 : Fin 2) * 8 + 1 * (o 0).val = 8 * t.val + (o 0).val; omega
  | ⟨1, _⟩ => show win0_9.index t (1 : Fin 2) * 128 + 1 * (o 1).val = (o 1).val; omega

theorem flushed9_eq (c : Dev nD) (t : Fin cfg0.N) :
    (dats m 0 c).flushed 9 t = ((cfg0.win 9).blk t).view.read (Elt Ideal) (lossM m c) := by
  have key : (dats m 0 c).flushed 9 t = (cfg0.win 9).cut (grid0.coords t)
      (fun _ => lossBlk (iblk m c 0 t) (iblk m c 1 t) (iblk m c 2 t) (iblk m c 3 t) (iblk m c 4 t) (iblk m c 5 t)) := by
    have := lt8 t
    by_cases h1 : 1 ≤ t.val
    · rw [flushed9_B m c t (by omega) h1, out_B9]
    · rw [flushed9_A m c t (by omega) h1, out_A9]
  rw [key]
  funext o
  refine (loss_eq m c t).trans ?_
  show _ = lossM m c (((cfg0.win 9).blk t).view.emb o)
  rw [emb9]
  refine congrArg (Ideal.ofBits .f32 0x3F000000#32 * ·) (Finset.sum_congr rfl fun p _ => ?_)
  refine congrArg (mseA (a0 m c) (a1 m c) (a2 m c) (a3 m c) (a4 m c) (a5 m c)) (Fin.ext ?_)
  have : (o 0).val < 8 := (o 0).isLt
  show 256 * t.val + p.val = 256 * ((8 * t.val + (o 0).val) / 8) + p.val
  omega

theorem covered9 (i : S64x128.Idx) :
    ∃ t : Fin cfg0.N, (cfg0.win 9).flush t = true ∧ i ∈ ((cfg0.win 9).blk t).view.set := by
  have hi : (i 0).val < 64 := (i 0).isLt
  have ht : (i 0).val / 8 < cfg0.N := lt_of_lt_of_eq (by omega) N8.symm
  refine ⟨⟨(i 0).val / 8, ht⟩, flush0_9 _, ?_⟩
  have h := ((cfg0.win 9).blk ⟨(i 0).val / 8, ht⟩).view.emb_mem_set
    (ix2 ⟨(i 0).val % 8, Nat.mod_lt _ (by norm_num)⟩ (i 1) : S8x128.Idx)
  rw [emb9] at h
  refine (congrArg (· ∈ ((cfg0.win 9).blk _).view.set) ((eq_ix2 i).trans (congrArg (fun r => ix2 r (i 1)) (Fin.ext ?_)))).mpr h
  show (i 0).val = 8 * ((i 0).val / 8) + (i 0).val % 8
  omega

theorem final9 (c : Dev nD) : (dats m 0 c).arrAt 9 cfg0.N = lossM m c :=
  (dats m 0 c).arrAt_eq_of_cover 9 (lossM m c) (fun t _ => flushed9_eq m c t) covered9

/-! ## The scale's gradient -/

/-- Point `n`'s part of it. -/
def dgPart (c : Dev nD) (n : ℕ) (j : Fin 1024) : EReal :=
  if h : n < cfg0.N then
    dgBlk (iblk m c 0 ⟨n, h⟩) (iblk m c 1 ⟨n, h⟩) (iblk m c 2 ⟨n, h⟩) (iblk m c 3 ⟨n, h⟩) (iblk m c 4 ⟨n, h⟩) (iblk m c 5 ⟨n, h⟩) j
  else 0
theorem dgPart_eq (c : Dev nD) (n : ℕ) (h : n < cfg0.N) (j : Fin 1024) : dgPart m c n j =
    dgBlk (iblk m c 0 ⟨n, h⟩) (iblk m c 1 ⟨n, h⟩) (iblk m c 2 ⟨n, h⟩) (iblk m c 3 ⟨n, h⟩) (iblk m c 4 ⟨n, h⟩) (iblk m c 5 ⟨n, h⟩) j :=
  dif_pos h

theorem accA (c : Dev nD) (t : Fin cfg0.N) (h0 : t.val % 8 = 0) (h1 : ¬1 ≤ t.val) : (outsAt0 m c t.val t.isLt).2.2.2.2.1
    = fun o => dgBlk (iblk m c 0 t) (iblk m c 1 t) (iblk m c 2 t) (iblk m c 3 t) (iblk m c 4 t) (iblk m c 5 t) (o 1) := by
  rw [outsAt0_A m c t h0 h1, out_A10]
theorem accB (c : Dev nD) (t : Fin cfg0.N) (h0 : ¬t.val % 8 = 0) (h1 : 1 ≤ t.val) : (outsAt0 m c t.val t.isLt).2.2.2.2.1
    = fun o => (outsAt0 m c (t.val - 1) (Nat.lt_of_le_of_lt (Nat.sub_le _ _) t.isLt)).2.2.2.2.1 o
        + dgBlk (iblk m c 0 t) (iblk m c 1 t) (iblk m c 2 t) (iblk m c 3 t) (iblk m c 4 t) (iblk m c 5 t) (o 1) := by
  rw [outsAt0_B m c t h0 h1, out_B10]

theorem acc10 (c : Dev nD) : ∀ (n : ℕ) (h : n < cfg0.N),
    (outsAt0 m c n h).2.2.2.2.1 = fun o => ∑ s ∈ Finset.range (n + 1), dgPart m c s (o 1)
  | 0, h => by
    refine (accA m c ⟨0, h⟩ rfl (by norm_num)).trans (funext fun o => ?_)
    rw [Finset.sum_range_one]; exact (dgPart_eq m c 0 h (o 1)).symm
  | n + 1, h => by
    have h8 : n + 1 < 8 := lt_of_lt_of_eq h N8
    refine (accB m c ⟨n + 1, h⟩ (by show ¬(n + 1) % 8 = 0; omega) (by show 1 ≤ n + 1; omega)).trans (funext fun o => ?_)
    rw [Finset.sum_range_succ]
    exact congrArg₂ (· + ·) (congrFun (acc10 c n (Nat.lt_of_succ_lt h)) o) (dgPart_eq m c (n + 1) h (o 1)).symm

theorem total10 (c : Dev nD) (o : S1x1024.Idx) : ∑ s ∈ Finset.range 8, dgPart m c s (o 1) = dgM m c o := by
  unfold dgM dgA
  rw [InProj.split_rows, Finset.sum_range]
  refine Finset.sum_congr rfl fun s _ => ?_
  have hs : s.val < cfg0.N := lt_of_lt_of_eq s.isLt N8.symm
  exact (dgPart_eq m c s.val hs (o 1)).trans (dg_eq m c ⟨s.val, hs⟩ (o 1))

theorem emb10 (t : Fin cfg0.N) (o : S1x1024.Idx) : ((cfg0.win 10).blk t).view.emb o = o := by
  obtain ⟨e0, e1⟩ := idx10 t
  refine funext fun a => Fin.ext ?_
  match a with
  | ⟨0, _⟩ => show win0_10.index t (0 : Fin 2) * 1 + 1 * (o 0).val = (o 0).val; omega
  | ⟨1, _⟩ => show win0_10.index t (1 : Fin 2) * 1024 + 1 * (o 1).val = (o 1).val; omega

theorem flushed10_eq (c : Dev nD) (t : Fin cfg0.N) (hf : (cfg0.win 10).flush t = true) :
    (dats m 0 c).flushed 10 t = ((cfg0.win 10).blk t).view.read (Elt Ideal) (dgM m c) := by
  have h7 : t.val = 7 := by have := (flush0_10 t).mp hf; have := lt8 t; omega
  rw [flushed10, acc10]
  funext o
  show ∑ s ∈ Finset.range (t.val + 1), dgPart m c s (o 1) = dgM m c (((cfg0.win 10).blk t).view.emb o)
  rw [emb10, h7, total10]

theorem covered10 (i : S1x1024.Idx) :
    ∃ t : Fin cfg0.N, (cfg0.win 10).flush t = true ∧ i ∈ ((cfg0.win 10).blk t).view.set := by
  refine ⟨⟨7, lt_of_lt_of_eq (by norm_num) N8.symm⟩, (flush0_10 _).mpr rfl, ?_⟩
  have h := ((cfg0.win 10).blk ⟨7, lt_of_lt_of_eq (by norm_num) N8.symm⟩).view.emb_mem_set i
  rwa [emb10] at h

theorem final10 (c : Dev nD) : (dats m 0 c).arrAt 10 cfg0.N = dgM m c :=
  (dats m 0 c).arrAt_eq_of_cover 10 (dgM m c) (fun t hf => flushed10_eq m c t hf) covered10

/-- The kernel's run with all six result arrays at their functions of the arguments. -/
theorem run : θ_run defs (onTc (τ := τ) (main (F := Ideal))) ⟨m, fun _ => 0, ρ⟩ fun r => ∀ c : Dev nD,
      r.2.mem ((c : Thread nD τ).loc main_v6_0) = actM m c
      ∧ r.2.mem ((c : Thread nD τ).loc main_v6_1) = dffM m c
      ∧ r.2.mem ((c : Thread nD τ).loc main_v6_2) = dyM m c
      ∧ r.2.mem ((c : Thread nD τ).loc main_v6_3) = lossM m c
      ∧ r.2.mem ((c : Thread nD τ).loc main_v6_4) = dgM m c
      ∧ r.2.mem ((c : Thread nD τ).loc main_v6_5) = dguM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2.1.trans (final7 m c), (h c).2.2.1.trans (final8 m c),
    (h c).2.2.2.1.trans (final9 m c), (h c).2.2.2.2.1.trans (final10 m c), (h c).2.2.2.2.2.1.trans (final11 m c),
    (h c).2.2.2.2.2.2⟩) (run_blocks m ρ)

end Cert.Proof.Ffn

end
-- ==== Proof.FfnRef.lean ====
/- Hand-written, untrusted: the reference of the feed-forward and loss call, read row by row over the extended reals, and that
   on finite arguments its six arrays are what the kernel leaves. -/
module

public import proofs.«01_k».proof.Proof.FfnRun
public import proofs.«01_k».proof.Proof.Gen.FfnRefIdeal.Read
public import proofs.«01_k».proof.Pre_finite_ffn

@[expose] public section

noncomputable section

namespace Cert.Proof.Ffn

open Cert.FfnRefIdeal Cert.FfnRefIdeal.Read Idealize.ShloMosaic

/-! ## Scalars -/

theorem ofBits_one : Ideal.ofBits .f32 0x3F800000#32 = ((1 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_milli : Ideal.ofBits .f32 0x3A800000#32 = ((1 / 1024 : ℝ) : EReal) := by
  simp [Ideal.ofBits, Ideal.ieee, -EReal.coe_mul]; norm_num
theorem one_word : (1 : EReal) = Ideal.ofBits .f32 0x3F800000#32 := ofBits_one.symm

theorem sigE_real {z : EReal} (hz : ∃ r : ℝ, z = (r : EReal)) : ∃ r : ℝ, sigE z = (r : EReal) := by
  obtain ⟨z, rfl⟩ := hz
  have h : (1 + Real.exp (-z)) ≠ 0 := (add_pos one_pos (Real.exp_pos _)).ne'
  refine ⟨1 * (1 / (1 + Real.exp (-z))), ?_⟩
  unfold sigE
  rw [ofBits_one, ← EReal.coe_neg, Ideal.exp_coe, ← EReal.coe_add, Ideal.div_coe h, ← EReal.coe_mul]

theorem real_add {x y : EReal} (hx : ∃ r : ℝ, x = (r : EReal)) (hy : ∃ r : ℝ, y = (r : EReal)) : ∃ r : ℝ, x + y = (r : EReal) := by
  obtain ⟨x', rfl⟩ := hx
  obtain ⟨y', rfl⟩ := hy
  exact ⟨x' + y', (EReal.coe_add _ _).symm⟩
theorem real_sub {x y : EReal} (hx : ∃ r : ℝ, x = (r : EReal)) (hy : ∃ r : ℝ, y = (r : EReal)) : ∃ r : ℝ, x - y = (r : EReal) := by
  obtain ⟨x', rfl⟩ := hx
  obtain ⟨y', rfl⟩ := hy
  exact ⟨x' - y', (EReal.coe_sub _ _).symm⟩
theorem rmsE_real {ι : Type} [Fintype ι] (x : ι → EReal) (hx : ∀ k, ∃ r : ℝ, x k = (r : EReal)) : ∃ r : ℝ, rmsE x = (r : EReal) := by
  obtain ⟨x', rfl⟩ := exists_real hx
  exact ⟨_, rmsE_coe x'⟩

/-- The loss's derivative at one place: the reference takes a half of twice the difference. -/
theorem dy_scalar {e : EReal} (he : ∃ r : ℝ, e = (r : EReal)) :
    Ideal.div (Ideal.ofBits .f32 0x3F000000#32 * 1) (Ideal.ofBits .f32 0x44800000#32)
        * (Ideal.ofBits .f32 0x40000000#32 * e)
      = e * Ideal.ofBits .f32 0x3A800000#32 := by
  obtain ⟨e, rfl⟩ := he
  rw [one_word, ofBits_half, ofBits_one, ofBits_1024, ofBits_two, ofBits_milli, ← EReal.coe_mul, Ideal.div_coe (by norm_num)]
  simp only [← EReal.coe_mul]
  refine congrArg Real.toEReal ?_
  ring

/-- The gate's derivative, the product rule written out or taken together. -/
theorem gate_scalar {a u z s : EReal} (ha : ∃ r : ℝ, a = (r : EReal)) (hu : ∃ r : ℝ, u = (r : EReal)) (hz : ∃ r : ℝ, z = (r : EReal))
    (hs : ∃ r : ℝ, s = (r : EReal)) :
    a * u * s + z * (a * u) * (s * (Ideal.ofBits .f32 0x3F800000#32 - s))
      = a * u * (s * (Ideal.ofBits .f32 0x3F800000#32 + z * (Ideal.ofBits .f32 0x3F800000#32 - s))) := by
  obtain ⟨a, rfl⟩ := ha
  obtain ⟨u, rfl⟩ := hu
  obtain ⟨z, rfl⟩ := hz
  obtain ⟨s, rfl⟩ := hs
  rw [ofBits_one]
  simp only [← EReal.coe_mul, ← EReal.coe_sub, ← EReal.coe_add]
  refine congrArg Real.toEReal ?_
  ring

/-- A half of each of the terms adds up to a half of the sum. -/
theorem half_sum {ι : Type} (s : Finset ι) (e : ι → EReal) (he : ∀ i, ∃ r : ℝ, e i = (r : EReal)) :
    ∑ i ∈ s, Ideal.ofBits .f32 0x3F000000#32 * e i = Ideal.ofBits .f32 0x3F000000#32 * ∑ i ∈ s, e i := by
  obtain ⟨e', rfl⟩ := exists_real he
  rw [ofBits_half]
  simp only [← EReal.coe_mul, ← coe_sum]
  exact congrArg Real.toEReal (Finset.mul_sum ..).symm

/-- The gradient of a row of reals is real. -/
theorem rowGrad_isReal {ι : Type} [Fintype ι] (x d : ι → EReal) (hx : ∀ k, ∃ r : ℝ, x k = (r : EReal))
    (hd : ∀ k, ∃ r : ℝ, d k = (r : EReal)) (j : ι) : ∃ r : ℝ, rowGrad x d j = (r : EReal) := by
  have hr := rmsE_real x hx
  obtain ⟨s, hs⟩ := real_sum_mul Finset.univ d (fun k => x k * rmsE x) hd fun k => real_mul (hx k) hr
  unfold rowGrad
  rw [hs, ofBits_1024, Ideal.div_coe (by norm_num)]
  exact real_mul hr (real_sub (hd j) (real_mul (real_mul (hx j) hr) ⟨s * (1 / 1024), EReal.coe_mul _ _ |>.symm⟩))

theorem rowWeight_real {ι : Type} [Fintype ι] (x d : ι → EReal) (hx : ∀ k, ∃ r : ℝ, x k = (r : EReal))
    (hd : ∀ k, ∃ r : ℝ, d k = (r : EReal)) : ∃ r : ℝ, rowWeight x d = (r : EReal) := by
  obtain ⟨s, hs⟩ := real_sum_mul Finset.univ x d hx hd
  obtain ⟨x', rfl⟩ := exists_real hx
  unfold rowWeight
  rw [hs, rmsE_coe, msE_coe, ofBits_1024, ofBits_neg_half, Ideal.div_coe (msR_pos x').ne', Ideal.div_coe (by norm_num)]
  exact ⟨s * (-(1 / 2) * ((Real.sqrt (msR x'))⁻¹ * (1 / msR x'))) * (1 / 1024), by simp only [← EReal.coe_mul]⟩

theorem rowGrad_real_zero {ι : Type} [Fintype ι] (x d : ι → EReal) (hx : ∀ k, ∃ r : ℝ, x k = (r : EReal))
    (hd : ∀ k, ∃ r : ℝ, d k = (r : EReal)) (j : ι) :
    d j * rmsE x + x j * rowWeight x d + rowWeight x d * x j = rowGrad x d j := by
  have h := rowGrad_real x d hx hd 0 j
  rwa [zero_add, zero_add] at h

/-- The row's gradient where the square's derivative is taken as twice the row. -/
theorem rowGrad_twice {ι : Type} [Fintype ι] (x d : ι → EReal) (hx : ∀ k, ∃ r : ℝ, x k = (r : EReal))
    (hd : ∀ k, ∃ r : ℝ, d k = (r : EReal)) (j : ι) :
    d j * rmsE x + rowWeight x d * (Ideal.ofBits .f32 0x40000000#32 * x j) = rowGrad x d j := by
  rw [← rowGrad_real_zero x d hx hd j, add_assoc]
  refine congrArg (d j * rmsE x + ·) ?_
  obtain ⟨w, hw⟩ := rowWeight_real x d hx hd
  obtain ⟨y, hy⟩ := hx j
  rw [hw, hy, ofBits_two]
  simp only [← EReal.coe_mul, ← EReal.coe_add]
  refine congrArg Real.toEReal ?_
  ring

/-! ## The forward lines -/

section Forward

variable (x0 : Vec Ideal S2048x1024 .f32) (x1 : Vec Ideal S1024x5632 .f32) (x2 : Vec Ideal S2816x1024 .f32)
  (x3 x4 : Vec Ideal S2048x1024 .f32) (x5 : Vec Ideal S1024 .f32) (p : Fin 2048)

theorem ref_gate (f : Fin 2816) : val_main_v1 x0 x1 (ix2 p f) = rowMul (rowA x0 p) (gateA x1) f := by
  unfold rowMul
  pointwise [val_main_v1, val_main_v0]
theorem ref_up (f : Fin 2816) : val_main_v2 x0 x1 (ix2 p f) = rowMul (rowA x0 p) (upA x1) f := by
  unfold rowMul
  pointwise [val_main_v2, val_main_v0]
theorem ref_sig (f : Fin 2816) : val_main_v3_2 x0 x1 (ix2 p f) = sigE (rowMul (rowA x0 p) (gateA x1) f) := by
  unfold sigE
  rw [← ref_gate x0 x1 p f, ← one_word]
  pointwise [val_main_v3_2, val_main_call0_v4, val_main_call0_v3, val_main_call0_v2, val_main_call0_v1, val_main_call0_v0, val_main_call0_cst, val_main_call0_cst_0]
theorem ref_sig' (f : Fin 2816) : val_main_v3_1 x0 x1 (ix2 p f) = sigE (rowMul (rowA x0 p) (gateA x1) f)
    * (Ideal.ofBits .f32 0x3F800000#32 - sigE (rowMul (rowA x0 p) (gateA x1) f)) := by
  rw [← ref_sig x0 x1 p f, ← one_word]
  pointwise [val_main_v3_1, val_main_call0_v7, val_main_call0_v6, val_main_call0_cst_1]
theorem ref_silu (f : Fin 2816) : val_main_v3_0 x0 x1 (ix2 p f) = rowMul (rowA x0 p) (gateA x1) f * sigE (rowMul (rowA x0 p) (gateA x1) f) := by
  rw [← ref_sig x0 x1 p f, ← ref_gate x0 x1 p f]
  pointwise [val_main_v3_0]
theorem ref_act (f : Fin 2816) : val_main_v4 x0 x1 (ix2 p f) = rowAct (rowA x0 p) (gateA x1) (upA x1) f := by
  unfold rowAct
  rw [← ref_silu x0 x1 p f, ← ref_up x0 x1 p f]
  pointwise [val_main_v4]
theorem ref_ff (j : Fin 1024) : val_main_v5 x0 x1 x2 (ix2 p j) = rowFf (rowA x0 p) (gateA x1) (upA x1) (downA x2) j := by
  unfold rowFf
  pointwise [val_main_v5]
  exact Finset.sum_congr rfl fun f _ => congrArg (· * _) (ref_act x0 x1 p f)
theorem ref_ms : val_main_v14 x0 x1 x2 (ix2 p 0) = Ideal.div (∑ k, rowFf (rowA x0 p) (gateA x1) (upA x1) (downA x2) k
      * rowFf (rowA x0 p) (gateA x1) (upA x1) (downA x2) k) (Ideal.ofBits .f32 0x44800000#32) + Ideal.ofBits .f32 0x358637BD#32 := by
  pointwise [val_main_v14, val_main_v13, val_main_v12, val_main_v11, val_main_v10, val_main_v9, val_main_v6, val_main_cst_0, val_main_cst_1,
    val_main_cst_2]
  simp only [ref_ff, zero_add]
theorem ref_rms : val_main_v15 x0 x1 x2 (ix2 p 0) = rmsE (rowFf (rowA x0 p) (gateA x1) (upA x1) (downA x2)) := by
  unfold rmsE
  rw [← ref_ms x0 x1 x2 p]
  pointwise [val_main_v15]
theorem ref_weight : val_main_v18 x0 x1 x2 (ix2 p 0) = Ideal.ofBits .f32 0xBF000000#32
    * Ideal.div (rmsE (rowFf (rowA x0 p) (gateA x1) (upA x1) (downA x2)))
      (Ideal.div (∑ k, rowFf (rowA x0 p) (gateA x1) (upA x1) (downA x2) k * rowFf (rowA x0 p) (gateA x1) (upA x1) (downA x2) k)
        (Ideal.ofBits .f32 0x44800000#32) + Ideal.ofBits .f32 0x358637BD#32) := by
  rw [← ref_ms x0 x1 x2 p, ← ref_rms x0 x1 x2 p]
  pointwise [val_main_v18, val_main_v17, val_main_v16, val_main_cst_3]
theorem ref_norm (j : Fin 1024) : val_main_v20 x0 x1 x2 (ix2 p j) = rowFf (rowA x0 p) (gateA x1) (upA x1) (downA x2) j
    * rmsE (rowFf (rowA x0 p) (gateA x1) (upA x1) (downA x2)) := by
  rw [← ref_rms x0 x1 x2 p, ← ref_ff x0 x1 x2 p j]
  pointwise [val_main_v20, val_main_v19]
theorem ref_err (j : Fin 1024) : val_main_v25 x0 x1 x2 x3 x4 x5 (ix2 p j)
    = rowErr (rowA x0 p) (gateA x1) (upA x1) (downA x2) (rowA x3 p) (rowA x4 p) (scaleA x5) j := by
  unfold rowErr
  rw [← ref_norm x0 x1 x2 p j]
  pointwise [val_main_v25, val_main_v24, val_main_v23, val_main_v22, val_main_v21]
theorem ref_mse : val_main_v31 x0 x1 x2 x3 x4 x5 (ix1 p)
    = rowMse (rowA x0 p) (gateA x1) (upA x1) (downA x2) (rowA x3 p) (rowA x4 p) (scaleA x5) := by
  unfold rowMse
  pointwise [val_main_v31, val_main_v30, val_main_v29, val_main_v26, val_main_cst_5, val_main_cst_6]
  simp only [ref_err, zero_add]

/-! ## On real arguments -/

section Real

variable (r0 : ∀ i, ∃ r : ℝ, x0 i = (r : EReal)) (r1 : ∀ i, ∃ r : ℝ, x1 i = (r : EReal)) (r2 : ∀ i, ∃ r : ℝ, x2 i = (r : EReal))
  (r3 : ∀ i, ∃ r : ℝ, x3 i = (r : EReal)) (r4 : ∀ i, ∃ r : ℝ, x4 i = (r : EReal)) (r5 : ∀ i, ∃ r : ℝ, x5 i = (r : EReal))

include r0 r1 in
theorem gate_real (f : Fin 2816) : ∃ r : ℝ, rowMul (rowA x0 p) (gateA x1) f = (r : EReal) :=
  real_sum_mul _ _ _ (fun _ => r0 _) fun _ => r1 _
include r0 r1 in
theorem up_real (f : Fin 2816) : ∃ r : ℝ, rowMul (rowA x0 p) (upA x1) f = (r : EReal) :=
  real_sum_mul _ _ _ (fun _ => r0 _) fun _ => r1 _
include r0 r1 in
theorem act_real (f : Fin 2816) : ∃ r : ℝ, rowAct (rowA x0 p) (gateA x1) (upA x1) f = (r : EReal) :=
  real_mul (real_mul (gate_real x0 x1 p r0 r1 f) (sigE_real (gate_real x0 x1 p r0 r1 f))) (up_real x0 x1 p r0 r1 f)
include r0 r1 r2 in
theorem ff_real (j : Fin 1024) : ∃ r : ℝ, rowFf (rowA x0 p) (gateA x1) (upA x1) (downA x2) j = (r : EReal) :=
  real_sum_mul _ _ _ (fun f => act_real x0 x1 p r0 r1 f) fun _ => r2 _
include r0 r1 r2 r3 r4 r5 in
theorem err_real (j : Fin 1024) :
    ∃ r : ℝ, rowErr (rowA x0 p) (gateA x1) (upA x1) (downA x2) (rowA x3 p) (rowA x4 p) (scaleA x5) j = (r : EReal) :=
  real_sub (real_add (r3 _) (real_mul (real_mul (ff_real x0 x1 x2 p r0 r1 r2 j)
    (rmsE_real _ (ff_real x0 x1 x2 p r0 r1 r2))) (r5 _))) (r4 _)
include r0 r1 r2 r3 r4 r5 in
theorem dy_real (j : Fin 1024) :
    ∃ r : ℝ, rowDy (rowA x0 p) (gateA x1) (upA x1) (downA x2) (rowA x3 p) (rowA x4 p) (scaleA x5) j = (r : EReal) :=
  real_mul (err_real x0 x1 x2 x3 x4 x5 p r0 r1 r2 r3 r4 r5 j) ⟨_, ofBits_milli⟩
include r0 r1 r2 r3 r4 r5 in
theorem dn_real (j : Fin 1024) : ∃ r : ℝ,
    rowDy (rowA x0 p) (gateA x1) (upA x1) (downA x2) (rowA x3 p) (rowA x4 p) (scaleA x5) j * scaleA x5 j = (r : EReal) :=
  real_mul (dy_real x0 x1 x2 x3 x4 x5 p r0 r1 r2 r3 r4 r5 j) (r5 _)
include r0 r1 r2 r3 r4 r5 in
theorem dff_real (j : Fin 1024) :
    ∃ r : ℝ, rowDff (rowA x0 p) (gateA x1) (upA x1) (downA x2) (rowA x3 p) (rowA x4 p) (scaleA x5) j = (r : EReal) :=
  rowGrad_isReal _ _ (ff_real x0 x1 x2 p r0 r1 r2) (dn_real x0 x1 x2 x3 x4 x5 p r0 r1 r2 r3 r4 r5) j
include r0 r1 r2 r3 r4 r5 in
theorem dact_real (f : Fin 2816) :
    ∃ r : ℝ, rowDact (rowA x0 p) (gateA x1) (upA x1) (downA x2) (rowA x3 p) (rowA x4 p) (scaleA x5) f = (r : EReal) :=
  real_sum_mul _ _ _ (dff_real x0 x1 x2 x3 x4 x5 p r0 r1 r2 r3 r4 r5) fun _ => r2 _
include r0 r1 r2 r3 r4 r5 in
theorem mse_real : ∃ r : ℝ, rowMse (rowA x0 p) (gateA x1) (upA x1) (downA x2) (rowA x3 p) (rowA x4 p) (scaleA x5) = (r : EReal) := by
  obtain ⟨s, hs⟩ := real_sum_mul Finset.univ _ _ (err_real x0 x1 x2 x3 x4 x5 p r0 r1 r2 r3 r4 r5) (err_real x0 x1 x2 x3 x4 x5 p r0 r1 r2 r3 r4 r5)
  unfold rowMse
  exact ⟨s * (1 / 1024), by rw [hs, ofBits_1024, Ideal.div_coe (by norm_num), ← EReal.coe_mul]⟩

include r0 r1 r2 r3 r4 r5 in
theorem ref_dy (j : Fin 1024) : val_main_v40 x0 x1 x2 x3 x4 x5 (ix2 p j)
    = rowDy (rowA x0 p) (gateA x1) (upA x1) (downA x2) (rowA x3 p) (rowA x4 p) (scaleA x5) j := by
  unfold rowDy
  rw [← dy_scalar (err_real x0 x1 x2 x3 x4 x5 p r0 r1 r2 r3 r4 r5 j), ← ref_err x0 x1 x2 x3 x4 x5 p j]
  pointwise [val_main_v40, val_main_v39, val_main_v38, val_main_v37, val_main_v36, val_main_v35, val_main_v34, val_main_v28, val_main_v27,
    val_main_cst_4, val_main_cst_8, val_main_cst_9, val_main_cst_10]
include r0 r1 r2 r3 r4 r5 in
theorem ref_dn (j : Fin 1024) : val_main_v45 x0 x1 x2 x3 x4 x5 (ix2 p j)
    = rowDy (rowA x0 p) (gateA x1) (upA x1) (downA x2) (rowA x3 p) (rowA x4 p) (scaleA x5) j * scaleA x5 j := by
  rw [← ref_dy x0 x1 x2 x3 x4 x5 p r0 r1 r2 r3 r4 r5 j]
  pointwise [val_main_v45, val_main_v44, val_main_v21]
include r0 r1 r2 r3 r4 r5 in
theorem ref_mean : val_main_v55 x0 x1 x2 x3 x4 x5 (ix1 p) = rowWeight (rowFf (rowA x0 p) (gateA x1) (upA x1) (downA x2))
    (fun k => rowDy (rowA x0 p) (gateA x1) (upA x1) (downA x2) (rowA x3 p) (rowA x4 p) (scaleA x5) k * scaleA x5 k) := by
  unfold rowWeight
  rw [← ref_weight x0 x1 x2 p]
  pointwise [val_main_v55, val_main_v54, val_main_v53, val_main_v52, val_main_v49, val_main_v48, val_main_v47, val_main_cst_13,
    val_main_cst_14, val_main_cst_15]
  simp only [Fin.sum_univ_one, zero_add, ref_ff, ref_dn x0 x1 x2 x3 x4 x5 p r0 r1 r2 r3 r4 r5]
include r0 r1 r2 r3 r4 r5 in
theorem ref_dff (j : Fin 1024) : val_main_v58 x0 x1 x2 x3 x4 x5 (ix2 p j)
    = rowDff (rowA x0 p) (gateA x1) (upA x1) (downA x2) (rowA x3 p) (rowA x4 p) (scaleA x5) j := by
  unfold rowDff
  rw [← rowGrad_twice _ _ (ff_real x0 x1 x2 p r0 r1 r2) (dn_real x0 x1 x2 x3 x4 x5 p r0 r1 r2 r3 r4 r5) j,
    ← ref_mean x0 x1 x2 x3 x4 x5 p r0 r1 r2 r3 r4 r5, ← ref_rms x0 x1 x2 p, ← ref_ff x0 x1 x2 p j,
    ← ref_dn x0 x1 x2 x3 x4 x5 p r0 r1 r2 r3 r4 r5 j]
  pointwise [val_main_v58, val_main_v57, val_main_v56, val_main_v51, val_main_v50, val_main_v8, val_main_v7, val_main_cst]
include r0 r1 r2 r3 r4 r5 in
theorem ref_dact (f : Fin 2816) : val_main_v59 x0 x1 x2 x3 x4 x5 (ix2 p f)
    = rowDact (rowA x0 p) (gateA x1) (upA x1) (downA x2) (rowA x3 p) (rowA x4 p) (scaleA x5) f := by
  unfold rowDact
  pointwise [val_main_v59]
  exact Finset.sum_congr rfl fun j _ => congrArg (· * _) (ref_dff x0 x1 x2 x3 x4 x5 p r0 r1 r2 r3 r4 r5 j)
include r0 r1 r2 r3 r4 r5 in
theorem ref_dup (f : Fin 2816) : val_main_v60 x0 x1 x2 x3 x4 x5 (ix2 p f)
    = rowDup (rowA x0 p) (gateA x1) (upA x1) (downA x2) (rowA x3 p) (rowA x4 p) (scaleA x5) f := by
  unfold rowDup
  rw [← ref_dact x0 x1 x2 x3 x4 x5 p r0 r1 r2 r3 r4 r5 f, ← ref_silu x0 x1 p f, mul_comm]
  pointwise [val_main_v60]
include r0 r1 r2 r3 r4 r5 in
theorem ref_dgate (f : Fin 2816) : val_main_v62 x0 x1 x2 x3 x4 x5 (ix2 p f)
    = rowDgate (rowA x0 p) (gateA x1) (upA x1) (downA x2) (rowA x3 p) (rowA x4 p) (scaleA x5) f := by
  unfold rowDgate
  rw [← gate_scalar (dact_real x0 x1 x2 x3 x4 x5 p r0 r1 r2 r3 r4 r5 f) (up_real x0 x1 p r0 r1 f) (gate_real x0 x1 p r0 r1 f)
    (sigE_real (gate_real x0 x1 p r0 r1 f)), ← ref_sig' x0 x1 p f, ← ref_sig x0 x1 p f, ← ref_gate x0 x1 p f, ← ref_up x0 x1 p f,
    ← ref_dact x0 x1 x2 x3 x4 x5 p r0 r1 r2 r3 r4 r5 f]
  pointwise [val_main_v62, val_main_call1_v2, val_main_call1_v1, val_main_call1_v0, val_main_v61]

end Real

end Forward

/-! ## The arrays -/

section Arrays

variable (x0 : Vec Ideal S2048x1024 .f32) (x1 : Vec Ideal S1024x5632 .f32) (x2 : Vec Ideal S2816x1024 .f32)
  (x3 x4 : Vec Ideal S2048x1024 .f32) (x5 : Vec Ideal S1024 .f32)
  (r0 : ∀ i, ∃ r : ℝ, x0 i = (r : EReal)) (r1 : ∀ i, ∃ r : ℝ, x1 i = (r : EReal)) (r2 : ∀ i, ∃ r : ℝ, x2 i = (r : EReal))
  (r3 : ∀ i, ∃ r : ℝ, x3 i = (r : EReal)) (r4 : ∀ i, ∃ r : ℝ, x4 i = (r : EReal)) (r5 : ∀ i, ∃ r : ℝ, x5 i = (r : EReal))

theorem arr_act : val_main_v70 x0 x1 = ofRows (actA x0 x1) := by
  funext o
  rw [eq_ix2 o]
  refine Eq.trans ?_ (ref_act x0 x1 (o 0) (o 1))
  pointwise [val_main_v70]
include r0 r1 r2 r3 r4 r5
theorem arr_dff : val_main_v71 x0 x1 x2 x3 x4 x5 = ofRows (dffA x0 x1 x2 x3 x4 x5) := by
  funext o
  rw [eq_ix2 o]
  refine Eq.trans ?_ (ref_dff x0 x1 x2 x3 x4 x5 (o 0) r0 r1 r2 r3 r4 r5 (o 1))
  pointwise [val_main_v71]
theorem arr_dy : val_main_v40 x0 x1 x2 x3 x4 x5 = ofRows (dyA x0 x1 x2 x3 x4 x5) := by
  funext o
  rw [eq_ix2 o]
  exact ref_dy x0 x1 x2 x3 x4 x5 (o 0) r0 r1 r2 r3 r4 r5 (o 1)
theorem at_dg (j : Fin 1024) : val_main_v72 x0 x1 x2 x3 x4 x5 (ix2 0 j) = dgA x0 x1 x2 x3 x4 x5 j := by
  unfold dgA rowDg
  pointwise [val_main_v72, val_main_v46, val_main_v43, val_main_v42, val_main_v41, val_main_cst_11, val_main_cst_12]
  simp only [Fin.sum_univ_one, zero_add]
  refine Finset.sum_congr rfl fun p _ => ?_
  rw [ref_norm x0 x1 x2 p j, ref_dy x0 x1 x2 x3 x4 x5 p r0 r1 r2 r3 r4 r5 j, mul_comm]
theorem arr_dg : val_main_v72 x0 x1 x2 x3 x4 x5 = fun o => dgA x0 x1 x2 x3 x4 x5 (o 1) := by
  funext o
  refine Eq.trans (congrArg _ ?_) (at_dg x0 x1 x2 x3 x4 x5 r0 r1 r2 r3 r4 r5 (o 1))
  exact (eq_ix2 o).trans (congrArg (fun a => ix2 a (o 1)) (Fin.ext (by
    have : (o 0).val < 1 := (o 0).isLt
    show (o 0).val = 0
    omega)))
theorem at_dgu (p : Fin 2048) (q : Fin 5632) : val_main_v73 x0 x1 x2 x3 x4 x5 (ix2 p q) = dguA x0 x1 x2 x3 x4 x5 p q := by
  unfold dguA side
  pointwise [val_main_v73, val_main_v63]
  simp only [ref_dgate x0 x1 x2 x3 x4 x5 _ r0 r1 r2 r3 r4 r5, ref_dup x0 x1 x2 x3 x4 x5 _ r0 r1 r2 r3 r4 r5]
theorem arr_dgu : val_main_v73 x0 x1 x2 x3 x4 x5 = ofRows (dguA x0 x1 x2 x3 x4 x5) := by
  funext o
  rw [eq_ix2 o]
  exact at_dgu x0 x1 x2 x3 x4 x5 r0 r1 r2 r3 r4 r5 (o 0) (o 1)
theorem at_loss (a : Fin 64) (b : Fin 128) : val_main_v69 x0 x1 x2 x3 x4 x5 (ix2 a b) = lossA x0 x1 x2 x3 x4 x5 a b := by
  unfold lossA mseA
  rw [← half_sum Finset.univ _ fun p => mse_real x0 x1 x2 x3 x4 x5 _ r0 r1 r2 r3 r4 r5]
  pointwise [val_main_v69, val_main_v68, val_main_v67, val_main_v66, val_main_v65, val_main_v64, val_main_v33, val_main_v32,
    val_main_cst_7, val_main_cst_16]
  simp only [zero_add, ref_mse]
  refine Finset.sum_congr rfl fun q _ => ?_
  refine congrArg (fun p : Fin 2048 => Ideal.ofBits .f32 0x3F000000#32 * mseA x0 x1 x2 x3 x4 x5 p) (Fin.ext ?_)
  show a.val / 8 * 256 + q.val = 256 * (a.val / 8) + q.val
  omega
theorem arr_loss : val_main_v69 x0 x1 x2 x3 x4 x5 = ofRows (lossA x0 x1 x2 x3 x4 x5) := by
  funext o
  rw [eq_ix2 o]
  exact at_loss x0 x1 x2 x3 x4 x5 r0 r1 r2 r3 r4 r5 (o 0) (o 1)

end Arrays

/-- What the precondition says: the arguments are reals. -/
theorem finite_of_pre [Cert.Pre_finite_ffn.Facts] (x0 : Vec Ideal S2048x1024 .f32) (x1 : Vec Ideal S1024x5632 .f32)
    (x2 : Vec Ideal S2816x1024 .f32) (x3 x4 : Vec Ideal S2048x1024 .f32) (x5 : Vec Ideal S1024 .f32)
    (h : ∀ j, Cert.Pre_finite_ffn.fn (F := Ideal) x0 x1 x2 x3 x4 x5 j = 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ ∀ i, ∃ r : ℝ, x5 i = (r : EReal) := by
  have h0 := h ix0
  dsimp only [Cert.Pre_finite_ffn.fn, Cert.Pre_finite_ffn.fn_part1] at h0
  obtain ⟨h01234, h5⟩ := andi_one h0
  obtain ⟨h0123, h4⟩ := andi_one h01234
  obtain ⟨h012, h3⟩ := andi_one h0123
  obtain ⟨h01, h2⟩ := andi_one h012
  obtain ⟨h0', h1⟩ := andi_one h01
  exact ⟨fun i => real_of_abs_lt (Host.reduce_andi_all _ _ _ _ _ h0' i), fun i => real_of_abs_lt (Host.reduce_andi_all _ _ _ _ _ h1 i),
    fun i => real_of_abs_lt (Host.reduce_andi_all _ _ _ _ _ h2 i), fun i => real_of_abs_lt (Host.reduce_andi_all _ _ _ _ _ h3 i),
    fun i => real_of_abs_lt (Host.reduce_andi_all _ _ _ _ _ h4 i), fun i => real_of_abs_lt (Host.reduce_andi_all _ _ _ _ _ h5 i)⟩

end Cert.Proof.Ffn

end
-- ==== Proof.FfnClaim.lean ====
/- Hand-written, untrusted: the claims on the feed-forward and loss call. -/
module

public import proofs.«01_k».proof.Defs
public import proofs.«01_k».proof.Proof.FfnArr
public import proofs.«01_k».proof.Proof.FfnRef
public import proofs.«01_k».proof.Proof.Gen.Ffn
public import proofs.«01_k».proof.Proof.Gen.Ffn.Frame
public import proofs.«01_k».proof.Proof.Gen.FfnIdeal.Frame
public import proofs.«01_k».proof.Proof.Gen.FfnRefIdeal.Run
public import proofs.«01_k».proof.Proof.Gen.Pre_finite_ffn

@[expose] public section

noncomputable section

namespace Cert.Proof.Ffn

open Idealize.ShloMosaic Idealize.SL.Sem

theorem frame : Cert.quiescent_Ffn := fun m ρ _ => Cert.Ffn.Gen.frame m ρ
theorem frameIdeal : Cert.quiescent_FfnIdeal := fun m ρ _ => Cert.FfnIdeal.Gen.frame m ρ
theorem frameIdealPre : Cert.quiescent_FfnIdeal_pre_finite_ffn := fun m ρ _ => Cert.FfnIdeal.Gen.frame m ρ
theorem frameRef : Cert.quiescent_FfnRefIdeal := fun m ρ _ =>
  (θ_run Cert.FfnRefIdeal.defs _ _).mono (fun r h => ⟨fun c => (h c).2.2.2.2.2.2, sem_eq_zero_of_no_sems (by decide) r.2⟩)
    (Cert.FfnRefIdeal.Value.run m ρ)
theorem frameRefPre : Cert.quiescent_FfnRefIdeal_pre_finite_ffn := fun m ρ _ => frameRef m ρ trivial

theorem value : Cert.algebraic_FfnIdeal_FfnRefIdeal_pre_finite_ffn := by
  intro m g m' g' hpre hargs
  refine ⟨fun c => actM m c, fun c => dffM m c, fun c => dyM m c, fun c => lossM m c, fun c => dgM m c, fun c => dguM m c, run m g, ?_⟩
  refine (θ_run Cert.FfnRefIdeal.defs _ _).mono (fun r h c => ?_) (Cert.FfnRefIdeal.Value.run m' g')
  obtain ⟨a0, a1, a2, a3, a4, a5⟩ := hargs c
  obtain ⟨e0, e1, e2, e3, e4, e5⟩ := finite_of_pre _ _ _ _ _ _ (fun j => congrFun (hpre c) j)
  obtain ⟨r0, r1, r2, r3, r4, r5, r6⟩ := h c
  refine ⟨?_, ?_, ?_, ?_, ?_, ?_, r6⟩
  · refine r0.trans ((Cert.FfnRefIdeal.Read.val_main_v70_eq _ _).trans ?_)
    rw [a0, a1]
    exact arr_act _ _
  · rw [r1, Cert.FfnRefIdeal.Read.val_main_v71_eq, a0, a1, a2, a3, a4, a5]
    exact arr_dff _ _ _ _ _ _ e0 e1 e2 e3 e4 e5
  · rw [r2, Cert.FfnRefIdeal.Read.val_main_v40_eq, a0, a1, a2, a3, a4, a5]
    exact arr_dy _ _ _ _ _ _ e0 e1 e2 e3 e4 e5
  · rw [r3, Cert.FfnRefIdeal.Read.val_main_v69_eq, a0, a1, a2, a3, a4, a5]
    exact arr_loss _ _ _ _ _ _ e0 e1 e2 e3 e4 e5
  · rw [r4, Cert.FfnRefIdeal.Read.val_main_v72_eq, a0, a1, a2, a3, a4, a5]
    exact arr_dg _ _ _ _ _ _ e0 e1 e2 e3 e4 e5
  · rw [r5, Cert.FfnRefIdeal.Read.val_main_v73_eq, a0, a1, a2, a3, a4, a5]
    exact arr_dgu _ _ _ _ _ _ e0 e1 e2 e3 e4 e5

end Cert.Proof.Ffn

end
-- ==== Proof.MergeRun.lean ====
module

public import proofs.«01_k».proof.Proof.Gen.MergeIdeal.Frame.Runs

@[expose] public section
set_option maxRecDepth 16384
noncomputable section

namespace Cert.Proof.Merge

open Cert.MergeIdeal Cert.MergeIdeal.Gen
open Idealize.ShloMosaic TcCoe Tactic
open Idealize.SL RA BI
open scoped BI
open BIBase Laws ProofMode Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-- A buffer held with nothing said of its contents. -/
def some (c : Dev nD) {S : Shape} {φ : EltTy} (a : Memref sig .tc .vmem S φ) : sProp 𝕄 :=
  iprop(∃ d, owns c.tc a fullShare d)

variable (c : Dev nD) (i : grid0.Coords) (a0 : Memref sig .tc .vmem S256x5632 .bf16) (h0 : a0.IsWhole) (a1 : Memref sig .tc .vmem S4x1024x1408 .bf16) (h1 : a1.IsWhole) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S1x1024 .f32) (h5 : a5.IsWhole) (a6 : Memref sig .tc .vmem S1x1024 .f32) (h6 : a6.IsWhole) (a7 : Memref sig .tc .vmem S1024x1024 .bf16) (h7 : a7.IsWhole) (a8 : Memref sig .tc .vmem S256x1024 .f32) (h8 : a8.IsWhole) (a9 : Memref sig .tc .vmem S256x1024 .f32) (h9 : a9.IsWhole) (a10 : Memref sig .tc .vmem S256x512 .bf16) (h10 : a10.IsWhole) (a11 : Memref sig .tc .vmem S256x512 .bf16) (h11 : a11.IsWhole) (a12 : Memref sig .tc .vmem S4x512x256 .bf16) (h12 : a12.IsWhole) (a13 : Memref sig .tc .vmem S1x1024 .f32) (h13 : a13.IsWhole) (a14 : Memref sig .tc .vmem S4x512x256 .bf16) (h14 : a14.IsWhole) (a15 : Memref sig .tc .vmem S8x128 .f32) (h15 : a15.IsWhole) (a16 : Memref sig .tc .vmem S256x1024 .f32) (h16 : a16.IsWhole) (a17 : Memref sig .tc .vmem S256x1024 .bf16) (h17 : a17.IsWhole) (a18 : Memref sig .tc .vmem S1x1024 .f32) (h18 : a18.IsWhole) (a19 : Memref sig .tc .vmem S1x1024 .f32) (h19 : a19.IsWhole) (a20 : Memref sig .tc .vmem S256x1024 .bf16) (h20 : a20.IsWhole) (a21 : Memref sig .tc .vmem S256x1024 .bf16) (h21 : a21.IsWhole) (a22 : Memref sig .tc .vmem S256x2048 .bf16) (h22 : a22.IsWhole) (a23 : Memref sig .tc .vmem S256x512 .f32) (h23 : a23.IsWhole) (a24 : Memref sig .tc .vmem S256x512 .bf16) (h24 : a24.IsWhole) (a25 : Memref sig .tc .vmem S1x1024 .f32) (h25 : a25.IsWhole)

set_option maxHeartbeats 4000000 in
/-- At the first point the body ends, with its arguments as they were. -/
theorem body_first
    (hc0 : cond0_0 i) (hc1 : ¬cond0_1 i) (hc2 : cond0_2 i) (hc3 : ¬cond0_3 i) (hc4 : cond0_4 i) (hc5 : ¬cond0_5 i)
    (x0 : Vec F S256x5632 .bf16) (x1 : Vec F S4x1024x1408 .bf16) (x2 : Vec F S256x1024 .f32) (x3 : Vec F S256x1024 .f32) (x4 : Vec F S256x1024 .f32) (x5 : Vec F S1x1024 .f32) (x6 : Vec F S1x1024 .f32) (x7 : Vec F S1024x1024 .bf16) (x8 : Vec F S256x1024 .f32) (x9 : Vec F S256x1024 .f32) (x10 : Vec F S256x512 .bf16) (x11 : Vec F S256x512 .bf16) (x12 : Vec F S4x512x256 .bf16) (x13 : Vec F S1x1024 .f32) (x14 : Vec F S4x512x256 .bf16) (x15 : Vec F S8x128 .f32) :
    iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ owns c.tc a10 fullShare x10 ∗ owns c.tc a11 fullShare x11 ∗ owns c.tc a12 fullShare x12 ∗ owns c.tc a13 fullShare x13 ∗ owns c.tc a14 fullShare x14 ∗ owns c.tc a15 fullShare x15 ∗ some c a16 ∗ some c a17 ∗ some c a18 ∗ some c a19 ∗ some c a20 ∗ some c a21 ∗ some c a22 ∗ some c a23 ∗ some c a24 ∗ some c a25)
      ⊢ wp frame (wpE (defs₀ (F := F)) Variants.none c none) Set.univ (cc0_ffn_merge_bwd i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25) (fun _ =>
    iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ owns c.tc a10 fullShare x10 ∗ owns c.tc a11 fullShare x11 ∗ owns c.tc a12 fullShare x12 ∗ owns c.tc a13 fullShare x13 ∗ owns c.tc a14 fullShare x14 ∗ owns c.tc a15 fullShare x15 ∗ some c a16 ∗ some c a17 ∗ some c a18 ∗ some c a19 ∗ some c a20 ∗ some c a21 ∗ some c a22 ∗ some c a23 ∗ some c a24 ∗ some c a25)) := by
  simp only [cc0_ffn_merge_bwd_eq_skeleton]; unfold cc0_ffn_merge_bwd_skel
  simp only [k0_part7_eq_skeleton, k0_part1_eq_skeleton, k0_part2_eq_skeleton, k0_part3_eq_skeleton, k0_part4_eq_skeleton, k0_part5_eq_skeleton, k0_part6_eq_skeleton]
  unfold some owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15
  sl_exec (disch := first | sl_exact hc0 | sl_exact hc1 | sl_exact hc2 | sl_exact hc3 | sl_exact hc4 | sl_exact hc5)
  sl_step
  isplitl [H0]; · iexists _; isplitr; swap; (· iexact H0); ipureintro; exact h0.read_unread _
  isplitl [H1]; · iexists _; isplitr; swap; (· iexact H1); ipureintro; exact h1.read_unread _
  isplitl [H2]; · iexists _; isplitr; swap; (· iexact H2); ipureintro; exact h2.read_unread _
  isplitl [H3]; · iexists _; isplitr; swap; (· iexact H3); ipureintro; exact h3.read_unread _
  isplitl [H4]; · iexists _; isplitr; swap; (· iexact H4); ipureintro; exact h4.read_unread _
  isplitl [H5]; · iexists _; isplitr; swap; (· iexact H5); ipureintro; exact h5.read_unread _
  isplitl [H6]; · iexists _; isplitr; swap; (· iexact H6); ipureintro; exact h6.read_unread _
  isplitl [H7]; · iexists _; isplitr; swap; (· iexact H7); ipureintro; exact h7.read_unread _
  isplitl [H8]; · iexists _; isplitr; swap; (· iexact H8); ipureintro; exact h8.read_unread _
  isplitl [H9]; · iexists _; isplitr; swap; (· iexact H9); ipureintro; exact h9.read_unread _
  isplitl [H10]; · iexists _; isplitr; swap; (· iexact H10); ipureintro; exact h10.read_unread _
  isplitl [H11]; · iexists _; isplitr; swap; (· iexact H11); ipureintro; exact h11.read_unread _
  isplitl [H12]; · iexists _; isplitr; swap; (· iexact H12); ipureintro; exact h12.read_unread _
  isplitl [H13]; · iexists _; isplitr; swap; (· iexact H13); ipureintro; exact h13.read_unread _
  isplitl [H14]; · iexists _; isplitr; swap; (· iexact H14); ipureintro; exact h14.read_unread _
  isplitl [H15]; · iexists _; isplitr; swap; (· iexact H15); ipureintro; exact h15.read_unread _
  isplitl [H16]; · iexists _, _; isplitr; swap; (· iexact H16); ipureintro; rfl
  isplitl [H17]; · iexists _, _; isplitr; swap; (· iexact H17); ipureintro; rfl
  isplitl [H18]; · iexists _, _; isplitr; swap; (· iexact H18); ipureintro; rfl
  isplitl [H19]; · iexists _, _; isplitr; swap; (· iexact H19); ipureintro; rfl
  isplitl [H20]; · iexists _, _; isplitr; swap; (· iexact H20); ipureintro; rfl
  isplitl [H21]; · iexists _, _; isplitr; swap; (· iexact H21); ipureintro; rfl
  isplitl [H22]; · iexists _, _; isplitr; swap; (· iexact H22); ipureintro; rfl
  isplitl [H23]; · iexists _, _; isplitr; swap; (· iexact H23); ipureintro; rfl
  isplitl [H24]; · iexists _, _; isplitr; swap; (· iexact H24); ipureintro; rfl
  iexists _, _; isplitr; swap; (· iexact H25); ipureintro; rfl

set_option maxHeartbeats 4000000 in
/-- At every later point the body ends, with its arguments as they were. -/
theorem body_later
    (hc0 : ¬cond0_0 i) (hc1 : cond0_1 i) (hc2 : ¬cond0_2 i) (hc3 : cond0_3 i) (hc4 : ¬cond0_4 i) (hc5 : cond0_5 i)
    (x0 : Vec F S256x5632 .bf16) (x1 : Vec F S4x1024x1408 .bf16) (x2 : Vec F S256x1024 .f32) (x3 : Vec F S256x1024 .f32) (x4 : Vec F S256x1024 .f32) (x5 : Vec F S1x1024 .f32) (x6 : Vec F S1x1024 .f32) (x7 : Vec F S1024x1024 .bf16) (x8 : Vec F S256x1024 .f32) (x9 : Vec F S256x1024 .f32) (x10 : Vec F S256x512 .bf16) (x11 : Vec F S256x512 .bf16) (x12 : Vec F S4x512x256 .bf16) (x13 : Vec F S1x1024 .f32) (x14 : Vec F S4x512x256 .bf16) (x15 : Vec F S8x128 .f32) :
    iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ owns c.tc a10 fullShare x10 ∗ owns c.tc a11 fullShare x11 ∗ owns c.tc a12 fullShare x12 ∗ owns c.tc a13 fullShare x13 ∗ owns c.tc a14 fullShare x14 ∗ owns c.tc a15 fullShare x15 ∗ some c a16 ∗ some c a17 ∗ some c a18 ∗ some c a19 ∗ some c a20 ∗ some c a21 ∗ some c a22 ∗ some c a23 ∗ some c a24 ∗ some c a25)
      ⊢ wp frame (wpE (defs₀ (F := F)) Variants.none c none) Set.univ (cc0_ffn_merge_bwd i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25) (fun _ =>
    iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ owns c.tc a10 fullShare x10 ∗ owns c.tc a11 fullShare x11 ∗ owns c.tc a12 fullShare x12 ∗ owns c.tc a13 fullShare x13 ∗ owns c.tc a14 fullShare x14 ∗ owns c.tc a15 fullShare x15 ∗ some c a16 ∗ some c a17 ∗ some c a18 ∗ some c a19 ∗ some c a20 ∗ some c a21 ∗ some c a22 ∗ some c a23 ∗ some c a24 ∗ some c a25)) := by
  simp only [cc0_ffn_merge_bwd_eq_skeleton]; unfold cc0_ffn_merge_bwd_skel
  simp only [k0_part7_eq_skeleton, k0_part1_eq_skeleton, k0_part2_eq_skeleton, k0_part3_eq_skeleton, k0_part4_eq_skeleton, k0_part5_eq_skeleton, k0_part6_eq_skeleton]
  unfold some owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15
  sl_exec (disch := first | sl_exact hc0 | sl_exact hc1 | sl_exact hc2 | sl_exact hc3 | sl_exact hc4 | sl_exact hc5)
  sl_step
  isplitl [H0]; · iexists _; isplitr; swap; (· iexact H0); ipureintro; exact h0.read_unread _
  isplitl [H1]; · iexists _; isplitr; swap; (· iexact H1); ipureintro; exact h1.read_unread _
  isplitl [H2]; · iexists _; isplitr; swap; (· iexact H2); ipureintro; exact h2.read_unread _
  isplitl [H3]; · iexists _; isplitr; swap; (· iexact H3); ipureintro; exact h3.read_unread _
  isplitl [H4]; · iexists _; isplitr; swap; (· iexact H4); ipureintro; exact h4.read_unread _
  isplitl [H5]; · iexists _; isplitr; swap; (· iexact H5); ipureintro; exact h5.read_unread _
  isplitl [H6]; · iexists _; isplitr; swap; (· iexact H6); ipureintro; exact h6.read_unread _
  isplitl [H7]; · iexists _; isplitr; swap; (· iexact H7); ipureintro; exact h7.read_unread _
  isplitl [H8]; · iexists _; isplitr; swap; (· iexact H8); ipureintro; exact h8.read_unread _
  isplitl [H9]; · iexists _; isplitr; swap; (· iexact H9); ipureintro; exact h9.read_unread _
  isplitl [H10]; · iexists _; isplitr; swap; (· iexact H10); ipureintro; exact h10.read_unread _
  isplitl [H11]; · iexists _; isplitr; swap; (· iexact H11); ipureintro; exact h11.read_unread _
  isplitl [H12]; · iexists _; isplitr; swap; (· iexact H12); ipureintro; exact h12.read_unread _
  isplitl [H13]; · iexists _; isplitr; swap; (· iexact H13); ipureintro; exact h13.read_unread _
  isplitl [H14]; · iexists _; isplitr; swap; (· iexact H14); ipureintro; exact h14.read_unread _
  isplitl [H15]; · iexists _; isplitr; swap; (· iexact H15); ipureintro; exact h15.read_unread _
  isplitl [H16]; · iexists _, _; isplitr; swap; (· iexact H16); ipureintro; rfl
  isplitl [H17]; · iexists _, _; isplitr; swap; (· iexact H17); ipureintro; rfl
  isplitl [H18]; · iexists _, _; isplitr; swap; (· iexact H18); ipureintro; rfl
  isplitl [H19]; · iexists _, _; isplitr; swap; (· iexact H19); ipureintro; rfl
  isplitl [H20]; · iexists _, _; isplitr; swap; (· iexact H20); ipureintro; rfl
  isplitl [H21]; · iexists _, _; isplitr; swap; (· iexact H21); ipureintro; rfl
  isplitl [H22]; · iexists _, _; isplitr; swap; (· iexact H22); ipureintro; rfl
  isplitl [H23]; · iexists _, _; isplitr; swap; (· iexact H23); ipureintro; rfl
  isplitl [H24]; · iexists _, _; isplitr; swap; (· iexact H24); ipureintro; rfl
  iexists _, _; isplitr; swap; (· iexact H25); ipureintro; rfl

end Cert.Proof.Merge
end
-- ==== Proof.MergeFrame.lean ====
module

public import proofs.«01_k».proof.Proof.MergeRun

@[expose] public section
set_option maxRecDepth 16384
noncomputable section

namespace Cert.Proof.Merge

open Cert.MergeIdeal Cert.MergeIdeal.Gen
open Idealize.ShloMosaic TcCoe Tactic
open Idealize.SL RA BI
open scoped BI
open BIBase Laws ProofMode Sem
open Idealize.ShloMosaic.Rounds
open Idealize.ShloMosaic.Pipeline (Dat Cfg Window BodyObligationLoose cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The windows nothing is said of: the ten results. -/
def forgot (w : Fin cfg0.W) : Bool := decide (16 ≤ w.val)

/-- Every argument's window keeps its block. -/
def dats (_ : Fin 1) (c : Dev nD) : Dat τ (Elt F) Unit ℕ (UR sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨n + 26, h⟩ => absurd h (Nat.not_lt.2 (Nat.le_add_left 26 n))
  Φ _ := Pipeline.ΦA spec0 c
  q _ := fullShare
  owed _ := 0

theorem A_eq (c : Dev nD) (w : Fin cfg0.W) : (dats m 0 c).A w = Gen.V m c (Pipeline.arrRef spec0 w) := by
  dsimp only [dats]
theorem before0 (c : Dev nD) (t : Fin cfg0.N) (d) : (dats m 0 c).before 0 t d = iblk m c 0 t :=
  before0_0_of m (dats m 0 c) (A_eq m c 0) (fun t => by dsimp only [dats]) t d
theorem before1 (c : Dev nD) (t : Fin cfg0.N) (d) : (dats m 0 c).before 1 t d = iblk m c 1 t :=
  before0_1_of m (dats m 0 c) (A_eq m c 1) (fun t => by dsimp only [dats]) t d
theorem before2 (c : Dev nD) (t : Fin cfg0.N) (d) : (dats m 0 c).before 2 t d = iblk m c 2 t :=
  before0_2_of m (dats m 0 c) (A_eq m c 2) (fun t => by dsimp only [dats]) t d
theorem before3 (c : Dev nD) (t : Fin cfg0.N) (d) : (dats m 0 c).before 3 t d = iblk m c 3 t :=
  before0_3_of m (dats m 0 c) (A_eq m c 3) (fun t => by dsimp only [dats]) t d
theorem before4 (c : Dev nD) (t : Fin cfg0.N) (d) : (dats m 0 c).before 4 t d = iblk m c 4 t :=
  before0_4_of m (dats m 0 c) (A_eq m c 4) (fun t => by dsimp only [dats]) t d
theorem before5 (c : Dev nD) (t : Fin cfg0.N) (d) : (dats m 0 c).before 5 t d = iblk m c 5 t :=
  before0_5_of m (dats m 0 c) (A_eq m c 5) (fun t => by dsimp only [dats]) t d
theorem before6 (c : Dev nD) (t : Fin cfg0.N) (d) : (dats m 0 c).before 6 t d = iblk m c 6 t :=
  before0_6_of m (dats m 0 c) (A_eq m c 6) (fun t => by dsimp only [dats]) t d
theorem before7 (c : Dev nD) (t : Fin cfg0.N) (d) : (dats m 0 c).before 7 t d = iblk m c 7 t :=
  before0_7_of m (dats m 0 c) (A_eq m c 7) (fun t => by dsimp only [dats]) t d
theorem before8 (c : Dev nD) (t : Fin cfg0.N) (d) : (dats m 0 c).before 8 t d = iblk m c 8 t :=
  before0_8_of m (dats m 0 c) (A_eq m c 8) (fun t => by dsimp only [dats]) t d
theorem before9 (c : Dev nD) (t : Fin cfg0.N) (d) : (dats m 0 c).before 9 t d = iblk m c 9 t :=
  before0_9_of m (dats m 0 c) (A_eq m c 9) (fun t => by dsimp only [dats]) t d
theorem before10 (c : Dev nD) (t : Fin cfg0.N) (d) : (dats m 0 c).before 10 t d = iblk m c 10 t :=
  before0_10_of m (dats m 0 c) (A_eq m c 10) (fun t => by dsimp only [dats]) t d
theorem before11 (c : Dev nD) (t : Fin cfg0.N) (d) : (dats m 0 c).before 11 t d = iblk m c 11 t :=
  before0_11_of m (dats m 0 c) (A_eq m c 11) (fun t => by dsimp only [dats]) t d
theorem before12 (c : Dev nD) (t : Fin cfg0.N) (d) : (dats m 0 c).before 12 t d = iblk m c 12 t :=
  before0_12_of m (dats m 0 c) (A_eq m c 12) (fun t => by dsimp only [dats]) t d
theorem before13 (c : Dev nD) (t : Fin cfg0.N) (d) : (dats m 0 c).before 13 t d = iblk m c 13 t :=
  before0_13_of m (dats m 0 c) (A_eq m c 13) (fun t => by dsimp only [dats]) t d
theorem before14 (c : Dev nD) (t : Fin cfg0.N) (d) : (dats m 0 c).before 14 t d = iblk m c 14 t :=
  before0_14_of m (dats m 0 c) (A_eq m c 14) (fun t => by dsimp only [dats]) t d
theorem before15 (c : Dev nD) (t : Fin cfg0.N) (d) : (dats m 0 c).before 15 t d = iblk m c 15 t :=
  before0_15_of m (dats m 0 c) (A_eq m c 15) (fun t => by dsimp only [dats]) t d

/-- What the body holds of its windows, before and after. -/
abbrev held (c : Dev nD) (t : Fin cfg0.N) : sProp 𝕄 :=
  iprop(owns c.tc (ms0_0 t) fullShare (iblk m c 0 t) ∗ owns c.tc (ms0_1 t) fullShare (iblk m c 1 t) ∗ owns c.tc (ms0_2 t) fullShare (iblk m c 2 t) ∗ owns c.tc (ms0_3 t) fullShare (iblk m c 3 t) ∗ owns c.tc (ms0_4 t) fullShare (iblk m c 4 t) ∗ owns c.tc (ms0_5 t) fullShare (iblk m c 5 t) ∗ owns c.tc (ms0_6 t) fullShare (iblk m c 6 t) ∗ owns c.tc (ms0_7 t) fullShare (iblk m c 7 t) ∗ owns c.tc (ms0_8 t) fullShare (iblk m c 8 t) ∗ owns c.tc (ms0_9 t) fullShare (iblk m c 9 t) ∗ owns c.tc (ms0_10 t) fullShare (iblk m c 10 t) ∗ owns c.tc (ms0_11 t) fullShare (iblk m c 11 t) ∗ owns c.tc (ms0_12 t) fullShare (iblk m c 12 t) ∗ owns c.tc (ms0_13 t) fullShare (iblk m c 13 t) ∗ owns c.tc (ms0_14 t) fullShare (iblk m c 14 t) ∗ owns c.tc (ms0_15 t) fullShare (iblk m c 15 t) ∗ some c (ms0_16 t) ∗ some c (ms0_17 t) ∗ some c (ms0_18 t) ∗ some c (ms0_19 t) ∗ some c (ms0_20 t) ∗ some c (ms0_21 t) ∗ some c (ms0_22 t) ∗ some c (ms0_23 t) ∗ some c (ms0_24 t) ∗ some c (ms0_25 t))

theorem sound_body (c : Dev nD) (t : Fin cfg0.N) :
    held m c t ⊢ wp frame (wpE (defs₀ (F := F)) Variants.none c none) Set.univ (bodyAt0 t) (fun _ => held m c t) := by
  unfold bodyAt0
  have hN : t.val < 8 := lt_of_lt_of_eq t.isLt (show cfg0.N = 8 from N_0)
  by_cases h : t.val = 0
  · exact body_first c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr (by omega)) (fun h' => absurd ((hcond0_1 t).mp h') (by omega)) ((hcond0_2 t).mpr (by omega)) (fun h' => absurd ((hcond0_3 t).mp h') (by omega)) ((hcond0_4 t).mpr (by omega)) (fun h' => absurd ((hcond0_5 t).mp h') (by omega))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
  · exact body_later c (grid0.coords t) _ _ _ _ _ _ _ _ _ _ _ _ _ _ _ _ _ _ _ _ _ _ _ _ _ _ _ _ _ _ _ _ _ _ _ _ _ _ _ _ _ _ _ _ _ _ _ _ _ _ _ _ (fun h' => absurd ((hcond0_0 t).mp h') (by omega)) ((hcond0_1 t).mpr (by omega)) (fun h' => absurd ((hcond0_2 t).mp h') (by omega)) ((hcond0_3 t).mpr (by omega)) (fun h' => absurd ((hcond0_4 t).mp h') (by omega)) ((hcond0_5 t).mpr (by omega))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

theorem defs₀_row (t : Fin cfg0.N) :
    defs₀ (F := F) .tc cfg0.body (cfg0.bodyArgs t (cfg0.slots t)) = bodyAt0 t := by
  unfold defs₀; rw [Defs.onTc_tc]

/-- The invariant and the debts pass by the body. -/
theorem sound_beside (c : Dev nD) (t : Fin cfg0.N) (A O : sProp 𝕄) :
    iprop(A ∗ O ∗ held m c t) ⊢ wp frame (wpE (defs₀ (F := F)) Variants.none c none) Set.univ (bodyAt0 t) (fun _ => iprop(A ∗ O ∗ held m c t)) :=
  (BI.sep_mono_r (BI.sep_mono_r (sound_body m c t))).trans ((BI.sep_mono_r (wp_frame_l _ _ _)).trans (wp_frame_l _ _ _))

/-- What the library holds of the windows before the body. -/
theorem held_of (c : Dev nD) (t : Fin cfg0.N) (A O : sProp 𝕄) :
    iprop(A ∗ O ∗ (∃ d, owns c.tc (ms0_0 t) fullShare ((dats m 0 c).before 0 t d)) ∗ (∃ d, owns c.tc (ms0_1 t) fullShare ((dats m 0 c).before 1 t d)) ∗ (∃ d, owns c.tc (ms0_2 t) fullShare ((dats m 0 c).before 2 t d)) ∗ (∃ d, owns c.tc (ms0_3 t) fullShare ((dats m 0 c).before 3 t d)) ∗ (∃ d, owns c.tc (ms0_4 t) fullShare ((dats m 0 c).before 4 t d)) ∗ (∃ d, owns c.tc (ms0_5 t) fullShare ((dats m 0 c).before 5 t d)) ∗ (∃ d, owns c.tc (ms0_6 t) fullShare ((dats m 0 c).before 6 t d)) ∗ (∃ d, owns c.tc (ms0_7 t) fullShare ((dats m 0 c).before 7 t d)) ∗ (∃ d, owns c.tc (ms0_8 t) fullShare ((dats m 0 c).before 8 t d)) ∗ (∃ d, owns c.tc (ms0_9 t) fullShare ((dats m 0 c).before 9 t d)) ∗ (∃ d, owns c.tc (ms0_10 t) fullShare ((dats m 0 c).before 10 t d)) ∗ (∃ d, owns c.tc (ms0_11 t) fullShare ((dats m 0 c).before 11 t d)) ∗ (∃ d, owns c.tc (ms0_12 t) fullShare ((dats m 0 c).before 12 t d)) ∗ (∃ d, owns c.tc (ms0_13 t) fullShare ((dats m 0 c).before 13 t d)) ∗ (∃ d, owns c.tc (ms0_14 t) fullShare ((dats m 0 c).before 14 t d)) ∗ (∃ d, owns c.tc (ms0_15 t) fullShare ((dats m 0 c).before 15 t d)) ∗ some c (ms0_16 t) ∗ some c (ms0_17 t) ∗ some c (ms0_18 t) ∗ some c (ms0_19 t) ∗ some c (ms0_20 t) ∗ some c (ms0_21 t) ∗ some c (ms0_22 t) ∗ some c (ms0_23 t) ∗ some c (ms0_24 t) ∗ some c (ms0_25 t)) ⊢ iprop(A ∗ O ∗ held m c t) := by
  simp only [before0, before1, before2, before3, before4, before5, before6, before7, before8, before9, before10, before11, before12, before13, before14, before15]
  unfold held
  iintro ⟨HA, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, Hs⟩
  isplitl [HA]; · iexact HA
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact Hs

set_option maxHeartbeats 2000000 in
theorem body_obligation (c : Dev nD) : BodyObligationLoose (dats (F := F) m 0 c) (defs₀ (F := F)) Variants.none () Set.univ forgot := fun t => by
  rw [bigSep_W0, bigSep_W0, defs₀_row]
  exact triple_restated (sound_beside m c t _ _) rfl (held_of m c t _ _) fun _ => .rfl

set_option backward.isDefEq.respectTransparency.types false in
theorem run_main : θ_run defs (onTc (τ := τ) (main (F := F))) ⟨m, fun _ => 0, ρ⟩ (fun r => Pipeline.RDat.FramePost cfg0 (fun c => (dats m 0 c).toRForget forgot) (Gen.V m) r ∧ r.2.sem = fun _ => 0) :=
  Pipeline.θ_run_frame_forget (Q' := _) cfgs (dats m) (0 : Fin 1) launch0 defs₀ Variants.none forgot m ρ main
    (hbody := body_obligation m) (hshare := fun c => (dats m 0 c).share_full fun _ => rfl)
    (howed := fun _ _ => rfl) (V := Gen.V m) (hmain := hmain m Variants.none) (hA := A_eq m) (hΦ := fun _ _ => rfl)

end Cert.Proof.Merge
end
-- ==== Proof.MergeEnds.lean ====
module

public import proofs.«01_k».proof.Proof.MergeFrame

@[expose] public section
set_option maxRecDepth 16384
noncomputable section

namespace Cert.Proof.Merge

open Cert.MergeIdeal Cert.MergeIdeal.Gen
open Idealize.ShloMosaic TcCoe Tactic
open Idealize.SL RA BI
open scoped BI
open BIBase Laws ProofMode Sem
open Idealize.ShloMosaic.Rounds
open Idealize.ShloMosaic.Pipeline (Dat Cfg Window BodyObligationLoose cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- A buffer no window holds is as the call found it. -/
theorem rest_in {cfg₁ : Cfg sig Λ₀} {rdat : (c : Dev nD) → Pipeline.RDat τ (Elt F) Unit ℕ (UR sig nD τ) ℕ cfg₁ c}
    {W : (c : Dev nD) → (b : Ref sig .tc) → Buf (Elt F) ((c.tc : Thread nD τ).loc b)} {r : PUnit × MemSt nD τ sig (Elt F)}
    (h : Pipeline.RDat.FramePost cfg₁ rdat W r) (c : Dev nD) (b : Ref sig .tc) (hb : b ∈ Pipeline.restRefs sig cfg₁.spec) :
    r.2.mem ((c.tc : Thread nD τ).loc b) = W c b := (h c).2 b hb

set_option maxHeartbeats 8000000 in
/-- The program ends, faults nowhere, and leaves its arguments and counters as it found them. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c => ⟨(rest_in h.1 c main_arg0 (Pipeline.mem_restRefs_of main_arg0 (by decide) (by decide))).trans (V_main_arg0 m c),
      (rest_in h.1 c main_arg1 (Pipeline.mem_restRefs_of main_arg1 (by decide) (by decide))).trans (V_main_arg1 m c),
      (rest_in h.1 c main_arg2 (Pipeline.mem_restRefs_of main_arg2 (by decide) (by decide))).trans (V_main_arg2 m c),
      (Pipeline.RDat.FramePost.arr_in h.1 c 8 rfl).trans ((A_eq m c 8).trans (V_main_arg3 m c)),
      (Pipeline.RDat.FramePost.arr_in h.1 c 9 rfl).trans ((A_eq m c 9).trans (V_main_arg4 m c)),
      (rest_in h.1 c main_arg5 (Pipeline.mem_restRefs_of main_arg5 (by decide) (by decide))).trans (V_main_arg5 m c),
      (rest_in h.1 c main_arg6 (Pipeline.mem_restRefs_of main_arg6 (by decide) (by decide))).trans (V_main_arg6 m c),
      (rest_in h.1 c main_arg7 (Pipeline.mem_restRefs_of main_arg7 (by decide) (by decide))).trans (V_main_arg7 m c),
      (rest_in h.1 c main_arg8 (Pipeline.mem_restRefs_of main_arg8 (by decide) (by decide))).trans (V_main_arg8 m c),
      (rest_in h.1 c main_arg9 (Pipeline.mem_restRefs_of main_arg9 (by decide) (by decide))).trans (V_main_arg9 m c),
      (rest_in h.1 c main_arg10 (Pipeline.mem_restRefs_of main_arg10 (by decide) (by decide))).trans (V_main_arg10 m c),
      (rest_in h.1 c main_arg11 (Pipeline.mem_restRefs_of main_arg11 (by decide) (by decide))).trans (V_main_arg11 m c),
      (Pipeline.RDat.FramePost.arr_in h.1 c 4 rfl).trans ((A_eq m c 4).trans (V_main_arg12 m c)),
      (rest_in h.1 c main_arg13 (Pipeline.mem_restRefs_of main_arg13 (by decide) (by decide))).trans (V_main_arg13 m c)⟩, h.2⟩) (run_main m ρ)

end Cert.Proof.Merge
end
-- ==== Proof.MergeBits.lean ====
module

public import proofs.«01_k».proof.Defs
public import proofs.«01_k».proof.Proof.MergeEnds
public import proofs.«01_k».proof.Proof.Gen.Merge

@[expose] public section
set_option maxRecDepth 65536
noncomputable section

namespace Cert.Proof.Merge

open Idealize.ShloMosaic TcCoe Tactic
open Idealize.SL Idealize.SL.Sem

/-- The statement about the idealized program read at the machine's own numbers. -/
abbrev AtBits : Prop := ∀ (m : (ℓ : Loc Cert.MergeIdeal.nD Cert.MergeIdeal.τ Cert.MergeIdeal.sig) → Buf (Elt Bits) ℓ) (g : Dev Cert.MergeIdeal.nD → PrngReg), True →
    θ_run (Cert.MergeIdeal.defs (F := Bits)) (onTc (τ := Cert.MergeIdeal.τ) (Cert.MergeIdeal.main (F := Bits))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

theorem atBits : AtBits := fun m g _ => frame_run m g

theorem same_text : AtBits = quiescent_Merge (hMerge := Cert.Merge.Gen.facts) := by
  sl_kernel_rfl

theorem frame : quiescent_Merge (hMerge := Cert.Merge.Gen.facts) := same_text.mp atBits

end Cert.Proof.Merge
end
-- ==== Proof.MixRow.lean ====
/- Hand-written, untrusted: what the forward mixing call computes of one row, over the extended reals: the two gated branches,
   the output projection, and the two normalisations. -/
module

public import proofs.«01_k».proof.Proof.FfnRow

@[expose] public section

noncomputable section

namespace Cert.Proof.Mix

open Idealize.ShloMosaic Cert.Proof.Ffn

variable (u a : Fin 512 → EReal) (gc ga x : Fin 1024 → EReal) (wc : Fin 512 → Fin 1024 → EReal) (b : Fin 1024 → EReal)
  (wa : Fin 512 → Fin 1024 → EReal) (wo : Fin 1024 → Fin 1024 → EReal) (g2 g3 : Fin 1024 → EReal)

/-- The two branches of a row, each under its gate. -/
def merged (j : Fin 1024) : EReal :=
  sigE (gc j) * ((∑ k : Fin 512, u k * wc k j) + b j) + sigE (ga j) * ∑ k : Fin 512, a k * wa k j

/-- The row after the output projection. -/
def mixed (j : Fin 1024) : EReal := ∑ k : Fin 1024, merged u a gc ga wc b wa k * wo k j

/-- The row after the residual step. -/
def stepped (j : Fin 1024) : EReal :=
  x j + mixed u a gc ga wc b wa wo j * rmsE (mixed u a gc ga wc b wa wo) * g2 j

/-- The row the feed-forward layer reads. -/
def normed (j : Fin 1024) : EReal :=
  stepped u a gc ga x wc b wa wo g2 j * rmsE (stepped u a gc ga x wc b wa wo g2) * g3 j

end Cert.Proof.Mix
-- ==== Proof.MixPay.lean ====
/- Hand-written, untrusted: what one grid point of the forward mixing call computes, row by row, over the extended reals. -/
module

public import proofs.«01_k».proof.Proof.MixRow
public import proofs.«01_k».proof.Proof.Gen.MixIdeal.Value
public import Idealize.ShloMosaic.Lib.Pointwise
public import Idealize.ShloMosaic.Lib.StableHlo.ReadAt
public import Idealize.ShloMosaic.Lib.Pipeline.ValueKit.Tiles

@[expose] public section

noncomputable section

namespace Cert.Proof.Mix

open Cert.MixIdeal Cert.MixIdeal.Gen Idealize.ShloMosaic TcCoe Idealize.SL.Sem Cert.Proof.Ffn

/-- A row times the column of one of four pieces. -/
def piece (v : Fin 512 → EReal) (w0 w1 w2 w3 : Fin 512 → Fin 256 → EReal) (j : Fin 1024) : EReal :=
  if h0 : j.val < 256 then ∑ k : Fin 512, v k * w0 k ⟨j.val, h0⟩
  else if h1 : j.val - 256 < 256 then ∑ k : Fin 512, v k * w1 k ⟨j.val - 256, by omega⟩
  else if h2 : j.val - 256 - 256 < 256 then ∑ k : Fin 512, v k * w2 k ⟨j.val - 256 - 256, by omega⟩
  else ∑ k : Fin 512, v k * w3 k ⟨j.val - 256 - 256 - 256, by omega⟩

theorem piece_eq (v : Fin 512 → EReal) (w : Fin 4 → Fin 512 → Fin 256 → EReal) (j : Fin 1024) :
    piece v (w 0) (w 1) (w 2) (w 3) j
      = ∑ k : Fin 512, v k * w ⟨j.val / 256, by omega⟩ k ⟨j.val % 256, Nat.mod_lt _ (by decide)⟩ := by
  unfold piece
  split
  · exact Finset.sum_congr rfl fun k _ => congrArg (v k * ·) (congrArg₂ (fun a b => w a k b)
      (Fin.ext (by show 0 = j.val / 256; omega)) (Fin.ext (by show j.val = j.val % 256; omega)))
  split
  · exact Finset.sum_congr rfl fun k _ => congrArg (v k * ·) (congrArg₂ (fun a b => w a k b)
      (Fin.ext (by show 1 = j.val / 256; omega)) (Fin.ext (by show j.val - 256 = j.val % 256; omega)))
  split
  · exact Finset.sum_congr rfl fun k _ => congrArg (v k * ·) (congrArg₂ (fun a b => w a k b)
      (Fin.ext (by show 2 = j.val / 256; omega)) (Fin.ext (by show j.val - 256 - 256 = j.val % 256; omega)))
  · exact Finset.sum_congr rfl fun k _ => congrArg (v k * ·) (congrArg₂ (fun a b => w a k b)
      (Fin.ext (by show 3 = j.val / 256; omega)) (Fin.ext (by show j.val - 256 - 256 - 256 = j.val % 256; omega)))

theorem pay4_apply (v0 : Vec Ideal S256x512 .bf16) (w0 w1 w2 w3 : Vec Ideal S1x512x256 .bf16) (b : Vec Ideal S1x1024 .f32)
    (p : Fin 256) (j : Fin 1024) :
    k0_pay4 v0 w0 w1 w2 w3 b (ix2 p j) = piece (fun k => v0 (ix2 p k)) (fun k q => w0 (ix3 0 k q)) (fun k q => w1 (ix3 0 k q))
      (fun k q => w2 (ix3 0 k q)) (fun k q => w3 (ix3 0 k q)) j + b (ix2 0 j) := by
  unfold piece
  pointwise [k0_pay4]

theorem pay7_apply (v2 : Vec Ideal S256x512 .bf16) (co : FVec Ideal S256x1024 .f32) (w0 w1 w2 w3 : Vec Ideal S1x512x256 .bf16)
    (gc ga : Vec Ideal S256x1024 .f32) (p : Fin 256) (j : Fin 1024) :
    k0_pay7 (k0_pay3 v2) co (k0_pay5 v2 w0) (k0_pay6 v2 w1) w2 w3 gc ga (ix2 p j)
      = sigE (gc (ix2 p j)) * co (ix2 p j) + sigE (ga (ix2 p j)) * piece (fun k => v2 (ix2 p k)) (fun k q => w0 (ix3 0 k q))
          (fun k q => w1 (ix3 0 k q)) (fun k q => w2 (ix3 0 k q)) (fun k q => w3 (ix3 0 k q)) j := by
  unfold piece sigE
  pointwise [k0_pay7, k0_pay3, k0_pay5, k0_pay6]
  rw [zero_sub, zero_sub]

theorem pay8_apply (v3 : FVec Ideal S256x512 .bf16) (co : FVec Ideal S256x1024 .f32) (a0 a1 : FVec Ideal S256x256 .f32)
    (w2 w3 : Vec Ideal S1x512x256 .bf16) (gc ga : Vec Ideal S256x1024 .f32) (wo : Vec Ideal S1024x1024 .bf16)
    (p : Fin 256) (j : Fin 1024) :
    k0_pay8 v3 co a0 a1 w2 w3 gc ga wo (ix2 p j)
      = ∑ k : Fin 1024, k0_pay7 v3 co a0 a1 w2 w3 gc ga (ix2 p k) * wo (ix2 k j) := by
  pointwise [k0_pay8]

theorem pay9_apply (v3 : FVec Ideal S256x512 .bf16) (co : FVec Ideal S256x1024 .f32) (a0 a1 : FVec Ideal S256x256 .f32)
    (w2 w3 : Vec Ideal S1x512x256 .bf16) (gc ga : Vec Ideal S256x1024 .f32) (wo : Vec Ideal S1024x1024 .bf16) (p : Fin 256) :
    k0_pay9 v3 co a0 a1 w2 w3 gc ga wo (ix1 p)
      = ∑ k : Fin 1024, k0_pay8 v3 co a0 a1 w2 w3 gc ga wo (ix2 p k) * k0_pay8 v3 co a0 a1 w2 w3 gc ga wo (ix2 p k) := by
  pointwise [k0_pay9]

theorem pay1_apply (y : FVec Ideal S256x1024 .f32) (s : FVec Ideal S256 .f32) (x : Vec Ideal S256x1024 .f32)
    (g : Vec Ideal S1x1024 .f32) (p : Fin 256) (hs : s (ix1 p) = ∑ k : Fin 1024, y (ix2 p k) * y (ix2 p k)) (j : Fin 1024) :
    k0_pay1 y s x g (ix2 p j) = x (ix2 p j) + y (ix2 p j) * rmsE (fun k => y (ix2 p k)) * g (ix2 0 j) := by
  unfold rmsE
  rw [← hs]
  pointwise [k0_pay1]

theorem pay2_apply (y : FVec Ideal S256x1024 .f32) (s : FVec Ideal S256 .f32) (x : Vec Ideal S256x1024 .f32)
    (g g' : Vec Ideal S1x1024 .f32) (p : Fin 256) (j : Fin 1024) :
    k0_pay2 y s x g g' (ix2 p j)
      = k0_pay1 y s x g (ix2 p j) * rmsE (fun k => k0_pay1 y s x g (ix2 p k)) * g' (ix2 0 j) := by
  unfold rmsE
  pointwise [k0_pay2]

end Cert.Proof.Mix
-- ==== Proof.MixOut.lean ====
/- Hand-written, untrusted: what one grid point of the forward mixing call leaves in its four output blocks, as functions of
   the blocks it reads, row by row. -/
module

public import proofs.«01_k».proof.Proof.MixPay
public import proofs.«01_k».proof.Proof.FfnRun

@[expose] public section

noncomputable section

namespace Cert.Proof.Mix

open Cert.MixIdeal Cert.MixIdeal.Gen Idealize.ShloMosaic TcCoe Idealize.SL.Sem Cert.Proof.Ffn

/-- Four pieces of 256 columns, side by side. -/
def wide (x : Vec Ideal S4x512x256 .bf16) (k : Fin 512) (j : Fin 1024) : EReal :=
  x (ix3 ⟨j.val / 256, by omega⟩ k ⟨j.val % 256, Nat.mod_lt _ (by decide)⟩)

theorem piece_ld_at (x : Vec Ideal S4x512x256 .bf16) (b : Fin 4) (inb) :
    (fun (k : Fin 512) (q : Fin 256) =>
        View.ld x (Rect.unit (s := S4x512x256) ![b.val, 0, 0] S1x512x256.size inb) (ix3 0 k q))
      = fun k q => x (ix3 b k q) :=
  funext fun k => funext fun q => View.ld_unit_apply_of x _ _ _ _ _ fun a => by
    match a with
    | ⟨0, _⟩ => rfl
    | ⟨1, _⟩ => exact (Nat.zero_add _).symm
    | ⟨2, _⟩ => exact (Nat.zero_add _).symm

theorem piece_ld (v : Fin 512 → EReal) (x : Vec Ideal S4x512x256 .bf16) (j : Fin 1024) :
    piece v (fun k q => View.ld x r0_1 (ix3 0 k q)) (fun k q => View.ld x r0_2 (ix3 0 k q)) (fun k q => View.ld x r0_3 (ix3 0 k q))
      (fun k q => View.ld x r0_4 (ix3 0 k q)) j = ∑ k : Fin 512, v k * wide x k j := by
  refine Eq.trans ?_ (piece_eq v (fun b k q => x (ix3 b k q)) j)
  exact congr (congr (congr (congr (congrArg _ (piece_ld_at x 0 _)) (piece_ld_at x 1 _)) (piece_ld_at x 2 _)) (piece_ld_at x 3 _)) rfl

variable (x0 x1 : Vec Ideal S256x512 .bf16) (x2 x3 x4 : Vec Ideal S256x1024 .f32) (x5 : Vec Ideal S4x512x256 .bf16)
  (x6 : Vec Ideal S1x1024 .f32) (x7 : Vec Ideal S4x512x256 .bf16) (x8 : Vec Ideal S1024x1024 .bf16)
  (x9 x10 : Vec Ideal S1x1024 .f32) (x11 : Vec Ideal S8x128 .f32)

abbrev lineB (x : Vec Ideal S1x1024 .f32) (j : Fin 1024) : EReal := x (ix2 0 j)
abbrev outB (k j : Fin 1024) : EReal := x8 (ix2 k j)

def mergedB (p : Fin 256) (j : Fin 1024) : EReal :=
  merged (rowB x0 p) (rowB x1 p) (rowB x2 p) (rowB x3 p) (wide x5) (lineB x6) (wide x7) j
def mixedB (p : Fin 256) (j : Fin 1024) : EReal :=
  mixed (rowB x0 p) (rowB x1 p) (rowB x2 p) (rowB x3 p) (wide x5) (lineB x6) (wide x7) (outB x8) j
def steppedB (p : Fin 256) (j : Fin 1024) : EReal :=
  stepped (rowB x0 p) (rowB x1 p) (rowB x2 p) (rowB x3 p) (rowB x4 p) (wide x5) (lineB x6) (wide x7) (outB x8) (lineB x9) j
def normedB (p : Fin 256) (j : Fin 1024) : EReal :=
  normed (rowB x0 p) (rowB x1 p) (rowB x2 p) (rowB x3 p) (rowB x4 p) (wide x5) (lineB x6) (wide x7) (outB x8) (lineB x9) (lineB x10) j

abbrev mergedV : FVec Ideal S256x1024 .bf16 :=
  k0_pay7 (k0_pay3 x1) (k0_pay4 x0 (View.ld x5 r0_1) (View.ld x5 r0_2) (View.ld x5 r0_3) (View.ld x5 r0_4) x6)
    (k0_pay5 x1 (View.ld x7 r0_1)) (k0_pay6 x1 (View.ld x7 r0_2)) (View.ld x7 r0_3) (View.ld x7 r0_4) x2 x3
abbrev mixedV : FVec Ideal S256x1024 .f32 :=
  k0_pay8 (k0_pay3 x1) (k0_pay4 x0 (View.ld x5 r0_1) (View.ld x5 r0_2) (View.ld x5 r0_3) (View.ld x5 r0_4) x6)
    (k0_pay5 x1 (View.ld x7 r0_1)) (k0_pay6 x1 (View.ld x7 r0_2)) (View.ld x7 r0_3) (View.ld x7 r0_4) x2 x3 x8
abbrev sumV : FVec Ideal S256 .f32 :=
  k0_pay9 (k0_pay3 x1) (k0_pay4 x0 (View.ld x5 r0_1) (View.ld x5 r0_2) (View.ld x5 r0_3) (View.ld x5 r0_4) x6)
    (k0_pay5 x1 (View.ld x7 r0_1)) (k0_pay6 x1 (View.ld x7 r0_2)) (View.ld x7 r0_3) (View.ld x7 r0_4) x2 x3 x8

theorem merged_apply (p : Fin 256) (j : Fin 1024) :
    mergedV x0 x1 x2 x3 x5 x6 x7 (ix2 p j) = mergedB x0 x1 x2 x3 x5 x6 x7 p j := by
  unfold mergedV mergedB merged
  rw [pay7_apply, pay4_apply, piece_ld, piece_ld]

theorem mixed_apply (p : Fin 256) (j : Fin 1024) :
    mixedV x0 x1 x2 x3 x5 x6 x7 x8 (ix2 p j) = mixedB x0 x1 x2 x3 x5 x6 x7 x8 p j := by
  refine (pay8_apply _ _ _ _ _ _ _ _ _ p j).trans ?_
  exact Finset.sum_congr rfl fun k _ => congrArg (· * x8 (ix2 k j)) (merged_apply x0 x1 x2 x3 x5 x6 x7 p k)

theorem stepped_apply (p : Fin 256) (j : Fin 1024) :
    k0_pay1 (mixedV x0 x1 x2 x3 x5 x6 x7 x8) (sumV x0 x1 x2 x3 x5 x6 x7 x8) x4 x9 (ix2 p j)
      = steppedB x0 x1 x2 x3 x4 x5 x6 x7 x8 x9 p j := by
  rw [pay1_apply _ _ _ _ p (pay9_apply _ _ _ _ _ _ _ _ _ p)]
  have e : (fun k => mixedV x0 x1 x2 x3 x5 x6 x7 x8 (ix2 p k)) = mixedB x0 x1 x2 x3 x5 x6 x7 x8 p :=
    funext fun k => mixed_apply x0 x1 x2 x3 x5 x6 x7 x8 p k
  rw [e]
  exact congrArg (fun y => x4 (ix2 p j) + y * rmsE (mixedB x0 x1 x2 x3 x5 x6 x7 x8 p) * x9 (ix2 0 j))
    (mixed_apply x0 x1 x2 x3 x5 x6 x7 x8 p j)

theorem normed_apply (p : Fin 256) (j : Fin 1024) :
    k0_pay2 (mixedV x0 x1 x2 x3 x5 x6 x7 x8) (sumV x0 x1 x2 x3 x5 x6 x7 x8) x4 x9 x10 (ix2 p j)
      = normedB x0 x1 x2 x3 x4 x5 x6 x7 x8 x9 x10 p j := by
  rw [pay2_apply]
  have e : (fun k => k0_pay1 (mixedV x0 x1 x2 x3 x5 x6 x7 x8) (sumV x0 x1 x2 x3 x5 x6 x7 x8) x4 x9 (ix2 p k))
      = steppedB x0 x1 x2 x3 x4 x5 x6 x7 x8 x9 p :=
    funext fun k => stepped_apply x0 x1 x2 x3 x4 x5 x6 x7 x8 x9 p k
  rw [e]
  exact congrArg (fun y => y * rmsE (steppedB x0 x1 x2 x3 x4 x5 x6 x7 x8 x9 p) * x10 (ix2 0 j))
    (stepped_apply x0 x1 x2 x3 x4 x5 x6 x7 x8 x9 p j)

theorem out12 : out0_12 x0 x1 x2 x3 x4 x5 x6 x7 x8 x9 x10 x11 = ofRows (mergedB x0 x1 x2 x3 x5 x6 x7) := by
  unfold out0_12 k0_pay10 k0_pay11 k0_pay12 k0_pay13
  rw [View.canon_unit_zero hz2]
  simp only [View.ld_unit_zero (S := S256x512) hz2, View.ld_unit_zero (S := S1x1024) hz2, View.ld_unit_zero (S := S256x1024) hz2]
  funext o
  obtain ⟨p, q, rfl⟩ : ∃ p q, o = ix2 p q := ⟨o 0, o 1, eq_ix2 o⟩
  exact merged_apply x0 x1 x2 x3 x5 x6 x7 p q

theorem out13 : out0_13 x0 x1 x2 x3 x4 x5 x6 x7 x8 x9 x10 x11 = ofRows (mixedB x0 x1 x2 x3 x5 x6 x7 x8) := by
  unfold out0_13 k0_pay10 k0_pay11 k0_pay12 k0_pay13
  rw [View.canon_unit_zero hz2]
  simp only [View.ld_unit_zero (S := S256x512) hz2, View.ld_unit_zero (S := S1x1024) hz2, View.ld_unit_zero (S := S256x1024) hz2,
    View.ld_unit_zero (S := S1024x1024) hz2]
  funext o
  obtain ⟨p, q, rfl⟩ : ∃ p q, o = ix2 p q := ⟨o 0, o 1, eq_ix2 o⟩
  exact mixed_apply x0 x1 x2 x3 x5 x6 x7 x8 p q

theorem out14 : out0_14 x0 x1 x2 x3 x4 x5 x6 x7 x8 x9 x10 x11 = ofRows (steppedB x0 x1 x2 x3 x4 x5 x6 x7 x8 x9) := by
  unfold out0_14 k0_pay14 k0_pay15 k0_pay10 k0_pay11 k0_pay12 k0_pay13
  rw [View.canon_unit_zero hz2]
  simp only [View.ld_unit_zero (S := S256x512) hz2, View.ld_unit_zero (S := S1x1024) hz2, View.ld_unit_zero (S := S256x1024) hz2,
    View.ld_unit_zero (S := S1024x1024) hz2]
  funext o
  obtain ⟨p, q, rfl⟩ : ∃ p q, o = ix2 p q := ⟨o 0, o 1, eq_ix2 o⟩
  exact stepped_apply x0 x1 x2 x3 x4 x5 x6 x7 x8 x9 p q

theorem out15 : out0_15 x0 x1 x2 x3 x4 x5 x6 x7 x8 x9 x10 x11 = ofRows (normedB x0 x1 x2 x3 x4 x5 x6 x7 x8 x9 x10) := by
  unfold out0_15 k0_pay14 k0_pay15 k0_pay10 k0_pay11 k0_pay12 k0_pay13
  rw [View.canon_unit_zero hz2]
  simp only [View.ld_unit_zero (S := S256x512) hz2, View.ld_unit_zero (S := S1x1024) hz2, View.ld_unit_zero (S := S256x1024) hz2,
    View.ld_unit_zero (S := S1024x1024) hz2]
  funext o
  obtain ⟨p, q, rfl⟩ : ∃ p q, o = ix2 p q := ⟨o 0, o 1, eq_ix2 o⟩
  exact normed_apply x0 x1 x2 x3 x4 x5 x6 x7 x8 x9 x10 p q

end Cert.Proof.Mix
-- ==== Proof.MixRef.lean ====
/- Hand-written, untrusted: the reference of the forward mixing call, read row by row over the extended reals. -/
module

public import proofs.«01_k».proof.Proof.MixRow
public import proofs.«01_k».proof.Proof.FfnRef
public import proofs.«01_k».proof.Proof.Gen.MixRefIdeal.Read

@[expose] public section

noncomputable section

namespace Cert.Proof.Mix

open Cert.MixRefIdeal Cert.MixRefIdeal.Read Idealize.ShloMosaic Cert.Proof.Ffn

variable (x0 x1 : Vec Ideal S2048x512 .f32) (x2 x3 x4 : Vec Ideal S2048x1024 .f32) (x5 : Vec Ideal S512x1024 .f32)
  (x6 : Vec Ideal S1024 .f32) (x7 : Vec Ideal S512x1024 .f32) (x8 : Vec Ideal S1024x1024 .f32) (x9 x10 : Vec Ideal S1024 .f32)

/-- A matrix, by row and column. -/
abbrev tab {a b : Nat} (x : (⟨2, ![a, b]⟩ : Shape).Idx → EReal) (k : Fin a) (j : Fin b) : EReal := x (ix2 k j)

def mergedA (p : Fin 2048) (j : Fin 1024) : EReal :=
  merged (rowA x0 p) (rowA x1 p) (rowA x2 p) (rowA x3 p) (tab x5) (scaleA x6) (tab x7) j
def mixedA (p : Fin 2048) (j : Fin 1024) : EReal :=
  mixed (rowA x0 p) (rowA x1 p) (rowA x2 p) (rowA x3 p) (tab x5) (scaleA x6) (tab x7) (tab x8) j
def steppedA (p : Fin 2048) (j : Fin 1024) : EReal :=
  stepped (rowA x0 p) (rowA x1 p) (rowA x2 p) (rowA x3 p) (rowA x4 p) (tab x5) (scaleA x6) (tab x7) (tab x8) (scaleA x9) j
def normedA (p : Fin 2048) (j : Fin 1024) : EReal :=
  normed (rowA x0 p) (rowA x1 p) (rowA x2 p) (rowA x3 p) (rowA x4 p) (tab x5) (scaleA x6) (tab x7) (tab x8) (scaleA x9) (scaleA x10) j

theorem ref_merged (p : Fin 2048) (j : Fin 1024) : val_main_v19 x0 x1 x2 x3 x5 x6 x7 (ix2 p j) = mergedA x0 x1 x2 x3 x5 x6 x7 p j := by
  unfold mergedA merged sigE
  pointwise [val_main_v19, val_main_v18, val_main_v17, val_main_v16, val_main_v15, val_main_v14, val_main_v13, val_main_v12,
    val_main_v11, val_main_v10, val_main_v9, val_main_v8, val_main_v7, val_main_v6, val_main_v5, val_main_v4, val_main_v3,
    val_main_v2, val_main_v1, val_main_v0, val_main_cst, val_main_cst_0, val_main_cst_1, val_main_cst_2]

theorem ref_mixed (p : Fin 2048) (j : Fin 1024) :
    val_main_v20 x0 x1 x2 x3 x5 x6 x7 x8 (ix2 p j) = mixedA x0 x1 x2 x3 x5 x6 x7 x8 p j := by
  have e : val_main_v20 x0 x1 x2 x3 x5 x6 x7 x8 (ix2 p j)
      = ∑ k : Fin 1024, val_main_v19 x0 x1 x2 x3 x5 x6 x7 (ix2 p k) * x8 (ix2 k j) := by
    pointwise [val_main_v20]
  rw [e]
  exact Finset.sum_congr rfl fun k _ => congrArg (· * x8 (ix2 k j)) (ref_merged x0 x1 x2 x3 x5 x6 x7 p k)

theorem ref_stepped (p : Fin 2048) (j : Fin 1024) :
    val_main_v34 x0 x1 x2 x3 x4 x5 x6 x7 x8 x9 (ix2 p j) = steppedA x0 x1 x2 x3 x4 x5 x6 x7 x8 x9 p j := by
  have e : val_main_v34 x0 x1 x2 x3 x4 x5 x6 x7 x8 x9 (ix2 p j)
      = x4 (ix2 p j) + val_main_v20 x0 x1 x2 x3 x5 x6 x7 x8 (ix2 p j)
          * rmsE (fun k => val_main_v20 x0 x1 x2 x3 x5 x6 x7 x8 (ix2 p k)) * x9 (ix1 j) := by
    unfold rmsE
    pointwise [val_main_v34, val_main_v33, val_main_v32, val_main_v31, val_main_v30, val_main_v29, val_main_v28, val_main_v27,
      val_main_v26, val_main_v25, val_main_v24, val_main_v23, val_main_v22, val_main_v21, val_main_cst_3, val_main_cst_4, val_main_cst_5]
  have h : (fun k => val_main_v20 x0 x1 x2 x3 x5 x6 x7 x8 (ix2 p k)) = mixedA x0 x1 x2 x3 x5 x6 x7 x8 p :=
    funext fun k => ref_mixed x0 x1 x2 x3 x5 x6 x7 x8 p k
  rw [e, h]
  exact congrArg (fun y => x4 (ix2 p j) + y * rmsE (mixedA x0 x1 x2 x3 x5 x6 x7 x8 p) * x9 (ix1 j))
    (ref_mixed x0 x1 x2 x3 x5 x6 x7 x8 p j)

theorem ref_normed (p : Fin 2048) (j : Fin 1024) :
    val_main_v48 x0 x1 x2 x3 x4 x5 x6 x7 x8 x9 x10 (ix2 p j) = normedA x0 x1 x2 x3 x4 x5 x6 x7 x8 x9 x10 p j := by
  have e : val_main_v48 x0 x1 x2 x3 x4 x5 x6 x7 x8 x9 x10 (ix2 p j)
      = val_main_v34 x0 x1 x2 x3 x4 x5 x6 x7 x8 x9 (ix2 p j)
          * rmsE (fun k => val_main_v34 x0 x1 x2 x3 x4 x5 x6 x7 x8 x9 (ix2 p k)) * x10 (ix1 j) := by
    unfold rmsE
    pointwise [val_main_v48, val_main_v47, val_main_v46, val_main_v45, val_main_v44, val_main_v43, val_main_v42, val_main_v41,
      val_main_v40, val_main_v39, val_main_v38, val_main_v37, val_main_v36, val_main_cst_6, val_main_cst_7, val_main_cst_8]
  have h : (fun k => val_main_v34 x0 x1 x2 x3 x4 x5 x6 x7 x8 x9 (ix2 p k)) = steppedA x0 x1 x2 x3 x4 x5 x6 x7 x8 x9 p :=
    funext fun k => ref_stepped x0 x1 x2 x3 x4 x5 x6 x7 x8 x9 p k
  rw [e, h]
  exact congrArg (fun y => y * rmsE (steppedA x0 x1 x2 x3 x4 x5 x6 x7 x8 x9 p) * x10 (ix1 j))
    (ref_stepped x0 x1 x2 x3 x4 x5 x6 x7 x8 x9 p j)

/-! ## Whole arrays -/

theorem arr_merged : val_main_v35 x0 x1 x2 x3 x5 x6 x7 = ofRows (mergedA x0 x1 x2 x3 x5 x6 x7) := by
  funext o
  obtain ⟨p, q, rfl⟩ : ∃ p q, o = ix2 p q := ⟨o 0, o 1, eq_ix2 o⟩
  refine Eq.trans ?_ (ref_merged x0 x1 x2 x3 x5 x6 x7 p q)
  pointwise [val_main_v35]
theorem arr_mixed : val_main_v20 x0 x1 x2 x3 x5 x6 x7 x8 = ofRows (mixedA x0 x1 x2 x3 x5 x6 x7 x8) := by
  funext o
  obtain ⟨p, q, rfl⟩ : ∃ p q, o = ix2 p q := ⟨o 0, o 1, eq_ix2 o⟩
  exact ref_mixed x0 x1 x2 x3 x5 x6 x7 x8 p q
theorem arr_stepped : val_main_v34 x0 x1 x2 x3 x4 x5 x6 x7 x8 x9 = ofRows (steppedA x0 x1 x2 x3 x4 x5 x6 x7 x8 x9) := by
  funext o
  obtain ⟨p, q, rfl⟩ : ∃ p q, o = ix2 p q := ⟨o 0, o 1, eq_ix2 o⟩
  exact ref_stepped x0 x1 x2 x3 x4 x5 x6 x7 x8 x9 p q
theorem arr_normed : val_main_v49 x0 x1 x2 x3 x4 x5 x6 x7 x8 x9 x10 = ofRows (normedA x0 x1 x2 x3 x4 x5 x6 x7 x8 x9 x10) := by
  funext o
  obtain ⟨p, q, rfl⟩ : ∃ p q, o = ix2 p q := ⟨o 0, o 1, eq_ix2 o⟩
  refine Eq.trans ?_ (ref_normed x0 x1 x2 x3 x4 x5 x6 x7 x8 x9 x10 p q)
  pointwise [val_main_v49]

end Cert.Proof.Mix
-- ==== Proof.MixRun.lean ====
/- Hand-written, untrusted: the forward mixing call's run — each of its four result arrays, written by tiles of 256 rows, is
   its function of the arguments, row by row, over the extended reals. -/
module

public import proofs.«01_k».proof.Proof.MixOut
public import proofs.«01_k».proof.Proof.MixRef
public import proofs.«01_k».proof.Proof.FfnArr

@[expose] public section

noncomputable section

namespace Cert.Proof.Mix

open Cert.MixIdeal Cert.MixIdeal.Gen Cert.MixIdeal.Value Idealize.ShloMosaic TcCoe Idealize.SL.Sem Cert.Proof.Ffn

variable (m : (ℓ : Loc nD τ sig) → Buf (Elt Ideal) ℓ) (ρ : Dev nD → PrngReg)

abbrev a0 (c : Dev nD) : Vec Ideal S2048x512 .f32 := m ((c : Thread nD τ).loc main_arg0)
abbrev a1 (c : Dev nD) : Vec Ideal S2048x512 .f32 := m ((c : Thread nD τ).loc main_arg1)
abbrev a2 (c : Dev nD) : Vec Ideal S2048x1024 .f32 := m ((c : Thread nD τ).loc main_arg2)
abbrev a3 (c : Dev nD) : Vec Ideal S2048x1024 .f32 := m ((c : Thread nD τ).loc main_arg3)
abbrev a4 (c : Dev nD) : Vec Ideal S2048x1024 .f32 := m ((c : Thread nD τ).loc main_arg4)
abbrev a5 (c : Dev nD) : Vec Ideal S512x1024 .f32 := m ((c : Thread nD τ).loc main_arg5)
abbrev a6 (c : Dev nD) : Vec Ideal S1024 .f32 := m ((c : Thread nD τ).loc main_arg6)
abbrev a7 (c : Dev nD) : Vec Ideal S512x1024 .f32 := m ((c : Thread nD τ).loc main_arg7)
abbrev a8 (c : Dev nD) : Vec Ideal S1024x1024 .f32 := m ((c : Thread nD τ).loc main_arg8)
abbrev a9 (c : Dev nD) : Vec Ideal S1024 .f32 := m ((c : Thread nD τ).loc main_arg9)
abbrev a10 (c : Dev nD) : Vec Ideal S1024 .f32 := m ((c : Thread nD τ).loc main_arg10)

/-! ## The arrays the region finds -/

theorem V_v0 (c : Dev nD) (p : Fin 2048) (k : Fin 512) : V m c main_v0 (ix2 p k) = a0 m c (ix2 p k) := by
  unfold V; after_reads_at
theorem V_v1 (c : Dev nD) (p : Fin 2048) (k : Fin 512) : V m c main_v1 (ix2 p k) = a1 m c (ix2 p k) := by
  unfold V; after_reads_at
theorem V_v4 (c : Dev nD) (b : Fin 4) (k : Fin 512) (q : Fin 256) :
    V m c main_v4 (ix3 b k q) = a5 m c (ix2 k ⟨256 * b.val + q.val, by omega⟩) := by
  unfold V; after_reads_at
  exact congrArg _ (congrArg (ix2 k) (Fin.ext (by show b.val * 256 + q.val = 256 * b.val + q.val; omega)))
theorem V_v5 (c : Dev nD) (j : Fin 1024) : V m c main_v5 (ix2 0 j) = a6 m c (ix1 j) := by
  unfold V; after_reads_at
theorem V_v8 (c : Dev nD) (b : Fin 4) (k : Fin 512) (q : Fin 256) :
    V m c main_v8 (ix3 b k q) = a7 m c (ix2 k ⟨256 * b.val + q.val, by omega⟩) := by
  unfold V; after_reads_at
  exact congrArg _ (congrArg (ix2 k) (Fin.ext (by show b.val * 256 + q.val = 256 * b.val + q.val; omega)))
theorem V_v9 (c : Dev nD) (k j : Fin 1024) : V m c main_v9 (ix2 k j) = a8 m c (ix2 k j) := by
  unfold V; after_reads_at
theorem V_v10 (c : Dev nD) (j : Fin 1024) : V m c main_v10 (ix2 0 j) = a9 m c (ix1 j) := by
  unfold V; after_reads_at
theorem V_v11 (c : Dev nD) (j : Fin 1024) : V m c main_v11 (ix2 0 j) = a10 m c (ix1 j) := by
  unfold V; after_reads_at

/-! ## Where a point's blocks lie -/

theorem N8 : cfg0.N = 8 := by decide
theorem lt8 (t : Fin cfg0.N) : t.val < 8 := lt_of_lt_of_eq t.isLt N8
/-- Row `p` of point `t`'s tile, in the whole array. -/
def row (t : Fin cfg0.N) (p : Fin 256) : Fin 2048 := ⟨256 * t.val + p.val, by have := lt8 t; omega⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)
theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)

theorem blk0 (c : Dev nD) (t : Fin cfg0.N) (p : Fin 256) : rowB (iblk m c 0 t) p = rowA (a0 m c) (row t p) := by
  obtain ⟨e0, e1⟩ := idx0 t
  funext k
  have e : ((cfg0.win 0).blk t).view.emb (ix2 p k) = ix2 (row t p) k := by
    refine funext fun a => Fin.ext ?_
    match a with
    | ⟨0, _⟩ => show win0_0.index t (0 : Fin 2) * 256 + 1 * p.val = 256 * t.val + p.val; omega
    | ⟨1, _⟩ => show win0_0.index t (1 : Fin 2) * 512 + 1 * k.val = k.val; omega
  exact (congrArg (V m c main_v0) e).trans (V_v0 m c _ _)
theorem blk1 (c : Dev nD) (t : Fin cfg0.N) (p : Fin 256) : rowB (iblk m c 1 t) p = rowA (a1 m c) (row t p) := by
  obtain ⟨e0, e1⟩ := idx1 t
  funext k
  have e : ((cfg0.win 1).blk t).view.emb (ix2 p k) = ix2 (row t p) k := by
    refine funext fun a => Fin.ext ?_
    match a with
    | ⟨0, _⟩ => show win0_1.index t (0 : Fin 2) * 256 + 1 * p.val = 256 * t.val + p.val; omega
    | ⟨1, _⟩ => show win0_1.index t (1 : Fin 2) * 512 + 1 * k.val = k.val; omega
  exact (congrArg (V m c main_v1) e).trans (V_v1 m c _ _)
theorem blk2 (c : Dev nD) (t : Fin cfg0.N) (p : Fin 256) : rowB (iblk m c 2 t) p = rowA (a2 m c) (row t p) := by
  obtain ⟨e0, e1⟩ := idx2 t
  funext k
  have e : ((cfg0.win 2).blk t).view.emb (ix2 p k) = ix2 (row t p) k := by
    refine funext fun a => Fin.ext ?_
    match a with
    | ⟨0, _⟩ => show win0_2.index t (0 : Fin 2) * 256 + 1 * p.val = 256 * t.val + p.val; omega
    | ⟨1, _⟩ => show win0_2.index t (1 : Fin 2) * 1024 + 1 * k.val = k.val; omega
  exact (congrArg (V m c main_arg2) e).trans (congrFun (V_main_arg2 m c) _)
theorem blk3 (c : Dev nD) (t : Fin cfg0.N) (p : Fin 256) : rowB (iblk m c 3 t) p = rowA (a3 m c) (row t p) := by
  obtain ⟨e0, e1⟩ := idx3 t
  funext k
  have e : ((cfg0.win 3).blk t).view.emb (ix2 p k) = ix2 (row t p) k := by
    refine funext fun a => Fin.ext ?_
    match a with
    | ⟨0, _⟩ => show win0_3.index t (0 : Fin 2) * 256 + 1 * p.val = 256 * t.val + p.val; omega
    | ⟨1, _⟩ => show win0_3.index t (1 : Fin 2) * 1024 + 1 * k.val = k.val; omega
  exact (congrArg (V m c main_arg3) e).trans (congrFun (V_main_arg3 m c) _)
theorem blk4 (c : Dev nD) (t : Fin cfg0.N) (p : Fin 256) : rowB (iblk m c 4 t) p = rowA (a4 m c) (row t p) := by
  obtain ⟨e0, e1⟩ := idx4 t
  funext k
  have e : ((cfg0.win 4).blk t).view.emb (ix2 p k) = ix2 (row t p) k := by
    refine funext fun a => Fin.ext ?_
    match a with
    | ⟨0, _⟩ => show win0_4.index t (0 : Fin 2) * 256 + 1 * p.val = 256 * t.val + p.val; omega
    | ⟨1, _⟩ => show win0_4.index t (1 : Fin 2) * 1024 + 1 * k.val = k.val; omega
  exact (congrArg (V m c main_arg4) e).trans (congrFun (V_main_arg4 m c) _)
theorem blk5 (c : Dev nD) (t : Fin cfg0.N) : wide (iblk m c 5 t) = tab (a5 m c) := by
  obtain ⟨e0, e1, e2⟩ := idx5 t
  funext k j
  have e (b : Fin 4) (q : Fin 256) : ((cfg0.win 5).blk t).view.emb (ix3 b k q) = ix3 b k q := by
    refine funext fun a => Fin.ext ?_
    match a with
    | ⟨0, _⟩ => show win0_5.index t (0 : Fin 3) * 4 + 1 * b.val = b.val; omega
    | ⟨1, _⟩ => show win0_5.index t (1 : Fin 3) * 512 + 1 * k.val = k.val; omega
    | ⟨2, _⟩ => show win0_5.index t (2 : Fin 3) * 256 + 1 * q.val = q.val; omega
  refine (congrArg (V m c main_v4) (e _ _)).trans ((V_v4 m c _ _ _).trans ?_)
  exact congrArg _ (congrArg (ix2 k) (Fin.ext (by show 256 * (j.val / 256) + j.val % 256 = j.val; omega)))
theorem blk7 (c : Dev nD) (t : Fin cfg0.N) : wide (iblk m c 7 t) = tab (a7 m c) := by
  obtain ⟨e0, e1, e2⟩ := idx7 t
  funext k j
  have e (b : Fin 4) (q : Fin 256) : ((cfg0.win 7).blk t).view.emb (ix3 b k q) = ix3 b k q := by
    refine funext fun a => Fin.ext ?_
    match a with
    | ⟨0, _⟩ => show win0_7.index t (0 : Fin 3) * 4 + 1 * b.val = b.val; omega
    | ⟨1, _⟩ => show win0_7.index t (1 : Fin 3) * 512 + 1 * k.val = k.val; omega
    | ⟨2, _⟩ => show win0_7.index t (2 : Fin 3) * 256 + 1 * q.val = q.val; omega
  refine (congrArg (V m c main_v8) (e _ _)).trans ((V_v8 m c _ _ _).trans ?_)
  exact congrArg _ (congrArg (ix2 k) (Fin.ext (by show 256 * (j.val / 256) + j.val % 256 = j.val; omega)))
theorem blk6 (c : Dev nD) (t : Fin cfg0.N) : lineB (iblk m c 6 t) = scaleA (a6 m c) := by
  obtain ⟨e0, e1⟩ := idx6 t
  funext j
  have e : ((cfg0.win 6).blk t).view.emb (ix2 0 j) = ix2 0 j := by
    refine funext fun a => Fin.ext ?_
    match a with
    | ⟨0, _⟩ => show win0_6.index t (0 : Fin 2) * 1 + 1 * 0 = 0; omega
    | ⟨1, _⟩ => show win0_6.index t (1 : Fin 2) * 1024 + 1 * j.val = j.val; omega
  exact (congrArg (V m c main_v5) e).trans (V_v5 m c _)
theorem blk9 (c : Dev nD) (t : Fin cfg0.N) : lineB (iblk m c 9 t) = scaleA (a9 m c) := by
  obtain ⟨e0, e1⟩ := idx9 t
  funext j
  have e : ((cfg0.win 9).blk t).view.emb (ix2 0 j) = ix2 0 j := by
    refine funext fun a => Fin.ext ?_
    match a with
    | ⟨0, _⟩ => show win0_9.index t (0 : Fin 2) * 1 + 1 * 0 = 0; omega
    | ⟨1, _⟩ => show win0_9.index t (1 : Fin 2) * 1024 + 1 * j.val = j.val; omega
  exact (congrArg (V m c main_v10) e).trans (V_v10 m c _)
theorem blk10 (c : Dev nD) (t : Fin cfg0.N) : lineB (iblk m c 10 t) = scaleA (a10 m c) := by
  obtain ⟨e0, e1⟩ := idx10 t
  funext j
  have e : ((cfg0.win 10).blk t).view.emb (ix2 0 j) = ix2 0 j := by
    refine funext fun a => Fin.ext ?_
    match a with
    | ⟨0, _⟩ => show win0_10.index t (0 : Fin 2) * 1 + 1 * 0 = 0; omega
    | ⟨1, _⟩ => show win0_10.index t (1 : Fin 2) * 1024 + 1 * j.val = j.val; omega
  exact (congrArg (V m c main_v11) e).trans (V_v11 m c _)
theorem blk8 (c : Dev nD) (t : Fin cfg0.N) : outB (iblk m c 8 t) = tab (a8 m c) := by
  obtain ⟨e0, e1⟩ := idx8 t
  funext k j
  have e : ((cfg0.win 8).blk t).view.emb (ix2 k j) = ix2 k j := by
    refine funext fun a => Fin.ext ?_
    match a with
    | ⟨0, _⟩ => show win0_8.index t (0 : Fin 2) * 1024 + 1 * k.val = k.val; omega
    | ⟨1, _⟩ => show win0_8.index t (1 : Fin 2) * 1024 + 1 * j.val = j.val; omega
  exact (congrArg (V m c main_v9) e).trans (V_v9 m c _ _)

/-! ## The results, of the launch memory -/

abbrev mergedM (c : Dev nD) : Vec Ideal S2048x1024 .bf16 :=
  ofRows (mergedA (a0 m c) (a1 m c) (a2 m c) (a3 m c) (a5 m c) (a6 m c) (a7 m c))
abbrev mixedM (c : Dev nD) : Vec Ideal S2048x1024 .f32 :=
  ofRows (mixedA (a0 m c) (a1 m c) (a2 m c) (a3 m c) (a5 m c) (a6 m c) (a7 m c) (a8 m c))
abbrev steppedM (c : Dev nD) : Vec Ideal S2048x1024 .f32 :=
  ofRows (steppedA (a0 m c) (a1 m c) (a2 m c) (a3 m c) (a4 m c) (a5 m c) (a6 m c) (a7 m c) (a8 m c) (a9 m c))
abbrev normedM (c : Dev nD) : Vec Ideal S2048x1024 .bf16 :=
  ofRows (normedA (a0 m c) (a1 m c) (a2 m c) (a3 m c) (a4 m c) (a5 m c) (a6 m c) (a7 m c) (a8 m c) (a9 m c) (a10 m c))

/-- A row of 2048 lies in the tile of 256 that its quotient names, at its remainder. -/
theorem in_tile {n : Nat} (i : (⟨2, ![2048, n]⟩ : Shape).Idx) (h : (i 0).val / 256 < cfg0.N) :
    i = ix2 (row ⟨(i 0).val / 256, h⟩ ⟨(i 0).val % 256, Nat.mod_lt _ (by norm_num)⟩) (i 1) :=
  (eq_ix2 i).trans (congrArg (fun r => ix2 r (i 1)) (Fin.ext (by
    show (i 0).val = 256 * ((i 0).val / 256) + (i 0).val % 256
    omega)))
theorem tile_lt (i : Fin 2048) : i.val / 256 < cfg0.N := lt_of_lt_of_eq (by omega) N8.symm

theorem merged_eq (c : Dev nD) (t : Fin cfg0.N) (p : Fin 256) (j : Fin 1024) :
    mergedB (iblk m c 0 t) (iblk m c 1 t) (iblk m c 2 t) (iblk m c 3 t) (iblk m c 5 t) (iblk m c 6 t) (iblk m c 7 t) p j
      = mergedA (a0 m c) (a1 m c) (a2 m c) (a3 m c) (a5 m c) (a6 m c) (a7 m c) (row t p) j := by
  unfold mergedB mergedA
  rw [blk0, blk1, blk2, blk3, blk5, blk6, blk7]
theorem emb12 (t : Fin cfg0.N) (o : S256x1024.Idx) : ((cfg0.win 12).blk t).view.emb o = ix2 (row t (o 0)) (o 1) := by
  obtain ⟨e0, e1⟩ := idx12 t
  refine funext fun a => Fin.ext ?_
  match a with
  | ⟨0, _⟩ => show win0_12.index t (0 : Fin 2) * 256 + 1 * (o 0).val = 256 * t.val + (o 0).val; omega
  | ⟨1, _⟩ => show win0_12.index t (1 : Fin 2) * 1024 + 1 * (o 1).val = (o 1).val; omega
theorem flushed12_eq (c : Dev nD) (t : Fin cfg0.N) :
    (dats m 0 c).flushed 12 t = ((cfg0.win 12).blk t).view.read (Elt Ideal) (mergedM m c) := by
  rw [flushed12, out12]
  funext o
  refine (merged_eq m c t (o 0) (o 1)).trans ?_
  show _ = mergedM m c (((cfg0.win 12).blk t).view.emb o)
  rw [emb12]
  rfl
theorem covered12 (i : S2048x1024.Idx) : ∃ t : Fin cfg0.N, (cfg0.win 12).flush t = true ∧ i ∈ ((cfg0.win 12).blk t).view.set := by
  refine ⟨⟨(i 0).val / 256, tile_lt (i 0)⟩, flush0_12 _, ?_⟩
  have h := ((cfg0.win 12).blk ⟨(i 0).val / 256, tile_lt (i 0)⟩).view.emb_mem_set
    (ix2 ⟨(i 0).val % 256, Nat.mod_lt _ (by norm_num)⟩ (i 1) : S256x1024.Idx)
  rw [emb12] at h
  exact (congrArg (· ∈ ((cfg0.win 12).blk _).view.set) (in_tile i (tile_lt (i 0)))).mpr h
theorem final12 (c : Dev nD) : (dats m 0 c).arrAt 12 cfg0.N = mergedM m c :=
  (dats m 0 c).arrAt_eq_of_cover 12 (mergedM m c) (fun t _ => flushed12_eq m c t) covered12

theorem mixed_eq (c : Dev nD) (t : Fin cfg0.N) (p : Fin 256) (j : Fin 1024) :
    mixedB (iblk m c 0 t) (iblk m c 1 t) (iblk m c 2 t) (iblk m c 3 t) (iblk m c 5 t) (iblk m c 6 t) (iblk m c 7 t) (iblk m c 8 t) p j
      = mixedA (a0 m c) (a1 m c) (a2 m c) (a3 m c) (a5 m c) (a6 m c) (a7 m c) (a8 m c) (row t p) j := by
  unfold mixedB mixedA
  rw [blk0, blk1, blk2, blk3, blk5, blk6, blk7, blk8]
theorem emb13 (t : Fin cfg0.N) (o : S256x1024.Idx) : ((cfg0.win 13).blk t).view.emb o = ix2 (row t (o 0)) (o 1) := by
  obtain ⟨e0, e1⟩ := idx13 t
  refine funext fun a => Fin.ext ?_
  match a with
  | ⟨0, _⟩ => show win0_13.index t (0 : Fin 2) * 256 + 1 * (o 0).val = 256 * t.val + (o 0).val; omega
  | ⟨1, _⟩ => show win0_13.index t (1 : Fin 2) * 1024 + 1 * (o 1).val = (o 1).val; omega
theorem flushed13_eq (c : Dev nD) (t : Fin cfg0.N) :
    (dats m 0 c).flushed 13 t = ((cfg0.win 13).blk t).view.read (Elt Ideal) (mixedM m c) := by
  rw [flushed13, out13]
  funext o
  refine (mixed_eq m c t (o 0) (o 1)).trans ?_
  show _ = mixedM m c (((cfg0.win 13).blk t).view.emb o)
  rw [emb13]
  rfl
theorem covered13 (i : S2048x1024.Idx) : ∃ t : Fin cfg0.N, (cfg0.win 13).flush t = true ∧ i ∈ ((cfg0.win 13).blk t).view.set := by
  refine ⟨⟨(i 0).val / 256, tile_lt (i 0)⟩, flush0_13 _, ?_⟩
  have h := ((cfg0.win 13).blk ⟨(i 0).val / 256, tile_lt (i 0)⟩).view.emb_mem_set
    (ix2 ⟨(i 0).val % 256, Nat.mod_lt _ (by norm_num)⟩ (i 1) : S256x1024.Idx)
  rw [emb13] at h
  exact (congrArg (· ∈ ((cfg0.win 13).blk _).view.set) (in_tile i (tile_lt (i 0)))).mpr h
theorem final13 (c : Dev nD) : (dats m 0 c).arrAt 13 cfg0.N = mixedM m c :=
  (dats m 0 c).arrAt_eq_of_cover 13 (mixedM m c) (fun t _ => flushed13_eq m c t) covered13

theorem stepped_eq (c : Dev nD) (t : Fin cfg0.N) (p : Fin 256) (j : Fin 1024) :
    steppedB (iblk m c 0 t) (iblk m c 1 t) (iblk m c 2 t) (iblk m c 3 t) (iblk m c 4 t) (iblk m c 5 t) (iblk m c 6 t) (iblk m c 7 t) (iblk m c 8 t) (iblk m c 9 t) p j
      = steppedA (a0 m c) (a1 m c) (a2 m c) (a3 m c) (a4 m c) (a5 m c) (a6 m c) (a7 m c) (a8 m c) (a9 m c) (row t p) j := by
  unfold steppedB steppedA
  rw [blk0, blk1, blk2, blk3, blk4, blk5, blk6, blk7, blk8, blk9]
theorem emb14 (t : Fin cfg0.N) (o : S256x1024.Idx) : ((cfg0.win 14).blk t).view.emb o = ix2 (row t (o 0)) (o 1) := by
  obtain ⟨e0, e1⟩ := idx14 t
  refine funext fun a => Fin.ext ?_
  match a with
  | ⟨0, _⟩ => show win0_14.index t (0 : Fin 2) * 256 + 1 * (o 0).val = 256 * t.val + (o 0).val; omega
  | ⟨1, _⟩ => show win0_14.index t (1 : Fin 2) * 1024 + 1 * (o 1).val = (o 1).val; omega
theorem flushed14_eq (c : Dev nD) (t : Fin cfg0.N) :
    (dats m 0 c).flushed 14 t = ((cfg0.win 14).blk t).view.read (Elt Ideal) (steppedM m c) := by
  rw [flushed14, out14]
  funext o
  refine (stepped_eq m c t (o 0) (o 1)).trans ?_
  show _ = steppedM m c (((cfg0.win 14).blk t).view.emb o)
  rw [emb14]
  rfl
theorem covered14 (i : S2048x1024.Idx) : ∃ t : Fin cfg0.N, (cfg0.win 14).flush t = true ∧ i ∈ ((cfg0.win 14).blk t).view.set := by
  refine ⟨⟨(i 0).val / 256, tile_lt (i 0)⟩, flush0_14 _, ?_⟩
  have h := ((cfg0.win 14).blk ⟨(i 0).val / 256, tile_lt (i 0)⟩).view.emb_mem_set
    (ix2 ⟨(i 0).val % 256, Nat.mod_lt _ (by norm_num)⟩ (i 1) : S256x1024.Idx)
  rw [emb14] at h
  exact (congrArg (· ∈ ((cfg0.win 14).blk _).view.set) (in_tile i (tile_lt (i 0)))).mpr h
theorem final14 (c : Dev nD) : (dats m 0 c).arrAt 14 cfg0.N = steppedM m c :=
  (dats m 0 c).arrAt_eq_of_cover 14 (steppedM m c) (fun t _ => flushed14_eq m c t) covered14

theorem normed_eq (c : Dev nD) (t : Fin cfg0.N) (p : Fin 256) (j : Fin 1024) :
    normedB (iblk m c 0 t) (iblk m c 1 t) (iblk m c 2 t) (iblk m c 3 t) (iblk m c 4 t) (iblk m c 5 t) (iblk m c 6 t) (iblk m c 7 t) (iblk m c 8 t) (iblk m c 9 t) (iblk m c 10 t) p j
      = normedA (a0 m c) (a1 m c) (a2 m c) (a3 m c) (a4 m c) (a5 m c) (a6 m c) (a7 m c) (a8 m c) (a9 m c) (a10 m c) (row t p) j := by
  unfold normedB normedA
  rw [blk0, blk1, blk2, blk3, blk4, blk5, blk6, blk7, blk8, blk9, blk10]
theorem emb15 (t : Fin cfg0.N) (o : S256x1024.Idx) : ((cfg0.win 15).blk t).view.emb o = ix2 (row t (o 0)) (o 1) := by
  obtain ⟨e0, e1⟩ := idx15 t
  refine funext fun a => Fin.ext ?_
  match a with
  | ⟨0, _⟩ => show win0_15.index t (0 : Fin 2) * 256 + 1 * (o 0).val = 256 * t.val + (o 0).val; omega
  | ⟨1, _⟩ => show win0_15.index t (1 : Fin 2) * 1024 + 1 * (o 1).val = (o 1).val; omega
theorem flushed15_eq (c : Dev nD) (t : Fin cfg0.N) :
    (dats m 0 c).flushed 15 t = ((cfg0.win 15).blk t).view.read (Elt Ideal) (normedM m c) := by
  rw [flushed15, out15]
  funext o
  refine (normed_eq m c t (o 0) (o 1)).trans ?_
  show _ = normedM m c (((cfg0.win 15).blk t).view.emb o)
  rw [emb15]
  rfl
theorem covered15 (i : S2048x1024.Idx) : ∃ t : Fin cfg0.N, (cfg0.win 15).flush t = true ∧ i ∈ ((cfg0.win 15).blk t).view.set := by
  refine ⟨⟨(i 0).val / 256, tile_lt (i 0)⟩, flush0_15 _, ?_⟩
  have h := ((cfg0.win 15).blk ⟨(i 0).val / 256, tile_lt (i 0)⟩).view.emb_mem_set
    (ix2 ⟨(i 0).val % 256, Nat.mod_lt _ (by norm_num)⟩ (i 1) : S256x1024.Idx)
  rw [emb15] at h
  exact (congrArg (· ∈ ((cfg0.win 15).blk _).view.set) (in_tile i (tile_lt (i 0)))).mpr h
theorem final15 (c : Dev nD) : (dats m 0 c).arrAt 15 cfg0.N = normedM m c :=
  (dats m 0 c).arrAt_eq_of_cover 15 (normedM m c) (fun t _ => flushed15_eq m c t) covered15

theorem run : θ_run defs (onTc (τ := τ) (main (F := Ideal))) ⟨m, fun _ => 0, ρ⟩ fun r => ∀ c : Dev nD,
      r.2.mem ((c : Thread nD τ).loc main_v13_0) = mergedM m c
      ∧ r.2.mem ((c : Thread nD τ).loc main_v13_1) = mixedM m c
      ∧ r.2.mem ((c : Thread nD τ).loc main_v13_2) = steppedM m c
      ∧ r.2.mem ((c : Thread nD τ).loc main_v13_3) = normedM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨(h c).1.trans (final12 m c), (h c).2.1.trans (final13 m c), (h c).2.2.1.trans (final14 m c),
    (h c).2.2.2.1.trans (final15 m c), (h c).2.2.2.2⟩) (run_blocks m ρ)

end Cert.Proof.Mix
-- ==== Proof.MixClaim.lean ====
/- Hand-written, untrusted: the claims on the forward mixing call. -/
module

public import proofs.«01_k».proof.Defs
public import proofs.«01_k».proof.Proof.MixRun
public import proofs.«01_k».proof.Proof.Gen.Mix
public import proofs.«01_k».proof.Proof.Gen.Mix.Frame
public import proofs.«01_k».proof.Proof.Gen.MixIdeal.Frame
public import proofs.«01_k».proof.Proof.Gen.MixRefIdeal.Run

@[expose] public section

noncomputable section

namespace Cert.Proof.Mix

open Idealize.ShloMosaic Idealize.SL.Sem

theorem frame : Cert.quiescent_Mix := fun m ρ _ => Cert.Mix.Gen.frame m ρ
theorem frameIdeal : Cert.quiescent_MixIdeal := fun m ρ _ => Cert.MixIdeal.Gen.frame m ρ
theorem frameRef : Cert.quiescent_MixRefIdeal := fun m ρ _ =>
  (θ_run Cert.MixRefIdeal.defs _ _).mono (fun r h => ⟨fun c => (h c).2.2.2.2, sem_eq_zero_of_no_sems (by decide) r.2⟩)
    (Cert.MixRefIdeal.Value.run m ρ)

theorem value : Cert.algebraic_MixIdeal_MixRefIdeal := by
  intro m g m' g' _ hargs
  refine ⟨fun c => mergedM m c, fun c => mixedM m c, fun c => steppedM m c, fun c => normedM m c, run m g, ?_⟩
  refine (θ_run Cert.MixRefIdeal.defs _ _).mono (fun r h c => ?_) (Cert.MixRefIdeal.Value.run m' g')
  obtain ⟨a0, a1, a2, a3, a4, a5, a6, a7, a8, a9, a10⟩ := hargs c
  obtain ⟨r0, r1, r2, r3, r4⟩ := h c
  refine ⟨?_, ?_, ?_, ?_, r4⟩
  · refine r0.trans ((Cert.MixRefIdeal.Read.val_main_v35_eq _ _ _ _ _ _ _).trans ?_)
    rw [a0, a1, a2, a3, a5, a6, a7]
    exact arr_merged _ _ _ _ _ _ _
  · refine r1.trans ((Cert.MixRefIdeal.Read.val_main_v20_eq _ _ _ _ _ _ _ _).trans ?_)
    rw [a0, a1, a2, a3, a5, a6, a7, a8]
    exact arr_mixed _ _ _ _ _ _ _ _
  · refine r2.trans ((Cert.MixRefIdeal.Read.val_main_v34_eq _ _ _ _ _ _ _ _ _ _).trans ?_)
    rw [a0, a1, a2, a3, a4, a5, a6, a7, a8, a9]
    exact arr_stepped _ _ _ _ _ _ _ _ _ _
  · rw [r3, Cert.MixRefIdeal.Read.val_main_v49_eq, a0, a1, a2, a3, a4, a5, a6, a7, a8, a9, a10]
    exact arr_normed _ _ _ _ _ _ _ _ _ _ _

end Cert.Proof.Mix

end
-- ==== Proof.InFwdRow.lean ====
/- Hand-written, untrusted: what the forward input projection computes of one row, over the extended reals: the normalised
   row, and its product with a column of the weight. -/
module

public import proofs.«01_k».proof.Proof.FfnBlk

@[expose] public section

noncomputable section

namespace Cert.Proof.InFwd

open Idealize.ShloMosaic Idealize.SL.Sem Cert.Proof.Ffn

variable (x g : Fin 1024 → EReal) (w : Fin 1024 → Fin 4608 → EReal)

/-- The normalised row, scaled. -/
def hRow (k : Fin 1024) : EReal := x k * rmsE x * g k

/-- The row's product with one column. -/
def proj (r : Fin 4608) : EReal := ∑ k : Fin 1024, hRow x g k * w k r

/-- A run of columns that begins at `off`. -/
def cols (off : Nat) {n : Nat} (h : off + n ≤ 4608) (q : Fin n) : EReal := proj x g w ⟨off + q.val, by omega⟩

/-- The factor on the queries. -/
abbrev factor : EReal := Ideal.ofBits .f32 0x3E000000#32

/-- Two stores side by side, the second beginning where the first ends, read back at one place. -/
theorem canon_pair (a b n : Nat) (hn : a + b = n) {e : EltTy} (A : (⟨2, ![256, b]⟩ : Shape).Idx → Elt Ideal e)
    (B : (⟨2, ![256, a]⟩ : Shape).Idx → Elt Ideal e) (i1 i0) (T : Fin n → Elt Ideal e) (p : Fin 256) (q : Fin n)
    (ha : ∀ f : Fin b, A (ix2 p f) = T ⟨a + f.val, by omega⟩) (hb : ∀ f : Fin a, B (ix2 p f) = T ⟨f.val, by omega⟩) :
    View.canon (Val := Elt Ideal) (e := e)
      [(⟨Rect.unit (s := ⟨2, ![256, n]⟩) ![0, a] (⟨2, ![256, b]⟩ : Shape).size i1, A⟩ : View.Piece (Elt Ideal) ⟨2, ![256, n]⟩ e),
      ⟨Rect.unit (s := ⟨2, ![256, n]⟩) ![0, 0] (⟨2, ![256, a]⟩ : Shape).size i0, B⟩] (ix2 p q) = T q := by
  refine View.canon_eq_of_allAt _ _ _ ?_ (View.allAt_cons_unit _ _ _ _ _ (fun x hx => ?_)
    (View.allAt_cons_unit _ _ _ _ _ (fun x hx => ?_) (View.allAt_nil _ _)))
  · by_cases hq : q.val < a
    · refine ⟨_, List.mem_cons_of_mem _ List.mem_cons_self, (Rect.mem_set_unit (inb := i0)).mpr fun c => ?_⟩
      match c with
      | ⟨0, _⟩ => exact ⟨Nat.zero_le _, by show p.val < 0 + 256; omega⟩
      | ⟨1, _⟩ => exact ⟨Nat.zero_le _, by show q.val < 0 + a; omega⟩
    · refine ⟨_, List.mem_cons_self, (Rect.mem_set_unit (inb := i1)).mpr fun c => ?_⟩
      match c with
      | ⟨0, _⟩ => exact ⟨Nat.zero_le _, by show p.val < 0 + 256; omega⟩
      | ⟨1, _⟩ => exact ⟨by show a ≤ q.val; omega, by show q.val < a + b; omega⟩
  · have e0 : p.val = 0 + (x 0).val := hx 0
    have e1 : q.val = a + (x 1).val := hx 1
    have h2 : (x 1).val < b := (x 1).isLt
    refine Eq.trans ?_ ((ha ⟨q.val - a, by omega⟩).trans (congrArg T (Fin.ext (by show a + (q.val - a) = q.val; omega))))
    refine congrArg A ((eq_ix2 x).trans (congrArg₂ (fun a b => ix2 a b) (Fin.ext ?_) (Fin.ext ?_)))
    · show (x 0).val = p.val; omega
    · show (x 1).val = q.val - a; omega
  · have e0 : p.val = 0 + (x 0).val := hx 0
    have e1 : q.val = 0 + (x 1).val := hx 1
    have h2 : (x 1).val < a := (x 1).isLt
    refine Eq.trans ?_ ((hb ⟨q.val, by omega⟩).trans rfl)
    refine congrArg B ((eq_ix2 x).trans (congrArg₂ (fun a b => ix2 a b) (Fin.ext ?_) (Fin.ext ?_)))
    · show (x 0).val = p.val; omega
    · show (x 1).val = q.val; omega

end Cert.Proof.InFwd
-- ==== Proof.InFwdOut.lean ====
/- Hand-written, untrusted: what one grid point of the forward input projection leaves in its seven output blocks, row by row,
   as functions of the blocks it reads. -/
module

public import proofs.«01_k».proof.Proof.InFwdRow
public import proofs.«01_k».proof.Proof.Gen.InFwdIdeal.Value
public import Idealize.ShloMosaic.Lib.Pointwise
public import Idealize.ShloMosaic.Lib.StableHlo.ReadAt
public import Idealize.ShloMosaic.Lib.Pipeline.ValueKit.Tiles

@[expose] public section

noncomputable section

namespace Cert.Proof.InFwd

open Cert.InFwdIdeal Cert.InFwdIdeal.Gen Idealize.ShloMosaic TcCoe Idealize.SL.Sem Cert.Proof.Ffn

variable (x0 : Vec Ideal S256x1024 .f32) (x1 : Vec Ideal S1x1024 .f32) (x2 : Vec Ideal S4x1024x1152 .bf16)

/-! ## The blocks of a point, by rows -/

/-- Four pieces of 1152 columns, side by side. -/
def wideB (k : Fin 1024) (r : Fin 4608) : EReal := x2 (ix3 ⟨r.val / 1152, by omega⟩ k ⟨r.val % 1152, Nat.mod_lt _ (by decide)⟩)
abbrev lineB (j : Fin 1024) : EReal := x1 (ix2 0 j)

def hB (p : Fin 256) (k : Fin 1024) : EReal := hRow (rowB x0 p) (lineB x1) k
def colsB (off : Nat) {n : Nat} (h : off + n ≤ 4608) (p : Fin 256) (q : Fin n) : EReal :=
  cols (rowB x0 p) (lineB x1) (wideB x2) off h q
def qB (p : Fin 256) (q : Fin 512) : EReal := colsB x0 x1 x2 1024 (by decide) p q * factor

theorem h_apply (p : Fin 256) (k : Fin 1024) : k0_pay10 x0 x1 (ix2 p k) = hB x0 x1 p k := by
  unfold hB hRow rmsE
  pointwise [k0_pay10]

/-- The product with a piece is a run of columns of the whole. -/
theorem piece_cols (b : Fin 4) (inb) (off : Nat) {n : Nat} (h : off + n ≤ 4608) (p : Fin 256) (q : Fin 1152) (f : Fin n)
    (e : 1152 * b.val + q.val = off + f.val) :
    ∑ k : Fin 1024, k0_pay10 x0 x1 (ix2 p k) * View.ld x2 (Rect.unit (s := S4x1024x1152) ![b.val, 0, 0] S1x1024x1152.size inb) (ix3 0 k q)
      = colsB x0 x1 x2 off h p f := by
  unfold colsB cols proj
  refine Finset.sum_congr rfl fun k _ => congrArg₂ (· * ·) (h_apply x0 x1 p k) ?_
  refine (View.ld_unit_apply_of x2 _ _ _ _ (ix3 b k q) fun a => ?_).trans ?_
  · match a with
    | ⟨0, _⟩ => rfl
    | ⟨1, _⟩ => exact (Nat.zero_add _).symm
    | ⟨2, _⟩ => exact (Nat.zero_add _).symm
  · have := q.isLt
    exact congrArg x2 (congrArg₂ (fun a c => ix3 a k c) (Fin.ext (by show b.val = (off + f.val) / 1152; omega))
      (Fin.ext (by show q.val = (off + f.val) % 1152; omega)))

variable (v : Vec Ideal S1x1024x1152 .bf16) (h : FVec Ideal S256x1024 .bf16) (p : Fin 256)

theorem pay12_apply (q : Fin 1024) :
    k0_pay12 x0 x1 v (ix2 p q) = ∑ k : Fin 1024, k0_pay10 x0 x1 (ix2 p k) * v (ix3 0 k ⟨q.val, by omega⟩) := by
  pointwise [k0_pay12, k0_pay11]
theorem pay13_apply (q : Fin 128) :
    k0_pay13 x0 x1 v (ix2 p q) = (∑ k : Fin 1024, k0_pay10 x0 x1 (ix2 p k) * v (ix3 0 k ⟨1024 + q.val, by omega⟩)) * factor := by
  pointwise [k0_pay13, k0_pay11]
theorem pay15_apply (q : Fin 384) :
    k0_pay1 (k0_pay15 x0 x1 v) (ix2 p q)
      = (∑ k : Fin 1024, k0_pay10 x0 x1 (ix2 p k) * v (ix3 0 k ⟨q.val, by omega⟩)) * factor := by
  pointwise [k0_pay1, k0_pay15, k0_pay14]
theorem pay2_apply (q : Fin 512) :
    k0_pay2 (k0_pay14 x0 x1 v) (ix2 p q) = ∑ k : Fin 1024, k0_pay10 x0 x1 (ix2 p k) * v (ix3 0 k ⟨384 + q.val, by omega⟩) := by
  pointwise [k0_pay2, k0_pay14]
theorem pay3_apply (q : Fin 256) :
    k0_pay3 (k0_pay14 x0 x1 v) (ix2 p q) = ∑ k : Fin 1024, k0_pay10 x0 x1 (ix2 p k) * v (ix3 0 k ⟨896 + q.val, by omega⟩) := by
  pointwise [k0_pay3, k0_pay14]
theorem pay5_apply (q : Fin 256) :
    k0_pay5 h v (ix2 p q) = ∑ k : Fin 1024, h (ix2 p k) * v (ix3 0 k ⟨q.val, by omega⟩) := by
  pointwise [k0_pay5, k0_pay4]
theorem pay6_apply (q : Fin 896) :
    k0_pay6 h v (ix2 p q) = ∑ k : Fin 1024, h (ix2 p k) * v (ix3 0 k ⟨256 + q.val, by omega⟩) := by
  pointwise [k0_pay6, k0_pay4]
theorem pay8_apply (q : Fin 128) :
    k0_pay8 h v (ix2 p q) = ∑ k : Fin 1024, h (ix2 p k) * v (ix3 0 k ⟨q.val, by omega⟩) := by
  pointwise [k0_pay8, k0_pay7]
theorem pay9_apply (q : Fin 1024) :
    k0_pay9 h v (ix2 p q) = ∑ k : Fin 1024, h (ix2 p k) * v (ix3 0 k ⟨128 + q.val, by omega⟩) := by
  pointwise [k0_pay9, k0_pay7]

/-! ## What the stores leave -/

variable (c : Dev nD) (i : grid0.Coords) (arg1 : Memref sig .tc .vmem S256x1024 .f32) (harg1 : arg1.IsWhole)
  (arg2 : Memref sig .tc .vmem S1x1024 .f32) (harg2 : arg2.IsWhole) (arg3 : Memref sig .tc .vmem S4x1024x1152 .bf16) (harg3 : arg3.IsWhole)
  (arg4 : Memref sig .tc .vmem S8x128 .f32) (harg4 : arg4.IsWhole) (arg5 : Memref sig .tc .vmem S256x1024 .bf16) (harg5 : arg5.IsWhole)
  (arg6 : Memref sig .tc .vmem S256x1024 .f32) (harg6 : arg6.IsWhole) (arg7 : Memref sig .tc .vmem S256x512 .bf16) (harg7 : arg7.IsWhole)
  (arg8 : Memref sig .tc .vmem S256x512 .bf16) (harg8 : arg8.IsWhole) (arg9 : Memref sig .tc .vmem S256x512 .bf16) (harg9 : arg9.IsWhole)
  (arg10 : Memref sig .tc .vmem S256x1024 .f32) (harg10 : arg10.IsWhole) (arg11 : Memref sig .tc .vmem S256x1024 .f32) (harg11 : arg11.IsWhole)
  (x3 : Vec Ideal S8x128 .f32)

theorem out4 : out0_A_4 c i arg1 harg1 arg2 harg2 arg3 harg3 arg4 harg4 arg5 harg5 arg6 harg6
    arg7 harg7 arg8 harg8 arg9 harg9 arg10 harg10 arg11 harg11 x0 x1 x2 x3
      = ofRows (hB x0 x1) := by
  unfold out0_A_4
  rw [View.read_writes_junk_eq_canon]
  unfold kernelRun0_A
  dsimp only
  sl_unfold_words
  simp only [View.readAt_eq_ld, harg1.read_unread, harg2.read_unread, harg3.read_unread, View.ld_unit_zero (S := S256x1024) hz2,
    View.ld_unit_zero (S := S1x1024) hz2]
  rw [View.canon_unit_zero hz2]
  funext o
  obtain ⟨p, q, rfl⟩ : ∃ p q, o = ix2 p q := ⟨o 0, o 1, eq_ix2 o⟩
  exact h_apply x0 x1 p q

theorem out5 : out0_A_5 c i arg1 harg1 arg2 harg2 arg3 harg3 arg4 harg4 arg5 harg5 arg6 harg6
    arg7 harg7 arg8 harg8 arg9 harg9 arg10 harg10 arg11 harg11 x0 x1 x2 x3
      = ofRows (colsB x0 x1 x2 0 (n := 1024) (by decide)) := by
  unfold out0_A_5
  rw [View.read_writes_junk_eq_canon]
  unfold kernelRun0_A
  dsimp only
  sl_unfold_words
  simp only [View.readAt_eq_ld, harg1.read_unread, harg2.read_unread, harg3.read_unread, View.ld_unit_zero (S := S256x1024) hz2,
    View.ld_unit_zero (S := S1x1024) hz2]
  rw [View.canon_unit_zero hz2]
  funext o
  obtain ⟨p, q, rfl⟩ : ∃ p q, o = ix2 p q := ⟨o 0, o 1, eq_ix2 o⟩
  refine (pay12_apply _ _ _ p q).trans (piece_cols x0 x1 x2 0 _ 0 (by decide) p _ q ?_)
  show 1152 * 0 + q.val = 0 + q.val; omega

theorem out6 : out0_A_6 c i arg1 harg1 arg2 harg2 arg3 harg3 arg4 harg4 arg5 harg5 arg6 harg6
    arg7 harg7 arg8 harg8 arg9 harg9 arg10 harg10 arg11 harg11 x0 x1 x2 x3
      = ofRows (qB x0 x1 x2) := by
  unfold out0_A_6
  rw [View.read_writes_junk_eq_canon]
  unfold kernelRun0_A
  dsimp only
  sl_unfold_words
  simp only [View.readAt_eq_ld, harg1.read_unread, harg2.read_unread, harg3.read_unread, View.ld_unit_zero (S := S256x1024) hz2,
    View.ld_unit_zero (S := S1x1024) hz2]
  funext o
  obtain ⟨p, q, rfl⟩ : ∃ p q, o = ix2 p q := ⟨o 0, o 1, eq_ix2 o⟩
  refine canon_pair 128 384 512 rfl (e := .bf16) _ _ _ _ (qB x0 x1 x2 p) p q (fun f => ?_) (fun f => ?_)
  · refine (pay15_apply _ _ _ p f).trans (congrArg (· * factor) (piece_cols x0 x1 x2 1 _ 1024 (by decide) p _ _ ?_))
    show 1152 * 1 + f.val = 1024 + (128 + f.val); omega
  · refine (pay13_apply _ _ _ p f).trans (congrArg (· * factor) (piece_cols x0 x1 x2 0 _ 1024 (by decide) p _ _ ?_))
    show 1152 * 0 + (1024 + f.val) = 1024 + f.val; omega

theorem out7 : out0_A_7 c i arg1 harg1 arg2 harg2 arg3 harg3 arg4 harg4 arg5 harg5 arg6 harg6
    arg7 harg7 arg8 harg8 arg9 harg9 arg10 harg10 arg11 harg11 x0 x1 x2 x3
      = ofRows (colsB x0 x1 x2 1536 (n := 512) (by decide)) := by
  unfold out0_A_7
  rw [View.read_writes_junk_eq_canon]
  unfold kernelRun0_A
  dsimp only
  sl_unfold_words
  simp only [View.readAt_eq_ld, harg1.read_unread, harg2.read_unread, harg3.read_unread, View.ld_unit_zero (S := S256x1024) hz2,
    View.ld_unit_zero (S := S1x1024) hz2]
  rw [View.canon_unit_zero hz2]
  funext o
  obtain ⟨p, q, rfl⟩ : ∃ p q, o = ix2 p q := ⟨o 0, o 1, eq_ix2 o⟩
  refine (pay2_apply _ _ _ p q).trans (piece_cols x0 x1 x2 1 _ 1536 (by decide) p _ q ?_)
  show 1152 * 1 + (384 + q.val) = 1536 + q.val; omega

theorem out8 : out0_A_8 c i arg1 harg1 arg2 harg2 arg3 harg3 arg4 harg4 arg5 harg5 arg6 harg6
    arg7 harg7 arg8 harg8 arg9 harg9 arg10 harg10 arg11 harg11 x0 x1 x2 x3
      = ofRows (colsB x0 x1 x2 2048 (n := 512) (by decide)) := by
  unfold out0_A_8
  rw [View.read_writes_junk_eq_canon]
  unfold kernelRun0_A
  dsimp only
  sl_unfold_words
  simp only [View.readAt_eq_ld, harg1.read_unread, harg2.read_unread, harg3.read_unread, View.ld_unit_zero (S := S256x1024) hz2,
    View.ld_unit_zero (S := S1x1024) hz2]
  funext o
  obtain ⟨p, q, rfl⟩ : ∃ p q, o = ix2 p q := ⟨o 0, o 1, eq_ix2 o⟩
  refine canon_pair 256 256 512 rfl (e := .bf16) _ _ _ _ (colsB x0 x1 x2 2048 (n := 512) (by decide) p) p q (fun f => ?_) (fun f => ?_)
  · refine (pay5_apply _ _ p f).trans (piece_cols x0 x1 x2 2 _ 2048 (by decide) p _ _ ?_)
    show 1152 * 2 + f.val = 2048 + (256 + f.val); omega
  · refine (pay3_apply _ _ _ p f).trans (piece_cols x0 x1 x2 1 _ 2048 (by decide) p _ _ ?_)
    show 1152 * 1 + (896 + f.val) = 2048 + f.val; omega

theorem out9 : out0_A_9 c i arg1 harg1 arg2 harg2 arg3 harg3 arg4 harg4 arg5 harg5 arg6 harg6
    arg7 harg7 arg8 harg8 arg9 harg9 arg10 harg10 arg11 harg11 x0 x1 x2 x3
      = ofRows (colsB x0 x1 x2 2560 (n := 1024) (by decide)) := by
  unfold out0_A_9
  rw [View.read_writes_junk_eq_canon]
  unfold kernelRun0_A
  dsimp only
  sl_unfold_words
  simp only [View.readAt_eq_ld, harg1.read_unread, harg2.read_unread, harg3.read_unread, View.ld_unit_zero (S := S256x1024) hz2,
    View.ld_unit_zero (S := S1x1024) hz2]
  funext o
  obtain ⟨p, q, rfl⟩ : ∃ p q, o = ix2 p q := ⟨o 0, o 1, eq_ix2 o⟩
  refine canon_pair 896 128 1024 rfl (e := .f32) _ _ _ _ (colsB x0 x1 x2 2560 (n := 1024) (by decide) p) p q (fun f => ?_) (fun f => ?_)
  · refine (pay8_apply _ _ p f).trans (piece_cols x0 x1 x2 3 _ 2560 (by decide) p _ _ ?_)
    show 1152 * 3 + f.val = 2560 + (896 + f.val); omega
  · refine (pay6_apply _ _ p f).trans (piece_cols x0 x1 x2 2 _ 2560 (by decide) p _ _ ?_)
    show 1152 * 2 + (256 + f.val) = 2560 + f.val; omega

theorem out10 : out0_A_10 c i arg1 harg1 arg2 harg2 arg3 harg3 arg4 harg4 arg5 harg5 arg6 harg6
    arg7 harg7 arg8 harg8 arg9 harg9 arg10 harg10 arg11 harg11 x0 x1 x2 x3
      = ofRows (colsB x0 x1 x2 3584 (n := 1024) (by decide)) := by
  unfold out0_A_10
  rw [View.read_writes_junk_eq_canon]
  unfold kernelRun0_A
  dsimp only
  sl_unfold_words
  simp only [View.readAt_eq_ld, harg1.read_unread, harg2.read_unread, harg3.read_unread, View.ld_unit_zero (S := S256x1024) hz2,
    View.ld_unit_zero (S := S1x1024) hz2]
  rw [View.canon_unit_zero hz2]
  funext o
  obtain ⟨p, q, rfl⟩ : ∃ p q, o = ix2 p q := ⟨o 0, o 1, eq_ix2 o⟩
  refine (pay9_apply _ _ p q).trans (piece_cols x0 x1 x2 3 _ 3584 (by decide) p _ q ?_)
  show 1152 * 3 + (128 + q.val) = 3584 + q.val; omega

end Cert.Proof.InFwd
-- ==== Proof.InFwdRef.lean ====
/- Hand-written, untrusted: the reference of the forward input projection, read row by row over the extended reals. -/
module

public import proofs.«01_k».proof.Proof.InFwdRow
public import proofs.«01_k».proof.Proof.FfnRun
public import proofs.«01_k».proof.Proof.Gen.InFwdRefIdeal.Read

@[expose] public section

noncomputable section

namespace Cert.Proof.InFwd

open Cert.InFwdRefIdeal Cert.InFwdRefIdeal.Read Idealize.ShloMosaic Cert.Proof.Ffn

variable (x : Vec Ideal S2048x1024 .f32) (g : Vec Ideal S1024 .f32) (w : Vec Ideal S1024x4608 .f32)

abbrev columns (k : Fin 1024) (r : Fin 4608) : EReal := w (ix2 k r)

def hA (p : Fin 2048) (k : Fin 1024) : EReal := hRow (rowA x p) (scaleA g) k
def colsA (off : Nat) {n : Nat} (h : off + n ≤ 4608) (p : Fin 2048) (q : Fin n) : EReal :=
  cols (rowA x p) (scaleA g) (columns w) off h q
def qA (p : Fin 2048) (q : Fin 512) : EReal := colsA x g w 1024 (by decide) p q * factor

theorem ref_h (p : Fin 2048) (k : Fin 1024) : val_main_v12 x g (ix2 p k) = hA x g p k := by
  unfold hA hRow rmsE
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

theorem ref_proj (off : Nat) {n : Nat} (h : off + n ≤ 4608) (p : Fin 2048) (r : Fin 4608) (q : Fin n) (e : r.val = off + q.val) :
    val_main_v13 x g w (ix2 p r) = colsA x g w off h p q := by
  have e' : val_main_v13 x g w (ix2 p r) = ∑ k : Fin 1024, val_main_v12 x g (ix2 p k) * w (ix2 k r) := by
    pointwise [val_main_v13]
  rw [e']
  unfold colsA cols proj
  exact Finset.sum_congr rfl fun k _ => congrArg₂ (· * ·) (ref_h x g p k) (congrArg (fun r => w (ix2 k r)) (Fin.ext e))

/-! ## Whole arrays -/

theorem arr_h : val_main_v22 x g = ofRows (hA x g) := by
  funext o
  obtain ⟨p, q, rfl⟩ : ∃ p q, o = ix2 p q := ⟨o 0, o 1, eq_ix2 o⟩
  refine Eq.trans ?_ (ref_h x g p q)
  pointwise [val_main_v22]
theorem arr_ci : val_main_v14 x g w = ofRows (colsA x g w 0 (n := 1024) (by decide)) := by
  funext o
  obtain ⟨p, q, rfl⟩ : ∃ p q, o = ix2 p q := ⟨o 0, o 1, eq_ix2 o⟩
  refine Eq.trans ?_ (ref_proj x g w 0 (by decide) p ⟨q.val, by omega⟩ q (Nat.zero_add _).symm)
  pointwise [val_main_v14]
theorem arr_q : val_main_v23 x g w = ofRows (qA x g w) := by
  funext o
  obtain ⟨p, q, rfl⟩ : ∃ p q, o = ix2 p q := ⟨o 0, o 1, eq_ix2 o⟩
  refine Eq.trans ?_ (congrArg (· * factor) (ref_proj x g w 1024 (by decide) p ⟨1024 + q.val, by omega⟩ q rfl))
  pointwise [val_main_v23, val_main_v21, val_main_v20, val_main_v15, val_main_cst_2]
theorem arr_k : val_main_v24 x g w = ofRows (colsA x g w 1536 (n := 512) (by decide)) := by
  funext o
  obtain ⟨p, q, rfl⟩ : ∃ p q, o = ix2 p q := ⟨o 0, o 1, eq_ix2 o⟩
  refine Eq.trans ?_ (ref_proj x g w 1536 (by decide) p ⟨1536 + q.val, by omega⟩ q rfl)
  pointwise [val_main_v24, val_main_v16]
theorem arr_v : val_main_v25 x g w = ofRows (colsA x g w 2048 (n := 512) (by decide)) := by
  funext o
  obtain ⟨p, q, rfl⟩ : ∃ p q, o = ix2 p q := ⟨o 0, o 1, eq_ix2 o⟩
  refine Eq.trans ?_ (ref_proj x g w 2048 (by decide) p ⟨2048 + q.val, by omega⟩ q rfl)
  pointwise [val_main_v25, val_main_v17]
theorem arr_gc : val_main_v18 x g w = ofRows (colsA x g w 2560 (n := 1024) (by decide)) := by
  funext o
  obtain ⟨p, q, rfl⟩ : ∃ p q, o = ix2 p q := ⟨o 0, o 1, eq_ix2 o⟩
  refine Eq.trans ?_ (ref_proj x g w 2560 (by decide) p ⟨2560 + q.val, by omega⟩ q rfl)
  pointwise [val_main_v18]
theorem arr_ga : val_main_v19 x g w = ofRows (colsA x g w 3584 (n := 1024) (by decide)) := by
  funext o
  obtain ⟨p, q, rfl⟩ : ∃ p q, o = ix2 p q := ⟨o 0, o 1, eq_ix2 o⟩
  refine Eq.trans ?_ (ref_proj x g w 3584 (by decide) p ⟨3584 + q.val, by omega⟩ q rfl)
  pointwise [val_main_v19]

end Cert.Proof.InFwd
-- ==== Proof.InFwdRun.lean ====
/- Hand-written, untrusted: the forward input projection's run — each of its seven result arrays, written by tiles of 256
   rows, is its function of the arguments, row by row, over the extended reals. -/
module

public import proofs.«01_k».proof.Proof.InFwdOut
public import proofs.«01_k».proof.Proof.InFwdRef

@[expose] public section

noncomputable section

namespace Cert.Proof.InFwd

open Cert.InFwdIdeal Cert.InFwdIdeal.Gen Cert.InFwdIdeal.Value Idealize.ShloMosaic TcCoe Idealize.SL.Sem Cert.Proof.Ffn

variable (m : (ℓ : Loc nD τ sig) → Buf (Elt Ideal) ℓ) (ρ : Dev nD → PrngReg)

abbrev a0 (c : Dev nD) : Vec Ideal S2048x1024 .f32 := m ((c : Thread nD τ).loc main_arg0)
abbrev a1 (c : Dev nD) : Vec Ideal S1024 .f32 := m ((c : Thread nD τ).loc main_arg1)
abbrev a2 (c : Dev nD) : Vec Ideal S1024x4608 .f32 := m ((c : Thread nD τ).loc main_arg2)

/-! ## The arrays the region finds -/

theorem V_v2 (c : Dev nD) (b : Fin 4) (k : Fin 1024) (q : Fin 1152) :
    V m c main_v2 (ix3 b k q) = a2 m c (ix2 k ⟨1152 * b.val + q.val, by omega⟩) := by
  unfold V; after_reads_at
  exact congrArg _ (congrArg (ix2 k) (Fin.ext (by show b.val * 1152 + q.val = 1152 * b.val + q.val; omega)))
theorem V_v3 (c : Dev nD) (j : Fin 1024) : V m c main_v3 (ix2 0 j) = a1 m c (ix1 j) := by
  unfold V; after_reads_at

/-! ## Where a point's blocks lie -/

theorem N8 : cfg0.N = 8 := by decide
theorem lt8 (t : Fin cfg0.N) : t.val < 8 := lt_of_lt_of_eq t.isLt N8
/-- Row `p` of point `t`'s tile, in the whole array. -/
def row (t : Fin cfg0.N) (p : Fin 256) : Fin 2048 := ⟨256 * t.val + p.val, by have := lt8 t; omega⟩

theorem idx0 : ∀ t : Fin cfg0.N, win0_0.index t (0 : Fin 2) = t.val ∧ win0_0.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)

theorem blk0 (c : Dev nD) (t : Fin cfg0.N) (p : Fin 256) : rowB (iblk m c 0 t) p = rowA (a0 m c) (row t p) := by
  obtain ⟨e0, e1⟩ := idx0 t
  funext k
  have e : ((cfg0.win 0).blk t).view.emb (ix2 p k) = ix2 (row t p) k := by
    refine funext fun a => Fin.ext ?_
    match a with
    | ⟨0, _⟩ => show win0_0.index t (0 : Fin 2) * 256 + 1 * p.val = 256 * t.val + p.val; omega
    | ⟨1, _⟩ => show win0_0.index t (1 : Fin 2) * 1024 + 1 * k.val = k.val; omega
  exact (congrArg (V m c main_arg0) e).trans (congrFun (V_main_arg0 m c) _)
theorem blk1 (c : Dev nD) (t : Fin cfg0.N) : lineB (iblk m c 1 t) = scaleA (a1 m c) := by
  obtain ⟨e0, e1⟩ := idx1 t
  funext j
  have e : ((cfg0.win 1).blk t).view.emb (ix2 0 j) = ix2 0 j := by
    refine funext fun a => Fin.ext ?_
    match a with
    | ⟨0, _⟩ => show win0_1.index t (0 : Fin 2) * 1 + 1 * 0 = 0; omega
    | ⟨1, _⟩ => show win0_1.index t (1 : Fin 2) * 1024 + 1 * j.val = j.val; omega
  exact (congrArg (V m c main_v3) e).trans (V_v3 m c _)
theorem blk2 (c : Dev nD) (t : Fin cfg0.N) : wideB (iblk m c 2 t) = columns (a2 m c) := by
  obtain ⟨e0, e1, e2⟩ := idx2 t
  funext k j
  have e (b : Fin 4) (q : Fin 1152) : ((cfg0.win 2).blk t).view.emb (ix3 b k q) = ix3 b k q := by
    refine funext fun a => Fin.ext ?_
    match a with
    | ⟨0, _⟩ => show win0_2.index t (0 : Fin 3) * 4 + 1 * b.val = b.val; omega
    | ⟨1, _⟩ => show win0_2.index t (1 : Fin 3) * 1024 + 1 * k.val = k.val; omega
    | ⟨2, _⟩ => show win0_2.index t (2 : Fin 3) * 1152 + 1 * q.val = q.val; omega
  refine (congrArg (V m c main_v2) (e _ _)).trans ((V_v2 m c _ _ _).trans ?_)
  exact congrArg _ (congrArg (ix2 k) (Fin.ext (by show 1152 * (j.val / 1152) + j.val % 1152 = j.val; omega)))

/-! ## The results, of the launch memory -/

abbrev hM (c : Dev nD) : Vec Ideal S2048x1024 .bf16 := ofRows (hA (a0 m c) (a1 m c))
abbrev ciM (c : Dev nD) : Vec Ideal S2048x1024 .f32 := ofRows (colsA (a0 m c) (a1 m c) (a2 m c) 0 (n := 1024) (by decide))
abbrev qM (c : Dev nD) : Vec Ideal S2048x512 .bf16 := ofRows (qA (a0 m c) (a1 m c) (a2 m c))
abbrev kM (c : Dev nD) : Vec Ideal S2048x512 .bf16 := ofRows (colsA (a0 m c) (a1 m c) (a2 m c) 1536 (n := 512) (by decide))
abbrev vM (c : Dev nD) : Vec Ideal S2048x512 .bf16 := ofRows (colsA (a0 m c) (a1 m c) (a2 m c) 2048 (n := 512) (by decide))
abbrev gcM (c : Dev nD) : Vec Ideal S2048x1024 .f32 := ofRows (colsA (a0 m c) (a1 m c) (a2 m c) 2560 (n := 1024) (by decide))
abbrev gaM (c : Dev nD) : Vec Ideal S2048x1024 .f32 := ofRows (colsA (a0 m c) (a1 m c) (a2 m c) 3584 (n := 1024) (by decide))

theorem h_eq (c : Dev nD) (t : Fin cfg0.N) (p : Fin 256) (k : Fin 1024) :
    hB (iblk m c 0 t) (iblk m c 1 t) p k = hA (a0 m c) (a1 m c) (row t p) k := by
  unfold hB hA; rw [blk0, blk1]
theorem cols_eq (c : Dev nD) (t : Fin cfg0.N) (off : Nat) {n : Nat} (h : off + n ≤ 4608) (p : Fin 256) (q : Fin n) :
    colsB (iblk m c 0 t) (iblk m c 1 t) (iblk m c 2 t) off h p q = colsA (a0 m c) (a1 m c) (a2 m c) off h (row t p) q := by
  unfold colsB colsA; rw [blk0, blk1, blk2]
theorem q_eq (c : Dev nD) (t : Fin cfg0.N) (p : Fin 256) (q : Fin 512) :
    qB (iblk m c 0 t) (iblk m c 1 t) (iblk m c 2 t) p q = qA (a0 m c) (a1 m c) (a2 m c) (row t p) q := by
  unfold qB qA; rw [cols_eq]

/-- A row of 2048 lies in the tile of 256 that its quotient names, at its remainder. -/
theorem in_tile {n : Nat} (i : (⟨2, ![2048, n]⟩ : Shape).Idx) (h : (i 0).val / 256 < cfg0.N) :
    i = ix2 (row ⟨(i 0).val / 256, h⟩ ⟨(i 0).val % 256, Nat.mod_lt _ (by norm_num)⟩) (i 1) :=
  (eq_ix2 i).trans (congrArg (fun r => ix2 r (i 1)) (Fin.ext (by
    show (i 0).val = 256 * ((i 0).val / 256) + (i 0).val % 256
    omega)))
theorem tile_lt (i : Fin 2048) : i.val / 256 < cfg0.N := lt_of_lt_of_eq (by omega) N8.symm

/-! ## The seven arrays, tile by tile -/

theorem emb4 (t : Fin cfg0.N) (o : S256x1024.Idx) : ((cfg0.win 4).blk t).view.emb o = ix2 (row t (o 0)) (o 1) := by
  obtain ⟨e0, e1⟩ := idx4 t
  refine funext fun a => Fin.ext ?_
  match a with
  | ⟨0, _⟩ => show win0_4.index t (0 : Fin 2) * 256 + 1 * (o 0).val = 256 * t.val + (o 0).val; omega
  | ⟨1, _⟩ => show win0_4.index t (1 : Fin 2) * 1024 + 1 * (o 1).val = (o 1).val; omega
theorem flushed4_eq (c : Dev nD) (t : Fin cfg0.N) :
    (dats m 0 c).flushed 4 t = ((cfg0.win 4).blk t).view.read (Elt Ideal) (hM m c) := by
  rw [flushed4_A, out4]
  funext o
  refine (h_eq m c t (o 0) (o 1)).trans ?_
  show _ = hM m c (((cfg0.win 4).blk t).view.emb o)
  rw [emb4]
  rfl
theorem covered4 (i : S2048x1024.Idx) : ∃ t : Fin cfg0.N, (cfg0.win 4).flush t = true ∧ i ∈ ((cfg0.win 4).blk t).view.set := by
  refine ⟨⟨(i 0).val / 256, tile_lt (i 0)⟩, flush0_4 _, ?_⟩
  have h := ((cfg0.win 4).blk ⟨(i 0).val / 256, tile_lt (i 0)⟩).view.emb_mem_set
    (ix2 ⟨(i 0).val % 256, Nat.mod_lt _ (by norm_num)⟩ (i 1) : S256x1024.Idx)
  rw [emb4] at h
  exact (congrArg (· ∈ ((cfg0.win 4).blk _).view.set) (in_tile i (tile_lt (i 0)))).mpr h
theorem final4 (c : Dev nD) : (dats m 0 c).arrAt 4 cfg0.N = hM m c :=
  (dats m 0 c).arrAt_eq_of_cover 4 (hM m c) (fun t _ => flushed4_eq m c t) covered4

theorem emb5 (t : Fin cfg0.N) (o : S256x1024.Idx) : ((cfg0.win 5).blk t).view.emb o = ix2 (row t (o 0)) (o 1) := by
  obtain ⟨e0, e1⟩ := idx5 t
  refine funext fun a => Fin.ext ?_
  match a with
  | ⟨0, _⟩ => show win0_5.index t (0 : Fin 2) * 256 + 1 * (o 0).val = 256 * t.val + (o 0).val; omega
  | ⟨1, _⟩ => show win0_5.index t (1 : Fin 2) * 1024 + 1 * (o 1).val = (o 1).val; omega
theorem flushed5_eq (c : Dev nD) (t : Fin cfg0.N) :
    (dats m 0 c).flushed 5 t = ((cfg0.win 5).blk t).view.read (Elt Ideal) (ciM m c) := by
  rw [flushed5_A, out5]
  funext o
  refine (cols_eq m c t _ _ (o 0) (o 1)).trans ?_
  show _ = ciM m c (((cfg0.win 5).blk t).view.emb o)
  rw [emb5]
  rfl
theorem covered5 (i : S2048x1024.Idx) : ∃ t : Fin cfg0.N, (cfg0.win 5).flush t = true ∧ i ∈ ((cfg0.win 5).blk t).view.set := by
  refine ⟨⟨(i 0).val / 256, tile_lt (i 0)⟩, flush0_5 _, ?_⟩
  have h := ((cfg0.win 5).blk ⟨(i 0).val / 256, tile_lt (i 0)⟩).view.emb_mem_set
    (ix2 ⟨(i 0).val % 256, Nat.mod_lt _ (by norm_num)⟩ (i 1) : S256x1024.Idx)
  rw [emb5] at h
  exact (congrArg (· ∈ ((cfg0.win 5).blk _).view.set) (in_tile i (tile_lt (i 0)))).mpr h
theorem final5 (c : Dev nD) : (dats m 0 c).arrAt 5 cfg0.N = ciM m c :=
  (dats m 0 c).arrAt_eq_of_cover 5 (ciM m c) (fun t _ => flushed5_eq m c t) covered5

theorem emb6 (t : Fin cfg0.N) (o : S256x512.Idx) : ((cfg0.win 6).blk t).view.emb o = ix2 (row t (o 0)) (o 1) := by
  obtain ⟨e0, e1⟩ := idx6 t
  refine funext fun a => Fin.ext ?_
  match a with
  | ⟨0, _⟩ => show win0_6.index t (0 : Fin 2) * 256 + 1 * (o 0).val = 256 * t.val + (o 0).val; omega
  | ⟨1, _⟩ => show win0_6.index t (1 : Fin 2) * 512 + 1 * (o 1).val = (o 1).val; omega
theorem flushed6_eq (c : Dev nD) (t : Fin cfg0.N) :
    (dats m 0 c).flushed 6 t = ((cfg0.win 6).blk t).view.read (Elt Ideal) (qM m c) := by
  rw [flushed6_A, out6]
  funext o
  refine (q_eq m c t (o 0) (o 1)).trans ?_
  show _ = qM m c (((cfg0.win 6).blk t).view.emb o)
  rw [emb6]
  rfl
theorem covered6 (i : S2048x512.Idx) : ∃ t : Fin cfg0.N, (cfg0.win 6).flush t = true ∧ i ∈ ((cfg0.win 6).blk t).view.set := by
  refine ⟨⟨(i 0).val / 256, tile_lt (i 0)⟩, flush0_6 _, ?_⟩
  have h := ((cfg0.win 6).blk ⟨(i 0).val / 256, tile_lt (i 0)⟩).view.emb_mem_set
    (ix2 ⟨(i 0).val % 256, Nat.mod_lt _ (by norm_num)⟩ (i 1) : S256x512.Idx)
  rw [emb6] at h
  exact (congrArg (· ∈ ((cfg0.win 6).blk _).view.set) (in_tile i (tile_lt (i 0)))).mpr h
theorem final6 (c : Dev nD) : (dats m 0 c).arrAt 6 cfg0.N = qM m c :=
  (dats m 0 c).arrAt_eq_of_cover 6 (qM m c) (fun t _ => flushed6_eq m c t) covered6

theorem emb7 (t : Fin cfg0.N) (o : S256x512.Idx) : ((cfg0.win 7).blk t).view.emb o = ix2 (row t (o 0)) (o 1) := by
  obtain ⟨e0, e1⟩ := idx7 t
  refine funext fun a => Fin.ext ?_
  match a with
  | ⟨0, _⟩ => show win0_7.index t (0 : Fin 2) * 256 + 1 * (o 0).val = 256 * t.val + (o 0).val; omega
  | ⟨1, _⟩ => show win0_7.index t (1 : Fin 2) * 512 + 1 * (o 1).val = (o 1).val; omega
theorem flushed7_eq (c : Dev nD) (t : Fin cfg0.N) :
    (dats m 0 c).flushed 7 t = ((cfg0.win 7).blk t).view.read (Elt Ideal) (kM m c) := by
  rw [flushed7_A, out7]
  funext o
  refine (cols_eq m c t _ _ (o 0) (o 1)).trans ?_
  show _ = kM m c (((cfg0.win 7).blk t).view.emb o)
  rw [emb7]
  rfl
theorem covered7 (i : S2048x512.Idx) : ∃ t : Fin cfg0.N, (cfg0.win 7).flush t = true ∧ i ∈ ((cfg0.win 7).blk t).view.set := by
  refine ⟨⟨(i 0).val / 256, tile_lt (i 0)⟩, flush0_7 _, ?_⟩
  have h := ((cfg0.win 7).blk ⟨(i 0).val / 256, tile_lt (i 0)⟩).view.emb_mem_set
    (ix2 ⟨(i 0).val % 256, Nat.mod_lt _ (by norm_num)⟩ (i 1) : S256x512.Idx)
  rw [emb7] at h
  exact (congrArg (· ∈ ((cfg0.win 7).blk _).view.set) (in_tile i (tile_lt (i 0)))).mpr h
theorem final7 (c : Dev nD) : (dats m 0 c).arrAt 7 cfg0.N = kM m c :=
  (dats m 0 c).arrAt_eq_of_cover 7 (kM m c) (fun t _ => flushed7_eq m c t) covered7

theorem emb8 (t : Fin cfg0.N) (o : S256x512.Idx) : ((cfg0.win 8).blk t).view.emb o = ix2 (row t (o 0)) (o 1) := by
  obtain ⟨e0, e1⟩ := idx8 t
  refine funext fun a => Fin.ext ?_
  match a with
  | ⟨0, _⟩ => show win0_8.index t (0 : Fin 2) * 256 + 1 * (o 0).val = 256 * t.val + (o 0).val; omega
  | ⟨1, _⟩ => show win0_8.index t (1 : Fin 2) * 512 + 1 * (o 1).val = (o 1).val; omega
theorem flushed8_eq (c : Dev nD) (t : Fin cfg0.N) :
    (dats m 0 c).flushed 8 t = ((cfg0.win 8).blk t).view.read (Elt Ideal) (vM m c) := by
  rw [flushed8_A, out8]
  funext o
  refine (cols_eq m c t _ _ (o 0) (o 1)).trans ?_
  show _ = vM m c (((cfg0.win 8).blk t).view.emb o)
  rw [emb8]
  rfl
theorem covered8 (i : S2048x512.Idx) : ∃ t : Fin cfg0.N, (cfg0.win 8).flush t = true ∧ i ∈ ((cfg0.win 8).blk t).view.set := by
  refine ⟨⟨(i 0).val / 256, tile_lt (i 0)⟩, flush0_8 _, ?_⟩
  have h := ((cfg0.win 8).blk ⟨(i 0).val / 256, tile_lt (i 0)⟩).view.emb_mem_set
    (ix2 ⟨(i 0).val % 256, Nat.mod_lt _ (by norm_num)⟩ (i 1) : S256x512.Idx)
  rw [emb8] at h
  exact (congrArg (· ∈ ((cfg0.win 8).blk _).view.set) (in_tile i (tile_lt (i 0)))).mpr h
theorem final8 (c : Dev nD) : (dats m 0 c).arrAt 8 cfg0.N = vM m c :=
  (dats m 0 c).arrAt_eq_of_cover 8 (vM m c) (fun t _ => flushed8_eq m c t) covered8

theorem emb9 (t : Fin cfg0.N) (o : S256x1024.Idx) : ((cfg0.win 9).blk t).view.emb o = ix2 (row t (o 0)) (o 1) := by
  obtain ⟨e0, e1⟩ := idx9 t
  refine funext fun a => Fin.ext ?_
  match a with
  | ⟨0, _⟩ => show win0_9.index t (0 : Fin 2) * 256 + 1 * (o 0).val = 256 * t.val + (o 0).val; omega
  | ⟨1, _⟩ => show win0_9.index t (1 : Fin 2) * 1024 + 1 * (o 1).val = (o 1).val; omega
theorem flushed9_eq (c : Dev nD) (t : Fin cfg0.N) :
    (dats m 0 c).flushed 9 t = ((cfg0.win 9).blk t).view.read (Elt Ideal) (gcM m c) := by
  rw [flushed9_A, out9]
  funext o
  refine (cols_eq m c t _ _ (o 0) (o 1)).trans ?_
  show _ = gcM m c (((cfg0.win 9).blk t).view.emb o)
  rw [emb9]
  rfl
theorem covered9 (i : S2048x1024.Idx) : ∃ t : Fin cfg0.N, (cfg0.win 9).flush t = true ∧ i ∈ ((cfg0.win 9).blk t).view.set := by
  refine ⟨⟨(i 0).val / 256, tile_lt (i 0)⟩, flush0_9 _, ?_⟩
  have h := ((cfg0.win 9).blk ⟨(i 0).val / 256, tile_lt (i 0)⟩).view.emb_mem_set
    (ix2 ⟨(i 0).val % 256, Nat.mod_lt _ (by norm_num)⟩ (i 1) : S256x1024.Idx)
  rw [emb9] at h
  exact (congrArg (· ∈ ((cfg0.win 9).blk _).view.set) (in_tile i (tile_lt (i 0)))).mpr h
theorem final9 (c : Dev nD) : (dats m 0 c).arrAt 9 cfg0.N = gcM m c :=
  (dats m 0 c).arrAt_eq_of_cover 9 (gcM m c) (fun t _ => flushed9_eq m c t) covered9

theorem emb10 (t : Fin cfg0.N) (o : S256x1024.Idx) : ((cfg0.win 10).blk t).view.emb o = ix2 (row t (o 0)) (o 1) := by
  obtain ⟨e0, e1⟩ := idx10 t
  refine funext fun a => Fin.ext ?_
  match a with
  | ⟨0, _⟩ => show win0_10.index t (0 : Fin 2) * 256 + 1 * (o 0).val = 256 * t.val + (o 0).val; omega
  | ⟨1, _⟩ => show win0_10.index t (1 : Fin 2) * 1024 + 1 * (o 1).val = (o 1).val; omega
theorem flushed10_eq (c : Dev nD) (t : Fin cfg0.N) :
    (dats m 0 c).flushed 10 t = ((cfg0.win 10).blk t).view.read (Elt Ideal) (gaM m c) := by
  rw [flushed10_A, out10]
  funext o
  refine (cols_eq m c t _ _ (o 0) (o 1)).trans ?_
  show _ = gaM m c (((cfg0.win 10).blk t).view.emb o)
  rw [emb10]
  rfl
theorem covered10 (i : S2048x1024.Idx) : ∃ t : Fin cfg0.N, (cfg0.win 10).flush t = true ∧ i ∈ ((cfg0.win 10).blk t).view.set := by
  refine ⟨⟨(i 0).val / 256, tile_lt (i 0)⟩, flush0_10 _, ?_⟩
  have h := ((cfg0.win 10).blk ⟨(i 0).val / 256, tile_lt (i 0)⟩).view.emb_mem_set
    (ix2 ⟨(i 0).val % 256, Nat.mod_lt _ (by norm_num)⟩ (i 1) : S256x1024.Idx)
  rw [emb10] at h
  exact (congrArg (· ∈ ((cfg0.win 10).blk _).view.set) (in_tile i (tile_lt (i 0)))).mpr h
theorem final10 (c : Dev nD) : (dats m 0 c).arrAt 10 cfg0.N = gaM m c :=
  (dats m 0 c).arrAt_eq_of_cover 10 (gaM m c) (fun t _ => flushed10_eq m c t) covered10

theorem run : θ_run defs (onTc (τ := τ) (main (F := Ideal))) ⟨m, fun _ => 0, ρ⟩ fun r => ∀ c : Dev nD,
      r.2.mem ((c : Thread nD τ).loc main_v5_0) = hM m c
      ∧ r.2.mem ((c : Thread nD τ).loc main_v5_1) = ciM m c
      ∧ r.2.mem ((c : Thread nD τ).loc main_v5_2) = qM m c
      ∧ r.2.mem ((c : Thread nD τ).loc main_v5_3) = kM m c
      ∧ r.2.mem ((c : Thread nD τ).loc main_v5_4) = vM m c
      ∧ r.2.mem ((c : Thread nD τ).loc main_v5_5) = gcM m c
      ∧ r.2.mem ((c : Thread nD τ).loc main_v5_6) = gaM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final4 m c), (h c).2.1.trans (final5 m c), (h c).2.2.1.trans (final6 m c),
    (h c).2.2.2.1.trans (final7 m c), (h c).2.2.2.2.1.trans (final8 m c), (h c).2.2.2.2.2.1.trans (final9 m c),
    (h c).2.2.2.2.2.2.1.trans (final10 m c), (h c).2.2.2.2.2.2.2⟩) (run_blocks m ρ)

end Cert.Proof.InFwd
-- ==== Proof.InFwdClaim.lean ====
/- Hand-written, untrusted: the claims on the forward input projection. -/
module

public import proofs.«01_k».proof.Defs
public import proofs.«01_k».proof.Proof.InFwdRun
public import proofs.«01_k».proof.Proof.Gen.InFwd
public import proofs.«01_k».proof.Proof.Gen.InFwd.Frame
public import proofs.«01_k».proof.Proof.Gen.InFwdIdeal.Frame
public import proofs.«01_k».proof.Proof.Gen.InFwdRefIdeal.Run

@[expose] public section

noncomputable section

namespace Cert.Proof.InFwd

open Idealize.ShloMosaic Idealize.SL.Sem Cert.InFwdRefIdeal.Read

theorem frame : Cert.quiescent_InFwd := fun m ρ _ => Cert.InFwd.Gen.frame m ρ
theorem frameIdeal : Cert.quiescent_InFwdIdeal := fun m ρ _ => Cert.InFwdIdeal.Gen.frame m ρ
theorem frameRef : Cert.quiescent_InFwdRefIdeal := fun m ρ _ =>
  (θ_run Cert.InFwdRefIdeal.defs _ _).mono (fun r h => ⟨fun c => (h c).2.2.2.2.2.2.2, sem_eq_zero_of_no_sems (by decide) r.2⟩)
    (Cert.InFwdRefIdeal.Value.run m ρ)

theorem value : Cert.algebraic_InFwdIdeal_InFwdRefIdeal := by
  intro m g m' g' _ hargs
  refine ⟨fun c => hM m c, fun c => ciM m c, fun c => qM m c, fun c => kM m c, fun c => vM m c, fun c => gcM m c, fun c => gaM m c,
    run m g, ?_⟩
  refine (θ_run Cert.InFwdRefIdeal.defs _ _).mono (fun r h c => ?_) (Cert.InFwdRefIdeal.Value.run m' g')
  obtain ⟨e0, e1, e2⟩ := hargs c
  obtain ⟨r0, r1, r2, r3, r4, r5, r6, r7⟩ := h c
  refine ⟨?_, ?_, ?_, ?_, ?_, ?_, ?_, r7⟩
  · refine r0.trans ((val_main_v22_eq _ _).trans ?_)
    rw [e0, e1]; exact arr_h _ _
  · refine r1.trans ((val_main_v14_eq _ _ _).trans ?_)
    rw [e0, e1, e2]; exact arr_ci _ _ _
  · refine r2.trans ((val_main_v23_eq _ _ _).trans ?_)
    rw [e0, e1, e2]; exact arr_q _ _ _
  · refine r3.trans ((val_main_v24_eq _ _ _).trans ?_)
    rw [e0, e1, e2]; exact arr_k _ _ _
  · refine r4.trans ((val_main_v25_eq _ _ _).trans ?_)
    rw [e0, e1, e2]; exact arr_v _ _ _
  · refine r5.trans ((val_main_v18_eq _ _ _).trans ?_)
    rw [e0, e1, e2]; exact arr_gc _ _ _
  · refine r6.trans ((val_main_v19_eq _ _ _).trans ?_)
    rw [e0, e1, e2]; exact arr_ga _ _ _

end Cert.Proof.InFwd

end
-- ==== Proof.AttnFTrip.lean ====
module

public import proofs.«01_k».proof.Proof.AttnLoops
public import proofs.«01_k».proof.Proof.Gen.AttnFwdIdeal.Loops
public import proofs.«01_k».proof.Proof.Gen.AttnFwdIdeal.Frame

@[expose] public section
set_option maxRecDepth 16384
noncomputable section

namespace Cert.Proof.AttnF

open Cert.AttnFwdIdeal Cert.AttnFwdIdeal.Gen
open Idealize.ShloMosaic TcCoe Tactic
open Memref renaming whole → wh, isWhole_whole → iw
open Idealize.SL RA BI
open scoped BI
open BIBase Laws ProofMode Sem
open Cert.Proof.Attn (iterN iterN_succ in_block writes_congr_at WordOk wordOk_iv rowOf)

variable {F : FTy → Type} [FloatOps F] [Named F]
local notation "𝕄" => MT nD τ sig Unit (Elt F) ℕ (Pipeline.UD sig nD τ) ℕ

/-! ## One step of the forward pipeline over the block pairs, run once at any contents -/

instance closedOff_19 (w : BitVec 32) : ClosedOff (k0_off19 w) := ⟨![rowOf w, 0], rfl⟩
instance closedOff_23 (w : BitVec 32) : ClosedOff (k0_off23 w) := ⟨![rowOf w, 128], rfl⟩
instance closedOff_27 (w : BitVec 32) : ClosedOff (k0_off27 w) := ⟨![rowOf w, 256], rfl⟩
instance closedOff_31 (w : BitVec 32) : ClosedOff (k0_off31 w) := ⟨![rowOf w, 384], rfl⟩
instance closedOff_53 (w : BitVec 32) : ClosedOff (k0_off53 w) := ⟨![rowOf w, 0], rfl⟩
instance closedOff_57 (w : BitVec 32) : ClosedOff (k0_off57 w) := ⟨![rowOf w, 128], rfl⟩
instance closedOff_61 (w : BitVec 32) : ClosedOff (k0_off61 w) := ⟨![rowOf w, 256], rfl⟩
instance closedOff_65 (w : BitVec 32) : ClosedOff (k0_off65 w) := ⟨![rowOf w, 384], rfl⟩
instance closedOff_17 (w : BitVec 32) : ClosedOff (k0_off17 w) := ⟨![rowOf w, 0], rfl⟩
instance closedOff_51 (w : BitVec 32) : ClosedOff (k0_off51 w) := ⟨![rowOf w, 0], rfl⟩

/-- What the six buffers a step writes hold. -/
structure Bufs (F : FTy → Type) where
  acc : Vec F S2048x512 .f32
  r : Vec F S8x128x128 .f32
  z : Vec F S8x128x128 .f32
  sp : Vec F S8x128x128 .bf16
  ab : Vec F S4x128x256 .bf16
  rc : Vec F S2048x128 .f32

/-- What the three buffers a step only reads hold. -/
structure Ins (F : FTy → Type) where
  qm : Vec F S4x4096x128 .bf16
  vm : Vec F S4x4096x128 .bf16
  k : Vec F S2048x512 .bf16

/-- The pairs of block numbers a step works at beside the newest one: the pair one and two steps back. -/
abbrev Words : Type := BitVec 32 × BitVec 32 × BitVec 32 × BitVec 32

/-- The side conditions of a step: every word names a block of the arrays. -/
structure WordsOk (w : Words) : Prop where
  c1 : k0_chk1 w.1
  c2 : k0_chk2 w.2.2.1
  c3 : k0_chk3 w.2.2.2

/-- A whole buffer of core `c` at contents `f`. -/
abbrev heldAt (c : Dev nD) {sp : Space} {S : Shape} {e : EltTy} (M : Memref sig .tc sp S e) (f : BufTy.Contents (Elt F) M.view.ty) : sProp 𝕄 :=
  iprop(M.view.loc (c : Thread nD τ) ↦[M.view.set]{fullShare} f)
/-- The buffers a step only reads, held at `X`. -/
abbrev Reads (c : Dev nD) (X : Ins F) : sProp 𝕄 :=
  iprop(heldAt c (wh cc0_scratch5) X.qm ∗ heldAt c (wh cc0_scratch6) X.vm ∗ heldAt c (wh cc0_scratch8) X.k)
/-- The buffers a step writes, held at `B`. -/
abbrev Writes (c : Dev nD) (B : Bufs F) : sProp 𝕄 :=
  iprop(heldAt c (wh cc0_scratch0) B.acc ∗ heldAt c (wh cc0_scratch1) B.r ∗ heldAt c (wh cc0_scratch2) B.z ∗ heldAt c (wh cc0_scratch3) B.sp ∗ heldAt c (wh cc0_scratch4) B.ab ∗ heldAt c (wh cc0_stg1_0) B.rc)
/-- The lists of pieces a step writes, one for each buffer. -/
structure Pieces (F : FTy → Type) where
  acc : List (View.Piece (Elt F) S2048x512 .f32)
  r : List (View.Piece (Elt F) S8x128x128 .f32)
  z : List (View.Piece (Elt F) S8x128x128 .f32)
  sp : List (View.Piece (Elt F) S8x128x128 .bf16)
  ab : List (View.Piece (Elt F) S4x128x256 .bf16)
  rc : List (View.Piece (Elt F) S2048x128 .f32)

/-- The buffers after the pieces are written over what they held. -/
abbrev Pieces.over (L : Pieces F) (B : Bufs F) : Bufs F :=
  ⟨(wh cc0_scratch0).view.writes (Elt F) B.acc L.acc, (wh cc0_scratch1).view.writes (Elt F) B.r L.r, (wh cc0_scratch2).view.writes (Elt F) B.z L.z, (wh cc0_scratch3).view.writes (Elt F) B.sp L.sp, (wh cc0_scratch4).view.writes (Elt F) B.ab L.ab, (wh cc0_stg1_0).view.writes (Elt F) B.rc L.rc⟩

set_option maxHeartbeats 4000000 in
/-- One trip of the loop over the block pairs: the pieces it writes, found by the run. -/
@[irreducible] def trip4 (c : Dev nD) (v6 v7 : IVec S128x128 32) (v16 : FVec F S128x256 .bf16) (v31 : FVec F S8x128x128 .bf16) (i : Fin k0_t3_loop.trips) (k : Fin (k0_t4_loop i).trips)
    (w : Words) (hw : WordsOk w) (X : Ins F) (B : Bufs F) :
    { L : Pieces F // ∀ (E : Set ℕ),
      iprop(Reads c X ∗ Writes c B)
      ⊢ wp frame (wpE (defs₀ (F := F)) Variants.none c.tc none) E (k0_t4_body (F := F) (wh main_v2) (iw _) (wh main_v3) (iw _) (wh main_v4) (iw _) (wh cc0_stg0_0) (iw _) (wh cc0_stg1_0) (iw _) (wh cc0_scratch0) (iw _) (wh cc0_scratch1) (iw _) (wh cc0_scratch2) (iw _) (wh cc0_scratch3) (iw _) (wh cc0_scratch4) (iw _) (wh cc0_scratch5) (iw _) (wh cc0_scratch6) (iw _) (wh cc0_scratch7) (iw _) (wh cc0_scratch8) (iw _) (wh cc0_scratch9) (iw _) cc0_scratch10 v6 v7 v16 v31 i (Scf.iv 0#32 1#32 i) k w)
          (fun r => iprop(⌜r = (Scf.iv 0#32 1#32 i, Scalar.subi (Scf.iv 0#32 1#32 i) (Scf.iv 0#32 1#32 k), w.1, w.2.1)⌝ ∗ Reads c X ∗ Writes c (L.over B))) } := by
  obtain ⟨w1, w2, w3, w4⟩ := w
  obtain ⟨Xqm, Xvm, Xk⟩ := X
  obtain ⟨Bacc, Br, Bz, Bsp, Bab, Brc⟩ := B
  have c1 := hw.c1
  have c2 := hw.c2
  have c3 := hw.c3
  refine ⟨⟨?_, ?_, ?_, ?_, ?_, ?_⟩, fun E => ?run⟩
  case run =>
    unfold k0_t4_body
    iintro ⟨⟨HRqm, HRvm, HRk⟩, ⟨HWacc, HWr, HWz, HWsp, HWab, HWrc⟩⟩
    sl_exec_parts
    sl_step
    isplitr; · ipureintro; rfl
    sl_close

set_option maxHeartbeats 4000000 in
/-- One trip of the loop that drains the pipeline: the pieces it writes, found by the run. -/
@[irreducible] def trip6 (c : Dev nD) (v6 v7 : IVec S128x128 32) (v16 : FVec F S128x256 .bf16) (k : Fin k0_t6_loop.trips)
    (w : Words) (hw : WordsOk w) (X : Ins F) (B : Bufs F) :
    { L : Pieces F // ∀ (E : Set ℕ),
      iprop(Reads c X ∗ Writes c B)
      ⊢ wp frame (wpE (defs₀ (F := F)) Variants.none c.tc none) E (k0_t6_body (F := F) (wh main_v2) (iw _) (wh main_v3) (iw _) (wh main_v4) (iw _) (wh cc0_stg0_0) (iw _) (wh cc0_stg1_0) (iw _) (wh cc0_scratch0) (iw _) (wh cc0_scratch1) (iw _) (wh cc0_scratch2) (iw _) (wh cc0_scratch3) (iw _) (wh cc0_scratch4) (iw _) (wh cc0_scratch5) (iw _) (wh cc0_scratch6) (iw _) (wh cc0_scratch7) (iw _) (wh cc0_scratch8) (iw _) (wh cc0_scratch9) (iw _) cc0_scratch10 v6 v7 v16 4294967295#32 0#32 k w)
          (fun r => iprop(⌜r = (4294967295#32, 4294967295#32, w.1, w.2.1)⌝ ∗ Reads c X ∗ Writes c (L.over B))) } := by
  obtain ⟨w1, w2, w3, w4⟩ := w
  obtain ⟨Xqm, Xvm, Xk⟩ := X
  obtain ⟨Bacc, Br, Bz, Bsp, Bab, Brc⟩ := B
  have c1 := hw.c1
  have c2 := hw.c2
  have c3 := hw.c3
  have d1 : k0_chk7 w1 := c1
  have d2 : k0_chk8 w3 := c2
  have d3 : k0_chk9 w4 := c3
  refine ⟨⟨?_, ?_, ?_, ?_, ?_, ?_⟩, fun E => ?run⟩
  case run =>
    unfold k0_t6_body
    iintro ⟨⟨HRqm, HRvm, HRk⟩, ⟨HWacc, HWr, HWz, HWsp, HWab, HWrc⟩⟩
    sl_exec_parts
    sl_step
    isplitr; · ipureintro; rfl
    sl_close

end Cert.Proof.AttnF
end
-- ==== Proof.AttnFLoops.lean ====
module

public import proofs.«01_k».proof.Proof.AttnFTrip

@[expose] public section
set_option maxRecDepth 16384
noncomputable section

namespace Cert.Proof.AttnF

open Cert.AttnFwdIdeal Cert.AttnFwdIdeal.Gen
open Idealize.ShloMosaic TcCoe Tactic
open Memref renaming whole → wh, isWhole_whole → iw
open Cert.AttnFwdIdeal renaming cc0_scratch0 → b0, cc0_scratch1 → b1, cc0_scratch2 → b2, cc0_scratch3 → b3, cc0_scratch4 → b4, cc0_scratch5 → b5, cc0_scratch6 → b6, cc0_scratch7 → b7, cc0_scratch8 → b8, cc0_scratch9 → b9, cc0_scratch10 → b10
open Idealize.SL RA BI
open scoped BI
open BIBase Laws ProofMode Sem
open Cert.Proof.Attn (iterN iterN_succ in_block WordOk wordOk_iv rowOf)

variable {F : FTy → Type} [FloatOps F] [Named F]
local notation "𝕄" => MT nD τ sig Unit (Elt F) ℕ (Pipeline.UD sig nD τ) ℕ

/-! ## The loops' invariants of the forward call -/

/-- Two contents agreeing at an index, or an index the pieces cover: the same piece list leaves the same there. -/
theorem writes_at {S : Shape} {e : EltTy} {κ : Kind} {sp : Space} (v : View sig κ sp S e) (f f' : v.ty.Contents (Elt F)) (y : S.Idx) :
    ∀ L : List (View.Piece (Elt F) S e), (v.read (Elt F) f y = v.read (Elt F) f' y ∨ ∃ pc ∈ L, y ∈ pc.1.set) →
      v.read (Elt F) (v.writes (Elt F) f L) y = v.read (Elt F) (v.writes (Elt F) f' L) y
  | [], h => by
      rcases h with h | ⟨_, hm, _⟩
      · exact h
      · exact absurd hm List.not_mem_nil
  | ⟨R, w⟩ :: L, h => by
      by_cases hy : y ∈ R.set
      · rw [← Rect.map_emb_univ] at hy
        obtain ⟨x, -, rfl⟩ := Finset.mem_map.1 hy
        exact (View.read_writes_cons_emb v f R w L x).trans (View.read_writes_cons_emb v f' R w L x).symm
      · have ih := writes_at v f f' y L (h.imp id fun ⟨pc, hm, hc⟩ => by
          rcases List.mem_cons.1 hm with rfl | hm
          · exact absurd hc hy
          · exact ⟨pc, hm, hc⟩)
        have hy' : y ∉ Finset.univ.map R.emb := by rw [Rect.map_emb_univ]; exact hy
        rw [View.writes_cons, View.writes_cons]
        exact (View.read_slice_write_of_not_mem _ _ _ _ hy').trans (ih.trans (View.read_slice_write_of_not_mem _ _ _ _ hy').symm)

section Split

variable (c : Dev nD) (v6 v7 : IVec S128x128 32) (v16 : FVec F S128x256 .bf16) (v31 : FVec F S8x128x128 .bf16) (X : Vec F S2048x512 .bf16)

/-- One trip of the loop that splits a block's heads, buffer 7 into buffer 5. -/
@[irreducible] def cut1 (k : Fin k0_t1_loop.trips) :
    { L : List (View.Piece (Elt F) S4x4096x128 .bf16) // ∀ (E : Set ℕ) (f : Vec F S4x4096x128 .bf16),
      iprop(heldAt c (wh b7) X ∗ heldAt c (wh b5) f)
      ⊢ wp frame (wpE (defs₀ (F := F)) Variants.none c.tc none) E (k0_t1_body (F := F) (wh main_v2) (iw _) (wh main_v3) (iw _) (wh main_v4) (iw _) (wh cc0_stg0_0) (iw _) (wh cc0_stg1_0) (iw _) (wh b0) (iw _) (wh b1) (iw _) (wh b2) (iw _) (wh b3) (iw _) (wh b4) (iw _) (wh b5) (iw _) (wh b6) (iw _) (wh b7) (iw _) (wh b8) (iw _) (wh b9) (iw _) b10 v6 v7 v16 v31 k ⟨⟩)
          (fun _ => iprop(heldAt c (wh b7) X ∗ heldAt c (wh b5) ((wh b5).view.writes (Elt F) f L))) } := by
  have hk : k.val < 16 := Nat.lt_of_lt_of_le k.isLt k0_t1_abs.2.1
  refine ⟨?_, fun E f => ?run⟩
  case run =>
    unfold k0_t1_body
    iintro ⟨HR, HW⟩
    sl_exec
    sl_step
    sl_close

/-- The split buffer after the first trips. -/
abbrev cutAt1 (k : ℕ) (f : Vec F S4x4096x128 .bf16) : Vec F S4x4096x128 .bf16 :=
  iterN (fun k f => (wh b5).view.writes (Elt F) f (cut1 c v6 v7 v16 v31 X k).1) k f

theorem cover1 (k : Fin k0_t1_loop.trips) (y : S4x4096x128.Idx)
    (h : 256 * k.val ≤ (y 1).val ∧ (y 1).val < 256 * k.val + 256) : ∃ pc ∈ (cut1 c v6 v7 v16 v31 X k).1, y ∈ pc.1.set := by
  unfold cut1
  dsimp only
  have h0 : (y 0).val < 4 := (y 0).isLt
  by_cases hh : (y 1).val < 256 * k.val + 128 <;> obtain h0 | h0 | h0 | h0 : (y 0).val = 0 ∨ (y 0).val = 1 ∨ (y 0).val = 2 ∨ (y 0).val = 3 := by omega
  · refine ⟨_, .tail _ (.tail _ (.tail _ (.tail _ (.tail _ (.tail _ (.tail _ (.head _))))))), ?_⟩
    rw [Rect.mem_set_unit, (by decide +kernel : ∀ k, k0_off2 k 0#32 = ![0, 256 * k.val + 0, 0]) k]
    exact in_block y 0 _ h0 (by omega)
  · refine ⟨_, .tail _ (.tail _ (.tail _ (.tail _ (.tail _ (.head _))))), ?_⟩
    rw [Rect.mem_set_unit, (by decide +kernel : ∀ k, k0_off4 k 0#32 = ![1, 256 * k.val + 0, 0]) k]
    exact in_block y 1 _ h0 (by omega)
  · refine ⟨_, .tail _ (.tail _ (.tail _ (.head _))), ?_⟩
    rw [Rect.mem_set_unit, (by decide +kernel : ∀ k, k0_off6 k 0#32 = ![2, 256 * k.val + 0, 0]) k]
    exact in_block y 2 _ h0 (by omega)
  · refine ⟨_, .tail _ (.head _), ?_⟩
    rw [Rect.mem_set_unit, (by decide +kernel : ∀ k, k0_off8 k 0#32 = ![3, 256 * k.val + 0, 0]) k]
    exact in_block y 3 _ h0 (by omega)
  · refine ⟨_, .tail _ (.tail _ (.tail _ (.tail _ (.tail _ (.tail _ (.head _)))))), ?_⟩
    rw [Rect.mem_set_unit, (by decide +kernel : ∀ k, k0_off2 k 128#32 = ![0, 256 * k.val + 128, 0]) k]
    exact in_block y 0 _ h0 (by omega)
  · refine ⟨_, .tail _ (.tail _ (.tail _ (.tail _ (.head _)))), ?_⟩
    rw [Rect.mem_set_unit, (by decide +kernel : ∀ k, k0_off4 k 128#32 = ![1, 256 * k.val + 128, 0]) k]
    exact in_block y 1 _ h0 (by omega)
  · refine ⟨_, .tail _ (.tail _ (.head _)), ?_⟩
    rw [Rect.mem_set_unit, (by decide +kernel : ∀ k, k0_off6 k 128#32 = ![2, 256 * k.val + 128, 0]) k]
    exact in_block y 2 _ h0 (by omega)
  · refine ⟨_, .head _, ?_⟩
    rw [Rect.mem_set_unit, (by decide +kernel : ∀ k, k0_off8 k 128#32 = ![3, 256 * k.val + 128, 0]) k]
    exact in_block y 3 _ h0 (by omega)

/-- The split buffer after the loop does not depend on what it held before. -/
theorem cutAt1_indep (f f' : Vec F S4x4096x128 .bf16) :
    ∀ k ≤ k0_t1_loop.trips, ∀ y : S4x4096x128.Idx, (y 1).val < 256 * k → cutAt1 c v6 v7 v16 v31 X k f y = cutAt1 c v6 v7 v16 v31 X k f' y
  | 0, _, y, hy => absurd hy (by omega)
  | k + 1, hk, y, hy => by
      rw [show cutAt1 c v6 v7 v16 v31 X (k + 1) f = _ from iterN_succ _ ⟨k, hk⟩ _, show cutAt1 c v6 v7 v16 v31 X (k + 1) f' = _ from iterN_succ _ ⟨k, hk⟩ _]
      refine writes_at (F := F) (wh b5).view _ _ y _ ?_
      by_cases h : (y 1).val < 256 * k
      · exact Or.inl (cutAt1_indep f f' k (Nat.le_of_succ_le hk) y h)
      · exact Or.inr (cover1 c v6 v7 v16 v31 X ⟨k, hk⟩ y ⟨Nat.le_of_not_lt h, hy⟩)

/-- The split buffer. -/
abbrev split1 : Vec F S4x4096x128 .bf16 :=
  cutAt1 c v6 v7 v16 v31 X k0_t1_loop.trips (fun _ => FloatOps.ofBits .bf16 0)

/-- The splitting loop's invariant: the split buffer as the trips so far leave it. -/
@[sl_loop, instance_reducible] def loopCut1 (G : Vec F S4x4096x128 .bf16) :
    Gen.LoopInvTy_k0_t1 (F := F) Unit ℕ (Pipeline.UD sig nD τ) ℕ Variants.none c none Set.univ (wh main_v2) (iw _) (wh main_v3) (iw _) (wh main_v4) (iw _) (wh cc0_stg0_0) (iw _) (wh cc0_stg1_0) (iw _) (wh b0) (iw _) (wh b1) (iw _) (wh b2) (iw _) (wh b3) (iw _) (wh b4) (iw _) (wh b5) (iw _) (wh b6) (iw _) (wh b7) (iw _) (wh b8) (iw _) (wh b9) (iw _) b10 v6 v7 v16 v31 where
  inv k _ := iprop(heldAt c (wh b7) X ∗ heldAt c (wh b5) (cutAt1 c v6 v7 v16 v31 X k G))
  step k acc := by
    iintro ⟨HR, HW⟩
    iapply (wp_wand_r frame (wpE (defs₀ (F := F)) Variants.none c.tc none) Set.univ)
    isplitl [HR HW]
    · iapply ((cut1 c v6 v7 v16 v31 X k).2 Set.univ _)
      isplitl [HR]; · iexact HR
      iexact HW
    · iintro %_ ⟨HR, HW⟩
      isplitl [HR]; · iexact HR
      rw [show cutAt1 c v6 v7 v16 v31 X (k.val + 1) G = _ from iterN_succ _ k _]
      iexact HW

/-- After the splitting loop. -/
instance exitCut1 (G : Vec F S4x4096x128 .bf16) :
    LoopExit (loopCut1 c v6 v7 v16 v31 X G) where
  post _ := iprop(heldAt c (wh b7) X ∗ heldAt c (wh b5) (split1 c v6 v7 v16 v31 X))
  exit _ := by
    have e : cutAt1 c v6 v7 v16 v31 X k0_t1_loop.trips G = split1 c v6 v7 v16 v31 X := funext fun y =>
      cutAt1_indep c v6 v7 v16 v31 X G _ _ le_rfl y (lt_of_lt_of_eq (y 1).isLt (by decide +kernel : 4096 = 256 * k0_t1_loop.trips))
    rw [← e]
    exact .rfl

/-- One trip of the loop that splits a block's heads, buffer 9 into buffer 6. -/
@[irreducible] def cut2 (k : Fin k0_t2_loop.trips) :
    { L : List (View.Piece (Elt F) S4x4096x128 .bf16) // ∀ (E : Set ℕ) (f : Vec F S4x4096x128 .bf16),
      iprop(heldAt c (wh b9) X ∗ heldAt c (wh b6) f)
      ⊢ wp frame (wpE (defs₀ (F := F)) Variants.none c.tc none) E (k0_t2_body (F := F) (wh main_v2) (iw _) (wh main_v3) (iw _) (wh main_v4) (iw _) (wh cc0_stg0_0) (iw _) (wh cc0_stg1_0) (iw _) (wh b0) (iw _) (wh b1) (iw _) (wh b2) (iw _) (wh b3) (iw _) (wh b4) (iw _) (wh b5) (iw _) (wh b6) (iw _) (wh b7) (iw _) (wh b8) (iw _) (wh b9) (iw _) b10 v6 v7 v16 v31 k ⟨⟩)
          (fun _ => iprop(heldAt c (wh b9) X ∗ heldAt c (wh b6) ((wh b6).view.writes (Elt F) f L))) } := by
  have hk : k.val < 16 := Nat.lt_of_lt_of_le k.isLt k0_t2_abs.2.1
  refine ⟨?_, fun E f => ?run⟩
  case run =>
    unfold k0_t2_body
    iintro ⟨HR, HW⟩
    sl_exec
    sl_step
    sl_close

/-- The split buffer after the first trips. -/
abbrev cutAt2 (k : ℕ) (f : Vec F S4x4096x128 .bf16) : Vec F S4x4096x128 .bf16 :=
  iterN (fun k f => (wh b6).view.writes (Elt F) f (cut2 c v6 v7 v16 v31 X k).1) k f

theorem cover2 (k : Fin k0_t2_loop.trips) (y : S4x4096x128.Idx)
    (h : 256 * k.val ≤ (y 1).val ∧ (y 1).val < 256 * k.val + 256) : ∃ pc ∈ (cut2 c v6 v7 v16 v31 X k).1, y ∈ pc.1.set := by
  unfold cut2
  dsimp only
  have h0 : (y 0).val < 4 := (y 0).isLt
  by_cases hh : (y 1).val < 256 * k.val + 128 <;> obtain h0 | h0 | h0 | h0 : (y 0).val = 0 ∨ (y 0).val = 1 ∨ (y 0).val = 2 ∨ (y 0).val = 3 := by omega
  · refine ⟨_, .tail _ (.tail _ (.tail _ (.tail _ (.tail _ (.tail _ (.tail _ (.head _))))))), ?_⟩
    rw [Rect.mem_set_unit, (by decide +kernel : ∀ k, k0_off10 k 0#32 = ![0, 256 * k.val + 0, 0]) k]
    exact in_block y 0 _ h0 (by omega)
  · refine ⟨_, .tail _ (.tail _ (.tail _ (.tail _ (.tail _ (.head _))))), ?_⟩
    rw [Rect.mem_set_unit, (by decide +kernel : ∀ k, k0_off12 k 0#32 = ![1, 256 * k.val + 0, 0]) k]
    exact in_block y 1 _ h0 (by omega)
  · refine ⟨_, .tail _ (.tail _ (.tail _ (.head _))), ?_⟩
    rw [Rect.mem_set_unit, (by decide +kernel : ∀ k, k0_off14 k 0#32 = ![2, 256 * k.val + 0, 0]) k]
    exact in_block y 2 _ h0 (by omega)
  · refine ⟨_, .tail _ (.head _), ?_⟩
    rw [Rect.mem_set_unit, (by decide +kernel : ∀ k, k0_off16 k 0#32 = ![3, 256 * k.val + 0, 0]) k]
    exact in_block y 3 _ h0 (by omega)
  · refine ⟨_, .tail _ (.tail _ (.tail _ (.tail _ (.tail _ (.tail _ (.head _)))))), ?_⟩
    rw [Rect.mem_set_unit, (by decide +kernel : ∀ k, k0_off10 k 128#32 = ![0, 256 * k.val + 128, 0]) k]
    exact in_block y 0 _ h0 (by omega)
  · refine ⟨_, .tail _ (.tail _ (.tail _ (.tail _ (.head _)))), ?_⟩
    rw [Rect.mem_set_unit, (by decide +kernel : ∀ k, k0_off12 k 128#32 = ![1, 256 * k.val + 128, 0]) k]
    exact in_block y 1 _ h0 (by omega)
  · refine ⟨_, .tail _ (.tail _ (.head _)), ?_⟩
    rw [Rect.mem_set_unit, (by decide +kernel : ∀ k, k0_off14 k 128#32 = ![2, 256 * k.val + 128, 0]) k]
    exact in_block y 2 _ h0 (by omega)
  · refine ⟨_, .head _, ?_⟩
    rw [Rect.mem_set_unit, (by decide +kernel : ∀ k, k0_off16 k 128#32 = ![3, 256 * k.val + 128, 0]) k]
    exact in_block y 3 _ h0 (by omega)

/-- The split buffer after the loop does not depend on what it held before. -/
theorem cutAt2_indep (f f' : Vec F S4x4096x128 .bf16) :
    ∀ k ≤ k0_t2_loop.trips, ∀ y : S4x4096x128.Idx, (y 1).val < 256 * k → cutAt2 c v6 v7 v16 v31 X k f y = cutAt2 c v6 v7 v16 v31 X k f' y
  | 0, _, y, hy => absurd hy (by omega)
  | k + 1, hk, y, hy => by
      rw [show cutAt2 c v6 v7 v16 v31 X (k + 1) f = _ from iterN_succ _ ⟨k, hk⟩ _, show cutAt2 c v6 v7 v16 v31 X (k + 1) f' = _ from iterN_succ _ ⟨k, hk⟩ _]
      refine writes_at (F := F) (wh b6).view _ _ y _ ?_
      by_cases h : (y 1).val < 256 * k
      · exact Or.inl (cutAt2_indep f f' k (Nat.le_of_succ_le hk) y h)
      · exact Or.inr (cover2 c v6 v7 v16 v31 X ⟨k, hk⟩ y ⟨Nat.le_of_not_lt h, hy⟩)

/-- The split buffer. -/
abbrev split2 : Vec F S4x4096x128 .bf16 :=
  cutAt2 c v6 v7 v16 v31 X k0_t2_loop.trips (fun _ => FloatOps.ofBits .bf16 0)

/-- The splitting loop's invariant: the split buffer as the trips so far leave it. -/
@[sl_loop, instance_reducible] def loopCut2 (G : Vec F S4x4096x128 .bf16) :
    Gen.LoopInvTy_k0_t2 (F := F) Unit ℕ (Pipeline.UD sig nD τ) ℕ Variants.none c none Set.univ (wh main_v2) (iw _) (wh main_v3) (iw _) (wh main_v4) (iw _) (wh cc0_stg0_0) (iw _) (wh cc0_stg1_0) (iw _) (wh b0) (iw _) (wh b1) (iw _) (wh b2) (iw _) (wh b3) (iw _) (wh b4) (iw _) (wh b5) (iw _) (wh b6) (iw _) (wh b7) (iw _) (wh b8) (iw _) (wh b9) (iw _) b10 v6 v7 v16 v31 where
  inv k _ := iprop(heldAt c (wh b9) X ∗ heldAt c (wh b6) (cutAt2 c v6 v7 v16 v31 X k G))
  step k acc := by
    iintro ⟨HR, HW⟩
    iapply (wp_wand_r frame (wpE (defs₀ (F := F)) Variants.none c.tc none) Set.univ)
    isplitl [HR HW]
    · iapply ((cut2 c v6 v7 v16 v31 X k).2 Set.univ _)
      isplitl [HR]; · iexact HR
      iexact HW
    · iintro %_ ⟨HR, HW⟩
      isplitl [HR]; · iexact HR
      rw [show cutAt2 c v6 v7 v16 v31 X (k.val + 1) G = _ from iterN_succ _ k _]
      iexact HW

/-- After the splitting loop. -/
instance exitCut2 (G : Vec F S4x4096x128 .bf16) :
    LoopExit (loopCut2 c v6 v7 v16 v31 X G) where
  post _ := iprop(heldAt c (wh b9) X ∗ heldAt c (wh b6) (split2 c v6 v7 v16 v31 X))
  exit _ := by
    have e : cutAt2 c v6 v7 v16 v31 X k0_t2_loop.trips G = split2 c v6 v7 v16 v31 X := funext fun y =>
      cutAt2_indep c v6 v7 v16 v31 X G _ _ le_rfl y (lt_of_lt_of_eq (y 1).isLt (by decide +kernel : 4096 = 256 * k0_t2_loop.trips))
    rw [← e]
    exact .rfl

end Split

/-- Every word of a step names a block, or none. -/
abbrev AllOk (w : Words) : Prop := WordOk w.1 ∧ WordOk w.2.1 ∧ WordOk w.2.2.1 ∧ WordOk w.2.2.2

theorem chk1_of {w : BitVec 32} (h : WordOk w) : k0_chk1 w := by
  rcases h with rfl | ⟨n, rfl⟩
  · decide +kernel
  · exact (by decide +kernel : ∀ n : Fin 16, k0_chk1 (BitVec.ofNat 32 n.val)) n
theorem chk2_of {w : BitVec 32} (h : WordOk w) : k0_chk2 w := by
  rcases h with rfl | ⟨n, rfl⟩
  · decide +kernel
  · exact (by decide +kernel : ∀ n : Fin 16, k0_chk2 (BitVec.ofNat 32 n.val)) n
theorem chk3_of {w : BitVec 32} (h : WordOk w) : k0_chk3 w := by
  rcases h with rfl | ⟨n, rfl⟩
  · decide +kernel
  · exact (by decide +kernel : ∀ n : Fin 16, k0_chk3 (BitVec.ofNat 32 n.val)) n
theorem WordsOk.of {w : Words} (h : AllOk w) : WordsOk w := ⟨chk1_of h.1, chk2_of h.2.2.1, chk3_of h.2.2.2⟩

theorem trips3 : ∀ i : Fin k0_t3_loop.trips, (k0_t4_loop i).trips = i.val + 1 := by decide +kernel
/-- The key block counts down from the query block. -/
theorem wordOk_sub {i k : ℕ} (hi : i < 16) (hk : k ≤ i) : WordOk (Scalar.subi (Scf.iv 0#32 1#32 i) (Scf.iv 0#32 1#32 k)) :=
  Or.inr ⟨⟨i - k, by omega⟩, (by decide +kernel : ∀ i k : Fin 16, k.val ≤ i.val →
    Scalar.subi (Scf.iv 0#32 1#32 i.val) (Scf.iv 0#32 1#32 k.val) = BitVec.ofNat 32 (i.val - k.val)) ⟨i, hi⟩ ⟨k, by omega⟩ hk⟩

/-- The words and the buffers between two steps. -/
abbrev State (F : FTy → Type) : Type := Words × Bufs F

open Classical in
/-- One step of the loop over the pairs. -/
def next4 (c : Dev nD) (v6 v7 : IVec S128x128 32) (v16 : FVec F S128x256 .bf16) (v31 : FVec F S8x128x128 .bf16) (X : Ins F) (i : Fin k0_t3_loop.trips) (k : Fin (k0_t4_loop i).trips) (s : State F) : State F :=
  if h : WordsOk s.1 then
    ((Scf.iv 0#32 1#32 i, Scalar.subi (Scf.iv 0#32 1#32 i) (Scf.iv 0#32 1#32 k), s.1.1, s.1.2.1), (trip4 c v6 v7 v16 v31 i k s.1 h X s.2).1.over s.2)
  else s

open Classical in
/-- One step of the draining loop. -/
def next6 (c : Dev nD) (v6 v7 : IVec S128x128 32) (v16 : FVec F S128x256 .bf16) (X : Ins F) (k : Fin k0_t6_loop.trips) (s : State F) : State F :=
  if h : WordsOk s.1 then
    ((4294967295#32, 4294967295#32, s.1.1, s.1.2.1), (trip6 c v6 v7 v16 k s.1 h X s.2).1.over s.2)
  else s

/-- The state after the first trips of the inner loop. -/
abbrev inner (c : Dev nD) (v6 v7 : IVec S128x128 32) (v16 : FVec F S128x256 .bf16) (v31 : FVec F S8x128x128 .bf16) (X : Ins F) (i : Fin k0_t3_loop.trips) (k : ℕ) (s : State F) : State F :=
  iterN (next4 c v6 v7 v16 v31 X i) k s
/-- The state after the first trips of the outer loop. -/
abbrev outer (c : Dev nD) (v6 v7 : IVec S128x128 32) (v16 : FVec F S128x256 .bf16) (v31 : FVec F S8x128x128 .bf16) (X : Ins F) (i : ℕ) (s : State F) : State F :=
  iterN (fun i s => inner c v6 v7 v16 v31 X i (k0_t4_loop i).trips s) i s
/-- The state after the first trips of the draining loop. -/
abbrev drain (c : Dev nD) (v6 v7 : IVec S128x128 32) (v16 : FVec F S128x256 .bf16) (X : Ins F) (k : ℕ) (s : State F) : State F :=
  iterN (next6 c v6 v7 v16 X) k s

/-- The resources at state `s`, with the carried words `acc`. -/
abbrev At (c : Dev nD) (X : Ins F) (s : State F) (acc : Words) : sProp 𝕄 :=
  iprop(⌜acc = s.1⌝ ∗ ⌜AllOk acc⌝ ∗ Reads c X ∗ Writes c s.2)

/-- The inner loop's invariant. -/
@[sl_loop, instance_reducible] def loop4 (c : Dev nD) (v6 v7 : IVec S128x128 32) (v16 : FVec F S128x256 .bf16) (v31 : FVec F S8x128x128 .bf16) (i : Fin k0_t3_loop.trips) (init : Words) (hinit : AllOk init) (Xqm Xvm : Vec F S4x4096x128 .bf16) (Xk : Vec F S2048x512 .bf16) (Bacc : Vec F S2048x512 .f32) (Br : Vec F S8x128x128 .f32) (Bz : Vec F S8x128x128 .f32) (Bsp : Vec F S8x128x128 .bf16) (Bab : Vec F S4x128x256 .bf16) (Brc : Vec F S2048x128 .f32) :
    Gen.LoopInvTy_k0_t4 (F := F) Unit ℕ (Pipeline.UD sig nD τ) ℕ Variants.none c none Set.univ (wh main_v2) (iw _) (wh main_v3) (iw _) (wh main_v4) (iw _) (wh cc0_stg0_0) (iw _) (wh cc0_stg1_0) (iw _) (wh b0) (iw _) (wh b1) (iw _) (wh b2) (iw _) (wh b3) (iw _) (wh b4) (iw _) (wh b5) (iw _) (wh b6) (iw _) (wh b7) (iw _) (wh b8) (iw _) (wh b9) (iw _) b10 v6 v7 v16 v31 i (Scf.iv 0#32 1#32 i) init where
  inv k acc := At c ⟨Xqm, Xvm, Xk⟩ (inner c v6 v7 v16 v31 ⟨Xqm, Xvm, Xk⟩ i k (init, ⟨Bacc, Br, Bz, Bsp, Bab, Brc⟩)) acc
  step k acc := by
    iintro ⟨%e, %h, HR, HW⟩
    obtain rfl := e
    iapply (wp_wand_r frame (wpE (defs₀ (F := F)) Variants.none c.tc none) Set.univ)
    isplitl [HR HW]
    · iapply ((trip4 c v6 v7 v16 v31 i k _ (WordsOk.of h) ⟨Xqm, Xvm, Xk⟩ _).2 Set.univ)
      isplitl [HR]; · iexact HR
      iexact HW
    · iintro %r ⟨%hr, HR, HW⟩
      have hi : i.val < 16 := Nat.lt_of_lt_of_le i.isLt k0_t3_abs.2.1
      have hk : k.val ≤ i.val := Nat.le_of_lt_succ (lt_of_lt_of_eq k.isLt (trips3 i))
      rw [show inner c v6 v7 v16 v31 ⟨Xqm, Xvm, Xk⟩ i (k.val + 1) (init, ⟨Bacc, Br, Bz, Bsp, Bab, Brc⟩) = _ from iterN_succ _ k _]
      rw [next4, dif_pos (WordsOk.of h)]
      isplitr
      · ipureintro
        subst hr
        rfl
      isplitr
      · ipureintro
        subst hr
        exact ⟨wordOk_iv hi, wordOk_sub hi hk, h.1, h.2.1⟩
      isplitl [HR]; · iexact HR
      iexact HW

/-- The loop that never runs: its invariant holds what it finds. -/
@[sl_loop, instance_reducible] def loop5 (c : Dev nD) (v6 v7 : IVec S128x128 32) (v16 : FVec F S128x256 .bf16) (v31 : FVec F S8x128x128 .bf16) (i : Fin k0_t3_loop.trips) (arg16 v65 : BitVec 32) (init : Words) :
    Gen.LoopInvTy_k0_t5 (F := F) Unit ℕ (Pipeline.UD sig nD τ) ℕ Variants.none c none Set.univ (wh main_v2) (iw _) (wh main_v3) (iw _) (wh main_v4) (iw _) (wh cc0_stg0_0) (iw _) (wh cc0_stg1_0) (iw _) (wh b0) (iw _) (wh b1) (iw _) (wh b2) (iw _) (wh b3) (iw _) (wh b4) (iw _) (wh b5) (iw _) (wh b6) (iw _) (wh b7) (iw _) (wh b8) (iw _) (wh b9) (iw _) b10 v6 v7 v16 v31 i arg16 v65 init where
  inv _ acc := iprop(⌜acc = init⌝)
  step k acc := absurd k.isLt (Nat.not_lt.2 (Nat.le_trans (k0_t5_abs i).2.1 (Nat.zero_le _)))

/-- The outer loop's invariant. -/
@[sl_loop, instance_reducible] def loop3 (c : Dev nD) (v6 v7 : IVec S128x128 32) (v16 : FVec F S128x256 .bf16) (v31 : FVec F S8x128x128 .bf16) (init : Words) (hinit : AllOk init) (Xqm Xvm : Vec F S4x4096x128 .bf16) (Xk : Vec F S2048x512 .bf16) (Bacc : Vec F S2048x512 .f32) (Br : Vec F S8x128x128 .f32) (Bz : Vec F S8x128x128 .f32) (Bsp : Vec F S8x128x128 .bf16) (Bab : Vec F S4x128x256 .bf16) (Brc : Vec F S2048x128 .f32) :
    Gen.LoopInvTy_k0_t3 (F := F) Unit ℕ (Pipeline.UD sig nD τ) ℕ Variants.none c none Set.univ (wh main_v2) (iw _) (wh main_v3) (iw _) (wh main_v4) (iw _) (wh cc0_stg0_0) (iw _) (wh cc0_stg1_0) (iw _) (wh b0) (iw _) (wh b1) (iw _) (wh b2) (iw _) (wh b3) (iw _) (wh b4) (iw _) (wh b5) (iw _) (wh b6) (iw _) (wh b7) (iw _) (wh b8) (iw _) (wh b9) (iw _) b10 v6 v7 v16 v31 init where
  inv k acc := match k with
    | 0 => At c ⟨Xqm, Xvm, Xk⟩ (init, ⟨Bacc, Br, Bz, Bsp, Bab, Brc⟩) acc
    | k + 1 => At c ⟨Xqm, Xvm, Xk⟩ (outer c v6 v7 v16 v31 ⟨Xqm, Xvm, Xk⟩ (k + 1) (init, ⟨Bacc, Br, Bz, Bsp, Bab, Brc⟩)) acc
  step k acc := by
    refine BIBase.Entails.trans (show _ ⊢ At c ⟨Xqm, Xvm, Xk⟩ (outer c v6 v7 v16 v31 ⟨Xqm, Xvm, Xk⟩ k (init, ⟨Bacc, Br, Bz, Bsp, Bab, Brc⟩)) acc from ?_) ?_
    · obtain ⟨k, hk⟩ := k
      cases k with
      | zero => exact .rfl
      | succ k => exact .rfl
    show _ ⊢ wp _ _ _ _ (fun acc => At c ⟨Xqm, Xvm, Xk⟩ (outer c v6 v7 v16 v31 ⟨Xqm, Xvm, Xk⟩ (k.val + 1) (init, ⟨Bacc, Br, Bz, Bsp, Bab, Brc⟩)) acc)
    iintro ⟨%e, %h, ⟨HRqm, HRvm, HRk⟩, ⟨HWacc, HWr, HWz, HWsp, HWab, HWrc⟩⟩
    rw [show outer c v6 v7 v16 v31 ⟨Xqm, Xvm, Xk⟩ (k.val + 1) (init, ⟨Bacc, Br, Bz, Bsp, Bab, Brc⟩) = inner c v6 v7 v16 v31 ⟨Xqm, Xvm, Xk⟩ k (k0_t4_loop k).trips (outer c v6 v7 v16 v31 ⟨Xqm, Xvm, Xk⟩ k.val (init, ⟨Bacc, Br, Bz, Bsp, Bab, Brc⟩)) from iterN_succ _ k _]
    generalize outer c v6 v7 v16 v31 ⟨Xqm, Xvm, Xk⟩ k.val (init, ⟨Bacc, Br, Bz, Bsp, Bab, Brc⟩) = s at *
    obtain ⟨w, B⟩ := s
    obtain ⟨Cacc, Cr, Cz, Csp, Cab, Crc⟩ := B
    obtain rfl : acc = w := e
    unfold k0_t3_body
    sl_exec
    sl_step
    have e2 : inner c v6 v7 v16 v31 ⟨Xqm, Xvm, Xk⟩ k (k0_t4_loop k).trips (acc, ⟨Cacc, Cr, Cz, Csp, Cab, Crc⟩) = inner c v6 v7 v16 v31 ⟨Xqm, Xvm, Xk⟩ k (Scf.trips (k0_t4_loop k).lb (k0_t4_loop k).ub (k0_t4_loop k).st) ((acc.1, acc.2.1, acc.2.2.1, acc.2.2.2), ⟨Cacc, Cr, Cz, Csp, Cab, Crc⟩) := rfl
    rw [e2]
    generalize inner c v6 v7 v16 v31 ⟨Xqm, Xvm, Xk⟩ k (Scf.trips (k0_t4_loop k).lb (k0_t4_loop k).ub (k0_t4_loop k).st) ((acc.1, acc.2.1, acc.2.2.1, acc.2.2.2), ⟨Cacc, Cr, Cz, Csp, Cab, Crc⟩) = S at *
    obtain ⟨⟨s1, s2, s3, s4⟩, S2⟩ := S
    isplitr
    · ipureintro; rfl
    isplitr
    · ipureintro; assumption
    isplitl [HRqm HRvm HRk]
    · sl_close
    · sl_close

/-- The draining loop's invariant. -/
@[sl_loop, instance_reducible] def loop6 (c : Dev nD) (v6 v7 : IVec S128x128 32) (v16 : FVec F S128x256 .bf16) (init : Words) (hinit : AllOk init) (Xqm Xvm : Vec F S4x4096x128 .bf16) (Xk : Vec F S2048x512 .bf16) (Bacc : Vec F S2048x512 .f32) (Br : Vec F S8x128x128 .f32) (Bz : Vec F S8x128x128 .f32) (Bsp : Vec F S8x128x128 .bf16) (Bab : Vec F S4x128x256 .bf16) (Brc : Vec F S2048x128 .f32) :
    Gen.LoopInvTy_k0_t6 (F := F) Unit ℕ (Pipeline.UD sig nD τ) ℕ Variants.none c none Set.univ (wh main_v2) (iw _) (wh main_v3) (iw _) (wh main_v4) (iw _) (wh cc0_stg0_0) (iw _) (wh cc0_stg1_0) (iw _) (wh b0) (iw _) (wh b1) (iw _) (wh b2) (iw _) (wh b3) (iw _) (wh b4) (iw _) (wh b5) (iw _) (wh b6) (iw _) (wh b7) (iw _) (wh b8) (iw _) (wh b9) (iw _) b10 v6 v7 v16 4294967295#32 0#32 init where
  inv k acc := match k with
    | 0 => At c ⟨Xqm, Xvm, Xk⟩ (init, ⟨Bacc, Br, Bz, Bsp, Bab, Brc⟩) acc
    | k + 1 => At c ⟨Xqm, Xvm, Xk⟩ (drain c v6 v7 v16 ⟨Xqm, Xvm, Xk⟩ (k + 1) (init, ⟨Bacc, Br, Bz, Bsp, Bab, Brc⟩)) acc
  step k acc := by
    refine BIBase.Entails.trans (show _ ⊢ At c ⟨Xqm, Xvm, Xk⟩ (drain c v6 v7 v16 ⟨Xqm, Xvm, Xk⟩ k (init, ⟨Bacc, Br, Bz, Bsp, Bab, Brc⟩)) acc from ?_) ?_
    · obtain ⟨k, hk⟩ := k
      cases k with
      | zero => exact .rfl
      | succ k => exact .rfl
    show _ ⊢ wp _ _ _ _ (fun acc => At c ⟨Xqm, Xvm, Xk⟩ (drain c v6 v7 v16 ⟨Xqm, Xvm, Xk⟩ (k.val + 1) (init, ⟨Bacc, Br, Bz, Bsp, Bab, Brc⟩)) acc)
    iintro ⟨%e, %h, HR, HW⟩
    obtain rfl := e
    iapply (wp_wand_r frame (wpE (defs₀ (F := F)) Variants.none c.tc none) Set.univ)
    isplitl [HR HW]
    · iapply ((trip6 c v6 v7 v16 k _ (WordsOk.of h) ⟨Xqm, Xvm, Xk⟩ _).2 Set.univ)
      isplitl [HR]; · iexact HR
      iexact HW
    · iintro %r ⟨%hr, HR, HW⟩
      rw [show drain c v6 v7 v16 ⟨Xqm, Xvm, Xk⟩ (k.val + 1) (init, ⟨Bacc, Br, Bz, Bsp, Bab, Brc⟩) = _ from iterN_succ _ k _]
      rw [next6, dif_pos (WordsOk.of h)]
      isplitr
      · ipureintro
        subst hr
        rfl
      isplitr
      · ipureintro
        subst hr
        exact ⟨Or.inl rfl, Or.inl rfl, h.1, h.2.1⟩
      isplitl [HR]; · iexact HR
      iexact HW

end Cert.Proof.AttnF
end
-- ==== Proof.AttnFRun.lean ====
module

public import proofs.«01_k».proof.Proof.AttnFLoops

@[expose] public section
set_option maxRecDepth 16384
noncomputable section

namespace Cert.Proof.AttnF

open Cert.AttnFwdIdeal Cert.AttnFwdIdeal.Gen
open Idealize.ShloMosaic TcCoe Tactic
open Memref renaming whole → wh, isWhole_whole → iw
open Idealize.SL RA BI
open scoped BI
open BIBase Laws ProofMode Sem
open Cert.Proof.Attn (iterN iterN_succ in_block WordOk wordOk_iv rowOf)

variable {F : FTy → Type} [FloatOps F] [Named F]
local notation "𝕄" => MT nD τ sig Unit (Elt F) ℕ (Pipeline.UD sig nD τ) ℕ

/-! ## The forward body's run -/

/-- A buffer of core `c`, held whole at contents `f`. -/
abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f

theorem allOk_start : AllOk (4294967295#32, 4294967295#32, 4294967295#32, 4294967295#32) :=
  ⟨Or.inl rfl, Or.inl rfl, Or.inl rfl, Or.inl rfl⟩

/-- The body's own buffers, each whole at some contents. -/
abbrev Scratch (c : Dev nD) : sProp 𝕄 :=
  iprop((∃ d, owns c.tc (wh cc0_scratch0) fullShare d) ∗ (∃ d, owns c.tc (wh cc0_scratch1) fullShare d) ∗ (∃ d, owns c.tc (wh cc0_scratch2) fullShare d) ∗ (∃ d, owns c.tc (wh cc0_scratch3) fullShare d) ∗ (∃ d, owns c.tc (wh cc0_scratch4) fullShare d) ∗ (∃ d, owns c.tc (wh cc0_scratch5) fullShare d) ∗ (∃ d, owns c.tc (wh cc0_scratch6) fullShare d) ∗ (∃ d, owns c.tc (wh cc0_scratch7) fullShare d) ∗ (∃ d, owns c.tc (wh cc0_scratch8) fullShare d) ∗ (∃ d, owns c.tc (wh cc0_scratch9) fullShare d))

/-- The body's own counters, at zero. -/
abbrev Cells (c : Dev nD) : sProp 𝕄 :=
  iprop(semVal ((c : Thread nD τ), SemLoc.dma 2) 0 ∗ semVal ((c : Thread nD τ), SemLoc.dma 3) 0 ∗ semVal ((c : Thread nD τ), SemLoc.dma 4) 0)

/-- The arrays the body's transfers read. -/
abbrev Arrays (c : Dev nD) (f0 f1 f2 : Vec F S2048x512 .bf16) : sProp 𝕄 :=
  iprop(hbPt c (wh main_v2) f0 ∗ hbPt c (wh main_v3) f1 ∗ hbPt c (wh main_v4) f2)

set_option maxHeartbeats 1600000 in
/-- The body's run: what its two results hold at the end, from the arrays it reads. -/
def bodyRun (c : Dev nD) (f0 f1 f2 : Vec F S2048x512 .bf16) :
    { P : List (View.Piece (Elt F) S2048x512 .bf16) × Vec F S2048x128 .f32 // ∀ (W : Waits sig Unit) (K : PUnit → sProp 𝕄),
      iprop((∃ d, owns c.tc (wh cc0_stg0_0) fullShare d) ∗ (∃ d, owns c.tc (wh cc0_stg1_0) fullShare d) ∗ Scratch c ∗ Cells c ∗ Arrays c f0 f1 f2
          ∗ owes (c : Thread nD τ) 0 W
          ∗ (iprop((∃ f, heldAt c (wh cc0_stg0_0) ((wh cc0_stg0_0).view.writes (Elt F) f P.1)) ∗ heldAt c (wh cc0_stg1_0) P.2
              ∗ Scratch c ∗ Cells c ∗ Arrays c f0 f1 f2 ∗ (∃ W', owes (c : Thread nD τ) 0 W')) -∗ K ⟨⟩))
        ⊢ wp frame (wpE (defs₀ (F := F)) Variants.none c.tc none) Set.univ
            (cc0_attn_fwd (wh main_v2) (iw _) (wh main_v3) (iw _) (wh main_v4) (iw _) (wh cc0_stg0_0) (iw _) (wh cc0_stg1_0) (iw _) (wh cc0_scratch0) (iw _) (wh cc0_scratch1) (iw _) (wh cc0_scratch2) (iw _) (wh cc0_scratch3) (iw _) (wh cc0_scratch4) (iw _) (wh cc0_scratch5) (iw _) (wh cc0_scratch6) (iw _) (wh cc0_scratch7) (iw _) (wh cc0_scratch8) (iw _) (wh cc0_scratch9) (iw _) cc0_scratch10) K } := by
  refine ⟨⟨?_, ?_⟩, fun W K => ?run⟩
  case run =>
    simp only [cc0_attn_fwd_eq_skeleton]; unfold cc0_attn_fwd_skel
    simp only [k0_part45_eq_skeleton, k0_part46_eq_skeleton]
    unfold k0_part45_skel k0_part46_skel
    simp only [Prog.bind_assoc]
    unfold Scratch Cells Arrays owns
    have hok := allOk_start
    iintro ⟨⟨%d0, %g0, -, H0⟩, ⟨%d1, %g1, -, H1⟩, ⟨⟨%t0, %s0, -, S0⟩, ⟨%t1, %s1, -, S1⟩, ⟨%t2, %s2, -, S2⟩, ⟨%t3, %s3, -, S3⟩, ⟨%t4, %s4, -, S4⟩, ⟨%t5, %s5, -, S5⟩, ⟨%t6, %s6, -, S6⟩, ⟨%t7, %s7, -, S7⟩, ⟨%t8, %s8, -, S8⟩, ⟨%t9, %s9, -, S9⟩⟩, ⟨Q0, Q1, Q2⟩, ⟨Ha, Hb, Hc⟩, HO, Hk⟩
    sl_exec
    sl_step
    iapply Hk
    sl_close
end Cert.Proof.AttnF
end
-- ==== Proof.AttnFFrame.lean ====
module

public import proofs.«01_k».proof.Proof.AttnFRun
public import proofs.«01_k».proof.Proof.Gen.AttnFwdIdeal.Frame

@[expose] public section
set_option maxRecDepth 16384
noncomputable section

namespace Cert.Proof.AttnF

open Cert.AttnFwdIdeal Cert.AttnFwdIdeal.Gen
open Idealize.ShloMosaic TcCoe Tactic
open Idealize.SL RA BI
open scoped BI
open BIBase Laws ProofMode Sem

variable {F : FTy → Type} [FloatOps F] [Named F]
open Idealize.ShloMosaic.Rounds
open Idealize.ShloMosaic.Pipeline (Dat Cfg Window BodyObligation cellOf)

variable (m : (ℓ : Loc nD τ sig) → Buf (Elt F) ℓ) (ρ : Dev nD → PrngReg)
local notation "𝕄" => MT nD τ sig Unit (Elt F) ℕ (Pipeline.UD sig nD τ) ℕ

/-! ## The launch -/

theorem hmain (𝒱₀ : Variants) : Pipeline.HMain (Ix := Unit) (Name := ℕ) (U := Pipeline.UD sig nD τ) (Lvl := ℕ) cfgs 0 defs₀ 𝒱₀ m (main (F := F)) (Gen.V m) :=
  Pipeline.hmain_prefix cfgs 0 defs₀ 𝒱₀ m main hostOps0 hostOps0_sub hostOps0_fresh main_chain

/-- The body's own counters. -/
abbrev ownCells : Fin 3 → SemLoc sig := fun j => (![SemLoc.dma 2, SemLoc.dma 3, SemLoc.dma 4] : Fin 3 → SemLoc sig) j

theorem ownCells_facts : Pipeline.OwnSemFacts spec0 ownCells := by decide

theorem ownCells_eq (c : Dev nD) :
    (Pipeline.ownSems0 (Ix := Unit) (Name := ℕ) (U := Pipeline.UD sig nD τ) (Lvl := ℕ) (Val := Elt F) (τ := τ) ownCells c : sProp 𝕄) = Cells c := by
  rw [Pipeline.ownSems0_eq_of_list c ownCells [0, 1, 2] (by decide) (by decide)]; rfl

/-- The arrays the body's transfers read. -/
def srcs : Finset (Ref sig .tc) := {main_v2, main_v3, main_v4}

theorem srcs_sub : srcs ⊆ Pipeline.restRefs sig spec0 := by decide

theorem srcs_eq (c : Dev nD) :
    (bigSep srcs (fun b => ((c : Thread nD τ).loc b) ↦{fullShare} Gen.V m c b) : sProp 𝕄)
      = Arrays c (Gen.V m c main_v2) (Gen.V m c main_v3) (Gen.V m c main_v4) := by
  rw [BI.bigSep_eq_bigSepL_of_eq [main_v2, main_v3, main_v4] (by decide) (by decide)]; rfl

theorem phi_eq (c : Dev nD) :
    (Pipeline.ΦD ownCells spec0 srcs (Gen.V m) c : sProp 𝕄)
      = iprop(Scratch c ∗ (∃ r, prngReg c r) ∗ Cells c ∗ Arrays c (Gen.V m c main_v2) (Gen.V m c main_v3) (Gen.V m c main_v4)) := by
  rw [Pipeline.ΦD_eq, scopedRest0_eq, ownCells_eq, srcs_eq]
  simp only [Scratch, owns_whole]

/-- The list of the body's stores into the attention's output. -/
abbrev outL (c : Dev nD) : List (View.Piece (Elt F) S2048x512 .bf16) := (bodyRun c (Gen.V m c main_v2) (Gen.V m c main_v3) (Gen.V m c main_v4)).1.1

/-- The attention's output. -/
def outAt (c : Dev nD) : Vec F S2048x512 .bf16 :=
  (Memref.whole cc0_stg0_0 : Memref sig .tc .vmem S2048x512 .bf16).view.read (Elt F)
    ((Memref.whole cc0_stg0_0 : Memref sig .tc .vmem S2048x512 .bf16).view.writes (Elt F) (Memref.whole cc0_stg0_0 : Memref sig .tc .vmem S2048x512 .bf16).view.junk (outL m c))

/-- The sums the backward pass reads. -/
def rcAt (c : Dev nD) : Vec F S2048x128 .f32 :=
  (Memref.whole cc0_stg1_0 : Memref sig .tc .vmem S2048x128 .f32).view.read (Elt F) (bodyRun c (Gen.V m c main_v2) (Gen.V m c main_v3) (Gen.V m c main_v4)).1.2

theorem coverOut (c : Dev nD) (y : S2048x512.Idx) : ∃ pc ∈ outL m c, y ∈ pc.1.set :=
  View.cover_of_tiledL (outL m c) ![2048, 512] (by sl_kernel_rfl) y

abbrev ms0 : Memref sig .tc .vmem S2048x512 .bf16 := Memref.whole cc0_stg0_0
abbrev ms1 : Memref sig .tc .vmem S2048x128 .f32 := Memref.whole cc0_stg1_0

/-- The pipeline's proof data on core `c`. -/
def dats (_ : Fin 1) (c : Dev nD) : Dat τ (Elt F) Unit ℕ (Pipeline.UD sig nD τ) ℕ cfg0 c where
  A w := Gen.V m c (Pipeline.arrRef spec0 w)
  after w t := match w with
    | ⟨0, _⟩ => outAt m c
    | ⟨1, _⟩ => rcAt m c
  Φ _ := Pipeline.ΦD ownCells spec0 srcs (Gen.V m) c
  q _ := fullShare
  owed _ := 0

theorem A_eq (c : Dev nD) (w : Fin cfg0.W) : (dats m 0 c).A w = Gen.V m c (Pipeline.arrRef spec0 w) := by
  dsimp only [dats]
theorem after0 (c : Dev nD) (t : Fin cfg0.N) : (dats m 0 c).after 0 t = outAt m c := by dsimp only [dats]
theorem after1 (c : Dev nD) (t : Fin cfg0.N) : (dats m 0 c).after 1 t = rcAt m c := by dsimp only [dats]

/-- What the body starts from at point `t`. -/
def bodyPre (c : Dev nD) (t : Fin cfg0.N) : sProp 𝕄 :=
  iprop((dats m 0 c).Φ t.castSucc ∗ (dats m 0 c).owesAt () t.castSucc
    ∗ (∃ d, owns c.tc ms0 fullShare ((dats m 0 c).before 0 t d))
    ∗ (∃ d, owns c.tc ms1 fullShare ((dats m 0 c).before 1 t d)))

/-- What the body ends with at point `t`. -/
def bodyPost (c : Dev nD) (t : Fin cfg0.N) : sProp 𝕄 :=
  iprop((dats m 0 c).Φ t.succ ∗ (dats m 0 c).owesAt () t.succ
    ∗ owns c.tc ms0 fullShare ((dats m 0 c).after 0 t)
    ∗ owns c.tc ms1 fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0, after1]
  rw [show (dats m 0 c).Φ t.castSucc = Pipeline.ΦD ownCells spec0 srcs (Gen.V m) c from rfl, phi_eq]
  unfold Dat.owesAt Pipeline.owesWithin
  rw [show (dats m 0 c).owed t.castSucc = 0 from rfl, show (dats m 0 c).owed t.succ = 0 from rfl]
  iintro ⟨⟨HS, Hg, HQ, HA⟩, ⟨%W, -, HW⟩, ⟨%d0, H0⟩, ⟨%d1, H1⟩⟩
  iapply ((bodyRun c (Gen.V m c main_v2) (Gen.V m c main_v3) (Gen.V m c main_v4)).2 W _)
  isplitl [H0]; · iexists _; iexact H0
  isplitl [H1]; · iexists _; iexact H1
  isplitl [HS]; · iexact HS
  isplitl [HQ]; · iexact HQ
  isplitl [HA]; · iexact HA
  isplitl [HW]; · iexact HW
  iintro ⟨⟨%e0, H0⟩, H1, HS, HQ, HA, ⟨%W', HW'⟩⟩
  isplitl [HS Hg HQ HA]
  · isplitl [HS]; · iexact HS
    isplitl [Hg]; · iexact Hg
    isplitl [HQ]; · iexact HQ
    iexact HA
  isplitl [HW']
  · iexists W'; isplitr; · ipureintro; exact fun _ _ => Or.inl trivial
    iexact HW'
  isplitl [H0]
  · unfold owns outAt; iexists _; isplitr
    swap; · iexact H0
    ipureintro; exact View.read_writes_of_cover _ _ _ _ _ (coverOut m c)
  unfold owns rcAt; iexists _; isplitr
  swap; · iexact H1
  ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) ⟨m, fun _ => 0, ρ⟩ (fun r => Pipeline.FramePost cfgs (dats m) 0 (Gen.V m) r ∧ r.2.sem = fun _ => 0) :=
  Pipeline.θ_run_frame_dma (Q' := _) cfgs (dats m) (0 : Fin 1) launch0 ownCells defs₀ Variants.none ownCells_facts srcs srcs_sub m ρ main
    (hbody := fun c => (body_obligation m c).loose) (hshare := fun c => (dats m 0 c).share_full fun _ => rfl)
    (howed := fun _ _ => rfl) (V := Gen.V m) (hmain := hmain m Variants.none) (hA := A_eq m)
    (hin := fun _ => .rfl) (hout := fun _ => .rfl)

/-- The program ends, faults nowhere, and leaves its arguments and counters as it found them. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.Proof.AttnF
end
-- ==== Proof.AttnFStep.lean ====
/- Hand-written, untrusted: a step of the attention's forward call at a visited pair, buffer by buffer. -/
module

public import proofs.«01_k».proof.Proof.AttnInv
public import proofs.«01_k».proof.Proof.AttnFFrame

@[expose] public section
set_option maxRecDepth 16384
set_option maxHeartbeats 2000000
noncomputable section

namespace Cert.Proof.AttnF

open Cert.AttnFwdIdeal Cert.AttnFwdIdeal.Gen
open Idealize.ShloMosaic TcCoe Tactic
open Idealize.SL.Sem
open Cert.Proof.Attn (Args splitR Pair encI encJ bI bJ Visited onR zE cRow read8 readCols readAcc rd_block rd_cols rd_acc rd_split blk_iv iv_bits off_half off_row off_split blkI blkJ plus_step row_step cRow_off shot)

/-- What the buffers that a step only reads hold. -/
structure InsOk (A : Args) (X : Ins Ideal) : Prop where
  qm : ∀ o : S4x4096x128.Idx, X.qm o = ((splitR A.qs (o 0) (o 1) (o 2) : ℝ) : EReal)
  vm : ∀ o : S4x4096x128.Idx, X.vm o = ((splitR A.v (o 0) (o 1) (o 2) : ℝ) : EReal)
  k : ∀ o : S2048x512.Idx, X.k o = ((A.k (o 0) (o 1) : ℝ) : EReal)

/-- The same of the backward call's. -/
theorem InsOk.back {A : Args} {X : Ins Ideal} (h : InsOk A X) :
    Cert.Proof.Attn.InsOk A ⟨X.qm, fun o => ((splitR A.k (o 0) (o 1) (o 2) : ℝ) : EReal), fun o => ((splitR A.d (o 0) (o 1) (o 2) : ℝ) : EReal), X.k,
      fun o => ((A.v (o 0) (o 1) : ℝ) : EReal), fun o => ((A.rcR (o 0) (o 1) : ℝ) : EReal)⟩ :=
  ⟨h.qm, fun _ => rfl, fun _ => rfl, h.k, fun _ => rfl, fun _ => rfl⟩

/-- The words of two pairs. -/
abbrev wordsOf (b c : Pair) : Words := (encI b, encJ b, encI c, encJ c)

/-- What the buffers hold with `b` and `c` the last two pairs, `e` the pairs before them, and `P` the sums carried on. -/
structure Inv (A : Args) (b c : Pair) (e : List Pair) (P : ℕ → ℕ → ℕ → ℝ) (B : Bufs Ideal) : Prop where
  z : ∀ y : S8x128x128.Idx, B.z y = zE A b (y 0) (y 1) (y 2)
  sp : ∀ y : S8x128x128.Idx, B.sp y = ((onR A.lR b (y 0) (y 1) (y 2) : ℝ) : EReal)
  ab : ∀ y : S4x128x256.Idx, B.ab y = ((onR A.aR c (2 * (y 0).val + (y 2).val / 128) (y 1) ((y 2).val % 128) : ℝ) : EReal)
  r : ∀ y : S8x128x128.Idx, B.r y = ((P (y 0) (y 1) (y 2) : ℝ) : EReal)
  rR : ∀ i j, c = some (i, j) → ∀ n r l : ℕ, n < 8 → r < 128 → P n r l = A.SR n (128 * i + r) (128 * j)
  acc : ∀ y : S2048x512.Idx, B.acc y = (((e.map fun p => cRow A.aR A.v p (y 0) (y 1)).sum : ℝ) : EReal)
  rc : ∀ y : S2048x128.Idx, B.rc y = ((if some ((y 0).val / 128, (y 1).val % 16) ∈ c :: e then A.rcR (y 0) (y 1) else 0 : ℝ) : EReal)

/-- Two neighbouring pairs of the visit: along one query block, key blocks one before another, from the query block's own on. -/
def Chain (b c : Pair) : Prop := ∀ i j, b = some (i, j) → j ≠ i → c = some (i, j + 1)

/-! ## One head of a step -/

/-- The sum carried into a block: none where the block is a row's first. -/
abbrev fIn (wi wj : BitVec 32) (R : FVec Ideal S1x128x128 .f32) : FVec Ideal S128x128 .f32 :=
  Scalar.select (Scalar.cmpi CmpIPredicate.eq wj wi) (broadcast S128x128 (FloatOps.ofBits FTy.f32 0#32)) (shapeCast S128x128 R shapeCasts_S1x128x128_S128x128)
/-- Products with the weights: sums from each key on, then the sum of the whole block. -/
abbrev fSum (SP : FVec Ideal S1x128x128 .bf16) (w : FVec Ideal S128x256 .bf16) : FVec Ideal S128x256 .f32 :=
  matmul dot_S128x128_S128x256_S128x256_1_0_0_1_n_n none (shapeCast S128x128 SP shapeCasts_S1x128x128_S128x128 : FVec Ideal S128x128 .bf16) w (constant S128x256 FTy.f32 0#32)

theorem fIn_real (wi wj : BitVec 32) (R : FVec Ideal S1x128x128 .f32) (r c : Fin 128) (x : ℝ) (h : R (ix3 0 r c) = (x : EReal)) :
    fIn wi wj R (ix2 r c) = ((if wj = wi then 0 else x : ℝ) : EReal) := by
  unfold fIn
  rw [show (Scalar.cmpi CmpIPredicate.eq wj wi) = IntOp.cmpi CmpIPredicate.eq wj wi from rfl, Cert.Proof.Attn.select_eq]
  split
  · pointwise; rfl
  · refine Eq.trans (b := R (ix3 0 r c)) (by pointwise) h

section
variable (SP : FVec Ideal S1x128x128 .bf16) (w : FVec Ideal S128x256 .bf16) (hw : ∀ (l : Fin 128) (c : Fin 256), w (ix2 l c) = ((if c.val ≤ l.val ∨ 128 ≤ c.val then 1 else 0 : ℝ) : EReal))
  (fs : ℕ → ℕ → ℝ) (hS : ∀ r l : Fin 128, SP (ix3 0 r l) = ((fs r l : ℝ) : EReal))
include hw hS

theorem suffix_real (h) (r c : Fin 128) : extractStridedSlice S128x128 ![0, 0] (fSum SP w) h (ix2 r c) = ((∑ l : Fin 128, if c ≤ l then fs r l else 0 : ℝ) : EReal) := by
  refine Eq.trans (b := ∑ l : Fin 128, (SP (ix3 0 r l) : EReal) * w (ix2 l ⟨c.val, by omega⟩)) (by pointwise) ?_
  rw [coe_sum]; refine Finset.sum_congr rfl fun l _ => ?_
  rw [hS, hw, ← EReal.coe_mul]
  have : (c.val ≤ l.val ∨ 128 ≤ c.val) ↔ c ≤ l := ⟨fun h => h.elim id fun h => absurd c.isLt (by omega), Or.inl⟩
  by_cases h : c ≤ l
  · rw [if_pos h, if_pos (this.2 h), mul_one]
  · rw [if_neg h, if_neg (fun h' => h (this.1 h')), mul_zero]

theorem total_real (h) (r c : Fin 128) : extractStridedSlice S128x128 ![0, 128] (fSum SP w) h (ix2 r c) = ((∑ l : Fin 128, fs r l : ℝ) : EReal) := by
  refine Eq.trans (b := ∑ l : Fin 128, (SP (ix3 0 r l) : EReal) * w (ix2 l ⟨128 + c.val, by omega⟩)) (by pointwise) ?_
  rw [coe_sum]; refine Finset.sum_congr rfl fun l _ => ?_
  rw [hS, hw, ← EReal.coe_mul, if_pos (Or.inr (Nat.le_add_right _ _)), mul_one]

end

/-- The sums a step starts from. -/
def pIn (b : Pair) (P : ℕ → ℕ → ℕ → ℝ) (n r l : ℕ) : ℝ := if encJ b = encI b then 0 else P n r l
/-- The sums a step carries on. -/
def pNext (A : Args) (b : Pair) (P : ℕ → ℕ → ℕ → ℝ) (n r l : ℕ) : ℝ := pIn b P n r l + ∑ l' : Fin 128, onR A.lR b n r l'

theorem enc_eq (i j : ℕ) (h : Visited (some (i, j))) : encJ (some (i, j)) = encI (some (i, j)) ↔ j = i :=
  (by decide +kernel : ∀ i j : Fin 16, (BitVec.ofNat 32 j.val = BitVec.ofNat 32 i.val ↔ j.val = i.val)) ⟨i, h.1⟩ ⟨j, lt_of_le_of_lt h.2 h.1⟩

theorem SR_past (A : Args) (n I J : ℕ) (h : I ≤ J) : A.SR n I J = 0 :=
  Finset.sum_eq_zero fun J' hJ => if_neg (by have := (Finset.mem_Ico.1 hJ).1; omega)

theorem pIn_eq (A : Args) (i j : ℕ) (h : Visited (some (i, j))) (P : ℕ → ℕ → ℕ → ℝ) (n r l : ℕ) (hr : r < 128) (hP : j ≠ i → P n r l = A.SR n (128 * i + r) (128 * (j + 1))) :
    pIn (some (i, j)) P n r l = A.SR n (128 * i + r) (128 * (j + 1)) := by
  unfold pIn
  by_cases e : j = i
  · rw [if_pos ((enc_eq i j h).2 e), SR_past A _ _ _ (by omega)]
  · rw [if_neg (fun h' => e ((enc_eq i j h).1 h')), hP e]

theorem pNext_eq (A : Args) (i j : ℕ) (h : Visited (some (i, j))) (P : ℕ → ℕ → ℕ → ℝ) (n r l : ℕ) (hr : r < 128) (hP : j ≠ i → P n r l = A.SR n (128 * i + r) (128 * (j + 1))) :
    pNext A (some (i, j)) P n r l = A.SR n (128 * i + r) (128 * j) := by
  unfold pNext
  rw [pIn_eq A i j h P n r l hr hP, add_comm]
  have e := A.SR_from n (128 * i + r) j (lt_of_le_of_lt h.2 h.1) 0
  rw [show 128 * j + (0 : Fin 128).val = 128 * j from rfl] at e
  rw [← e]
  exact congrArg₂ (· + ·) (Finset.sum_congr rfl fun l _ => (if_pos (Fin.zero_le l)).symm) rfl

theorem weight_step (A : Args) (b : Pair) (vb : Visited b) (n : ℕ) (Z R : FVec Ideal S1x128x128 .f32) (SP : FVec Ideal S1x128x128 .bf16) (w : FVec Ideal S128x256 .bf16)
    (hw : ∀ (l : Fin 128) (c : Fin 256), w (ix2 l c) = ((if c.val ≤ l.val ∨ 128 ≤ c.val then 1 else 0 : ℝ) : EReal)) (P : ℕ → ℕ → ℕ → ℝ)
    (hZ : ∀ r c : Fin 128, Z (ix3 0 r c) = zE A b n r c) (hS : ∀ r l : Fin 128, SP (ix3 0 r l) = ((onR A.lR b n r l : ℝ) : EReal))
    (hR : ∀ r l : Fin 128, R (ix3 0 r l) = ((P n r l : ℝ) : EReal)) (hP : ∀ i j, b = some (i, j) → j ≠ i → ∀ r l : Fin 128, P n r l = A.SR n (128 * i + r) (128 * (j + 1)))
    (h) (r c : Fin 128) :
    truncf (F := Ideal) .bf16 (exp (subf (shapeCast S128x128 Z shapeCasts_S1x128x128_S128x128) (addf (extractStridedSlice S128x128 ![0, 0] (fSum SP w) h) (fIn (encI b) (encJ b) R)))) bitsLt_bf16_f32 (ix2 r c)
      = ((onR A.aR b n r c : ℝ) : EReal) := by
  have e1 := suffix_real SP w hw (fun r l => onR A.lR b n r l) hS h r c
  have e2 := fIn_real (encI b) (encJ b) R r c _ (hR r c)
  have e3 : (shapeCast S128x128 Z shapeCasts_S1x128x128_S128x128 : FVec Ideal S128x128 .f32) (ix2 r c) = zE A b n r c := Eq.trans (b := Z (ix3 0 r c)) (by pointwise) (hZ r c)
  refine Eq.trans (b := Ideal.exp ((shapeCast S128x128 Z shapeCasts_S1x128x128_S128x128 : FVec Ideal S128x128 .f32) (ix2 r c) - (extractStridedSlice S128x128 ![0, 0] (fSum SP w) h (ix2 r c) + fIn (encI b) (encJ b) R (ix2 r c)))) rfl ?_
  rw [e1, e2, e3, ← EReal.coe_add]
  cases b with
  | none => exact (congrArg Ideal.exp (EReal.bot_sub _)).trans rfl
  | some p =>
    obtain ⟨i, j⟩ := p
    have e4 := pIn_eq A i j vb P n r c r.isLt fun hj => hP i j rfl hj r c
    have e5 := A.SR_from n (128 * i + r) j (lt_of_le_of_lt vb.2 vb.1) c
    unfold pIn at e4
    rw [e4]
    refine (Cert.Proof.Attn.exp_zV _ _ _).trans ?_
    show ((if _ then Real.exp (_ - ((∑ l : Fin 128, if c ≤ l then A.lR n (128 * i + r) (128 * j + l) else 0) + _)) else 0 : ℝ) : EReal) = _
    rw [e5]; rfl

theorem carry_step (A : Args) (b : Pair) (n : ℕ) (R : FVec Ideal S1x128x128 .f32) (SP : FVec Ideal S1x128x128 .bf16) (w : FVec Ideal S128x256 .bf16)
    (hw : ∀ (l : Fin 128) (c : Fin 256), w (ix2 l c) = ((if c.val ≤ l.val ∨ 128 ≤ c.val then 1 else 0 : ℝ) : EReal)) (P : ℕ → ℕ → ℕ → ℝ)
    (hS : ∀ r l : Fin 128, SP (ix3 0 r l) = ((onR A.lR b n r l : ℝ) : EReal)) (hR : ∀ r l : Fin 128, R (ix3 0 r l) = ((P n r l : ℝ) : EReal)) (h) (r c : Fin 128) :
    addf (fIn (encI b) (encJ b) R) (extractStridedSlice S128x128 ![0, 128] (fSum SP w) h) (ix2 r c) = ((pNext A b P n r c : ℝ) : EReal) :=
  (congrArg₂ (fun u v : EReal => u + v) (fIn_real (encI b) (encJ b) R r c _ (hR r c)) (total_real SP w hw (fun r l => onR A.lR b n r l) hS h r c)).trans (EReal.coe_add _ _).symm

theorem blk_sub {i k : ℕ} (hi : i < 16) (hk : k ≤ i) : Cert.Proof.Attn.Blk (Scalar.subi (Scf.iv 0#32 1#32 i) (Scf.iv 0#32 1#32 k)) (i - k) := by
  refine .inr ⟨by omega, ?_⟩
  exact (by decide +kernel : ∀ (i k : Fin 16), k ≤ i → Scalar.subi (Scf.iv 0#32 1#32 i.val) (Scf.iv 0#32 1#32 k.val) = BitVec.ofNat 32 (i.val - k.val)) ⟨i, hi⟩ ⟨k, by omega⟩ hk

theorem bias4 (v6 v7 : IVec S128x128 32) (hv : ∀ o : S128x128.Idx, v6 o = BitVec.ofNat 32 (o 1).val) (hv' : ∀ o : S128x128.Idx, v7 o = BitVec.ofNat 32 (o 0).val)
    {i k : ℕ} (hi : i < 16) (hk : k ≤ i) (r l : Fin 128) :
    Cert.AttnIdeal.Gen.k0_pay14 (F := Ideal) v6 v7 (Scf.iv 0#32 1#32 i) (Scalar.subi (Scf.iv 0#32 1#32 i) (Scf.iv 0#32 1#32 k)) (ix2 r l) = if i - k < i ∨ l < r then 0 else ⊥ := by
  rw [(blk_sub hi hk).resolve_left (fun h => by
    have := (by decide +kernel : ∀ (i k : Fin 16), k ≤ i → Scalar.subi (Scf.iv 0#32 1#32 i.val) (Scf.iv 0#32 1#32 k.val) ≠ 4294967295#32) ⟨i, hi⟩ ⟨k, by omega⟩ hk
    exact this h.1) |>.2, iv_bits]
  exact Cert.Proof.Attn.bias_real v6 v7 _ _ hi (by omega) hv hv' r l

section
variable (c : Dev nD) (v6 v7 : IVec S128x128 32) (v16 : FVec Ideal S128x256 .bf16) (v31 : FVec Ideal S8x128x128 .bf16)
  (hv : ∀ o : S128x128.Idx, v6 o = BitVec.ofNat 32 (o 1).val) (hv' : ∀ o : S128x128.Idx, v7 o = BitVec.ofNat 32 (o 0).val)
  (hm : ∀ (l : Fin 128) (c : Fin 256), v16 (ix2 l c) = ((if c.val ≤ l.val ∨ 128 ≤ c.val then 1 else 0 : ℝ) : EReal))
  {A : Args} {X : Ins Ideal} (hX : InsOk A X)
  (pb pc : Pair) (vb : Visited pb) (vc : Visited pc) (hw : WordsOk (wordsOf pb pc)) (e : List Pair) (P : ℕ → ℕ → ℕ → ℝ) (B : Bufs Ideal) (hB : Inv A pb pc e P B)
  (i : Fin k0_t3_loop.trips) (k : Fin (k0_t4_loop i).trips) (hi : i.val < 16) (hk : k.val ≤ i.val)
include hv hv' hm hX vb vc hB hi hk

theorem z4 (y : S8x128x128.Idx) : ((trip4 c v6 v7 v16 v31 i k (wordsOf pb pc) hw X B).1.over B).z y = zE A (some (i.val, i.val - k.val)) (y 0) (y 1) (y 2) := by
  unfold trip4 Pieces.over; dsimp only; sl_unfold_words
  refine read8 (α := Elt Ideal) (e := .f32) (Memref.whole cc0_scratch2).view B.z (zE A (some (i.val, i.val - k.val))) _ _ _ _ _ _ _ _ _ _ _ _ _ _ _ _ _ _ _ _ _ _ _ _ ?_ ?_ ?_ ?_ ?_ ?_ ?_ ?_ y <;> intro r l
  all_goals exact Cert.Proof.Attn.score_step hX.back i.val (i.val - k.val) (Nat.sub_le _ _) _ _ _ _ _ (by rfl) (by first | exact off_half (blk_iv _ hi) 0 | exact off_half (blk_iv _ hi) 1) (by exact off_row (blk_sub hi hk)) (by rfl) _ _ _ r l (bias4 v6 v7 hv hv' hi hk r l)

theorem sp4 (y : S8x128x128.Idx) : ((trip4 c v6 v7 v16 v31 i k (wordsOf pb pc) hw X B).1.over B).sp y = ((onR A.lR (some (i.val, i.val - k.val)) (y 0) (y 1) (y 2) : ℝ) : EReal) := by
  unfold trip4 Pieces.over; dsimp only; sl_unfold_words
  refine read8 (α := Elt Ideal) (e := .bf16) (Memref.whole cc0_scratch3).view B.sp (fun n r l => ((onR A.lR (some (i.val, i.val - k.val)) n r l : ℝ) : EReal)) _ _ _ _ _ _ _ _ _ _ _ _ _ _ _ _ _ _ _ _ _ _ _ _ ?_ ?_ ?_ ?_ ?_ ?_ ?_ ?_ y <;> intro r l
  all_goals exact plus_step A (some (i.val, i.val - k.val)) _ _ r l (Cert.Proof.Attn.score_step hX.back i.val (i.val - k.val) (Nat.sub_le _ _) _ _ _ _ _ (by rfl) (by first | exact off_half (blk_iv _ hi) 0 | exact off_half (blk_iv _ hi) 1) (by exact off_row (blk_sub hi hk)) (by rfl) _ _ _ r l (bias4 v6 v7 hv hv' hi hk r l))

theorem ab4 (hp : Chain pb pc) (y : S4x128x256.Idx) : ((trip4 c v6 v7 v16 v31 i k (wordsOf pb pc) hw X B).1.over B).ab y = ((onR A.aR pb (2 * (y 0).val + (y 2).val / 128) (y 1) ((y 2).val % 128) : ℝ) : EReal) := by
  unfold trip4 Pieces.over; dsimp only; sl_unfold_words
  refine readCols (α := Elt Ideal) (e := .bf16) (Memref.whole cc0_scratch4).view B.ab (fun n r l => ((onR A.aR pb n r l : ℝ) : EReal)) _ _ _ _ _ _ _ _ _ _ _ _ _ _ _ _ _ _ _ _ _ _ _ _ ?_ ?_ ?_ ?_ ?_ ?_ ?_ ?_ y <;> intro r l
  all_goals exact weight_step A pb vb _ _ _ _ v16 hm P (rd_block (e := .f32) B.z _ hB.z _ _) (rd_block (e := .bf16) B.sp (fun n r l => ((onR A.lR pb n r l : ℝ) : EReal)) hB.sp _ _) (rd_block (e := .f32) B.r (fun n r l => ((P n r l : ℝ) : EReal)) hB.r _ _) (fun i j h hj r l => hB.rR i (j + 1) (hp i j h hj) _ r l (by decide) r.isLt) _ r l

theorem r4 (y : S8x128x128.Idx) : ((trip4 c v6 v7 v16 v31 i k (wordsOf pb pc) hw X B).1.over B).r y = ((pNext A pb P (y 0) (y 1) (y 2) : ℝ) : EReal) := by
  unfold trip4 Pieces.over; dsimp only; sl_unfold_words
  refine read8 (α := Elt Ideal) (e := .f32) (Memref.whole cc0_scratch1).view B.r (fun n r l => ((pNext A pb P n r l : ℝ) : EReal)) _ _ _ _ _ _ _ _ _ _ _ _ _ _ _ _ _ _ _ _ _ _ _ _ ?_ ?_ ?_ ?_ ?_ ?_ ?_ ?_ y <;> intro r l
  all_goals exact carry_step A pb _ _ _ v16 hm P (rd_block (e := .bf16) B.sp (fun n r l => ((onR A.lR pb n r l : ℝ) : EReal)) hB.sp _ _) (rd_block (e := .f32) B.r (fun n r l => ((P n r l : ℝ) : EReal)) hB.r _ _) _ r l

theorem acc4 (y : S2048x512.Idx) : ((trip4 c v6 v7 v16 v31 i k (wordsOf pb pc) hw X B).1.over B).acc y = ((((pc :: e).map fun p => cRow A.aR A.v p (y 0) (y 1)).sum : ℝ) : EReal) := by
  unfold trip4 Pieces.over; dsimp only; sl_unfold_words
  refine readAcc (α := Elt Ideal) (e := .f32) (Memref.whole cc0_scratch0).view B.acc (fun I C => ((((pc :: e).map fun p => cRow A.aR A.v p I C).sum : ℝ) : EReal)) _ _ _ _ _ _ _ _ _ _ _ _ _ ?_ ?_ ?_ ?_ y ?_
  iterate 4
    intro r l
    rw [off_row (blkI pc vc)]
    exact row_step A.aR A.v pc (fun I C => (e.map fun p => cRow A.aR A.v p I C).sum) _ _ _ _
      (rd_acc B.acc (fun I C => (e.map fun p => cRow A.aR A.v p I C).sum) hB.acc (bI pc) _ _ _ (by exact off_row (blkI pc vc)) (by rfl) _)
      (rd_cols B.ab (onR A.aR pc) hB.ab _ _) (rd_split X.vm A.v hX.vm _ (bJ pc) _ (by exact off_split (blkJ pc vc)) _) r l
  intro h
  rw [off_row (blkI pc vc)] at h
  refine (hB.acc y).trans (congrArg _ ?_)
  rw [List.map_cons, List.sum_cons, cRow_off _ _ _ _ _ h, zero_add]

end
end Cert.Proof.AttnF
end
-- ==== Proof.AttnFSix.lean ====
/- Hand-written, untrusted: a whole step of the attention's forward loops, and a step past the last pair. -/
module

public import proofs.«01_k».proof.Proof.AttnFStep

@[expose] public section
set_option maxRecDepth 16384
noncomputable section

namespace Cert.Proof.AttnF

open Cert.AttnFwdIdeal Cert.AttnFwdIdeal.Gen
open Idealize.ShloMosaic TcCoe Tactic
open Idealize.SL.Sem
open Cert.Proof.Attn (Args splitR Pair encI encJ bI bJ Visited onR zE cRow read8 readCols readAcc rd_block rd_cols rd_acc rd_split blk_iv iv_bits off_half off_row off_split blkI blkJ plus_step row_step cRow_off shot)

/-- One panel of rows stored over an array, read back. -/
theorem readRows {sp : Space} (v : View sig .tc sp S2048x128 .f32) (f : v.ty.Contents (Elt Ideal)) (G : ℕ → ℕ → EReal) (n t : ℕ) (ht : t = 128 * n) (inb) (w : S128x128.Idx → Elt Ideal .f32)
    (H : ∀ r c : Fin 128, w (ix2 r c) = G (128 * n + r) c) (y : S2048x128.Idx) (Hf : ¬(128 * n ≤ (y 0).val ∧ (y 0).val < 128 * n + 128) → v.read (Elt Ideal) f y = G (y 0) (y 1)) :
    v.read (Elt Ideal) (v.writes (Elt Ideal) f [⟨Rect.unit (s := S2048x128) ![t, 0] ![128, 128] inb, w⟩]) y = G (y 0) (y 1) := by
  subst ht
  have h1 : (y 1).val < 128 := (y 1).isLt
  by_cases h : 128 * n ≤ (y 0).val ∧ (y 0).val < 128 * n + 128
  · refine (View.read_writes_cons_unit_of_mem v f inb w [] y (ix2 ⟨(y 0).val - 128 * n, by omega⟩ ⟨(y 1).val, h1⟩) rfl ?_).trans ?_
    · exact Fin.forall_fin_two.2 ⟨by show (y 0).val = 128 * n + ((y 0).val - 128 * n); omega, by show (y 1).val = 0 + (y 1).val; omega⟩
    · refine (H _ _).trans ?_
      rw [show 128 * n + (⟨(y 0).val - 128 * n, by omega⟩ : Fin 128).val = (y 0).val by dsimp only; omega]
  · refine (View.read_writes_cons_unit v f inb w [] y rfl).trans ((dif_neg fun hh => h ?_).trans (Hf h))
    exact hh 0

theorem rd_rows (Y : S2048x128.Idx → Elt Ideal .f32) (f : ℕ → ℕ → ℝ) (hY : ∀ y : S2048x128.Idx, Y y = ((f (y 0) (y 1) : ℝ) : EReal)) (n t : ℕ) (ht : t = 128 * n) (inb) (r l : Fin 128) :
    View.ld Y (Rect.unit (s := S2048x128) ![t, 0] S128x128.size inb) (ix2 r l) = ((f (128 * n + r) l : ℝ) : EReal) := by
  subst ht
  refine (Cert.Proof.Attn.ldR2 (X := Y) (fun a b => ((f a b : ℝ) : EReal)) hY _ _ _ _ _).trans ?_
  rw [Nat.zero_add]; rfl

theorem cast_self (X : S128x128.Idx → Elt Ideal .f32) (h) (o : S128x128.Idx) : shapeCast S128x128 X h o = X o := by
  rw [eq_ix2 o]; pointwise

theorem lane_bits (p : Pair) (vp : Visited p) (n : ℕ) (hn : n < 8) (c : Fin 128) :
    IntOp.andi (IntOp.cmpi CmpIPredicate.eq (BitVec.ofNat 32 c.val) (Scalar.addi (BitVec.ofNat 32 (16 * n)) (encJ p))) (Scalar.cmpi CmpIPredicate.sge (encI p) 0#32)
      = if p ≠ none ∧ c.val = 16 * n + bJ p then 1#1 else 0#1 := by
  cases p with
  | none =>
    rw [if_neg (fun h => h.1 rfl), show Scalar.cmpi CmpIPredicate.sge (encI none) 0#32 = 0#1 by decide]
    exact BitVec.and_zero
  | some p =>
    obtain ⟨i, j⟩ := p
    rw [show Scalar.cmpi CmpIPredicate.sge (encI (some (i, j))) 0#32 = 1#1 from (by decide +kernel : ∀ i : Fin 16, Scalar.cmpi CmpIPredicate.sge (BitVec.ofNat 32 i.val) 0#32 = 1#1) ⟨i, vp.1⟩]
    have h := (by decide +kernel : ∀ (n : Fin 8) (c : Fin 128) (j : Fin 16), IntOp.andi (IntOp.cmpi CmpIPredicate.eq (BitVec.ofNat 32 c.val) (Scalar.addi (BitVec.ofNat 32 (16 * n.val)) (BitVec.ofNat 32 j.val))) 1#1
      = if c.val = 16 * n.val + j.val then 1#1 else 0#1) ⟨n, hn⟩ c ⟨j, lt_of_le_of_lt vp.2 vp.1⟩
    refine h.trans ?_
    by_cases e : c.val = 16 * n + j
    · rw [if_pos e, if_pos ⟨by simp, e⟩]
    · rw [if_neg e, if_neg (fun h => e h.2)]

/-- What the sums' array holds at a row and lane, once the first `m` heads have stored theirs. -/
def laneV (A : Args) (p : Pair) (old : ℝ) (m I c : ℕ) : ℝ := if p ≠ none ∧ c % 16 = bJ p ∧ c / 16 < m then A.rcR I c else old

theorem lane_step (A : Args) (b : Pair) (vb : Visited b) (v6 : IVec S128x128 32) (hv : ∀ o : S128x128.Idx, v6 o = BitVec.ofNat 32 (o 1).val) (n : ℕ) (hn : n < 8) (R : FVec Ideal S1x128x128 .f32) (Y : FVec Ideal S128x128 .f32) (old : ℝ)
    (P : ℕ → ℕ → ℕ → ℝ) (hR : ∀ r l : Fin 128, R (ix3 0 r l) = ((P n r l : ℝ) : EReal)) (hP : ∀ i j, b = some (i, j) → j ≠ i → ∀ r l : Fin 128, P n r l = A.SR n (128 * i + r) (128 * (j + 1))) (r c : Fin 128)
    (hY : Y (ix2 r c) = ((laneV A b old n (128 * bI b + r) c : ℝ) : EReal)) :
    select (andi (cmpi CmpIPredicate.eq v6 (broadcast S128x128 (Scalar.addi (BitVec.ofNat 32 (16 * n)) (encJ b)))) (broadcast S128x128 (Scalar.cmpi CmpIPredicate.sge (encI b) 0#32))) (fIn (encI b) (encJ b) R) Y (ix2 r c)
      = ((laneV A b old (n + 1) (128 * bI b + r) c : ℝ) : EReal) := by
  refine Eq.trans (b := Scalar.select (IntOp.andi (IntOp.cmpi CmpIPredicate.eq (v6 (ix2 r c)) (Scalar.addi (BitVec.ofNat 32 (16 * n)) (encJ b))) (Scalar.cmpi CmpIPredicate.sge (encI b) 0#32)) (fIn (encI b) (encJ b) R (ix2 r c)) (Y (ix2 r c))) rfl ?_
  rw [hv, show ((ix2 r c : S128x128.Idx) 1).val = c.val from rfl, lane_bits b vb n hn c]
  by_cases h : b ≠ none ∧ c.val = 16 * n + bJ b
  · rw [if_pos h]
    obtain ⟨hb, hc⟩ := h
    cases b with
    | none => exact absurd rfl hb
    | some p =>
      obtain ⟨i, j⟩ := p
      have hj : j < 16 := lt_of_le_of_lt vb.2 vb.1
      have hc' : c.val = 16 * n + j := hc
      refine Eq.trans (b := fIn _ _ R (ix2 r c)) rfl ((fIn_real _ _ R r c _ (hR r c)).trans (congrArg _ ?_))
      refine (pIn_eq A i j vb P n r c r.isLt fun hj => hP i j rfl hj r c).trans ?_
      unfold laneV
      rw [if_pos ⟨hb, by show c.val % 16 = j; omega, by omega⟩]
      unfold Args.rcR
      rw [show c.val / 16 = n by omega, show c.val % 16 = j by omega]; rfl
  · rw [if_neg h]
    refine Eq.trans (b := Y (ix2 r c)) rfl (hY.trans (congrArg _ ?_))
    have hj : bJ b < 16 := by
      cases b with
      | none => decide
      | some p => exact lt_of_le_of_lt vb.2 vb.1
    unfold laneV
    refine if_congr ⟨fun g => ⟨g.1, g.2.1, by omega⟩, fun g => ⟨g.1, g.2.1, ?_⟩⟩ rfl rfl
    by_contra hc
    exact h ⟨g.1, by omega⟩

theorem lane_all (A : Args) (b : Pair) (l : List Pair) (hb : Visited b) (r c : Fin 128) :
    laneV A b (if some ((128 * bI b + r.val) / 128, c.val % 16) ∈ l then A.rcR (128 * bI b + r) c else 0) 8 (128 * bI b + r) c
      = if some ((128 * bI b + r.val) / 128, c.val % 16) ∈ b :: l then A.rcR (128 * bI b + r) c else 0 := by
  unfold laneV
  cases b with
  | none => rw [if_neg (fun h => h.1 rfl)]; simp
  | some p =>
    obtain ⟨i, j⟩ := p
    have e : (128 * bI (some (i, j)) + r.val) / 128 = i := by show (128 * i + r.val) / 128 = i; omega
    rw [e]
    by_cases h : c.val % 16 = j
    · rw [if_pos ⟨by simp, h, by omega⟩, if_pos (by rw [h]; exact List.mem_cons_self)]
    · rw [if_neg (fun g => h g.2.1)]
      refine if_congr ⟨List.mem_cons_of_mem _, fun g => (List.mem_cons.1 g).resolve_left fun g => h ?_⟩ rfl rfl
      exact congrArg Prod.snd (Option.some.inj g)

section
variable (c : Dev nD) (v6 v7 : IVec S128x128 32) (v16 : FVec Ideal S128x256 .bf16) (v31 : FVec Ideal S8x128x128 .bf16)
  (hv : ∀ o : S128x128.Idx, v6 o = BitVec.ofNat 32 (o 1).val) (hv' : ∀ o : S128x128.Idx, v7 o = BitVec.ofNat 32 (o 0).val)
  (hm : ∀ (l : Fin 128) (c : Fin 256), v16 (ix2 l c) = ((if c.val ≤ l.val ∨ 128 ≤ c.val then 1 else 0 : ℝ) : EReal))
  {A : Args} {X : Ins Ideal} (hX : InsOk A X)
  (pb pc : Pair) (vb : Visited pb) (vc : Visited pc) (hw : WordsOk (wordsOf pb pc)) (e : List Pair) (P : ℕ → ℕ → ℕ → ℝ) (B : Bufs Ideal) (hB : Inv A pb pc e P B)
  (i : Fin k0_t3_loop.trips) (k : Fin (k0_t4_loop i).trips) (hi : i.val < 16) (hk : k.val ≤ i.val)
include hv hv' hm hX vb vc hB hi hk

theorem rc4 (hp : Chain pb pc) (y : S2048x128.Idx) : ((trip4 c v6 v7 v16 v31 i k (wordsOf pb pc) hw X B).1.over B).rc y = ((if some ((y 0).val / 128, (y 1).val % 16) ∈ pb :: pc :: e then A.rcR (y 0) (y 1) else 0 : ℝ) : EReal) := by
  have hR : ∀ n < 8, ∀ i j, pb = some (i, j) → j ≠ i → ∀ r l : Fin 128, P n r l = A.SR n (128 * i + r) (128 * (j + 1)) := fun n hn i j h hj r l => hB.rR i (j + 1) (hp i j h hj) n r l hn r.isLt
  unfold trip4 Pieces.over; dsimp only; sl_unfold_words
  refine readRows (Memref.whole cc0_stg1_0).view B.rc (fun I C => ((if some (I / 128, C % 16) ∈ pb :: pc :: e then A.rcR I C else 0 : ℝ) : EReal)) (bI pb) _ ?_ _ _ ?_ y ?_
  · exact off_row (blkI pb vb)
  · intro r l
    rw [← lane_all A pb (pc :: e) vb r l]
    refine (lane_step A pb vb v6 hv 7 (by decide) _ _ _ P (rd_block (e := .f32) B.r (fun n r l => ((P n r l : ℝ) : EReal)) hB.r _ _) (hR 7 (by decide)) r l (lane_step A pb vb v6 hv 6 (by decide) _ _ _ P (rd_block (e := .f32) B.r (fun n r l => ((P n r l : ℝ) : EReal)) hB.r _ _) (hR 6 (by decide)) r l (lane_step A pb vb v6 hv 5 (by decide) _ _ _ P (rd_block (e := .f32) B.r (fun n r l => ((P n r l : ℝ) : EReal)) hB.r _ _) (hR 5 (by decide)) r l (lane_step A pb vb v6 hv 4 (by decide) _ _ _ P (rd_block (e := .f32) B.r (fun n r l => ((P n r l : ℝ) : EReal)) hB.r _ _) (hR 4 (by decide)) r l (lane_step A pb vb v6 hv 3 (by decide) _ _ _ P (rd_block (e := .f32) B.r (fun n r l => ((P n r l : ℝ) : EReal)) hB.r _ _) (hR 3 (by decide)) r l (lane_step A pb vb v6 hv 2 (by decide) _ _ _ P (rd_block (e := .f32) B.r (fun n r l => ((P n r l : ℝ) : EReal)) hB.r _ _) (hR 2 (by decide)) r l (lane_step A pb vb v6 hv 1 (by decide) _ _ _ P (rd_block (e := .f32) B.r (fun n r l => ((P n r l : ℝ) : EReal)) hB.r _ _) (hR 1 (by decide)) r l (lane_step A pb vb v6 hv 0 (by decide) _ _ _ P (rd_block (e := .f32) B.r (fun n r l => ((P n r l : ℝ) : EReal)) hB.r _ _) (hR 0 (by decide)) r l ?_))))))))
    unfold laneV
    rw [if_neg (fun h => absurd h.2.2 (Nat.not_lt_zero _))]
    refine Eq.trans (b := View.ld (Val := Elt Ideal) (e' := .f32) B.rc (Rect.unit (s := S2048x128) ![_, 0] ![128, 128] _) (ix2 r l)) (by unfold k0_pay12; exact Cert.Proof.AttnF.cast_self _ _ _) ?_
    exact rd_rows B.rc (fun I C => if some (I / 128, C % 16) ∈ pc :: e then A.rcR I C else 0) hB.rc (bI pb) _ (by exact off_row (blkI pb vb)) _ r l
  · intro h
    refine (hB.rc y).trans (congrArg _ (if_congr ⟨List.mem_cons_of_mem _, fun g => (List.mem_cons.1 g).resolve_left fun g => h ?_⟩ rfl rfl))
    have : bI pb = (y 0).val / 128 := by rw [← g]; rfl
    omega

/-- A step of the loop over the pairs keeps what the buffers hold. -/
theorem step4 (hp : Chain pb pc) : Inv A (some (i.val, i.val - k.val)) pb (pc :: e) (pNext A pb P) ((trip4 c v6 v7 v16 v31 i k (wordsOf pb pc) hw X B).1.over B) where
  z := z4 c v6 v7 v16 v31 hv hv' hm hX pb pc vb vc hw e P B hB i k hi hk
  sp := sp4 c v6 v7 v16 v31 hv hv' hm hX pb pc vb vc hw e P B hB i k hi hk
  ab := ab4 c v6 v7 v16 v31 hv hv' hm hX pb pc vb vc hw e P B hB i k hi hk hp
  r := r4 c v6 v7 v16 v31 hv hv' hm hX pb pc vb vc hw e P B hB i k hi hk
  rR i' j' h n r l hn hr := by
    subst h
    exact pNext_eq A i' j' vb P n r l hr fun hj => hB.rR i' (j' + 1) (hp i' j' rfl hj) n r l hn hr
  acc := acc4 c v6 v7 v16 v31 hv hv' hm hX pb pc vb vc hw e P B hB i k hi hk
  rc := rc4 c v6 v7 v16 v31 hv hv' hm hX pb pc vb vc hw e P B hB i k hi hk hp

variable (k6 : Fin k0_t6_loop.trips)
omit hv hv' hm hX vb vc hB hi hk in
/-- Past the last pair a step writes as at a pair, but for the scores. -/
theorem same6 : (trip6 c v6 v7 v16 k6 (wordsOf pb pc) hw X B).1.acc = (trip4 c v6 v7 v16 v31 i k (wordsOf pb pc) hw X B).1.acc ∧ (trip6 c v6 v7 v16 k6 (wordsOf pb pc) hw X B).1.r = (trip4 c v6 v7 v16 v31 i k (wordsOf pb pc) hw X B).1.r ∧ (trip6 c v6 v7 v16 k6 (wordsOf pb pc) hw X B).1.ab = (trip4 c v6 v7 v16 v31 i k (wordsOf pb pc) hw X B).1.ab ∧ (trip6 c v6 v7 v16 k6 (wordsOf pb pc) hw X B).1.rc = (trip4 c v6 v7 v16 v31 i k (wordsOf pb pc) hw X B).1.rc := by
  unfold trip6 trip4; exact ⟨rfl, rfl, rfl, rfl⟩

omit hv hv' hm vb vc hB hi hk in
theorem z6 (y : S8x128x128.Idx) : ((trip6 c v6 v7 v16 k6 (wordsOf pb pc) hw X B).1.over B).z y = zE A none (y 0) (y 1) (y 2) := by
  unfold trip6 Pieces.over; dsimp only; sl_unfold_words
  refine read8 (α := Elt Ideal) (e := .f32) (Memref.whole cc0_scratch2).view B.z (zE A none) _ _ _ _ _ _ _ _ _ _ _ _ _ _ _ _ _ _ _ _ _ _ _ _ ?_ ?_ ?_ ?_ ?_ ?_ ?_ ?_ y <;> intro r l
  all_goals exact Cert.Proof.Attn.score_none hX.back _ _ _ _ _ _ _ _ _ r l (Cert.Proof.Attn.bias_none v6 v7 r l)

omit hv hv' hm vb vc hB hi hk in
theorem sp6 (y : S8x128x128.Idx) : ((trip6 c v6 v7 v16 k6 (wordsOf pb pc) hw X B).1.over B).sp y = ((onR A.lR none (y 0) (y 1) (y 2) : ℝ) : EReal) := by
  unfold trip6 Pieces.over; dsimp only; sl_unfold_words
  refine read8 (α := Elt Ideal) (e := .bf16) (Memref.whole cc0_scratch3).view B.sp (fun n r l => ((onR A.lR none n r l : ℝ) : EReal)) _ _ _ _ _ _ _ _ _ _ _ _ _ _ _ _ _ _ _ _ _ _ _ _ ?_ ?_ ?_ ?_ ?_ ?_ ?_ ?_ y <;> intro r l
  all_goals exact plus_step A none _ _ r l (Cert.Proof.Attn.score_none hX.back _ _ _ _ _ _ _ _ _ r l (Cert.Proof.Attn.bias_none v6 v7 r l))

include v31 in
/-- A step past the last pair keeps what the buffers hold, no pair on. -/
theorem step6 (hp : Chain pb pc) : Inv A none pb (pc :: e) (pNext A pb P) ((trip6 c v6 v7 v16 k6 (wordsOf pb pc) hw X B).1.over B) := by
  have E := same6 c v6 v7 v16 v31 (X := X) pb pc hw B i k k6
  have I := step4 c v6 v7 v16 v31 hv hv' hm hX pb pc vb vc hw e P B hB i k hi hk hp
  exact ⟨z6 c v6 v7 v16 hX pb pc hw B k6, sp6 c v6 v7 v16 hX pb pc hw B k6,
    fun y => (congrFun (congrArg (fun l => (Memref.whole cc0_scratch4).view.writes (Elt Ideal) B.ab l) E.2.2.1) y).trans (I.ab y),
    fun y => (congrFun (congrArg (fun l => (Memref.whole cc0_scratch1).view.writes (Elt Ideal) B.r l) E.2.1) y).trans (I.r y),
    I.rR,
    fun y => (congrFun (congrArg (fun l => (Memref.whole cc0_scratch0).view.writes (Elt Ideal) B.acc l) E.1) y).trans (I.acc y),
    fun y => (congrFun (congrArg (fun l => (Memref.whole cc0_stg1_0).view.writes (Elt Ideal) B.rc l) E.2.2.2) y).trans (I.rc y)⟩

end
end Cert.Proof.AttnF
end
-- ==== Proof.AttnFSum.lean ====
/- Hand-written, untrusted: the attention's forward loops, summed over all pairs of blocks. -/
module

public import proofs.«01_k».proof.Proof.AttnFSix
public import proofs.«01_k».proof.Proof.AttnSum

@[expose] public section
set_option maxRecDepth 16384
noncomputable section

namespace Cert.Proof.AttnF

open Cert.AttnFwdIdeal Cert.AttnFwdIdeal.Gen
open Idealize.ShloMosaic TcCoe Tactic
open Idealize.SL.Sem
open Cert.Proof.Attn (Args splitR Pair encI encJ bI bJ Visited onR zE cRow read8 readCols readAcc rd_block rd_cols rd_acc rd_split blk_iv iv_bits off_half off_row off_split blkI blkJ plus_step row_step cRow_off shot)

open Cert.Proof.Attn (okI okJ iv_bits iterN iterN_succ aR_off)

/-- The pairs visited in one query block's first `k` steps, the last one first. -/
def row (i : ℕ) : ℕ → List Pair
  | 0 => []
  | k + 1 => some (i, i - k) :: row i k
/-- The pairs visited in the first `n` query blocks, after the two that are none. -/
def rows : ℕ → List Pair
  | 0 => [none, none]
  | n + 1 => row n (n + 1) ++ rows n

/-- The state's words and buffers are those after the pairs of `l`. -/
def Good (A : Args) (l : List Pair) (s : State Ideal) : Prop :=
  ∃ b c e P, l = b :: c :: e ∧ s.1 = wordsOf b c ∧ Visited b ∧ Visited c ∧ Chain b c ∧ Inv A b c e P s.2

theorem sub_bits {i k : ℕ} (hi : i < 16) (hk : k ≤ i) : Scalar.subi (Scf.iv 0#32 1#32 i) (Scf.iv 0#32 1#32 k) = BitVec.ofNat 32 (i - k) :=
  (by decide +kernel : ∀ (i k : Fin 16), k ≤ i → Scalar.subi (Scf.iv 0#32 1#32 i.val) (Scf.iv 0#32 1#32 k.val) = BitVec.ofNat 32 (i.val - k.val)) ⟨i, hi⟩ ⟨k, by omega⟩ hk

theorem okOf {pb pc : Pair} (vb : Visited pb) (vc : Visited pc) : WordsOk (wordsOf pb pc) := WordsOk.of ⟨okI vb, okJ vb, okI vc, okJ vc⟩

section
variable (c : Dev nD) (v6 v7 : IVec S128x128 32) (v16 : FVec Ideal S128x256 .bf16) (v31 : FVec Ideal S8x128x128 .bf16)
  (hv : ∀ o : S128x128.Idx, v6 o = BitVec.ofNat 32 (o 1).val) (hv' : ∀ o : S128x128.Idx, v7 o = BitVec.ofNat 32 (o 0).val)
  (hm : ∀ (l : Fin 128) (c : Fin 256), v16 (ix2 l c) = ((if c.val ≤ l.val ∨ 128 ≤ c.val then 1 else 0 : ℝ) : EReal))
  {A : Args} {X : Ins Ideal} (hX : InsOk A X)
include hv hv' hm hX

theorem good4 (i : Fin k0_t3_loop.trips) (k : Fin (k0_t4_loop i).trips) (hi : i.val < 16) (hk : k.val ≤ i.val) (l : List Pair) (s : State Ideal) (hs : Good A l s)
    (hl : ∀ j, k.val = j + 1 → l.head? = some (some (i.val, i.val - j))) : Good A (some (i.val, i.val - k.val) :: l) (next4 c v6 v7 v16 v31 X i k s) := by
  obtain ⟨pb, pc, e, P, rfl, hw, vb, vc, hbc, hB⟩ := hs
  obtain ⟨w, B⟩ := s
  obtain rfl : w = wordsOf pb pc := hw
  have ok := okOf vb vc
  unfold next4
  rw [dif_pos ok]
  refine ⟨some (i.val, i.val - k.val), pb, pc :: e, pNext A pb P, rfl, ?_, ⟨hi, Nat.sub_le _ _⟩, vb, ?_, step4 c v6 v7 v16 v31 hv hv' hm hX pb pc vb vc ok e P B hB i k hi hk hbc⟩
  · show (Scf.iv 0#32 1#32 i.val, Scalar.subi (Scf.iv 0#32 1#32 i.val) (Scf.iv 0#32 1#32 k.val), _) = _
    rw [sub_bits hi hk, iv_bits]; rfl
  · intro i' j' h hj
    have h' := Option.some.inj h
    obtain rfl : i.val = i' := congrArg Prod.fst h'
    obtain rfl : i.val - k.val = j' := congrArg Prod.snd h'
    have := Option.some.inj (hl (k.val - 1) (by omega))
    rw [this, show i.val - (k.val - 1) = i.val - k.val + 1 by omega]

include v31 in
theorem good6 (k : Fin k0_t6_loop.trips) (l : List Pair) (s : State Ideal) (hs : Good A l s) : Good A (none :: l) (next6 c v6 v7 v16 X k s) := by
  obtain ⟨pb, pc, e, P, rfl, hw, vb, vc, hbc, hB⟩ := hs
  obtain ⟨w, B⟩ := s
  obtain rfl : w = wordsOf pb pc := hw
  have ok := okOf vb vc
  unfold next6
  rw [dif_pos ok]
  exact ⟨none, pb, pc :: e, pNext A pb P, rfl, rfl, trivial, vb, (fun _ _ h => by cases h),
    step6 c v6 v7 v16 v31 hv hv' hm hX pb pc vb vc ok e P B hB ⟨0, by decide +kernel⟩ ⟨0, by decide +kernel⟩ (by decide) (by decide) k hbc⟩

theorem good_inner (i : Fin k0_t3_loop.trips) (l : List Pair) (s : State Ideal) (hs : Good A l s) (k : ℕ) (hk : k ≤ (k0_t4_loop i).trips) :
    Good A (row i.val k ++ l) (inner c v6 v7 v16 v31 X i k s) := by
  have hi : i.val < 16 := lt_of_lt_of_eq i.isLt (by decide +kernel)
  have ht : (k0_t4_loop i).trips = i.val + 1 := (by decide +kernel : ∀ i : Fin k0_t3_loop.trips, (k0_t4_loop i).trips = i.val + 1) i
  induction k with
  | zero => exact hs
  | succ k ih =>
    have h := ih (by omega)
    unfold inner at h ⊢
    rw [iterN_succ (next4 c v6 v7 v16 v31 X i) ⟨k, hk⟩ s]
    refine good4 c v6 v7 v16 v31 hv hv' hm hX i ⟨k, hk⟩ hi (by dsimp only; omega) _ _ h fun j hj => ?_
    dsimp only at hj; subst hj; rfl

theorem good_outer (s : State Ideal) (hs : Good A [none, none] s) (n : ℕ) (hn : n ≤ k0_t3_loop.trips) : Good A (rows n) (outer c v6 v7 v16 v31 X n s) := by
  induction n with
  | zero => exact hs
  | succ n ih =>
    have h := ih (by omega)
    unfold outer at h ⊢
    rw [iterN_succ (fun i s => inner c v6 v7 v16 v31 X i (k0_t4_loop i).trips s) ⟨n, hn⟩ s]
    have e : row n (n + 1) = row n (k0_t4_loop ⟨n, hn⟩).trips := by
      rw [(by decide +kernel : ∀ i : Fin k0_t3_loop.trips, (k0_t4_loop i).trips = i.val + 1) ⟨n, hn⟩]
    unfold rows
    rw [e]
    exact good_inner c v6 v7 v16 v31 hv hv' hm hX ⟨n, hn⟩ _ _ h _ le_rfl

include v31 in
theorem good_drain (l : List Pair) (s : State Ideal) (hs : Good A l s) : Good A (none :: none :: l) (drain c v6 v7 v16 X 2 s) := by
  have h2 : k0_t6_loop.trips = 2 := by decide +kernel
  have g := fun (k : Fin k0_t6_loop.trips) l s hs => good6 c v6 v7 v16 v31 hv hv' hm hX k l s hs
  unfold drain
  rw [iterN_succ (next6 c v6 v7 v16 X) ⟨1, by omega⟩, iterN_succ (next6 c v6 v7 v16 X) ⟨0, by omega⟩]
  exact g _ _ _ (g _ _ _ hs)

end

/-! ## Sums over all pairs -/

theorem sum_row (f : ℕ → ℕ → ℕ → ℝ) (g : ℕ → ℕ → ℝ) (i k I col : ℕ) (hk : k ≤ i + 1) :
    ((row i k).map fun p => cRow f g p I col).sum = if I / 128 = i then ∑ J ∈ Finset.Ico (128 * (i + 1 - k)) (128 * (i + 1)), f (col / 64) I J * g J col else 0 := by
  induction k with
  | zero => simp [row]
  | succ k ih =>
    unfold row
    rw [List.map_cons, List.sum_cons, ih (by omega)]
    unfold cRow
    dsimp only
    by_cases h : I / 128 = i
    · rw [if_pos h, if_pos h, if_pos h, Fin.sum_univ_eq_sum_range (fun l => f (col / 64) I (128 * (i - k) + l) * g (128 * (i - k) + l) col) 128,
        ← Finset.sum_Ico_consecutive (fun J => f (col / 64) I J * g J col) (show 128 * (i + 1 - (k + 1)) ≤ 128 * (i + 1 - k) by omega) (show 128 * (i + 1 - k) ≤ 128 * (i + 1) by omega)]
      congr 1
      rw [Finset.sum_Ico_eq_sum_range, show 128 * (i + 1 - k) - 128 * (i + 1 - (k + 1)) = 128 by omega, show i + 1 - (k + 1) = i - k by omega]
    · rw [if_neg h, if_neg h, if_neg h, add_zero]

theorem sum_rows (f : ℕ → ℕ → ℕ → ℝ) (g : ℕ → ℕ → ℝ) (n : ℕ) (hn : n ≤ 16) (I col : ℕ) (hf : ∀ n I J, I ≤ J → f n I J = 0) :
    ((rows n).map fun p => cRow f g p I col).sum = if I / 128 < n then ∑ J ∈ Finset.range 2048, f (col / 64) I J * g J col else 0 := by
  induction n with
  | zero => simp [rows, cRow]
  | succ n ih =>
    unfold rows
    rw [List.map_append, List.sum_append, ih (by omega), sum_row _ _ _ _ _ _ le_rfl]
    by_cases h : I / 128 = n
    · rw [if_pos h, if_neg (by omega), if_pos (by omega), add_zero, Nat.sub_self, Nat.mul_zero, ← Finset.range_eq_Ico]
      refine Finset.sum_subset (Finset.range_mono (by omega)) fun J _ hJ => ?_
      rw [hf _ _ _ (by have := Nat.le_of_not_lt fun h => hJ (Finset.mem_range.2 h); omega), zero_mul]
    · rw [if_neg h, zero_add]
      by_cases h' : I / 128 < n
      · rw [if_pos h', if_pos (by omega)]
      · rw [if_neg h', if_neg (by omega)]

theorem mem_row (i a b : ℕ) (h : a = i) (hb : b ≤ a) : some (a, b) ∈ row i (i + 1) := by
  subst h
  have key : ∀ k, a < b + k → some (a, b) ∈ row a k := by
    intro k
    induction k with
    | zero => intro h; omega
    | succ k ih =>
      intro h
      unfold row
      by_cases e : b = a - k
      · rw [e]; exact List.mem_cons_self
      · exact List.mem_cons_of_mem _ (ih (by omega))
  exact key _ (by omega)

theorem mem_rows (n a b : ℕ) (ha : a < n) (hb : b ≤ a) : some (a, b) ∈ rows n := by
  induction n with
  | zero => omega
  | succ n ih =>
    unfold rows
    rcases Nat.lt_or_ge a n with h | h
    · exact List.mem_append_right _ (ih h)
    · exact List.mem_append_left _ (mem_row n a b (by omega) hb)

/-- What the two results hold after all steps. -/
theorem good_end {A : Args} {s : State Ideal} (h : Good A (none :: none :: rows 16) s) :
    (∀ y : S2048x512.Idx, s.2.acc y = ((∑ J ∈ Finset.range 2048, A.aR ((y 1).val / 64) (y 0) J * A.v J (y 1) : ℝ) : EReal)) ∧
    (∀ y : S2048x128.Idx, s.2.rc y = ((A.rcR (y 0) (y 1) : ℝ) : EReal)) := by
  obtain ⟨pb, pc, e, P, hl, -, -, -, -, hB⟩ := h
  simp only [List.cons.injEq] at hl
  obtain ⟨rfl, rfl, rfl⟩ := hl
  refine ⟨fun y => (hB.acc y).trans (congrArg _ ?_), fun y => (hB.rc y).trans (congrArg _ ?_)⟩
  · rw [sum_rows _ _ _ le_rfl _ _ (aR_off A), if_pos (by have : (y 0).val < 2048 := (y 0).isLt; omega)]
  · have h0 : (y 0).val < 2048 := (y 0).isLt
    by_cases h : (y 1).val % 16 ≤ (y 0).val / 128
    · rw [if_pos (List.mem_cons_of_mem _ (mem_rows 16 _ _ (by omega) h))]
    · have : A.rcR (y 0) (y 1) = 0 := SR_past A _ _ _ (by omega)
      rw [this, ite_self]

end Cert.Proof.AttnF
end
-- ==== Proof.AttnFSplit.lean ====
/- Hand-written, untrusted: the attention's forward body's arrays, split by heads. -/
module

public import proofs.«01_k».proof.Proof.AttnFStep
public import proofs.«01_k».proof.Proof.AttnSplit

@[expose] public section
set_option maxRecDepth 16384
noncomputable section

namespace Cert.Proof.AttnF

open Cert.AttnFwdIdeal Cert.AttnFwdIdeal.Gen
open Idealize.ShloMosaic TcCoe Tactic
open Idealize.SL.Sem
open Cert.Proof.Attn (Args splitR ldR2 readSplit half_lo half_hi off_src off_dst iterN iterN_succ)

section
variable (c : Dev nD) (v6 v7 : IVec S128x128 32) (v16 : FVec Ideal S128x256 .bf16) (v31 : FVec Ideal S8x128x128 .bf16)
  (X : Vec Ideal S2048x512 .bf16) (f : ℕ → ℕ → ℝ) (hX : ∀ o : S2048x512.Idx, X o = ((f (o 0) (o 1) : ℝ) : EReal))
include hX

theorem rd_src (k t p cc : ℕ) (ht : t = 128 * k) (hc : cc = 128 * p) (inb) (r l : Fin 128) :
    View.ld (Val := Elt Ideal) (e' := .bf16) X (Rect.unit (s := S2048x512) ![t, cc] S128x128.size inb) (ix2 r l) = ((f (128 * k + r) (128 * p + l) : ℝ) : EReal) := by
  subst ht hc
  exact ldR2 (e := .bf16) (X := X) (fun a b => ((f a b : ℝ) : EReal)) hX _ _ _ _ _

set_option maxHeartbeats 1000000 in
theorem cut1_at (k : Fin k0_t1_loop.trips) (B : Vec Ideal S4x4096x128 .bf16) (y : S4x4096x128.Idx)
    (hB : ¬(256 * k.val ≤ (y 1).val ∧ (y 1).val < 256 * k.val + 256) → B y = ((splitR f (y 0) (y 1) (y 2) : ℝ) : EReal)) :
    (Memref.whole cc0_scratch5).view.writes (Elt Ideal) B (cut1 c v6 v7 v16 v31 X k).1 y = ((splitR f (y 0) (y 1) (y 2) : ℝ) : EReal) := by
  have hk : k.val < 16 := lt_of_lt_of_eq k.isLt (by decide +kernel)
  unfold cut1; dsimp only; sl_unfold_words
  refine readSplit (α := Elt Ideal) (e := .bf16) (Memref.whole cc0_scratch5).view B (fun a b c => ((splitR f a b c : ℝ) : EReal)) k.val _ _ ?_ ?_ _ _ _ _ _ _ _ _ _ _ _ _ _ _ _ _ _ _ _ _ _ _ _ _ ?_ ?_ ?_ ?_ ?_ ?_ ?_ ?_ y hB
  · exact off_dst k.val hk 0
  · exact off_dst k.val hk 1
  iterate 4
    · exact half_lo _ f k.val _ _ (rd_src X f hX k.val _ _ _ (by exact off_src k.val hk) (by rfl) _) rfl
    · exact half_hi _ f k.val _ _ (rd_src X f hX k.val _ _ _ (by exact off_src k.val hk) (by rfl) _) rfl

/-- The split buffer holds the array split by heads. -/
theorem split1_eq (y : S4x4096x128.Idx) : split1 c v6 v7 v16 v31 X y = ((splitR f (y 0) (y 1) (y 2) : ℝ) : EReal) := by
  have ht : k0_t1_loop.trips = 16 := by decide +kernel
  have key : ∀ k ≤ k0_t1_loop.trips, ∀ y : S4x4096x128.Idx, (y 1).val < 256 * k →
      cutAt1 c v6 v7 v16 v31 X k (fun _ => (FloatOps.ofBits .bf16 0 : Ideal .bf16)) y = ((splitR f (y 0) (y 1) (y 2) : ℝ) : EReal) := by
    intro k
    induction k with
    | zero => intro _ y hy; exact absurd hy (by omega)
    | succ k ih =>
      intro hk y hy
      rw [show cutAt1 c v6 v7 v16 v31 X (k + 1) (fun _ => (FloatOps.ofBits .bf16 0 : Ideal .bf16)) = _ from iterN_succ _ ⟨k, hk⟩ _]
      exact cut1_at c v6 v7 v16 v31 X f hX ⟨k, hk⟩ _ y fun h => ih (Nat.le_of_succ_le hk) y (by dsimp only at h; omega)
  exact key _ le_rfl y (by have : (y 1).val < 4096 := (y 1).isLt; omega)

set_option maxHeartbeats 1000000 in
theorem cut2_at (k : Fin k0_t2_loop.trips) (B : Vec Ideal S4x4096x128 .bf16) (y : S4x4096x128.Idx)
    (hB : ¬(256 * k.val ≤ (y 1).val ∧ (y 1).val < 256 * k.val + 256) → B y = ((splitR f (y 0) (y 1) (y 2) : ℝ) : EReal)) :
    (Memref.whole cc0_scratch6).view.writes (Elt Ideal) B (cut2 c v6 v7 v16 v31 X k).1 y = ((splitR f (y 0) (y 1) (y 2) : ℝ) : EReal) := by
  have hk : k.val < 16 := lt_of_lt_of_eq k.isLt (by decide +kernel)
  unfold cut2; dsimp only; sl_unfold_words
  refine readSplit (α := Elt Ideal) (e := .bf16) (Memref.whole cc0_scratch6).view B (fun a b c => ((splitR f a b c : ℝ) : EReal)) k.val _ _ ?_ ?_ _ _ _ _ _ _ _ _ _ _ _ _ _ _ _ _ _ _ _ _ _ _ _ _ ?_ ?_ ?_ ?_ ?_ ?_ ?_ ?_ y hB
  · exact off_dst k.val hk 0
  · exact off_dst k.val hk 1
  iterate 4
    · exact half_lo _ f k.val _ _ (rd_src X f hX k.val _ _ _ (by exact off_src k.val hk) (by rfl) _) rfl
    · exact half_hi _ f k.val _ _ (rd_src X f hX k.val _ _ _ (by exact off_src k.val hk) (by rfl) _) rfl

/-- The split buffer holds the array split by heads. -/
theorem split2_eq (y : S4x4096x128.Idx) : split2 c v6 v7 v16 v31 X y = ((splitR f (y 0) (y 1) (y 2) : ℝ) : EReal) := by
  have ht : k0_t2_loop.trips = 16 := by decide +kernel
  have key : ∀ k ≤ k0_t2_loop.trips, ∀ y : S4x4096x128.Idx, (y 1).val < 256 * k →
      cutAt2 c v6 v7 v16 v31 X k (fun _ => (FloatOps.ofBits .bf16 0 : Ideal .bf16)) y = ((splitR f (y 0) (y 1) (y 2) : ℝ) : EReal) := by
    intro k
    induction k with
    | zero => intro _ y hy; exact absurd hy (by omega)
    | succ k ih =>
      intro hk y hy
      rw [show cutAt2 c v6 v7 v16 v31 X (k + 1) (fun _ => (FloatOps.ofBits .bf16 0 : Ideal .bf16)) = _ from iterN_succ _ ⟨k, hk⟩ _]
      exact cut2_at c v6 v7 v16 v31 X f hX ⟨k, hk⟩ _ y fun h => ih (Nat.le_of_succ_le hk) y (by dsimp only at h; omega)
  exact key _ le_rfl y (by have : (y 1).val < 4096 := (y 1).isLt; omega)

end
end Cert.Proof.AttnF
end
-- ==== Proof.AttnFOut.lean ====
/- Hand-written, untrusted: what the attention's forward body stores. -/
module

public import proofs.«01_k».proof.Proof.AttnFSum
public import proofs.«01_k».proof.Proof.AttnFSplit
public import proofs.«01_k».proof.Proof.AttnOut

@[expose] public section
set_option maxRecDepth 16384
noncomputable section

namespace Cert.Proof.AttnF

open Cert.AttnFwdIdeal Cert.AttnFwdIdeal.Gen
open Idealize.ShloMosaic TcCoe Tactic
open Memref renaming whole → wh
open Idealize.SL.Sem
open Cert.Proof.Attn (Args whole_writes zero32 zero16 lanes rowsOf lanes_at rowsOf_at ofWord sitofp_one sitofp_zero ld_all)

/-- The state before the loops. -/
def start : State Ideal :=
  ((4294967295#32, 4294967295#32, 4294967295#32, 4294967295#32),
   ⟨(wh cc0_scratch0).view.writes (Elt Ideal) (wh cc0_scratch0).view.junk [⟨Rect.unit ![0, 0] ![2048, 512] inb_S2048x512_S2048x512_0_0, (k0_pay248 (F := Ideal))⟩],
    (wh cc0_scratch1).view.writes (Elt Ideal) (wh cc0_scratch1).view.junk [⟨Rect.unit ![0, 0, 0] ![8, 128, 128] inb_S8x128x128_S8x128x128_0_0_0, (k0_pay249 (F := Ideal))⟩],
    (wh cc0_scratch2).view.writes (Elt Ideal) (wh cc0_scratch2).view.junk [⟨Rect.unit ![0, 0, 0] ![8, 128, 128] inb_S8x128x128_S8x128x128_0_0_0, (k0_pay251 (F := Ideal))⟩],
    (wh cc0_scratch3).view.writes (Elt Ideal) (wh cc0_scratch3).view.junk [⟨Rect.unit ![0, 0, 0] ![8, 128, 128] inb_S8x128x128_S8x128x128_0_0_0, (k0_pay253 (k0_pay252 (F := Ideal)))⟩],
    (wh cc0_scratch4).view.writes (Elt Ideal) (wh cc0_scratch4).view.junk [⟨Rect.unit ![0, 0, 0] ![4, 128, 256] inb_S4x128x256_S4x128x256_0_0_0, (k0_pay254 (F := Ideal))⟩],
    (wh cc0_stg1_0).view.writes (Elt Ideal) (wh cc0_stg1_0).view.junk [⟨Rect.unit ![0, 0] ![2048, 128] inb_S2048x128_S2048x128_0_0, (k0_pay250 (F := Ideal))⟩]⟩)

/-! What a copy into a scratch buffer leaves. -/

def copied7 (f : Vec Ideal S2048x512 .bf16) : Vec Ideal S2048x512 .bf16 :=
  (wh cc0_scratch7).view.writes (Elt Ideal) (wh cc0_scratch7).view.junk [⟨Rect.whole cc0_scratch7.ty.shape, ReadAs.same.apply (View.read (Elt Ideal) (wh main_v2).view f)⟩]
theorem copied7_eq (f : Vec Ideal S2048x512 .bf16) : copied7 f = f := by
  exact whole_writes cc0_scratch7 _ _
def copied8 (f : Vec Ideal S2048x512 .bf16) : Vec Ideal S2048x512 .bf16 :=
  (wh cc0_scratch8).view.writes (Elt Ideal) (wh cc0_scratch8).view.junk [⟨Rect.whole cc0_scratch8.ty.shape, ReadAs.same.apply (View.read (Elt Ideal) (wh main_v3).view f)⟩]
theorem copied8_eq (f : Vec Ideal S2048x512 .bf16) : copied8 f = f := by
  exact whole_writes cc0_scratch8 _ _
def copied9 (f : Vec Ideal S2048x512 .bf16) : Vec Ideal S2048x512 .bf16 :=
  (wh cc0_scratch9).view.writes (Elt Ideal) (wh cc0_scratch9).view.junk [⟨Rect.whole cc0_scratch9.ty.shape, ReadAs.same.apply (View.read (Elt Ideal) (wh main_v4).view f)⟩]
theorem copied9_eq (f : Vec Ideal S2048x512 .bf16) : copied9 f = f := by
  exact whole_writes cc0_scratch9 _ _

/-- The matrix of sums from each key on, then of the whole block. -/
theorem weights_at (l : Fin 128) (c : Fin 256) : (k0_pay247 (F := Ideal)) (ix2 l c) = ((if c.val ≤ l.val ∨ 128 ≤ c.val then 1 else 0 : ℝ) : EReal) := by
  refine Eq.trans (b := ofWord (BitVec.setWidth 32
    (IntOp.ori (IntOp.cmpi CmpIPredicate.sge (BitVec.ofNat 32 l.val) (BitVec.ofNat 32 c.val)) (IntOp.cmpi CmpIPredicate.sge (BitVec.ofNat 32 c.val) 128#32)))) (by pointwise [k0_pay247]) ?_
  rw [(by decide +kernel : ∀ (l : Fin 128) (c : Fin 256), BitVec.setWidth 32
    (IntOp.ori (IntOp.cmpi CmpIPredicate.sge (BitVec.ofNat 32 l.val) (BitVec.ofNat 32 c.val)) (IntOp.cmpi CmpIPredicate.sge (BitVec.ofNat 32 c.val) 128#32))
      = if c.val ≤ l.val ∨ 128 ≤ c.val then 1#32 else 0#32) l c]
  split
  · exact sitofp_one
  · exact sitofp_zero

section
variable (c : Dev nD) (f0 f1 f2 : Vec Ideal S2048x512 .bf16)

/-- What the buffers the loops only read hold. -/
def given : Ins Ideal :=
  ⟨split1 c lanes rowsOf (k0_pay247 (F := Ideal)) (k0_pay252 (F := Ideal)) (copied7 f0),
   split2 c lanes rowsOf (k0_pay247 (F := Ideal)) (k0_pay252 (F := Ideal)) (copied9 f2),
   copied8 f1⟩

/-- The state after the loops. -/
def final : State Ideal :=
  drain c lanes rowsOf (k0_pay247 (F := Ideal)) (given c f0 f1 f2) 2 (outer c lanes rowsOf (k0_pay247 (F := Ideal)) (k0_pay252 (F := Ideal)) (given c f0 f1 f2) 16 start)

set_option maxHeartbeats 2000000 in
theorem body_list : (bodyRun c f0 f1 f2).1.1
    = [⟨Rect.unit ![0, 0] ![2048, 512] inb_S2048x512_S2048x512_0_0, k0_pay2 (View.ld (final c f0 f1 f2).2.acc (Rect.unit ![0, 0] ![2048, 512] inb_S2048x512_S2048x512_0_0))⟩] := by
  unfold bodyRun final start given copied7 copied8 copied9; dsimp only; sl_unfold_words
  rfl

set_option maxHeartbeats 2000000 in
theorem body_rc : (bodyRun c f0 f1 f2).1.2 = (final c f0 f1 f2).2.rc := by
  unfold bodyRun final start given copied7 copied8 copied9; dsimp only; sl_unfold_words
  rfl

variable {A : Args} (e0 : ∀ o : S2048x512.Idx, f0 o = ((A.qs (o 0) (o 1) : ℝ) : EReal)) (e1 : ∀ o : S2048x512.Idx, f1 o = ((A.k (o 0) (o 1) : ℝ) : EReal))
  (e2 : ∀ o : S2048x512.Idx, f2 o = ((A.v (o 0) (o 1) : ℝ) : EReal))
include e0 e1 e2

theorem given_ok : InsOk A (given c f0 f1 f2) := by
  unfold given
  rw [copied7_eq, copied8_eq, copied9_eq]
  exact ⟨fun y => split1_eq c _ _ _ _ f0 A.qs e0 y, fun y => split2_eq c _ _ _ _ f2 A.v e2 y, e1⟩

omit e0 e1 e2
omit A in
/-- Before the loops nothing is carried, nothing summed, and every score is masked. -/
theorem start_ok (A : Args) : Good A [none, none] start := by
  refine ⟨none, none, [], fun _ _ _ => 0, rfl, rfl, trivial, trivial, (fun _ _ h => by cases h), ?_⟩
  constructor
  · exact fun y => (congrFun (View.read_writes_full (Val := Elt Ideal) (wh cc0_scratch2).view _ _ (k0_pay251 (F := Ideal)) []) y).trans rfl
  · exact fun y => (congrFun (View.read_writes_full (Val := Elt Ideal) (wh cc0_scratch3).view _ _ (k0_pay253 (k0_pay252 (F := Ideal))) []) y).trans (by unfold k0_pay253 k0_pay252; exact zero16)
  · exact fun y => (congrFun (View.read_writes_full (Val := Elt Ideal) (wh cc0_scratch4).view _ _ (k0_pay254 (F := Ideal)) []) y).trans (by unfold k0_pay254; exact zero16)
  · exact fun y => (congrFun (View.read_writes_full (Val := Elt Ideal) (wh cc0_scratch1).view _ _ (k0_pay249 (F := Ideal)) []) y).trans (by unfold k0_pay249; exact zero32)
  · exact fun _ _ h => by cases h
  · exact fun y => (congrFun (View.read_writes_full (Val := Elt Ideal) (wh cc0_scratch0).view _ _ (k0_pay248 (F := Ideal)) []) y).trans (by unfold k0_pay248; exact zero32)
  · refine fun y => (congrFun (View.read_writes_full (Val := Elt Ideal) (wh cc0_stg1_0).view _ _ (k0_pay250 (F := Ideal)) []) y).trans ?_
    unfold k0_pay250
    refine (zero32).trans (congrArg _ ?_)
    simp

include e0 e1 e2

theorem final_ok : Good A (none :: none :: rows 16) (final c f0 f1 f2) := by
  have hX := given_ok c f0 f1 f2 e0 e1 e2
  unfold final
  generalize given c f0 f1 f2 = X at hX ⊢
  refine good_drain c lanes rowsOf _ (k0_pay252 (F := Ideal)) lanes_at rowsOf_at weights_at hX _ _ ?_
  exact good_outer c lanes rowsOf _ _ lanes_at rowsOf_at weights_at hX start (start_ok A) 16 (by decide +kernel)

theorem body_value {sp : Space} (v : View sig .tc sp S2048x512 .bf16) (g : v.ty.Contents (Elt Ideal)) (y : S2048x512.Idx) :
    v.read (Elt Ideal) (v.writes (Elt Ideal) g (bodyRun c f0 f1 f2).1.1) y = ((∑ J ∈ Finset.range 2048, A.aR ((y 1).val / 64) (y 0) J * A.v J (y 1) : ℝ) : EReal) := by
  rw [body_list]
  obtain ⟨hacc, -⟩ := good_end (final_ok c f0 f1 f2 e0 e1 e2)
  generalize final c f0 f1 f2 = s at hacc ⊢
  have h0 : (y 0).val < 2048 := (y 0).isLt
  have h1 : (y 1).val < 512 := (y 1).isLt
  rw [View.read_writes_cons_unit v g inb_S2048x512_S2048x512_0_0 _ _ y rfl,
    dif_pos (Fin.forall_fin_two.2 ⟨⟨Nat.zero_le _, by show (y 0).val < 0 + 2048; omega⟩, ⟨Nat.zero_le _, by show (y 1).val < 0 + 512; omega⟩⟩)]
  exact ld_all (fun a b => ∑ J ∈ Finset.range 2048, A.aR (b / 64) a J * A.v J b) hacc _

theorem body_sums (y : S2048x128.Idx) : (bodyRun c f0 f1 f2).1.2 y = ((A.rcR (y 0) (y 1) : ℝ) : EReal) := by
  rw [body_rc]
  exact (good_end (final_ok c f0 f1 f2 e0 e1 e2)).2 y
end

end Cert.Proof.AttnF
end
-- ==== Proof.AttnFBits.lean ====
module

public import proofs.«01_k».proof.Defs
public import proofs.«01_k».proof.Proof.AttnFFrame
public import proofs.«01_k».proof.Proof.Gen.AttnFwd.Frame

@[expose] public section
set_option maxRecDepth 65536
noncomputable section

namespace Cert.Proof.AttnF

open Idealize.ShloMosaic TcCoe Tactic
open Idealize.SL Idealize.SL.Sem

/-- At the machine's own numbers the named mask constant is the constant its bits spell. -/
local instance namedBits : Named Bits where
  named _ _ {φ} bits := FloatOps.ofBits φ bits

/-- The statement about the idealized program read at the machine's own numbers. -/
abbrev AtBits : Prop := ∀ (m : (ℓ : Loc Cert.AttnFwdIdeal.nD Cert.AttnFwdIdeal.τ Cert.AttnFwdIdeal.sig) → Buf (Elt Bits) ℓ) (g : Dev Cert.AttnFwdIdeal.nD → PrngReg), True →
    θ_run (Cert.AttnFwdIdeal.defs (F := Bits)) (onTc (τ := Cert.AttnFwdIdeal.τ) (Cert.AttnFwdIdeal.main (F := Bits))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

theorem atBits : AtBits := fun m g _ => frame_run m g

theorem same_text : AtBits = quiescent_AttnFwd (hAttnFwd := Cert.AttnFwd.Gen.facts) := by
  sl_kernel_rfl

theorem frame : quiescent_AttnFwd (hAttnFwd := Cert.AttnFwd.Gen.facts) := same_text.mp atBits

end Cert.Proof.AttnF
end
-- ==== Proof.AttnFClaim.lean ====
/- Hand-written, untrusted: the claims on the attention's forward call. -/
module

public import proofs.«01_k».proof.Defs
public import proofs.«01_k».proof.Proof.AttnFBits
public import proofs.«01_k».proof.Proof.Gen.AttnFwdRefIdeal.Run

@[expose] public section

noncomputable section

namespace Cert.Proof.AttnF

open Idealize.ShloMosaic Idealize.SL.Sem

theorem frameIdeal : Cert.quiescent_AttnFwdIdeal (hAttnFwdIdeal := Cert.AttnFwdIdeal.Gen.facts) := fun m ρ _ => frame_run m ρ
theorem frameRef : Cert.quiescent_AttnFwdRefIdeal (hAttnFwdRefIdeal := Cert.AttnFwdRefIdeal.Gen.facts) := fun m ρ _ =>
  (θ_run Cert.AttnFwdRefIdeal.defs _ _).mono (fun r h => ⟨fun c => (h c).2.2, sem_eq_zero_of_no_sems (by decide) r.2⟩)
    (Cert.AttnFwdRefIdeal.Value.run m ρ)
theorem preserves : Cert.preserves_AttnFwd_AttnFwdIdeal :=
  IdealRules.named_const.statement Cert.AttnFwdIdeal.κ "mask" .f32 0xF149F2CA#32 ⊥ rfl

end Cert.Proof.AttnF

end
-- ==== Proof.AttnFRef.lean ====
/- Hand-written, untrusted: the attention's forward reference, with its sums as sums over pairs. -/
module

public import proofs.«01_k».proof.Proof.AttnRefGrad
public import proofs.«01_k».proof.Proof.AttnFClaim
public import proofs.«01_k».proof.Proof.Gen.AttnFwdRefIdeal.Read

@[expose] public section
set_option maxRecDepth 16384
noncomputable section

namespace Cert.Proof.AttnF

open Cert.AttnFwdRefIdeal Cert.AttnFwdRefIdeal.Read Idealize.ShloMosaic
open Cert.Proof.Attn (Args argsOf arr arr_at spF soft_scalar neg_coe_coe sel_kept ofBits_eighth window_from eR eR_kept)

section
variable (x0 x1 x2 : Vec Ideal S2048x512 .f32) (f0 : ∀ i, ∃ r : ℝ, x0 i = (r : EReal)) (f1 : ∀ i, ∃ r : ℝ, x1 i = (r : EReal)) (f2 : ∀ i, ∃ r : ℝ, x2 i = (r : EReal))

/-- The arguments; the forward pass takes no gradient. -/
abbrev argsF : Args := argsOf x0 x1 x2 x2

include f0 f1

theorem ref_z (n : Fin 8) (I J : Fin 2048) : val_main_v5 (F := Ideal) x0 x1 (ix3 n I J) = (((argsF x0 x1 x2).zR n I J : ℝ) : EReal) := by
  pointwise [val_main_v5, val_main_v4, val_main_cst, val_main_v3, val_main_v0, val_main_v1]
  rw [ofBits_eighth]
  have e : ∀ x : Fin 64, x0 (ix2 I ⟨n.val * 64 + x.val, by have := n.isLt; have := x.isLt; omega⟩) * x1 (ix2 J ⟨n.val * 64 + x.val, by have := n.isLt; have := x.isLt; omega⟩)
      = ((arr x0 I (n.val * 64 + x.val) * arr x1 J (n.val * 64 + x.val) : ℝ) : EReal) := fun x => by
    rw [arr_at x0 f0, arr_at x1 f1, EReal.coe_mul]
  rw [Finset.sum_congr rfl fun x _ => e x, ← coe_sum, ← EReal.coe_mul, Finset.sum_mul]
  congr 1
  unfold Args.zR Args.qs
  refine Finset.sum_congr rfl fun x _ => ?_
  rw [mul_comm 64]
  show _ = arr x0 I (n * 64 + x) * (1 / 8) * arr x1 J (n * 64 + x)
  ring

omit f0 f1 in
theorem ref_soft (n : Fin 8) (I J : Fin 2048) (z : ℝ) (hz : val_main_v5 (F := Ideal) x0 x1 (ix3 n I J) = (z : EReal)) :
    val_main_call0_v1 (F := Ideal) x0 x1 (ix3 n I J) = ((spF z : ℝ) : EReal) := by
  pointwise [val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_v0, val_main_v13, val_main_call0_call0_cst]
  rw [hz, neg_coe_coe]
  exact soft_scalar z _ rfl

omit f0 f1 in
theorem ref_soft_neg (n : Fin 8) (I J : Fin 2048) (z : ℝ) (hz : val_main_v5 (F := Ideal) x0 x1 (ix3 n I J) = (z : EReal)) :
    val_main_call3_v1 (F := Ideal) x0 x1 (ix3 n I J) = ((spF (-z) : ℝ) : EReal) := by
  pointwise [val_main_call3_v1, val_main_call3_call0_v11, val_main_call3_call0_v10, val_main_call3_call0_v9, val_main_call3_call0_v8, val_main_call3_call0_v7, val_main_call3_call0_v6, val_main_call3_call0_v5, val_main_call3_call0_v4, val_main_call3_call0_v3, val_main_call3_call0_v2, val_main_call3_call0_v1, val_main_call3_call0_v0, val_main_call3_v0, val_main_call3_call0_cst]
  rw [hz, ← EReal.coe_neg]
  exact soft_scalar (-z) _ rfl

omit f0 f1 in
theorem ref_keep (n : Fin 8) (I J : Fin 2048) : val_main_call1_v1 (F := Ideal) (ix3 n I J) = BitVec.ofBool (decide (J.val < I.val)) := by
  pointwise [val_main_call1_v1, val_main_v12, val_main_v11, val_main_v10, val_main_v9, val_main_v8, val_main_v7, val_main_v6]
  have := I.isLt; have := J.isLt
  exact WordCmp.cmpi_slt_ofNat (by omega) (by omega)

omit f0 f1 in
theorem ref_keep' (n : Fin 8) (I J : Fin 2048) : val_main_call4_v1 (F := Ideal) (ix3 n I J) = BitVec.ofBool (decide (J.val < I.val)) := by
  pointwise [val_main_call4_v1, val_main_v12, val_main_v11, val_main_v10, val_main_v9, val_main_v8, val_main_v7, val_main_v6]
  have := I.isLt; have := J.isLt
  exact WordCmp.cmpi_slt_ofNat (by omega) (by omega)

theorem ref_l (n : Fin 8) (I J : Fin 2048) : val_main_v15 (F := Ideal) x0 x1 (ix3 n I J) = ((-((argsF x0 x1 x2).lR n I J) : ℝ) : EReal) := by
  have hs := ref_soft x0 x1 n I J _ (ref_z x0 x1 x2 f0 f1 n I J)
  have hk := ref_keep n I J
  pointwise [val_main_v15, val_main_v14, val_main_call1_v2, val_main_call1_v0, val_main_cst_0]
  rw [hs, hk, ← EReal.coe_neg]
  refine (congrArg (Scalar.select _ _) (show (_ : EReal) = ((0 : ℝ) : EReal) from Ideal.ofBits_zero_f32)).trans ?_
  rw [sel_kept]; unfold Args.lR; split <;> simp

theorem ref_SR (n : Fin 8) (I J : Fin 2048) : val_main_v16 (F := Ideal) x0 x1 (ix3 n I J) = ((-((argsF x0 x1 x2).SR n I J) : ℝ) : EReal) := by
  refine (window_from (val_main_v15 (F := Ideal) x0 x1) (fun n I J => -((argsF x0 x1 x2).lR n I J)) (fun n I J => ref_l x0 x1 x2 f0 f1 n I J)
    (val_main_call2_v0 (F := Ideal)) (fun o => by pointwise [val_main_call2_v0, val_main_call2_cst]) _ _ n I J).trans ?_
  congr 1; exact Finset.sum_neg_distrib _

theorem ref_e (n : Fin 8) (I J : Fin 2048) : val_main_v20 (F := Ideal) x0 x1 (ix3 n I J) = ((eR (argsF x0 x1 x2) n I J : ℝ) : EReal) := by
  have h1 := ref_soft_neg x0 x1 n I J _ (ref_z x0 x1 x2 f0 f1 n I J)
  have h2 := ref_SR x0 x1 x2 f0 f1 n I J
  have h3 := ref_l x0 x1 x2 f0 f1 n I J
  pointwise [val_main_v20, val_main_v19, val_main_v18, val_main_v17]
  rw [h1, h2, h3, ← EReal.coe_neg, ← EReal.coe_sub, ← EReal.coe_add, Ideal.exp_coe]; rfl

theorem ref_a (n : Fin 8) (I J : Fin 2048) : val_main_v21 (F := Ideal) x0 x1 (ix3 n I J) = (((argsF x0 x1 x2).aR n I J : ℝ) : EReal) := by
  have h1 := ref_e x0 x1 x2 f0 f1 n I J
  have hk := ref_keep' n I J
  pointwise [val_main_v21, val_main_call4_v2, val_main_call4_v0, val_main_cst_1]
  rw [h1, hk]
  refine (congrArg (Scalar.select _ _) (show (_ : EReal) = ((0 : ℝ) : EReal) from Ideal.ofBits_zero_f32)).trans ?_
  rw [sel_kept, eR_kept]

omit f0 f1 in
theorem ref_v28 (hd : Fin 8) (I : Fin 2048) (b : ℕ) (h : b < 15) :
    val_main_v28 (F := Ideal) x0 x1 (ix3 hd I ⟨b, by omega⟩) = val_main_v26 (F := Ideal) x0 x1 (ix3 hd I ⟨b, h⟩) := by
  unfold val_main_v28
  generalize val_main_v26 (F := Ideal) x0 x1 = u
  generalize val_main_v27 (F := Ideal) = w
  interval_cases b <;> pointwise

/-- The sums saved for the backward pass. -/
theorem ref_rc (I : Fin 2048) (c : Fin 128) : val_main_v31 (F := Ideal) x0 x1 (ix2 I c) = (((argsF x0 x1 x2).rcR I c : ℝ) : EReal) := by
  unfold Args.rcR
  have h16 : c.val / 16 < 8 := by have := c.isLt; omega
  refine Eq.trans (b := val_main_v28 (F := Ideal) x0 x1 (ix3 ⟨c.val / 16, h16⟩ I ⟨c.val % 16, Nat.mod_lt _ (by decide)⟩)) ?_ ?_
  · have h := Cert.Proof.Attn.flat_at (val_main_v28 (F := Ideal) x0 x1) ⟨c.val / 16, h16⟩ I ⟨c.val % 16, Nat.mod_lt _ (by decide)⟩
    refine Eq.trans ?_ h
    exact congrArg (val_main_v31 (F := Ideal) x0 x1) (congrArg (ix2 I) (Fin.ext (Nat.div_add_mod _ _).symm))
  · by_cases h : c.val % 16 < 15
    · refine Eq.trans (b := val_main_v26 (F := Ideal) x0 x1 (ix3 ⟨c.val / 16, h16⟩ I ⟨c.val % 16, h⟩)) ?_ ?_
      · exact ref_v28 x0 x1 ⟨c.val / 16, h16⟩ I (c.val % 16) h
      · have e := ref_SR x0 x1 x2 f0 f1 ⟨c.val / 16, h16⟩ I ⟨128 + 128 * (c.val % 16), by omega⟩
        pointwise [val_main_v26, val_main_v25]
        refine (congrArg (fun z : EReal => -z) e).trans ?_
        show -((-(argsF x0 x1 x2).SR (c.val / 16) I (128 + 128 * (c.val % 16)) : ℝ) : EReal) = _
        rw [← EReal.coe_neg, neg_neg, show 128 + 128 * (c.val % 16) = 128 * (c.val % 16 + 1) by omega]
    · have hc : c.val % 16 = 15 := by omega
      have e : (argsF x0 x1 x2).SR (c.val / 16) I (128 * (c.val % 16 + 1)) = 0 := by
        rw [hc]; exact Finset.sum_eq_zero fun J hJ => absurd (Finset.mem_Ico.1 hJ) (by omega)
      rw [e]
      have e15 : (⟨c.val % 16, Nat.mod_lt _ (by decide)⟩ : Fin 16) = ⟨15, by decide⟩ := Fin.ext hc
      rw [e15]
      pointwise [val_main_v28, val_main_v27, val_main_cst_2]
      rfl

include f2

/-- The attention's output. -/
theorem ref_o (I : Fin 2048) (c : Fin 512) : val_main_v29 (F := Ideal) x0 x1 x2 (ix2 I c)
    = ((∑ J ∈ Finset.range 2048, (argsF x0 x1 x2).aR (c.val / 64) I J * (argsF x0 x1 x2).v J c : ℝ) : EReal) := by
  rw [← Fin.sum_univ_eq_sum_range (fun J => (argsF x0 x1 x2).aR (c.val / 64) I J * (argsF x0 x1 x2).v J c) 2048, coe_sum]
  have ha := fun J : Fin 2048 => ref_a x0 x1 x2 f0 f1 ⟨c.val / 64, by have := c.isLt; omega⟩ I J
  pointwise [val_main_v29, val_main_v24, val_main_v23, val_main_v22, val_main_v2]
  refine Finset.sum_congr rfl fun J _ => ?_
  rw [ha J, arr_at x2 f2, ← EReal.coe_mul, mul_comm]
  refine congrArg (fun r : ℝ => (r : EReal)) ?_
  rfl

end
end Cert.Proof.AttnF
end
-- ==== Proof.AttnFValue.lean ====
/- Hand-written, untrusted: the attention's forward pass computes its reference. -/
module

public import proofs.«01_k».proof.Proof.AttnFOut
public import proofs.«01_k».proof.Proof.AttnFClaim
public import proofs.«01_k».proof.Proof.Gen.Pre_finite_attnf
public import proofs.«01_k».proof.Proof.AttnFRef
public import proofs.«01_k».proof.Proof.AttnValue

@[expose] public section
set_option maxRecDepth 16384
noncomputable section

namespace Cert.Proof.AttnF

open Cert.AttnFwdIdeal Cert.AttnFwdIdeal.Gen
open Idealize.ShloMosaic TcCoe Tactic
open Idealize.ShloMosaic.Pipeline (Dat)
open Idealize.SL.Sem
open Cert.Proof.Attn (Args argsOf arr arr_at ofBits_eighth)

variable (m : (ℓ : Loc nD τ sig) → Buf (Elt Ideal) ℓ) (ρ : Dev nD → PrngReg) (c : Dev nD)

/-- The memory's three arguments. -/
abbrev X0 : Vec Ideal S2048x512 .f32 := m ((c : Thread nD τ).loc main_arg0)
abbrev X1 : Vec Ideal S2048x512 .f32 := m ((c : Thread nD τ).loc main_arg1)
abbrev X2 : Vec Ideal S2048x512 .f32 := m ((c : Thread nD τ).loc main_arg2)
abbrev memArgs : Args := argsF (X0 m c) (X1 m c) (X2 m c)

theorem V_v2 (p : Fin 2048) (k : Fin 512) : (V m c main_v2 : FVec Ideal S2048x512 .bf16) (ix2 p k) = X0 m c (ix2 p k) * Ideal.ofBits .f32 0x3E000000#32 := by
  unfold V; after_reads_at
theorem V_v3 (p : Fin 2048) (k : Fin 512) : (V m c main_v3 : FVec Ideal S2048x512 .bf16) (ix2 p k) = X1 m c (ix2 p k) := by
  unfold V; after_reads_at
theorem V_v4 (p : Fin 2048) (k : Fin 512) : (V m c main_v4 : FVec Ideal S2048x512 .bf16) (ix2 p k) = X2 m c (ix2 p k) := by
  unfold V; after_reads_at

/-- What the call leaves: the output and the saved sums. -/
def outM : FVec Ideal S2048x512 .bf16 := fun o => ((∑ J ∈ Finset.range 2048, (memArgs m c).aR ((o 1).val / 64) (o 0) J * (memArgs m c).v J (o 1) : ℝ) : EReal)
def rcM : FVec Ideal S2048x128 .f32 := fun o => (((memArgs m c).rcR (o 0) (o 1) : ℝ) : EReal)

variable (f0 : ∀ i, ∃ r : ℝ, X0 m c i = (r : EReal)) (f1 : ∀ i, ∃ r : ℝ, X1 m c i = (r : EReal)) (f2 : ∀ i, ∃ r : ℝ, X2 m c i = (r : EReal))

include f0 in
theorem qs_at (p : Fin 2048) (k : Fin 512) : X0 m c (ix2 p k) * Ideal.ofBits .f32 0x3E000000#32 = (((memArgs m c).qs p k : ℝ) : EReal) := by
  rw [arr_at _ f0, ofBits_eighth, ← EReal.coe_mul]; rfl
include f0 in
theorem in0 (o : S2048x512.Idx) : Gen.V m c main_v2 o = (((memArgs m c).qs (o 0) (o 1) : ℝ) : EReal) := by
  rw [eq_ix2 o]
  exact (V_v2 m c (o 0) (o 1)).trans (qs_at m c f0 (o 0) (o 1))
include f1 in
theorem in1 (o : S2048x512.Idx) : Gen.V m c main_v3 o = (((memArgs m c).k (o 0) (o 1) : ℝ) : EReal) := by
  rw [eq_ix2 o]
  exact (V_v3 m c (o 0) (o 1)).trans (arr_at (X1 m c) f1 (o 0) (o 1))
include f2 in
theorem in2 (o : S2048x512.Idx) : Gen.V m c main_v4 o = (((memArgs m c).v (o 0) (o 1) : ℝ) : EReal) := by
  rw [eq_ix2 o]
  exact (V_v4 m c (o 0) (o 1)).trans (arr_at (X2 m c) f2 (o 0) (o 1))

include f0 f1 f2

theorem outAt_eq : outAt m c = outM m c :=
  funext fun y => body_value (A := memArgs m c) c (Gen.V m c main_v2) (Gen.V m c main_v3) (Gen.V m c main_v4) (in0 m c f0) (in1 m c f1) (in2 m c f2) _ _ y
theorem rcAt_eq : rcAt m c = rcM m c :=
  funext fun y => body_sums (A := memArgs m c) c (Gen.V m c main_v2) (Gen.V m c main_v3) (Gen.V m c main_v4) (in0 m c f0) (in1 m c f1) (in2 m c f2) y

omit f0 f1 f2 in
theorem emb0 (t : Fin cfg0.N) (o : S2048x512.Idx) : ((cfg0.win 0).blk t).view.emb o = o := by
  refine funext fun a => Fin.ext ?_
  match a with
  | ⟨0, _⟩ => show 0 * 2048 + 1 * (o 0).val = (o 0).val; omega
  | ⟨1, _⟩ => show 0 * 512 + 1 * (o 1).val = (o 1).val; omega
omit f0 f1 f2 in
theorem emb1 (t : Fin cfg0.N) (o : S2048x128.Idx) : ((cfg0.win 1).blk t).view.emb o = o := by
  refine funext fun a => Fin.ext ?_
  match a with
  | ⟨0, _⟩ => show 0 * 2048 + 1 * (o 0).val = (o 0).val; omega
  | ⟨1, _⟩ => show 0 * 128 + 1 * (o 1).val = (o 1).val; omega

theorem final0 : (dats m 0 c).arrAt 0 cfg0.N = outM m c := by
  refine (dats m 0 c).arrAt_eq_of_cover 0 (outM m c) (fun t _ => ?_) (fun i => ?_)
  · have key : (dats m 0 c).flushed 0 t = (cfg0.win 0).cut (grid0.coords t) (outM m c) := by
      unfold Dat.flushed
      rw [after0, outAt_eq m c f0 f1 f2]
    rw [key]
    funext o
    show outM m c o = outM m c (((cfg0.win 0).blk t).view.emb o)
    rw [emb0]
  · refine ⟨⟨0, by decide⟩, flush0_0 _, ?_⟩
    have h := ((cfg0.win 0).blk ⟨0, by decide⟩).view.emb_mem_set i
    rwa [emb0] at h

theorem final1 : (dats m 0 c).arrAt 1 cfg0.N = rcM m c := by
  refine (dats m 0 c).arrAt_eq_of_cover 1 (rcM m c) (fun t _ => ?_) (fun i => ?_)
  · have key : (dats m 0 c).flushed 1 t = (cfg0.win 1).cut (grid0.coords t) (rcM m c) := by
      unfold Dat.flushed
      rw [after1, rcAt_eq m c f0 f1 f2]
    rw [key]
    funext o
    show rcM m c o = rcM m c (((cfg0.win 1).blk t).view.emb o)
    rw [emb1]
  · refine ⟨⟨0, by decide⟩, flush0_1 _, ?_⟩
    have h := ((cfg0.win 1).blk ⟨0, by decide⟩).view.emb_mem_set i
    rwa [emb1] at h

omit f0 f1 f2 in
/-- The program's run, with the arrays it leaves. -/
theorem run_out (f0 : ∀ c i, ∃ r : ℝ, X0 m c i = (r : EReal)) (f1 : ∀ c i, ∃ r : ℝ, X1 m c i = (r : EReal)) (f2 : ∀ c i, ∃ r : ℝ, X2 m c i = (r : EReal)) :
    θ_run defs (onTc (τ := τ) (main (F := Ideal))) ⟨m, fun _ => 0, ρ⟩ (fun r => ∀ c : Dev nD,
      r.2.mem ((c.tc : Thread nD τ).loc main_v5_0) = outM m c
      ∧ r.2.mem ((c.tc : Thread nD τ).loc main_v5_1) = rcM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 0).trans (final0 m c (f0 c) (f1 c) (f2 c)), ((h.1 c).1 1).trans (final1 m c (f0 c) (f1 c) (f2 c)),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩) (run_main m ρ)

omit f0 f1 f2 in
/-- What the precondition says: the arguments are reals. -/
theorem finite_of_pre [Cert.Pre_finite_attnf.Facts] (x0 x1 x2 : Vec Ideal S2048x512 .f32)
    (h : ∀ j, Cert.Pre_finite_attnf.fn (F := Ideal) x0 x1 x2 j = 1#1) :
    (∀ i, ∃ r : ℝ, x0 i = (r : EReal)) ∧ (∀ i, ∃ r : ℝ, x1 i = (r : EReal)) ∧ ∀ i, ∃ r : ℝ, x2 i = (r : EReal) := by
  have h0 := h ix0
  dsimp only [Cert.Pre_finite_attnf.fn] at h0
  obtain ⟨h01, h2⟩ := andi_one h0
  obtain ⟨h0', h1⟩ := andi_one h01
  exact ⟨fun i => real_of_abs_lt (Host.reduce_andi_all _ _ _ _ _ h0' i), fun i => real_of_abs_lt (Host.reduce_andi_all _ _ _ _ _ h1 i),
    fun i => real_of_abs_lt (Host.reduce_andi_all _ _ _ _ _ h2 i)⟩

omit f0 f1 f2 in
theorem frameIdealPre : Cert.quiescent_AttnFwdIdeal_pre_finite_attnf (hAttnFwdIdeal := Cert.AttnFwdIdeal.Gen.facts) (hPre_finite_attnf := Cert.Pre_finite_attnf.Gen.facts) :=
  fun m ρ _ => frame_run m ρ
omit f0 f1 f2 in
theorem frameRefPre : Cert.quiescent_AttnFwdRefIdeal_pre_finite_attnf (hAttnFwdRefIdeal := Cert.AttnFwdRefIdeal.Gen.facts) (hPre_finite_attnf := Cert.Pre_finite_attnf.Gen.facts) :=
  fun m ρ _ => frameRef m ρ trivial

omit f0 f1 f2 in
theorem value : Cert.algebraic_AttnFwdIdeal_AttnFwdRefIdeal_pre_finite_attnf (hAttnFwdIdeal := Cert.AttnFwdIdeal.Gen.facts) (hAttnFwdRefIdeal := Cert.AttnFwdRefIdeal.Gen.facts)
    (hPre_finite_attnf := Cert.Pre_finite_attnf.Gen.facts) := by
  intro m g m' g' hpre hargs
  have fin := fun c : Dev nD => finite_of_pre (X0 m c) (X1 m c) (X2 m c) (fun j => congrFun (hpre c) j)
  refine ⟨fun c => outM m c, fun c => rcM m c, run_out m g (fun c => (fin c).1) (fun c => (fin c).2.1) (fun c => (fin c).2.2), ?_⟩
  refine (θ_run Cert.AttnFwdRefIdeal.defs _ _).mono (fun r h c => ?_) (Cert.AttnFwdRefIdeal.Value.run m' g')
  obtain ⟨a0, a1, a2⟩ := hargs c
  obtain ⟨r0, r1, r2⟩ := h c
  refine ⟨?_, ?_, r2⟩
  · rw [r0, Cert.AttnFwdRefIdeal.Read.val_main_v29_eq, a0, a1, a2]
    funext o
    exact (congrArg _ (eq_ix2 o)).trans (ref_o (X0 m c) (X1 m c) (X2 m c) (fin c).1 (fin c).2.1 (fin c).2.2 (o 0) (o 1))
  · refine r1.trans ((Cert.AttnFwdRefIdeal.Read.val_main_v31_eq _ _).trans ?_)
    rw [a0, a1]
    funext o
    exact (congrArg _ (eq_ix2 o)).trans (ref_rc (X0 m c) (X1 m c) (X2 m c) (fin c).1 (fin c).2.1 (o 0) (o 1))

end Cert.Proof.AttnF
end
-- ==== Proof.lean ====
module

public import proofs.«01_k».proof.Defs
public import proofs.«01_k».proof.Proof.InProjClaim
public import proofs.«01_k».proof.Proof.AttnValue
public import proofs.«01_k».proof.Proof.FfnClaim
public import proofs.«01_k».proof.Proof.MergeBits
public import proofs.«01_k».proof.Proof.MixClaim
public import proofs.«01_k».proof.Proof.InFwdClaim
public import proofs.«01_k».proof.Proof.AttnFValue
public import proofs.«01_k».proof.Proof.Gen.Mix.Frame
public import proofs.«01_k».proof.Proof.Gen.MixIdeal.Frame
public import proofs.«01_k».proof.Proof.Gen.MixIdeal.Value
public import proofs.«01_k».proof.Proof.Gen.MixRefIdeal.Run
public import proofs.«01_k».proof.Proof.Gen.MixRefIdeal.Read
public import proofs.«01_k».proof.Proof.Gen.InFwd.Frame
public import proofs.«01_k».proof.Proof.Gen.InFwdIdeal.Frame
public import proofs.«01_k».proof.Proof.Gen.InFwdIdeal.Value
public import proofs.«01_k».proof.Proof.Gen.InFwdRefIdeal.Run
public import proofs.«01_k».proof.Proof.Gen.InFwdRefIdeal.Read
public import proofs.«01_k».proof.Proof.Gen.MergeRefIdeal.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.AttnIdeal.Skeleton
public import proofs.«01_k».proof.Proof.Gen.AttnRefIdeal.Run
public import proofs.«01_k».proof.Proof.Gen.AttnRefIdeal.Read
public import proofs.«01_k».proof.Proof.Gen.Pre_finite_attn
public import proofs.«01_k».proof.Proof.Gen.AttnFwd.Frame
public import proofs.«01_k».proof.Proof.Gen.AttnFwdIdeal.Frame
public import proofs.«01_k».proof.Proof.Gen.AttnFwdRefIdeal.Run
public import proofs.«01_k».proof.Proof.Gen.AttnFwdRefIdeal.Read
public import proofs.«01_k».proof.Proof.Gen.Pre_finite_attnf
public import proofs.«01_k».proof.Proof.Gen.AttnFwdIdeal.Loops

@[expose] public section

noncomputable section

open Cert.Proof in
theorem Cert.Proof.claim : Cert.Claim :=
  ⟨Cert.InProj.Gen.facts, Cert.InProjIdeal.Gen.facts, Cert.InProjRefIdeal.Gen.facts,
    Cert.Attn.Gen.facts, Cert.AttnIdeal.Gen.facts, Cert.AttnRefIdeal.Gen.facts,
    Cert.Ffn.Gen.facts, Cert.FfnIdeal.Gen.facts, Cert.FfnRefIdeal.Gen.facts,
    Cert.Merge.Gen.facts, Cert.MergeIdeal.Gen.facts, Cert.MergeRefIdeal.Gen.facts,
    Cert.Mix.Gen.facts, Cert.MixIdeal.Gen.facts, Cert.MixRefIdeal.Gen.facts,
    Cert.InFwd.Gen.facts, Cert.InFwdIdeal.Gen.facts, Cert.InFwdRefIdeal.Gen.facts,
    Cert.AttnFwd.Gen.facts, Cert.AttnFwdIdeal.Gen.facts, Cert.AttnFwdRefIdeal.Gen.facts,
    Cert.Pre_finite_inproj.Gen.facts, Cert.Pre_finite_attn.Gen.facts, Cert.Pre_finite_ffn.Gen.facts, Cert.Pre_finite_attnf.Gen.facts,
    InProj.frame, InProj.frameIdeal, InProj.frameIdealPre, InProj.frameRef, InProj.frameRefPre,
    Attn.frame, Attn.frameIdeal, Attn.frameIdealPre, Attn.frameRef, Attn.frameRefPre,
    Ffn.frame, Ffn.frameIdeal, Ffn.frameIdealPre, Ffn.frameRef, Ffn.frameRefPre,
    Merge.frame, fun m g _ => Merge.frame_run m g, fun m g _ => Cert.MergeRefIdeal.Gen.frame m g,
    Mix.frame, Mix.frameIdeal, Mix.frameRef, InFwd.frame, InFwd.frameIdeal, InFwd.frameRef,
    AttnF.frame, AttnF.frameIdeal, AttnF.frameIdealPre, AttnF.frameRef, AttnF.frameRefPre,
    trivial, InProj.value, Attn.preserves, Attn.value, trivial, Ffn.value, trivial,
    trivial, Mix.value, trivial, InFwd.value, AttnF.preserves, AttnF.value⟩

end
